-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs2 [hPre_finite_inputs2 : Cert.Pre_finite_inputs2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs2 [hPre_finite_inputs2 : Cert.Pre_finite_inputs2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_inputs15 [hPre_finite_inputs15 : Cert.Pre_finite_inputs15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_inputs15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_inputs15 [hPre_finite_inputs15 : Cert.Pre_finite_inputs15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_inputs15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite_inputs16 [hPre_finite_inputs16 : Cert.Pre_finite_inputs16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite_inputs16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))).1 = (fun _ => 1#1)
    ∧ (Cert.Pre_finite_inputs16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))).2.1 = (fun _ => 1#1)
    ∧ (Cert.Pre_finite_inputs16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))).2.2.1 = (fun _ => 1#1)
    ∧ (Cert.Pre_finite_inputs16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))).2.2.2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite_inputs16 [hPre_finite_inputs16 : Cert.Pre_finite_inputs16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite_inputs16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4))).1 = (fun _ => 1#1)
    ∧ (Cert.Pre_finite_inputs16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4))).2.1 = (fun _ => 1#1)
    ∧ (Cert.Pre_finite_inputs16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4))).2.2.1 = (fun _ => 1#1)
    ∧ (Cert.Pre_finite_inputs16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4))).2.2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite_inputs17 [hPre_finite_inputs17 : Cert.Pre_finite_inputs17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite_inputs17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite_inputs17 [hPre_finite_inputs17 : Cert.Pre_finite_inputs17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite_inputs17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 [hPre_one_of_four20 : Cert.Pre_one_of_four20.Facts] (m : (ℓ : Loc Cert.Kernel20.nD Cert.Kernel20.τ Cert.Kernel20.sig) → Buf (Elt Bits) ℓ) : Prop :=
  ∀ c : Dev Cert.Kernel20.nD,
    (Cert.Pre_one_of_four20.fn (F := Bits) (m ((c.tc : Thread Cert.Kernel20.nD Cert.Kernel20.τ).loc Cert.Kernel20.main_arg0)) (m ((c.tc : Thread Cert.Kernel20.nD Cert.Kernel20.τ).loc Cert.Kernel20.main_arg1)) (m ((c.tc : Thread Cert.Kernel20.nD Cert.Kernel20.τ).loc Cert.Kernel20.main_arg2)) (m ((c.tc : Thread Cert.Kernel20.nD Cert.Kernel20.τ).loc Cert.Kernel20.main_arg3)) (m ((c.tc : Thread Cert.Kernel20.nD Cert.Kernel20.τ).loc Cert.Kernel20.main_arg4)) (m ((c.tc : Thread Cert.Kernel20.nD Cert.Kernel20.τ).loc Cert.Kernel20.main_arg5))) = (fun _ => 1#1)

def Pre_Kernel20Ideal [hPre_one_of_four20 : Cert.Pre_one_of_four20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_one_of_four20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_one_of_four20 [hPre_one_of_four20 : Cert.Pre_one_of_four20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_one_of_four20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5))) = (fun _ => 1#1)

def Pre_Kernel21 [hPre_one_of_four21 : Cert.Pre_one_of_four21.Facts] (m : (ℓ : Loc Cert.Kernel21.nD Cert.Kernel21.τ Cert.Kernel21.sig) → Buf (Elt Bits) ℓ) : Prop :=
  ∀ c : Dev Cert.Kernel21.nD,
    (Cert.Pre_one_of_four21.fn (F := Bits) (m ((c.tc : Thread Cert.Kernel21.nD Cert.Kernel21.τ).loc Cert.Kernel21.main_arg0)) (m ((c.tc : Thread Cert.Kernel21.nD Cert.Kernel21.τ).loc Cert.Kernel21.main_arg1)) (m ((c.tc : Thread Cert.Kernel21.nD Cert.Kernel21.τ).loc Cert.Kernel21.main_arg2)) (m ((c.tc : Thread Cert.Kernel21.nD Cert.Kernel21.τ).loc Cert.Kernel21.main_arg3)) (m ((c.tc : Thread Cert.Kernel21.nD Cert.Kernel21.τ).loc Cert.Kernel21.main_arg4)) (m ((c.tc : Thread Cert.Kernel21.nD Cert.Kernel21.τ).loc Cert.Kernel21.main_arg5))) = (fun _ => 1#1)

def Pre_Kernel21Ideal [hPre_one_of_four21 : Cert.Pre_one_of_four21.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_one_of_four21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_one_of_four21 [hPre_one_of_four21 : Cert.Pre_one_of_four21.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_one_of_four21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5))) = (fun _ => 1#1)

def Pre_Kernel22 [hPre_one_of_four22 : Cert.Pre_one_of_four22.Facts] (m : (ℓ : Loc Cert.Kernel22.nD Cert.Kernel22.τ Cert.Kernel22.sig) → Buf (Elt Bits) ℓ) : Prop :=
  ∀ c : Dev Cert.Kernel22.nD,
    (Cert.Pre_one_of_four22.fn (F := Bits) (m ((c.tc : Thread Cert.Kernel22.nD Cert.Kernel22.τ).loc Cert.Kernel22.main_arg0)) (m ((c.tc : Thread Cert.Kernel22.nD Cert.Kernel22.τ).loc Cert.Kernel22.main_arg1)) (m ((c.tc : Thread Cert.Kernel22.nD Cert.Kernel22.τ).loc Cert.Kernel22.main_arg2)) (m ((c.tc : Thread Cert.Kernel22.nD Cert.Kernel22.τ).loc Cert.Kernel22.main_arg3)) (m ((c.tc : Thread Cert.Kernel22.nD Cert.Kernel22.τ).loc Cert.Kernel22.main_arg4)) (m ((c.tc : Thread Cert.Kernel22.nD Cert.Kernel22.τ).loc Cert.Kernel22.main_arg5))) = (fun _ => 1#1)

def Pre_Kernel22Ideal [hPre_one_of_four22 : Cert.Pre_one_of_four22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_one_of_four22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_one_of_four22 [hPre_one_of_four22 : Cert.Pre_one_of_four22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_one_of_four22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5))) = (fun _ => 1#1)

def Pre_Kernel23 [hPre_one_of_four23 : Cert.Pre_one_of_four23.Facts] (m : (ℓ : Loc Cert.Kernel23.nD Cert.Kernel23.τ Cert.Kernel23.sig) → Buf (Elt Bits) ℓ) : Prop :=
  ∀ c : Dev Cert.Kernel23.nD,
    (Cert.Pre_one_of_four23.fn (F := Bits) (m ((c.tc : Thread Cert.Kernel23.nD Cert.Kernel23.τ).loc Cert.Kernel23.main_arg0)) (m ((c.tc : Thread Cert.Kernel23.nD Cert.Kernel23.τ).loc Cert.Kernel23.main_arg1)) (m ((c.tc : Thread Cert.Kernel23.nD Cert.Kernel23.τ).loc Cert.Kernel23.main_arg2)) (m ((c.tc : Thread Cert.Kernel23.nD Cert.Kernel23.τ).loc Cert.Kernel23.main_arg3)) (m ((c.tc : Thread Cert.Kernel23.nD Cert.Kernel23.τ).loc Cert.Kernel23.main_arg4)) (m ((c.tc : Thread Cert.Kernel23.nD Cert.Kernel23.τ).loc Cert.Kernel23.main_arg5))) = (fun _ => 1#1)

def Pre_Kernel23Ideal [hPre_one_of_four23 : Cert.Pre_one_of_four23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_one_of_four23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_one_of_four23 [hPre_one_of_four23 : Cert.Pre_one_of_four23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_one_of_four23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))) = (fun _ => 1#1)

def Pre_Kernel24 [hPre_one_of_four24 : Cert.Pre_one_of_four24.Facts] (m : (ℓ : Loc Cert.Kernel24.nD Cert.Kernel24.τ Cert.Kernel24.sig) → Buf (Elt Bits) ℓ) : Prop :=
  ∀ c : Dev Cert.Kernel24.nD,
    (Cert.Pre_one_of_four24.fn (F := Bits) (m ((c.tc : Thread Cert.Kernel24.nD Cert.Kernel24.τ).loc Cert.Kernel24.main_arg0)) (m ((c.tc : Thread Cert.Kernel24.nD Cert.Kernel24.τ).loc Cert.Kernel24.main_arg1)) (m ((c.tc : Thread Cert.Kernel24.nD Cert.Kernel24.τ).loc Cert.Kernel24.main_arg2)) (m ((c.tc : Thread Cert.Kernel24.nD Cert.Kernel24.τ).loc Cert.Kernel24.main_arg3)) (m ((c.tc : Thread Cert.Kernel24.nD Cert.Kernel24.τ).loc Cert.Kernel24.main_arg4)) (m ((c.tc : Thread Cert.Kernel24.nD Cert.Kernel24.τ).loc Cert.Kernel24.main_arg5)) (m ((c.tc : Thread Cert.Kernel24.nD Cert.Kernel24.τ).loc Cert.Kernel24.main_arg6)) (m ((c.tc : Thread Cert.Kernel24.nD Cert.Kernel24.τ).loc Cert.Kernel24.main_arg7)) (m ((c.tc : Thread Cert.Kernel24.nD Cert.Kernel24.τ).loc Cert.Kernel24.main_arg8)) (m ((c.tc : Thread Cert.Kernel24.nD Cert.Kernel24.τ).loc Cert.Kernel24.main_arg9))) = (fun _ => 1#1)

def Pre_Kernel24Ideal [hPre_one_of_four24 : Cert.Pre_one_of_four24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_one_of_four24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5)) (m ((c.tc : Thread Cert.Kernel24Ideal.nD Cert.Kernel24Ideal.τ).loc Cert.Kernel24Ideal.main_arg6)) (m ((c.tc : Thread Cert.Kernel24Ideal.nD Cert.Kernel24Ideal.τ).loc Cert.Kernel24Ideal.main_arg7)) (m ((c.tc : Thread Cert.Kernel24Ideal.nD Cert.Kernel24Ideal.τ).loc Cert.Kernel24Ideal.main_arg8)) (m ((c.tc : Thread Cert.Kernel24Ideal.nD Cert.Kernel24Ideal.τ).loc Cert.Kernel24Ideal.main_arg9))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_one_of_four24 [hPre_one_of_four24 : Cert.Pre_one_of_four24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_one_of_four24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4)) (m ((c.tc : Thread Cert.Reference24Ideal.nD Cert.Reference24Ideal.τ).loc Cert.Reference24Ideal.main_arg5)) (m ((c.tc : Thread Cert.Reference24Ideal.nD Cert.Reference24Ideal.τ).loc Cert.Reference24Ideal.main_arg6)) (m ((c.tc : Thread Cert.Reference24Ideal.nD Cert.Reference24Ideal.τ).loc Cert.Reference24Ideal.main_arg7)) (m ((c.tc : Thread Cert.Reference24Ideal.nD Cert.Reference24Ideal.τ).loc Cert.Reference24Ideal.main_arg8)) (m ((c.tc : Thread Cert.Reference24Ideal.nD Cert.Reference24Ideal.τ).loc Cert.Reference24Ideal.main_arg9))) = (fun _ => 1#1)

def Pre_Kernel25 [hPre_one_of_four25 : Cert.Pre_one_of_four25.Facts] (m : (ℓ : Loc Cert.Kernel25.nD Cert.Kernel25.τ Cert.Kernel25.sig) → Buf (Elt Bits) ℓ) : Prop :=
  ∀ c : Dev Cert.Kernel25.nD,
    (Cert.Pre_one_of_four25.fn (F := Bits) (m ((c.tc : Thread Cert.Kernel25.nD Cert.Kernel25.τ).loc Cert.Kernel25.main_arg0)) (m ((c.tc : Thread Cert.Kernel25.nD Cert.Kernel25.τ).loc Cert.Kernel25.main_arg1)) (m ((c.tc : Thread Cert.Kernel25.nD Cert.Kernel25.τ).loc Cert.Kernel25.main_arg2)) (m ((c.tc : Thread Cert.Kernel25.nD Cert.Kernel25.τ).loc Cert.Kernel25.main_arg3)) (m ((c.tc : Thread Cert.Kernel25.nD Cert.Kernel25.τ).loc Cert.Kernel25.main_arg4)) (m ((c.tc : Thread Cert.Kernel25.nD Cert.Kernel25.τ).loc Cert.Kernel25.main_arg5)) (m ((c.tc : Thread Cert.Kernel25.nD Cert.Kernel25.τ).loc Cert.Kernel25.main_arg6)) (m ((c.tc : Thread Cert.Kernel25.nD Cert.Kernel25.τ).loc Cert.Kernel25.main_arg7)) (m ((c.tc : Thread Cert.Kernel25.nD Cert.Kernel25.τ).loc Cert.Kernel25.main_arg8)) (m ((c.tc : Thread Cert.Kernel25.nD Cert.Kernel25.τ).loc Cert.Kernel25.main_arg9))) = (fun _ => 1#1)

def Pre_Kernel25Ideal [hPre_one_of_four25 : Cert.Pre_one_of_four25.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_one_of_four25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8)) (m ((c.tc : Thread Cert.Kernel25Ideal.nD Cert.Kernel25Ideal.τ).loc Cert.Kernel25Ideal.main_arg9))) = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_one_of_four25 [hPre_one_of_four25 : Cert.Pre_one_of_four25.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_one_of_four25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8)) (m ((c.tc : Thread Cert.Reference25Ideal.nD Cert.Reference25Ideal.τ).loc Cert.Reference25Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_inputs2 [hKernel2Ideal : Cert.Kernel2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_inputs2 [hReference2Ideal : Cert.Reference2Ideal.Facts] [hPre_finite_inputs2 : Cert.Pre_finite_inputs2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_finite_inputs15 [hKernel15Ideal : Cert.Kernel15Ideal.Facts] [hPre_finite_inputs15 : Cert.Pre_finite_inputs15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_inputs15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_finite_inputs15 [hReference15Ideal : Cert.Reference15Ideal.Facts] [hPre_finite_inputs15 : Cert.Pre_finite_inputs15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_inputs15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Kernel16Ideal_pre_finite_inputs16 [hKernel16Ideal : Cert.Kernel16Ideal.Facts] [hPre_finite_inputs16 : Cert.Pre_finite_inputs16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite_inputs16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Reference16Ideal_pre_finite_inputs16 [hReference16Ideal : Cert.Reference16Ideal.Facts] [hPre_finite_inputs16 : Cert.Pre_finite_inputs16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite_inputs16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Kernel17Ideal_pre_finite_inputs17 [hKernel17Ideal : Cert.Kernel17Ideal.Facts] [hPre_finite_inputs17 : Cert.Pre_finite_inputs17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite_inputs17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Reference17Ideal_pre_finite_inputs17 [hReference17Ideal : Cert.Reference17Ideal.Facts] [hPre_finite_inputs17 : Cert.Pre_finite_inputs17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite_inputs17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8))
      ∧ r.2.sem = fun _ => 0)

def quiescent_Kernel20 [hKernel20 : Cert.Kernel20.Facts] [hPre_one_of_four20 : Cert.Pre_one_of_four20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] [hPre_one_of_four20 : Cert.Pre_one_of_four20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Reference20Ideal_pre_one_of_four20 [hReference20Ideal : Cert.Reference20Ideal.Facts] [hPre_one_of_four20 : Cert.Pre_one_of_four20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_one_of_four20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] [hPre_one_of_four21 : Cert.Pre_one_of_four21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] [hPre_one_of_four21 : Cert.Pre_one_of_four21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Reference21Ideal_pre_one_of_four21 [hReference21Ideal : Cert.Reference21Ideal.Facts] [hPre_one_of_four21 : Cert.Pre_one_of_four21.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_one_of_four21 m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] [hPre_one_of_four22 : Cert.Pre_one_of_four22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] [hPre_one_of_four22 : Cert.Pre_one_of_four22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Reference22Ideal_pre_one_of_four22 [hReference22Ideal : Cert.Reference22Ideal.Facts] [hPre_one_of_four22 : Cert.Pre_one_of_four22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_one_of_four22 m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] [hPre_one_of_four23 : Cert.Pre_one_of_four23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] [hPre_one_of_four23 : Cert.Pre_one_of_four23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Reference23Ideal_pre_one_of_four23 [hReference23Ideal : Cert.Reference23Ideal.Facts] [hPre_one_of_four23 : Cert.Pre_one_of_four23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_one_of_four23 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] [hPre_one_of_four24 : Cert.Pre_one_of_four24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8)
      ∧ r.2.mem ((c.tc : Thread Cert.Kernel24.nD Cert.Kernel24.τ).loc Cert.Kernel24.main_arg9) = m ((c.tc : Thread Cert.Kernel24.nD Cert.Kernel24.τ).loc Cert.Kernel24.main_arg9))
      ∧ r.2.sem = fun _ => 0)

def quiescent_Kernel24Ideal [hKernel24Ideal : Cert.Kernel24Ideal.Facts] [hPre_one_of_four24 : Cert.Pre_one_of_four24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9))
      ∧ r.2.sem = fun _ => 0)

def quiescent_Reference24Ideal_pre_one_of_four24 [hReference24Ideal : Cert.Reference24Ideal.Facts] [hPre_one_of_four24 : Cert.Pre_one_of_four24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_one_of_four24 m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9))
      ∧ r.2.sem = fun _ => 0)

def quiescent_Kernel25 [hKernel25 : Cert.Kernel25.Facts] [hPre_one_of_four25 : Cert.Pre_one_of_four25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8)
      ∧ r.2.mem ((c.tc : Thread Cert.Kernel25.nD Cert.Kernel25.τ).loc Cert.Kernel25.main_arg9) = m ((c.tc : Thread Cert.Kernel25.nD Cert.Kernel25.τ).loc Cert.Kernel25.main_arg9))
      ∧ r.2.sem = fun _ => 0)

def quiescent_Kernel25Ideal [hKernel25Ideal : Cert.Kernel25Ideal.Facts] [hPre_one_of_four25 : Cert.Pre_one_of_four25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
      ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9))
      ∧ r.2.sem = fun _ => 0)

def quiescent_Reference25Ideal_pre_one_of_four25 [hReference25Ideal : Cert.Reference25Ideal.Facts] [hPre_one_of_four25 : Cert.Pre_one_of_four25.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_one_of_four25 m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_inputs2 [hKernel2Ideal : Cert.Kernel2Ideal.Facts] [hReference2Ideal : Cert.Reference2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)) (v1 : (c : Dev Cert.Kernel2Ideal.nD) → Buf (Elt Ideal) ((c.tc : Thread Cert.Kernel2Ideal.nD Cert.Kernel2Ideal.τ).loc Cert.Kernel2Ideal.main_v8)) (v2 : (c : Dev Cert.Kernel2Ideal.nD) → Buf (Elt Ideal) ((c.tc : Thread Cert.Kernel2Ideal.nD Cert.Kernel2Ideal.τ).loc Cert.Kernel2Ideal.main_v9)) (v3 : (c : Dev Cert.Kernel2Ideal.nD) → Buf (Elt Ideal) ((c.tc : Thread Cert.Kernel2Ideal.nD Cert.Kernel2Ideal.τ).loc Cert.Kernel2Ideal.main_v10)) (v4 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_v8) = v1 c
          ∧ r.2.mem ((c.tc : Thread Cert.Kernel2Ideal.nD Cert.Kernel2Ideal.τ).loc Cert.Kernel2Ideal.main_v9) = v2 c
          ∧ r.2.mem ((c.tc : Thread Cert.Kernel2Ideal.nD Cert.Kernel2Ideal.τ).loc Cert.Kernel2Ideal.main_v10) = v3 c
          ∧ r.2.mem ((c.tc : Thread Cert.Kernel2Ideal.nD Cert.Kernel2Ideal.τ).loc Cert.Kernel2Ideal.main_v6) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_v98) = v1 c
          ∧ r.2.mem ((c.tc : Thread Cert.Reference2Ideal.nD Cert.Reference2Ideal.τ).loc Cert.Reference2Ideal.main_v104) = v2 c
          ∧ r.2.mem ((c.tc : Thread Cert.Reference2Ideal.nD Cert.Reference2Ideal.τ).loc Cert.Reference2Ideal.main_v129) = v3 c
          ∧ r.2.mem ((c.tc : Thread Cert.Reference2Ideal.nD Cert.Reference2Ideal.τ).loc Cert.Reference2Ideal.main_v130) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v1) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_v26) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v1)) (v1 : (c : Dev Cert.Kernel8Ideal.nD) → Buf (Elt Ideal) ((c.tc : Thread Cert.Kernel8Ideal.nD Cert.Kernel8Ideal.τ).loc Cert.Kernel8Ideal.main_v2)) (v2 : (c : Dev Cert.Kernel8Ideal.nD) → Buf (Elt Ideal) ((c.tc : Thread Cert.Kernel8Ideal.nD Cert.Kernel8Ideal.τ).loc Cert.Kernel8Ideal.main_v3)) (v3 : (c : Dev Cert.Kernel8Ideal.nD) → Buf (Elt Ideal) ((c.tc : Thread Cert.Kernel8Ideal.nD Cert.Kernel8Ideal.τ).loc Cert.Kernel8Ideal.main_v5)) (v4 : (c : Dev Cert.Kernel8Ideal.nD) → Buf (Elt Ideal) ((c.tc : Thread Cert.Kernel8Ideal.nD Cert.Kernel8Ideal.τ).loc Cert.Kernel8Ideal.main_v6)) (v5 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_v2) = v1 c
          ∧ r.2.mem ((c.tc : Thread Cert.Kernel8Ideal.nD Cert.Kernel8Ideal.τ).loc Cert.Kernel8Ideal.main_v3) = v2 c
          ∧ r.2.mem ((c.tc : Thread Cert.Kernel8Ideal.nD Cert.Kernel8Ideal.τ).loc Cert.Kernel8Ideal.main_v5) = v3 c
          ∧ r.2.mem ((c.tc : Thread Cert.Kernel8Ideal.nD Cert.Kernel8Ideal.τ).loc Cert.Kernel8Ideal.main_v6) = v4 c
          ∧ r.2.mem ((c.tc : Thread Cert.Kernel8Ideal.nD Cert.Kernel8Ideal.τ).loc Cert.Kernel8Ideal.main_v7) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_v63) = v1 c
          ∧ r.2.mem ((c.tc : Thread Cert.Reference8Ideal.nD Cert.Reference8Ideal.τ).loc Cert.Reference8Ideal.main_v21) = v2 c
          ∧ r.2.mem ((c.tc : Thread Cert.Reference8Ideal.nD Cert.Reference8Ideal.τ).loc Cert.Reference8Ideal.main_v64) = v3 c
          ∧ r.2.mem ((c.tc : Thread Cert.Reference8Ideal.nD Cert.Reference8Ideal.τ).loc Cert.Reference8Ideal.main_v65) = v4 c
          ∧ r.2.mem ((c.tc : Thread Cert.Reference8Ideal.nD Cert.Reference8Ideal.τ).loc Cert.Reference8Ideal.main_v71) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v43) = v0 c
          ∧ r.2.mem ((c.tc : Thread Cert.Reference10Ideal.nD Cert.Reference10Ideal.τ).loc Cert.Reference10Ideal.main_v44) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v43) = v0 c
          ∧ r.2.mem ((c.tc : Thread Cert.Reference11Ideal.nD Cert.Reference11Ideal.τ).loc Cert.Reference11Ideal.main_v44) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal_pre_finite_inputs15 [hKernel15Ideal : Cert.Kernel15Ideal.Facts] [hReference15Ideal : Cert.Reference15Ideal.Facts] [hPre_finite_inputs15 : Cert.Pre_finite_inputs15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_inputs15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v66) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal_pre_finite_inputs16 [hKernel16Ideal : Cert.Kernel16Ideal.Facts] [hReference16Ideal : Cert.Reference16Ideal.Facts] [hPre_finite_inputs16 : Cert.Pre_finite_inputs16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite_inputs16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v119) = v0 c
          ∧ r.2.mem ((c.tc : Thread Cert.Reference16Ideal.nD Cert.Reference16Ideal.τ).loc Cert.Reference16Ideal.main_v120) = v1 c
          ∧ r.2.mem ((c.tc : Thread Cert.Reference16Ideal.nD Cert.Reference16Ideal.τ).loc Cert.Reference16Ideal.main_v121) = v2 c
          ∧ r.2.mem ((c.tc : Thread Cert.Reference16Ideal.nD Cert.Reference16Ideal.τ).loc Cert.Reference16Ideal.main_v122) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal_pre_finite_inputs17 [hKernel17Ideal : Cert.Kernel17Ideal.Facts] [hReference17Ideal : Cert.Reference17Ideal.Facts] [hPre_finite_inputs17 : Cert.Pre_finite_inputs17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite_inputs17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v32) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v47) = v0 c
          ∧ r.2.mem ((c.tc : Thread Cert.Reference18Ideal.nD Cert.Reference18Ideal.τ).loc Cert.Reference18Ideal.main_v48) = v1 c
          ∧ r.2.mem ((c.tc : Thread Cert.Reference18Ideal.nD Cert.Reference18Ideal.τ).loc Cert.Reference18Ideal.main_v49) = v2 c
          ∧ r.2.mem ((c.tc : Thread Cert.Reference18Ideal.nD Cert.Reference18Ideal.τ).loc Cert.Reference18Ideal.main_v50) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)) (v4 : (c : Dev Cert.Kernel19Ideal.nD) → Buf (Elt Ideal) ((c.tc : Thread Cert.Kernel19Ideal.nD Cert.Kernel19Ideal.τ).loc Cert.Kernel19Ideal.main_v0_4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_v0_4) = v4 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v151) = v0 c
          ∧ r.2.mem ((c.tc : Thread Cert.Reference19Ideal.nD Cert.Reference19Ideal.τ).loc Cert.Reference19Ideal.main_v152) = v1 c
          ∧ r.2.mem ((c.tc : Thread Cert.Reference19Ideal.nD Cert.Reference19Ideal.τ).loc Cert.Reference19Ideal.main_v153) = v2 c
          ∧ r.2.mem ((c.tc : Thread Cert.Reference19Ideal.nD Cert.Reference19Ideal.τ).loc Cert.Reference19Ideal.main_v154) = v3 c
          ∧ r.2.mem ((c.tc : Thread Cert.Reference19Ideal.nD Cert.Reference19Ideal.τ).loc Cert.Reference19Ideal.main_v155) = v4 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8))

def preserves_Kernel20_Kernel20Ideal : Prop :=
  True

def algebraic_Kernel20Ideal_Reference20Ideal [hKernel20Ideal : Cert.Kernel20Ideal.Facts] [hReference20Ideal : Cert.Reference20Ideal.Facts] [hPre_one_of_four20 : Cert.Pre_one_of_four20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_v33) = v1 c
          ∧ r.2.mem ((c.tc : Thread Cert.Reference20Ideal.nD Cert.Reference20Ideal.τ).loc Cert.Reference20Ideal.main_v14) = v2 c
          ∧ r.2.mem ((c.tc : Thread Cert.Reference20Ideal.nD Cert.Reference20Ideal.τ).loc Cert.Reference20Ideal.main_v20) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal [hKernel21Ideal : Cert.Kernel21Ideal.Facts] [hReference21Ideal : Cert.Reference21Ideal.Facts] [hPre_one_of_four21 : Cert.Pre_one_of_four21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v9) = v0 c
          ∧ r.2.mem ((c.tc : Thread Cert.Reference21Ideal.nD Cert.Reference21Ideal.τ).loc Cert.Reference21Ideal.main_v33) = v1 c
          ∧ r.2.mem ((c.tc : Thread Cert.Reference21Ideal.nD Cert.Reference21Ideal.τ).loc Cert.Reference21Ideal.main_v14) = v2 c
          ∧ r.2.mem ((c.tc : Thread Cert.Reference21Ideal.nD Cert.Reference21Ideal.τ).loc Cert.Reference21Ideal.main_v20) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] [hPre_one_of_four22 : Cert.Pre_one_of_four22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v9) = v0 c
          ∧ r.2.mem ((c.tc : Thread Cert.Reference22Ideal.nD Cert.Reference22Ideal.τ).loc Cert.Reference22Ideal.main_v33) = v1 c
          ∧ r.2.mem ((c.tc : Thread Cert.Reference22Ideal.nD Cert.Reference22Ideal.τ).loc Cert.Reference22Ideal.main_v14) = v2 c
          ∧ r.2.mem ((c.tc : Thread Cert.Reference22Ideal.nD Cert.Reference22Ideal.τ).loc Cert.Reference22Ideal.main_v20) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  True

def algebraic_Kernel23Ideal_Reference23Ideal [hKernel23Ideal : Cert.Kernel23Ideal.Facts] [hReference23Ideal : Cert.Reference23Ideal.Facts] [hPre_one_of_four23 : Cert.Pre_one_of_four23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v9) = v0 c
          ∧ r.2.mem ((c.tc : Thread Cert.Reference23Ideal.nD Cert.Reference23Ideal.τ).loc Cert.Reference23Ideal.main_v33) = v1 c
          ∧ r.2.mem ((c.tc : Thread Cert.Reference23Ideal.nD Cert.Reference23Ideal.τ).loc Cert.Reference23Ideal.main_v14) = v2 c
          ∧ r.2.mem ((c.tc : Thread Cert.Reference23Ideal.nD Cert.Reference23Ideal.τ).loc Cert.Reference23Ideal.main_v20) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] [hPre_one_of_four24 : Cert.Pre_one_of_four24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)
      ∧ m' ((c.tc : Thread Cert.Reference24Ideal.nD Cert.Reference24Ideal.τ).loc Cert.Reference24Ideal.main_arg9) = m ((c.tc : Thread Cert.Kernel24Ideal.nD Cert.Kernel24Ideal.τ).loc Cert.Kernel24Ideal.main_arg9)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
          ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v40) = v0 c
          ∧ r.2.mem ((c.tc : Thread Cert.Reference24Ideal.nD Cert.Reference24Ideal.τ).loc Cert.Reference24Ideal.main_v42) = v1 c
          ∧ r.2.mem ((c.tc : Thread Cert.Reference24Ideal.nD Cert.Reference24Ideal.τ).loc Cert.Reference24Ideal.main_v44) = v2 c
          ∧ r.2.mem ((c.tc : Thread Cert.Reference24Ideal.nD Cert.Reference24Ideal.τ).loc Cert.Reference24Ideal.main_v46) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8)
          ∧ r.2.mem ((c.tc : Thread Cert.Reference24Ideal.nD Cert.Reference24Ideal.τ).loc Cert.Reference24Ideal.main_arg9) = m' ((c.tc : Thread Cert.Reference24Ideal.nD Cert.Reference24Ideal.τ).loc Cert.Reference24Ideal.main_arg9))

def preserves_Kernel25_Kernel25Ideal : Prop :=
  True

def algebraic_Kernel25Ideal_Reference25Ideal [hKernel25Ideal : Cert.Kernel25Ideal.Facts] [hReference25Ideal : Cert.Reference25Ideal.Facts] [hPre_one_of_four25 : Cert.Pre_one_of_four25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)
      ∧ m' ((c.tc : Thread Cert.Reference25Ideal.nD Cert.Reference25Ideal.τ).loc Cert.Reference25Ideal.main_arg9) = m ((c.tc : Thread Cert.Kernel25Ideal.nD Cert.Kernel25Ideal.τ).loc Cert.Kernel25Ideal.main_arg9)) →
    ∃ (v0 : (c : Dev Cert.Kernel25Ideal.nD) → Buf (Elt Ideal) ((c.tc : Thread Cert.Kernel25Ideal.nD Cert.Kernel25Ideal.τ).loc Cert.Kernel25Ideal.main_v1)) (v1 : (c : Dev Cert.Kernel25Ideal.nD) → Buf (Elt Ideal) ((c.tc : Thread Cert.Kernel25Ideal.nD Cert.Kernel25Ideal.τ).loc Cert.Kernel25Ideal.main_v2)) (v2 : (c : Dev Cert.Kernel25Ideal.nD) → Buf (Elt Ideal) ((c.tc : Thread Cert.Kernel25Ideal.nD Cert.Kernel25Ideal.τ).loc Cert.Kernel25Ideal.main_v3)) (v3 : (c : Dev Cert.Kernel25Ideal.nD) → Buf (Elt Ideal) ((c.tc : Thread Cert.Kernel25Ideal.nD Cert.Kernel25Ideal.τ).loc Cert.Kernel25Ideal.main_v4)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_v2) = v1 c
          ∧ r.2.mem ((c.tc : Thread Cert.Kernel25Ideal.nD Cert.Kernel25Ideal.τ).loc Cert.Kernel25Ideal.main_v3) = v2 c
          ∧ r.2.mem ((c.tc : Thread Cert.Kernel25Ideal.nD Cert.Kernel25Ideal.τ).loc Cert.Kernel25Ideal.main_v4) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
          ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v20) = v0 c
          ∧ r.2.mem ((c.tc : Thread Cert.Reference25Ideal.nD Cert.Reference25Ideal.τ).loc Cert.Reference25Ideal.main_v44) = v1 c
          ∧ r.2.mem ((c.tc : Thread Cert.Reference25Ideal.nD Cert.Reference25Ideal.τ).loc Cert.Reference25Ideal.main_v25) = v2 c
          ∧ r.2.mem ((c.tc : Thread Cert.Reference25Ideal.nD Cert.Reference25Ideal.τ).loc Cert.Reference25Ideal.main_v31) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8)
          ∧ r.2.mem ((c.tc : Thread Cert.Reference25Ideal.nD Cert.Reference25Ideal.τ).loc Cert.Reference25Ideal.main_arg9) = m' ((c.tc : Thread Cert.Reference25Ideal.nD Cert.Reference25Ideal.τ).loc Cert.Reference25Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite_inputs : Cert.Pre_finite_inputs.Facts) (hPre_finite_inputs2 : Cert.Pre_finite_inputs2.Facts) (hPre_finite_inputs15 : Cert.Pre_finite_inputs15.Facts) (hPre_finite_inputs16 : Cert.Pre_finite_inputs16.Facts) (hPre_finite_inputs17 : Cert.Pre_finite_inputs17.Facts) (hPre_one_of_four20 : Cert.Pre_one_of_four20.Facts) (hPre_one_of_four21 : Cert.Pre_one_of_four21.Facts) (hPre_one_of_four22 : Cert.Pre_one_of_four22.Facts) (hPre_one_of_four23 : Cert.Pre_one_of_four23.Facts) (hPre_one_of_four24 : Cert.Pre_one_of_four24.Facts) (hPre_one_of_four25 : Cert.Pre_one_of_four25.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_inputs2 (hKernel2Ideal := hKernel2Ideal) (hPre_finite_inputs2 := hPre_finite_inputs2)
    ∧ quiescent_Reference2Ideal (hReference2Ideal := hReference2Ideal)
    ∧ quiescent_Reference2Ideal_pre_finite_inputs2 (hReference2Ideal := hReference2Ideal) (hPre_finite_inputs2 := hPre_finite_inputs2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite_inputs15 (hKernel15Ideal := hKernel15Ideal) (hPre_finite_inputs15 := hPre_finite_inputs15)
    ∧ quiescent_Reference15Ideal (hReference15Ideal := hReference15Ideal)
    ∧ quiescent_Reference15Ideal_pre_finite_inputs15 (hReference15Ideal := hReference15Ideal) (hPre_finite_inputs15 := hPre_finite_inputs15)
    ∧ quiescent_Kernel16 (hKernel16 := hKernel16)
    ∧ quiescent_Kernel16Ideal (hKernel16Ideal := hKernel16Ideal)
    ∧ quiescent_Kernel16Ideal_pre_finite_inputs16 (hKernel16Ideal := hKernel16Ideal) (hPre_finite_inputs16 := hPre_finite_inputs16)
    ∧ quiescent_Reference16Ideal (hReference16Ideal := hReference16Ideal)
    ∧ quiescent_Reference16Ideal_pre_finite_inputs16 (hReference16Ideal := hReference16Ideal) (hPre_finite_inputs16 := hPre_finite_inputs16)
    ∧ quiescent_Kernel17 (hKernel17 := hKernel17)
    ∧ quiescent_Kernel17Ideal (hKernel17Ideal := hKernel17Ideal)
    ∧ quiescent_Kernel17Ideal_pre_finite_inputs17 (hKernel17Ideal := hKernel17Ideal) (hPre_finite_inputs17 := hPre_finite_inputs17)
    ∧ quiescent_Reference17Ideal (hReference17Ideal := hReference17Ideal)
    ∧ quiescent_Reference17Ideal_pre_finite_inputs17 (hReference17Ideal := hReference17Ideal) (hPre_finite_inputs17 := hPre_finite_inputs17)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20) (hPre_one_of_four20 := hPre_one_of_four20)
    ∧ quiescent_Kernel20Ideal (hKernel20Ideal := hKernel20Ideal) (hPre_one_of_four20 := hPre_one_of_four20)
    ∧ quiescent_Reference20Ideal (hReference20Ideal := hReference20Ideal)
    ∧ quiescent_Reference20Ideal_pre_one_of_four20 (hReference20Ideal := hReference20Ideal) (hPre_one_of_four20 := hPre_one_of_four20)
    ∧ quiescent_Kernel21 (hKernel21 := hKernel21) (hPre_one_of_four21 := hPre_one_of_four21)
    ∧ quiescent_Kernel21Ideal (hKernel21Ideal := hKernel21Ideal) (hPre_one_of_four21 := hPre_one_of_four21)
    ∧ quiescent_Reference21Ideal (hReference21Ideal := hReference21Ideal)
    ∧ quiescent_Reference21Ideal_pre_one_of_four21 (hReference21Ideal := hReference21Ideal) (hPre_one_of_four21 := hPre_one_of_four21)
    ∧ quiescent_Kernel22 (hKernel22 := hKernel22) (hPre_one_of_four22 := hPre_one_of_four22)
    ∧ quiescent_Kernel22Ideal (hKernel22Ideal := hKernel22Ideal) (hPre_one_of_four22 := hPre_one_of_four22)
    ∧ quiescent_Reference22Ideal (hReference22Ideal := hReference22Ideal)
    ∧ quiescent_Reference22Ideal_pre_one_of_four22 (hReference22Ideal := hReference22Ideal) (hPre_one_of_four22 := hPre_one_of_four22)
    ∧ quiescent_Kernel23 (hKernel23 := hKernel23) (hPre_one_of_four23 := hPre_one_of_four23)
    ∧ quiescent_Kernel23Ideal (hKernel23Ideal := hKernel23Ideal) (hPre_one_of_four23 := hPre_one_of_four23)
    ∧ quiescent_Reference23Ideal (hReference23Ideal := hReference23Ideal)
    ∧ quiescent_Reference23Ideal_pre_one_of_four23 (hReference23Ideal := hReference23Ideal) (hPre_one_of_four23 := hPre_one_of_four23)
    ∧ quiescent_Kernel24 (hKernel24 := hKernel24) (hPre_one_of_four24 := hPre_one_of_four24)
    ∧ quiescent_Kernel24Ideal (hKernel24Ideal := hKernel24Ideal) (hPre_one_of_four24 := hPre_one_of_four24)
    ∧ quiescent_Reference24Ideal (hReference24Ideal := hReference24Ideal)
    ∧ quiescent_Reference24Ideal_pre_one_of_four24 (hReference24Ideal := hReference24Ideal) (hPre_one_of_four24 := hPre_one_of_four24)
    ∧ quiescent_Kernel25 (hKernel25 := hKernel25) (hPre_one_of_four25 := hPre_one_of_four25)
    ∧ quiescent_Kernel25Ideal (hKernel25Ideal := hKernel25Ideal) (hPre_one_of_four25 := hPre_one_of_four25)
    ∧ quiescent_Reference25Ideal (hReference25Ideal := hReference25Ideal)
    ∧ quiescent_Reference25Ideal_pre_one_of_four25 (hReference25Ideal := hReference25Ideal) (hPre_one_of_four25 := hPre_one_of_four25)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_inputs2 (hKernel2Ideal := hKernel2Ideal) (hReference2Ideal := hReference2Ideal) (hPre_finite_inputs2 := hPre_finite_inputs2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite_inputs15 (hKernel15Ideal := hKernel15Ideal) (hReference15Ideal := hReference15Ideal) (hPre_finite_inputs15 := hPre_finite_inputs15)
    ∧ preserves_Kernel16_Kernel16Ideal
    ∧ algebraic_Kernel16Ideal_Reference16Ideal_pre_finite_inputs16 (hKernel16Ideal := hKernel16Ideal) (hReference16Ideal := hReference16Ideal) (hPre_finite_inputs16 := hPre_finite_inputs16)
    ∧ preserves_Kernel17_Kernel17Ideal
    ∧ algebraic_Kernel17Ideal_Reference17Ideal_pre_finite_inputs17 (hKernel17Ideal := hKernel17Ideal) (hReference17Ideal := hReference17Ideal) (hPre_finite_inputs17 := hPre_finite_inputs17)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal) (hPre_one_of_four20 := hPre_one_of_four20)
    ∧ preserves_Kernel21_Kernel21Ideal
    ∧ algebraic_Kernel21Ideal_Reference21Ideal (hKernel21Ideal := hKernel21Ideal) (hReference21Ideal := hReference21Ideal) (hPre_one_of_four21 := hPre_one_of_four21)
    ∧ preserves_Kernel22_Kernel22Ideal
    ∧ algebraic_Kernel22Ideal_Reference22Ideal (hKernel22Ideal := hKernel22Ideal) (hReference22Ideal := hReference22Ideal) (hPre_one_of_four22 := hPre_one_of_four22)
    ∧ preserves_Kernel23_Kernel23Ideal
    ∧ algebraic_Kernel23Ideal_Reference23Ideal (hKernel23Ideal := hKernel23Ideal) (hReference23Ideal := hReference23Ideal) (hPre_one_of_four23 := hPre_one_of_four23)
    ∧ preserves_Kernel24_Kernel24Ideal
    ∧ algebraic_Kernel24Ideal_Reference24Ideal (hKernel24Ideal := hKernel24Ideal) (hReference24Ideal := hReference24Ideal) (hPre_one_of_four24 := hPre_one_of_four24)
    ∧ preserves_Kernel25_Kernel25Ideal
    ∧ algebraic_Kernel25Ideal_Reference25Ideal (hKernel25Ideal := hKernel25Ideal) (hReference25Ideal := hReference25Ideal) (hPre_one_of_four25 := hPre_one_of_four25)
-- ==== Pre_finite_inputs.lean ====
abbrev S2048x4096 : Shape := ⟨2, ![2048, 4096]⟩
abbrev S2048x2048 : Shape := ⟨2, ![2048, 2048]⟩
abbrev S_ : Shape := ⟨0, ![]⟩

class Facts : Prop where
  bcast_S_S2048x4096 : S_.BroadcastsInDim S2048x4096 (![] : Fin 0 → Fin S2048x4096.rank)
  bcast_S_S2048x2048 : S_.BroadcastsInDim S2048x2048 (![] : Fin 0 → Fin S2048x2048.rank)

variable [Facts]

def fn {F : FTy → Type} [FloatOps F] (main_arg0 : FVec F S2048x4096 .bf16) (main_arg1 : FVec F S2048x2048 .bf16) (main_arg2 : FVec F S2048x2048 .bf16) : IVec S2048x4096 1 × IVec S2048x2048 1 × IVec S2048x2048 1 :=
  let main_v0 : FVec F S2048x4096 .bf16 := Host.absf main_arg0
  let main_cst : FVec F S_ .bf16 := constant S_ .bf16 0x7F80#16
  let main_v1 : FVec F S2048x4096 .bf16 := broadcastInDim S2048x4096 ![] bcast_S_S2048x4096 main_cst
  let main_v2 : IVec S2048x4096 1 := cmpf .olt main_v0 main_v1
  let main_v3 : FVec F S2048x2048 .bf16 := Host.absf main_arg1
  let main_cst_0 : FVec F S_ .bf16 := constant S_ .bf16 0x7F80#16
  let main_v4 : FVec F S2048x2048 .bf16 := broadcastInDim S2048x2048 ![] bcast_S_S2048x2048 main_cst_0
  let main_v5 : IVec S2048x2048 1 := cmpf .olt main_v3 main_v4
  let main_v6 : FVec F S2048x2048 .bf16 := Host.absf main_arg2
  let main_cst_1 : FVec F S_ .bf16 := constant S_ .bf16 0x7F80#16
  let main_v7 : FVec F S2048x2048 .bf16 := broadcastInDim S2048x2048 ![] bcast_S_S2048x2048 main_cst_1
  let main_v8 : IVec S2048x2048 1 := cmpf .olt main_v6 main_v7
  (main_v2, main_v5, main_v8)
-- ==== Pre_finite_inputs15.lean ====
abbrev S2048x2048 : Shape := ⟨2, ![2048, 2048]⟩
abbrev S4x512x512 : Shape := ⟨3, ![4, 512, 512]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x2048 .f32) (main_arg1 : FVec F S2048x2048 .f32) (main_arg2 : FVec F S4x512x512 .bf16) (main_arg3 : FVec F S1x2048 .f32) (main_arg4 : FVec F S1x2048 .f32) : IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  main_v2
-- ==== Pre_finite_inputs16.lean ====
abbrev S2048x2048 : Shape := ⟨2, ![2048, 2048]⟩
abbrev S4x512x512 : Shape := ⟨3, ![4, 512, 512]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S4x512x512 : S_.BroadcastsInDim S4x512x512 (![] : Fin 0 → Fin S4x512x512.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S2048x2048 .f32) (main_arg2 : FVec F S4x512x512 .bf16) (main_arg3 : FVec F S1x2048 .f32) (main_arg4 : FVec F S1x2048 .f32) : IVec S2048x2048 1 × IVec S2048x2048 1 × IVec S4x512x512 1 × IVec S1x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S4x512x512 .bf16 := Host.absf main_arg2
  let main_cst_1 : FVec F S_ .bf16 := constant S_ .bf16 0x7F80#16
  let main_v7 : FVec F S4x512x512 .bf16 := broadcastInDim S4x512x512 ![] bcast_S_S4x512x512 main_cst_1
  let main_v8 : IVec S4x512x512 1 := cmpf .olt main_v6 main_v7
  let main_v9 : FVec F S1x2048 .f32 := Host.absf main_arg4
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  (main_v2, main_v5, main_v8, main_v11)
-- ==== Pre_finite_inputs17.lean ====
abbrev S2048x4096 : Shape := ⟨2, ![2048, 4096]⟩
abbrev S2048x2048 : Shape := ⟨2, ![2048, 2048]⟩
abbrev S_ : Shape := ⟨0, ![]⟩

class Facts : Prop where
  bcast_S_S2048x4096 : S_.BroadcastsInDim S2048x4096 (![] : Fin 0 → Fin S2048x4096.rank)

variable [Facts]

def fn {F : FTy → Type} [FloatOps F] (main_arg0 : FVec F S2048x4096 .bf16) (main_arg1 : FVec F S2048x2048 .bf16) : IVec S2048x4096 1 :=
  let main_v0 : FVec F S2048x4096 .bf16 := Host.absf main_arg0
  let main_cst : FVec F S_ .bf16 := constant S_ .bf16 0x7F80#16
  let main_v1 : FVec F S2048x4096 .bf16 := broadcastInDim S2048x4096 ![] bcast_S_S2048x4096 main_cst
  let main_v2 : IVec S2048x4096 1 := cmpf .olt main_v0 main_v1
  main_v2
-- ==== Pre_finite_inputs2.lean ====
abbrev S2048x2048 : Shape := ⟨2, ![2048, 2048]⟩
abbrev S1x2048 : Shape := ⟨2, ![1, 2048]⟩
abbrev S8x2048x1408 : Shape := ⟨3, ![8, 2048, 1408]⟩
abbrev S5632x2048 : Shape := ⟨2, ![5632, 2048]⟩
abbrev S3x11264 : Shape := ⟨2, ![3, 11264]⟩
abbrev S1x11264 : Shape := ⟨2, ![1, 11264]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)
  bcast_S_S8x2048x1408 : S_.BroadcastsInDim S8x2048x1408 (![] : Fin 0 → Fin S8x2048x1408.rank)
  bcast_S_S5632x2048 : S_.BroadcastsInDim S5632x2048 (![] : Fin 0 → Fin S5632x2048.rank)
  bcast_S_S3x11264 : S_.BroadcastsInDim S3x11264 (![] : Fin 0 → Fin S3x11264.rank)
  bcast_S_S1x11264 : S_.BroadcastsInDim S1x11264 (![] : Fin 0 → Fin S1x11264.rank)

variable [Facts]

def fn_part1 {F : FTy → Type} [FloatOps F] (main_arg6 : FVec F S2048x2048 .f32) (main_v2 : IVec S2048x2048 1) (main_v5 : IVec S1x2048 1) (main_v8 : IVec S8x2048x1408 1) (main_v11 : IVec S5632x2048 1) (main_v14 : IVec S3x11264 1) (main_v17 : IVec S1x11264 1) : IVec S2048x2048 1 × IVec S1x2048 1 × IVec S8x2048x1408 1 × IVec S5632x2048 1 × IVec S3x11264 1 × IVec S1x11264 1 × IVec S2048x2048 1 :=
  let main_v18 : FVec F S2048x2048 .f32 := Host.absf main_arg6
  let main_cst_5 : FVec F S_ .f32 := constant S_ .f32 0x7F800000#32
  let main_v19 : FVec F S2048x2048 .f32 := broadcastInDim S2048x2048 ![] bcast_S_S2048x2048 main_cst_5
  let main_v20 : IVec S2048x2048 1 := cmpf .olt main_v18 main_v19
  (main_v2, main_v5, main_v8, main_v11, main_v14, main_v17, main_v20)

def fn {F : FTy → Type} [FloatOps F] (main_arg0 : FVec F S2048x2048 .f32) (main_arg1 : FVec F S1x2048 .f32) (main_arg2 : FVec F S8x2048x1408 .bf16) (main_arg3 : FVec F S5632x2048 .bf16) (main_arg4 : FVec F S3x11264 .f32) (main_arg5 : FVec F S1x11264 .f32) (main_arg6 : FVec F S2048x2048 .f32) : IVec S2048x2048 1 × IVec S1x2048 1 × IVec S8x2048x1408 1 × IVec S5632x2048 1 × IVec S3x11264 1 × IVec S1x11264 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S8x2048x1408 .bf16 := Host.absf main_arg2
  let main_cst_1 : FVec F S_ .bf16 := constant S_ .bf16 0x7F80#16
  let main_v7 : FVec F S8x2048x1408 .bf16 := broadcastInDim S8x2048x1408 ![] bcast_S_S8x2048x1408 main_cst_1
  let main_v8 : IVec S8x2048x1408 1 := cmpf .olt main_v6 main_v7
  let main_v9 : FVec F S5632x2048 .bf16 := Host.absf main_arg3
  let main_cst_2 : FVec F S_ .bf16 := constant S_ .bf16 0x7F80#16
  let main_v10 : FVec F S5632x2048 .bf16 := broadcastInDim S5632x2048 ![] bcast_S_S5632x2048 main_cst_2
  let main_v11 : IVec S5632x2048 1 := cmpf .olt main_v9 main_v10
  let main_v12 : FVec F S3x11264 .f32 := Host.absf main_arg4
  let main_cst_3 : FVec F S_ .f32 := constant S_ .f32 0x7F800000#32
  let main_v13 : FVec F S3x11264 .f32 := broadcastInDim S3x11264 ![] bcast_S_S3x11264 main_cst_3
  let main_v14 : IVec S3x11264 1 := cmpf .olt main_v12 main_v13
  let main_v15 : FVec F S1x11264 .f32 := Host.absf main_arg5
  let main_cst_4 : FVec F S_ .f32 := constant S_ .f32 0x7F800000#32
  let main_v16 : FVec F S1x11264 .f32 := broadcastInDim S1x11264 ![] bcast_S_S1x11264 main_cst_4
  let main_v17 : IVec S1x11264 1 := cmpf .olt main_v15 main_v16
  fn_part1 (F := F) main_arg6 main_v2 main_v5 main_v8 main_v11 main_v14 main_v17
-- ==== Pre_one_of_four20.lean ====
abbrev S2048x768 : Shape := ⟨2, ![2048, 768]⟩
abbrev S4x2048x768 : Shape := ⟨3, ![4, 2048, 768]⟩
abbrev S3x2048x768 : Shape := ⟨3, ![3, 2048, 768]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x768 .f32) (main_arg1 : FVec F S4x2048x768 .bf16) (main_arg2 : FVec F S3x2048x768 .bf16) (main_arg3 : FVec F S2048x768 .f32) (main_arg4 : FVec F S2048x768 .f32) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_one_of_four21.lean ====
abbrev S256x2048 : Shape := ⟨2, ![256, 2048]⟩
abbrev S4x256x2048 : Shape := ⟨3, ![4, 256, 2048]⟩
abbrev S3x256x2048 : Shape := ⟨3, ![3, 256, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S256x2048 .f32) (main_arg1 : FVec F S4x256x2048 .bf16) (main_arg2 : FVec F S3x256x2048 .bf16) (main_arg3 : FVec F S256x2048 .f32) (main_arg4 : FVec F S256x2048 .f32) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_one_of_four22.lean ====
abbrev S2048x512 : Shape := ⟨2, ![2048, 512]⟩
abbrev S4x2048x512 : Shape := ⟨3, ![4, 2048, 512]⟩
abbrev S3x2048x512 : Shape := ⟨3, ![3, 2048, 512]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x512 .f32) (main_arg1 : FVec F S4x2048x512 .bf16) (main_arg2 : FVec F S3x2048x512 .bf16) (main_arg3 : FVec F S2048x512 .f32) (main_arg4 : FVec F S2048x512 .f32) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_one_of_four23.lean ====
abbrev S512x512 : Shape := ⟨2, ![512, 512]⟩
abbrev S4x512x512 : Shape := ⟨3, ![4, 512, 512]⟩
abbrev S3x512x512 : Shape := ⟨3, ![3, 512, 512]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S512x512 .f32) (main_arg1 : FVec F S4x512x512 .bf16) (main_arg2 : FVec F S3x512x512 .bf16) (main_arg3 : FVec F S512x512 .f32) (main_arg4 : FVec F S512x512 .f32) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_one_of_four24.lean ====
abbrev S4x704x2048 : Shape := ⟨3, ![4, 704, 2048]⟩
abbrev S3x704x2048 : Shape := ⟨3, ![3, 704, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x704x2048 .f32) (main_arg1 : FVec F S4x704x2048 .bf16) (main_arg2 : FVec F S3x704x2048 .bf16) (main_arg3 : FVec F S4x704x2048 .f32) (main_arg4 : FVec F S4x704x2048 .f32) (main_arg5 : IVec S1 32) (main_arg6 : FVec F S4x704x2048 .f32) (main_arg7 : FVec F S4x704x2048 .f32) (main_arg8 : FVec F S4x704x2048 .f32) (main_arg9 : FVec F S4x704x2048 .f32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_one_of_four25.lean ====
abbrev S4x704x2048 : Shape := ⟨3, ![4, 704, 2048]⟩
abbrev S3x704x2048 : Shape := ⟨3, ![3, 704, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x704x2048 .f32) (main_arg1 : FVec F S4x704x2048 .bf16) (main_arg2 : FVec F S4x704x2048 .bf16) (main_arg3 : FVec F S4x704x2048 .bf16) (main_arg4 : FVec F S3x704x2048 .bf16) (main_arg5 : FVec F S3x704x2048 .bf16) (main_arg6 : FVec F S3x704x2048 .bf16) (main_arg7 : FVec F S4x704x2048 .f32) (main_arg8 : FVec F S4x704x2048 .f32) (main_arg9 : IVec S1 32) : IVec S1 1 :=
  let main_c : IVec S_ 32 := constantI S_ 32 0#32
  let main_v0 : IVec S1 32 := broadcastInDim S1 ![] bcast_S_S1 main_c
  let main_v1 : IVec S1 1 := cmpi .sge main_arg9 main_v0
  let main_c_0 : IVec S_ 32 := constantI S_ 32 4#32
  let main_v2 : IVec S1 32 := broadcastInDim S1 ![] bcast_S_S1 main_c_0
  let main_v3 : IVec S1 1 := cmpi .slt main_arg9 main_v2
  let main_v4 : IVec S1 1 := andi main_v1 main_v3
  main_v4
-- ==== Kernel.lean ====
abbrev S2048x4096 : Shape := ⟨2, ![2048, 4096]⟩
abbrev S2048x2048 : Shape := ⟨2, ![2048, 2048]⟩
abbrev S256x128 : Shape := ⟨2, ![256, 128]⟩
abbrev S2048x128 : Shape := ⟨2, ![2048, 128]⟩
abbrev S8x256x256 : Shape := ⟨3, ![8, 256, 256]⟩
abbrev S256x256 : Shape := ⟨2, ![256, 256]⟩
abbrev S256x1 : Shape := ⟨2, ![256, 1]⟩
abbrev S1x256x256 : Shape := ⟨3, ![1, 256, 256]⟩
abbrev S256 : Shape := ⟨1, ![256]⟩

abbrev nBuf : Space → Nat
  | .hbm => 6
  | .vmem => 16
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S8x256x256, .f32⟩
  | .local _ .vmem, ⟨15, _⟩ => ⟨S8x256x256, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_8 : BitVec 32 := 0#32
  let arg1 : BitVec 32 := BitVec.ofNat 32 (i 1).val
  let c1_i32 : BitVec 32 := 1#32
  let v19 : BitVec 32 := Scalar.addi arg1 c1_i32
  let v21 : BitVec 32 := Scalar.subi v19 c0_i32_8
  let c1_i32_9 : BitVec 32 := 1#32
  let v23 : BitVec 32 := Scalar.divsi v21 c1_i32_9
  let v24 : BitVec 32 := Scalar.muli v23 c1_i32_9
  let v25 : BitVec 32 := Scalar.addi c0_i32_8 v24
  let c1_i32_10 : BitVec 32 := 1#32
  ⟨c0_i32_8, v25, c1_i32_10⟩
def k0_mult1 (i : grid0.Coords) (k0_t1 : Fin (k0_t1_loop i).trips) : BitVec 32 :=
  let arg1 : BitVec 32 := BitVec.ofNat 32 (i 1).val
  let c0_i32_8 : BitVec 32 := 0#32
  let c1_i32_10 : BitVec 32 := 1#32
  let arg11 : BitVec 32 := Scf.iv c0_i32_8 c1_i32_10 k0_t1
  let v39 : BitVec 32 := Scalar.subi arg1 arg11
  let c256_i32 : BitVec 32 := 256#32
  let v40 : BitVec 32 := Scalar.muli v39 c256_i32
  v40
def k0_off1 (i : grid0.Coords) (k0_t1 : Fin (k0_t1_loop i).trips) : Fin 2 → Nat :=
  let arg1 : BitVec 32 := BitVec.ofNat 32 (i 1).val
  let c0_i32_8 : BitVec 32 := 0#32
  let c1_i32_10 : BitVec 32 := 1#32
  let arg11 : BitVec 32 := Scf.iv c0_i32_8 c1_i32_10 k0_t1
  let v39 : BitVec 32 := Scalar.subi arg1 arg11
  let c256_i32 : BitVec 32 := 256#32
  let v40 : BitVec 32 := Scalar.muli v39 c256_i32
  let v41 : BitVec 32 := v40
  let v42 : Index := Scalar.indexCast v41
  let c0_21 : Index := 0#32
  ![v42.toNat, 0]
def k0_off2 (i : grid0.Coords) (k0_t1 : Fin (k0_t1_loop i).trips) : Fin 3 → Nat :=
  let arg1 : BitVec 32 := BitVec.ofNat 32 (i 1).val
  let c0_i32_8 : BitVec 32 := 0#32
  let c1_i32_10 : BitVec 32 := 1#32
  let arg11 : BitVec 32 := Scf.iv c0_i32_8 c1_i32_10 k0_t1
  let v39 : BitVec 32 := Scalar.subi arg1 arg11
  let v80 : Index := Scalar.indexCast v39
  let c0_32 : Index := 0#32
  let c0_33 : Index := 0#32
  ![v80.toNat, 0, 0]
@[reducible] def k0_t2_loop (i : grid0.Coords) : Scf.Loop 32 :=
  let c0_i32_8 : BitVec 32 := 0#32
  let arg1 : BitVec 32 := BitVec.ofNat 32 (i 1).val
  let c1_i32 : BitVec 32 := 1#32
  let v19 : BitVec 32 := Scalar.addi arg1 c1_i32
  let v21 : BitVec 32 := Scalar.subi v19 c0_i32_8
  let c1_i32_9 : BitVec 32 := 1#32
  let v23 : BitVec 32 := Scalar.divsi v21 c1_i32_9
  let v24 : BitVec 32 := Scalar.muli v23 c1_i32_9
  let v25 : BitVec 32 := Scalar.addi c0_i32_8 v24
  let v22 : BitVec 32 := Scalar.addi c0_i32_8 v21
  let c1_i32_11 : BitVec 32 := 1#32
  ⟨v25, v22, c1_i32_11⟩
def k0_mult2 (i : grid0.Coords) (k0_t2 : Fin (k0_t2_loop i).trips) : BitVec 32 :=
  let arg1 : BitVec 32 := BitVec.ofNat 32 (i 1).val
  let c0_i32_8 : BitVec 32 := 0#32
  let c1_i32 : BitVec 32 := 1#32
  let v19 : BitVec 32 := Scalar.addi arg1 c1_i32
  let v21 : BitVec 32 := Scalar.subi v19 c0_i32_8
  let c1_i32_9 : BitVec 32 := 1#32
  let v23 : BitVec 32 := Scalar.divsi v21 c1_i32_9
  let v24 : BitVec 32 := Scalar.muli v23 c1_i32_9
  let v25 : BitVec 32 := Scalar.addi c0_i32_8 v24
  let c1_i32_11 : BitVec 32 := 1#32
  let arg11 : BitVec 32 := Scf.iv v25 c1_i32_11 k0_t2
  let v39 : BitVec 32 := Scalar.subi arg1 arg11
  let c256_i32 : BitVec 32 := 256#32
  let v40 : BitVec 32 := Scalar.muli v39 c256_i32
  v40
def k0_off3 (i : grid0.Coords) (k0_t2 : Fin (k0_t2_loop i).trips) : Fin 2 → Nat :=
  let arg1 : BitVec 32 := BitVec.ofNat 32 (i 1).val
  let c0_i32_8 : BitVec 32 := 0#32
  let c1_i32 : BitVec 32 := 1#32
  let v19 : BitVec 32 := Scalar.addi arg1 c1_i32
  let v21 : BitVec 32 := Scalar.subi v19 c0_i32_8
  let c1_i32_9 : BitVec 32 := 1#32
  let v23 : BitVec 32 := Scalar.divsi v21 c1_i32_9
  let v24 : BitVec 32 := Scalar.muli v23 c1_i32_9
  let v25 : BitVec 32 := Scalar.addi c0_i32_8 v24
  let c1_i32_11 : BitVec 32 := 1#32
  let arg11 : BitVec 32 := Scf.iv v25 c1_i32_11 k0_t2
  let v39 : BitVec 32 := Scalar.subi arg1 arg11
  let c256_i32 : BitVec 32 := 256#32
  let v40 : BitVec 32 := Scalar.muli v39 c256_i32
  let v41 : BitVec 32 := v40
  let v42 : Index := Scalar.indexCast v41
  let c0_21 : Index := 0#32
  ![v42.toNat, 0]
def k0_off4 (i : grid0.Coords) (k0_t2 : Fin (k0_t2_loop i).trips) : Fin 3 → Nat :=
  let arg1 : BitVec 32 := BitVec.ofNat 32 (i 1).val
  let c0_i32_8 : BitVec 32 := 0#32
  let c1_i32 : BitVec 32 := 1#32
  let v19 : BitVec 32 := Scalar.addi arg1 c1_i32
  let v21 : BitVec 32 := Scalar.subi v19 c0_i32_8
  let c1_i32_9 : BitVec 32 := 1#32
  let v23 : BitVec 32 := Scalar.divsi v21 c1_i32_9
  let v24 : BitVec 32 := Scalar.muli v23 c1_i32_9
  let v25 : BitVec 32 := Scalar.addi c0_i32_8 v24
  let c1_i32_11 : BitVec 32 := 1#32
  let arg11 : BitVec 32 := Scf.iv v25 c1_i32_11 k0_t2
  let v39 : BitVec 32 := Scalar.subi arg1 arg11
  let v80 : Index := Scalar.indexCast v39
  let c0_32 : Index := 0#32
  let c0_33 : Index := 0#32
  ![v80.toNat, 0, 0]
@[reducible] def k0_t3_loop (i : grid0.Coords) : Scf.Loop 32 :=
  let c0_i32_15 : BitVec 32 := 0#32
  let arg1 : BitVec 32 := BitVec.ofNat 32 (i 1).val
  let c1_i32_12 : BitVec 32 := 1#32
  let v28 : BitVec 32 := Scalar.addi arg1 c1_i32_12
  let v31 : BitVec 32 := Scalar.subi v28 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_17 : BitVec 32 := 1#32
  ⟨c0_i32_15, v35, c1_i32_17⟩
def k0_mult3 (i : grid0.Coords) (k0_t3 : Fin (k0_t3_loop i).trips) : BitVec 32 :=
  let c0_i32_15 : BitVec 32 := 0#32
  let c1_i32_17 : BitVec 32 := 1#32
  let arg11 : BitVec 32 := Scf.iv c0_i32_15 c1_i32_17 k0_t3
  let c256_i32 : BitVec 32 := 256#32
  let v39 : BitVec 32 := Scalar.muli arg11 c256_i32
  v39
def k0_off5 (i : grid0.Coords) (k0_t3 : Fin (k0_t3_loop i).trips) : Fin 3 → Nat :=
  let c0_i32_15 : BitVec 32 := 0#32
  let c1_i32_17 : BitVec 32 := 1#32
  let arg11 : BitVec 32 := Scf.iv c0_i32_15 c1_i32_17 k0_t3
  let v41 : Index := Scalar.indexCast arg11
  let c0_21 : Index := 0#32
  let c0_22 : Index := 0#32
  ![v41.toNat, 0, 0]
def k0_off6 (i : grid0.Coords) (k0_t3 : Fin (k0_t3_loop i).trips) : Fin 2 → Nat :=
  let c0_i32_15 : BitVec 32 := 0#32
  let c1_i32_17 : BitVec 32 := 1#32
  let arg11 : BitVec 32 := Scf.iv c0_i32_15 c1_i32_17 k0_t3
  let c256_i32 : BitVec 32 := 256#32
  let v39 : BitVec 32 := Scalar.muli arg11 c256_i32
  let v40 : BitVec 32 := v39
  let v56 : Index := Scalar.indexCast v40
  let c0_27 : Index := 0#32
  ![v56.toNat, 0]
@[reducible] def k0_t4_loop (i : grid0.Coords) : Scf.Loop 32 :=
  let c0_i32_15 : BitVec 32 := 0#32
  let arg1 : BitVec 32 := BitVec.ofNat 32 (i 1).val
  let c1_i32_12 : BitVec 32 := 1#32
  let v28 : BitVec 32 := Scalar.addi arg1 c1_i32_12
  let v31 : BitVec 32 := Scalar.subi v28 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let v32 : BitVec 32 := Scalar.addi c0_i32_15 v31
  let c1_i32_18 : BitVec 32 := 1#32
  ⟨v35, v32, c1_i32_18⟩
def k0_mult4 (i : grid0.Coords) (k0_t4 : Fin (k0_t4_loop i).trips) : BitVec 32 :=
  let c0_i32_15 : BitVec 32 := 0#32
  let arg1 : BitVec 32 := BitVec.ofNat 32 (i 1).val
  let c1_i32_12 : BitVec 32 := 1#32
  let v28 : BitVec 32 := Scalar.addi arg1 c1_i32_12
  let v31 : BitVec 32 := Scalar.subi v28 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg11 : BitVec 32 := Scf.iv v35 c1_i32_18 k0_t4
  let c256_i32 : BitVec 32 := 256#32
  let v39 : BitVec 32 := Scalar.muli arg11 c256_i32
  v39
def k0_off7 (i : grid0.Coords) (k0_t4 : Fin (k0_t4_loop i).trips) : Fin 3 → Nat :=
  let c0_i32_15 : BitVec 32 := 0#32
  let arg1 : BitVec 32 := BitVec.ofNat 32 (i 1).val
  let c1_i32_12 : BitVec 32 := 1#32
  let v28 : BitVec 32 := Scalar.addi arg1 c1_i32_12
  let v31 : BitVec 32 := Scalar.subi v28 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg11 : BitVec 32 := Scf.iv v35 c1_i32_18 k0_t4
  let v41 : Index := Scalar.indexCast arg11
  let c0_21 : Index := 0#32
  let c0_22 : Index := 0#32
  ![v41.toNat, 0, 0]
def k0_off8 (i : grid0.Coords) (k0_t4 : Fin (k0_t4_loop i).trips) : Fin 2 → Nat :=
  let c0_i32_15 : BitVec 32 := 0#32
  let arg1 : BitVec 32 := BitVec.ofNat 32 (i 1).val
  let c1_i32_12 : BitVec 32 := 1#32
  let v28 : BitVec 32 := Scalar.addi arg1 c1_i32_12
  let v31 : BitVec 32 := Scalar.subi v28 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg11 : BitVec 32 := Scf.iv v35 c1_i32_18 k0_t4
  let c256_i32 : BitVec 32 := 256#32
  let v39 : BitVec 32 := Scalar.muli arg11 c256_i32
  let v40 : BitVec 32 := v39
  let v56 : Index := Scalar.indexCast v40
  let c0_27 : Index := 0#32
  ![v56.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2048x4096 : Shape := ⟨2, ![2048, 4096]⟩
abbrev S2048x2048 : Shape := ⟨2, ![2048, 2048]⟩
abbrev S2048x16x128 : Shape := ⟨3, ![2048, 16, 128]⟩
abbrev S16x2048x128 : Shape := ⟨3, ![16, 2048, 128]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S16x128x2048 : Shape := ⟨3, ![16, 128, 2048]⟩

abbrev nBuf : Space → Nat
  | .hbm => 181
  | .vmem => 0
  | .smem => 0
  | _ => 0

abbrev hbmTy0_0 (i : Nat) : BufTy := match i % 128 with
  | 0 => ⟨S2048x4096, .bf16⟩
  | 1 => ⟨S2048x2048, .bf16⟩
  | 2 => ⟨S2048x2048, .bf16⟩
  | 3 => ⟨S2048x4096, .f32⟩
  | 4 => ⟨S2048x2048, .f32⟩
  | 5 => ⟨S2048x2048, .f32⟩
  | 6 => ⟨S2048x2048, .f32⟩
  | 7 => ⟨S2048x2048, .f32⟩
  | 8 => ⟨S2048x16x128, .f32⟩
  | 9 => ⟨S16x2048x128, .f32⟩
  | 10 => ⟨S2048x16x128, .f32⟩
  | 11 => ⟨S16x2048x128, .f32⟩
  | 12 => ⟨S2048x16x128, .f32⟩
  | 13 => ⟨S16x2048x128, .f32⟩
  | 14 => ⟨S16x2048x2048, .f32⟩
  | 15 => ⟨S_, .f32⟩
  | 16 => ⟨S16x2048x2048, .f32⟩
  | 17 => ⟨S16x2048x2048, .f32⟩
  | 18 => ⟨S2048, .i32⟩
  | 19 => ⟨S1x2048, .i32⟩
  | 20 => ⟨S2048, .i32⟩
  | 21 => ⟨S2048x1, .i32⟩
  | 22 => ⟨S2048x2048, .i32⟩
  | 23 => ⟨S2048x2048, .i32⟩
  | 24 => ⟨S2048x2048, .i1⟩
  | 25 => ⟨S16x2048x2048, .f32⟩
  | 26 => ⟨S_, .f32⟩
  | 27 => ⟨S16x2048x2048, .f32⟩
  | 28 => ⟨S16x2048x2048, .f32⟩
  | 29 => ⟨S16x2048x2048, .f32⟩
  | 30 => ⟨S16x2048x2048, .f32⟩
  | 31 => ⟨S16x2048x2048, .i1⟩
  | 32 => ⟨S16x2048x2048, .f32⟩
  | 33 => ⟨S16x2048x2048, .f32⟩
  | 34 => ⟨S16x2048x2048, .f32⟩
  | 35 => ⟨S16x2048x2048, .f32⟩
  | 36 => ⟨S16x2048x2048, .f32⟩
  | 37 => ⟨S16x2048x2048, .f32⟩
  | 38 => ⟨S16x2048x2048, .f32⟩
  | 39 => ⟨S16x2048x2048, .f32⟩
  | 40 => ⟨S_, .f32⟩
  | 41 => ⟨S16x2048x2048, .f32⟩
  | 42 => ⟨S16x2048x2048, .i1⟩
  | 43 => ⟨S_, .f32⟩
  | 44 => ⟨S16x2048x2048, .f32⟩
  | 45 => ⟨S16x2048x2048, .f32⟩
  | 46 => ⟨S_, .f32⟩
  | 47 => ⟨S16x2048x2048, .f32⟩
  | 48 => ⟨S16x2048x2048, .i1⟩
  | 49 => ⟨S_, .f32⟩
  | 50 => ⟨S16x2048x2048, .f32⟩
  | 51 => ⟨S16x2048x2048, .f32⟩
  | 52 => ⟨S16x2048x2048, .f32⟩
  | 53 => ⟨S16x2048x2048, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S16x2048x2048, .f32⟩
  | 62 => ⟨S16x2048x2048, .i1⟩
  | 63 => ⟨S_, .f32⟩
  | 64 => ⟨S16x2048x2048, .f32⟩
  | 65 => ⟨S16x2048x2048, .f32⟩
  | 66 => ⟨S16x2048x2048, .f32⟩
  | 67 => ⟨S16x2048x2048, .f32⟩
  | 68 => ⟨S16x2048x2048, .f32⟩
  | 69 => ⟨S_, .f32⟩
  | 70 => ⟨S16x2048x2048, .f32⟩
  | 71 => ⟨S16x2048x2048, .f32⟩
  | 72 => ⟨S16x2048x2048, .f32⟩
  | 73 => ⟨S16x2048x2048, .f32⟩
  | 74 => ⟨S16x2048x2048, .f32⟩
  | 75 => ⟨S_, .f32⟩
  | 76 => ⟨S16x2048x2048, .f32⟩
  | 77 => ⟨S16x2048x2048, .f32⟩
  | 78 => ⟨S16x2048x2048, .f32⟩
  | 79 => ⟨S16x2048x2048, .f32⟩
  | 80 => ⟨S16x2048x2048, .i1⟩
  | 81 => ⟨S16x2048x2048, .f32⟩
  | 82 => ⟨S16x2048x2048, .f32⟩
  | 83 => ⟨S16x2048x2048, .f32⟩
  | 84 => ⟨S16x2048x2048, .f32⟩
  | 85 => ⟨S16x2048x2048, .f32⟩
  | 86 => ⟨S16x2048x2048, .f32⟩
  | 87 => ⟨S16x2048x2048, .f32⟩
  | 88 => ⟨S16x2048x2048, .f32⟩
  | 89 => ⟨S_, .f32⟩
  | 90 => ⟨S16x2048x2048, .f32⟩
  | 91 => ⟨S16x2048x2048, .i1⟩
  | 92 => ⟨S_, .f32⟩
  | 93 => ⟨S16x2048x2048, .f32⟩
  | 94 => ⟨S16x2048x2048, .f32⟩
  | 95 => ⟨S_, .f32⟩
  | 96 => ⟨S16x2048x2048, .f32⟩
  | 97 => ⟨S16x2048x2048, .i1⟩
  | 98 => ⟨S_, .f32⟩
  | 99 => ⟨S16x2048x2048, .f32⟩
  | 100 => ⟨S16x2048x2048, .f32⟩
  | 101 => ⟨S16x2048x2048, .f32⟩
  | 102 => ⟨S16x2048x2048, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S_, .f32⟩
  | 110 => ⟨S16x2048x2048, .f32⟩
  | 111 => ⟨S16x2048x2048, .i1⟩
  | 112 => ⟨S_, .f32⟩
  | 113 => ⟨S16x2048x2048, .f32⟩
  | 114 => ⟨S16x2048x2048, .f32⟩
  | 115 => ⟨S16x2048x2048, .f32⟩
  | 116 => ⟨S16x2048x2048, .f32⟩
  | 117 => ⟨S16x2048x2048, .f32⟩
  | 118 => ⟨S_, .f32⟩
  | 119 => ⟨S16x2048x2048, .f32⟩
  | 120 => ⟨S16x2048x2048, .f32⟩
  | 121 => ⟨S16x2048x2048, .f32⟩
  | 122 => ⟨S_, .f32⟩
  | 123 => ⟨S_, .f32⟩
  | 124 => ⟨S16x2048x2048, .i1⟩
  | 125 => ⟨S16x2048x2048, .f32⟩
  | 126 => ⟨S16x2048x2048, .f32⟩
  | 127 => ⟨S_, .f32⟩
  | _ => ⟨S2048x4096, .bf16⟩

abbrev hbmTy0_1 (i : Nat) : BufTy := match i % 128 with
  | 0 => ⟨S16x2048x2048, .f32⟩
  | 1 => ⟨S_, .f32⟩
  | 2 => ⟨S_, .f32⟩
  | 3 => ⟨S16x2048x2048, .f32⟩
  | 4 => ⟨S16x2048x2048, .f32⟩
  | 5 => ⟨S16x2048x2048, .f32⟩
  | 6 => ⟨S16x2048x2048, .f32⟩
  | 7 => ⟨S_, .f32⟩
  | 8 => ⟨S_, .f32⟩
  | 9 => ⟨S16x2048x2048, .i1⟩
  | 10 => ⟨S16x2048x2048, .f32⟩
  | 11 => ⟨S16x2048x2048, .f32⟩
  | 12 => ⟨S_, .f32⟩
  | 13 => ⟨S16x2048x2048, .f32⟩
  | 14 => ⟨S16x2048x128, .f32⟩
  | 15 => ⟨S2048x16x128, .f32⟩
  | 16 => ⟨S2048x2048, .f32⟩
  | 17 => ⟨S2048x16x128, .f32⟩
  | 18 => ⟨S16x2048x128, .f32⟩
  | 19 => ⟨S16x128x2048, .f32⟩
  | 20 => ⟨S16x2048x128, .f32⟩
  | 21 => ⟨S16x2048x2048, .f32⟩
  | 22 => ⟨S_, .f32⟩
  | 23 => ⟨S16x2048x2048, .f32⟩
  | 24 => ⟨S16x2048x2048, .f32⟩
  | 25 => ⟨S16x2048x2048, .f32⟩
  | 26 => ⟨S16x2048x2048, .f32⟩
  | 27 => ⟨S_, .f32⟩
  | 28 => ⟨S_, .f32⟩
  | 29 => ⟨S16x2048x2048, .f32⟩
  | 30 => ⟨S16x2048x2048, .f32⟩
  | 31 => ⟨S_, .f32⟩
  | 32 => ⟨S16x2048x2048, .f32⟩
  | 33 => ⟨S16x2048x2048, .f32⟩
  | 34 => ⟨S16x2048x2048, .f32⟩
  | 35 => ⟨S16x2048x2048, .f32⟩
  | 36 => ⟨S16x2048x2048, .f32⟩
  | 37 => ⟨S16x2048x2048, .f32⟩
  | 38 => ⟨S16x2048x2048, .f32⟩
  | 39 => ⟨S16x2048x2048, .f32⟩
  | 40 => ⟨S16x2048x2048, .f32⟩
  | 41 => ⟨S16x2048x2048, .f32⟩
  | 42 => ⟨S_, .f32⟩
  | 43 => ⟨S16x2048x2048, .f32⟩
  | 44 => ⟨S16x2048x2048, .f32⟩
  | 45 => ⟨S16x2048x128, .f32⟩
  | 46 => ⟨S16x2048x128, .f32⟩
  | 47 => ⟨S2048x16x128, .f32⟩
  | 48 => ⟨S2048x2048, .f32⟩
  | 49 => ⟨S2048x16x128, .f32⟩
  | 50 => ⟨S2048x2048, .f32⟩
  | 51 => ⟨S2048x16x128, .f32⟩
  | 52 => ⟨S2048x2048, .f32⟩
  | _ => ⟨S2048x4096, .bf16⟩

abbrev hbmTy (i : Nat) : BufTy := match i / 128 with
  | 0 => hbmTy0_0 i
  | 1 => hbmTy0_1 i
  | _ => ⟨S2048x4096, .bf16⟩

abbrev bufTy : (tb : Table) → Fin (tcTables nBuf tb) → BufTy
  | .hbm, ⟨i, _⟩ => hbmTy i
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v21_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v21_2 : Ref sig .tc := ⟨.hbm, 71, rfl⟩
abbrev main_v21_0 : Ref sig .tc := ⟨.hbm, 72, rfl⟩
abbrev main_v22 : Ref sig .tc := ⟨.hbm, 73, rfl⟩
abbrev main_call1_v0 : Ref sig .tc := ⟨.hbm, 74, rfl⟩
abbrev main_call1_call0_cst : Ref sig .tc := ⟨.hbm, 75, rfl⟩
abbrev main_call1_call0_v0 : Ref sig .tc := ⟨.hbm, 76, rfl⟩
abbrev main_call1_call0_v1 : Ref sig .tc := ⟨.hbm, 77, rfl⟩
abbrev main_call1_call0_v2 : Ref sig .tc := ⟨.hbm, 78, rfl⟩
abbrev main_call1_call0_v3 : Ref sig .tc := ⟨.hbm, 79, rfl⟩
abbrev main_call1_call0_v4 : Ref sig .tc := ⟨.hbm, 80, rfl⟩
abbrev main_call1_call0_v5 : Ref sig .tc := ⟨.hbm, 81, rfl⟩
abbrev main_call1_call0_v6 : Ref sig .tc := ⟨.hbm, 82, rfl⟩
abbrev main_call1_call0_v7 : Ref sig .tc := ⟨.hbm, 83, rfl⟩
abbrev main_call1_call0_v8 : Ref sig .tc := ⟨.hbm, 84, rfl⟩
abbrev main_call1_call0_v9 : Ref sig .tc := ⟨.hbm, 85, rfl⟩
abbrev main_call1_call0_v10 : Ref sig .tc := ⟨.hbm, 86, rfl⟩
abbrev main_call1_call0_v11 : Ref sig .tc := ⟨.hbm, 87, rfl⟩
abbrev main_call1_v1_0 : Ref sig .tc := ⟨.hbm, 88, rfl⟩
abbrev main_call1_call0_cst_0 : Ref sig .tc := ⟨.hbm, 89, rfl⟩
abbrev main_call1_call0_v13 : Ref sig .tc := ⟨.hbm, 90, rfl⟩
abbrev main_call1_call0_v14 : Ref sig .tc := ⟨.hbm, 91, rfl⟩
abbrev main_call1_call0_cst_1 : Ref sig .tc := ⟨.hbm, 92, rfl⟩
abbrev main_call1_call0_v15 : Ref sig .tc := ⟨.hbm, 93, rfl⟩
abbrev main_call1_call0_v16 : Ref sig .tc := ⟨.hbm, 94, rfl⟩
abbrev main_call1_call0_cst_2 : Ref sig .tc := ⟨.hbm, 95, rfl⟩
abbrev main_call1_call0_v17 : Ref sig .tc := ⟨.hbm, 96, rfl⟩
abbrev main_call1_call0_v18 : Ref sig .tc := ⟨.hbm, 97, rfl⟩
abbrev main_call1_call0_cst_3 : Ref sig .tc := ⟨.hbm, 98, rfl⟩
abbrev main_call1_call0_v19 : Ref sig .tc := ⟨.hbm, 99, rfl⟩
abbrev main_call1_call0_v20 : Ref sig .tc := ⟨.hbm, 100, rfl⟩
abbrev main_call1_call0_v21 : Ref sig .tc := ⟨.hbm, 101, rfl⟩
abbrev main_v23_1 : Ref sig .tc := ⟨.hbm, 102, rfl⟩
abbrev main_call1_call0_cst_4 : Ref sig .tc := ⟨.hbm, 103, rfl⟩
abbrev main_call1_call0_cst_5 : Ref sig .tc := ⟨.hbm, 104, rfl⟩
abbrev main_call1_call0_v23 : Ref sig .tc := ⟨.hbm, 105, rfl⟩
abbrev main_call1_call0_cst_6 : Ref sig .tc := ⟨.hbm, 106, rfl⟩
abbrev main_call1_call0_cst_7 : Ref sig .tc := ⟨.hbm, 107, rfl⟩
abbrev main_call1_call0_v24 : Ref sig .tc := ⟨.hbm, 108, rfl⟩
abbrev main_call1_call0_cst_8 : Ref sig .tc := ⟨.hbm, 109, rfl⟩
abbrev main_call1_call0_v25 : Ref sig .tc := ⟨.hbm, 110, rfl⟩
abbrev main_call1_call0_v26 : Ref sig .tc := ⟨.hbm, 111, rfl⟩
abbrev main_call1_call0_cst_9 : Ref sig .tc := ⟨.hbm, 112, rfl⟩
abbrev main_call1_call0_v27 : Ref sig .tc := ⟨.hbm, 113, rfl⟩
abbrev main_call1_call0_v28 : Ref sig .tc := ⟨.hbm, 114, rfl⟩
abbrev main_call1_call0_v29 : Ref sig .tc := ⟨.hbm, 115, rfl⟩
abbrev main_call1_call0_v30 : Ref sig .tc := ⟨.hbm, 116, rfl⟩
abbrev main_call1_call0_v31 : Ref sig .tc := ⟨.hbm, 117, rfl⟩
abbrev main_call1_call0_cst_10 : Ref sig .tc := ⟨.hbm, 118, rfl⟩
abbrev main_call1_call0_v32 : Ref sig .tc := ⟨.hbm, 119, rfl⟩
abbrev main_v23_2 : Ref sig .tc := ⟨.hbm, 120, rfl⟩
abbrev main_v23_0 : Ref sig .tc := ⟨.hbm, 121, rfl⟩
abbrev main_cst_0 : Ref sig .tc := ⟨.hbm, 122, rfl⟩
abbrev main_call2_v0 : Ref sig .tc := ⟨.hbm, 123, rfl⟩
abbrev main_v24_1 : Ref sig .tc := ⟨.hbm, 124, rfl⟩
abbrev main_call2_v2 : Ref sig .tc := ⟨.hbm, 125, rfl⟩
abbrev main_v24_0 : Ref sig .tc := ⟨.hbm, 126, rfl⟩
abbrev main_call2_cst : Ref sig .tc := ⟨.hbm, 127, rfl⟩
abbrev main_v24_2 : Ref sig .tc := ⟨.hbm, 128, rfl⟩
abbrev main_call3_cst : Ref sig .tc := ⟨.hbm, 129, rfl⟩
abbrev main_call3_v0 : Ref sig .tc := ⟨.hbm, 130, rfl⟩
abbrev main_v25 : Ref sig .tc := ⟨.hbm, 131, rfl⟩
abbrev main_v26 : Ref sig .tc := ⟨.hbm, 132, rfl⟩
abbrev main_v27 : Ref sig .tc := ⟨.hbm, 133, rfl⟩
abbrev main_v28 : Ref sig .tc := ⟨.hbm, 134, rfl⟩
abbrev main_cst_1 : Ref sig .tc := ⟨.hbm, 135, rfl⟩
abbrev main_call4_v0 : Ref sig .tc := ⟨.hbm, 136, rfl⟩
abbrev main_v29_1 : Ref sig .tc := ⟨.hbm, 137, rfl⟩
abbrev main_call4_v2 : Ref sig .tc := ⟨.hbm, 138, rfl⟩
abbrev main_v29_0 : Ref sig .tc := ⟨.hbm, 139, rfl⟩
abbrev main_call4_cst : Ref sig .tc := ⟨.hbm, 140, rfl⟩
abbrev main_v29_2 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_call5_cst : Ref sig .tc := ⟨.hbm, 150, rfl⟩
abbrev main_call5_v0 : Ref sig .tc := ⟨.hbm, 151, rfl⟩
abbrev main_v38 : Ref sig .tc := ⟨.hbm, 152, rfl⟩
abbrev main_v39 : Ref sig .tc := ⟨.hbm, 153, rfl⟩
abbrev main_v40 : Ref sig .tc := ⟨.hbm, 154, rfl⟩
abbrev main_call6_cst : Ref sig .tc := ⟨.hbm, 155, rfl⟩
abbrev main_call6_v0 : Ref sig .tc := ⟨.hbm, 156, rfl⟩
abbrev main_v41 : Ref sig .tc := ⟨.hbm, 157, rfl⟩
abbrev main_v42 : Ref sig .tc := ⟨.hbm, 158, rfl⟩
abbrev main_call7_cst : Ref sig .tc := ⟨.hbm, 159, rfl⟩
abbrev main_call7_v0 : Ref sig .tc := ⟨.hbm, 160, rfl⟩
abbrev main_v43 : Ref sig .tc := ⟨.hbm, 161, rfl⟩
abbrev main_call8_v0 : Ref sig .tc := ⟨.hbm, 162, rfl⟩
abbrev main_call8_v1 : Ref sig .tc := ⟨.hbm, 163, rfl⟩
abbrev main_v44 : Ref sig .tc := ⟨.hbm, 164, rfl⟩
abbrev main_v45 : Ref sig .tc := ⟨.hbm, 165, rfl⟩
abbrev main_call9_v0 : Ref sig .tc := ⟨.hbm, 166, rfl⟩
abbrev main_call9_v1 : Ref sig .tc := ⟨.hbm, 167, rfl⟩
abbrev main_v46 : Ref sig .tc := ⟨.hbm, 168, rfl⟩
abbrev main_v47 : Ref sig .tc := ⟨.hbm, 169, rfl⟩
abbrev main_cst_2 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩

abbrev nD : Nat := 1
abbrev τ : Topo := Topo.v7x

variable {F : FTy → Type} [FloatOps F]
-- ==== Kernel2.lean ====
abbrev S2048x2048 : Shape := ⟨2, ![2048, 2048]⟩
abbrev S1x2048 : Shape := ⟨2, ![1, 2048]⟩
abbrev S8x2048x1408 : Shape := ⟨3, ![8, 2048, 1408]⟩
abbrev S5632x2048 : Shape := ⟨2, ![5632, 2048]⟩
abbrev S3x11264 : Shape := ⟨2, ![3, 11264]⟩
abbrev S1x11264 : Shape := ⟨2, ![1, 11264]⟩
abbrev S256x2048 : Shape := ⟨2, ![256, 2048]⟩
abbrev S256 : Shape := ⟨1, ![256]⟩
abbrev S256x1 : Shape := ⟨2, ![256, 1]⟩
abbrev S2048x11264 : Shape := ⟨2, ![2048, 11264]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩
abbrev S2048x5632 : Shape := ⟨2, ![2048, 5632]⟩
abbrev S2048x256 : Shape := ⟨2, ![2048, 256]⟩
abbrev S3x256 : Shape := ⟨2, ![3, 256]⟩
abbrev S1x256 : Shape := ⟨2, ![1, 256]⟩
abbrev S1024x5632 : Shape := ⟨2, ![1024, 5632]⟩
abbrev S5632x512 : Shape := ⟨2, ![5632, 512]⟩
abbrev S1024x512 : Shape := ⟨2, ![1024, 512]⟩
abbrev S1408x2048 : Shape := ⟨2, ![1408, 2048]⟩
abbrev S2048x512 : Shape := ⟨2, ![2048, 512]⟩
abbrev S2048x1024 : Shape := ⟨2, ![2048, 1024]⟩
abbrev S512x1024 : Shape := ⟨2, ![512, 1024]⟩
abbrev S3x5632 : Shape := ⟨2, ![3, 5632]⟩
abbrev S1x5632 : Shape := ⟨2, ![1, 5632]⟩
abbrev S1x512x1408 : Shape := ⟨3, ![1, 512, 1408]⟩

abbrev nBuf : Space → Nat
  | .hbm => 23
  | .vmem => 79
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S8x2048x1408, .bf16⟩
  | .hbm, ⟨3, _⟩ => ⟨S5632x2048, .bf16⟩
  | .hbm, ⟨4, _⟩ => ⟨S3x11264, .f32⟩
  | .hbm, ⟨5, _⟩ => ⟨S1x11264, .f32⟩
  | .hbm, ⟨6, _⟩ => ⟨S2048x2048, .f32⟩
  | .hbm, ⟨7, _⟩ => ⟨S2048x2048, .bf16⟩
  | .hbm, ⟨8, _⟩ => ⟨S2048x11264, .f32⟩
  | .hbm, ⟨9, _⟩ => ⟨S2048x5632, .bf16⟩
  | .hbm, ⟨10, _⟩ => ⟨S2048x2048, .f32⟩
  | .hbm, ⟨11, _⟩ => ⟨S2048x2048, .bf16⟩
  | .hbm, ⟨12, _⟩ => ⟨S2048x5632, .f32⟩
  | .hbm, ⟨13, _⟩ => ⟨S5632x2048, .bf16⟩
  | .hbm, ⟨14, _⟩ => ⟨S2048x5632, .bf16⟩
  | .hbm, ⟨15, _⟩ => ⟨S2048x5632, .bf16⟩
  | .hbm, ⟨16, _⟩ => ⟨S3x5632, .f32⟩
  | .hbm, ⟨17, _⟩ => ⟨S3x5632, .f32⟩
  | .hbm, ⟨18, _⟩ => ⟨S1x5632, .f32⟩
  | .hbm, ⟨19, _⟩ => ⟨S1x5632, .f32⟩
  | .hbm, ⟨20, _⟩ => ⟨S3x11264, .f32⟩
  | .hbm, ⟨21, _⟩ => ⟨S1x11264, .f32⟩
  | .hbm, ⟨22, _⟩ => ⟨S8x2048x1408, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S512x2048, .bf16⟩
  | .local _ .vmem, ⟨6, _⟩ => ⟨S512x2048, .bf16⟩
  | .local _ .vmem, ⟨7, _⟩ => ⟨S1x2048x1408, .bf16⟩
  | .local _ .vmem, ⟨8, _⟩ => ⟨S1x2048x1408, .bf16⟩
  | .local _ .vmem, ⟨9, _⟩ => ⟨S512x1408, .f32⟩
  | .local _ .vmem, ⟨10, _⟩ => ⟨S512x1408, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S3x256, .f32⟩
  | .local _ .vmem, ⟨16, _⟩ => ⟨S3x256, .f32⟩
  | .local _ .vmem, ⟨17, _⟩ => ⟨S3x256, .f32⟩
  | .local _ .vmem, ⟨18, _⟩ => ⟨S3x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S2048x256, .bf16⟩
  | .local _ .vmem, ⟨24, _⟩ => ⟨S2048x256, .bf16⟩
  | .local _ .vmem, ⟨25, _⟩ => ⟨S1024x5632, .bf16⟩
  | .local _ .vmem, ⟨26, _⟩ => ⟨S1024x5632, .bf16⟩
  | .local _ .vmem, ⟨27, _⟩ => ⟨S5632x512, .bf16⟩
  | .local _ .vmem, ⟨28, _⟩ => ⟨S5632x512, .bf16⟩
  | .local _ .vmem, ⟨29, _⟩ => ⟨S1024x512, .f32⟩
  | .local _ .vmem, ⟨30, _⟩ => ⟨S1024x512, .f32⟩
  | .local _ .vmem, ⟨31, _⟩ => ⟨S1024x512, .f32⟩
  | .local _ .vmem, ⟨32, _⟩ => ⟨S1024x512, .f32⟩
  | .local _ .vmem, ⟨33, _⟩ => ⟨S512x2048, .bf16⟩
  | .local _ .vmem, ⟨34, _⟩ => ⟨S512x2048, .bf16⟩
  | .local _ .vmem, ⟨35, _⟩ => ⟨S1408x2048, .bf16⟩
  | .local _ .vmem, ⟨36, _⟩ => ⟨S1408x2048, .bf16⟩
  | .local _ .vmem, ⟨37, _⟩ => ⟨S512x1408, .f32⟩
  | .local _ .vmem, ⟨38, _⟩ => ⟨S512x1408, .f32⟩
  | .local _ .vmem, ⟨39, _⟩ => ⟨S2048x512, .bf16⟩
  | .local _ .vmem, ⟨40, _⟩ => ⟨S2048x512, .bf16⟩
  | .local _ .vmem, ⟨41, _⟩ => ⟨S2048x1024, .bf16⟩
  | .local _ .vmem, ⟨42, _⟩ => ⟨S2048x1024, .bf16⟩
  | .local _ .vmem, ⟨43, _⟩ => ⟨S512x1024, .bf16⟩
  | .local _ .vmem, ⟨44, _⟩ => ⟨S512x1024, .bf16⟩
  | .local _ .vmem, ⟨45, _⟩ => ⟨S2048x256, .f32⟩
  | .local _ .vmem, ⟨46, _⟩ => ⟨S2048x256, .f32⟩
  | .local _ .vmem, ⟨47, _⟩ => ⟨S2048x256, .f32⟩
  | .local _ .vmem, ⟨48, _⟩ => ⟨S2048x256, .f32⟩
  | .local _ .vmem, ⟨49, _⟩ => ⟨S2048x256, .f32⟩
  | .local _ .vmem, ⟨50, _⟩ => ⟨S2048x256, .f32⟩
  | .local _ .vmem, ⟨51, _⟩ => ⟨S3x256, .f32⟩
  | .local _ .vmem, ⟨52, _⟩ => ⟨S3x256, .f32⟩
  | .local _ .vmem, ⟨53, _⟩ => ⟨S3x256, .f32⟩
  | .local _ .vmem, ⟨54, _⟩ => ⟨S3x256, .f32⟩
  | .local _ .vmem, ⟨55, _⟩ => ⟨S1x256, .f32⟩
  | .local _ .vmem, ⟨56, _⟩ => ⟨S1x256, .f32⟩
  | .local _ .vmem, ⟨57, _⟩ => ⟨S1x256, .f32⟩
  | .local _ .vmem, ⟨58, _⟩ => ⟨S1x256, .f32⟩
  | .local _ .vmem, ⟨59, _⟩ => ⟨S2048x256, .bf16⟩
  | .local _ .vmem, ⟨60, _⟩ => ⟨S2048x256, .bf16⟩
  | .local _ .vmem, ⟨61, _⟩ => ⟨S2048x256, .bf16⟩
  | .local _ .vmem, ⟨62, _⟩ => ⟨S2048x256, .bf16⟩
  | .local _ .vmem, ⟨63, _⟩ => ⟨S3x256, .f32⟩
  | .local _ .vmem, ⟨64, _⟩ => ⟨S3x256, .f32⟩
  | .local _ .vmem, ⟨65, _⟩ => ⟨S3x256, .f32⟩
  | .local _ .vmem, ⟨66, _⟩ => ⟨S3x256, .f32⟩
  | .local _ .vmem, ⟨67, _⟩ => ⟨S1x256, .f32⟩
  | .local _ .vmem, ⟨68, _⟩ => ⟨S1x256, .f32⟩
  | .local _ .vmem, ⟨69, _⟩ => ⟨S1x256, .f32⟩
  | .local _ .vmem, ⟨70, _⟩ => ⟨S1x256, .f32⟩
  | .local _ .vmem, ⟨71, _⟩ => ⟨S2048x512, .bf16⟩
  | .local _ .vmem, ⟨72, _⟩ => ⟨S2048x512, .bf16⟩
  | .local _ .vmem, ⟨73, _⟩ => ⟨S2048x1408, .bf16⟩
  | .local _ .vmem, ⟨74, _⟩ => ⟨S2048x1408, .bf16⟩
  | .local _ .vmem, ⟨75, _⟩ => ⟨S2048x1408, .bf16⟩
  | .local _ .vmem, ⟨76, _⟩ => ⟨S2048x1408, .bf16⟩
  | .local _ .vmem, ⟨77, _⟩ => ⟨S1x512x1408, .bf16⟩
  | .local _ .vmem, ⟨78, _⟩ => ⟨S1x512x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg3_1 : Ref sig .tc := ⟨.vmem, 52, rfl⟩
abbrev cc6_stg4_0 : Ref sig .tc := ⟨.vmem, 53, rfl⟩
abbrev cc6_stg4_1 : Ref sig .tc := ⟨.vmem, 54, rfl⟩
abbrev cc6_stg5_0 : Ref sig .tc := ⟨.vmem, 55, rfl⟩
abbrev cc6_stg5_1 : Ref sig .tc := ⟨.vmem, 56, rfl⟩
abbrev cc6_stg6_0 : Ref sig .tc := ⟨.vmem, 57, rfl⟩
abbrev cc6_stg6_1 : Ref sig .tc := ⟨.vmem, 58, rfl⟩
abbrev cc6_stg7_0 : Ref sig .tc := ⟨.vmem, 59, rfl⟩
abbrev cc6_stg7_1 : Ref sig .tc := ⟨.vmem, 60, rfl⟩
abbrev cc6_stg8_0 : Ref sig .tc := ⟨.vmem, 61, rfl⟩
abbrev cc6_stg8_1 : Ref sig .tc := ⟨.vmem, 62, rfl⟩
abbrev cc6_stg9_0 : Ref sig .tc := ⟨.vmem, 63, rfl⟩
abbrev cc6_stg9_1 : Ref sig .tc := ⟨.vmem, 64, rfl⟩
abbrev cc6_stg10_0 : Ref sig .tc := ⟨.vmem, 65, rfl⟩
abbrev cc6_stg10_1 : Ref sig .tc := ⟨.vmem, 66, rfl⟩
abbrev cc6_stg11_0 : Ref sig .tc := ⟨.vmem, 67, rfl⟩
abbrev cc6_stg11_1 : Ref sig .tc := ⟨.vmem, 68, rfl⟩
abbrev cc6_stg12_0 : Ref sig .tc := ⟨.vmem, 69, rfl⟩
abbrev cc6_stg12_1 : Ref sig .tc := ⟨.vmem, 70, rfl⟩
abbrev cc7_stg0_0 : Ref sig .tc := ⟨.vmem, 71, rfl⟩
abbrev cc7_stg0_1 : Ref sig .tc := ⟨.vmem, 72, rfl⟩
abbrev cc7_stg1_0 : Ref sig .tc := ⟨.vmem, 73, rfl⟩
abbrev cc7_stg1_1 : Ref sig .tc := ⟨.vmem, 74, rfl⟩
abbrev cc7_stg2_0 : Ref sig .tc := ⟨.vmem, 75, rfl⟩
abbrev cc7_stg2_1 : Ref sig .tc := ⟨.vmem, 76, rfl⟩
abbrev cc7_stg3_0 : Ref sig .tc := ⟨.vmem, 77, rfl⟩
abbrev cc7_stg3_1 : Ref sig .tc := ⟨.vmem, 78, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem2_1 : DmaSem sig := 50
abbrev cc6_sem3_0 : DmaSem sig := 51
abbrev cc6_sem3_1 : DmaSem sig := 52
abbrev cc6_sem4_0 : DmaSem sig := 53
abbrev cc6_sem4_1 : DmaSem sig := 54
abbrev cc6_sem5_0 : DmaSem sig := 55
abbrev cc6_sem5_1 : DmaSem sig := 56
abbrev cc6_sem6_0 : DmaSem sig := 57
abbrev cc6_sem6_1 : DmaSem sig := 58
abbrev cc6_sem7_0 : DmaSem sig := 59
abbrev cc6_sem7_1 : DmaSem sig := 60
abbrev cc6_sem8_0 : DmaSem sig := 61
abbrev cc6_sem8_1 : DmaSem sig := 62
abbrev cc6_sem9_0 : DmaSem sig := 63
abbrev cc6_sem9_1 : DmaSem sig := 64
abbrev cc6_sem10_0 : DmaSem sig := 65
abbrev cc6_sem10_1 : DmaSem sig := 66
abbrev cc6_sem11_0 : DmaSem sig := 67
abbrev cc6_sem11_1 : DmaSem sig := 68
abbrev cc6_sem12_0 : DmaSem sig := 69
abbrev cc6_sem12_1 : DmaSem sig := 70
abbrev cc7_sem0_0 : DmaSem sig := 71
abbrev cc7_sem0_1 : DmaSem sig := 72
abbrev cc7_sem1_0 : DmaSem sig := 73
abbrev cc7_sem1_1 : DmaSem sig := 74
abbrev cc7_sem2_0 : DmaSem sig := 75
abbrev cc7_sem2_1 : DmaSem sig := 76
abbrev cc7_sem3_0 : DmaSem sig := 77
abbrev cc7_sem3_1 : DmaSem sig := 78

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![22], ![false]⟩

def cc2_transform_0 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc2_transform_1 (i : grid2.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc2_transform_3 (i : grid2.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc2_transform_4 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc2_transform_5 (i : grid2.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc2_transform_6 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2048x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x5632 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S5632x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1408x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x1408 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![11, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S2048x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨1, ![22], ![false]⟩

def cc6_transform_0 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_1 (i : grid6.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc6_transform_2 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_3 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_4 (i : grid6.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc6_transform_5 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_6 (i : grid6.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc6_transform_7 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_8 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_9 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_10 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_11 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_12 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage6_0 : Fin 2 → Memref sig .tc .vmem S2048x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2048x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S3x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S3x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S2048x256 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S2048x256 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S3x256 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S3x256 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev stage6_11 : Fin 2 → Memref sig .tc .vmem S1x256 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev stage6_12 : Fin 2 → Memref sig .tc .vmem S1x256 .f32 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true]

abbrev grid7 : Pipeline.Grid := ⟨2, ![8, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_1 (i : grid7.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc7_transform_2 (i : grid7.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage7_0 : Fin 2 → Memref sig .tc .vmem S2048x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S2048x1408 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S2048x1408 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S1x512x1408 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]
-- ==== Reference2Ideal.lean ====
abbrev S2048x2048 : Shape := ⟨2, ![2048, 2048]⟩
abbrev S1x2048 : Shape := ⟨2, ![1, 2048]⟩
abbrev S8x2048x1408 : Shape := ⟨3, ![8, 2048, 1408]⟩
abbrev S5632x2048 : Shape := ⟨2, ![5632, 2048]⟩
abbrev S3x11264 : Shape := ⟨2, ![3, 11264]⟩
abbrev S1x11264 : Shape := ⟨2, ![1, 11264]⟩
abbrev S2048x8x1408 : Shape := ⟨3, ![2048, 8, 1408]⟩
abbrev S2048x11264 : Shape := ⟨2, ![2048, 11264]⟩
abbrev S2048 : Shape := ⟨1, ![2048]⟩
abbrev S_ : Shape := ⟨0, ![]⟩
abbrev S2048x1 : Shape := ⟨2, ![2048, 1]⟩
abbrev S11264 : Shape := ⟨1, ![11264]⟩
abbrev S2x11264 : Shape := ⟨2, ![2, 11264]⟩
abbrev S2050x11264 : Shape := ⟨2, ![2050, 11264]⟩
abbrev S2048x5632 : Shape := ⟨2, ![2048, 5632]⟩
abbrev S11264x2048 : Shape := ⟨2, ![11264, 2048]⟩

abbrev nBuf : Space → Nat
  | .hbm => 179
  | .vmem => 0
  | .smem => 0
  | _ => 0

abbrev hbmTy0_0 (i : Nat) : BufTy := match i % 128 with
  | 0 => ⟨S2048x2048, .f32⟩
  | 1 => ⟨S1x2048, .f32⟩
  | 2 => ⟨S8x2048x1408, .bf16⟩
  | 3 => ⟨S5632x2048, .bf16⟩
  | 4 => ⟨S3x11264, .f32⟩
  | 5 => ⟨S1x11264, .f32⟩
  | 6 => ⟨S2048x2048, .f32⟩
  | 7 => ⟨S8x2048x1408, .f32⟩
  | 8 => ⟨S5632x2048, .f32⟩
  | 9 => ⟨S2048x8x1408, .f32⟩
  | 10 => ⟨S2048x11264, .f32⟩
  | 11 => ⟨S2048, .f32⟩
  | 12 => ⟨S2048x2048, .f32⟩
  | 13 => ⟨S_, .f32⟩
  | 14 => ⟨S2048, .f32⟩
  | 15 => ⟨S2048x1, .f32⟩
  | 16 => ⟨S_, .f32⟩
  | 17 => ⟨S2048x1, .f32⟩
  | 18 => ⟨S2048x1, .f32⟩
  | 19 => ⟨S_, .f32⟩
  | 20 => ⟨S2048x1, .f32⟩
  | 21 => ⟨S2048x1, .f32⟩
  | 22 => ⟨S2048x1, .f32⟩
  | 23 => ⟨S2048x1, .f32⟩
  | 24 => ⟨S_, .f32⟩
  | 25 => ⟨S2048x1, .f32⟩
  | 26 => ⟨S2048x1, .f32⟩
  | 27 => ⟨S2048x2048, .f32⟩
  | 28 => ⟨S2048x2048, .f32⟩
  | 29 => ⟨S1x2048, .f32⟩
  | 30 => ⟨S2048x2048, .f32⟩
  | 31 => ⟨S2048x2048, .f32⟩
  | 32 => ⟨S11264, .f32⟩
  | 33 => ⟨S2048x11264, .f32⟩
  | 34 => ⟨S_, .f32⟩
  | 35 => ⟨S2x11264, .f32⟩
  | 36 => ⟨S2050x11264, .f32⟩
  | 37 => ⟨S_, .f32⟩
  | 38 => ⟨S2x11264, .f32⟩
  | 39 => ⟨S1x11264, .f32⟩
  | 40 => ⟨S11264, .f32⟩
  | 41 => ⟨S2048x11264, .f32⟩
  | 42 => ⟨S1x11264, .f32⟩
  | 43 => ⟨S2048x11264, .f32⟩
  | 44 => ⟨S2048x11264, .f32⟩
  | 45 => ⟨S_, .f32⟩
  | 46 => ⟨S2048x11264, .f32⟩
  | 47 => ⟨S2048x11264, .f32⟩
  | 48 => ⟨S1x11264, .f32⟩
  | 49 => ⟨S11264, .f32⟩
  | 50 => ⟨S2048x11264, .f32⟩
  | 51 => ⟨S1x11264, .f32⟩
  | 52 => ⟨S2048x11264, .f32⟩
  | 53 => ⟨S2048x11264, .f32⟩
  | 54 => ⟨S2048x11264, .f32⟩
  | 55 => ⟨S1x11264, .f32⟩
  | 56 => ⟨S11264, .f32⟩
  | 57 => ⟨S2048x11264, .f32⟩
  | 58 => ⟨S1x11264, .f32⟩
  | 59 => ⟨S2048x11264, .f32⟩
  | 60 => ⟨S2048x11264, .f32⟩
  | 61 => ⟨S2048x11264, .f32⟩
  | 62 => ⟨S1x11264, .f32⟩
  | 63 => ⟨S2048x11264, .f32⟩
  | 64 => ⟨S2048x11264, .f32⟩
  | 65 => ⟨S2048x5632, .f32⟩
  | 66 => ⟨S2048x5632, .f32⟩
  | 67 => ⟨S2048x5632, .f32⟩
  | 68 => ⟨S2048x5632, .f32⟩
  | 69 => ⟨S_, .f32⟩
  | 70 => ⟨S2048x5632, .f32⟩
  | 71 => ⟨S2048x5632, .f32⟩
  | 72 => ⟨S_, .f32⟩
  | 73 => ⟨S2048x5632, .f32⟩
  | 74 => ⟨S2048x5632, .f32⟩
  | 75 => ⟨S_, .f32⟩
  | 76 => ⟨S2048x5632, .f32⟩
  | 77 => ⟨S2048x5632, .f32⟩
  | 78 => ⟨S2048x5632, .f32⟩
  | 79 => ⟨S2048x5632, .f32⟩
  | 80 => ⟨S2048x5632, .f32⟩
  | 81 => ⟨S2048x2048, .f32⟩
  | 82 => ⟨S2048x2048, .f32⟩
  | 83 => ⟨S2048x2048, .f32⟩
  | 84 => ⟨S2048x5632, .f32⟩
  | 85 => ⟨S5632x2048, .f32⟩
  | 86 => ⟨S2048x5632, .f32⟩
  | 87 => ⟨S2048x5632, .f32⟩
  | 88 => ⟨S2048x5632, .f32⟩
  | 89 => ⟨S2048x5632, .f32⟩
  | 90 => ⟨S2048x5632, .f32⟩
  | 91 => ⟨S2048x5632, .f32⟩
  | 92 => ⟨S2048x5632, .f32⟩
  | 93 => ⟨S2048x11264, .f32⟩
  | 94 => ⟨S_, .f32⟩
  | 95 => ⟨S11264, .f32⟩
  | 96 => ⟨S1x11264, .f32⟩
  | 97 => ⟨S_, .f32⟩
  | 98 => ⟨S11264, .f32⟩
  | 99 => ⟨S2048x11264, .f32⟩
  | 100 => ⟨S2048x11264, .f32⟩
  | 101 => ⟨S2048x11264, .f32⟩
  | 102 => ⟨S_, .f32⟩
  | 103 => ⟨S11264, .f32⟩
  | 104 => ⟨S1x11264, .f32⟩
  | 105 => ⟨S_, .f32⟩
  | 106 => ⟨S11264, .f32⟩
  | 107 => ⟨S_, .f32⟩
  | 108 => ⟨S2050x11264, .f32⟩
  | 109 => ⟨S1x11264, .f32⟩
  | 110 => ⟨S_, .f32⟩
  | 111 => ⟨S3x11264, .f32⟩
  | 112 => ⟨S2048x11264, .f32⟩
  | 113 => ⟨S2048x11264, .f32⟩
  | 114 => ⟨S2048x11264, .f32⟩
  | 115 => ⟨S_, .f32⟩
  | 116 => ⟨S11264, .f32⟩
  | 117 => ⟨S1x11264, .f32⟩
  | 118 => ⟨S_, .f32⟩
  | 119 => ⟨S11264, .f32⟩
  | 120 => ⟨S_, .f32⟩
  | 121 => ⟨S2050x11264, .f32⟩
  | 122 => ⟨S2050x11264, .f32⟩
  | 123 => ⟨S1x11264, .f32⟩
  | 124 => ⟨S_, .f32⟩
  | 125 => ⟨S3x11264, .f32⟩
  | 126 => ⟨S3x11264, .f32⟩
  | 127 => ⟨S2048x11264, .f32⟩
  | _ => ⟨S2048x2048, .f32⟩

abbrev hbmTy0_1 (i : Nat) : BufTy := match i % 128 with
  | 0 => ⟨S2048x11264, .f32⟩
  | 1 => ⟨S2048x11264, .f32⟩
  | 2 => ⟨S_, .f32⟩
  | 3 => ⟨S11264, .f32⟩
  | 4 => ⟨S1x11264, .f32⟩
  | 5 => ⟨S_, .f32⟩
  | 6 => ⟨S11264, .f32⟩
  | 7 => ⟨S_, .f32⟩
  | 8 => ⟨S2050x11264, .f32⟩
  | 9 => ⟨S2050x11264, .f32⟩
  | 10 => ⟨S1x11264, .f32⟩
  | 11 => ⟨S_, .f32⟩
  | 12 => ⟨S3x11264, .f32⟩
  | 13 => ⟨S3x11264, .f32⟩
  | 14 => ⟨S2x11264, .f32⟩
  | 15 => ⟨S2048x11264, .f32⟩
  | 16 => ⟨S11264x2048, .f32⟩
  | 17 => ⟨S2048x11264, .f32⟩
  | 18 => ⟨S2048x2048, .f32⟩
  | 19 => ⟨S1x11264, .f32⟩
  | 20 => ⟨S2048x2048, .f32⟩
  | 21 => ⟨S_, .f32⟩
  | 22 => ⟨S2048, .f32⟩
  | 23 => ⟨S1x2048, .f32⟩
  | 24 => ⟨S2048x2048, .f32⟩
  | 25 => ⟨S2048x2048, .f32⟩
  | 26 => ⟨S_, .f32⟩
  | 27 => ⟨S2048, .f32⟩
  | 28 => ⟨S2048x2048, .f32⟩
  | 29 => ⟨S_, .f32⟩
  | 30 => ⟨S2048, .f32⟩
  | 31 => ⟨S2048x1, .f32⟩
  | 32 => ⟨S2048x2048, .f32⟩
  | 33 => ⟨S2048x2048, .f32⟩
  | 34 => ⟨S2048x2048, .f32⟩
  | 35 => ⟨S2048x1, .f32⟩
  | 36 => ⟨S_, .f32⟩
  | 37 => ⟨S2048x1, .f32⟩
  | 38 => ⟨S2048x1, .f32⟩
  | 39 => ⟨S_, .f32⟩
  | 40 => ⟨S2048, .f32⟩
  | 41 => ⟨S2048x2048, .f32⟩
  | 42 => ⟨S2048x2048, .f32⟩
  | 43 => ⟨S2048x2048, .f32⟩
  | 44 => ⟨S2048x2048, .f32⟩
  | 45 => ⟨S2048x2048, .f32⟩
  | 46 => ⟨S1x2048, .f32⟩
  | 47 => ⟨S2048x8x1408, .f32⟩
  | 48 => ⟨S8x2048x1408, .f32⟩
  | 49 => ⟨S8x2048x1408, .bf16⟩
  | 50 => ⟨S5632x2048, .bf16⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_v53_2 : Ref sig .tc := ⟨.hbm, 74, rfl⟩
abbrev main_call0_cst_1 : Ref sig .tc := ⟨.hbm, 75, rfl⟩
abbrev main_call0_v6 : Ref sig .tc := ⟨.hbm, 76, rfl⟩
abbrev main_call0_v7 : Ref sig .tc := ⟨.hbm, 77, rfl⟩
abbrev main_v53_1 : Ref sig .tc := ⟨.hbm, 78, rfl⟩
abbrev main_v53_0 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v63 : Ref sig .tc := ⟨.hbm, 92, rfl⟩
abbrev main_v64 : Ref sig .tc := ⟨.hbm, 93, rfl⟩
abbrev main_cst_6 : Ref sig .tc := ⟨.hbm, 94, rfl⟩
abbrev main_v65 : Ref sig .tc := ⟨.hbm, 95, rfl⟩
abbrev main_v66 : Ref sig .tc := ⟨.hbm, 96, rfl⟩
abbrev main_cst_7 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_8 : Ref sig .tc := ⟨.hbm, 102, rfl⟩
abbrev main_v71 : Ref sig .tc := ⟨.hbm, 103, rfl⟩
abbrev main_v72 : Ref sig .tc := ⟨.hbm, 104, rfl⟩
abbrev main_cst_9 : Ref sig .tc := ⟨.hbm, 105, rfl⟩
abbrev main_v73 : Ref sig .tc := ⟨.hbm, 106, rfl⟩
abbrev main_cst_10 : Ref sig .tc := ⟨.hbm, 107, rfl⟩
abbrev main_v74 : Ref sig .tc := ⟨.hbm, 108, rfl⟩
abbrev main_v75 : Ref sig .tc := ⟨.hbm, 109, rfl⟩
abbrev main_cst_11 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_12 : Ref sig .tc := ⟨.hbm, 115, rfl⟩
abbrev main_v80 : Ref sig .tc := ⟨.hbm, 116, rfl⟩
abbrev main_v81 : Ref sig .tc := ⟨.hbm, 117, rfl⟩
abbrev main_cst_13 : Ref sig .tc := ⟨.hbm, 118, rfl⟩
abbrev main_v82 : Ref sig .tc := ⟨.hbm, 119, rfl⟩
abbrev main_cst_14 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_15 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_16 : Ref sig .tc := ⟨.hbm, 130, rfl⟩
abbrev main_v91 : Ref sig .tc := ⟨.hbm, 131, rfl⟩
abbrev main_v92 : Ref sig .tc := ⟨.hbm, 132, rfl⟩
abbrev main_cst_17 : Ref sig .tc := ⟨.hbm, 133, rfl⟩
abbrev main_v93 : Ref sig .tc := ⟨.hbm, 134, rfl⟩
abbrev main_cst_18 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_19 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_20 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_21 : Ref sig .tc := ⟨.hbm, 154, rfl⟩
abbrev main_v110 : Ref sig .tc := ⟨.hbm, 155, rfl⟩
abbrev main_v111 : Ref sig .tc := ⟨.hbm, 156, rfl⟩
abbrev main_cst_22 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_23 : Ref sig .tc := ⟨.hbm, 164, rfl⟩
abbrev main_v118 : Ref sig .tc := ⟨.hbm, 165, rfl⟩
abbrev main_v119 : Ref sig .tc := ⟨.hbm, 166, rfl⟩
abbrev main_cst_24 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩

abbrev nD : Nat := 1
abbrev τ : Topo := Topo.v7x

variable {F : FTy → Type} [FloatOps F]
-- ==== Kernel3.lean ====
abbrev S2048x5632 : Shape := ⟨2, ![2048, 5632]⟩
abbrev S8x2048x1408 : Shape := ⟨3, ![8, 2048, 1408]⟩
abbrev S8x128 : Shape := ⟨2, ![8, 128]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S8x2048x1408, .bf16⟩
  | .hbm, ⟨3, _⟩ => ⟨S8x128, .f32⟩
  | .hbm, ⟨4, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S8x128, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S2048x5632 : Shape := ⟨2, ![2048, 5632]⟩
abbrev S8x2048x1408 : Shape := ⟨3, ![8, 2048, 1408]⟩
abbrev S8x128 : Shape := ⟨2, ![8, 128]⟩
abbrev S2048x8x1408 : Shape := ⟨3, ![2048, 8, 1408]⟩
abbrev S2048x11264 : Shape := ⟨2, ![2048, 11264]⟩
abbrev S_ : Shape := ⟨0, ![]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S8x2048x1408, .bf16⟩
  | .hbm, ⟨3, _⟩ => ⟨S8x128, .f32⟩
  | .hbm, ⟨4, _⟩ => ⟨S8x2048x1408, .f32⟩
  | .hbm, ⟨5, _⟩ => ⟨S2048x8x1408, .f32⟩
  | .hbm, ⟨6, _⟩ => ⟨S2048x11264, .f32⟩
  | .hbm, ⟨7, _⟩ => ⟨S2048x5632, .f32⟩
  | .hbm, ⟨8, _⟩ => ⟨S2048x5632, .f32⟩
  | .hbm, ⟨9, _⟩ => ⟨S2048x11264, .f32⟩
  | .hbm, ⟨10, _⟩ => ⟨S_, .f32⟩
  | .hbm, ⟨11, _⟩ => ⟨S2048x2048, .f32⟩
  | .hbm, ⟨12, _⟩ => ⟨S2048x11264, .f32⟩
  | .hbm, ⟨13, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S8x128, .f32⟩
  | .hbm, ⟨5, _⟩ => ⟨S2048x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S8x128, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S2048x2048 : Shape := ⟨2, ![2048, 2048]⟩
abbrev S1x2048 : Shape := ⟨2, ![1, 2048]⟩
abbrev S8x128 : Shape := ⟨2, ![8, 128]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S8x128, .f32⟩
  | .hbm, ⟨5, _⟩ => ⟨S2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel5.lean ====
abbrev S2048x2048 : Shape := ⟨2, ![2048, 2048]⟩
abbrev S2048x4096 : Shape := ⟨2, ![2048, 4096]⟩
abbrev S1x4096 : Shape := ⟨2, ![1, 4096]⟩
abbrev S256x2048 : Shape := ⟨2, ![256, 2048]⟩
abbrev S256x4096 : Shape := ⟨2, ![256, 4096]⟩
abbrev S4096 : Shape := ⟨1, ![4096]⟩

abbrev nBuf : Space → Nat
  | .hbm => 5
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x4096, .bf16⟩
  | .hbm, ⟨4, _⟩ => ⟨S1x4096, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x4096, .bf16⟩
  | .local _ .vmem, ⟨7, _⟩ => ⟨S256x4096, .bf16⟩
  | .local _ .vmem, ⟨8, _⟩ => ⟨S1x4096, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_11 : BitVec 32 := 0#32
  let v23 : BitVec 1 := Scalar.cmpi .ne v22 c0_i32_11
  v23

def k0_cond2 (i : grid0.Coords) : BitVec 1 :=
  let arg0 : BitVec 32 := BitVec.ofNat 32 (i 0).val
  let c0_i32_12 : BitVec 32 := 0#32
  let v24 : BitVec 1 := Scalar.cmpi .sgt arg0 c0_i32_12
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference5Ideal.lean ====
abbrev S2048x2048 : Shape := ⟨2, ![2048, 2048]⟩
abbrev S2048x4096 : Shape := ⟨2, ![2048, 4096]⟩
abbrev S_ : Shape := ⟨0, ![]⟩
abbrev S4096 : Shape := ⟨1, ![4096]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x4096, .f32⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S2048x4096, .f32⟩
  | .hbm, ⟨8, _⟩ => ⟨S2048x4096, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x4096, .f32⟩
  | .hbm, ⟨28, _⟩ => ⟨S_, .f32⟩
  | .hbm, ⟨29, _⟩ => ⟨S4096, .f32⟩
  | .hbm, ⟨30, _⟩ => ⟨S1x4096, .f32⟩
  | .hbm, ⟨31, _⟩ => ⟨S_, .f32⟩
  | .hbm, ⟨32, _⟩ => ⟨S4096, .f32⟩
  | .hbm, ⟨33, _⟩ => ⟨S2048x4096, .bf16⟩
  | .hbm, ⟨34, _⟩ => ⟨S1x4096, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel6.lean ====
abbrev S2048x2048 : Shape := ⟨2, ![2048, 2048]⟩
abbrev S8x2048x512 : Shape := ⟨3, ![8, 2048, 512]⟩
abbrev S1x4096 : Shape := ⟨2, ![1, 4096]⟩
abbrev S2048x4096 : Shape := ⟨2, ![2048, 4096]⟩
abbrev S512x2048 : Shape := ⟨2, ![512, 2048]⟩
abbrev S1x2048x512 : Shape := ⟨3, ![1, 2048, 512]⟩
abbrev S1x512 : Shape := ⟨2, ![1, 512]⟩
abbrev S512x512 : Shape := ⟨2, ![512, 512]⟩
abbrev S2048x512 : Shape := ⟨2, ![2048, 512]⟩
abbrev S1x512x512 : Shape := ⟨3, ![1, 512, 512]⟩

abbrev nBuf : Space → Nat
  | .hbm => 9
  | .vmem => 24
  | .smem => 0
  | _ => 0

abbrev bufTy : (tb : Table) → Fin (tcTables nBuf tb) → BufTy
  | .hbm, ⟨0, _⟩ => ⟨S2048x2048, .bf16⟩
  | .hbm, ⟨1, _⟩ => ⟨S8x2048x512, .bf16⟩
  | .hbm, ⟨2, _⟩ => ⟨S1x4096, .f32⟩
  | .hbm, ⟨3, _⟩ => ⟨S2048x2048, .f32⟩
  | .hbm, ⟨4, _⟩ => ⟨S2048x4096, .bf16⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S8x2048x512, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | .local _ .vmem, ⟨21, _⟩ => ⟨S2048x512, .bf16⟩
  | .local _ .vmem, ⟨22, _⟩ => ⟨S1x512x512, .bf16⟩
  | .local _ .vmem, ⟨23, _⟩ => ⟨S1x512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference6Ideal.lean ====
abbrev S2048x2048 : Shape := ⟨2, ![2048, 2048]⟩
abbrev S8x2048x512 : Shape := ⟨3, ![8, 2048, 512]⟩
abbrev S1x4096 : Shape := ⟨2, ![1, 4096]⟩
abbrev S2048x4096 : Shape := ⟨2, ![2048, 4096]⟩
abbrev S2048x8x512 : Shape := ⟨3, ![2048, 8, 512]⟩
abbrev S4096 : Shape := ⟨1, ![4096]⟩
abbrev S_ : Shape := ⟨0, ![]⟩
abbrev S4096x2048 : Shape := ⟨2, ![4096, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x512, .bf16⟩
  | .hbm, ⟨2, _⟩ => ⟨S1x4096, .f32⟩
  | .hbm, ⟨3, _⟩ => ⟨S2048x2048, .f32⟩
  | .hbm, ⟨4, _⟩ => ⟨S2048x4096, .bf16⟩
  | .hbm, ⟨5, _⟩ => ⟨S2048x2048, .f32⟩
  | .hbm, ⟨6, _⟩ => ⟨S8x2048x512, .f32⟩
  | .hbm, ⟨7, _⟩ => ⟨S2048x8x512, .f32⟩
  | .hbm, ⟨8, _⟩ => ⟨S2048x4096, .f32⟩
  | .hbm, ⟨9, _⟩ => ⟨S2048x4096, .f32⟩
  | .hbm, ⟨10, _⟩ => ⟨S4096, .f32⟩
  | .hbm, ⟨11, _⟩ => ⟨S1x4096, .f32⟩
  | .hbm, ⟨12, _⟩ => ⟨S2048x4096, .f32⟩
  | .hbm, ⟨13, _⟩ => ⟨S2048x4096, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x4096, .f32⟩
  | .hbm, ⟨29, _⟩ => ⟨S4096x2048, .f32⟩
  | .hbm, ⟨30, _⟩ => ⟨S2048x4096, .f32⟩
  | .hbm, ⟨31, _⟩ => ⟨S2048x8x512, .f32⟩
  | .hbm, ⟨32, _⟩ => ⟨S8x2048x512, .f32⟩
  | .hbm, ⟨33, _⟩ => ⟨S8x2048x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel7.lean ====
abbrev S2048x4096 : Shape := ⟨2, ![2048, 4096]⟩
abbrev S8x2048x512 : Shape := ⟨3, ![8, 2048, 512]⟩
abbrev S8x128 : Shape := ⟨2, ![8, 128]⟩
abbrev S2048x2048 : Shape := ⟨2, ![2048, 2048]⟩
abbrev S512x512 : Shape := ⟨2, ![512, 512]⟩
abbrev S1x1024x512 : Shape := ⟨3, ![1, 1024, 512]⟩
abbrev S512x1024 : Shape := ⟨2, ![512, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x4096, .bf16⟩
  | .hbm, ⟨1, _⟩ => ⟨S8x2048x512, .bf16⟩
  | .hbm, ⟨2, _⟩ => ⟨S8x128, .f32⟩
  | .hbm, ⟨3, _⟩ => ⟨S2048x2048, .f32⟩
  | .local _ .vmem, ⟨0, _⟩ => ⟨S512x512, .bf16⟩
  | .local _ .vmem, ⟨1, _⟩ => ⟨S512x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2048x4096 : Shape := ⟨2, ![2048, 4096]⟩
abbrev S8x2048x512 : Shape := ⟨3, ![8, 2048, 512]⟩
abbrev S8x128 : Shape := ⟨2, ![8, 128]⟩
abbrev S_ : Shape := ⟨0, ![]⟩
abbrev S2048x2048 : Shape := ⟨2, ![2048, 2048]⟩
abbrev S2048x8x512 : Shape := ⟨3, ![2048, 8, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S8x2048x512, .bf16⟩
  | .hbm, ⟨2, _⟩ => ⟨S8x128, .f32⟩
  | .hbm, ⟨3, _⟩ => ⟨S_, .f32⟩
  | .hbm, ⟨4, _⟩ => ⟨S2048x2048, .f32⟩
  | .hbm, ⟨5, _⟩ => ⟨S8x2048x512, .f32⟩
  | .hbm, ⟨6, _⟩ => ⟨S2048x8x512, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel8.lean ====
abbrev S2048x2048 : Shape := ⟨2, ![2048, 2048]⟩
abbrev S1x2048 : Shape := ⟨2, ![1, 2048]⟩
abbrev S8x2048x768 : Shape := ⟨3, ![8, 2048, 768]⟩
abbrev S2x1x128 : Shape := ⟨3, ![2, 1, 128]⟩
abbrev S2048x6144 : Shape := ⟨2, ![2048, 6144]⟩
abbrev S256x2048 : Shape := ⟨2, ![256, 2048]⟩
abbrev S256 : Shape := ⟨1, ![256]⟩
abbrev S256x1 : Shape := ⟨2, ![256, 1]⟩
abbrev S512x2048 : Shape := ⟨2, ![512, 2048]⟩
abbrev S1x2048x768 : Shape := ⟨3, ![1, 2048, 768]⟩
abbrev S512x768 : Shape := ⟨2, ![512, 768]⟩
abbrev S2048x768 : Shape := ⟨2, ![2048, 768]⟩
abbrev S2048x4096 : Shape := ⟨2, ![2048, 4096]⟩
abbrev S2048x128 : Shape := ⟨2, ![2048, 128]⟩
abbrev S1x1x128 : Shape := ⟨3, ![1, 1, 128]⟩
abbrev S2048 : Shape := ⟨1, ![2048]⟩
abbrev S2048x1 : Shape := ⟨2, ![2048, 1]⟩
abbrev S1x128 : Shape := ⟨2, ![1, 128]⟩
abbrev S2048x512 : Shape := ⟨2, ![2048, 512]⟩
abbrev S512x512 : Shape := ⟨2, ![512, 512]⟩
abbrev S2048x1024 : Shape := ⟨2, ![2048, 1024]⟩
abbrev S512x1024 : Shape := ⟨2, ![512, 1024]⟩
abbrev S1x512x768 : Shape := ⟨3, ![1, 512, 768]⟩

abbrev nBuf : Space → Nat
  | .hbm => 16
  | .vmem => 43
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S8x2048x768, .bf16⟩
  | .hbm, ⟨3, _⟩ => ⟨S2x1x128, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S2048x6144, .bf16⟩
  | .hbm, ⟨8, _⟩ => ⟨S2048x2048, .bf16⟩
  | .hbm, ⟨9, _⟩ => ⟨S2048x6144, .f32⟩
  | .hbm, ⟨10, _⟩ => ⟨S2048x4096, .bf16⟩
  | .hbm, ⟨11, _⟩ => ⟨S2048x2048, .f32⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S8x2048x768, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S512x2048, .bf16⟩
  | .local _ .vmem, ⟨6, _⟩ => ⟨S512x2048, .bf16⟩
  | .local _ .vmem, ⟨7, _⟩ => ⟨S1x2048x768, .bf16⟩
  | .local _ .vmem, ⟨8, _⟩ => ⟨S1x2048x768, .bf16⟩
  | .local _ .vmem, ⟨9, _⟩ => ⟨S512x768, .f32⟩
  | .local _ .vmem, ⟨10, _⟩ => ⟨S512x768, .f32⟩
  | .local _ .vmem, ⟨11, _⟩ => ⟨S2048x128, .f32⟩
  | .local _ .vmem, ⟨12, _⟩ => ⟨S2048x128, .f32⟩
  | .local _ .vmem, ⟨13, _⟩ => ⟨S1x1x128, .f32⟩
  | .local _ .vmem, ⟨14, _⟩ => ⟨S1x1x128, .f32⟩
  | .local _ .vmem, ⟨15, _⟩ => ⟨S2048x128, .bf16⟩
  | .local _ .vmem, ⟨16, _⟩ => ⟨S2048x128, .bf16⟩
  | .local _ .vmem, ⟨17, _⟩ => ⟨S512x2048, .bf16⟩
  | .local _ .vmem, ⟨18, _⟩ => ⟨S512x2048, .bf16⟩
  | .local _ .vmem, ⟨19, _⟩ => ⟨S2048x512, .bf16⟩
  | .local _ .vmem, ⟨20, _⟩ => ⟨S2048x512, .bf16⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x2048, .bf16⟩
  | .local _ .vmem, ⟨26, _⟩ => ⟨S512x2048, .bf16⟩
  | .local _ .vmem, ⟨27, _⟩ => ⟨S512x2048, .bf16⟩
  | .local _ .vmem, ⟨28, _⟩ => ⟨S512x2048, .bf16⟩
  | .local _ .vmem, ⟨29, _⟩ => ⟨S512x512, .bf16⟩
  | .local _ .vmem, ⟨30, _⟩ => ⟨S512x512, .bf16⟩
  | .local _ .vmem, ⟨31, _⟩ => ⟨S2048x512, .bf16⟩
  | .local _ .vmem, ⟨32, _⟩ => ⟨S2048x512, .bf16⟩
  | .local _ .vmem, ⟨33, _⟩ => ⟨S2048x1024, .bf16⟩
  | .local _ .vmem, ⟨34, _⟩ => ⟨S2048x1024, .bf16⟩
  | .local _ .vmem, ⟨35, _⟩ => ⟨S512x1024, .bf16⟩
  | .local _ .vmem, ⟨36, _⟩ => ⟨S512x1024, .bf16⟩
  | .local _ .vmem, ⟨37, _⟩ => ⟨S2048x512, .bf16⟩
  | .local _ .vmem, ⟨38, _⟩ => ⟨S2048x512, .bf16⟩
  | .local _ .vmem, ⟨39, _⟩ => ⟨S2048x768, .bf16⟩
  | .local _ .vmem, ⟨40, _⟩ => ⟨S2048x768, .bf16⟩
  | .local _ .vmem, ⟨41, _⟩ => ⟨S1x512x768, .bf16⟩
  | .local _ .vmem, ⟨42, _⟩ => ⟨S1x512x768, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc6_stg2_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc6_sem0_0 : DmaSem sig := 37
abbrev cc6_sem0_1 : DmaSem sig := 38
abbrev cc6_sem1_0 : DmaSem sig := 39
abbrev cc6_sem1_1 : DmaSem sig := 40
abbrev cc6_sem2_0 : DmaSem sig := 41
abbrev cc6_sem2_1 : DmaSem sig := 42

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S2048x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S2048x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S2048x768 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x512x768 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]
-- ==== Reference8Ideal.lean ====
abbrev S2048x2048 : Shape := ⟨2, ![2048, 2048]⟩
abbrev S1x2048 : Shape := ⟨2, ![1, 2048]⟩
abbrev S8x2048x768 : Shape := ⟨3, ![8, 2048, 768]⟩
abbrev S2x1x128 : Shape := ⟨3, ![2, 1, 128]⟩
abbrev S2048x6144 : Shape := ⟨2, ![2048, 6144]⟩
abbrev S2048 : Shape := ⟨1, ![2048]⟩
abbrev S_ : Shape := ⟨0, ![]⟩
abbrev S2048x1 : Shape := ⟨2, ![2048, 1]⟩
abbrev S2048x8x768 : Shape := ⟨3, ![2048, 8, 768]⟩
abbrev S2048x3x16x128 : Shape := ⟨4, ![2048, 3, 16, 128]⟩
abbrev S2048x1x16x128 : Shape := ⟨4, ![2048, 1, 16, 128]⟩
abbrev S2048x16x128 : Shape := ⟨3, ![2048, 16, 128]⟩
abbrev S1x1x128 : Shape := ⟨3, ![1, 1, 128]⟩
abbrev S128 : Shape := ⟨1, ![128]⟩
abbrev S2048x16 : Shape := ⟨2, ![2048, 16]⟩
abbrev S2048x16x1 : Shape := ⟨3, ![2048, 16, 1]⟩
abbrev S2048x4096 : Shape := ⟨2, ![2048, 4096]⟩
abbrev S6144x2048 : Shape := ⟨2, ![6144, 2048]⟩

abbrev nBuf : Space → Nat
  | .hbm => 89
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S8x2048x768, .bf16⟩
  | .hbm, ⟨3, _⟩ => ⟨S2x1x128, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S2048x6144, .bf16⟩
  | .hbm, ⟨8, _⟩ => ⟨S2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S8x2048x768, .f32⟩
  | .hbm, ⟨26, _⟩ => ⟨S2048x8x768, .f32⟩
  | .hbm, ⟨27, _⟩ => ⟨S2048x6144, .f32⟩
  | .hbm, ⟨28, _⟩ => ⟨S2048x6144, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x3x16x128, .f32⟩
  | .hbm, ⟨37, _⟩ => ⟨S2048x1x16x128, .f32⟩
  | .hbm, ⟨38, _⟩ => ⟨S2048x16x128, .f32⟩
  | .hbm, ⟨39, _⟩ => ⟨S1x1x128, .f32⟩
  | .hbm, ⟨40, _⟩ => ⟨S128, .f32⟩
  | .hbm, ⟨41, _⟩ => ⟨S2048x16x128, .f32⟩
  | .hbm, ⟨42, _⟩ => ⟨S_, .f32⟩
  | .hbm, ⟨43, _⟩ => ⟨S2048x16, .f32⟩
  | .hbm, ⟨44, _⟩ => ⟨S2048x16x1, .f32⟩
  | .hbm, ⟨45, _⟩ => ⟨S_, .f32⟩
  | .hbm, ⟨46, _⟩ => ⟨S2048x16x1, .f32⟩
  | .hbm, ⟨47, _⟩ => ⟨S2048x16x1, .f32⟩
  | .hbm, ⟨48, _⟩ => ⟨S_, .f32⟩
  | .hbm, ⟨49, _⟩ => ⟨S2048x16x1, .f32⟩
  | .hbm, ⟨50, _⟩ => ⟨S2048x16x1, .f32⟩
  | .hbm, ⟨51, _⟩ => ⟨S2048x16x1, .f32⟩
  | .hbm, ⟨52, _⟩ => ⟨S2048x16x128, .f32⟩
  | .hbm, ⟨53, _⟩ => ⟨S2048x16x128, .f32⟩
  | .hbm, ⟨54, _⟩ => ⟨S1x1x128, .f32⟩
  | .hbm, ⟨55, _⟩ => ⟨S2048x16x128, .f32⟩
  | .hbm, ⟨56, _⟩ => ⟨S2048x16x128, .f32⟩
  | .hbm, ⟨57, _⟩ => ⟨S2048x2048, .f32⟩
  | .hbm, ⟨58, _⟩ => ⟨S2048x1x16x128, .f32⟩
  | .hbm, ⟨59, _⟩ => ⟨S2048x16x128, .f32⟩
  | .hbm, ⟨60, _⟩ => ⟨S1x1x128, .f32⟩
  | .hbm, ⟨61, _⟩ => ⟨S128, .f32⟩
  | .hbm, ⟨62, _⟩ => ⟨S2048x16x128, .f32⟩
  | .hbm, ⟨63, _⟩ => ⟨S_, .f32⟩
  | .hbm, ⟨64, _⟩ => ⟨S2048x16, .f32⟩
  | .hbm, ⟨65, _⟩ => ⟨S2048x16x1, .f32⟩
  | .hbm, ⟨66, _⟩ => ⟨S_, .f32⟩
  | .hbm, ⟨67, _⟩ => ⟨S2048x16x1, .f32⟩
  | .hbm, ⟨68, _⟩ => ⟨S2048x16x1, .f32⟩
  | .hbm, ⟨69, _⟩ => ⟨S_, .f32⟩
  | .hbm, ⟨70, _⟩ => ⟨S2048x16x1, .f32⟩
  | .hbm, ⟨71, _⟩ => ⟨S2048x16x1, .f32⟩
  | .hbm, ⟨72, _⟩ => ⟨S2048x16x1, .f32⟩
  | .hbm, ⟨73, _⟩ => ⟨S2048x16x128, .f32⟩
  | .hbm, ⟨74, _⟩ => ⟨S2048x16x128, .f32⟩
  | .hbm, ⟨75, _⟩ => ⟨S1x1x128, .f32⟩
  | .hbm, ⟨76, _⟩ => ⟨S2048x16x128, .f32⟩
  | .hbm, ⟨77, _⟩ => ⟨S2048x16x128, .f32⟩
  | .hbm, ⟨78, _⟩ => ⟨S2048x2048, .f32⟩
  | .hbm, ⟨79, _⟩ => ⟨S2048x4096, .f32⟩
  | .hbm, ⟨80, _⟩ => ⟨S2048x4096, .bf16⟩
  | .hbm, ⟨81, _⟩ => ⟨S2048x2048, .bf16⟩
  | .hbm, ⟨82, _⟩ => ⟨S2048x2048, .bf16⟩
  | .hbm, ⟨83, _⟩ => ⟨S2048x6144, .f32⟩
  | .hbm, ⟨84, _⟩ => ⟨S6144x2048, .f32⟩
  | .hbm, ⟨85, _⟩ => ⟨S2048x6144, .f32⟩
  | .hbm, ⟨86, _⟩ => ⟨S2048x8x768, .f32⟩
  | .hbm, ⟨87, _⟩ => ⟨S8x2048x768, .f32⟩
  | .hbm, ⟨88, _⟩ => ⟨S8x2048x768, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Kernel9.lean ====
abbrev S2048x6144 : Shape := ⟨2, ![2048, 6144]⟩
abbrev S8x2048x768 : Shape := ⟨3, ![8, 2048, 768]⟩
abbrev S8x128 : Shape := ⟨2, ![8, 128]⟩
abbrev S2048x2048 : Shape := ⟨2, ![2048, 2048]⟩
abbrev S512x768 : Shape := ⟨2, ![512, 768]⟩
abbrev S1x1024x768 : Shape := ⟨3, ![1, 1024, 768]⟩
abbrev S512x1024 : Shape := ⟨2, ![512, 1024]⟩
abbrev S1024x768 : Shape := ⟨2, ![1024, 768]⟩

abbrev nBuf : Space → Nat
  | .hbm => 4
  | .vmem => 8
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S8x128, .f32⟩
  | .hbm, ⟨3, _⟩ => ⟨S2048x2048, .f32⟩
  | .local _ .vmem, ⟨0, _⟩ => ⟨S512x768, .bf16⟩
  | .local _ .vmem, ⟨1, _⟩ => ⟨S512x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S2048x6144 : Shape := ⟨2, ![2048, 6144]⟩
abbrev S8x2048x768 : Shape := ⟨3, ![8, 2048, 768]⟩
abbrev S8x128 : Shape := ⟨2, ![8, 128]⟩
abbrev S_ : Shape := ⟨0, ![]⟩
abbrev S2048x2048 : Shape := ⟨2, ![2048, 2048]⟩
abbrev S2048x8x768 : Shape := ⟨3, ![2048, 8, 768]⟩

abbrev nBuf : Space → Nat
  | .hbm => 11
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S8x128, .f32⟩
  | .hbm, ⟨3, _⟩ => ⟨S_, .f32⟩
  | .hbm, ⟨4, _⟩ => ⟨S2048x2048, .f32⟩
  | .hbm, ⟨5, _⟩ => ⟨S8x2048x768, .f32⟩
  | .hbm, ⟨6, _⟩ => ⟨S2048x8x768, .f32⟩
  | .hbm, ⟨7, _⟩ => ⟨S2048x6144, .f32⟩
  | .hbm, ⟨8, _⟩ => ⟨S2048x6144, .f32⟩
  | .hbm, ⟨9, _⟩ => ⟨S2048x6144, .f32⟩
  | .hbm, ⟨10, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel10.lean ====
abbrev S2048x6144 : Shape := ⟨2, ![2048, 6144]⟩
abbrev S2x1x128 : Shape := ⟨3, ![2, 1, 128]⟩
abbrev S2048x2048 : Shape := ⟨2, ![2048, 2048]⟩
abbrev S1x128 : Shape := ⟨2, ![1, 128]⟩
abbrev S2048x128 : Shape := ⟨2, ![2048, 128]⟩
abbrev S1x1x128 : Shape := ⟨3, ![1, 1, 128]⟩
abbrev S2048 : Shape := ⟨1, ![2048]⟩
abbrev S2048x1 : Shape := ⟨2, ![2048, 1]⟩
abbrev S128 : Shape := ⟨1, ![128]⟩

abbrev nBuf : Space → Nat
  | .hbm => 5
  | .vmem => 8
  | .smem => 0
  | _ => 0

abbrev bufTy : (tb : Table) → Fin (tcTables nBuf tb) → BufTy
  | .hbm, ⟨0, _⟩ => ⟨S2048x6144, .f32⟩
  | .hbm, ⟨1, _⟩ => ⟨S2x1x128, .f32⟩
  | .hbm, ⟨2, _⟩ => ⟨S2048x2048, .f32⟩
  | .hbm, ⟨3, _⟩ => ⟨S2048x2048, .bf16⟩
  | .hbm, ⟨4, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S1x1x128, .f32⟩
  | .local _ .vmem, ⟨3, _⟩ => ⟨S2048x128, .f32⟩
  | .local _ .vmem, ⟨4, _⟩ => ⟨S2048x128, .f32⟩
  | .local _ .vmem, ⟨5, _⟩ => ⟨S2048x128, .bf16⟩
  | .local _ .vmem, ⟨6, _⟩ => ⟨S2048x128, .bf16⟩
  | .local _ .vmem, ⟨7, _⟩ => ⟨S1x128, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_13 : BitVec 32 := 0#32
  let v33 : BitVec 1 := Scalar.cmpi .ne v32 c0_i32_13
  v33

def k0_cond2 (i : grid0.Coords) : BitVec 1 :=
  let arg0 : BitVec 32 := BitVec.ofNat 32 (i 0).val
  let c0_i32_14 : BitVec 32 := 0#32
  let v34 : BitVec 1 := Scalar.cmpi .sgt arg0 c0_i32_14
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference10Ideal.lean ====
abbrev S2048x6144 : Shape := ⟨2, ![2048, 6144]⟩
abbrev S2x1x128 : Shape := ⟨3, ![2, 1, 128]⟩
abbrev S2048x2048 : Shape := ⟨2, ![2048, 2048]⟩
abbrev S2048x3x16x128 : Shape := ⟨4, ![2048, 3, 16, 128]⟩
abbrev S2048x1x16x128 : Shape := ⟨4, ![2048, 1, 16, 128]⟩
abbrev S2048x16x128 : Shape := ⟨3, ![2048, 16, 128]⟩
abbrev S1x1x128 : Shape := ⟨3, ![1, 1, 128]⟩
abbrev S128 : Shape := ⟨1, ![128]⟩
abbrev S_ : Shape := ⟨0, ![]⟩
abbrev S2048x16 : Shape := ⟨2, ![2048, 16]⟩
abbrev S2048x16x1 : Shape := ⟨3, ![2048, 16, 1]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2x1x128, .f32⟩
  | .hbm, ⟨2, _⟩ => ⟨S2048x2048, .f32⟩
  | .hbm, ⟨3, _⟩ => ⟨S2048x3x16x128, .f32⟩
  | .hbm, ⟨4, _⟩ => ⟨S2048x1x16x128, .f32⟩
  | .hbm, ⟨5, _⟩ => ⟨S2048x16x128, .f32⟩
  | .hbm, ⟨6, _⟩ => ⟨S1x1x128, .f32⟩
  | .hbm, ⟨7, _⟩ => ⟨S128, .f32⟩
  | .hbm, ⟨8, _⟩ => ⟨S2048x16x128, .f32⟩
  | .hbm, ⟨9, _⟩ => ⟨S_, .f32⟩
  | .hbm, ⟨10, _⟩ => ⟨S2048x16, .f32⟩
  | .hbm, ⟨11, _⟩ => ⟨S2048x16x1, .f32⟩
  | .hbm, ⟨12, _⟩ => ⟨S_, .f32⟩
  | .hbm, ⟨13, _⟩ => ⟨S2048x16x1, .f32⟩
  | .hbm, ⟨14, _⟩ => ⟨S2048x16x1, .f32⟩
  | .hbm, ⟨15, _⟩ => ⟨S_, .f32⟩
  | .hbm, ⟨16, _⟩ => ⟨S2048x16x1, .f32⟩
  | .hbm, ⟨17, _⟩ => ⟨S2048x16x1, .f32⟩
  | .hbm, ⟨18, _⟩ => ⟨S2048x16x1, .f32⟩
  | .hbm, ⟨19, _⟩ => ⟨S2048x16x1, .f32⟩
  | .hbm, ⟨20, _⟩ => ⟨S_, .f32⟩
  | .hbm, ⟨21, _⟩ => ⟨S2048x16x1, .f32⟩
  | .hbm, ⟨22, _⟩ => ⟨S2048x16x1, .f32⟩
  | .hbm, ⟨23, _⟩ => ⟨S2048x16x128, .f32⟩
  | .hbm, ⟨24, _⟩ => ⟨S2048x16x128, .f32⟩
  | .hbm, ⟨25, _⟩ => ⟨S1x1x128, .f32⟩
  | .hbm, ⟨26, _⟩ => ⟨S2048x16x128, .f32⟩
  | .hbm, ⟨27, _⟩ => ⟨S2048x16x128, .f32⟩
  | .hbm, ⟨28, _⟩ => ⟨S2048x16x128, .f32⟩
  | .hbm, ⟨29, _⟩ => ⟨S2048x16x128, .f32⟩
  | .hbm, ⟨30, _⟩ => ⟨S_, .f32⟩
  | .hbm, ⟨31, _⟩ => ⟨S128, .f32⟩
  | .hbm, ⟨32, _⟩ => ⟨S1x1x128, .f32⟩
  | .hbm, ⟨33, _⟩ => ⟨S2048x16x128, .f32⟩
  | .hbm, ⟨34, _⟩ => ⟨S2048x16x128, .f32⟩
  | .hbm, ⟨35, _⟩ => ⟨S_, .f32⟩
  | .hbm, ⟨36, _⟩ => ⟨S128, .f32⟩
  | .hbm, ⟨37, _⟩ => ⟨S2048x16x128, .f32⟩
  | .hbm, ⟨38, _⟩ => ⟨S_, .f32⟩
  | .hbm, ⟨39, _⟩ => ⟨S2048x16, .f32⟩
  | .hbm, ⟨40, _⟩ => ⟨S2048x16x1, .f32⟩
  | .hbm, ⟨41, _⟩ => ⟨S2048x16x128, .f32⟩
  | .hbm, ⟨42, _⟩ => ⟨S2048x16x128, .f32⟩
  | .hbm, ⟨43, _⟩ => ⟨S2048x16x1, .f32⟩
  | .hbm, ⟨44, _⟩ => ⟨S_, .f32⟩
  | .hbm, ⟨45, _⟩ => ⟨S2048x16x1, .f32⟩
  | .hbm, ⟨46, _⟩ => ⟨S2048x16x1, .f32⟩
  | .hbm, ⟨47, _⟩ => ⟨S_, .f32⟩
  | .hbm, ⟨48, _⟩ => ⟨S2048x16, .f32⟩
  | .hbm, ⟨49, _⟩ => ⟨S2048x16x128, .f32⟩
  | .hbm, ⟨50, _⟩ => ⟨S2048x16x128, .f32⟩
  | .hbm, ⟨51, _⟩ => ⟨S2048x16x128, .f32⟩
  | .hbm, ⟨52, _⟩ => ⟨S2048x16x128, .f32⟩
  | .hbm, ⟨53, _⟩ => ⟨S2048x16x128, .f32⟩
  | .hbm, ⟨54, _⟩ => ⟨S2048x2048, .f32⟩
  | .hbm, ⟨55, _⟩ => ⟨S2048x2048, .bf16⟩
  | .hbm, ⟨56, _⟩ => ⟨S1x128, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Kernel11.lean ====
abbrev S2048x6144 : Shape := ⟨2, ![2048, 6144]⟩
abbrev S2x1x128 : Shape := ⟨3, ![2, 1, 128]⟩
abbrev S2048x2048 : Shape := ⟨2, ![2048, 2048]⟩
abbrev S1x128 : Shape := ⟨2, ![1, 128]⟩
abbrev S2048x128 : Shape := ⟨2, ![2048, 128]⟩
abbrev S1x1x128 : Shape := ⟨3, ![1, 1, 128]⟩
abbrev S2048 : Shape := ⟨1, ![2048]⟩
abbrev S2048x1 : Shape := ⟨2, ![2048, 1]⟩
abbrev S128 : Shape := ⟨1, ![128]⟩

abbrev nBuf : Space → Nat
  | .hbm => 5
  | .vmem => 8
  | .smem => 0
  | _ => 0

abbrev bufTy : (tb : Table) → Fin (tcTables nBuf tb) → BufTy
  | .hbm, ⟨0, _⟩ => ⟨S2048x6144, .f32⟩
  | .hbm, ⟨1, _⟩ => ⟨S2x1x128, .f32⟩
  | .hbm, ⟨2, _⟩ => ⟨S2048x2048, .f32⟩
  | .hbm, ⟨3, _⟩ => ⟨S2048x2048, .bf16⟩
  | .hbm, ⟨4, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S1x1x128, .f32⟩
  | .local _ .vmem, ⟨3, _⟩ => ⟨S2048x128, .f32⟩
  | .local _ .vmem, ⟨4, _⟩ => ⟨S2048x128, .f32⟩
  | .local _ .vmem, ⟨5, _⟩ => ⟨S2048x128, .bf16⟩
  | .local _ .vmem, ⟨6, _⟩ => ⟨S2048x128, .bf16⟩
  | .local _ .vmem, ⟨7, _⟩ => ⟨S1x128, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_13 : BitVec 32 := 0#32
  let v33 : BitVec 1 := Scalar.cmpi .ne v32 c0_i32_13
  v33

def k0_cond2 (i : grid0.Coords) : BitVec 1 :=
  let arg0 : BitVec 32 := BitVec.ofNat 32 (i 0).val
  let c0_i32_14 : BitVec 32 := 0#32
  let v34 : BitVec 1 := Scalar.cmpi .sgt arg0 c0_i32_14
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference11Ideal.lean ====
abbrev S2048x6144 : Shape := ⟨2, ![2048, 6144]⟩
abbrev S2x1x128 : Shape := ⟨3, ![2, 1, 128]⟩
abbrev S2048x2048 : Shape := ⟨2, ![2048, 2048]⟩
abbrev S2048x3x16x128 : Shape := ⟨4, ![2048, 3, 16, 128]⟩
abbrev S2048x1x16x128 : Shape := ⟨4, ![2048, 1, 16, 128]⟩
abbrev S2048x16x128 : Shape := ⟨3, ![2048, 16, 128]⟩
abbrev S1x1x128 : Shape := ⟨3, ![1, 1, 128]⟩
abbrev S128 : Shape := ⟨1, ![128]⟩
abbrev S_ : Shape := ⟨0, ![]⟩
abbrev S2048x16 : Shape := ⟨2, ![2048, 16]⟩
abbrev S2048x16x1 : Shape := ⟨3, ![2048, 16, 1]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2x1x128, .f32⟩
  | .hbm, ⟨2, _⟩ => ⟨S2048x2048, .f32⟩
  | .hbm, ⟨3, _⟩ => ⟨S2048x3x16x128, .f32⟩
  | .hbm, ⟨4, _⟩ => ⟨S2048x1x16x128, .f32⟩
  | .hbm, ⟨5, _⟩ => ⟨S2048x16x128, .f32⟩
  | .hbm, ⟨6, _⟩ => ⟨S1x1x128, .f32⟩
  | .hbm, ⟨7, _⟩ => ⟨S128, .f32⟩
  | .hbm, ⟨8, _⟩ => ⟨S2048x16x128, .f32⟩
  | .hbm, ⟨9, _⟩ => ⟨S_, .f32⟩
  | .hbm, ⟨10, _⟩ => ⟨S2048x16, .f32⟩
  | .hbm, ⟨11, _⟩ => ⟨S2048x16x1, .f32⟩
  | .hbm, ⟨12, _⟩ => ⟨S_, .f32⟩
  | .hbm, ⟨13, _⟩ => ⟨S2048x16x1, .f32⟩
  | .hbm, ⟨14, _⟩ => ⟨S2048x16x1, .f32⟩
  | .hbm, ⟨15, _⟩ => ⟨S_, .f32⟩
  | .hbm, ⟨16, _⟩ => ⟨S2048x16x1, .f32⟩
  | .hbm, ⟨17, _⟩ => ⟨S2048x16x1, .f32⟩
  | .hbm, ⟨18, _⟩ => ⟨S2048x16x1, .f32⟩
  | .hbm, ⟨19, _⟩ => ⟨S2048x16x1, .f32⟩
  | .hbm, ⟨20, _⟩ => ⟨S_, .f32⟩
  | .hbm, ⟨21, _⟩ => ⟨S2048x16x1, .f32⟩
  | .hbm, ⟨22, _⟩ => ⟨S2048x16x1, .f32⟩
  | .hbm, ⟨23, _⟩ => ⟨S2048x16x128, .f32⟩
  | .hbm, ⟨24, _⟩ => ⟨S2048x16x128, .f32⟩
  | .hbm, ⟨25, _⟩ => ⟨S1x1x128, .f32⟩
  | .hbm, ⟨26, _⟩ => ⟨S2048x16x128, .f32⟩
  | .hbm, ⟨27, _⟩ => ⟨S2048x16x128, .f32⟩
  | .hbm, ⟨28, _⟩ => ⟨S2048x16x128, .f32⟩
  | .hbm, ⟨29, _⟩ => ⟨S2048x16x128, .f32⟩
  | .hbm, ⟨30, _⟩ => ⟨S_, .f32⟩
  | .hbm, ⟨31, _⟩ => ⟨S128, .f32⟩
  | .hbm, ⟨32, _⟩ => ⟨S1x1x128, .f32⟩
  | .hbm, ⟨33, _⟩ => ⟨S2048x16x128, .f32⟩
  | .hbm, ⟨34, _⟩ => ⟨S2048x16x128, .f32⟩
  | .hbm, ⟨35, _⟩ => ⟨S_, .f32⟩
  | .hbm, ⟨36, _⟩ => ⟨S128, .f32⟩
  | .hbm, ⟨37, _⟩ => ⟨S2048x16x128, .f32⟩
  | .hbm, ⟨38, _⟩ => ⟨S_, .f32⟩
  | .hbm, ⟨39, _⟩ => ⟨S2048x16, .f32⟩
  | .hbm, ⟨40, _⟩ => ⟨S2048x16x1, .f32⟩
  | .hbm, ⟨41, _⟩ => ⟨S2048x16x128, .f32⟩
  | .hbm, ⟨42, _⟩ => ⟨S2048x16x128, .f32⟩
  | .hbm, ⟨43, _⟩ => ⟨S2048x16x1, .f32⟩
  | .hbm, ⟨44, _⟩ => ⟨S_, .f32⟩
  | .hbm, ⟨45, _⟩ => ⟨S2048x16x1, .f32⟩
  | .hbm, ⟨46, _⟩ => ⟨S2048x16x1, .f32⟩
  | .hbm, ⟨47, _⟩ => ⟨S_, .f32⟩
  | .hbm, ⟨48, _⟩ => ⟨S2048x16, .f32⟩
  | .hbm, ⟨49, _⟩ => ⟨S2048x16x128, .f32⟩
  | .hbm, ⟨50, _⟩ => ⟨S2048x16x128, .f32⟩
  | .hbm, ⟨51, _⟩ => ⟨S2048x16x128, .f32⟩
  | .hbm, ⟨52, _⟩ => ⟨S2048x16x128, .f32⟩
  | .hbm, ⟨53, _⟩ => ⟨S2048x16x128, .f32⟩
  | .hbm, ⟨54, _⟩ => ⟨S2048x2048, .f32⟩
  | .hbm, ⟨55, _⟩ => ⟨S2048x2048, .bf16⟩
  | .hbm, ⟨56, _⟩ => ⟨S1x128, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Kernel12.lean ====
abbrev S2048x2048 : Shape := ⟨2, ![2048, 2048]⟩
abbrev S8x128 : Shape := ⟨2, ![8, 128]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_8 : BitVec 32 := 0#32
  let v17 : BitVec 1 := Scalar.cmpi .ne v16 c0_i32_8
  v17

def k0_cond2 (i : grid0.Coords) : BitVec 1 :=
  let arg0 : BitVec 32 := BitVec.ofNat 32 (i 0).val
  let c0_i32_9 : BitVec 32 := 0#32
  let v18 : BitVec 1 := Scalar.cmpi .sgt arg0 c0_i32_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference12Ideal.lean ====
abbrev S2048x2048 : Shape := ⟨2, ![2048, 2048]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel13.lean ====
abbrev S1216x512 : Shape := ⟨2, ![1216, 512]⟩
abbrev S64x512 : Shape := ⟨2, ![64, 512]⟩

abbrev nBuf : Space → Nat
  | .hbm => 7
  | .vmem => 14
  | .smem => 0
  | _ => 0

abbrev bufTy : (tb : Table) → Fin (tcTables nBuf tb) → BufTy
  | .hbm, ⟨0, _⟩ => ⟨S1216x512, .f32⟩
  | .hbm, ⟨1, _⟩ => ⟨S1216x512, .f32⟩
  | .hbm, ⟨2, _⟩ => ⟨S1216x512, .f32⟩
  | .hbm, ⟨3, _⟩ => ⟨S1216x512, .f32⟩
  | .hbm, ⟨4, _⟩ => ⟨S1216x512, .f32⟩
  | .hbm, ⟨5, _⟩ => ⟨S1216x512, .f32⟩
  | .hbm, ⟨6, _⟩ => ⟨S1216x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | _, _ => ⟨S1216x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S1216x512 : Shape := ⟨2, ![1216, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1216x512, .f32⟩
  | .hbm, ⟨1, _⟩ => ⟨S1216x512, .f32⟩
  | .hbm, ⟨2, _⟩ => ⟨S1216x512, .f32⟩
  | .hbm, ⟨3, _⟩ => ⟨S1216x512, .f32⟩
  | .hbm, ⟨4, _⟩ => ⟨S_, .f32⟩
  | .hbm, ⟨5, _⟩ => ⟨S1216x512, .f32⟩
  | .hbm, ⟨6, _⟩ => ⟨S1216x512, .f32⟩
  | .hbm, ⟨7, _⟩ => ⟨S_, .f32⟩
  | .hbm, ⟨8, _⟩ => ⟨S1216x512, .f32⟩
  | .hbm, ⟨9, _⟩ => ⟨S1216x512, .f32⟩
  | .hbm, ⟨10, _⟩ => ⟨S1216x512, .f32⟩
  | .hbm, ⟨11, _⟩ => ⟨S_, .f32⟩
  | .hbm, ⟨12, _⟩ => ⟨S1216x512, .f32⟩
  | .hbm, ⟨13, _⟩ => ⟨S1216x512, .f32⟩
  | .hbm, ⟨14, _⟩ => ⟨S1216x512, .f32⟩
  | .hbm, ⟨15, _⟩ => ⟨S_, .f32⟩
  | .hbm, ⟨16, _⟩ => ⟨S1216x512, .f32⟩
  | .hbm, ⟨17, _⟩ => ⟨S1216x512, .f32⟩
  | .hbm, ⟨18, _⟩ => ⟨S1216x512, .f32⟩
  | .hbm, ⟨19, _⟩ => ⟨S_, .f32⟩
  | .hbm, ⟨20, _⟩ => ⟨S1216x512, .f32⟩
  | .hbm, ⟨21, _⟩ => ⟨S1216x512, .f32⟩
  | .hbm, ⟨22, _⟩ => ⟨S_, .f32⟩
  | .hbm, ⟨23, _⟩ => ⟨S1216x512, .f32⟩
  | .hbm, ⟨24, _⟩ => ⟨S1216x512, .f32⟩
  | .hbm, ⟨25, _⟩ => ⟨S1216x512, .f32⟩
  | .hbm, ⟨26, _⟩ => ⟨S_, .f32⟩
  | .hbm, ⟨27, _⟩ => ⟨S1216x512, .f32⟩
  | .hbm, ⟨28, _⟩ => ⟨S1216x512, .f32⟩
  | .hbm, ⟨29, _⟩ => ⟨S1216x512, .f32⟩
  | .hbm, ⟨30, _⟩ => ⟨S_, .f32⟩
  | .hbm, ⟨31, _⟩ => ⟨S1216x512, .f32⟩
  | .hbm, ⟨32, _⟩ => ⟨S1216x512, .f32⟩
  | .hbm, ⟨33, _⟩ => ⟨S1216x512, .f32⟩
  | .hbm, ⟨34, _⟩ => ⟨S_, .f32⟩
  | .hbm, ⟨35, _⟩ => ⟨S1216x512, .f32⟩
  | .hbm, ⟨36, _⟩ => ⟨S1216x512, .f32⟩
  | _, _ => ⟨S1216x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S8x1472x512 : Shape := ⟨3, ![8, 1472, 512]⟩
abbrev S1472x512 : Shape := ⟨2, ![1472, 512]⟩
abbrev S8x64x512 : Shape := ⟨3, ![8, 64, 512]⟩
abbrev S64x512 : Shape := ⟨2, ![64, 512]⟩
abbrev S1x64x512 : Shape := ⟨3, ![1, 64, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x1472x512, .f32⟩
  | .hbm, ⟨1, _⟩ => ⟨S1472x512, .f32⟩
  | .local _ .vmem, ⟨0, _⟩ => ⟨S8x64x512, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | _, _ => ⟨S8x1472x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![23], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference14Ideal.lean ====
abbrev S8x1472x512 : Shape := ⟨3, ![8, 1472, 512]⟩
abbrev S_ : Shape := ⟨0, ![]⟩
abbrev S1472x512 : Shape := ⟨2, ![1472, 512]⟩

abbrev nBuf : Space → Nat
  | .hbm => 3
  | .vmem => 0
  | .smem => 0
  | _ => 0

abbrev bufTy : (tb : Table) → Fin (tcTables nBuf tb) → BufTy
  | .hbm, ⟨0, _⟩ => ⟨S8x1472x512, .f32⟩
  | .hbm, ⟨1, _⟩ => ⟨S_, .f32⟩
  | .hbm, ⟨2, _⟩ => ⟨S1472x512, .f32⟩
  | _, _ => ⟨S8x1472x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S2048x2048 : Shape := ⟨2, ![2048, 2048]⟩
abbrev S4x512x512 : Shape := ⟨3, ![4, 512, 512]⟩
abbrev S1x2048 : Shape := ⟨2, ![1, 2048]⟩
abbrev S2048x512 : Shape := ⟨2, ![2048, 512]⟩
abbrev S1x512x512 : Shape := ⟨3, ![1, 512, 512]⟩
abbrev S1x512 : Shape := ⟨2, ![1, 512]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x512x512, .bf16⟩
  | .hbm, ⟨3, _⟩ => ⟨S1x2048, .f32⟩
  | .hbm, ⟨4, _⟩ => ⟨S1x2048, .f32⟩
  | .hbm, ⟨5, _⟩ => ⟨S2048x2048, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2048x512, .f32⟩
  | .local _ .vmem, ⟨11, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S2048x2048 : Shape := ⟨2, ![2048, 2048]⟩
abbrev S4x512x512 : Shape := ⟨3, ![4, 512, 512]⟩
abbrev S1x2048 : Shape := ⟨2, ![1, 2048]⟩
abbrev S2048 : Shape := ⟨1, ![2048]⟩
abbrev S2048x4x512 : Shape := ⟨3, ![2048, 4, 512]⟩
abbrev S_ : Shape := ⟨0, ![]⟩
abbrev S2x512 : Shape := ⟨2, ![2, 512]⟩
abbrev S2046x1x512 : Shape := ⟨3, ![2046, 1, 512]⟩
abbrev S2046x512 : Shape := ⟨2, ![2046, 512]⟩
abbrev S2048x512 : Shape := ⟨2, ![2048, 512]⟩
abbrev S4x512 : Shape := ⟨2, ![4, 512]⟩
abbrev S2044x1x512 : Shape := ⟨3, ![2044, 1, 512]⟩
abbrev S2044x512 : Shape := ⟨2, ![2044, 512]⟩
abbrev S8x512 : Shape := ⟨2, ![8, 512]⟩
abbrev S2040x1x512 : Shape := ⟨3, ![2040, 1, 512]⟩
abbrev S2040x512 : Shape := ⟨2, ![2040, 512]⟩
abbrev S16x512 : Shape := ⟨2, ![16, 512]⟩
abbrev S2032x1x512 : Shape := ⟨3, ![2032, 1, 512]⟩
abbrev S2032x512 : Shape := ⟨2, ![2032, 512]⟩
abbrev S2048x1x512 : Shape := ⟨3, ![2048, 1, 512]⟩
abbrev S2048x1 : Shape := ⟨2, ![2048, 1]⟩
abbrev S2048x4 : Shape := ⟨2, ![2048, 4]⟩
abbrev S2048x4x1 : Shape := ⟨3, ![2048, 4, 1]⟩
abbrev S4x512x2048 : Shape := ⟨3, ![4, 512, 2048]⟩

abbrev nBuf : Space → Nat
  | .hbm => 86
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x512x512, .bf16⟩
  | .hbm, ⟨3, _⟩ => ⟨S1x2048, .f32⟩
  | .hbm, ⟨4, _⟩ => ⟨S1x2048, .f32⟩
  | .hbm, ⟨5, _⟩ => ⟨S4x512x512, .f32⟩
  | .hbm, ⟨6, _⟩ => ⟨S2048, .f32⟩
  | .hbm, ⟨7, _⟩ => ⟨S2048, .f32⟩
  | .hbm, ⟨8, _⟩ => ⟨S2048x4x512, .f32⟩
  | .hbm, ⟨9, _⟩ => ⟨S_, .f32⟩
  | .hbm, ⟨10, _⟩ => ⟨S_, .f32⟩
  | .hbm, ⟨11, _⟩ => ⟨S2048x4x512, .f32⟩
  | .hbm, ⟨12, _⟩ => ⟨S_, .f32⟩
  | .hbm, ⟨13, _⟩ => ⟨S2x512, .f32⟩
  | .hbm, ⟨14, _⟩ => ⟨S2046x1x512, .f32⟩
  | .hbm, ⟨15, _⟩ => ⟨S2046x512, .f32⟩
  | .hbm, ⟨16, _⟩ => ⟨S2048x512, .f32⟩
  | .hbm, ⟨17, _⟩ => ⟨S_, .f32⟩
  | .hbm, ⟨18, _⟩ => ⟨S4x512, .f32⟩
  | .hbm, ⟨19, _⟩ => ⟨S2044x1x512, .f32⟩
  | .hbm, ⟨20, _⟩ => ⟨S2044x512, .f32⟩
  | .hbm, ⟨21, _⟩ => ⟨S2048x512, .f32⟩
  | .hbm, ⟨22, _⟩ => ⟨S_, .f32⟩
  | .hbm, ⟨23, _⟩ => ⟨S8x512, .f32⟩
  | .hbm, ⟨24, _⟩ => ⟨S2040x1x512, .f32⟩
  | .hbm, ⟨25, _⟩ => ⟨S2040x512, .f32⟩
  | .hbm, ⟨26, _⟩ => ⟨S2048x512, .f32⟩
  | .hbm, ⟨27, _⟩ => ⟨S_, .f32⟩
  | .hbm, ⟨28, _⟩ => ⟨S16x512, .f32⟩
  | .hbm, ⟨29, _⟩ => ⟨S2032x1x512, .f32⟩
  | .hbm, ⟨30, _⟩ => ⟨S2032x512, .f32⟩
  | .hbm, ⟨31, _⟩ => ⟨S2048x512, .f32⟩
  | .hbm, ⟨32, _⟩ => ⟨S2048x1x512, .f32⟩
  | .hbm, ⟨33, _⟩ => ⟨S2048x1x512, .f32⟩
  | .hbm, ⟨34, _⟩ => ⟨S2048x1x512, .f32⟩
  | .hbm, ⟨35, _⟩ => ⟨S2048x1x512, .f32⟩
  | .hbm, ⟨36, _⟩ => ⟨S2048x4x512, .f32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .f32⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .f32⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S2048, .f32⟩
  | .hbm, ⟨59, _⟩ => ⟨S_, .i32⟩
  | .hbm, ⟨60, _⟩ => ⟨S2048, .i32⟩
  | .hbm, ⟨61, _⟩ => ⟨S2048, .i32⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S2048, .f32⟩
  | .hbm, ⟨66, _⟩ => ⟨S2048x1, .f32⟩
  | .hbm, ⟨67, _⟩ => ⟨S2048x1, .f32⟩
  | .hbm, ⟨68, _⟩ => ⟨S2048x1, .f32⟩
  | .hbm, ⟨69, _⟩ => ⟨S2048x1, .f32⟩
  | .hbm, ⟨70, _⟩ => ⟨S2048x4, .f32⟩
  | .hbm, ⟨71, _⟩ => ⟨S2048x4x512, .f32⟩
  | .hbm, ⟨72, _⟩ => ⟨S2048x4x1, .f32⟩
  | .hbm, ⟨73, _⟩ => ⟨S2048x4x512, .f32⟩
  | .hbm, ⟨74, _⟩ => ⟨S2048x4x512, .f32⟩
  | .hbm, ⟨75, _⟩ => ⟨S2048x4x512, .f32⟩
  | .hbm, ⟨76, _⟩ => ⟨S4x512x2048, .f32⟩
  | .hbm, ⟨77, _⟩ => ⟨S2048x4x512, .f32⟩
  | .hbm, ⟨78, _⟩ => ⟨S2048x2048, .f32⟩
  | .hbm, ⟨79, _⟩ => ⟨S1x2048, .f32⟩
  | .hbm, ⟨80, _⟩ => ⟨S2048x2048, .f32⟩
  | .hbm, ⟨81, _⟩ => ⟨S2048x2048, .f32⟩
  | .hbm, ⟨82, _⟩ => ⟨S1x2048, .f32⟩
  | .hbm, ⟨83, _⟩ => ⟨S2048x2048, .f32⟩
  | .hbm, ⟨84, _⟩ => ⟨S2048x2048, .f32⟩
  | .hbm, ⟨85, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== Kernel16.lean ====
abbrev S2048x2048 : Shape := ⟨2, ![2048, 2048]⟩
abbrev S4x512x512 : Shape := ⟨3, ![4, 512, 512]⟩
abbrev S1x2048 : Shape := ⟨2, ![1, 2048]⟩
abbrev S2048x512 : Shape := ⟨2, ![2048, 512]⟩
abbrev S1x512x512 : Shape := ⟨3, ![1, 512, 512]⟩
abbrev S1x512 : Shape := ⟨2, ![1, 512]⟩
abbrev S512x512 : Shape := ⟨2, ![512, 512]⟩
abbrev S512 : Shape := ⟨1, ![512]⟩

abbrev nBuf : Space → Nat
  | .hbm => 9
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x512x512, .bf16⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S4x512x512, .bf16⟩
  | .hbm, ⟨7, _⟩ => ⟨S1x2048, .f32⟩
  | .hbm, ⟨8, _⟩ => ⟨S1x2048, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2048x512, .f32⟩
  | .local _ .vmem, ⟨11, _⟩ => ⟨S2048x512, .f32⟩
  | .local _ .vmem, ⟨12, _⟩ => ⟨S1x512x512, .bf16⟩
  | .local _ .vmem, ⟨13, _⟩ => ⟨S1x512x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S2048x2048 : Shape := ⟨2, ![2048, 2048]⟩
abbrev S4x512x512 : Shape := ⟨3, ![4, 512, 512]⟩
abbrev S1x2048 : Shape := ⟨2, ![1, 2048]⟩
abbrev S2048 : Shape := ⟨1, ![2048]⟩
abbrev S2048x4x512 : Shape := ⟨3, ![2048, 4, 512]⟩
abbrev S_ : Shape := ⟨0, ![]⟩
abbrev S2x512 : Shape := ⟨2, ![2, 512]⟩
abbrev S2046x1x512 : Shape := ⟨3, ![2046, 1, 512]⟩
abbrev S2046x512 : Shape := ⟨2, ![2046, 512]⟩
abbrev S2048x512 : Shape := ⟨2, ![2048, 512]⟩
abbrev S4x512 : Shape := ⟨2, ![4, 512]⟩
abbrev S2044x1x512 : Shape := ⟨3, ![2044, 1, 512]⟩
abbrev S2044x512 : Shape := ⟨2, ![2044, 512]⟩
abbrev S8x512 : Shape := ⟨2, ![8, 512]⟩
abbrev S2040x1x512 : Shape := ⟨3, ![2040, 1, 512]⟩
abbrev S2040x512 : Shape := ⟨2, ![2040, 512]⟩
abbrev S16x512 : Shape := ⟨2, ![16, 512]⟩
abbrev S2032x1x512 : Shape := ⟨3, ![2032, 1, 512]⟩
abbrev S2032x512 : Shape := ⟨2, ![2032, 512]⟩
abbrev S2048x1x512 : Shape := ⟨3, ![2048, 1, 512]⟩
abbrev S2048x1 : Shape := ⟨2, ![2048, 1]⟩
abbrev S2048x4 : Shape := ⟨2, ![2048, 4]⟩
abbrev S2048x4x1 : Shape := ⟨3, ![2048, 4, 1]⟩
abbrev S4x512x2048 : Shape := ⟨3, ![4, 512, 2048]⟩
abbrev S4x2048x512 : Shape := ⟨3, ![4, 2048, 512]⟩

abbrev nBuf : Space → Nat
  | .hbm => 156
  | .vmem => 0
  | .smem => 0
  | _ => 0

abbrev hbmTy0_0 (i : Nat) : BufTy := match i % 128 with
  | 0 => ⟨S2048x2048, .f32⟩
  | 1 => ⟨S2048x2048, .f32⟩
  | 2 => ⟨S4x512x512, .bf16⟩
  | 3 => ⟨S1x2048, .f32⟩
  | 4 => ⟨S1x2048, .f32⟩
  | 5 => ⟨S4x512x512, .f32⟩
  | 6 => ⟨S2048, .f32⟩
  | 7 => ⟨S2048, .f32⟩
  | 8 => ⟨S2048x4x512, .f32⟩
  | 9 => ⟨S_, .f32⟩
  | 10 => ⟨S_, .f32⟩
  | 11 => ⟨S2048x4x512, .f32⟩
  | 12 => ⟨S_, .f32⟩
  | 13 => ⟨S2x512, .f32⟩
  | 14 => ⟨S2046x1x512, .f32⟩
  | 15 => ⟨S2046x512, .f32⟩
  | 16 => ⟨S2048x512, .f32⟩
  | 17 => ⟨S_, .f32⟩
  | 18 => ⟨S2x512, .f32⟩
  | 19 => ⟨S_, .f32⟩
  | 20 => ⟨S4x512, .f32⟩
  | 21 => ⟨S2044x1x512, .f32⟩
  | 22 => ⟨S2044x512, .f32⟩
  | 23 => ⟨S2048x512, .f32⟩
  | 24 => ⟨S_, .f32⟩
  | 25 => ⟨S4x512, .f32⟩
  | 26 => ⟨S_, .f32⟩
  | 27 => ⟨S8x512, .f32⟩
  | 28 => ⟨S2040x1x512, .f32⟩
  | 29 => ⟨S2040x512, .f32⟩
  | 30 => ⟨S2048x512, .f32⟩
  | 31 => ⟨S_, .f32⟩
  | 32 => ⟨S8x512, .f32⟩
  | 33 => ⟨S_, .f32⟩
  | 34 => ⟨S16x512, .f32⟩
  | 35 => ⟨S2032x1x512, .f32⟩
  | 36 => ⟨S2032x512, .f32⟩
  | 37 => ⟨S2048x512, .f32⟩
  | 38 => ⟨S_, .f32⟩
  | 39 => ⟨S16x512, .f32⟩
  | 40 => ⟨S2048x1x512, .f32⟩
  | 41 => ⟨S2048x1x512, .f32⟩
  | 42 => ⟨S2048x1x512, .f32⟩
  | 43 => ⟨S2048x1x512, .f32⟩
  | 44 => ⟨S2048x4x512, .f32⟩
  | 45 => ⟨S2048, .i32⟩
  | 46 => ⟨S_, .i32⟩
  | 47 => ⟨S2048, .i32⟩
  | 48 => ⟨S2048, .i32⟩
  | 49 => ⟨S_, .i32⟩
  | 50 => ⟨S2048, .i32⟩
  | 51 => ⟨S2048, .i32⟩
  | 52 => ⟨S2048, .f32⟩
  | 53 => ⟨S_, .i32⟩
  | 54 => ⟨S2048, .i32⟩
  | 55 => ⟨S2048, .i32⟩
  | 56 => ⟨S_, .i32⟩
  | 57 => ⟨S2048, .i32⟩
  | 58 => ⟨S2048, .i32⟩
  | 59 => ⟨S2048, .f32⟩
  | 60 => ⟨S_, .i32⟩
  | 61 => ⟨S2048, .i32⟩
  | 62 => ⟨S2048, .i32⟩
  | 63 => ⟨S_, .i32⟩
  | 64 => ⟨S2048, .i32⟩
  | 65 => ⟨S2048, .i32⟩
  | 66 => ⟨S2048, .f32⟩
  | 67 => ⟨S_, .i32⟩
  | 68 => ⟨S2048, .i32⟩
  | 69 => ⟨S2048, .i32⟩
  | 70 => ⟨S_, .i32⟩
  | 71 => ⟨S2048, .i32⟩
  | 72 => ⟨S2048, .i32⟩
  | 73 => ⟨S2048, .f32⟩
  | 74 => ⟨S2048x1, .f32⟩
  | 75 => ⟨S2048x1, .f32⟩
  | 76 => ⟨S2048x1, .f32⟩
  | 77 => ⟨S2048x1, .f32⟩
  | 78 => ⟨S2048x4, .f32⟩
  | 79 => ⟨S2048x4x512, .f32⟩
  | 80 => ⟨S2048x4x1, .f32⟩
  | 81 => ⟨S2048x4x512, .f32⟩
  | 82 => ⟨S2048x4x512, .f32⟩
  | 83 => ⟨S2048x4x512, .f32⟩
  | 84 => ⟨S4x512x2048, .f32⟩
  | 85 => ⟨S2048x4x512, .f32⟩
  | 86 => ⟨S2048x2048, .f32⟩
  | 87 => ⟨S1x2048, .f32⟩
  | 88 => ⟨S2048x2048, .f32⟩
  | 89 => ⟨S2048x2048, .f32⟩
  | 90 => ⟨S1x2048, .f32⟩
  | 91 => ⟨S2048x2048, .f32⟩
  | 92 => ⟨S2048x2048, .f32⟩
  | 93 => ⟨S2048x2048, .f32⟩
  | 94 => ⟨S_, .f32⟩
  | 95 => ⟨S2048, .f32⟩
  | 96 => ⟨S1x2048, .f32⟩
  | 97 => ⟨S2048x2048, .f32⟩
  | 98 => ⟨S2048x2048, .f32⟩
  | 99 => ⟨S_, .f32⟩
  | 100 => ⟨S2048, .f32⟩
  | 101 => ⟨S_, .f32⟩
  | 102 => ⟨S2048, .f32⟩
  | 103 => ⟨S1x2048, .f32⟩
  | 104 => ⟨S_, .f32⟩
  | 105 => ⟨S2048, .f32⟩
  | 106 => ⟨S2048x4x512, .f32⟩
  | 107 => ⟨S4x512x2048, .f32⟩
  | 108 => ⟨S4x2048x512, .f32⟩
  | 109 => ⟨S2048x4x512, .f32⟩
  | 110 => ⟨S4x512x512, .f32⟩
  | 111 => ⟨S4x512x512, .f32⟩
  | 112 => ⟨S2048x4x512, .f32⟩
  | 113 => ⟨S2048x4x512, .f32⟩
  | 114 => ⟨S2048x4x512, .f32⟩
  | 115 => ⟨S2048x4x512, .f32⟩
  | 116 => ⟨S2048x1x512, .f32⟩
  | 117 => ⟨S2048x512, .f32⟩
  | 118 => ⟨S2048x1x512, .f32⟩
  | 119 => ⟨S2048x512, .f32⟩
  | 120 => ⟨S2048x1x512, .f32⟩
  | 121 => ⟨S2048x512, .f32⟩
  | 122 => ⟨S2048x1x512, .f32⟩
  | 123 => ⟨S2048x512, .f32⟩
  | 124 => ⟨S16x512, .f32⟩
  | 125 => ⟨S2032x512, .f32⟩
  | 126 => ⟨S2032x1x512, .f32⟩
  | 127 => ⟨S_, .f32⟩
  | _ => ⟨S2048x2048, .f32⟩

abbrev hbmTy0_1 (i : Nat) : BufTy := match i % 128 with
  | 0 => ⟨S2048x4x512, .f32⟩
  | 1 => ⟨S2048x4x512, .f32⟩
  | 2 => ⟨S8x512, .f32⟩
  | 3 => ⟨S2040x512, .f32⟩
  | 4 => ⟨S2040x1x512, .f32⟩
  | 5 => ⟨S_, .f32⟩
  | 6 => ⟨S2048x4x512, .f32⟩
  | 7 => ⟨S2048x4x512, .f32⟩
  | 8 => ⟨S4x512, .f32⟩
  | 9 => ⟨S2044x512, .f32⟩
  | 10 => ⟨S2044x1x512, .f32⟩
  | 11 => ⟨S_, .f32⟩
  | 12 => ⟨S2048x4x512, .f32⟩
  | 13 => ⟨S2048x4x512, .f32⟩
  | 14 => ⟨S2x512, .f32⟩
  | 15 => ⟨S2046x512, .f32⟩
  | 16 => ⟨S2046x1x512, .f32⟩
  | 17 => ⟨S_, .f32⟩
  | 18 => ⟨S2048x4x512, .f32⟩
  | 19 => ⟨S2048x4x512, .f32⟩
  | 20 => ⟨S_, .f32⟩
  | 21 => ⟨S_, .f32⟩
  | 22 => ⟨S2048x4x512, .f32⟩
  | 23 => ⟨S2048x4x512, .f32⟩
  | 24 => ⟨S2048x2048, .f32⟩
  | 25 => ⟨S4x512x512, .bf16⟩
  | 26 => ⟨S1x2048, .f32⟩
  | 27 => ⟨S1x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_12 : Ref sig .tc := ⟨.hbm, 67, rfl⟩
abbrev main_v46 : Ref sig .tc := ⟨.hbm, 68, rfl⟩
abbrev main_v47 : Ref sig .tc := ⟨.hbm, 69, rfl⟩
abbrev main_c_13 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_14 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_15 : Ref sig .tc := ⟨.hbm, 99, rfl⟩
abbrev main_v75 : Ref sig .tc := ⟨.hbm, 100, rfl⟩
abbrev main_cst_16 : Ref sig .tc := ⟨.hbm, 101, rfl⟩
abbrev main_v76 : Ref sig .tc := ⟨.hbm, 102, rfl⟩
abbrev main_v77 : Ref sig .tc := ⟨.hbm, 103, rfl⟩
abbrev main_cst_17 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_18 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_19 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_20 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_21 : Ref sig .tc := ⟨.hbm, 145, rfl⟩
abbrev main_v115 : Ref sig .tc := ⟨.hbm, 146, rfl⟩
abbrev main_v116 : Ref sig .tc := ⟨.hbm, 147, rfl⟩
abbrev main_call1_call0_cst : Ref sig .tc := ⟨.hbm, 148, rfl⟩
abbrev main_call1_call0_v0 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩

abbrev nD : Nat := 1
abbrev τ : Topo := Topo.v7x

variable {F : FTy → Type} [FloatOps F]
-- ==== Kernel17.lean ====
abbrev S2048x4096 : Shape := ⟨2, ![2048, 4096]⟩
abbrev S2048x2048 : Shape := ⟨2, ![2048, 2048]⟩
abbrev S256x256 : Shape := ⟨2, ![256, 256]⟩
abbrev S2048x256 : Shape := ⟨2, ![2048, 256]⟩
abbrev S256x128 : Shape := ⟨2, ![256, 128]⟩
abbrev S256x1 : Shape := ⟨2, ![256, 1]⟩
abbrev S256 : Shape := ⟨1, ![256]⟩

abbrev nBuf : Space → Nat
  | .hbm => 3
  | .vmem => 8
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x2048, .bf16⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S256x256, .bf16⟩
  | .local _ .vmem, ⟨7, _⟩ => ⟨S256x256, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v11 : BitVec 32 := Scalar.addi arg1 c1_i32
  let v12 : BitVec 32 := Scalar.subi v11 c0_i32
  let c1_i32_5 : BitVec 32 := 1#32
  let v14 : BitVec 32 := Scalar.divsi v12 c1_i32_5
  let v15 : BitVec 32 := Scalar.muli v14 c1_i32_5
  let v16 : BitVec 32 := Scalar.addi c0_i32 v15
  let c1_i32_6 : BitVec 32 := 1#32
  ⟨c0_i32, v16, c1_i32_6⟩
def k0_mult1 (i : grid0.Coords) (k0_t1 : Fin (k0_t1_loop i).trips) : BitVec 32 :=
  let arg1 : BitVec 32 := BitVec.ofNat 32 (i 1).val
  let c0_i32 : BitVec 32 := 0#32
  let c1_i32_6 : BitVec 32 := 1#32
  let arg6 : BitVec 32 := Scf.iv c0_i32 c1_i32_6 k0_t1
  let v23 : BitVec 32 := Scalar.subi arg1 arg6
  let c256_i32 : BitVec 32 := 256#32
  let v24 : BitVec 32 := Scalar.muli v23 c256_i32
  v24
def k0_off1 (i : grid0.Coords) (k0_t1 : Fin (k0_t1_loop i).trips) : Fin 2 → Nat :=
  let arg1 : BitVec 32 := BitVec.ofNat 32 (i 1).val
  let c0_i32 : BitVec 32 := 0#32
  let c1_i32_6 : BitVec 32 := 1#32
  let arg6 : BitVec 32 := Scf.iv c0_i32 c1_i32_6 k0_t1
  let v23 : BitVec 32 := Scalar.subi arg1 arg6
  let c256_i32 : BitVec 32 := 256#32
  let v24 : BitVec 32 := Scalar.muli v23 c256_i32
  let v25 : BitVec 32 := v24
  let v27 : Index := Scalar.indexCast v25
  let c0_12 : Index := 0#32
  ![v27.toNat, 0]
def k0_off2 (i : grid0.Coords) (k0_t1 : Fin (k0_t1_loop i).trips) : Fin 2 → Nat :=
  let arg1 : BitVec 32 := BitVec.ofNat 32 (i 1).val
  let c0_i32 : BitVec 32 := 0#32
  let c1_i32_6 : BitVec 32 := 1#32
  let arg6 : BitVec 32 := Scf.iv c0_i32 c1_i32_6 k0_t1
  let v23 : BitVec 32 := Scalar.subi arg1 arg6
  let c256_i32 : BitVec 32 := 256#32
  let v24 : BitVec 32 := Scalar.muli v23 c256_i32
  let v25 : BitVec 32 := v24
  let v74 : Index := Scalar.indexCast v25
  let c128_28 : Index := 128#32
  ![v74.toNat, 128]
@[reducible] def k0_t2_loop (i : grid0.Coords) : Scf.Loop 32 :=
  let c0_i32 : BitVec 32 := 0#32
  let arg1 : BitVec 32 := BitVec.ofNat 32 (i 1).val
  let c1_i32 : BitVec 32 := 1#32
  let v11 : BitVec 32 := Scalar.addi arg1 c1_i32
  let v12 : BitVec 32 := Scalar.subi v11 c0_i32
  let c1_i32_5 : BitVec 32 := 1#32
  let v14 : BitVec 32 := Scalar.divsi v12 c1_i32_5
  let v15 : BitVec 32 := Scalar.muli v14 c1_i32_5
  let v16 : BitVec 32 := Scalar.addi c0_i32 v15
  let v13 : BitVec 32 := Scalar.addi c0_i32 v12
  let c1_i32_7 : BitVec 32 := 1#32
  ⟨v16, v13, c1_i32_7⟩
def k0_mult2 (i : grid0.Coords) (k0_t2 : Fin (k0_t2_loop i).trips) : BitVec 32 :=
  let arg1 : BitVec 32 := BitVec.ofNat 32 (i 1).val
  let c0_i32 : BitVec 32 := 0#32
  let c1_i32 : BitVec 32 := 1#32
  let v11 : BitVec 32 := Scalar.addi arg1 c1_i32
  let v12 : BitVec 32 := Scalar.subi v11 c0_i32
  let c1_i32_5 : BitVec 32 := 1#32
  let v14 : BitVec 32 := Scalar.divsi v12 c1_i32_5
  let v15 : BitVec 32 := Scalar.muli v14 c1_i32_5
  let v16 : BitVec 32 := Scalar.addi c0_i32 v15
  let c1_i32_7 : BitVec 32 := 1#32
  let arg6 : BitVec 32 := Scf.iv v16 c1_i32_7 k0_t2
  let v23 : BitVec 32 := Scalar.subi arg1 arg6
  let c256_i32 : BitVec 32 := 256#32
  let v24 : BitVec 32 := Scalar.muli v23 c256_i32
  v24
def k0_off3 (i : grid0.Coords) (k0_t2 : Fin (k0_t2_loop i).trips) : Fin 2 → Nat :=
  let arg1 : BitVec 32 := BitVec.ofNat 32 (i 1).val
  let c0_i32 : BitVec 32 := 0#32
  let c1_i32 : BitVec 32 := 1#32
  let v11 : BitVec 32 := Scalar.addi arg1 c1_i32
  let v12 : BitVec 32 := Scalar.subi v11 c0_i32
  let c1_i32_5 : BitVec 32 := 1#32
  let v14 : BitVec 32 := Scalar.divsi v12 c1_i32_5
  let v15 : BitVec 32 := Scalar.muli v14 c1_i32_5
  let v16 : BitVec 32 := Scalar.addi c0_i32 v15
  let c1_i32_7 : BitVec 32 := 1#32
  let arg6 : BitVec 32 := Scf.iv v16 c1_i32_7 k0_t2
  let v23 : BitVec 32 := Scalar.subi arg1 arg6
  let c256_i32 : BitVec 32 := 256#32
  let v24 : BitVec 32 := Scalar.muli v23 c256_i32
  let v25 : BitVec 32 := v24
  let v27 : Index := Scalar.indexCast v25
  let c0_12 : Index := 0#32
  ![v27.toNat, 0]
def k0_off4 (i : grid0.Coords) (k0_t2 : Fin (k0_t2_loop i).trips) : Fin 2 → Nat :=
  let arg1 : BitVec 32 := BitVec.ofNat 32 (i 1).val
  let c0_i32 : BitVec 32 := 0#32
  let c1_i32 : BitVec 32 := 1#32
  let v11 : BitVec 32 := Scalar.addi arg1 c1_i32
  let v12 : BitVec 32 := Scalar.subi v11 c0_i32
  let c1_i32_5 : BitVec 32 := 1#32
  let v14 : BitVec 32 := Scalar.divsi v12 c1_i32_5
  let v15 : BitVec 32 := Scalar.muli v14 c1_i32_5
  let v16 : BitVec 32 := Scalar.addi c0_i32 v15
  let c1_i32_7 : BitVec 32 := 1#32
  let arg6 : BitVec 32 := Scf.iv v16 c1_i32_7 k0_t2
  let v23 : BitVec 32 := Scalar.subi arg1 arg6
  let c256_i32 : BitVec 32 := 256#32
  let v24 : BitVec 32 := Scalar.muli v23 c256_i32
  let v25 : BitVec 32 := v24
  let v74 : Index := Scalar.indexCast v25
  let c128_28 : Index := 128#32
  ![v74.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference17Ideal.lean ====
abbrev S2048x4096 : Shape := ⟨2, ![2048, 4096]⟩
abbrev S2048x2048 : Shape := ⟨2, ![2048, 2048]⟩
abbrev S2048x16x128 : Shape := ⟨3, ![2048, 16, 128]⟩
abbrev S16x2048x128 : Shape := ⟨3, ![16, 2048, 128]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩

abbrev nBuf : Space → Nat
  | .hbm => 76
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x4096, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x16x128, .f32⟩
  | .hbm, ⟨7, _⟩ => ⟨S16x2048x128, .f32⟩
  | .hbm, ⟨8, _⟩ => ⟨S2048x16x128, .f32⟩
  | .hbm, ⟨9, _⟩ => ⟨S16x2048x128, .f32⟩
  | .hbm, ⟨10, _⟩ => ⟨S2048x16x128, .f32⟩
  | .hbm, ⟨11, _⟩ => ⟨S16x2048x128, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S2048, .i32⟩
  | .hbm, ⟨17, _⟩ => ⟨S1x2048, .i32⟩
  | .hbm, ⟨18, _⟩ => ⟨S2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S16x2048x2048, .f32⟩
  | .hbm, ⟨24, _⟩ => ⟨S_, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S16x2048x2048, .i1⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S16x2048x2048, .f32⟩
  | .hbm, ⟨40, _⟩ => ⟨S16x2048x2048, .f32⟩
  | .hbm, ⟨41, _⟩ => ⟨S_, .f32⟩
  | .hbm, ⟨42, _⟩ => ⟨S16x2048x2048, .f32⟩
  | .hbm, ⟨43, _⟩ => ⟨S16x2048x2048, .f32⟩
  | .hbm, ⟨44, _⟩ => ⟨S16x2048x2048, .f32⟩
  | .hbm, ⟨45, _⟩ => ⟨S16x2048x2048, .f32⟩
  | .hbm, ⟨46, _⟩ => ⟨S16x2048x2048, .i1⟩
  | .hbm, ⟨47, _⟩ => ⟨S16x2048x2048, .f32⟩
  | .hbm, ⟨48, _⟩ => ⟨S16x2048x2048, .f32⟩
  | .hbm, ⟨49, _⟩ => ⟨S16x2048x2048, .f32⟩
  | .hbm, ⟨50, _⟩ => ⟨S16x2048x2048, .f32⟩
  | .hbm, ⟨51, _⟩ => ⟨S16x2048x2048, .f32⟩
  | .hbm, ⟨52, _⟩ => ⟨S16x2048x2048, .f32⟩
  | .hbm, ⟨53, _⟩ => ⟨S16x2048x2048, .f32⟩
  | .hbm, ⟨54, _⟩ => ⟨S16x2048x2048, .f32⟩
  | .hbm, ⟨55, _⟩ => ⟨S16x2048x2048, .f32⟩
  | .hbm, ⟨56, _⟩ => ⟨S_, .f32⟩
  | .hbm, ⟨57, _⟩ => ⟨S_, .f32⟩
  | .hbm, ⟨58, _⟩ => ⟨S16x2048x2048, .i1⟩
  | .hbm, ⟨59, _⟩ => ⟨S16x2048x2048, .f32⟩
  | .hbm, ⟨60, _⟩ => ⟨S16x2048x2048, .f32⟩
  | .hbm, ⟨61, _⟩ => ⟨S_, .f32⟩
  | .hbm, ⟨62, _⟩ => ⟨S_, .f32⟩
  | .hbm, ⟨63, _⟩ => ⟨S16x2048x2048, .f32⟩
  | .hbm, ⟨64, _⟩ => ⟨S16x2048x2048, .f32⟩
  | .hbm, ⟨65, _⟩ => ⟨S16x2048x2048, .f32⟩
  | .hbm, ⟨66, _⟩ => ⟨S16x2048x2048, .f32⟩
  | .hbm, ⟨67, _⟩ => ⟨S_, .f32⟩
  | .hbm, ⟨68, _⟩ => ⟨S_, .f32⟩
  | .hbm, ⟨69, _⟩ => ⟨S16x2048x2048, .i1⟩
  | .hbm, ⟨70, _⟩ => ⟨S16x2048x2048, .f32⟩
  | .hbm, ⟨71, _⟩ => ⟨S16x2048x2048, .f32⟩
  | .hbm, ⟨72, _⟩ => ⟨S16x2048x128, .f32⟩
  | .hbm, ⟨73, _⟩ => ⟨S2048x16x128, .f32⟩
  | .hbm, ⟨74, _⟩ => ⟨S2048x2048, .f32⟩
  | .hbm, ⟨75, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v20 : Ref sig .tc := ⟨.hbm, 38, rfl⟩
abbrev main_v21 : Ref sig .tc := ⟨.hbm, 39, rfl⟩
abbrev main_call1_v0 : Ref sig .tc := ⟨.hbm, 40, rfl⟩
abbrev main_call1_call0_cst : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_v8 : Ref sig .tc := ⟨.hbm, 50, rfl⟩
abbrev main_call1_call0_v9 : Ref sig .tc := ⟨.hbm, 51, rfl⟩
abbrev main_call1_call0_v10 : Ref sig .tc := ⟨.hbm, 52, rfl⟩
abbrev main_call1_call0_v11 : Ref sig .tc := ⟨.hbm, 53, rfl⟩
abbrev main_call1_v1 : Ref sig .tc := ⟨.hbm, 54, rfl⟩
abbrev main_v22 : Ref sig .tc := ⟨.hbm, 55, rfl⟩
abbrev main_cst_0 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v23 : Ref sig .tc := ⟨.hbm, 60, rfl⟩
abbrev main_call3_cst : Ref sig .tc := ⟨.hbm, 61, rfl⟩
abbrev main_call3_v0 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩

abbrev nD : Nat := 1
abbrev τ : Topo := Topo.v7x

variable {F : FTy → Type} [FloatOps F]
-- ==== Kernel18.lean ====
abbrev S128x1x64 : Shape := ⟨3, ![128, 1, 64]⟩
abbrev S128x1x1 : Shape := ⟨3, ![128, 1, 1]⟩
abbrev S128x16x64 : Shape := ⟨3, ![128, 16, 64]⟩

abbrev nBuf : Space → Nat
  | .hbm => 9
  | .vmem => 9
  | .smem => 0
  | _ => 0

abbrev bufTy : (tb : Table) → Fin (tcTables nBuf tb) → BufTy
  | .hbm, ⟨0, _⟩ => ⟨S128x1x64, .f32⟩
  | .hbm, ⟨1, _⟩ => ⟨S128x1x64, .f32⟩
  | .hbm, ⟨2, _⟩ => ⟨S128x1x1, .f32⟩
  | .hbm, ⟨3, _⟩ => ⟨S128x16x64, .f32⟩
  | .hbm, ⟨4, _⟩ => ⟨S128x16x64, .f32⟩
  | .hbm, ⟨5, _⟩ => ⟨S128x1x64, .f32⟩
  | .hbm, ⟨6, _⟩ => ⟨S128x1x64, .f32⟩
  | .hbm, ⟨7, _⟩ => ⟨S128x16x64, .f32⟩
  | .hbm, ⟨8, _⟩ => ⟨S128x16x64, .f32⟩
  | .local _ .vmem, ⟨0, _⟩ => ⟨S128x1x64, .f32⟩
  | .local _ .vmem, ⟨1, _⟩ => ⟨S128x1x64, .f32⟩
  | .local _ .vmem, ⟨2, _⟩ => ⟨S128x1x1, .f32⟩
  | .local _ .vmem, ⟨3, _⟩ => ⟨S128x16x64, .f32⟩
  | .local _ .vmem, ⟨4, _⟩ => ⟨S128x16x64, .f32⟩
  | .local _ .vmem, ⟨5, _⟩ => ⟨S128x1x64, .f32⟩
  | .local _ .vmem, ⟨6, _⟩ => ⟨S128x1x64, .f32⟩
  | .local _ .vmem, ⟨7, _⟩ => ⟨S128x16x64, .f32⟩
  | .local _ .vmem, ⟨8, _⟩ => ⟨S128x16x64, .f32⟩
  | _, _ => ⟨S128x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S128x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference18Ideal.lean ====
abbrev S128x1x64 : Shape := ⟨3, ![128, 1, 64]⟩
abbrev S128x1x1 : Shape := ⟨3, ![128, 1, 1]⟩
abbrev S128x16x64 : Shape := ⟨3, ![128, 16, 64]⟩
abbrev S128x64 : Shape := ⟨2, ![128, 64]⟩
abbrev S128 : Shape := ⟨1, ![128]⟩
abbrev S128x64x16 : Shape := ⟨3, ![128, 64, 16]⟩
abbrev S128x1 : Shape := ⟨2, ![128, 1]⟩
abbrev S_ : Shape := ⟨0, ![]⟩
abbrev S128x64x1 : Shape := ⟨3, ![128, 64, 1]⟩

abbrev nBuf : Space → Nat
  | .hbm => 58
  | .vmem => 0
  | .smem => 0
  | _ => 0

abbrev bufTy : (tb : Table) → Fin (tcTables nBuf tb) → BufTy
  | .hbm, ⟨0, _⟩ => ⟨S128x1x64, .f32⟩
  | .hbm, ⟨1, _⟩ => ⟨S128x1x64, .f32⟩
  | .hbm, ⟨2, _⟩ => ⟨S128x1x1, .f32⟩
  | .hbm, ⟨3, _⟩ => ⟨S128x16x64, .f32⟩
  | .hbm, ⟨4, _⟩ => ⟨S128x16x64, .f32⟩
  | .hbm, ⟨5, _⟩ => ⟨S128x64, .f32⟩
  | .hbm, ⟨6, _⟩ => ⟨S128x64, .f32⟩
  | .hbm, ⟨7, _⟩ => ⟨S128, .f32⟩
  | .hbm, ⟨8, _⟩ => ⟨S128x64x16, .f32⟩
  | .hbm, ⟨9, _⟩ => ⟨S128x64x16, .f32⟩
  | .hbm, ⟨10, _⟩ => ⟨S128, .f32⟩
  | .hbm, ⟨11, _⟩ => ⟨S128x1, .f32⟩
  | .hbm, ⟨12, _⟩ => ⟨S128x64, .f32⟩
  | .hbm, ⟨13, _⟩ => ⟨S128x64, .f32⟩
  | .hbm, ⟨14, _⟩ => ⟨S128x64, .f32⟩
  | .hbm, ⟨15, _⟩ => ⟨S128x64, .f32⟩
  | .hbm, ⟨16, _⟩ => ⟨S128x64, .f32⟩
  | .hbm, ⟨17, _⟩ => ⟨S128x64, .f32⟩
  | .hbm, ⟨18, _⟩ => ⟨S128x64, .f32⟩
  | .hbm, ⟨19, _⟩ => ⟨S128x64, .f32⟩
  | .hbm, ⟨20, _⟩ => ⟨S128x64, .f32⟩
  | .hbm, ⟨21, _⟩ => ⟨S128x64, .f32⟩
  | .hbm, ⟨22, _⟩ => ⟨S128x64, .f32⟩
  | .hbm, ⟨23, _⟩ => ⟨S128x64, .f32⟩
  | .hbm, ⟨24, _⟩ => ⟨S128x64, .f32⟩
  | .hbm, ⟨25, _⟩ => ⟨S128x64, .f32⟩
  | .hbm, ⟨26, _⟩ => ⟨S_, .f32⟩
  | .hbm, ⟨27, _⟩ => ⟨S128x64, .f32⟩
  | .hbm, ⟨28, _⟩ => ⟨S128x64, .f32⟩
  | .hbm, ⟨29, _⟩ => ⟨S128x64, .f32⟩
  | .hbm, ⟨30, _⟩ => ⟨S128x64, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S_, .f32⟩
  | .hbm, ⟨35, _⟩ => ⟨S128x64, .f32⟩
  | .hbm, ⟨36, _⟩ => ⟨S128x64, .f32⟩
  | .hbm, ⟨37, _⟩ => ⟨S128x64, .f32⟩
  | .hbm, ⟨38, _⟩ => ⟨S128x64, .f32⟩
  | .hbm, ⟨39, _⟩ => ⟨S128x64, .f32⟩
  | .hbm, ⟨40, _⟩ => ⟨S128x64x1, .f32⟩
  | .hbm, ⟨41, _⟩ => ⟨S128x64x16, .f32⟩
  | .hbm, ⟨42, _⟩ => ⟨S128x64x16, .f32⟩
  | .hbm, ⟨43, _⟩ => ⟨S128x64x1, .f32⟩
  | .hbm, ⟨44, _⟩ => ⟨S128x64x16, .f32⟩
  | .hbm, ⟨45, _⟩ => ⟨S128x64x16, .f32⟩
  | .hbm, ⟨46, _⟩ => ⟨S128x64x16, .f32⟩
  | .hbm, ⟨47, _⟩ => ⟨S128x64x1, .f32⟩
  | .hbm, ⟨48, _⟩ => ⟨S128x64x16, .f32⟩
  | .hbm, ⟨49, _⟩ => ⟨S128x64x16, .f32⟩
  | .hbm, ⟨50, _⟩ => ⟨S128x64x1, .f32⟩
  | .hbm, ⟨51, _⟩ => ⟨S128x64x16, .f32⟩
  | .hbm, ⟨52, _⟩ => ⟨S128x64x16, .f32⟩
  | .hbm, ⟨53, _⟩ => ⟨S128x64x16, .f32⟩
  | .hbm, ⟨54, _⟩ => ⟨S128x1x64, .f32⟩
  | .hbm, ⟨55, _⟩ => ⟨S128x1x64, .f32⟩
  | .hbm, ⟨56, _⟩ => ⟨S128x16x64, .f32⟩
  | .hbm, ⟨57, _⟩ => ⟨S128x16x64, .f32⟩
  | _, _ => ⟨S128x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩

abbrev nD : Nat := 1
abbrev τ : Topo := Topo.v7x

variable {F : FTy → Type} [FloatOps F]
-- ==== Kernel19.lean ====
abbrev S128x1x64 : Shape := ⟨3, ![128, 1, 64]⟩
abbrev S128x1x1 : Shape := ⟨3, ![128, 1, 1]⟩
abbrev S128x16x64 : Shape := ⟨3, ![128, 16, 64]⟩
abbrev S128x64 : Shape := ⟨2, ![128, 64]⟩
abbrev S128x1 : Shape := ⟨2, ![128, 1]⟩

abbrev nBuf : Space → Nat
  | .hbm => 14
  | .vmem => 14
  | .smem => 0
  | _ => 0

abbrev bufTy : (tb : Table) → Fin (tcTables nBuf tb) → BufTy
  | .hbm, ⟨0, _⟩ => ⟨S128x1x64, .f32⟩
  | .hbm, ⟨1, _⟩ => ⟨S128x1x64, .f32⟩
  | .hbm, ⟨2, _⟩ => ⟨S128x1x1, .f32⟩
  | .hbm, ⟨3, _⟩ => ⟨S128x16x64, .f32⟩
  | .hbm, ⟨4, _⟩ => ⟨S128x16x64, .f32⟩
  | .hbm, ⟨5, _⟩ => ⟨S128x1x64, .f32⟩
  | .hbm, ⟨6, _⟩ => ⟨S128x1x64, .f32⟩
  | .hbm, ⟨7, _⟩ => ⟨S128x16x64, .f32⟩
  | .hbm, ⟨8, _⟩ => ⟨S128x16x64, .f32⟩
  | .hbm, ⟨9, _⟩ => ⟨S128x1x64, .f32⟩
  | .hbm, ⟨10, _⟩ => ⟨S128x1x64, .f32⟩
  | .hbm, ⟨11, _⟩ => ⟨S128x1x1, .f32⟩
  | .hbm, ⟨12, _⟩ => ⟨S128x16x64, .f32⟩
  | .hbm, ⟨13, _⟩ => ⟨S128x16x64, .f32⟩
  | .local _ .vmem, ⟨0, _⟩ => ⟨S128x1x64, .f32⟩
  | .local _ .vmem, ⟨1, _⟩ => ⟨S128x1x64, .f32⟩
  | .local _ .vmem, ⟨2, _⟩ => ⟨S128x1x1, .f32⟩
  | .local _ .vmem, ⟨3, _⟩ => ⟨S128x16x64, .f32⟩
  | .local _ .vmem, ⟨4, _⟩ => ⟨S128x16x64, .f32⟩
  | .local _ .vmem, ⟨5, _⟩ => ⟨S128x1x64, .f32⟩
  | .local _ .vmem, ⟨6, _⟩ => ⟨S128x1x64, .f32⟩
  | .local _ .vmem, ⟨7, _⟩ => ⟨S128x16x64, .f32⟩
  | .local _ .vmem, ⟨8, _⟩ => ⟨S128x16x64, .f32⟩
  | .local _ .vmem, ⟨9, _⟩ => ⟨S128x1x64, .f32⟩
  | .local _ .vmem, ⟨10, _⟩ => ⟨S128x1x64, .f32⟩
  | .local _ .vmem, ⟨11, _⟩ => ⟨S128x1x1, .f32⟩
  | .local _ .vmem, ⟨12, _⟩ => ⟨S128x16x64, .f32⟩
  | .local _ .vmem, ⟨13, _⟩ => ⟨S128x16x64, .f32⟩
  | _, _ => ⟨S128x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S128x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference19Ideal.lean ====
abbrev S128x1x64 : Shape := ⟨3, ![128, 1, 64]⟩
abbrev S128x1x1 : Shape := ⟨3, ![128, 1, 1]⟩
abbrev S128x16x64 : Shape := ⟨3, ![128, 16, 64]⟩
abbrev S128x64 : Shape := ⟨2, ![128, 64]⟩
abbrev S128 : Shape := ⟨1, ![128]⟩
abbrev S128x64x16 : Shape := ⟨3, ![128, 64, 16]⟩
abbrev S128x1 : Shape := ⟨2, ![128, 1]⟩
abbrev S_ : Shape := ⟨0, ![]⟩
abbrev S128x64x1 : Shape := ⟨3, ![128, 64, 1]⟩

abbrev nBuf : Space → Nat
  | .hbm => 181
  | .vmem => 0
  | .smem => 0
  | _ => 0

abbrev hbmTy0_0 (i : Nat) : BufTy := match i % 128 with
  | 0 => ⟨S128x1x64, .f32⟩
  | 1 => ⟨S128x1x64, .f32⟩
  | 2 => ⟨S128x1x1, .f32⟩
  | 3 => ⟨S128x16x64, .f32⟩
  | 4 => ⟨S128x16x64, .f32⟩
  | 5 => ⟨S128x1x64, .f32⟩
  | 6 => ⟨S128x1x64, .f32⟩
  | 7 => ⟨S128x16x64, .f32⟩
  | 8 => ⟨S128x16x64, .f32⟩
  | 9 => ⟨S128x64, .f32⟩
  | 10 => ⟨S128x64, .f32⟩
  | 11 => ⟨S128, .f32⟩
  | 12 => ⟨S128x64x16, .f32⟩
  | 13 => ⟨S128x64x16, .f32⟩
  | 14 => ⟨S128, .f32⟩
  | 15 => ⟨S128x1, .f32⟩
  | 16 => ⟨S128x64, .f32⟩
  | 17 => ⟨S128x64, .f32⟩
  | 18 => ⟨S128x64, .f32⟩
  | 19 => ⟨S128x64, .f32⟩
  | 20 => ⟨S128x64, .f32⟩
  | 21 => ⟨S128x64, .f32⟩
  | 22 => ⟨S128x64, .f32⟩
  | 23 => ⟨S128x64, .f32⟩
  | 24 => ⟨S128x64, .f32⟩
  | 25 => ⟨S128x64, .f32⟩
  | 26 => ⟨S128x64, .f32⟩
  | 27 => ⟨S128x64, .f32⟩
  | 28 => ⟨S128x64, .f32⟩
  | 29 => ⟨S128x64, .f32⟩
  | 30 => ⟨S128x64, .f32⟩
  | 31 => ⟨S128x64, .f32⟩
  | 32 => ⟨S_, .f32⟩
  | 33 => ⟨S128x64, .f32⟩
  | 34 => ⟨S128x64, .f32⟩
  | 35 => ⟨S128x64, .f32⟩
  | 36 => ⟨S128x64, .f32⟩
  | 37 => ⟨S128x64, .f32⟩
  | 38 => ⟨S128x64, .f32⟩
  | 39 => ⟨S128x64, .f32⟩
  | 40 => ⟨S_, .f32⟩
  | 41 => ⟨S128x64, .f32⟩
  | 42 => ⟨S128x64, .f32⟩
  | 43 => ⟨S128x64, .f32⟩
  | 44 => ⟨S_, .f32⟩
  | 45 => ⟨S128x64, .f32⟩
  | 46 => ⟨S128x64, .f32⟩
  | 47 => ⟨S128x64, .f32⟩
  | 48 => ⟨S128x64, .f32⟩
  | 49 => ⟨S128x64, .f32⟩
  | 50 => ⟨S128x64, .f32⟩
  | 51 => ⟨S_, .f32⟩
  | 52 => ⟨S128x64, .f32⟩
  | 53 => ⟨S128x64, .f32⟩
  | 54 => ⟨S128x64x1, .f32⟩
  | 55 => ⟨S128x64x16, .f32⟩
  | 56 => ⟨S128x64x16, .f32⟩
  | 57 => ⟨S128x64x1, .f32⟩
  | 58 => ⟨S128x64x16, .f32⟩
  | 59 => ⟨S128x64x16, .f32⟩
  | 60 => ⟨S128x64x16, .f32⟩
  | 61 => ⟨S128x64x1, .f32⟩
  | 62 => ⟨S128x64x16, .f32⟩
  | 63 => ⟨S128x64x16, .f32⟩
  | 64 => ⟨S128x64x1, .f32⟩
  | 65 => ⟨S128x64x16, .f32⟩
  | 66 => ⟨S128x64x16, .f32⟩
  | 67 => ⟨S128x64x16, .f32⟩
  | 68 => ⟨S128x64, .f32⟩
  | 69 => ⟨S128x64, .f32⟩
  | 70 => ⟨S128x64x16, .f32⟩
  | 71 => ⟨S128x64x16, .f32⟩
  | 72 => ⟨S128x64x16, .f32⟩
  | 73 => ⟨S128x64x16, .f32⟩
  | 74 => ⟨S128x64x16, .f32⟩
  | 75 => ⟨S_, .f32⟩
  | 76 => ⟨S128x64, .f32⟩
  | 77 => ⟨S128x64x1, .f32⟩
  | 78 => ⟨S_, .f32⟩
  | 79 => ⟨S128x64, .f32⟩
  | 80 => ⟨S128x64x16, .f32⟩
  | 81 => ⟨S128x64x16, .f32⟩
  | 82 => ⟨S128x64x16, .f32⟩
  | 83 => ⟨S_, .f32⟩
  | 84 => ⟨S128x64, .f32⟩
  | 85 => ⟨S128x64x1, .f32⟩
  | 86 => ⟨S_, .f32⟩
  | 87 => ⟨S128x64, .f32⟩
  | 88 => ⟨S128x64x16, .f32⟩
  | 89 => ⟨S128x64x16, .f32⟩
  | 90 => ⟨S128x64x16, .f32⟩
  | 91 => ⟨S128x64x16, .f32⟩
  | 92 => ⟨S128x64x16, .f32⟩
  | 93 => ⟨S_, .f32⟩
  | 94 => ⟨S128x64, .f32⟩
  | 95 => ⟨S128x64x1, .f32⟩
  | 96 => ⟨S_, .f32⟩
  | 97 => ⟨S128x64, .f32⟩
  | 98 => ⟨S128x64, .f32⟩
  | 99 => ⟨S128x64x16, .f32⟩
  | 100 => ⟨S128x64x16, .f32⟩
  | 101 => ⟨S128x64x16, .f32⟩
  | 102 => ⟨S128x64x16, .f32⟩
  | 103 => ⟨S_, .f32⟩
  | 104 => ⟨S128x64, .f32⟩
  | 105 => ⟨S128x64x1, .f32⟩
  | 106 => ⟨S_, .f32⟩
  | 107 => ⟨S128x64, .f32⟩
  | 108 => ⟨S128x64, .f32⟩
  | 109 => ⟨S128x64, .f32⟩
  | 110 => ⟨S128x64, .f32⟩
  | 111 => ⟨S128x64, .f32⟩
  | 112 => ⟨S128x64, .f32⟩
  | 113 => ⟨S128x64, .f32⟩
  | 114 => ⟨S128x64, .f32⟩
  | 115 => ⟨S128x64, .f32⟩
  | 116 => ⟨S128x64, .f32⟩
  | 117 => ⟨S128x64, .f32⟩
  | 118 => ⟨S128x64, .f32⟩
  | 119 => ⟨S128x64, .f32⟩
  | 120 => ⟨S128x64, .f32⟩
  | 121 => ⟨S128x64, .f32⟩
  | 122 => ⟨S128x64, .f32⟩
  | 123 => ⟨S128x64, .f32⟩
  | 124 => ⟨S128x64, .f32⟩
  | 125 => ⟨S128x64, .f32⟩
  | 126 => ⟨S128x64, .f32⟩
  | 127 => ⟨S128x64, .f32⟩
  | _ => ⟨S128x1x64, .f32⟩

abbrev hbmTy0_1 (i : Nat) : BufTy := match i % 128 with
  | 0 => ⟨S128x64, .f32⟩
  | 1 => ⟨S128x64, .f32⟩
  | 2 => ⟨S128x64, .f32⟩
  | 3 => ⟨S128x64, .f32⟩
  | 4 => ⟨S128x64, .f32⟩
  | 5 => ⟨S128x64, .f32⟩
  | 6 => ⟨S128x64, .f32⟩
  | 7 => ⟨S128x64, .f32⟩
  | 8 => ⟨S128x64, .f32⟩
  | 9 => ⟨S128x64, .f32⟩
  | 10 => ⟨S128x64, .f32⟩
  | 11 => ⟨S128x64, .f32⟩
  | 12 => ⟨S128x64, .f32⟩
  | 13 => ⟨S128x64, .f32⟩
  | 14 => ⟨S128x64, .f32⟩
  | 15 => ⟨S128x64, .f32⟩
  | 16 => ⟨S128x64, .f32⟩
  | 17 => ⟨S_, .f32⟩
  | 18 => ⟨S128, .f32⟩
  | 19 => ⟨S128x1, .f32⟩
  | 20 => ⟨S128x64, .f32⟩
  | 21 => ⟨S128x64, .f32⟩
  | 22 => ⟨S128x64, .f32⟩
  | 23 => ⟨S128x64, .f32⟩
  | 24 => ⟨S128x64, .f32⟩
  | 25 => ⟨S128x64, .f32⟩
  | 26 => ⟨S128x64, .f32⟩
  | 27 => ⟨S128x64, .f32⟩
  | 28 => ⟨S128x64, .f32⟩
  | 29 => ⟨S_, .f32⟩
  | 30 => ⟨S128, .f32⟩
  | 31 => ⟨S128x1, .f32⟩
  | 32 => ⟨S128x1, .f32⟩
  | 33 => ⟨S128x64, .f32⟩
  | 34 => ⟨S128x64, .f32⟩
  | 35 => ⟨S128x64, .f32⟩
  | 36 => ⟨S128x64, .f32⟩
  | 37 => ⟨S128x64, .f32⟩
  | 38 => ⟨S_, .f32⟩
  | 39 => ⟨S128, .f32⟩
  | 40 => ⟨S128x1, .f32⟩
  | 41 => ⟨S128x1, .f32⟩
  | 42 => ⟨S128x64, .f32⟩
  | 43 => ⟨S128x64, .f32⟩
  | 44 => ⟨S128x64, .f32⟩
  | 45 => ⟨S_, .f32⟩
  | 46 => ⟨S128, .f32⟩
  | 47 => ⟨S128, .f32⟩
  | 48 => ⟨S128x1x64, .f32⟩
  | 49 => ⟨S128x1x64, .f32⟩
  | 50 => ⟨S128x1x1, .f32⟩
  | 51 => ⟨S128x16x64, .f32⟩
  | 52 => ⟨S128x16x64, .f32⟩
  | _ => ⟨S128x1x64, .f32⟩

abbrev hbmTy (i : Nat) : BufTy := match i / 128 with
  | 0 => hbmTy0_0 i
  | 1 => hbmTy0_1 i
  | _ => ⟨S128x1x64, .f32⟩

abbrev bufTy : (tb : Table) → Fin (tcTables nBuf tb) → BufTy
  | .hbm, ⟨i, _⟩ => hbmTy i
  | _, _ => ⟨S128x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_3 : Ref sig .tc := ⟨.hbm, 75, rfl⟩
abbrev main_v62 : Ref sig .tc := ⟨.hbm, 76, rfl⟩
abbrev main_v63 : Ref sig .tc := ⟨.hbm, 77, rfl⟩
abbrev main_cst_4 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_5 : Ref sig .tc := ⟨.hbm, 83, rfl⟩
abbrev main_v68 : Ref sig .tc := ⟨.hbm, 84, rfl⟩
abbrev main_v69 : Ref sig .tc := ⟨.hbm, 85, rfl⟩
abbrev main_cst_6 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_7 : Ref sig .tc := ⟨.hbm, 93, rfl⟩
abbrev main_v76 : Ref sig .tc := ⟨.hbm, 94, rfl⟩
abbrev main_v77 : Ref sig .tc := ⟨.hbm, 95, rfl⟩
abbrev main_cst_8 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_9 : Ref sig .tc := ⟨.hbm, 103, rfl⟩
abbrev main_v84 : Ref sig .tc := ⟨.hbm, 104, rfl⟩
abbrev main_v85 : Ref sig .tc := ⟨.hbm, 105, rfl⟩
abbrev main_cst_10 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_cst_11 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_cst_12 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_cst_13 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_cst_14 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩

abbrev nD : Nat := 1
abbrev τ : Topo := Topo.v7x

variable {F : FTy → Type} [FloatOps F]
-- ==== Kernel20.lean ====
abbrev S2048x768 : Shape := ⟨2, ![2048, 768]⟩
abbrev S4x2048x768 : Shape := ⟨3, ![4, 2048, 768]⟩
abbrev S3x2048x768 : Shape := ⟨3, ![3, 2048, 768]⟩
abbrev S1 : Shape := ⟨1, ![1]⟩
abbrev S64x768 : Shape := ⟨2, ![64, 768]⟩
abbrev S1x64x768 : Shape := ⟨3, ![1, 64, 768]⟩
abbrev S3x64x768 : Shape := ⟨3, ![3, 64, 768]⟩

abbrev nBuf : Space → Nat
  | .hbm => 9
  | .vmem => 18
  | .smem => 1
  | _ => 0

abbrev bufTy : (tb : Table) → Fin (tcTables nBuf tb) → BufTy
  | .hbm, ⟨0, _⟩ => ⟨S2048x768, .f32⟩
  | .hbm, ⟨1, _⟩ => ⟨S4x2048x768, .bf16⟩
  | .hbm, ⟨2, _⟩ => ⟨S3x2048x768, .bf16⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .local _ .vmem, ⟨0, _⟩ => ⟨S64x768, .f32⟩
  | .local _ .vmem, ⟨1, _⟩ => ⟨S64x768, .f32⟩
  | .local _ .vmem, ⟨2, _⟩ => ⟨S1x64x768, .bf16⟩
  | .local _ .vmem, ⟨3, _⟩ => ⟨S1x64x768, .bf16⟩
  | .local _ .vmem, ⟨4, _⟩ => ⟨S3x64x768, .bf16⟩
  | .local _ .vmem, ⟨5, _⟩ => ⟨S3x64x768, .bf16⟩
  | .local _ .vmem, ⟨6, _⟩ => ⟨S64x768, .f32⟩
  | .local _ .vmem, ⟨7, _⟩ => ⟨S64x768, .f32⟩
  | .local _ .vmem, ⟨8, _⟩ => ⟨S64x768, .f32⟩
  | .local _ .vmem, ⟨9, _⟩ => ⟨S64x768, .f32⟩
  | .local _ .vmem, ⟨10, _⟩ => ⟨S64x768, .f32⟩
  | .local _ .vmem, ⟨11, _⟩ => ⟨S64x768, .f32⟩
  | .local _ .vmem, ⟨12, _⟩ => ⟨S64x768, .f32⟩
  | .local _ .vmem, ⟨13, _⟩ => ⟨S64x768, .f32⟩
  | .local _ .vmem, ⟨14, _⟩ => ⟨S64x768, .f32⟩
  | .local _ .vmem, ⟨15, _⟩ => ⟨S64x768, .f32⟩
  | .local _ .vmem, ⟨16, _⟩ => ⟨S64x768, .f32⟩
  | .local _ .vmem, ⟨17, _⟩ => ⟨S64x768, .f32⟩
  | .local _ .smem, ⟨0, _⟩ => ⟨S1, .i32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x64x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S2048x768 : Shape := ⟨2, ![2048, 768]⟩
abbrev S4x2048x768 : Shape := ⟨3, ![4, 2048, 768]⟩
abbrev S3x2048x768 : Shape := ⟨3, ![3, 2048, 768]⟩
abbrev S1 : Shape := ⟨1, ![1]⟩
abbrev S4 : Shape := ⟨1, ![4]⟩
abbrev S4x1x1 : Shape := ⟨3, ![4, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S4x2048x768, .bf16⟩
  | .hbm, ⟨2, _⟩ => ⟨S3x2048x768, .bf16⟩
  | .hbm, ⟨3, _⟩ => ⟨S2048x768, .f32⟩
  | .hbm, ⟨4, _⟩ => ⟨S2048x768, .f32⟩
  | .hbm, ⟨5, _⟩ => ⟨S1, .i32⟩
  | .hbm, ⟨6, _⟩ => ⟨S4, .i32⟩
  | .hbm, ⟨7, _⟩ => ⟨S4, .i32⟩
  | .hbm, ⟨8, _⟩ => ⟨S4, .i1⟩
  | .hbm, ⟨9, _⟩ => ⟨S4x1x1, .i1⟩
  | .hbm, ⟨10, _⟩ => ⟨S4x2048x768, .f32⟩
  | .hbm, ⟨11, _⟩ => ⟨S_, .f32⟩
  | .hbm, ⟨12, _⟩ => ⟨S_, .f32⟩
  | .hbm, ⟨13, _⟩ => ⟨S4x2048x768, .i1⟩
  | .hbm, ⟨14, _⟩ => ⟨S4x2048x768, .f32⟩
  | .hbm, ⟨15, _⟩ => ⟨S4x2048x768, .f32⟩
  | .hbm, ⟨16, _⟩ => ⟨S_, .f32⟩
  | .hbm, ⟨17, _⟩ => ⟨S2048x768, .f32⟩
  | .hbm, ⟨18, _⟩ => ⟨S3x2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S_, .f32⟩
  | .hbm, ⟨26, _⟩ => ⟨S2048x768, .f32⟩
  | .hbm, ⟨27, _⟩ => ⟨S2048x768, .f32⟩
  | .hbm, ⟨28, _⟩ => ⟨S2048x768, .f32⟩
  | .hbm, ⟨29, _⟩ => ⟨S_, .f32⟩
  | .hbm, ⟨30, _⟩ => ⟨S2048x768, .f32⟩
  | .hbm, ⟨31, _⟩ => ⟨S2048x768, .f32⟩
  | .hbm, ⟨32, _⟩ => ⟨S2048x768, .f32⟩
  | .hbm, ⟨33, _⟩ => ⟨S_, .f32⟩
  | .hbm, ⟨34, _⟩ => ⟨S2048x768, .f32⟩
  | .hbm, ⟨35, _⟩ => ⟨S2048x768, .f32⟩
  | .hbm, ⟨36, _⟩ => ⟨S2048x768, .f32⟩
  | .hbm, ⟨37, _⟩ => ⟨S_, .f32⟩
  | .hbm, ⟨38, _⟩ => ⟨S2048x768, .f32⟩
  | .hbm, ⟨39, _⟩ => ⟨S2048x768, .f32⟩
  | .hbm, ⟨40, _⟩ => ⟨S_, .f32⟩
  | .hbm, ⟨41, _⟩ => ⟨S2048x768, .f32⟩
  | .hbm, ⟨42, _⟩ => ⟨S2048x768, .f32⟩
  | .hbm, ⟨43, _⟩ => ⟨S2048x768, .f32⟩
  | .hbm, ⟨44, _⟩ => ⟨S_, .f32⟩
  | .hbm, ⟨45, _⟩ => ⟨S2048x768, .f32⟩
  | .hbm, ⟨46, _⟩ => ⟨S2048x768, .f32⟩
  | .hbm, ⟨47, _⟩ => ⟨S2048x768, .f32⟩
  | .hbm, ⟨48, _⟩ => ⟨S_, .f32⟩
  | .hbm, ⟨49, _⟩ => ⟨S2048x768, .f32⟩
  | .hbm, ⟨50, _⟩ => ⟨S2048x768, .f32⟩
  | .hbm, ⟨51, _⟩ => ⟨S2048x768, .f32⟩
  | .hbm, ⟨52, _⟩ => ⟨S_, .f32⟩
  | .hbm, ⟨53, _⟩ => ⟨S2048x768, .f32⟩
  | .hbm, ⟨54, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel21.lean ====
abbrev S256x2048 : Shape := ⟨2, ![256, 2048]⟩
abbrev S4x256x2048 : Shape := ⟨3, ![4, 256, 2048]⟩
abbrev S3x256x2048 : Shape := ⟨3, ![3, 256, 2048]⟩
abbrev S1 : Shape := ⟨1, ![1]⟩
abbrev S64x2048 : Shape := ⟨2, ![64, 2048]⟩
abbrev S1x64x2048 : Shape := ⟨3, ![1, 64, 2048]⟩
abbrev S3x64x2048 : Shape := ⟨3, ![3, 64, 2048]⟩

abbrev nBuf : Space → Nat
  | .hbm => 9
  | .vmem => 18
  | .smem => 1
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S3x256x2048, .bf16⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S64x2048, .f32⟩
  | .local _ .vmem, ⟨1, _⟩ => ⟨S64x2048, .f32⟩
  | .local _ .vmem, ⟨2, _⟩ => ⟨S1x64x2048, .bf16⟩
  | .local _ .vmem, ⟨3, _⟩ => ⟨S1x64x2048, .bf16⟩
  | .local _ .vmem, ⟨4, _⟩ => ⟨S3x64x2048, .bf16⟩
  | .local _ .vmem, ⟨5, _⟩ => ⟨S3x64x2048, .bf16⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .smem, ⟨0, _⟩ => ⟨S1, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S256x2048 : Shape := ⟨2, ![256, 2048]⟩
abbrev S4x256x2048 : Shape := ⟨3, ![4, 256, 2048]⟩
abbrev S3x256x2048 : Shape := ⟨3, ![3, 256, 2048]⟩
abbrev S1 : Shape := ⟨1, ![1]⟩
abbrev S4 : Shape := ⟨1, ![4]⟩
abbrev S4x1x1 : Shape := ⟨3, ![4, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S3x256x2048, .bf16⟩
  | .hbm, ⟨3, _⟩ => ⟨S256x2048, .f32⟩
  | .hbm, ⟨4, _⟩ => ⟨S256x2048, .f32⟩
  | .hbm, ⟨5, _⟩ => ⟨S1, .i32⟩
  | .hbm, ⟨6, _⟩ => ⟨S4, .i32⟩
  | .hbm, ⟨7, _⟩ => ⟨S4, .i32⟩
  | .hbm, ⟨8, _⟩ => ⟨S4, .i1⟩
  | .hbm, ⟨9, _⟩ => ⟨S4x1x1, .i1⟩
  | .hbm, ⟨10, _⟩ => ⟨S4x256x2048, .f32⟩
  | .hbm, ⟨11, _⟩ => ⟨S_, .f32⟩
  | .hbm, ⟨12, _⟩ => ⟨S_, .f32⟩
  | .hbm, ⟨13, _⟩ => ⟨S4x256x2048, .i1⟩
  | .hbm, ⟨14, _⟩ => ⟨S4x256x2048, .f32⟩
  | .hbm, ⟨15, _⟩ => ⟨S4x256x2048, .f32⟩
  | .hbm, ⟨16, _⟩ => ⟨S_, .f32⟩
  | .hbm, ⟨17, _⟩ => ⟨S256x2048, .f32⟩
  | .hbm, ⟨18, _⟩ => ⟨S3x256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S_, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S_, .f32⟩
  | .hbm, ⟨49, _⟩ => ⟨S256x2048, .f32⟩
  | .hbm, ⟨50, _⟩ => ⟨S256x2048, .f32⟩
  | .hbm, ⟨51, _⟩ => ⟨S256x2048, .f32⟩
  | .hbm, ⟨52, _⟩ => ⟨S_, .f32⟩
  | .hbm, ⟨53, _⟩ => ⟨S256x2048, .f32⟩
  | .hbm, ⟨54, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel22.lean ====
abbrev S2048x512 : Shape := ⟨2, ![2048, 512]⟩
abbrev S4x2048x512 : Shape := ⟨3, ![4, 2048, 512]⟩
abbrev S3x2048x512 : Shape := ⟨3, ![3, 2048, 512]⟩
abbrev S1 : Shape := ⟨1, ![1]⟩
abbrev S64x512 : Shape := ⟨2, ![64, 512]⟩
abbrev S1x64x512 : Shape := ⟨3, ![1, 64, 512]⟩
abbrev S3x64x512 : Shape := ⟨3, ![3, 64, 512]⟩

abbrev nBuf : Space → Nat
  | .hbm => 9
  | .vmem => 18
  | .smem => 1
  | _ => 0

abbrev bufTy : (tb : Table) → Fin (tcTables nBuf tb) → BufTy
  | .hbm, ⟨0, _⟩ => ⟨S2048x512, .f32⟩
  | .hbm, ⟨1, _⟩ => ⟨S4x2048x512, .bf16⟩
  | .hbm, ⟨2, _⟩ => ⟨S3x2048x512, .bf16⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .local _ .vmem, ⟨0, _⟩ => ⟨S64x512, .f32⟩
  | .local _ .vmem, ⟨1, _⟩ => ⟨S64x512, .f32⟩
  | .local _ .vmem, ⟨2, _⟩ => ⟨S1x64x512, .bf16⟩
  | .local _ .vmem, ⟨3, _⟩ => ⟨S1x64x512, .bf16⟩
  | .local _ .vmem, ⟨4, _⟩ => ⟨S3x64x512, .bf16⟩
  | .local _ .vmem, ⟨5, _⟩ => ⟨S3x64x512, .bf16⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x512, .f32⟩
  | .local _ .smem, ⟨0, _⟩ => ⟨S1, .i32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S2048x512 : Shape := ⟨2, ![2048, 512]⟩
abbrev S4x2048x512 : Shape := ⟨3, ![4, 2048, 512]⟩
abbrev S3x2048x512 : Shape := ⟨3, ![3, 2048, 512]⟩
abbrev S1 : Shape := ⟨1, ![1]⟩
abbrev S4 : Shape := ⟨1, ![4]⟩
abbrev S4x1x1 : Shape := ⟨3, ![4, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S4x2048x512, .bf16⟩
  | .hbm, ⟨2, _⟩ => ⟨S3x2048x512, .bf16⟩
  | .hbm, ⟨3, _⟩ => ⟨S2048x512, .f32⟩
  | .hbm, ⟨4, _⟩ => ⟨S2048x512, .f32⟩
  | .hbm, ⟨5, _⟩ => ⟨S1, .i32⟩
  | .hbm, ⟨6, _⟩ => ⟨S4, .i32⟩
  | .hbm, ⟨7, _⟩ => ⟨S4, .i32⟩
  | .hbm, ⟨8, _⟩ => ⟨S4, .i1⟩
  | .hbm, ⟨9, _⟩ => ⟨S4x1x1, .i1⟩
  | .hbm, ⟨10, _⟩ => ⟨S4x2048x512, .f32⟩
  | .hbm, ⟨11, _⟩ => ⟨S_, .f32⟩
  | .hbm, ⟨12, _⟩ => ⟨S_, .f32⟩
  | .hbm, ⟨13, _⟩ => ⟨S4x2048x512, .i1⟩
  | .hbm, ⟨14, _⟩ => ⟨S4x2048x512, .f32⟩
  | .hbm, ⟨15, _⟩ => ⟨S4x2048x512, .f32⟩
  | .hbm, ⟨16, _⟩ => ⟨S_, .f32⟩
  | .hbm, ⟨17, _⟩ => ⟨S2048x512, .f32⟩
  | .hbm, ⟨18, _⟩ => ⟨S3x2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S_, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S_, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S_, .f32⟩
  | .hbm, ⟨53, _⟩ => ⟨S2048x512, .f32⟩
  | .hbm, ⟨54, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel23.lean ====
abbrev S512x512 : Shape := ⟨2, ![512, 512]⟩
abbrev S4x512x512 : Shape := ⟨3, ![4, 512, 512]⟩
abbrev S3x512x512 : Shape := ⟨3, ![3, 512, 512]⟩
abbrev S1 : Shape := ⟨1, ![1]⟩
abbrev S64x512 : Shape := ⟨2, ![64, 512]⟩
abbrev S1x64x512 : Shape := ⟨3, ![1, 64, 512]⟩
abbrev S3x64x512 : Shape := ⟨3, ![3, 64, 512]⟩

abbrev nBuf : Space → Nat
  | .hbm => 9
  | .vmem => 18
  | .smem => 1
  | _ => 0

abbrev bufTy : (tb : Table) → Fin (tcTables nBuf tb) → BufTy
  | .hbm, ⟨0, _⟩ => ⟨S512x512, .f32⟩
  | .hbm, ⟨1, _⟩ => ⟨S4x512x512, .bf16⟩
  | .hbm, ⟨2, _⟩ => ⟨S3x512x512, .bf16⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .local _ .vmem, ⟨0, _⟩ => ⟨S64x512, .f32⟩
  | .local _ .vmem, ⟨1, _⟩ => ⟨S64x512, .f32⟩
  | .local _ .vmem, ⟨2, _⟩ => ⟨S1x64x512, .bf16⟩
  | .local _ .vmem, ⟨3, _⟩ => ⟨S1x64x512, .bf16⟩
  | .local _ .vmem, ⟨4, _⟩ => ⟨S3x64x512, .bf16⟩
  | .local _ .vmem, ⟨5, _⟩ => ⟨S3x64x512, .bf16⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x512, .f32⟩
  | .local _ .smem, ⟨0, _⟩ => ⟨S1, .i32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S512x512 : Shape := ⟨2, ![512, 512]⟩
abbrev S4x512x512 : Shape := ⟨3, ![4, 512, 512]⟩
abbrev S3x512x512 : Shape := ⟨3, ![3, 512, 512]⟩
abbrev S1 : Shape := ⟨1, ![1]⟩
abbrev S4 : Shape := ⟨1, ![4]⟩
abbrev S4x1x1 : Shape := ⟨3, ![4, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S4x512x512, .bf16⟩
  | .hbm, ⟨2, _⟩ => ⟨S3x512x512, .bf16⟩
  | .hbm, ⟨3, _⟩ => ⟨S512x512, .f32⟩
  | .hbm, ⟨4, _⟩ => ⟨S512x512, .f32⟩
  | .hbm, ⟨5, _⟩ => ⟨S1, .i32⟩
  | .hbm, ⟨6, _⟩ => ⟨S4, .i32⟩
  | .hbm, ⟨7, _⟩ => ⟨S4, .i32⟩
  | .hbm, ⟨8, _⟩ => ⟨S4, .i1⟩
  | .hbm, ⟨9, _⟩ => ⟨S4x1x1, .i1⟩
  | .hbm, ⟨10, _⟩ => ⟨S4x512x512, .f32⟩
  | .hbm, ⟨11, _⟩ => ⟨S_, .f32⟩
  | .hbm, ⟨12, _⟩ => ⟨S_, .f32⟩
  | .hbm, ⟨13, _⟩ => ⟨S4x512x512, .i1⟩
  | .hbm, ⟨14, _⟩ => ⟨S4x512x512, .f32⟩
  | .hbm, ⟨15, _⟩ => ⟨S4x512x512, .f32⟩
  | .hbm, ⟨16, _⟩ => ⟨S_, .f32⟩
  | .hbm, ⟨17, _⟩ => ⟨S512x512, .f32⟩
  | .hbm, ⟨18, _⟩ => ⟨S3x512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S_, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S_, .f32⟩
  | .hbm, ⟨38, _⟩ => ⟨S512x512, .f32⟩
  | .hbm, ⟨39, _⟩ => ⟨S512x512, .f32⟩
  | .hbm, ⟨40, _⟩ => ⟨S_, .f32⟩
  | .hbm, ⟨41, _⟩ => ⟨S512x512, .f32⟩
  | .hbm, ⟨42, _⟩ => ⟨S512x512, .f32⟩
  | .hbm, ⟨43, _⟩ => ⟨S512x512, .f32⟩
  | .hbm, ⟨44, _⟩ => ⟨S_, .f32⟩
  | .hbm, ⟨45, _⟩ => ⟨S512x512, .f32⟩
  | .hbm, ⟨46, _⟩ => ⟨S512x512, .f32⟩
  | .hbm, ⟨47, _⟩ => ⟨S512x512, .f32⟩
  | .hbm, ⟨48, _⟩ => ⟨S_, .f32⟩
  | .hbm, ⟨49, _⟩ => ⟨S512x512, .f32⟩
  | .hbm, ⟨50, _⟩ => ⟨S512x512, .f32⟩
  | .hbm, ⟨51, _⟩ => ⟨S512x512, .f32⟩
  | .hbm, ⟨52, _⟩ => ⟨S_, .f32⟩
  | .hbm, ⟨53, _⟩ => ⟨S512x512, .f32⟩
  | .hbm, ⟨54, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel24.lean ====
abbrev S4x704x2048 : Shape := ⟨3, ![4, 704, 2048]⟩
abbrev S3x704x2048 : Shape := ⟨3, ![3, 704, 2048]⟩
abbrev S1 : Shape := ⟨1, ![1]⟩
abbrev S1x64x2048 : Shape := ⟨3, ![1, 64, 2048]⟩
abbrev S3x64x2048 : Shape := ⟨3, ![3, 64, 2048]⟩
abbrev S64x2048 : Shape := ⟨2, ![64, 2048]⟩

abbrev nBuf : Space → Nat
  | .hbm => 13
  | .vmem => 18
  | .smem => 1
  | _ => 0

abbrev bufTy : (tb : Table) → Fin (tcTables nBuf tb) → BufTy
  | .hbm, ⟨0, _⟩ => ⟨S4x704x2048, .f32⟩
  | .hbm, ⟨1, _⟩ => ⟨S4x704x2048, .bf16⟩
  | .hbm, ⟨2, _⟩ => ⟨S3x704x2048, .bf16⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .hbm, ⟨12, _⟩ => ⟨S4x704x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .bf16⟩
  | .local _ .vmem, ⟨7, _⟩ => ⟨S1x64x2048, .bf16⟩
  | .local _ .vmem, ⟨8, _⟩ => ⟨S3x64x2048, .bf16⟩
  | .local _ .vmem, ⟨9, _⟩ => ⟨S3x64x2048, .bf16⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S4x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 11], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let c0_i32_2 : BitVec 32 := 0#32
  ![v0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference24Ideal.lean ====
abbrev S4x704x2048 : Shape := ⟨3, ![4, 704, 2048]⟩
abbrev S3x704x2048 : Shape := ⟨3, ![3, 704, 2048]⟩
abbrev S1 : Shape := ⟨1, ![1]⟩
abbrev S1x704x2048 : Shape := ⟨3, ![1, 704, 2048]⟩
abbrev S1x4x704x2048 : Shape := ⟨4, ![1, 4, 704, 2048]⟩
abbrev S1x3x704x2048 : Shape := ⟨4, ![1, 3, 704, 2048]⟩
abbrev S4 : Shape := ⟨1, ![4]⟩
abbrev S1x4x1x1 : Shape := ⟨4, ![1, 4, 1, 1]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .bf16⟩
  | .hbm, ⟨2, _⟩ => ⟨S3x704x2048, .bf16⟩
  | .hbm, ⟨3, _⟩ => ⟨S4x704x2048, .f32⟩
  | .hbm, ⟨4, _⟩ => ⟨S4x704x2048, .f32⟩
  | .hbm, ⟨5, _⟩ => ⟨S1, .i32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S1x704x2048, .f32⟩
  | .hbm, ⟨11, _⟩ => ⟨S1x704x2048, .f32⟩
  | .hbm, ⟨12, _⟩ => ⟨S1x704x2048, .f32⟩
  | .hbm, ⟨13, _⟩ => ⟨S1x4x704x2048, .bf16⟩
  | .hbm, ⟨14, _⟩ => ⟨S1x4x704x2048, .f32⟩
  | .hbm, ⟨15, _⟩ => ⟨S1x3x704x2048, .bf16⟩
  | .hbm, ⟨16, _⟩ => ⟨S1x3x704x2048, .f32⟩
  | .hbm, ⟨17, _⟩ => ⟨S4, .i32⟩
  | .hbm, ⟨18, _⟩ => ⟨S4, .i32⟩
  | .hbm, ⟨19, _⟩ => ⟨S4, .i1⟩
  | .hbm, ⟨20, _⟩ => ⟨S1x4x1x1, .i1⟩
  | .hbm, ⟨21, _⟩ => ⟨S_, .f32⟩
  | .hbm, ⟨22, _⟩ => ⟨S_, .f32⟩
  | .hbm, ⟨23, _⟩ => ⟨S1x4x704x2048, .i1⟩
  | .hbm, ⟨24, _⟩ => ⟨S1x4x704x2048, .f32⟩
  | .hbm, ⟨25, _⟩ => ⟨S1x4x704x2048, .f32⟩
  | .hbm, ⟨26, _⟩ => ⟨S_, .f32⟩
  | .hbm, ⟨27, _⟩ => ⟨S1x704x2048, .f32⟩
  | .hbm, ⟨28, _⟩ => ⟨S_, .f32⟩
  | .hbm, ⟨29, _⟩ => ⟨S1x704x2048, .f32⟩
  | .hbm, ⟨30, _⟩ => ⟨S1x704x2048, .f32⟩
  | .hbm, ⟨31, _⟩ => ⟨S_, .f32⟩
  | .hbm, ⟨32, _⟩ => ⟨S1x704x2048, .f32⟩
  | .hbm, ⟨33, _⟩ => ⟨S1x704x2048, .f32⟩
  | .hbm, ⟨34, _⟩ => ⟨S_, .f32⟩
  | .hbm, ⟨35, _⟩ => ⟨S1x704x2048, .f32⟩
  | .hbm, ⟨36, _⟩ => ⟨S1x704x2048, .f32⟩
  | .hbm, ⟨37, _⟩ => ⟨S1x704x2048, .f32⟩
  | .hbm, ⟨38, _⟩ => ⟨S_, .f32⟩
  | .hbm, ⟨39, _⟩ => ⟨S1x704x2048, .f32⟩
  | .hbm, ⟨40, _⟩ => ⟨S1x704x2048, .f32⟩
  | .hbm, ⟨41, _⟩ => ⟨S1x704x2048, .f32⟩
  | .hbm, ⟨42, _⟩ => ⟨S_, .f32⟩
  | .hbm, ⟨43, _⟩ => ⟨S1x704x2048, .f32⟩
  | .hbm, ⟨44, _⟩ => ⟨S1x704x2048, .f32⟩
  | .hbm, ⟨45, _⟩ => ⟨S1x704x2048, .f32⟩
  | .hbm, ⟨46, _⟩ => ⟨S_, .f32⟩
  | .hbm, ⟨47, _⟩ => ⟨S1x704x2048, .f32⟩
  | .hbm, ⟨48, _⟩ => ⟨S1x704x2048, .f32⟩
  | .hbm, ⟨49, _⟩ => ⟨S_, .f32⟩
  | .hbm, ⟨50, _⟩ => ⟨S1x704x2048, .f32⟩
  | .hbm, ⟨51, _⟩ => ⟨S1x704x2048, .f32⟩
  | .hbm, ⟨52, _⟩ => ⟨S1x704x2048, .f32⟩
  | .hbm, ⟨53, _⟩ => ⟨S_, .f32⟩
  | .hbm, ⟨54, _⟩ => ⟨S1x704x2048, .f32⟩
  | .hbm, ⟨55, _⟩ => ⟨S1x704x2048, .f32⟩
  | .hbm, ⟨56, _⟩ => ⟨S1x704x2048, .f32⟩
  | .hbm, ⟨57, _⟩ => ⟨S_, .f32⟩
  | .hbm, ⟨58, _⟩ => ⟨S1x704x2048, .f32⟩
  | .hbm, ⟨59, _⟩ => ⟨S1x704x2048, .f32⟩
  | .hbm, ⟨60, _⟩ => ⟨S1x704x2048, .f32⟩
  | .hbm, ⟨61, _⟩ => ⟨S_, .f32⟩
  | .hbm, ⟨62, _⟩ => ⟨S1x704x2048, .f32⟩
  | .hbm, ⟨63, _⟩ => ⟨S1x704x2048, .f32⟩
  | .hbm, ⟨64, _⟩ => ⟨S3x704x2048, .f32⟩
  | .hbm, ⟨65, _⟩ => ⟨S4x704x2048, .f32⟩
  | .hbm, ⟨66, _⟩ => ⟨S3x704x2048, .f32⟩
  | .hbm, ⟨67, _⟩ => ⟨S4x704x2048, .f32⟩
  | .hbm, ⟨68, _⟩ => ⟨S3x704x2048, .f32⟩
  | .hbm, ⟨69, _⟩ => ⟨S4x704x2048, .f32⟩
  | .hbm, ⟨70, _⟩ => ⟨S3x704x2048, .f32⟩
  | .hbm, ⟨71, _⟩ => ⟨S4x704x2048, .f32⟩
  | _, _ => ⟨S4x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩

abbrev nD : Nat := 1
abbrev τ : Topo := Topo.v7x

variable {F : FTy → Type} [FloatOps F]
-- ==== Kernel25.lean ====
abbrev S4x704x2048 : Shape := ⟨3, ![4, 704, 2048]⟩
abbrev S3x704x2048 : Shape := ⟨3, ![3, 704, 2048]⟩
abbrev S1 : Shape := ⟨1, ![1]⟩
abbrev S1x64x2048 : Shape := ⟨3, ![1, 64, 2048]⟩
abbrev S3x64x2048 : Shape := ⟨3, ![3, 64, 2048]⟩
abbrev S64x2048 : Shape := ⟨2, ![64, 2048]⟩

abbrev nBuf : Space → Nat
  | .hbm => 17
  | .vmem => 26
  | .smem => 1
  | _ => 0

abbrev bufTy : (tb : Table) → Fin (tcTables nBuf tb) → BufTy
  | .hbm, ⟨0, _⟩ => ⟨S4x704x2048, .f32⟩
  | .hbm, ⟨1, _⟩ => ⟨S4x704x2048, .bf16⟩
  | .hbm, ⟨2, _⟩ => ⟨S4x704x2048, .bf16⟩
  | .hbm, ⟨3, _⟩ => ⟨S4x704x2048, .bf16⟩
  | .hbm, ⟨4, _⟩ => ⟨S3x704x2048, .bf16⟩
  | .hbm, ⟨5, _⟩ => ⟨S3x704x2048, .bf16⟩
  | .hbm, ⟨6, _⟩ => ⟨S3x704x2048, .bf16⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .hbm, ⟨12, _⟩ => ⟨S4x704x2048, .f32⟩
  | .hbm, ⟨13, _⟩ => ⟨S3x704x2048, .f32⟩
  | .hbm, ⟨14, _⟩ => ⟨S3x704x2048, .f32⟩
  | .hbm, ⟨15, _⟩ => ⟨S3x704x2048, .f32⟩
  | .hbm, ⟨16, _⟩ => ⟨S3x704x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .bf16⟩
  | .local _ .vmem, ⟨7, _⟩ => ⟨S1x64x2048, .bf16⟩
  | .local _ .vmem, ⟨8, _⟩ => ⟨S1x64x2048, .bf16⟩
  | .local _ .vmem, ⟨9, _⟩ => ⟨S1x64x2048, .bf16⟩
  | .local _ .vmem, ⟨10, _⟩ => ⟨S1x64x2048, .bf16⟩
  | .local _ .vmem, ⟨11, _⟩ => ⟨S1x64x2048, .bf16⟩
  | .local _ .vmem, ⟨12, _⟩ => ⟨S3x64x2048, .bf16⟩
  | .local _ .vmem, ⟨13, _⟩ => ⟨S3x64x2048, .bf16⟩
  | .local _ .vmem, ⟨14, _⟩ => ⟨S3x64x2048, .bf16⟩
  | .local _ .vmem, ⟨15, _⟩ => ⟨S3x64x2048, .bf16⟩
  | .local _ .vmem, ⟨16, _⟩ => ⟨S3x64x2048, .bf16⟩
  | .local _ .vmem, ⟨17, _⟩ => ⟨S3x64x2048, .bf16⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | .local _ .vmem, ⟨22, _⟩ => ⟨S1x64x2048, .f32⟩
  | .local _ .vmem, ⟨23, _⟩ => ⟨S1x64x2048, .f32⟩
  | .local _ .vmem, ⟨24, _⟩ => ⟨S1x64x2048, .f32⟩
  | .local _ .vmem, ⟨25, _⟩ => ⟨S1x64x2048, .f32⟩
  | .local _ .smem, ⟨0, _⟩ => ⟨S1, .i32⟩
  | _, _ => ⟨S4x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![3, 11], ![false, false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let c0_i32_2 : BitVec 32 := 0#32
  ![v0.toNat, v2.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 1 := Scalar.cmpi .eq arg0 c2_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference25Ideal.lean ====
abbrev S4x704x2048 : Shape := ⟨3, ![4, 704, 2048]⟩
abbrev S3x704x2048 : Shape := ⟨3, ![3, 704, 2048]⟩
abbrev S1 : Shape := ⟨1, ![1]⟩
abbrev S1x4x704x2048 : Shape := ⟨4, ![1, 4, 704, 2048]⟩
abbrev S3x4x704x2048 : Shape := ⟨4, ![3, 4, 704, 2048]⟩
abbrev S1x3x704x2048 : Shape := ⟨4, ![1, 3, 704, 2048]⟩
abbrev S3x3x704x2048 : Shape := ⟨4, ![3, 3, 704, 2048]⟩
abbrev S4 : Shape := ⟨1, ![4]⟩
abbrev S1x4x1x1 : Shape := ⟨4, ![1, 4, 1, 1]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .bf16⟩
  | .hbm, ⟨2, _⟩ => ⟨S4x704x2048, .bf16⟩
  | .hbm, ⟨3, _⟩ => ⟨S4x704x2048, .bf16⟩
  | .hbm, ⟨4, _⟩ => ⟨S3x704x2048, .bf16⟩
  | .hbm, ⟨5, _⟩ => ⟨S3x704x2048, .bf16⟩
  | .hbm, ⟨6, _⟩ => ⟨S3x704x2048, .bf16⟩
  | .hbm, ⟨7, _⟩ => ⟨S4x704x2048, .f32⟩
  | .hbm, ⟨8, _⟩ => ⟨S4x704x2048, .f32⟩
  | .hbm, ⟨9, _⟩ => ⟨S1, .i32⟩
  | .hbm, ⟨10, _⟩ => ⟨S3x704x2048, .f32⟩
  | .hbm, ⟨11, _⟩ => ⟨S3x704x2048, .f32⟩
  | .hbm, ⟨12, _⟩ => ⟨S3x704x2048, .f32⟩
  | .hbm, ⟨13, _⟩ => ⟨S1x4x704x2048, .bf16⟩
  | .hbm, ⟨14, _⟩ => ⟨S1x4x704x2048, .bf16⟩
  | .hbm, ⟨15, _⟩ => ⟨S1x4x704x2048, .bf16⟩
  | .hbm, ⟨16, _⟩ => ⟨S3x4x704x2048, .bf16⟩
  | .hbm, ⟨17, _⟩ => ⟨S3x4x704x2048, .f32⟩
  | .hbm, ⟨18, _⟩ => ⟨S1x3x704x2048, .bf16⟩
  | .hbm, ⟨19, _⟩ => ⟨S1x3x704x2048, .bf16⟩
  | .hbm, ⟨20, _⟩ => ⟨S1x3x704x2048, .bf16⟩
  | .hbm, ⟨21, _⟩ => ⟨S3x3x704x2048, .bf16⟩
  | .hbm, ⟨22, _⟩ => ⟨S3x3x704x2048, .f32⟩
  | .hbm, ⟨23, _⟩ => ⟨S4, .i32⟩
  | .hbm, ⟨24, _⟩ => ⟨S4, .i32⟩
  | .hbm, ⟨25, _⟩ => ⟨S4, .i1⟩
  | .hbm, ⟨26, _⟩ => ⟨S1x4x1x1, .i1⟩
  | .hbm, ⟨27, _⟩ => ⟨S_, .f32⟩
  | .hbm, ⟨28, _⟩ => ⟨S_, .f32⟩
  | .hbm, ⟨29, _⟩ => ⟨S3x4x704x2048, .i1⟩
  | .hbm, ⟨30, _⟩ => ⟨S3x4x704x2048, .f32⟩
  | .hbm, ⟨31, _⟩ => ⟨S3x4x704x2048, .f32⟩
  | .hbm, ⟨32, _⟩ => ⟨S_, .f32⟩
  | .hbm, ⟨33, _⟩ => ⟨S3x704x2048, .f32⟩
  | .hbm, ⟨34, _⟩ => ⟨S_, .f32⟩
  | .hbm, ⟨35, _⟩ => ⟨S3x704x2048, .f32⟩
  | .hbm, ⟨36, _⟩ => ⟨S3x704x2048, .f32⟩
  | .hbm, ⟨37, _⟩ => ⟨S_, .f32⟩
  | .hbm, ⟨38, _⟩ => ⟨S3x704x2048, .f32⟩
  | .hbm, ⟨39, _⟩ => ⟨S3x704x2048, .f32⟩
  | .hbm, ⟨40, _⟩ => ⟨S_, .f32⟩
  | .hbm, ⟨41, _⟩ => ⟨S3x704x2048, .f32⟩
  | .hbm, ⟨42, _⟩ => ⟨S3x704x2048, .f32⟩
  | .hbm, ⟨43, _⟩ => ⟨S3x704x2048, .f32⟩
  | .hbm, ⟨44, _⟩ => ⟨S_, .f32⟩
  | .hbm, ⟨45, _⟩ => ⟨S3x704x2048, .f32⟩
  | .hbm, ⟨46, _⟩ => ⟨S3x704x2048, .f32⟩
  | .hbm, ⟨47, _⟩ => ⟨S3x704x2048, .f32⟩
  | .hbm, ⟨48, _⟩ => ⟨S_, .f32⟩
  | .hbm, ⟨49, _⟩ => ⟨S3x704x2048, .f32⟩
  | .hbm, ⟨50, _⟩ => ⟨S3x704x2048, .f32⟩
  | .hbm, ⟨51, _⟩ => ⟨S3x704x2048, .f32⟩
  | .hbm, ⟨52, _⟩ => ⟨S_, .f32⟩
  | .hbm, ⟨53, _⟩ => ⟨S3x704x2048, .f32⟩
  | .hbm, ⟨54, _⟩ => ⟨S3x704x2048, .f32⟩
  | .hbm, ⟨55, _⟩ => ⟨S_, .f32⟩
  | .hbm, ⟨56, _⟩ => ⟨S3x704x2048, .f32⟩
  | .hbm, ⟨57, _⟩ => ⟨S3x704x2048, .f32⟩
  | .hbm, ⟨58, _⟩ => ⟨S3x704x2048, .f32⟩
  | .hbm, ⟨59, _⟩ => ⟨S_, .f32⟩
  | .hbm, ⟨60, _⟩ => ⟨S3x704x2048, .f32⟩
  | .hbm, ⟨61, _⟩ => ⟨S3x704x2048, .f32⟩
  | .hbm, ⟨62, _⟩ => ⟨S3x704x2048, .f32⟩
  | .hbm, ⟨63, _⟩ => ⟨S_, .f32⟩
  | .hbm, ⟨64, _⟩ => ⟨S3x704x2048, .f32⟩
  | .hbm, ⟨65, _⟩ => ⟨S3x704x2048, .f32⟩
  | .hbm, ⟨66, _⟩ => ⟨S3x704x2048, .f32⟩
  | .hbm, ⟨67, _⟩ => ⟨S_, .f32⟩
  | .hbm, ⟨68, _⟩ => ⟨S3x704x2048, .f32⟩
  | .hbm, ⟨69, _⟩ => ⟨S3x704x2048, .f32⟩
  | _, _ => ⟨S4x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! # The body of the attention's gradient, run with its values named

The two counted loops of the body get invariants that say what each scratch slab, each carried value and each block of
rows of the two accumulated outputs holds, so that the body's outputs are functions of the four input blocks and of
what the accumulated outputs held before. -/

@[expose] public section

set_option maxRecDepth 16384

noncomputable section

namespace Cert.KernelIdeal.Att

open KernelIdeal KernelIdeal.Gen
open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the loops' rectangles lie -/

theorem trips1 : ∀ i : grid0.Coords, (k0_t1_loop i).trips = (i 1).val + 1 := by decide +kernel
theorem trips2 : ∀ i : grid0.Coords, (k0_t2_loop i).trips = 0 := by decide +kernel
theorem trips3 : ∀ i : grid0.Coords, (k0_t3_loop i).trips = (i 1).val + 1 := by decide +kernel
theorem trips4 : ∀ i : grid0.Coords, (k0_t4_loop i).trips = 0 := by decide +kernel

theorem off1_eq : ∀ (i : grid0.Coords) (k : Fin (k0_t1_loop i).trips), k0_off1 i k = ![256 * ((i 1).val - k.val), 0] := by
  decide +kernel
theorem off2_eq : ∀ (i : grid0.Coords) (k : Fin (k0_t1_loop i).trips), k0_off2 i k = ![(i 1).val - k.val, 0, 0] := by
  decide +kernel

/-- The block of 256 rows number `j` (taken below 8) of a 2048-row buffer. -/
def rowR (j : ℕ) : Rect S2048x128 :=
  Rect.unit (s := S2048x128) ![256 * (j % 8), 0] S256x128.size (by
    intro a
    have h := Nat.mod_lt j (show 8 > 0 by decide)
    match a with
    | ⟨0, _⟩ => show 256 * (j % 8) + 256 ≤ 2048; omega
    | ⟨1, _⟩ => exact le_refl _)

/-- Slab number `j` (taken below 8) of a scratch of eight tiles. -/
def slabR (j : ℕ) : Rect S8x256x256 :=
  Rect.unit (s := S8x256x256) ![j % 8, 0, 0] S1x256x256.size (by
    intro a
    have h := Nat.mod_lt j (show 8 > 0 by decide)
    match a with
    | ⟨0, _⟩ => show j % 8 + 1 ≤ 8; omega
    | ⟨1, _⟩ => exact le_refl _
    | ⟨2, _⟩ => exact le_refl _)

/-! ## Storing a block of rows, or a slab -/

/-- A block of rows stored. -/
def putRows (M : Memref sig .tc .vmem S2048x128 .f32) (f : BufTy.Contents (Elt F) M.view.ty) (j : ℕ) (w : FVec F S256x128 .f32) :
    BufTy.Contents (Elt F) M.view.ty := M.view.writes (Elt F) f [⟨rowR j, w⟩]
/-- A slab stored. -/
def putSlab (M : Memref sig .tc .vmem S8x256x256 .f32) (f : BufTy.Contents (Elt F) M.view.ty) (j : ℕ) (w : FVec F S1x256x256 .f32) :
    BufTy.Contents (Elt F) M.view.ty := M.view.writes (Elt F) f [⟨slabR j, w⟩]

theorem writes_unit_congr {S : Shape} {e : EltTy} (M : Memref sig .tc .vmem S e) (f : BufTy.Contents (Elt F) M.view.ty) {o o' : Fin S.rank → ℕ} {z : Fin S.rank → ℕ}
    (h) (h') (e' : o = o') (w : (Rect.unit (s := S) o z h).shape.Idx → Elt F e) :
    M.view.writes (Elt F) f [⟨Rect.unit (s := S) o z h, w⟩] = M.view.writes (Elt F) f [⟨Rect.unit (s := S) o' z h', w⟩] := by
  subst e'; rfl

theorem putRows6 (i : grid0.Coords) (k : Fin (k0_t3_loop i).trips) (M : Memref sig .tc .vmem S2048x128 .f32) (f : BufTy.Contents (Elt F) M.view.ty) (w : FVec F S256x128 .f32) :
    putRows M f k.val w = M.view.writes (Elt F) f [⟨Rect.unit (s := S2048x128) (k0_off6 i k) S256x128.size (k0_off6_inb i k), w⟩] := by
  have : (i 1).val < 8 := (i 1).isLt
  have := Nat.lt_of_lt_of_eq k.isLt (trips3 i)
  exact writes_unit_congr M f _ _ (by rw [k0_off6_eq, Nat.mod_eq_of_lt (by omega)]) w
theorem putSlab2 (i : grid0.Coords) (k : Fin (k0_t1_loop i).trips) (M : Memref sig .tc .vmem S8x256x256 .f32) (f : BufTy.Contents (Elt F) M.view.ty) (w : FVec F S1x256x256 .f32) :
    putSlab M f ((i 1).val - k.val) w = M.view.writes (Elt F) f [⟨Rect.unit (s := S8x256x256) (k0_off2 i k) S1x256x256.size (k0_off2_inb i k), w⟩] := by
  have : (i 1).val < 8 := (i 1).isLt
  exact writes_unit_congr M f _ _ (by rw [off2_eq, Nat.mod_eq_of_lt (by omega)]) w

/-- Block `j` of 256 rows. -/
def rows {e : EltTy} (X : Vec F S2048x128 e) (j : ℕ) : Vec F S256x128 e := View.ld (Val := Elt F) X (rowR j)
/-- Slab `j`. -/
def slab (X : Vec F S8x256x256 .f32) (j : ℕ) : FVec F S1x256x256 .f32 := View.ld (Val := Elt F) X (slabR j)

theorem ld_unit_congr {S : Shape} {e : EltTy} (X : Vec F S e) {o o' : Fin S.rank → ℕ} {z : Fin S.rank → ℕ} (h) (h') (e' : o = o') :
    View.ld (Val := Elt F) X (Rect.unit (s := S) o z h) = View.ld (Val := Elt F) X (Rect.unit (s := S) o' z h') := by
  subst e'; rfl

theorem rows1 {e : EltTy} (i : grid0.Coords) (k : Fin (k0_t1_loop i).trips) (M : Memref sig .tc .vmem S2048x128 e) (f : BufTy.Contents (Elt F) M.view.ty) :
    rows (M.view.read (Elt F) f) ((i 1).val - k.val) = View.readAt (Elt F) M.view (Rect.unit (s := S2048x128) (k0_off1 i k) S256x128.size (k0_off1_inb i k)).toLoadRect f := by
  have : (i 1).val < 8 := (i 1).isLt
  show View.ld (Val := Elt F) (M.view.read (Elt F) f) (rowR ((i 1).val - k.val)) = View.ld (Val := Elt F) (M.view.read (Elt F) f) (Rect.unit (s := S2048x128) (k0_off1 i k) S256x128.size (k0_off1_inb i k))
  refine ld_unit_congr (F := F) _ _ _ ?_
  rw [off1_eq, Nat.mod_eq_of_lt (by omega)]
theorem rows6 {e : EltTy} (i : grid0.Coords) (k : Fin (k0_t3_loop i).trips) (M : Memref sig .tc .vmem S2048x128 e) (f : BufTy.Contents (Elt F) M.view.ty) :
    rows (M.view.read (Elt F) f) k.val = View.readAt (Elt F) M.view (Rect.unit (s := S2048x128) (k0_off6 i k) S256x128.size (k0_off6_inb i k)).toLoadRect f := by
  have : (i 1).val < 8 := (i 1).isLt
  have := Nat.lt_of_lt_of_eq k.isLt (trips3 i)
  show View.ld (Val := Elt F) (M.view.read (Elt F) f) (rowR k.val) = View.ld (Val := Elt F) (M.view.read (Elt F) f) (Rect.unit (s := S2048x128) (k0_off6 i k) S256x128.size (k0_off6_inb i k))
  refine ld_unit_congr (F := F) _ _ _ ?_
  rw [k0_off6_eq, Nat.mod_eq_of_lt (by omega)]
theorem slab5 (i : grid0.Coords) (k : Fin (k0_t3_loop i).trips) (M : Memref sig .tc .vmem S8x256x256 .f32) (f : BufTy.Contents (Elt F) M.view.ty) :
    slab (M.view.read (Elt F) f) k.val = View.readAt (Elt F) M.view (Rect.unit (s := S8x256x256) (k0_off5 i k) S1x256x256.size (k0_off5_inb i k)).toLoadRect f := by
  have : (i 1).val < 8 := (i 1).isLt
  have := Nat.lt_of_lt_of_eq k.isLt (trips3 i)
  show View.ld (Val := Elt F) (M.view.read (Elt F) f) (slabR k.val) = View.ld (Val := Elt F) (M.view.read (Elt F) f) (Rect.unit (s := S8x256x256) (k0_off5 i k) S1x256x256.size (k0_off5_inb i k))
  refine ld_unit_congr (F := F) _ _ _ ?_
  rw [k0_off5_eq, Nat.mod_eq_of_lt (by omega)]

/-! ## The values -/

section Values
variable (i : grid0.Coords) (a1 : BitVec 32) (q dO : Vec F S256x128 .bf16) (K V : Vec F S2048x128 .bf16)

/-- Trip `n` of the first loop (the last one past the end). -/
def t1 (n : ℕ) : Fin (k0_t1_loop i).trips := ⟨min n (i 1).val, by rw [trips1]; omega⟩
/-- Trip `n` of the second loop (the last one past the end). -/
def t3 (n : ℕ) : Fin (k0_t3_loop i).trips := ⟨min n (i 1).val, by rw [trips3]; omega⟩

theorem t1_val (k : Fin (k0_t1_loop i).trips) : t1 i k.val = k :=
  Fin.ext (by have := Nat.lt_of_lt_of_eq k.isLt (trips1 i); show min k.val _ = k.val; omega)
theorem t3_val (k : Fin (k0_t3_loop i).trips) : t3 i k.val = k :=
  Fin.ext (by have := Nat.lt_of_lt_of_eq k.isLt (trips3 i); show min k.val _ = k.val; omega)

/-- The logarithms of `1 - β` summed over the tiles of keys the first loop has passed, before its trip `n`. -/
def runD : ℕ → FVec F S256x1 .f32
  | 0 => k0_pay31
  | n + 1 => k0_pay33 (runD n) (k0_pay12 i a1 q 0#32 1#32 (t1 i n) (rows K ((i 1).val - n)))

/-- The tile of attention weights over the keys of block `j`, as the first loop stores it. -/
def aAt (j : ℕ) : FVec F S1x256x256 .f32 :=
  k0_pay13 i a1 q (k0_pay27 (F := F)) 0#32 1#32 (t1 i ((i 1).val - j)) (runD i a1 q K ((i 1).val - j)) (rows K ((i 1).val - ((i 1).val - j)))
/-- The tile of `β` over the keys of block `j`, as the first loop stores it. -/
def sAt (j : ℕ) : FVec F S1x256x256 .f32 := k0_pay32 (k0_pay11 q (rows K ((i 1).val - ((i 1).val - j))))

/-- The products of weight and weight's gradient summed over the tiles of keys the second loop has passed. -/
def runU : ℕ → FVec F S256x1 .f32
  | 0 => k0_pay37
  | j + 1 => k0_pay4 (runU j) (k0_pay20 dO (aAt i a1 q K j) (rows V j))

/-- The tile of scores' gradient over the keys of block `j`. -/
def dzAt (j : ℕ) : FVec F S256x256 .bf16 :=
  k0_pay21 i a1 dO (k0_pay28 (F := F)) 0#32 1#32 (t3 i j) (runU i a1 q dO K V j) (aAt i a1 q K j) (sAt i q K j) (rows V j)

/-- The gradient of the queries summed over the tiles of keys the second loop has passed. -/
def dqS : ℕ → FVec F S256x128 .f32
  | 0 => k0_pay36
  | j + 1 => k0_pay1 (dqS j) (k0_pay22 i a1 dO (k0_pay28 (F := F)) 0#32 1#32 (t3 i j) (runU i a1 q dO K V j) (aAt i a1 q K j) (sAt i q K j) (rows V j) (rows K j))

variable (a7 : Memref sig .tc .vmem S2048x128 .f32)

/-- The keys' gradient's buffer before trip `n` of the second loop, from its contents `G` at the loop's entry. -/
def dkC (G : BufTy.Contents (Elt F) a7.view.ty) : ℕ → BufTy.Contents (Elt F) a7.view.ty
  | 0 => G
  | j + 1 => putRows a7 (dkC G j) j (k0_pay2 q (dzAt i a1 q dO K V j) (rows (a7.view.read (Elt F) (dkC G j)) j))

/-- The values' gradient's buffer before trip `n` of the second loop, from its contents `G` at the loop's entry. -/
def dvC (G : BufTy.Contents (Elt F) a7.view.ty) : ℕ → BufTy.Contents (Elt F) a7.view.ty
  | 0 => G
  | j + 1 => putRows a7 (dvC G j) j (k0_pay3 dO (k0_pay19 (aAt i a1 q K j)) (rows (a7.view.read (Elt F) (dvC G j)) j))

/-- Before trip `k` of the first loop the slabs it has stored hold the tiles of weights. -/
def HoldsA (a9 : Memref sig .tc .vmem S8x256x256 .f32) (f : BufTy.Contents (Elt F) a9.view.ty) (k : ℕ) : Prop :=
  ∀ j, j ≤ (i 1).val → (i 1).val < j + k → slab (a9.view.read (Elt F) f) j = aAt i a1 q K j
/-- Before trip `k` of the first loop the slabs it has stored hold the tiles of `β`. -/
def HoldsS (a10 : Memref sig .tc .vmem S8x256x256 .f32) (f : BufTy.Contents (Elt F) a10.view.ty) (k : ℕ) : Prop :=
  ∀ j, j ≤ (i 1).val → (i 1).val < j + k → slab (a10.view.read (Elt F) f) j = sAt i q K j
end Values

/-- A slab just stored reads what was stored. -/
theorem slab_same (M : Memref sig .tc .vmem S8x256x256 .f32) (f : BufTy.Contents (Elt F) M.view.ty) (j : ℕ) (w : FVec F S1x256x256 .f32) :
    slab (M.view.read (Elt F) (putSlab M f j w)) j = w :=
  funext fun x => View.read_writes_cons_emb (Val := Elt F) M.view f (slabR j) w [] x

theorem slab_apply0 (j : ℕ) (x : (slabR j).shape.Idx) : ((slabR j).emb x 0).val = j % 8 := by
  have hx : (x 0).val < 1 := (x 0).isLt
  show j % 8 + 1 * (x 0).val = j % 8
  omega

theorem slab_ne (j j' : ℕ) (h : j % 8 ≠ j' % 8) (x : (slabR j').shape.Idx) : (slabR j').emb x ∉ Finset.univ.map (slabR j).emb := by
  rw [Finset.mem_map]
  rintro ⟨x', -, e⟩
  exact h ((slab_apply0 j x').symm.trans ((congrArg (fun z : S8x256x256.Idx => (z 0).val) e).trans (slab_apply0 j' x)))

theorem write_other {S : Shape} {e : EltTy} (M : Memref sig .tc .vmem S e) (f : BufTy.Contents (Elt F) M.view.ty) (r : Rect S) (w : r.shape.Idx → Elt F e)
    (y : S.Idx) (h : y ∉ Finset.univ.map r.emb) : M.view.read (Elt F) (M.view.writes (Elt F) f [⟨r, w⟩]) y = M.view.read (Elt F) f y :=
  View.read_slice_write_of_not_mem (Val := Elt F) r f w Finset.univ h

/-- Storing one slab leaves the others. -/
theorem slab_other (M : Memref sig .tc .vmem S8x256x256 .f32) (f : BufTy.Contents (Elt F) M.view.ty) (j j' : ℕ) (w : FVec F S1x256x256 .f32)
    (h : j % 8 ≠ j' % 8) :
    slab (M.view.read (Elt F) (putSlab M f j w)) j' = slab (M.view.read (Elt F) f) j' :=
  funext fun x => write_other M f (slabR j) w ((slabR j').emb x) (slab_ne j j' h x)

section
variable (𝒱 : Variants) (c : Dev nD) (bd : Option 𝒱.V) (i : grid0.Coords) (a2 : Memref sig .tc .vmem S256x128 .bf16) (b2 : a2.IsWhole) (a3 : Memref sig .tc .vmem S2048x128 .bf16) (b3 : a3.IsWhole) (a4 : Memref sig .tc .vmem S2048x128 .bf16) (b4 : a4.IsWhole) (a5 : Memref sig .tc .vmem S256x128 .bf16) (b5 : a5.IsWhole) (a6 : Memref sig .tc .vmem S256x128 .f32) (b6 : a6.IsWhole) (a7 : Memref sig .tc .vmem S2048x128 .f32) (b7 : a7.IsWhole) (a8 : Memref sig .tc .vmem S2048x128 .f32) (b8 : a8.IsWhole) (a9 : Memref sig .tc .vmem S8x256x256 .f32) (b9 : a9.IsWhole) (a10 : Memref sig .tc .vmem S8x256x256 .f32) (b10 : a10.IsWhole) (a1 : BitVec 32) (q dO : Vec F S256x128 .bf16) (K V : Vec F S2048x128 .bf16)

theorem HoldsA.step {f : BufTy.Contents (Elt F) a9.view.ty} {k : Fin (k0_t1_loop i).trips} (h : HoldsA i a1 q K a9 f k.val) :
    HoldsA i a1 q K a9 (putSlab a9 f ((i 1).val - k.val) (k0_pay13 i a1 q (k0_pay27 (F := F)) 0#32 1#32 k (runD i a1 q K k.val) (rows K ((i 1).val - k.val)))) (k.val + 1) := by
  have hk := Nat.lt_of_lt_of_eq k.isLt (trips1 i)
  have hi : (i 1).val < 8 := (i 1).isLt
  intro j hj hjk
  by_cases e : j = (i 1).val - k.val
  · have ek : (i 1).val - j = k.val := by omega
    rw [← e, slab_same, aAt, ek, t1_val, ← ek, e]
    congr 2; omega
  · rw [slab_other _ _ _ _ _ (by omega)]
    exact h j hj (by omega)

theorem HoldsS.step {f : BufTy.Contents (Elt F) a10.view.ty} {k : Fin (k0_t1_loop i).trips} (h : HoldsS i q K a10 f k.val) :
    HoldsS i q K a10 (putSlab a10 f ((i 1).val - k.val) (k0_pay32 (k0_pay11 q (rows K ((i 1).val - k.val))))) (k.val + 1) := by
  have hk := Nat.lt_of_lt_of_eq k.isLt (trips1 i)
  have hi : (i 1).val < 8 := (i 1).isLt
  intro j hj hjk
  by_cases e : j = (i 1).val - k.val
  · have ek : (i 1).val - j = k.val := by omega
    rw [← e, slab_same, sAt, ek, e]
  · rw [slab_other _ _ _ _ _ (by omega)]
    exact h j hj (by omega)

/-- One trip of the first loop. -/
theorem trip1 (E : Set ℕ) (k : Fin (k0_t1_loop i).trips) (run : FVec F S256x1 .f32) (f9 : BufTy.Contents (Elt F) a9.view.ty) (f10 : BufTy.Contents (Elt F) a10.view.ty) :
    (iprop((a3.view.loc (c : Thread nD τ) ↦[a3.view.set]{fullShare} b3.unread K) ∗ (a9.view.loc (c : Thread nD τ) ↦[a9.view.set]{fullShare} f9) ∗ (a10.view.loc (c : Thread nD τ) ↦[a10.view.set]{fullShare} f10)) : sProp 𝕄)
    ⊢ wp frame (wpE (defs₀ (F := F)) 𝒱 (c : Thread nD τ) bd) E (k0_t1_body (F := F) i a2 b2 a3 b3 a4 b4 a5 b5 a6 b6 a7 b7 a8 b8 a9 b9 a10 b10 a1 q k run)
      (fun y => iprop(⌜y = k0_pay33 run (k0_pay12 i a1 q 0#32 1#32 k (rows K ((i 1).val - k.val)))⌝
        ∗ (a3.view.loc (c : Thread nD τ) ↦[a3.view.set]{fullShare} b3.unread K)
        ∗ (a9.view.loc (c : Thread nD τ) ↦[a9.view.set]{fullShare} putSlab a9 f9 ((i 1).val - k.val) (k0_pay13 i a1 q (k0_pay27 (F := F)) 0#32 1#32 k run (rows K ((i 1).val - k.val))))
        ∗ (a10.view.loc (c : Thread nD τ) ↦[a10.view.set]{fullShare} putSlab a10 f10 ((i 1).val - k.val) (k0_pay32 (k0_pay11 q (rows K ((i 1).val - k.val))))))) := by
  have e := (congrArg (rows · ((i 1).val - k.val)) (b3.read_unread K)).symm.trans (rows1 i k a3 _)
  rw [e, putSlab2, putSlab2]
  unfold k0_t1_body
  iintro ⟨H3, H9, H10⟩
  sl_exec
  sl_step
  isplitr; · ipureintro; rfl
  isplitl [H3]; · iexact H3
  isplitl [H9]; · iexact H9
  iexact H10

/-- The first loop's invariant. -/
@[sl_loop, instance_reducible] def inv1 (E : Set ℕ) :
    Idealize.ShloMosaic.LoopInv (M := 𝕄) Idealize.ShloMosaic.frame (wpE defs₀ 𝒱 (c : Thread nD τ) bd) E
    (k0_t1_loop i).lb (k0_t1_loop i).ub (k0_t1_loop i).st (k0_t1_ok i) (k0_pay31 (F := F)) (k0_t1_body (F := F) i a2 b2 a3 b3 a4 b4 a5 b5 a6 b6 a7 b7 a8 b8 a9 b9 a10 b10 a1 q) where
  inv k acc := iprop((a3.view.loc (c : Thread nD τ) ↦[a3.view.set]{fullShare} b3.unread K)
    ∗ (∃ f, (a9.view.loc (c : Thread nD τ) ↦[a9.view.set]{fullShare} f) ∗ ⌜HoldsA i a1 q K a9 f k⌝)
    ∗ (∃ f, (a10.view.loc (c : Thread nD τ) ↦[a10.view.set]{fullShare} f) ∗ ⌜HoldsS i q K a10 f k⌝)
    ∗ ⌜acc = runD i a1 q K k⌝)
  step k acc := by
    iintro ⟨H3, ⟨%f9, H9, %h9⟩, ⟨%f10, H10, %h10⟩, %e⟩
    subst e
    iapply (wp_wand_r Idealize.ShloMosaic.frame (wpE (defs₀ (F := F)) 𝒱 (c : Thread nD τ) bd) E)
    isplitl [H3 H9 H10]
    · iapply (trip1 𝒱 c bd i a2 b2 a3 b3 a4 b4 a5 b5 a6 b6 a7 b7 a8 b8 a9 b9 a10 b10 a1 q K E k _ f9 f10)
      isplitl [H3]; · iexact H3
      isplitl [H9]; · iexact H9
      iexact H10
    · iintro %y ⟨%ey, H3, H9, H10⟩
      isplitl [H3]; · iexact H3
      isplitl [H9]
      · iexists _; isplitl; · iexact H9
        ipureintro; exact HoldsA.step i a9 a1 q K h9
      isplitl [H10]
      · iexists _; isplitl; · iexact H10
        ipureintro; exact HoldsS.step i a10 q K h10
      ipureintro; rw [ey, runD, t1_val]

/-- One trip of the second loop. -/
theorem trip3 (E : Set ℕ) (k : Fin (k0_t3_loop i).trips) (dq : FVec F S256x128 .f32) (run : FVec F S256x1 .f32) (f7 : BufTy.Contents (Elt F) a7.view.ty) (f8 : BufTy.Contents (Elt F) a8.view.ty) (f9 : BufTy.Contents (Elt F) a9.view.ty) (f10 : BufTy.Contents (Elt F) a10.view.ty)
    (h9 : HoldsA i a1 q K a9 f9 (k0_t1_loop i).trips) (h10 : HoldsS i q K a10 f10 (k0_t1_loop i).trips) :
    (iprop((a3.view.loc (c : Thread nD τ) ↦[a3.view.set]{fullShare} b3.unread K) ∗ (a4.view.loc (c : Thread nD τ) ↦[a4.view.set]{fullShare} b4.unread V) ∗ (a9.view.loc (c : Thread nD τ) ↦[a9.view.set]{fullShare} f9) ∗ (a10.view.loc (c : Thread nD τ) ↦[a10.view.set]{fullShare} f10) ∗ (a7.view.loc (c : Thread nD τ) ↦[a7.view.set]{fullShare} f7) ∗ (a8.view.loc (c : Thread nD τ) ↦[a8.view.set]{fullShare} f8)) : sProp 𝕄)
    ⊢ wp frame (wpE (defs₀ (F := F)) 𝒱 (c : Thread nD τ) bd) E (k0_t3_body (F := F) i a2 b2 a3 b3 a4 b4 a5 b5 a6 b6 a7 b7 a8 b8 a9 b9 a10 b10 a1 q dO (k0_pay28 (F := F)) 0#32 k (dq, run))
      (fun y => iprop(⌜y = (k0_pay1 dq (k0_pay22 i a1 dO (k0_pay28 (F := F)) 0#32 1#32 k run (aAt i a1 q K k.val) (sAt i q K k.val) (rows V k.val) (rows K k.val)), k0_pay4 run (k0_pay20 dO (aAt i a1 q K k.val) (rows V k.val)))⌝
        ∗ (a3.view.loc (c : Thread nD τ) ↦[a3.view.set]{fullShare} b3.unread K) ∗ (a4.view.loc (c : Thread nD τ) ↦[a4.view.set]{fullShare} b4.unread V) ∗ (a9.view.loc (c : Thread nD τ) ↦[a9.view.set]{fullShare} f9) ∗ (a10.view.loc (c : Thread nD τ) ↦[a10.view.set]{fullShare} f10)
        ∗ (a7.view.loc (c : Thread nD τ) ↦[a7.view.set]{fullShare} putRows a7 f7 k.val (k0_pay2 q (k0_pay21 i a1 dO (k0_pay28 (F := F)) 0#32 1#32 k run (aAt i a1 q K k.val) (sAt i q K k.val) (rows V k.val)) (rows (a7.view.read (Elt F) f7) k.val)))
        ∗ (a8.view.loc (c : Thread nD τ) ↦[a8.view.set]{fullShare} putRows a8 f8 k.val (k0_pay3 dO (k0_pay19 (aAt i a1 q K k.val)) (rows (a8.view.read (Elt F) f8) k.val))))) := by
  have hk := Nat.lt_of_lt_of_eq k.isLt (trips3 i)
  have e3 := (congrArg (rows · k.val) (b3.read_unread K)).symm.trans (rows6 i k a3 _)
  have e4 := (congrArg (rows · k.val) (b4.read_unread V)).symm.trans (rows6 i k a4 _)
  have e7 := rows6 i k a7 f7
  have e8 := rows6 i k a8 f8
  have e9 := (h9 k.val (by omega) (by have := trips1 i; omega)).symm.trans (slab5 i k a9 f9)
  have e10 := (h10 k.val (by omega) (by have := trips1 i; omega)).symm.trans (slab5 i k a10 f10)
  rw [e3, e4, e7, e8, e9, e10, putRows6, putRows6]
  unfold k0_t3_body
  iintro ⟨H3, H4, H9, H10, H7, H8⟩
  sl_exec
  sl_step
  isplitr; · ipureintro; rfl
  isplitl [H3]; · iexact H3
  isplitl [H4]; · iexact H4
  isplitl [H9]; · iexact H9
  isplitl [H10]; · iexact H10
  isplitl [H7]; · iexact H7
  iexact H8

/-- The second loop's invariant. -/
@[sl_loop, instance_reducible] def inv3 (E : Set ℕ) (G7 : BufTy.Contents (Elt F) a7.view.ty) (G8 : BufTy.Contents (Elt F) a8.view.ty) :
    Idealize.ShloMosaic.LoopInv (M := 𝕄) Idealize.ShloMosaic.frame (wpE defs₀ 𝒱 (c : Thread nD τ) bd) E
    (k0_t3_loop i).lb (k0_t3_loop i).ub (k0_t3_loop i).st (k0_t3_ok i) (k0_pay36 (F := F), k0_pay37 (F := F)) (k0_t3_body (F := F) i a2 b2 a3 b3 a4 b4 a5 b5 a6 b6 a7 b7 a8 b8 a9 b9 a10 b10 a1 q dO (k0_pay28 (F := F)) 0#32) where
  inv k acc := iprop((a3.view.loc (c : Thread nD τ) ↦[a3.view.set]{fullShare} b3.unread K)
    ∗ (a4.view.loc (c : Thread nD τ) ↦[a4.view.set]{fullShare} b4.unread V)
    ∗ (a7.view.loc (c : Thread nD τ) ↦[a7.view.set]{fullShare} dkC i a1 q dO K V a7 G7 k)
    ∗ (a8.view.loc (c : Thread nD τ) ↦[a8.view.set]{fullShare} dvC i a1 q dO K a8 G8 k)
    ∗ (∃ f, (a9.view.loc (c : Thread nD τ) ↦[a9.view.set]{fullShare} f) ∗ ⌜HoldsA i a1 q K a9 f (k0_t1_loop i).trips⌝)
    ∗ (∃ f, (a10.view.loc (c : Thread nD τ) ↦[a10.view.set]{fullShare} f) ∗ ⌜HoldsS i q K a10 f (k0_t1_loop i).trips⌝)
    ∗ ⌜acc = (dqS i a1 q dO K V k, runU i a1 q dO K V k)⌝)
  step k acc := by
    iintro ⟨H3, H4, H7, H8, ⟨%f9, H9, %h9⟩, ⟨%f10, H10, %h10⟩, %e⟩
    subst e
    iapply (wp_wand_r Idealize.ShloMosaic.frame (wpE (defs₀ (F := F)) 𝒱 (c : Thread nD τ) bd) E)
    isplitl [H3 H4 H7 H8 H9 H10]
    · iapply (trip3 𝒱 c bd i a2 b2 a3 b3 a4 b4 a5 b5 a6 b6 a7 b7 a8 b8 a9 b9 a10 b10 a1 q dO K V E k _ _ _ _ f9 f10 h9 h10)
      isplitl [H3]; · iexact H3
      isplitl [H4]; · iexact H4
      isplitl [H9]; · iexact H9
      isplitl [H10]; · iexact H10
      isplitl [H7]; · iexact H7
      iexact H8
    · iintro %y ⟨%ey, H3, H4, H9, H10, H7, H8⟩
      rw [dkC, dvC, dqS, runU, dzAt, t3_val]
      isplitl [H3]; · iexact H3
      isplitl [H4]; · iexact H4
      isplitl [H7]; · iexact H7
      isplitl [H8]; · iexact H8
      isplitl [H9]
      · iexists _; isplitl; · iexact H9
        ipureintro; exact h9
      isplitl [H10]
      · iexists _; isplitl; · iexact H10
        ipureintro; exact h10
      ipureintro; exact ey
end

end Cert.KernelIdeal.Att

end
-- ==== Proof.BodyRun.lean ====
module

public import proofs.«01_k».proof.Proof.Body
public import Idealize.ShloMosaic.Lib.Pointwise.Index

/-! # One grid point of the attention's gradient

The body as a whole, with its three outputs as functions of the four input blocks and, for the two accumulated ones, of
what they held before. -/

@[expose] public section

set_option maxRecDepth 16384

noncomputable section

namespace Cert.KernelIdeal.Att

open KernelIdeal KernelIdeal.Gen
open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A block of 256 rows put into a 2048-row array. -/
def setRows (D : Vec F S2048x128 .f32) (j : ℕ) (w : FVec F S256x128 .f32) : Vec F S2048x128 .f32 := fun y =>
  if (y 0).val / 256 = j then w (ix2 ⟨(y 0).val % 256, Nat.mod_lt _ (by decide)⟩ (y 1)) else D y

theorem rowR_val0 (j : ℕ) (x : (rowR j).shape.Idx) : ((rowR j).emb x 0).val = 256 * (j % 8) + (x 0).val := by
  show 256 * (j % 8) + 1 * (x 0).val = _
  omega
theorem rowR_val1 (j : ℕ) (x : (rowR j).shape.Idx) : ((rowR j).emb x 1).val = (x 1).val := by
  show 0 + 1 * (x 1).val = _
  omega

theorem read_putRows (M : Memref sig .tc .vmem S2048x128 .f32) (f : BufTy.Contents (Elt F) M.view.ty) (j : ℕ) (hj : j < 8) (w : FVec F S256x128 .f32) :
    M.view.read (Elt F) (putRows M f j w) = setRows (M.view.read (Elt F) f) j w := by
  funext y
  have hm : j % 8 = j := Nat.mod_eq_of_lt hj
  by_cases h : (y 0).val / 256 = j
  · have e : y = (rowR j).emb (ix2 (⟨(y 0).val % 256, Nat.mod_lt _ (by decide)⟩ : Fin 256) (y 1 : Fin 128)) := by
      funext a
      match a with
      | ⟨0, _⟩ => exact Fin.ext (by rw [show ((rowR j).emb (ix2 (⟨(y 0).val % 256, Nat.mod_lt _ (by decide)⟩ : Fin 256) (y 1 : Fin 128)) ⟨0, by decide⟩).val = 256 * (j % 8) + (y 0).val % 256 from rowR_val0 j _, hm]; show (y 0).val = _; omega)
      | ⟨1, _⟩ => exact Fin.ext (show (y 1).val = 0 + 1 * (y 1).val by omega)
    rw [setRows, if_pos h]
    conv_lhs => rw [e]
    exact View.read_writes_cons_emb (Val := Elt F) M.view f (rowR j) w [] _
  · rw [setRows, if_neg h]
    refine write_other M f (rowR j) w y ?_
    rw [Finset.mem_map]
    rintro ⟨x, -, e⟩
    have e0 := (rowR_val0 j x).symm.trans (congrArg (fun z : S2048x128.Idx => (z 0).val) e)
    have hx : (x 0).val < 256 := (x 0).isLt
    rw [hm] at e0
    dsimp only at e0
    omega

/-- A whole block stored reads what was stored. -/
theorem read_whole2 {s0 s1 : ℕ} {e : EltTy} (M : Memref sig .tc .vmem (⟨2, ![s0, s1]⟩ : Shape) e) (f : BufTy.Contents (Elt F) M.view.ty) (h) (w : Vec F (⟨2, ![s0, s1]⟩ : Shape) e) :
    M.view.read (Elt F) (M.view.writes (Elt F) f [⟨Rect.unit (s := ⟨2, ![s0, s1]⟩) ![0, 0] ![s0, s1] h, w⟩]) = w := by
  funext y
  have e : y = (Rect.unit (s := ⟨2, ![s0, s1]⟩) ![0, 0] ![s0, s1] h).emb y := by
    funext a
    match a with
    | ⟨0, _⟩ => exact Fin.ext (by show (y 0).val = 0 + 1 * (y 0).val; omega)
    | ⟨1, _⟩ => exact Fin.ext (by show (y 1).val = 0 + 1 * (y 1).val; omega)
  conv_lhs => rw [e]
  exact View.read_writes_cons_emb (Val := Elt F) M.view f (Rect.unit (s := ⟨2, ![s0, s1]⟩) ![0, 0] ![s0, s1] h) w [] y

section Outs
variable (i : grid0.Coords) (q dO : Vec F S256x128 .bf16) (K V : Vec F S2048x128 .bf16)

/-- The queries' gradient, of one grid point. -/
def outQ : Vec F S256x128 .f32 := dqS i (BitVec.ofNat 32 (i 1).val) q dO K V ((i 1).val + 1)
/-- The keys' gradient after the tiles of keys below `n`, from what it was before. -/
def dkV (D : Vec F S2048x128 .f32) : ℕ → Vec F S2048x128 .f32
  | 0 => D
  | j + 1 => setRows (dkV D j) j (k0_pay2 q (dzAt i (BitVec.ofNat 32 (i 1).val) q dO K V j) (rows (dkV D j) j))
/-- The values' gradient after the tiles of keys below `n`, from what it was before. -/
def dvV (D : Vec F S2048x128 .f32) : ℕ → Vec F S2048x128 .f32
  | 0 => D
  | j + 1 => setRows (dvV D j) j (k0_pay3 dO (k0_pay19 (aAt i (BitVec.ofNat 32 (i 1).val) q K j)) (rows (dvV D j) j))
/-- The keys' gradient after one grid point, from what it was before. -/
def outK (D : Vec F S2048x128 .f32) : Vec F S2048x128 .f32 := dkV i q dO K V D ((i 1).val + 1)
/-- The values' gradient after one grid point, from what it was before. -/
def outV (D : Vec F S2048x128 .f32) : Vec F S2048x128 .f32 := dvV i q dO K D ((i 1).val + 1)

theorem read_dkC (M : Memref sig .tc .vmem S2048x128 .f32) (G : BufTy.Contents (Elt F) M.view.ty) :
    ∀ n, n ≤ 8 → M.view.read (Elt F) (dkC i (BitVec.ofNat 32 (i 1).val) q dO K V M G n) = dkV i q dO K V (M.view.read (Elt F) G) n
  | 0, _ => rfl
  | j + 1, h => by rw [dkC, read_putRows M _ j (by omega), read_dkC M G j (by omega), dkV]
theorem read_dvC (M : Memref sig .tc .vmem S2048x128 .f32) (G : BufTy.Contents (Elt F) M.view.ty) :
    ∀ n, n ≤ 8 → M.view.read (Elt F) (dvC i (BitVec.ofNat 32 (i 1).val) q dO K M G n) = dvV i q dO K (M.view.read (Elt F) G) n
  | 0, _ => rfl
  | j + 1, h => by rw [dvC, read_putRows M _ j (by omega), read_dvC M G j (by omega), dvV]

theorem outQ_of {q' dO' : Vec F S256x128 .bf16} (hq : q' = q) (hd : dO' = dO) {n : ℕ} (hn : n = (i 1).val + 1) (M : Memref sig .tc .vmem S256x128 .f32)
    {f : BufTy.Contents (Elt F) M.view.ty} (hf : M.view.read (Elt F) f = dqS i (BitVec.ofNat 32 (i 1).val) q' dO' K V n) :
    M.view.read (Elt F) f = outQ i q dO K V := by subst hq hd hn; exact hf
theorem outK_of {q' dO' : Vec F S256x128 .bf16} (hq : q' = q) (hd : dO' = dO) {n : ℕ} (hn : n = (i 1).val + 1) (M : Memref sig .tc .vmem S2048x128 .f32)
    {G : BufTy.Contents (Elt F) M.view.ty} {D : Vec F S2048x128 .f32} (hG : M.view.read (Elt F) G = D) :
    M.view.read (Elt F) (dkC i (BitVec.ofNat 32 (i 1).val) q' dO' K V M G n) = outK i q dO K V D := by
  have : (i 1).val < 8 := (i 1).isLt
  subst hq hd hn hG; exact read_dkC i _ _ K V M G _ (by omega)
theorem outV_of {q' dO' : Vec F S256x128 .bf16} (hq : q' = q) (hd : dO' = dO) {n : ℕ} (hn : n = (i 1).val + 1) (M : Memref sig .tc .vmem S2048x128 .f32)
    {G : BufTy.Contents (Elt F) M.view.ty} {D : Vec F S2048x128 .f32} (hG : M.view.read (Elt F) G = D) :
    M.view.read (Elt F) (dvC i (BitVec.ofNat 32 (i 1).val) q' dO' K M G n) = outV i q dO K D := by
  have : (i 1).val < 8 := (i 1).isLt
  subst hq hd hn hG; exact read_dvC i _ _ K M G _ (by omega)
end Outs

theorem readAt_whole (M : Memref sig .tc .vmem S256x128 .bf16) (hM : M.IsWhole) (X : Vec F S256x128 .bf16) :
    View.readAt (Elt F) M.view (Rect.unit (s := S256x128) ![0, 0] S256x128.size inb_S256x128_S256x128_0_0).toLoadRect (hM.unread X) = X := by
  have e : ∀ y : S256x128.Idx, (Rect.unit (s := S256x128) ![0, 0] S256x128.size inb_S256x128_S256x128_0_0).toLoadRect.idx y = y := fun y => by
    funext a
    match a with
    | ⟨0, _⟩ => exact Fin.ext (by show 0 + 1 * (y 0).val = (y 0).val; omega)
    | ⟨1, _⟩ => exact Fin.ext (by show 0 + 1 * (y 1).val = (y 1).val; omega)
  funext y
  show M.view.read (Elt F) (hM.unread X) ((Rect.unit (s := S256x128) ![0, 0] S256x128.size inb_S256x128_S256x128_0_0).toLoadRect.idx y) = X y
  rw [e, hM.read_unread]

/-- The grid point is the first of its head. -/
abbrev isFirst (i : grid0.Coords) : Prop := (Scalar.cmpi .ne (Scalar.extui (Scalar.cmpi .eq (BitVec.ofNat 32 (i 1).val) 0#32) : BitVec 32) 0#32) = 1#1

theorem run_first (c : Dev nD) (i : grid0.Coords) (a2 : Memref sig .tc .vmem S256x128 .bf16) (b2 : a2.IsWhole) (a3 : Memref sig .tc .vmem S2048x128 .bf16) (b3 : a3.IsWhole) (a4 : Memref sig .tc .vmem S2048x128 .bf16) (b4 : a4.IsWhole) (a5 : Memref sig .tc .vmem S256x128 .bf16) (b5 : a5.IsWhole) (a6 : Memref sig .tc .vmem S256x128 .f32) (b6 : a6.IsWhole) (a7 : Memref sig .tc .vmem S2048x128 .f32) (b7 : a7.IsWhole) (a8 : Memref sig .tc .vmem S2048x128 .f32) (b8 : a8.IsWhole) (a9 : Memref sig .tc .vmem S8x256x256 .f32) (b9 : a9.IsWhole) (a10 : Memref sig .tc .vmem S8x256x256 .f32) (b10 : a10.IsWhole)
    (hc : isFirst i) (q dO : Vec F S256x128 .bf16) (K V : Vec F S2048x128 .bf16) (E : Set ℕ) (Kk : PUnit → sProp 𝕄) :
    iprop(owns (c : Thread nD τ) a2 fullShare q ∗ owns (c : Thread nD τ) a3 fullShare K ∗ owns (c : Thread nD τ) a4 fullShare V ∗ owns (c : Thread nD τ) a5 fullShare dO ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
      ∗ (iprop(owns (c : Thread nD τ) a2 fullShare q ∗ owns (c : Thread nD τ) a3 fullShare K ∗ owns (c : Thread nD τ) a4 fullShare V ∗ owns (c : Thread nD τ) a5 fullShare dO ∗ owns (c : Thread nD τ) a6 fullShare (outQ i q dO K V) ∗ owns (c : Thread nD τ) a7 fullShare (outK i q dO K V (k0_pay29 (F := F))) ∗ owns (c : Thread nD τ) a8 fullShare (outV i q dO K (k0_pay30 (F := F))) ∗ (∃ d, owns (c : Thread nD τ) a9 fullShare d) ∗ (∃ d, owns (c : Thread nD τ) a10 fullShare d)) -∗ Kk ⟨⟩))
    ⊢ wp frame (wpE (defs₀ (F := F)) Variants.none c none) E (cc0_sb_datt_l1 i a2 b2 a3 b3 a4 b4 a5 b5 a6 b6 a7 b7 a8 b8 a9 b9 a10 b10) Kk := by
  have h2 := trips2 i
  have hq := readAt_whole a2 b2 q
  have hd := readAt_whole a5 b5 dO
  have h4 := trips4 i
  simp only [cc0_sb_datt_l1_eq_skeleton]; unfold cc0_sb_datt_l1_skel
  simp only [k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
  obtain rfl := b2.eq_unread hf0; obtain rfl := b3.eq_unread hf1; obtain rfl := b4.eq_unread hf2; obtain rfl := b5.eq_unread hf3
  have hA0 : HoldsA i (BitVec.ofNat 32 (i 1).val) q K a9 fs0 0 := fun j _ h => by omega
  have hS0 : HoldsS i q K a10 fs1 0 := fun j _ h => by omega
  sl_exec (disch := first | sl_exact hc)
  sl_step
  iapply Hk
  isplitl [H0]
  · iexists _; isplitr; · ipureintro; exact b2.read_unread _
    iexact H0
  isplitl [H1]
  · iexists _; isplitr; · ipureintro; exact b3.read_unread _
    iexact H1
  isplitl [H2]
  · iexists _; isplitr; · ipureintro; exact b4.read_unread _
    iexact H2
  isplitl [H3]
  · iexists _; isplitr; · ipureintro; exact b5.read_unread _
    iexact H3
  isplitl [H4]
  · iexists _; isplitr; swap; · iexact H4
    ipureintro; exact outQ_of i q dO K V rfl rfl (trips3 i) a6 (read_whole2 a6 _ _ _)
  isplitl [H5]
  · iexists _; isplitr; swap; · iexact H5
    ipureintro; exact outK_of i q dO K V rfl rfl (trips3 i) a7 (read_whole2 a7 _ _ _)
  isplitl [H6]
  · iexists _; isplitr; swap; · iexact H6
    ipureintro; exact outV_of i q dO K rfl rfl (trips3 i) a8 (read_whole2 a8 _ _ _)
  isplitl [HS0]
  · iexists _, _; isplitr; swap; · iexact HS0
    ipureintro; rfl
  iexists _, _; isplitr; swap; · iexact HS1
  ipureintro; rfl

theorem run_next (c : Dev nD) (i : grid0.Coords) (a2 : Memref sig .tc .vmem S256x128 .bf16) (b2 : a2.IsWhole) (a3 : Memref sig .tc .vmem S2048x128 .bf16) (b3 : a3.IsWhole) (a4 : Memref sig .tc .vmem S2048x128 .bf16) (b4 : a4.IsWhole) (a5 : Memref sig .tc .vmem S256x128 .bf16) (b5 : a5.IsWhole) (a6 : Memref sig .tc .vmem S256x128 .f32) (b6 : a6.IsWhole) (a7 : Memref sig .tc .vmem S2048x128 .f32) (b7 : a7.IsWhole) (a8 : Memref sig .tc .vmem S2048x128 .f32) (b8 : a8.IsWhole) (a9 : Memref sig .tc .vmem S8x256x256 .f32) (b9 : a9.IsWhole) (a10 : Memref sig .tc .vmem S8x256x256 .f32) (b10 : a10.IsWhole)
    (hc : ¬ isFirst i) (q dO : Vec F S256x128 .bf16) (K V : Vec F S2048x128 .bf16) (xo5 xo6 : Vec F S2048x128 .f32) (E : Set ℕ) (Kk : PUnit → sProp 𝕄) :
    iprop(owns (c : Thread nD τ) a2 fullShare q ∗ owns (c : Thread nD τ) a3 fullShare K ∗ owns (c : Thread nD τ) a4 fullShare V ∗ owns (c : Thread nD τ) a5 fullShare dO ∗ (∃ d, owns (c : Thread nD τ) a6 fullShare d) ∗ owns (c : Thread nD τ) a7 fullShare xo5 ∗ owns (c : Thread nD τ) a8 fullShare xo6 ∗ (∃ d, owns (c : Thread nD τ) a9 fullShare d) ∗ (∃ d, owns (c : Thread nD τ) a10 fullShare d)
      ∗ (iprop(owns (c : Thread nD τ) a2 fullShare q ∗ owns (c : Thread nD τ) a3 fullShare K ∗ owns (c : Thread nD τ) a4 fullShare V ∗ owns (c : Thread nD τ) a5 fullShare dO ∗ owns (c : Thread nD τ) a6 fullShare (outQ i q dO K V) ∗ owns (c : Thread nD τ) a7 fullShare (outK i q dO K V xo5) ∗ owns (c : Thread nD τ) a8 fullShare (outV i q dO K xo6) ∗ (∃ d, owns (c : Thread nD τ) a9 fullShare d) ∗ (∃ d, owns (c : Thread nD τ) a10 fullShare d)) -∗ Kk ⟨⟩))
    ⊢ wp frame (wpE (defs₀ (F := F)) Variants.none c none) E (cc0_sb_datt_l1 i a2 b2 a3 b3 a4 b4 a5 b5 a6 b6 a7 b7 a8 b8 a9 b9 a10 b10) Kk := by
  have h2 := trips2 i
  have hq := readAt_whole a2 b2 q
  have hd := readAt_whole a5 b5 dO
  have h4 := trips4 i
  simp only [cc0_sb_datt_l1_eq_skeleton]; unfold cc0_sb_datt_l1_skel
  simp only [k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
  obtain rfl := b2.eq_unread hf0; obtain rfl := b3.eq_unread hf1; obtain rfl := b4.eq_unread hf2; obtain rfl := b5.eq_unread hf3
  have hA0 : HoldsA i (BitVec.ofNat 32 (i 1).val) q K a9 fs0 0 := fun j _ h => by omega
  have hS0 : HoldsS i q K a10 fs1 0 := fun j _ h => by omega
  sl_exec (disch := first | sl_exact hc)
  sl_step
  iapply Hk
  isplitl [H0]
  · iexists _; isplitr; · ipureintro; exact b2.read_unread _
    iexact H0
  isplitl [H1]
  · iexists _; isplitr; · ipureintro; exact b3.read_unread _
    iexact H1
  isplitl [H2]
  · iexists _; isplitr; · ipureintro; exact b4.read_unread _
    iexact H2
  isplitl [H3]
  · iexists _; isplitr; · ipureintro; exact b5.read_unread _
    iexact H3
  isplitl [H4]
  · iexists _; isplitr; swap; · iexact H4
    ipureintro; exact outQ_of i q dO K V rfl rfl (trips3 i) a6 (read_whole2 a6 _ _ _)
  isplitl [H5]
  · iexists _; isplitr; swap; · iexact H5
    ipureintro; exact outK_of i q dO K V rfl rfl (trips3 i) a7 (hf5)
  isplitl [H6]
  · iexists _; isplitr; swap; · iexact H6
    ipureintro; exact outV_of i q dO K rfl rfl (trips3 i) a8 (hf6)
  isplitl [HS0]
  · iexists _, _; isplitr; swap; · iexact HS0
    ipureintro; rfl
  iexists _, _; isplitr; swap; · iexact HS1
  ipureintro; rfl

end Cert.KernelIdeal.Att

end
-- ==== Proof.Run.lean ====
module

public import proofs.«01_k».proof.Proof.BodyRun
public import proofs.«01_k».proof.Proof.Gen.KernelIdeal.Frame
public import Idealize.ShloMosaic.Lib.Claim

/-! # The whole run of the attention's gradient

Over the 8 grid points of a head the keys' and values' gradients stay in their staging buffers; `acc` says what they
hold after each point. -/

@[expose] public section

set_option maxRecDepth 16384

noncomputable section

namespace Cert.KernelIdeal.Att

open KernelIdeal KernelIdeal.Gen
open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem first_iff : ∀ t : Fin cfg0.N, isFirst (grid0.coords t) ↔ t.val % 8 = 0 := by decide +kernel

/-- What the keys' and the values' gradients' buffers hold after grid point `n`. -/
def acc (c : Dev nD) : (n : ℕ) → n < cfg0.N → Vec F S2048x128 .f32 × Vec F S2048x128 .f32
  | 0, hn => (outK (grid0.coords ⟨0, hn⟩) (iblk m c 0 ⟨0, hn⟩) (iblk m c 3 ⟨0, hn⟩) (iblk m c 1 ⟨0, hn⟩) (iblk m c 2 ⟨0, hn⟩) (k0_pay29 (F := F)), outV (grid0.coords ⟨0, hn⟩) (iblk m c 0 ⟨0, hn⟩) (iblk m c 3 ⟨0, hn⟩) (iblk m c 1 ⟨0, hn⟩) (k0_pay30 (F := F)))
  | n + 1, hn =>
    (outK (grid0.coords ⟨n + 1, hn⟩) (iblk m c 0 ⟨n + 1, hn⟩) (iblk m c 3 ⟨n + 1, hn⟩) (iblk m c 1 ⟨n + 1, hn⟩) (iblk m c 2 ⟨n + 1, hn⟩) (if (n + 1) % 8 = 0 then k0_pay29 (F := F) else (acc c n (Nat.lt_of_succ_lt hn)).1),
     outV (grid0.coords ⟨n + 1, hn⟩) (iblk m c 0 ⟨n + 1, hn⟩) (iblk m c 3 ⟨n + 1, hn⟩) (iblk m c 1 ⟨n + 1, hn⟩) (if (n + 1) % 8 = 0 then k0_pay30 (F := F) else (acc c n (Nat.lt_of_succ_lt hn)).2))

theorem acc_first (c : Dev nD) (t : Fin cfg0.N) (h0 : t.val % 8 = 0) :
    acc m c t.val t.isLt = (outK (grid0.coords t) (iblk m c 0 t) (iblk m c 3 t) (iblk m c 1 t) (iblk m c 2 t) (k0_pay29 (F := F)), outV (grid0.coords t) (iblk m c 0 t) (iblk m c 3 t) (iblk m c 1 t) (k0_pay30 (F := F))) := by
  obtain ⟨n, hn⟩ := t
  cases n with
  | zero => exact rfl
  | succ n => dsimp only at h0; rw [acc, if_pos h0, if_pos h0]

theorem acc_next (c : Dev nD) (t : Fin cfg0.N) (h0 : ¬ t.val % 8 = 0) :
    acc m c t.val t.isLt = (outK (grid0.coords t) (iblk m c 0 t) (iblk m c 3 t) (iblk m c 1 t) (iblk m c 2 t) (acc m c (t.val - 1) (Nat.lt_of_le_of_lt (Nat.sub_le _ _) t.isLt)).1, outV (grid0.coords t) (iblk m c 0 t) (iblk m c 3 t) (iblk m c 1 t) (acc m c (t.val - 1) (Nat.lt_of_le_of_lt (Nat.sub_le _ _) t.isLt)).2) := by
  obtain ⟨n, hn⟩ := t
  cases n with
  | zero => exact absurd (Nat.zero_mod _) h0
  | succ n => dsimp only at h0; rw [acc, if_neg h0, if_neg h0]; rfl

/-- What the pipeline's arrays hold at entry and its buffers after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outQ (grid0.coords t) (iblk m c 0 t) (iblk m c 3 t) (iblk m c 1 t) (iblk m c 2 t)
    | ⟨5, _⟩ => (acc m c t.val t.isLt).1
    | ⟨6, _⟩ => (acc m c t.val t.isLt).2
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outQ (grid0.coords t) (iblk m c 0 t) (iblk m c 3 t) (iblk m c 1 t) (iblk m c 2 t) := by dsimp only [dats]
theorem after5 (c : Dev nD) (t : Fin cfg0.N) : (dats m 0 c).after 5 t = (acc m c t.val t.isLt).1 := by dsimp only [dats]
theorem after6 (c : Dev nD) (t : Fin cfg0.N) : (dats m 0 c).after 6 t = (acc m c t.val t.isLt).2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
/-- Between two grid points of a head the buffer is not written back. -/
theorem before5 (c : Dev nD) (t : Fin cfg0.N) (h0 : ¬ t.val % 8 = 0) (d) :
    (dats m 0 c).before 5 t d = (acc m c (t.val - 1) (Nat.lt_of_le_of_lt (Nat.sub_le _ _) t.isLt)).1 := by
  have hN : t.val < 128 := lt_of_lt_of_eq t.isLt (show cfg0.N = 128 from N_0)
  rw [Dat.before_out_kept _ 5 rfl t (by omega) (Bool.eq_false_iff.mpr fun h => by have := (flush0_5 _).mp h; dsimp only at this; omega)
    (fun _ => rfl) (fun _ _ => rfl)]
  dsimp only [dats]
/-- Between two grid points of a head the buffer is not written back. -/
theorem before6 (c : Dev nD) (t : Fin cfg0.N) (h0 : ¬ t.val % 8 = 0) (d) :
    (dats m 0 c).before 6 t d = (acc m c (t.val - 1) (Nat.lt_of_le_of_lt (Nat.sub_le _ _) t.isLt)).2 := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [dats]

theorem st0 (t : Fin cfg0.N) : (win0_0.stage (cfg0.slots t 0)).IsWhole := hstage0_0 ((cfg0.slots t 0).cast nbuf0_0)
theorem st1 (t : Fin cfg0.N) : (win0_1.stage (cfg0.slots t 1)).IsWhole := hstage0_1 ((cfg0.slots t 1).cast nbuf0_1)
theorem st2 (t : Fin cfg0.N) : (win0_2.stage (cfg0.slots t 2)).IsWhole := hstage0_2 ((cfg0.slots t 2).cast nbuf0_2)
theorem st3 (t : Fin cfg0.N) : (win0_3.stage (cfg0.slots t 3)).IsWhole := hstage0_3 ((cfg0.slots t 3).cast nbuf0_3)
theorem st4 (t : Fin cfg0.N) : (win0_4.stage (cfg0.slots t 4)).IsWhole := hstage0_4 ((cfg0.slots t 4).cast nbuf0_4)
theorem st5 (t : Fin cfg0.N) : (win0_5.stage (cfg0.slots t 5)).IsWhole := hstage0_5 ((cfg0.slots t 5).cast nbuf0_5)
theorem st6 (t : Fin cfg0.N) : (win0_6.stage (cfg0.slots t 6)).IsWhole := hstage0_6 ((cfg0.slots t 6).cast nbuf0_6)

theorem scratch_eq (c : Dev nD) :
    (Pipeline.ΦA spec0 c : sProp 𝕄)
      = iprop(iprop((∃ d, owns (c : Thread nD τ) (Memref.whole cc0_scratch0 : Memref sig .tc .vmem S8x256x256 .f32) fullShare d) ∗ (∃ d, owns (c : Thread nD τ) (Memref.whole cc0_scratch1 : Memref sig .tc .vmem S8x256x256 .f32) fullShare d)) ∗ (∃ r, prngReg c r)) := by
  unfold Pipeline.ΦA; rw [scopedRest0_eq]; simp only [owns_whole]; try rfl

/-- What a grid point's body is given. -/
def givenAt (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))
/-- What it gives back. -/
def backAt (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 1600000 in
theorem point (c : Dev nD) (t : Fin cfg0.N) :
    givenAt m c t ⊢ wp frame (wpE (defs₀ (F := F)) Variants.none c none) Set.univ (bodyAt0 t) (fun _ => backAt m c t) := by
  unfold givenAt backAt bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = Pipeline.ΦA spec0 c from rfl, scratch_eq]
  by_cases h0 : t.val % 8 = 0
  · rw [acc_first m c t h0]; dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ (st0 t) _ (st1 t) _ (st2 t) _ (st3 t) _ (st4 t) _ (st5 t) _ (st6 t) _ (Memref.isWhole_whole _) _ (Memref.isWhole_whole _) ((first_iff t).mpr h0) (iblk m c 0 t) (iblk m c 3 t) (iblk m c 1 t) (iblk m c 2 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc_next m c t h0]; dsimp only
    simp only [before5 m c t h0, before6 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (run_next c (grid0.coords t) _ (st0 t) _ (st1 t) _ (st2 t) _ (st3 t) _ (st4 t) _ (st5 t) _ (st6 t) _ (Memref.isWhole_whole _) _ (Memref.isWhole_whole _) (fun h => h0 ((first_iff t).mp h)) (iblk m c 0 t) (iblk m c 3 t) (iblk m c 1 t) (iblk m c 2 t) _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (point m c t) rfl .rfl fun _ => .rfl

set_option backward.isDefEq.respectTransparency.types false in
/-- Every execution ends with the arrays at what the body's values say and the semaphores at zero. -/
theorem run_both : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_both m ρ)

/-- The frame: the argument arrays end unchanged, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_post m ρ)) ((θ_run defs _ _).mono (fun _ h => h.2) (run_both m ρ))

end Cert.KernelIdeal.Att

end
-- ==== Proof.Model.lean ====
module

public import Mathlib.Analysis.SpecialFunctions.Log.Basic
public import Mathlib.Algebra.BigOperators.Intervals

/-! # The attention's gradient over the real numbers

One head's gradient as plain sums over the rows, and the rules by which a sum over the rows is cut into blocks of
256. -/

@[expose] public section

noncomputable section

namespace Cert.KernelIdeal.Att.Model

open Finset

/-- The logarithm of the logistic function, in the form that never takes the exponential of a positive number. -/
def lsig (x : ℝ) : ℝ := min x 0 - Real.log (1 + Real.exp (0 - |x|))

/-- It is minus the softplus of the negated argument. -/
theorem lsig_eq (x : ℝ) : lsig x = -(max (-x) 0 + Real.log (1 + Real.exp (-|(-x)|))) := by
  unfold lsig
  rw [abs_neg, zero_sub, neg_add, ← sub_eq_add_neg]
  congr 1
  rcases le_total x 0 with h | h
  · rw [min_eq_left h, max_eq_left (by linarith)]; ring
  · rw [min_eq_right h, max_eq_right (by linarith)]; ring

theorem lsig_neg (x : ℝ) : lsig (-x) = lsig x - x := by
  unfold lsig
  rw [abs_neg]
  rcases le_total x 0 with h | h
  · rw [min_eq_left h, min_eq_right (by linarith)]; ring
  · rw [min_eq_right h, min_eq_left (by linarith)]; ring

/-- The logistic functions of a number and of its negation add up to one. -/
theorem exp_lsig_neg (x : ℝ) : Real.exp (lsig (-x)) = 1 - Real.exp (lsig x) := by
  have key : ∀ y : ℝ, 0 ≤ y → Real.exp (lsig y) + Real.exp (lsig y - y) = 1 := by
    intro y hy
    have hp : (0 : ℝ) < 1 + Real.exp (-y) := by positivity
    unfold lsig
    rw [min_eq_right hy, abs_of_nonneg hy, zero_sub y, zero_sub, Real.exp_sub, Real.exp_neg, Real.exp_log hp, Real.exp_neg]
    have h1 : Real.exp y ≠ 0 := (Real.exp_pos y).ne'
    have h2 : 1 + Real.exp y ≠ 0 := by positivity
    field_simp
  rcases le_total 0 x with h | h
  · have := key x h
    rw [lsig_neg]; linarith
  · have := key (-x) (by linarith)
    have e : lsig (-x) - -x = lsig x := by rw [lsig_neg]; ring
    rw [e] at this; linarith

variable (sc : ℝ) (Q K V O : ℕ → ℕ → ℝ)

/-- The score of key `s` for query `t`. -/
def z (t s : ℕ) : ℝ := (∑ d ∈ range 128, Q t d * K s d) * sc
/-- The logarithm of one minus the share that key `s` takes, nought for a key that the query does not see. -/
def m1 (t s : ℕ) : ℝ := if s < t then lsig (z sc Q K t s) - z sc Q K t s else 0
/-- The logarithm of what the later keys leave to key `s`. -/
def left (t s : ℕ) : ℝ := ∑ u ∈ Ico (s + 1) 2048, m1 sc Q K t u
/-- The attention's weights. -/
def wt (t s : ℕ) : ℝ := if s < t then Real.exp (lsig (z sc Q K t s) + left sc Q K t s) else 0
/-- The gradient of a weight times the weight. -/
def pr (t s : ℕ) : ℝ := wt sc Q K t s * ∑ d ∈ range 128, O t d * V s d
/-- The sum of the earlier keys' `pr`. -/
def cum (t s : ℕ) : ℝ := ∑ u ∈ range s, pr sc Q K V O t u
/-- The gradient of the unscaled score, times the scale. -/
def dz (t s : ℕ) : ℝ :=
  (if s < t then pr sc Q K V O t s * (1 - Real.exp (lsig (z sc Q K t s))) - cum sc Q K V O t s * Real.exp (lsig (z sc Q K t s)) else 0) * sc
def dq (t d : ℕ) : ℝ := ∑ s ∈ range 2048, dz sc Q K V O t s * K s d
def dk (s d : ℕ) : ℝ := ∑ t ∈ range 2048, dz sc Q K V O t s * Q t d
def dv (s d : ℕ) : ℝ := ∑ t ∈ range 2048, wt sc Q K t s * O t d

theorem m1_of_le {t s : ℕ} (h : t ≤ s) : m1 sc Q K t s = 0 := if_neg (by omega)
theorem wt_of_le {t s : ℕ} (h : t ≤ s) : wt sc Q K t s = 0 := if_neg (by omega)
theorem dz_of_le {t s : ℕ} (h : t ≤ s) : dz sc Q K V O t s = 0 := by rw [dz, if_neg (by omega), zero_mul]

/-! ## Sums over rows cut into blocks of 256 -/

/-- The sum over one block, by its position in the block. -/
theorem sum_block (f : ℕ → ℝ) (b : ℕ) : ∑ u ∈ Ico (256 * b) (256 * (b + 1)), f u = ∑ k ∈ range 256, f (256 * b + k) := by
  rw [sum_Ico_eq_sum_range]; congr 2; omega

/-- The sum over the part of a block after a position. -/
theorem sum_block_after (f : ℕ → ℝ) (b : ℕ) (c : ℕ) (hc : c < 256) :
    ∑ k ∈ range 256, (if c < k then f (256 * b + k) else 0) = ∑ u ∈ Ico (256 * b + c + 1) (256 * (b + 1)), f u := by
  rw [← sum_filter, sum_Ico_eq_sum_range]
  have e : (range 256).filter (fun k => c < k) = (range (256 * (b + 1) - (256 * b + c + 1))).map (addLeftEmbedding (c + 1)) := by
    ext k
    simp only [mem_filter, mem_range, mem_map, addLeftEmbedding_apply]
    constructor
    · rintro ⟨h1, h2⟩; exact ⟨k - (c + 1), by omega, by omega⟩
    · rintro ⟨a, h1, h2⟩; omega
  rw [e, sum_map]
  refine sum_congr rfl fun k _ => ?_
  rw [addLeftEmbedding_apply]; congr 1; omega

/-- The sum over the part of a block before a position. -/
theorem sum_block_before (f : ℕ → ℝ) (b : ℕ) (c : ℕ) (hc : c < 256) :
    ∑ k ∈ range 256, (if k < c then f (256 * b + k) else 0) = ∑ u ∈ Ico (256 * b) (256 * b + c), f u := by
  rw [← sum_filter, sum_Ico_eq_sum_range, Nat.add_sub_cancel_left]
  refine sum_congr (Finset.ext fun k => ?_) fun _ _ => rfl
  simp only [mem_filter, mem_range]; omega

/-- What the later keys leave, for a query of block `b`: the rest of the key's own block and the blocks up to `b`. -/
theorem left_split {b j r c : ℕ} (hb : b < 8) (hj : j ≤ b) (hr : r < 256) (hc : c < 256) :
    left sc Q K (256 * b + r) (256 * j + c)
      = (∑ k ∈ range 256, if c < k then m1 sc Q K (256 * b + r) (256 * j + k) else 0)
        + ∑ u ∈ Ico (256 * (j + 1)) (256 * (b + 1)), m1 sc Q K (256 * b + r) u := by
  rw [sum_block_after _ _ _ hc, left, ← sum_Ico_consecutive (n := 256 * (j + 1)) _ (by omega) (by omega), ← sum_Ico_consecutive (m := 256 * (j + 1)) (n := 256 * (b + 1)) _ (by omega) (by omega)]
  rw [sum_eq_zero (s := Ico (256 * (b + 1)) 2048) fun u hu => m1_of_le sc Q K (by have := (mem_Ico.mp hu).1; omega), add_zero]

/-- The sum of the earlier keys' `pr`: the earlier blocks and the earlier part of the key's own. -/
theorem cum_split {t j c : ℕ} (hc : c < 256) :
    cum sc Q K V O t (256 * j + c)
      = (∑ k ∈ range 256, if k < c then pr sc Q K V O t (256 * j + k) else 0) + ∑ u ∈ range (256 * j), pr sc Q K V O t u := by
  rw [sum_block_before _ _ _ hc, cum, add_comm (∑ u ∈ Ico _ _, _), sum_range_add_sum_Ico _ (by omega)]

/-- One more block of a sum from the start. -/
theorem range_block (f : ℕ → ℝ) (b : ℕ) : ∑ u ∈ range (256 * (b + 1)), f u = ∑ u ∈ range (256 * b), f u + ∑ k ∈ range 256, f (256 * b + k) := by
  rw [← sum_block, sum_range_add_sum_Ico _ (by omega)]

/-- One more block at the start of a sum. -/
theorem block_Ico (f : ℕ → ℝ) {a b : ℕ} (h : a < b) :
    ∑ u ∈ Ico (256 * a) (256 * b), f u = ∑ u ∈ Ico (256 * (a + 1)) (256 * b), f u + ∑ k ∈ range 256, f (256 * a + k) := by
  rw [← sum_block, add_comm, sum_Ico_consecutive _ (by omega) (by omega)]

/-- The keys that a query of block `b` sees all lie in the blocks up to `b`. -/
theorem dq_eq {b r d : ℕ} (hb : b < 8) (hr : r < 256) :
    dq sc Q K V O (256 * b + r) d = ∑ s ∈ range (256 * (b + 1)), dz sc Q K V O (256 * b + r) s * K s d := by
  rw [dq, ← sum_range_add_sum_Ico (m := 256 * (b + 1)) (n := 2048) _ (by omega)]
  rw [sum_eq_zero (s := Ico (256 * (b + 1)) 2048) fun u hu => by rw [dz_of_le sc Q K V O (by have := (mem_Ico.mp hu).1; omega), zero_mul], add_zero]

end Cert.KernelIdeal.Att.Model

end
-- ==== Proof.Tile.lean ====
module

public import proofs.«01_k».proof.Proof.BodyRun
public import proofs.«01_k».proof.Proof.Model
public import Idealize.ShloMosaic.Lib.Pointwise
public import Idealize.ShloMosaic.Lib.IdealHost

/-! # One grid point's values over the real numbers

Where the four input blocks hold real numbers, every value that the body names holds the real number that `Model` gives
it. -/

@[expose] public section

set_option maxRecDepth 16384

noncomputable section

namespace Cert.KernelIdeal.Att

open KernelIdeal KernelIdeal.Gen
open Idealize.ShloMosaic
open Finset (range Ico)

/-! ## Real numbers among the extended ones -/

/-- The word of the scale stands for a real number. -/
def sc : ℝ := (Ideal.ofBits .f32 0x3DB504F3#32 : EReal).toReal
theorem sc_eq : (Ideal.ofBits .f32 0x3DB504F3#32 : EReal) = (sc : EReal) := by
  unfold sc
  have h : ∃ r : ℝ, (Ideal.ofBits .f32 0x3DB504F3#32 : EReal) = (r : EReal) := by
    refine ⟨((2 ^ 23 + 3474675 : ℕ) : ℝ) * (2 : ℝ) ^ (-27 : ℤ), ?_⟩
    simp [Ideal.ofBits, Ideal.ieee]
  obtain ⟨r, h⟩ := h
  rw [h, EReal.toReal_coe]

theorem coe_sum (n : ℕ) (f : ℕ → ℝ) : ∑ k : Fin n, ((f k.val : ℝ) : EReal) = ((∑ k ∈ range n, f k : ℝ) : EReal) := by
  induction n with
  | zero => simp
  | succ n ih => rw [Fin.sum_univ_castSucc, Finset.sum_range_succ, EReal.coe_add, ← ih]; rfl

/-- A sum of real numbers. -/
theorem sum_coe {n : ℕ} {g : Fin n → EReal} (f : ℕ → ℝ) (h : ∀ k : Fin n, g k = ((f k.val : ℝ) : EReal)) :
    ∑ k, g k = ((∑ k ∈ range n, f k : ℝ) : EReal) := by
  rw [Finset.sum_congr rfl fun k _ => h k, coe_sum]

theorem coe_lsig (x : ℝ) : min (x : EReal) 0 - Ideal.log1p (Ideal.exp (0 - FloatOps.absf (F := Ideal) (φ := .f32) (x : EReal))) = ((Model.lsig x : ℝ) : EReal) := by
  have hp : ¬ (1 + Real.exp (0 - |x|)) ≤ 0 := not_le.mpr (by positivity)
  have habs : FloatOps.absf (F := Ideal) (φ := .f32) (x : EReal) = ((|x| : ℝ) : EReal) := by
    show max (x : EReal) (-(x : EReal)) = _
    rw [← EReal.coe_neg, ← EReal.coe_strictMono.monotone.map_max]; rfl
  rw [habs, ← EReal.coe_zero, ← EReal.coe_sub, Ideal.exp_coe, Ideal.log1p, ← EReal.coe_one, ← EReal.coe_add, Ideal.log_coe, if_neg hp, ← EReal.coe_strictMono.monotone.map_min, ← EReal.coe_sub]
  rfl

theorem select_true {α : Type} {P : Prop} [Decidable P] (x y : α) : Scalar.select (BitVec.ofBool (decide P)) x y = if P then x else y := by
  by_cases h : P <;> simp [Scalar.select, h]

/-- Block `b` of 256 rows of `X`. -/
def IsBlk (b : ℕ) (x : Vec Ideal S256x128 .bf16) (X : ℕ → ℕ → ℝ) : Prop :=
  ∀ (r : Fin 256) (d : Fin 128), x (ix2 r d) = ((X (256 * b + r.val) d.val : ℝ) : EReal)
/-- All the rows of `X`. -/
def IsAll (x : Vec Ideal S2048x128 .bf16) (X : ℕ → ℕ → ℝ) : Prop :=
  ∀ (s : Fin 2048) (d : Fin 128), x (ix2 s d) = ((X s.val d.val : ℝ) : EReal)

theorem rows_at {e : EltTy} (x : Vec Ideal S2048x128 e) {j : ℕ} (hj : j < 8) (r : Fin 256) (d : Fin 128) :
    rows x j (ix2 r d) = x (ix2 (⟨256 * j + r.val, by omega⟩ : Fin 2048) d) := by
  show x ((rowR j).emb (ix2 r d)) = _
  congr 1
  funext a
  match a with
  | ⟨0, _⟩ => exact Fin.ext (by rw [show ((rowR j).emb (ix2 r d) ⟨0, by decide⟩).val = 256 * (j % 8) + r.val from rowR_val0 j _, Nat.mod_eq_of_lt hj]; rfl)
  | ⟨1, _⟩ => exact Fin.ext (rowR_val1 j (ix2 r d))

theorem IsAll.rows {x : Vec Ideal S2048x128 .bf16} {X : ℕ → ℕ → ℝ} (h : IsAll x X) {j : ℕ} (hj : j < 8) : IsBlk j (rows x j) X := fun r d => by
  rw [rows_at x hj r d, h]

/-! ## The masks -/

theorem slt_words {a b : ℕ} (ha : a < 2 ^ 31) (hb : b < 2 ^ 31) : IntOp.cmpi CmpIPredicate.slt (BitVec.ofNat 32 a) (BitVec.ofNat 32 b) = BitVec.ofBool (decide (a < b)) := by
  show BitVec.ofBool ((BitVec.ofNat 32 a).slt (BitVec.ofNat 32 b)) = _
  congr 1
  have e : ∀ n : ℕ, n < 2 ^ 31 → (BitVec.ofNat 32 n).toInt = n := fun n hn => by
    rw [BitVec.toInt_eq_toNat_of_lt (by rw [BitVec.toNat_ofNat]; omega), BitVec.toNat_ofNat, Nat.mod_eq_of_lt (by omega)]
  rw [BitVec.slt_eq_decide, e a ha, e b hb]
  simp only [Nat.cast_lt]

theorem sgt_words {a b : ℕ} (ha : a < 2 ^ 31) (hb : b < 2 ^ 31) : IntOp.cmpi CmpIPredicate.sgt (BitVec.ofNat 32 a) (BitVec.ofNat 32 b) = BitVec.ofBool (decide (b < a)) :=
  slt_words hb ha

theorem mask_words {b j : ℕ} (hb : b < 8) (hj : j < 8) (r c : Fin 256) :
    IntOp.cmpi CmpIPredicate.slt
      (IntOp.addi (Scalar.muli (BitVec.ofNat 32 j) 256#32) (BitVec.ofNat 32 c.val))
      (IntOp.addi (Scalar.muli (BitVec.ofNat 32 b) 256#32) (BitVec.ofNat 32 r.val)) = BitVec.ofBool (decide (256 * j + c.val < 256 * b + r.val)) := by
  have e : ∀ (a : ℕ) (k : Fin 256), IntOp.addi (Scalar.muli (BitVec.ofNat 32 a) 256#32) (BitVec.ofNat 32 k.val) = BitVec.ofNat 32 (256 * a + k.val) := fun a k => by
    show BitVec.ofNat 32 a * BitVec.ofNat 32 256 + BitVec.ofNat 32 k.val = _
    rw [← BitVec.ofNat_mul, ← BitVec.ofNat_add, Nat.mul_comm]
  rw [e, e, slt_words (by omega) (by omega)]

variable (i : grid0.Coords)

theorem blk_lt : (i 1).val < 8 := (i 1).isLt

theorem iv_one (n : ℕ) : Scf.iv 0#32 1#32 n = BitVec.ofNat 32 n := by
  simp [Scf.iv]

theorem pay10_at {j : ℕ} (hj : j ≤ (i 1).val) (r c : Fin 256) :
    k0_pay10 i (BitVec.ofNat 32 (i 1).val) 0#32 1#32 (t1 i ((i 1).val - j)) (ix2 r c) = BitVec.ofBool (decide (256 * j + c.val < 256 * (i 1).val + r.val)) := by
  have hb := blk_lt i
  pointwise [k0_pay10]
  have e : Scalar.subi (BitVec.ofNat 32 (i 1).val) (Scf.iv 0#32 1#32 (t1 i ((i 1).val - j)).val) = BitVec.ofNat 32 j := by
    rw [iv_one, show (t1 i ((i 1).val - j)).val = (i 1).val - j from Nat.min_eq_left (by omega)]
    show BitVec.ofNat 32 (i 1).val - BitVec.ofNat 32 ((i 1).val - j) = _
    apply BitVec.eq_of_toNat_eq
    rw [BitVec.toNat_sub, BitVec.toNat_ofNat, BitVec.toNat_ofNat, BitVec.toNat_ofNat]
    omega
  rw [e, mask_words hb (by omega)]

/-! ## The first loop's tiles -/

variable {Q K V O : ℕ → ℕ → ℝ}

theorem pay9_at {b j : ℕ} {q k : Vec Ideal S256x128 .bf16} (hq : IsBlk b q Q) (hk : IsBlk j k K) (r c : Fin 256) :
    k0_pay9 q k (ix2 r c) = ((Model.z sc Q K (256 * b + r.val) (256 * j + c.val) : ℝ) : EReal) := by
  pointwise [k0_pay9]
  rw [sc_eq, sum_coe (fun d => Q (256 * b + r.val) d * K (256 * j + c.val) d) fun d => by rw [hq, hk, EReal.coe_mul], ← EReal.coe_mul]
  rfl

theorem pay11_at {b j : ℕ} {q k : Vec Ideal S256x128 .bf16} (hq : IsBlk b q Q) (hk : IsBlk j k K) (r c : Fin 256) :
    k0_pay11 q k (ix2 r c) = ((Model.lsig (Model.z sc Q K (256 * b + r.val) (256 * j + c.val)) : ℝ) : EReal) := by
  pointwise [k0_pay11]
  rw [pay9_at hq hk, coe_lsig]

theorem pay12_at {j : ℕ} (hj : j ≤ (i 1).val) {q k : Vec Ideal S256x128 .bf16} (hq : IsBlk (i 1).val q Q) (hk : IsBlk j k K) (r c : Fin 256) :
    k0_pay12 i (BitVec.ofNat 32 (i 1).val) q 0#32 1#32 (t1 i ((i 1).val - j)) k (ix2 r c)
      = ((Model.m1 sc Q K (256 * (i 1).val + r.val) (256 * j + c.val) : ℝ) : EReal) := by
  pointwise [k0_pay12]
  rw [pay10_at i hj, select_true, pay9_at hq hk, pay11_at hq hk, ← EReal.coe_sub, Model.m1]
  split <;> rfl

/-- The logarithms that the first loop has summed, going down from the queries' own block. -/
theorem runD_at {q : Vec Ideal S256x128 .bf16} {k : Vec Ideal S2048x128 .bf16} (hq : IsBlk (i 1).val q Q) (hk : IsAll k K) (r : Fin 256) :
    ∀ n, n ≤ (i 1).val + 1 → runD i (BitVec.ofNat 32 (i 1).val) q k n (ix2 r 0)
      = ((∑ u ∈ Ico (256 * ((i 1).val + 1 - n)) (256 * ((i 1).val + 1)), Model.m1 sc Q K (256 * (i 1).val + r.val) u : ℝ) : EReal)
  | 0, _ => by
    rw [runD]
    pointwise [k0_pay31]
    simp
  | n + 1, h => by
    have hb := blk_lt i
    rw [runD]
    pointwise [k0_pay33]
    rw [runD_at hq hk r n (by omega)]
    obtain ⟨j, hj⟩ : ∃ j, j = (i 1).val - n := ⟨_, rfl⟩
    have hn : n = (i 1).val - j := by omega
    have hj' : j ≤ (i 1).val := by omega
    rw [show (i 1).val + 1 - n = j + 1 by omega, show (i 1).val + 1 - (n + 1) = j by omega, ← hj, hn]
    rw [sum_coe (fun c => Model.m1 sc Q K (256 * (i 1).val + r.val) (256 * j + c)) fun c => pay12_at i hj' hq (hk.rows (by omega)) r c,
      ← EReal.coe_add, Model.block_Ico _ (show j < (i 1).val + 1 by omega)]

/-- The tile of attention weights. -/
theorem aAt_at {q : Vec Ideal S256x128 .bf16} {k : Vec Ideal S2048x128 .bf16} (hq : IsBlk (i 1).val q Q) (hk : IsAll k K) {j : ℕ} (hj : j ≤ (i 1).val) (r c : Fin 256) :
    aAt i (BitVec.ofNat 32 (i 1).val) q k j (ix3 0 r c) = ((Model.wt sc Q K (256 * (i 1).val + r.val) (256 * j + c.val) : ℝ) : EReal) := by
  have hb := blk_lt i
  have hk' : IsBlk j (rows k ((i 1).val - ((i 1).val - j))) K := by
    rw [show (i 1).val - ((i 1).val - j) = j by omega]; exact hk.rows (by omega)
  rw [aAt]
  generalize rows k ((i 1).val - ((i 1).val - j)) = kj at hk'
  pointwise [k0_pay13, k0_pay27]
  rw [pay10_at i hj, select_true, pay11_at hq hk', runD_at i hq hk r _ (by omega),
    sum_coe (fun x => if c.val < x then Model.m1 sc Q K (256 * (i 1).val + r.val) (256 * j + x) else 0) fun x => by
      rw [sgt_words (by omega) (by omega), select_true, pay12_at i hj hq hk']; split <;> rfl,
    sum_coe (fun _ => 0) fun x => by
      rw [sgt_words (by omega) (by omega), select_true, pay12_at i hj hq hk', ← EReal.coe_sub, sub_self]; split <;> rfl]
  rw [Finset.sum_const_zero, ← EReal.coe_add, ← EReal.coe_add, ← EReal.coe_add, Ideal.exp_coe, add_zero, show (i 1).val + 1 - ((i 1).val - j) = j + 1 by omega,
    ← Model.left_split sc Q K hb hj r.isLt c.isLt, Model.wt]
  split <;> rfl

/-- The tile of `β`. -/
theorem sAt_at {q : Vec Ideal S256x128 .bf16} {k : Vec Ideal S2048x128 .bf16} (hq : IsBlk (i 1).val q Q) (hk : IsAll k K) {j : ℕ} (hj : j ≤ (i 1).val) (r c : Fin 256) :
    sAt i q k j (ix3 0 r c) = ((Real.exp (Model.lsig (Model.z sc Q K (256 * (i 1).val + r.val) (256 * j + c.val))) : ℝ) : EReal) := by
  have hb := blk_lt i
  have hk' : IsBlk j (rows k ((i 1).val - ((i 1).val - j))) K := by
    rw [show (i 1).val - ((i 1).val - j) = j by omega]; exact hk.rows (by omega)
  rw [sAt]
  pointwise [k0_pay32]
  rw [pay11_at hq hk', Ideal.exp_coe]

/-! ## The second loop's tiles -/

theorem pay20_at {q dO : Vec Ideal S256x128 .bf16} {k v : Vec Ideal S2048x128 .bf16} (hq : IsBlk (i 1).val q Q) (hd : IsBlk (i 1).val dO O) (hk : IsAll k K) (hv : IsAll v V)
    {j : ℕ} (hj : j ≤ (i 1).val) (r c : Fin 256) :
    k0_pay20 dO (aAt i (BitVec.ofNat 32 (i 1).val) q k j) (rows v j) (ix2 r c) = ((Model.pr sc Q K V O (256 * (i 1).val + r.val) (256 * j + c.val) : ℝ) : EReal) := by
  have hb := blk_lt i
  have ha := aAt_at i hq hk hj r c
  have hv' : IsBlk j (rows v j) V := hv.rows (by omega)
  generalize aAt i (BitVec.ofNat 32 (i 1).val) q k j = a at ha
  generalize rows v j = vj at hv'
  pointwise [k0_pay20, k0_pay19]
  rw [ha, sum_coe (fun d => O (256 * (i 1).val + r.val) d * V (256 * j + c.val) d) fun d => by rw [hd, hv', EReal.coe_mul], ← EReal.coe_mul]
  rfl

theorem runU_at {q dO : Vec Ideal S256x128 .bf16} {k v : Vec Ideal S2048x128 .bf16} (hq : IsBlk (i 1).val q Q) (hd : IsBlk (i 1).val dO O) (hk : IsAll k K) (hv : IsAll v V)
    (r : Fin 256) : ∀ j, j ≤ (i 1).val + 1 → runU i (BitVec.ofNat 32 (i 1).val) q dO k v j (ix2 r 0)
      = ((∑ u ∈ range (256 * j), Model.pr sc Q K V O (256 * (i 1).val + r.val) u : ℝ) : EReal)
  | 0, _ => by
    rw [runU]
    pointwise [k0_pay37]
    simp
  | j + 1, h => by
    rw [runU]
    pointwise [k0_pay4]
    rw [runU_at hq hd hk hv r j (by omega),
      sum_coe (fun c => Model.pr sc Q K V O (256 * (i 1).val + r.val) (256 * j + c)) fun c => pay20_at i hq hd hk hv (by omega) r c,
      ← EReal.coe_add, Model.range_block]

/-- The tile of the scores' gradient. -/
theorem dzAt_at {q dO : Vec Ideal S256x128 .bf16} {k v : Vec Ideal S2048x128 .bf16} (hq : IsBlk (i 1).val q Q) (hd : IsBlk (i 1).val dO O) (hk : IsAll k K) (hv : IsAll v V)
    {j : ℕ} (hj : j ≤ (i 1).val) (r c : Fin 256) :
    dzAt i (BitVec.ofNat 32 (i 1).val) q dO k v j (ix2 r c) = ((Model.dz sc Q K V O (256 * (i 1).val + r.val) (256 * j + c.val) : ℝ) : EReal) := by
  have hb := blk_lt i
  rw [dzAt]
  have hp := fun x => pay20_at i hq hd hk hv hj r x
  have hs := sAt_at i hq hk hj r c
  have hr := runU_at i hq hd hk hv r j (by omega)
  generalize aAt i (BitVec.ofNat 32 (i 1).val) q k j = a at hp ⊢
  generalize rows v j = vj at hp ⊢
  generalize sAt i q k j = s at hs ⊢
  generalize runU i (BitVec.ofNat 32 (i 1).val) q dO k v j = run at hr ⊢
  pointwise [k0_pay21, k0_pay28]
  rw [iv_one, show (t3 i j).val = j from Nat.min_eq_left (by omega), mask_words hb (by omega), select_true, sc_eq, hs, hr, hp,
    sum_coe (fun x => if x < c.val then Model.pr sc Q K V O (256 * (i 1).val + r.val) (256 * j + x) else 0) fun x => by
      rw [slt_words (by omega) (by omega), select_true, hp]; split <;> rfl,
    sum_coe (fun _ => 0) fun x => by
      rw [slt_words (by omega) (by omega), select_true, hp, ← EReal.coe_sub, sub_self]; split <;> rfl]
  rw [Finset.sum_const_zero, ← EReal.coe_add, ← EReal.coe_add, add_zero, ← EReal.coe_one, ← EReal.coe_sub, ← EReal.coe_mul, ← EReal.coe_mul, ← EReal.coe_sub,
    ← Model.cum_split sc Q K V O c.isLt, Model.dz, EReal.coe_mul]
  split
  · rfl
  · rw [EReal.coe_zero, zero_mul]

theorem dqS_at {q dO : Vec Ideal S256x128 .bf16} {k v : Vec Ideal S2048x128 .bf16} (hq : IsBlk (i 1).val q Q) (hd : IsBlk (i 1).val dO O) (hk : IsAll k K) (hv : IsAll v V)
    (r : Fin 256) (d : Fin 128) : ∀ j, j ≤ (i 1).val + 1 → dqS i (BitVec.ofNat 32 (i 1).val) q dO k v j (ix2 r d)
      = ((∑ s ∈ range (256 * j), Model.dz sc Q K V O (256 * (i 1).val + r.val) s * K s d.val : ℝ) : EReal)
  | 0, _ => by
    rw [dqS]
    pointwise [k0_pay36]
    simp
  | j + 1, h => by
    have hb := blk_lt i
    have hz := fun x => dzAt_at i hq hd hk hv (show j ≤ (i 1).val by omega) r x
    have hk' : IsBlk j (rows k j) K := hk.rows (by omega)
    rw [dzAt] at hz
    rw [dqS]
    pointwise [k0_pay1, k0_pay22]
    rw [dqS_at hq hd hk hv r d j (by omega),
      sum_coe (fun c => Model.dz sc Q K V O (256 * (i 1).val + r.val) (256 * j + c) * K (256 * j + c) d.val) fun c => by rw [hz, hk', EReal.coe_mul],
      ← EReal.coe_add, Model.range_block]

/-- The queries' gradient of one grid point. -/
theorem outQ_at {q dO : Vec Ideal S256x128 .bf16} {k v : Vec Ideal S2048x128 .bf16} (hq : IsBlk (i 1).val q Q) (hd : IsBlk (i 1).val dO O) (hk : IsAll k K) (hv : IsAll v V)
    (r : Fin 256) (d : Fin 128) : outQ i q dO k v (ix2 r d) = ((Model.dq sc Q K V O (256 * (i 1).val + r.val) d.val : ℝ) : EReal) := by
  rw [outQ, dqS_at i hq hd hk hv r d _ (le_refl _), Model.dq_eq sc Q K V O (blk_lt i) r.isLt]

/-! ## The two accumulated outputs -/

theorem ix2_at {n m : ℕ} {a : ℕ} (ha : a < n) (y : Fin n) (h : y.val = a) (d : Fin m) : ix2 y d = ix2 (⟨a, ha⟩ : Fin n) d := by
  subst h; rfl

theorem dkV_at {q dO : Vec Ideal S256x128 .bf16} {k v : Vec Ideal S2048x128 .bf16} (hq : IsBlk (i 1).val q Q) (hd : IsBlk (i 1).val dO O) (hk : IsAll k K) (hv : IsAll v V)
    (D : Vec Ideal S2048x128 .f32) (s : Fin 2048) (d : Fin 128) : ∀ j, j ≤ (i 1).val + 1 → dkV i q dO k v D j (ix2 s d)
      = if s.val / 256 < j then D (ix2 s d) + ((∑ r ∈ range 256, Model.dz sc Q K V O (256 * (i 1).val + r) s.val * Q (256 * (i 1).val + r) d.val : ℝ) : EReal) else D (ix2 s d)
  | 0, _ => by rw [dkV, if_neg (by omega)]
  | j + 1, h => by
    have hb := blk_lt i
    have hjb : j ≤ (i 1).val := by omega
    rw [dkV, setRows]
    by_cases hs : s.val / 256 = j
    · rw [if_pos (show ((ix2 s d : S2048x128.Idx) 0).val / 256 = j from hs), if_pos (by omega)]
      have hz := fun r x => dzAt_at i hq hd hk hv hjb r x
      generalize dzAt i (BitVec.ofNat 32 (i 1).val) q dO k v j = w at hz ⊢
      show k0_pay2 q w _ (ix2 (⟨s.val % 256, _⟩ : Fin 256) d) = _
      pointwise [k0_pay2]
      rw [rows_at _ (by omega)]
      have e : 256 * j + s.val % 256 = s.val := by omega
      rw [← ix2_at (by omega) s e.symm, dkV_at hq hd hk hv D s d j (by omega), if_neg (by omega)]
      congr 1
      refine sum_coe (fun r => Model.dz sc Q K V O (256 * (i 1).val + r) s.val * Q (256 * (i 1).val + r) d.val) fun r => ?_
      rw [hz, hq, EReal.coe_mul, e]
    · rw [if_neg (show ¬ ((ix2 s d : S2048x128.Idx) 0).val / 256 = j from hs), dkV_at hq hd hk hv D s d j (by omega)]
      by_cases h2 : s.val / 256 < j
      · rw [if_pos h2, if_pos (by omega)]
      · rw [if_neg h2, if_neg (by omega)]

/-- The keys' gradient after one grid point, from what it was before. -/
theorem outK_at {q dO : Vec Ideal S256x128 .bf16} {k v : Vec Ideal S2048x128 .bf16} (hq : IsBlk (i 1).val q Q) (hd : IsBlk (i 1).val dO O) (hk : IsAll k K) (hv : IsAll v V)
    (D : Vec Ideal S2048x128 .f32) (s : Fin 2048) (d : Fin 128) : outK i q dO k v D (ix2 s d)
      = D (ix2 s d) + ((∑ r ∈ range 256, Model.dz sc Q K V O (256 * (i 1).val + r) s.val * Q (256 * (i 1).val + r) d.val : ℝ) : EReal) := by
  rw [outK, dkV_at i hq hd hk hv D s d _ (le_refl _)]
  by_cases h : s.val / 256 < (i 1).val + 1
  · rw [if_pos h]
  · rw [if_neg h, Finset.sum_eq_zero fun r hr => by rw [Model.dz_of_le sc Q K V O (by have := Finset.mem_range.mp hr; omega), zero_mul], EReal.coe_zero, add_zero]

theorem dvV_at {q dO : Vec Ideal S256x128 .bf16} {k : Vec Ideal S2048x128 .bf16} (hq : IsBlk (i 1).val q Q) (hd : IsBlk (i 1).val dO O) (hk : IsAll k K)
    (D : Vec Ideal S2048x128 .f32) (s : Fin 2048) (d : Fin 128) : ∀ j, j ≤ (i 1).val + 1 → dvV i q dO k D j (ix2 s d)
      = if s.val / 256 < j then D (ix2 s d) + ((∑ r ∈ range 256, Model.wt sc Q K (256 * (i 1).val + r) s.val * O (256 * (i 1).val + r) d.val : ℝ) : EReal) else D (ix2 s d)
  | 0, _ => by rw [dvV, if_neg (by omega)]
  | j + 1, h => by
    have hb := blk_lt i
    have hjb : j ≤ (i 1).val := by omega
    rw [dvV, setRows]
    by_cases hs : s.val / 256 = j
    · rw [if_pos (show ((ix2 s d : S2048x128.Idx) 0).val / 256 = j from hs), if_pos (by omega)]
      have hz := fun r x => aAt_at i hq hk hjb r x
      generalize aAt i (BitVec.ofNat 32 (i 1).val) q k j = w at hz ⊢
      show k0_pay3 dO (k0_pay19 w) _ (ix2 (⟨s.val % 256, _⟩ : Fin 256) d) = _
      pointwise [k0_pay3, k0_pay19]
      rw [rows_at _ (by omega)]
      have e : 256 * j + s.val % 256 = s.val := by omega
      rw [← ix2_at (by omega) s e.symm, dvV_at hq hd hk D s d j (by omega), if_neg (by omega)]
      congr 1
      refine sum_coe (fun r => Model.wt sc Q K (256 * (i 1).val + r) s.val * O (256 * (i 1).val + r) d.val) fun r => ?_
      rw [hz, hd, EReal.coe_mul, e]
    · rw [if_neg (show ¬ ((ix2 s d : S2048x128.Idx) 0).val / 256 = j from hs), dvV_at hq hd hk D s d j (by omega)]
      by_cases h2 : s.val / 256 < j
      · rw [if_pos h2, if_pos (by omega)]
      · rw [if_neg h2, if_neg (by omega)]

/-- The values' gradient after one grid point, from what it was before. -/
theorem outV_at {q dO : Vec Ideal S256x128 .bf16} {k : Vec Ideal S2048x128 .bf16} (hq : IsBlk (i 1).val q Q) (hd : IsBlk (i 1).val dO O) (hk : IsAll k K)
    (D : Vec Ideal S2048x128 .f32) (s : Fin 2048) (d : Fin 128) : outV i q dO k D (ix2 s d)
      = D (ix2 s d) + ((∑ r ∈ range 256, Model.wt sc Q K (256 * (i 1).val + r) s.val * O (256 * (i 1).val + r) d.val : ℝ) : EReal) := by
  rw [outV, dvV_at i hq hd hk D s d _ (le_refl _)]
  by_cases h : s.val / 256 < (i 1).val + 1
  · rw [if_pos h]
  · rw [if_neg h, Finset.sum_eq_zero fun r hr => by rw [Model.wt_of_le sc Q K (by have := Finset.mem_range.mp hr; omega), zero_mul], EReal.coe_zero, add_zero]

end Cert.KernelIdeal.Att

end
-- ==== Proof.Arrays.lean ====
module

public import proofs.«01_k».proof.Proof.Run
public import proofs.«01_k».proof.Proof.Tile
public import Idealize.ShloMosaic.Lib.Pipeline.ValueKit

/-! # The arrays that the run leaves

Where the three argument arrays hold real numbers, the three result arrays hold the gradients of `Model`, head by head. -/

@[expose] public section

set_option maxRecDepth 16384

noncomputable section

namespace Cert.KernelIdeal.Att

open KernelIdeal KernelIdeal.Gen
open Idealize.ShloMosaic TcCoe
open Finset (range Ico)

/-! ## The heads' real numbers -/

/-- The real numbers of the array of queries and keys, by row and column. -/
def reals4 (x : Vec Ideal S2048x4096 .bf16) (t c : ℕ) : ℝ :=
  if h : t < 2048 ∧ c < 4096 then (x (ix2 (⟨t, h.1⟩ : Fin 2048) (⟨c, h.2⟩ : Fin 4096)) : EReal).toReal else 0
/-- The real numbers of an array of 2048 columns. -/
def reals2 (x : Vec Ideal S2048x2048 .bf16) (t c : ℕ) : ℝ :=
  if h : t < 2048 ∧ c < 2048 then (x (ix2 (⟨t, h.1⟩ : Fin 2048) (⟨c, h.2⟩ : Fin 2048)) : EReal).toReal else 0
/-- Head `h`'s queries. -/
def qs (x : Vec Ideal S2048x4096 .bf16) (h t d : ℕ) : ℝ := reals4 x t (128 * h + d)
/-- Head `h`'s keys. -/
def ks (x : Vec Ideal S2048x4096 .bf16) (h t d : ℕ) : ℝ := reals4 x t (2048 + 128 * h + d)
/-- Head `h`'s columns of an array of 2048. -/
def hs (x : Vec Ideal S2048x2048 .bf16) (h t d : ℕ) : ℝ := reals2 x t (128 * h + d)

/-- Every element is a real number. -/
def Real4 (x : Vec Ideal S2048x4096 .bf16) : Prop := ∀ (t : Fin 2048) (c : Fin 4096), x (ix2 t c) = ((reals4 x t.val c.val : ℝ) : EReal)
/-- Every element is a real number. -/
def Real2 (x : Vec Ideal S2048x2048 .bf16) : Prop := ∀ (t : Fin 2048) (c : Fin 2048), x (ix2 t c) = ((reals2 x t.val c.val : ℝ) : EReal)

/-- The queries' gradient. -/
def gQ (x : Vec Ideal S2048x4096 .bf16) (v o : Vec Ideal S2048x2048 .bf16) : Vec Ideal S2048x2048 .f32 := fun i =>
  ((Model.dq sc (qs x ((i 1).val / 128)) (ks x ((i 1).val / 128)) (hs v ((i 1).val / 128)) (hs o ((i 1).val / 128)) (i 0).val ((i 1).val % 128) : ℝ) : EReal)
/-- The keys' gradient. -/
def gK (x : Vec Ideal S2048x4096 .bf16) (v o : Vec Ideal S2048x2048 .bf16) : Vec Ideal S2048x2048 .f32 := fun i =>
  ((Model.dk sc (qs x ((i 1).val / 128)) (ks x ((i 1).val / 128)) (hs v ((i 1).val / 128)) (hs o ((i 1).val / 128)) (i 0).val ((i 1).val % 128) : ℝ) : EReal)
/-- The values' gradient. -/
def gV (x : Vec Ideal S2048x4096 .bf16) (o : Vec Ideal S2048x2048 .bf16) : Vec Ideal S2048x2048 .f32 := fun i =>
  ((Model.dv sc (qs x ((i 1).val / 128)) (ks x ((i 1).val / 128)) (hs o ((i 1).val / 128)) (i 0).val ((i 1).val % 128) : ℝ) : EReal)

/-! ## The windows' blocks -/

variable (m : (ℓ : Loc nD τ sig) → Buf (Elt Ideal) ℓ)

theorem index0 : ∀ t : Fin grid0.N, win0_0.index t 0 = t.val % 8 ∧ win0_0.index t 1 = t.val / 8 := by decide +kernel
theorem index1 : ∀ t : Fin grid0.N, win0_1.index t 0 = 0 ∧ win0_1.index t 1 = t.val / 8 + 16 := by decide +kernel
theorem index2 : ∀ t : Fin grid0.N, win0_2.index t 0 = 0 ∧ win0_2.index t 1 = t.val / 8 := by decide +kernel
theorem index3 : ∀ t : Fin grid0.N, win0_3.index t 0 = t.val % 8 ∧ win0_3.index t 1 = t.val / 8 := by decide +kernel
theorem index4 : ∀ t : Fin grid0.N, win0_4.index t 0 = t.val % 8 ∧ win0_4.index t 1 = t.val / 8 := by decide +kernel
theorem index5 : ∀ t : Fin grid0.N, win0_5.index t 0 = 0 ∧ win0_5.index t 1 = t.val / 8 := by decide +kernel
theorem index6 : ∀ t : Fin grid0.N, win0_6.index t 0 = 0 ∧ win0_6.index t 1 = t.val / 8 := by decide +kernel
theorem coord1 : ∀ t : Fin grid0.N, (grid0.coords t 1).val = t.val % 8 := by decide +kernel

theorem lt_points (t : Fin cfg0.N) : t.val < 128 := lt_of_lt_of_eq t.isLt (show cfg0.N = 128 from N_0)

theorem ix2_of {n k : ℕ} (i : (⟨2, ![n, k]⟩ : Shape).Idx) {a b : ℕ} (ha : a < n) (hb : b < k) (h0 : (i 0).val = a) (h1 : (i 1).val = b) : i = ix2 (⟨a, ha⟩ : Fin n) (⟨b, hb⟩ : Fin k) := by
  funext x
  match x with
  | ⟨0, _⟩ => exact Fin.ext h0
  | ⟨1, _⟩ => exact Fin.ext h1

theorem read0 (c : Dev nD) (t : Fin cfg0.N) (r : Fin 256) (d : Fin 128) :
    iblk m c 0 t (ix2 r d) = V m c main_arg0 (ix2 (⟨256 * (t.val % 8) + r.val, by omega⟩ : Fin 2048) (⟨128 * (t.val / 8) + d.val, by have := lt_points t; omega⟩ : Fin 4096)) := by
  have h := index0 t
  show V m c main_arg0 ((win0_0.blk t).view.emb (ix2 r d)) = _
  congr 1
  refine ix2_of _ _ _ ?_ ?_
  · blk_simp; rw [h.1]; omega
  · blk_simp; rw [h.2]; omega

theorem read1 (c : Dev nD) (t : Fin cfg0.N) (r : Fin 2048) (d : Fin 128) :
    iblk m c 1 t (ix2 r d) = V m c main_arg0 (ix2 (⟨r.val, r.isLt⟩ : Fin 2048) (⟨2048 + 128 * (t.val / 8) + d.val, by have := lt_points t; omega⟩ : Fin 4096)) := by
  have h := index1 t
  show V m c main_arg0 ((win0_1.blk t).view.emb (ix2 r d)) = _
  congr 1
  refine ix2_of _ _ _ ?_ ?_
  · blk_simp; rw [h.1]; omega
  · blk_simp; rw [h.2]; omega

theorem read2 (c : Dev nD) (t : Fin cfg0.N) (r : Fin 2048) (d : Fin 128) :
    iblk m c 2 t (ix2 r d) = V m c main_arg1 (ix2 (⟨r.val, r.isLt⟩ : Fin 2048) (⟨128 * (t.val / 8) + d.val, by have := lt_points t; omega⟩ : Fin 2048)) := by
  have h := index2 t
  show V m c main_arg1 ((win0_2.blk t).view.emb (ix2 r d)) = _
  congr 1
  refine ix2_of _ _ _ ?_ ?_
  · blk_simp; rw [h.1]; omega
  · blk_simp; rw [h.2]; omega

theorem read3 (c : Dev nD) (t : Fin cfg0.N) (r : Fin 256) (d : Fin 128) :
    iblk m c 3 t (ix2 r d) = V m c main_arg2 (ix2 (⟨256 * (t.val % 8) + r.val, by omega⟩ : Fin 2048) (⟨128 * (t.val / 8) + d.val, by have := lt_points t; omega⟩ : Fin 2048)) := by
  have h := index3 t
  show V m c main_arg2 ((win0_3.blk t).view.emb (ix2 r d)) = _
  congr 1
  refine ix2_of _ _ _ ?_ ?_
  · blk_simp; rw [h.1]; omega
  · blk_simp; rw [h.2]; omega

/-- The argument arrays at entry. -/
abbrev X (c : Dev nD) : Vec Ideal S2048x4096 .bf16 := m ((c : Thread nD τ).loc main_arg0)
abbrev Y (c : Dev nD) : Vec Ideal S2048x2048 .bf16 := m ((c : Thread nD τ).loc main_arg1)
abbrev Z (c : Dev nD) : Vec Ideal S2048x2048 .bf16 := m ((c : Thread nD τ).loc main_arg2)

variable (c : Dev nD) (hx : Real4 (X m c)) (hy : Real2 (Y m c)) (hz : Real2 (Z m c))

include hx in
theorem isQ (t : Fin cfg0.N) : IsBlk (grid0.coords t 1).val (iblk m c 0 t) (qs (X m c) (t.val / 8)) := fun r d => by
  rw [read0, V_main_arg0, coord1 t]; exact hx _ _
include hx in
theorem isK (t : Fin cfg0.N) : IsAll (iblk m c 1 t) (ks (X m c) (t.val / 8)) := fun r d => by
  rw [read1, V_main_arg0]; exact hx _ _
include hy in
theorem isV (t : Fin cfg0.N) : IsAll (iblk m c 2 t) (hs (Y m c) (t.val / 8)) := fun r d => by
  rw [read2, V_main_arg1]; exact hy _ _
include hz in
theorem isO (t : Fin cfg0.N) : IsBlk (grid0.coords t 1).val (iblk m c 3 t) (hs (Z m c) (t.val / 8)) := fun r d => by
  rw [read3, V_main_arg2, coord1 t]; exact hz _ _

/-! ## The accumulated gradients after each point -/

theorem sum_rows (f : ℕ → ℝ) (b : ℕ) : ∑ t ∈ range (256 * (b + 1)), f t = ∑ t ∈ range (256 * b), f t + ∑ r ∈ range 256, f (256 * b + r) := by
  rw [Nat.mul_succ, Finset.sum_range_add]

theorem zeroK (i : S2048x128.Idx) : k0_pay29 (F := Ideal) i = 0 := by simp [k0_pay29, broadcast]
theorem zeroV (i : S2048x128.Idx) : k0_pay30 (F := Ideal) i = 0 := by simp [k0_pay30, broadcast]

include hx hy hz in
theorem acc_at (s : Fin 2048) (d : Fin 128) : ∀ (n : ℕ) (hn : n < cfg0.N),
    (acc m c n hn).1 (ix2 s d) = ((∑ t ∈ range (256 * (n % 8 + 1)), Model.dz sc (qs (X m c) (n / 8)) (ks (X m c) (n / 8)) (hs (Y m c) (n / 8)) (hs (Z m c) (n / 8)) t s.val * qs (X m c) (n / 8) t d.val : ℝ) : EReal)
    ∧ (acc m c n hn).2 (ix2 s d) = ((∑ t ∈ range (256 * (n % 8 + 1)), Model.wt sc (qs (X m c) (n / 8)) (ks (X m c) (n / 8)) t s.val * hs (Z m c) (n / 8) t d.val : ℝ) : EReal) := by
  intro n
  induction n with
  | zero =>
    intro hn
    have e1 := isQ m c hx ⟨0, hn⟩
    have e2 := isK m c hx ⟨0, hn⟩
    have e3 := isV m c hy ⟨0, hn⟩
    have e4 := isO m c hz ⟨0, hn⟩
    have hc : (grid0.coords ⟨0, hn⟩ 1).val = 0 := coord1 ⟨0, hn⟩
    rw [acc_first m c ⟨0, hn⟩ rfl]
    refine ⟨?_, ?_⟩
    · show outK _ _ _ _ _ _ _ = _
      rw [outK_at _ e1 e4 e2 e3, zeroK, zero_add, sum_rows, hc]
      simp
    · show outV _ _ _ _ _ _ = _
      rw [outV_at _ e1 e4 e2, zeroV, zero_add, sum_rows, hc]
      simp
  | succ n ih =>
    intro hn
    have e1 := isQ m c hx ⟨n + 1, hn⟩
    have e2 := isK m c hx ⟨n + 1, hn⟩
    have e3 := isV m c hy ⟨n + 1, hn⟩
    have e4 := isO m c hz ⟨n + 1, hn⟩
    have hc : (grid0.coords ⟨n + 1, hn⟩ 1).val = (n + 1) % 8 := coord1 ⟨n + 1, hn⟩
    by_cases h0 : (n + 1) % 8 = 0
    · rw [acc_first m c ⟨n + 1, hn⟩ h0]
      refine ⟨?_, ?_⟩
      · show outK _ _ _ _ _ _ _ = _
        rw [outK_at _ e1 e4 e2 e3, zeroK, zero_add, sum_rows, hc, h0]
        simp
      · show outV _ _ _ _ _ _ = _
        rw [outV_at _ e1 e4 e2, zeroV, zero_add, sum_rows, hc, h0]
        simp
    · have hm : (n + 1) % 8 = n % 8 + 1 := by omega
      have hd : (n + 1) / 8 = n / 8 := by omega
      obtain ⟨ih1, ih2⟩ := ih (Nat.lt_of_succ_lt hn)
      rw [acc_next m c ⟨n + 1, hn⟩ h0]
      refine ⟨?_, ?_⟩
      · show outK _ _ _ _ _ (acc m c n _).1 _ = _
        rw [outK_at _ e1 e4 e2 e3, ih1, sum_rows _ ((n + 1) % 8), hc, hm, ← EReal.coe_add]
        dsimp only
        rw [hd]
      · show outV _ _ _ _ (acc m c n _).2 _ = _
        rw [outV_at _ e1 e4 e2, ih2, sum_rows _ ((n + 1) % 8), hc, hm, ← EReal.coe_add]
        dsimp only
        rw [hd]

/-! ## The blocks written back, and the arrays -/

include hx hy hz in
theorem wrote4 (t : Fin cfg0.N) : (dats m 0 c).flushed 4 t = ((cfg0.win 4).blk t).view.read (Elt Ideal) (gQ (X m c) (Y m c) (Z m c)) := by
  have e : (dats m 0 c).flushed 4 t = outQ (grid0.coords t) (iblk m c 0 t) (iblk m c 3 t) (iblk m c 1 t) (iblk m c 2 t) := rfl
  rw [e]
  funext j
  show outQ (grid0.coords t) (iblk m c 0 t) (iblk m c 3 t) (iblk m c 1 t) (iblk m c 2 t) j = gQ (X m c) (Y m c) (Z m c) ((win0_4.blk t).view.emb j)
  have h := index4 t
  have h0 : ((win0_4.blk t).view.emb j 0).val = 256 * (t.val % 8) + (j 0).val := by blk_simp; rw [h.1]; omega
  have h1 : ((win0_4.blk t).view.emb j 1).val = 128 * (t.val / 8) + (j 1).val := by blk_simp; rw [h.2]; omega
  have hj0 : (j 0).val < 256 := (j 0).isLt
  have hj1 : (j 1).val < 128 := (j 1).isLt
  rw [gQ, h0, h1, show (128 * (t.val / 8) + (j 1).val) / 128 = t.val / 8 by omega, show (128 * (t.val / 8) + (j 1).val) % 128 = (j 1).val by omega,
    ix2_of j hj0 hj1 rfl rfl, outQ_at _ (isQ m c hx t) (isO m c hz t) (isK m c hx t) (isV m c hy t), coord1 t]
  rfl

include hx hy hz in
theorem wrote5 (t : Fin cfg0.N) (hf : (cfg0.win 5).flush t = true) : (dats m 0 c).flushed 5 t = ((cfg0.win 5).blk t).view.read (Elt Ideal) (gK (X m c) (Y m c) (Z m c)) := by
  have e : (dats m 0 c).flushed 5 t = (acc m c t.val t.isLt).1 := rfl
  rw [e]
  funext j
  show (acc m c t.val t.isLt).1 j = gK (X m c) (Y m c) (Z m c) ((win0_5.blk t).view.emb j)
  have h := index5 t
  have h0 : ((win0_5.blk t).view.emb j 0).val = (j 0).val := by blk_simp; rw [h.1]; omega
  have h1 : ((win0_5.blk t).view.emb j 1).val = 128 * (t.val / 8) + (j 1).val := by blk_simp; rw [h.2]; omega
  have hj0 : (j 0).val < 2048 := (j 0).isLt
  have hj1 : (j 1).val < 128 := (j 1).isLt
  rw [gK, h0, h1, show (128 * (t.val / 8) + (j 1).val) / 128 = t.val / 8 by omega, show (128 * (t.val / 8) + (j 1).val) % 128 = (j 1).val by omega,
    ix2_of j hj0 hj1 rfl rfl, (acc_at m c hx hy hz _ _ t.val t.isLt).1, (flush0_5 t).mp hf]
  rfl

include hx hy hz in
theorem wrote6 (t : Fin cfg0.N) (hf : (cfg0.win 6).flush t = true) : (dats m 0 c).flushed 6 t = ((cfg0.win 6).blk t).view.read (Elt Ideal) (gV (X m c) (Z m c)) := by
  have e : (dats m 0 c).flushed 6 t = (acc m c t.val t.isLt).2 := rfl
  rw [e]
  funext j
  show (acc m c t.val t.isLt).2 j = gV (X m c) (Z m c) ((win0_6.blk t).view.emb j)
  have h := index6 t
  have h0 : ((win0_6.blk t).view.emb j 0).val = (j 0).val := by blk_simp; rw [h.1]; omega
  have h1 : ((win0_6.blk t).view.emb j 1).val = 128 * (t.val / 8) + (j 1).val := by blk_simp; rw [h.2]; omega
  have hj0 : (j 0).val < 2048 := (j 0).isLt
  have hj1 : (j 1).val < 128 := (j 1).isLt
  rw [gV, h0, h1, show (128 * (t.val / 8) + (j 1).val) / 128 = t.val / 8 by omega, show (128 * (t.val / 8) + (j 1).val) % 128 = (j 1).val by omega,
    ix2_of j hj0 hj1 rfl rfl, (acc_at m c hx hy hz _ _ t.val t.isLt).2, (flush0_6 t).mp hf]
  rfl

theorem cover4 (i : S2048x2048.Idx) : ∃ t : Fin cfg0.N, (cfg0.win 4).flush t = true ∧ i ∈ ((cfg0.win 4).blk t).view.set := by
  have hi0 : (i 0).val < 2048 := (i 0).isLt
  have hi1 : (i 1).val < 2048 := (i 1).isLt
  have hN : cfg0.N = 128 := N_0
  have hp : 8 * ((i 1).val / 128) + (i 0).val / 256 < cfg0.N := by omega
  refine ⟨⟨8 * ((i 1).val / 128) + (i 0).val / 256, hp⟩, flush0_4 _, ?_⟩
  have h := index4 ⟨8 * ((i 1).val / 128) + (i 0).val / 256, hp⟩
  dsimp only at h
  mem_blk
  rw [h.1, h.2]
  omega

theorem cover5 (i : S2048x2048.Idx) : ∃ t : Fin cfg0.N, (cfg0.win 5).flush t = true ∧ i ∈ ((cfg0.win 5).blk t).view.set := by
  have hi0 : (i 0).val < 2048 := (i 0).isLt
  have hi1 : (i 1).val < 2048 := (i 1).isLt
  have hN : cfg0.N = 128 := N_0
  have hp : 8 * ((i 1).val / 128) + 7 < cfg0.N := by omega
  refine ⟨⟨8 * ((i 1).val / 128) + 7, hp⟩, (flush0_5 _).mpr (by dsimp only; omega), ?_⟩
  have h := index5 ⟨8 * ((i 1).val / 128) + 7, hp⟩
  dsimp only at h
  mem_blk
  rw [h.1, h.2]
  omega

theorem cover6 (i : S2048x2048.Idx) : ∃ t : Fin cfg0.N, (cfg0.win 6).flush t = true ∧ i ∈ ((cfg0.win 6).blk t).view.set := by
  have hi0 : (i 0).val < 2048 := (i 0).isLt
  have hi1 : (i 1).val < 2048 := (i 1).isLt
  have hN : cfg0.N = 128 := N_0
  have hp : 8 * ((i 1).val / 128) + 7 < cfg0.N := by omega
  refine ⟨⟨8 * ((i 1).val / 128) + 7, hp⟩, (flush0_6 _).mpr (by dsimp only; omega), ?_⟩
  have h := index6 ⟨8 * ((i 1).val / 128) + 7, hp⟩
  dsimp only at h
  mem_blk
  rw [h.1, h.2]
  omega

variable (ρ : Dev nD → PrngReg)

/-- The run, with the three gradients in the result arrays. -/
theorem run_values (h : ∀ c, Real4 (X m c) ∧ Real2 (Y m c) ∧ Real2 (Z m c)) :
    θ_run defs (onTc (τ := τ) (main (F := Ideal))) ⟨m, fun _ => 0, ρ⟩ (fun r => ∀ c : Dev nD,
      r.2.mem ((c.tc : Thread nD τ).loc main_v0_0) = gQ (X m c) (Y m c) (Z m c)
      ∧ r.2.mem ((c.tc : Thread nD τ).loc main_v0_1) = gK (X m c) (Y m c) (Z m c)
      ∧ r.2.mem ((c.tc : Thread nD τ).loc main_v0_2) = gV (X m c) (Z m c)) :=
  (θ_run defs _ _).mono (fun _ h' c => by
    obtain ⟨hx, hy, hz⟩ := h c
    exact ⟨((h' c).1 4).trans ((dats m 0 c).arrAt_eq_of_cover 4 (gQ (X m c) (Y m c) (Z m c)) (fun t _ => wrote4 m c hx hy hz t) cover4),
      ((h' c).1 5).trans ((dats m 0 c).arrAt_eq_of_cover 5 (gK (X m c) (Y m c) (Z m c)) (fun t hf => wrote5 m c hx hy hz t hf) cover5),
      ((h' c).1 6).trans ((dats m 0 c).arrAt_eq_of_cover 6 (gV (X m c) (Z m c)) (fun t hf => wrote6 m c hx hy hz t hf) cover6)⟩) (run_post m ρ)

end Cert.KernelIdeal.Att

end
-- ==== Proof.RefValue.lean ====
module

public import proofs.«01_k».proof.Proof.Arrays
public import proofs.«01_k».proof.Proof.Gen.ReferenceIdeal.Read

/-! # The reference's values over the real numbers

Where the arguments hold real numbers, the reference's intermediate arrays hold, head by head, the real numbers of
`Model`, and its three results are the arrays that the kernel leaves. -/

@[expose] public section

set_option maxRecDepth 16384

noncomputable section

namespace Cert.ReferenceIdeal.Att

open ReferenceIdeal ReferenceIdeal.Gen ReferenceIdeal.Read
open KernelIdeal.Att (sc sc_eq sum_coe select_true Real4 Real2 reals4 reals2 qs ks hs ix2_of slt_words)
open KernelIdeal.Att
open Idealize.ShloMosaic TcCoe
open Finset (range Ico)

/-! ## A running sum along the last axis -/

theorem foldl_sum {ι : Type} (g : ι → EReal) (l : List ι) (a : EReal) : l.foldl (fun r n => r + g n) a = a + (l.map g).sum := by
  induction l generalizing a with
  | nil => simp
  | cons x l ih => rw [List.foldl_cons, ih, List.map_cons, List.sum_cons, add_assoc]

/-- The places of a window that is one wide on two axes and `n` long on the third. -/
def places (n : ℕ) : (⟨3, ![1, 1, n]⟩ : Shape).Idx ≃ Fin n where
  toFun w := w 2
  invFun k := fun a => match a with
    | ⟨0, _⟩ => (0 : Fin 1)
    | ⟨1, _⟩ => (0 : Fin 1)
    | ⟨2, _⟩ => k
  left_inv w := by
    funext a
    match a with
    | ⟨0, _⟩ => exact (Fin.eq_zero (w 0 : Fin 1)).symm
    | ⟨1, _⟩ => exact (Fin.eq_zero (w 1 : Fin 1)).symm
    | ⟨2, _⟩ => rfl
  right_inv _ := rfl

/-- The windowed sum of an array of real numbers, the window the whole last axis and `lo` places before it. -/
theorem window_at (lo hi : ℕ) (x : FVec Ideal S16x2048x2048 .f32) (init : S_.Idx → Ideal .f32)
    (h : S16x2048x2048.ReduceWindows ![1, 1, 2048] ![1, 1, 1] ![0, 0, lo] ![0, 0, hi] S16x2048x2048) (hu : 0 < S_.numel)
    (f : ℕ → ℕ → ℕ → ℝ) (hx : ∀ i : S16x2048x2048.Idx, x i = ((f (i 0).val (i 1).val (i 2).val : ℝ) : EReal)) (h0 : ∀ i, init i = (0 : EReal)) (j : S16x2048x2048.Idx) :
    Host.reduceWindowAdd (F := Ideal) ![1, 1, 2048] ![1, 1, 1] ![0, 0, lo] ![0, 0, hi] x init h hu j
      = ((∑ n ∈ range 2048, if lo ≤ (j 2).val + n ∧ (j 2).val + n - lo < 2048 then f (j 0).val (j 1).val ((j 2).val + n - lo) else 0 : ℝ) : EReal) := by
  unfold Host.reduceWindowAdd
  show Ideal.hostReduceWindowAdd ![1, 1, 2048] ![1, 1, 1] ![0, 0, lo] ![0, 0, hi] h x (init (Shape.Idx.first hu)) j = _
  rw [h0]
  unfold Ideal.hostReduceWindowAdd Host.reduceWindow
  dsimp only
  refine (foldl_sum _ _ _).trans ?_
  rw [zero_add, ← List.ofFn_eq_map, List.sum_ofFn]
  refine (Finset.sum_congr rfl fun n _ => dite_congr rfl (fun _ => rfl) fun _ => rfl).trans (Equiv.sum_comp (Shape.rowMajor (⟨3, ![1, 1, 2048]⟩ : Shape)).symm (fun w : (⟨3, ![1, 1, 2048]⟩ : Shape).Idx =>
    if hin : ∀ a : Fin 3, (![0, 0, lo] : Fin 3 → ℕ) a ≤ (j a).val * (![1, 1, 1] : Fin 3 → ℕ) a + (w a).val ∧ (j a).val * (![1, 1, 1] : Fin 3 → ℕ) a + (w a).val - (![0, 0, lo] : Fin 3 → ℕ) a < S16x2048x2048.size a
      then x (fun a => ⟨(j a).val * (![1, 1, 1] : Fin 3 → ℕ) a + (w a).val - (![0, 0, lo] : Fin 3 → ℕ) a, (hin a).2⟩) else 0)) |>.trans ?_
  rw [← Equiv.sum_comp (places 2048).symm]
  refine sum_coe (fun n => if lo ≤ (j 2).val + n ∧ (j 2).val + n - lo < 2048 then f (j 0).val (j 1).val ((j 2).val + n - lo) else 0) fun k => ?_
  have hj0 : (j 0).val < 16 := (j 0).isLt
  have hj1 : (j 1).val < 2048 := (j 1).isLt
  by_cases hk : lo ≤ (j 2).val + k.val ∧ (j 2).val + k.val - lo < 2048
  · rw [if_pos hk, dif_pos ?_, hx]
    · show ((f ((j 0).val * 1 + 0 - 0) ((j 1).val * 1 + 0 - 0) ((j 2).val * 1 + k.val - lo) : ℝ) : EReal) = _
      rw [Nat.mul_one, Nat.mul_one, Nat.mul_one]; rfl
    · intro a
      match a with
      | ⟨0, _⟩ => show 0 ≤ (j 0).val * 1 + 0 ∧ (j 0).val * 1 + 0 - 0 < 16; omega
      | ⟨1, _⟩ => show 0 ≤ (j 1).val * 1 + 0 ∧ (j 1).val * 1 + 0 - 0 < 2048; omega
      | ⟨2, _⟩ => show lo ≤ (j 2).val * 1 + k.val ∧ (j 2).val * 1 + k.val - lo < 2048; omega
  · rw [if_neg hk, dif_neg ?_]
    · rfl
    · intro hin
      have h2 : lo ≤ (j 2).val * 1 + k.val ∧ (j 2).val * 1 + k.val - lo < 2048 := hin 2
      omega

/-- From a position to the end. -/
theorem sum_from (f : ℕ → ℝ) {s : ℕ} (hs : s < 2048) : (∑ n ∈ range 2048, if 0 ≤ s + n ∧ s + n - 0 < 2048 then f (s + n - 0) else 0) = ∑ u ∈ Ico s 2048, f u := by
  rw [← Finset.sum_filter, Finset.sum_Ico_eq_sum_range]
  refine Finset.sum_congr (Finset.ext fun k => ?_) fun _ _ => rfl
  simp only [Finset.mem_filter, Finset.mem_range]; omega

/-- From the start to a position. -/
theorem sum_upto (f : ℕ → ℝ) {s : ℕ} (hs : s < 2048) : (∑ n ∈ range 2048, if 2047 ≤ s + n ∧ s + n - 2047 < 2048 then f (s + n - 2047) else 0) = ∑ u ∈ range (s + 1), f u := by
  rw [← Finset.sum_filter]
  have e : (range 2048).filter (fun n => 2047 ≤ s + n ∧ s + n - 2047 < 2048) = Ico (2047 - s) 2048 := Finset.ext fun k => by
    simp only [Finset.mem_filter, Finset.mem_range, Finset.mem_Ico]; omega
  rw [e, Finset.sum_Ico_eq_sum_range, show 2048 - (2047 - s) = s + 1 by omega]
  exact Finset.sum_congr rfl fun k _ => by congr 1; omega

/-! ## Scalars -/

/-- The softplus. -/
def sp (y : ℝ) : ℝ := max y 0 + Real.log (1 + Real.exp (-|y|))

theorem lsig_sp (x : ℝ) : Model.lsig x = -sp (-x) := Model.lsig_eq x

theorem zero_word : (FloatOps.ofBits (F := Ideal) .f32 0x00000000#32) = (0 : EReal) := Ideal.ofBits_zero_f32
theorem top_word : (FloatOps.ofBits (F := Ideal) .f32 0x7F800000#32) = (⊤ : EReal) := by
  show Ideal.ofBits .f32 0x7F800000#32 = ⊤
  simp [Ideal.ofBits, Ideal.ieee]

theorem sp_coe (y : ℝ) : Scalar.select (Ideal.cmp .une ((y : EReal) - 0) ((y : EReal) - 0)) ((y : EReal) + 0)
    (max (y : EReal) 0 + Ideal.log1p (Ideal.exp (-(max ((y : EReal) - 0) (-((y : EReal) - 0)))))) = ((sp y : ℝ) : EReal) := by
  have hp : ¬ (1 + Real.exp (-|y|)) ≤ 0 := not_le.mpr (by positivity)
  have habs : max (y : EReal) (-(y : EReal)) = ((|y| : ℝ) : EReal) := by
    rw [← EReal.coe_neg, ← EReal.coe_strictMono.monotone.map_max]; rfl
  rw [Ideal.cmp, select_true, if_neg (by simp), sub_zero, habs, ← EReal.coe_zero, ← EReal.coe_neg, Ideal.exp_coe, Ideal.log1p, ← EReal.coe_one,
    ← EReal.coe_add, Ideal.log_coe, if_neg hp, ← EReal.coe_strictMono.monotone.map_max, ← EReal.coe_add]
  rfl

theorem factor_coe (y : ℝ) : Ideal.exp (Scalar.select (Ideal.cmp .oeq (y : EReal) ⊤) 0 (y : EReal) - Scalar.select (Ideal.cmp .oeq ((sp y : ℝ) : EReal) ⊤) 0 ((sp y : ℝ) : EReal))
    = ((Real.exp (y - sp y) : ℝ) : EReal) := by
  rw [Ideal.cmp, Ideal.cmp, select_true, select_true, if_neg (EReal.coe_ne_top _), if_neg (EReal.coe_ne_top _), ← EReal.coe_sub, Ideal.exp_coe]

/-! ## The heads -/

theorem at4 {x : Vec Ideal S2048x4096 .bf16} (hx : Real4 x) (i : S2048x4096.Idx) {t c : ℕ} (h0 : (i 0).val = t) (h1 : (i 1).val = c) :
    x i = ((reals4 x t c : ℝ) : EReal) := by
  subst h0; subst h1
  refine Eq.trans (congrArg x (ix2_of i (i 0).isLt (i 1).isLt rfl rfl)) (hx _ _)

theorem at2 {x : Vec Ideal S2048x2048 .bf16} (hx : Real2 x) (i : S2048x2048.Idx) {t c : ℕ} (h0 : (i 0).val = t) (h1 : (i 1).val = c) :
    x i = ((reals2 x t c : ℝ) : EReal) := by
  subst h0; subst h1
  refine Eq.trans (congrArg x (ix2_of i (i 0).isLt (i 1).isLt rfl rfl)) (hx _ _)

variable {x0 : Vec Ideal S2048x4096 .bf16} {x1 x2 : Vec Ideal S2048x2048 .bf16} (hx : Real4 x0) (hy : Real2 x1) (hz : Real2 x2)

include hx in
theorem q_at (i : S16x2048x128.Idx) : val_main_v6 (F := Ideal) x0 i = ((qs x0 (i 0).val (i 1).val (i 2).val : ℝ) : EReal) := by
  have h0 : (i 0).val < 16 := (i 0).isLt
  have h2 : (i 2).val < 128 := (i 2).isLt
  rw [val_main_v6_apply, val_main_v5_apply, val_main_v3_apply, val_main_v0_apply]
  exact at4 hx _ (by show (((i 1).val * 16 + (i 0).val) * 128 + (i 2).val) / 2048 = _; omega) (by show (((i 1).val * 16 + (i 0).val) * 128 + (i 2).val) % 2048 = _; omega)

include hx in
theorem k_at (i : S16x2048x128.Idx) : val_main_v8 (F := Ideal) x0 i = ((ks x0 (i 0).val (i 1).val (i 2).val : ℝ) : EReal) := by
  have h0 : (i 0).val < 16 := (i 0).isLt
  have h2 : (i 2).val < 128 := (i 2).isLt
  rw [val_main_v8_apply, val_main_v7_apply, val_main_v4_apply, val_main_v0_apply]
  exact at4 hx _ (by show (((i 1).val * 16 + (i 0).val) * 128 + (i 2).val) / 2048 = _; omega) (by show 2048 + (((i 1).val * 16 + (i 0).val) * 128 + (i 2).val) % 2048 = _; omega)

include hy in
theorem v_at (i : S16x2048x128.Idx) : val_main_v10 (F := Ideal) x1 i = ((hs x1 (i 0).val (i 1).val (i 2).val : ℝ) : EReal) := by
  have h0 : (i 0).val < 16 := (i 0).isLt
  have h2 : (i 2).val < 128 := (i 2).isLt
  rw [val_main_v10_apply, val_main_v9_apply, val_main_v1_apply]
  exact at2 hy _ (by show (((i 1).val * 16 + (i 0).val) * 128 + (i 2).val) / 2048 = _; omega) (by show (((i 1).val * 16 + (i 0).val) * 128 + (i 2).val) % 2048 = _; omega)

include hz in
theorem o_at (i : S16x2048x128.Idx) : val_main_v34 (F := Ideal) x2 i = ((hs x2 (i 0).val (i 1).val (i 2).val : ℝ) : EReal) := by
  have h0 : (i 0).val < 16 := (i 0).isLt
  have h2 : (i 2).val < 128 := (i 2).isLt
  rw [val_main_v34_apply, val_main_v33_apply, val_main_v2_apply]
  exact at2 hz _ (by show (((i 1).val * 16 + (i 0).val) * 128 + (i 2).val) / 2048 = _; omega) (by show (((i 1).val * 16 + (i 0).val) * 128 + (i 2).val) % 2048 = _; omega)

/-- Head `h`'s score. -/
def zz (x0 : Vec Ideal S2048x4096 .bf16) (h t s : ℕ) : ℝ := Model.z sc (qs x0 h) (ks x0 h) t s

include hx in
theorem z_at (i : S16x2048x2048.Idx) : val_main_v13 (F := Ideal) x0 i = ((zz x0 (i 0).val (i 1).val (i 2).val : ℝ) : EReal) := by
  rw [val_main_v13_apply, val_main_v11_apply, val_main_v12_apply, val_main_cst_apply,
    sum_coe (fun d => qs x0 (i 0).val (i 1).val d * ks x0 (i 0).val (i 2).val d) (fun k => by rw [q_at hx, k_at hx, ← EReal.coe_mul])]
  show _ * (Ideal.ofBits .f32 0x3DB504F3#32 : EReal) = _
  rw [sc_eq, ← EReal.coe_mul]
  rfl

theorem mask_at (i : S2048x2048.Idx) : val_main_v20 (F := Ideal) i = BitVec.ofBool (decide ((i 1).val < (i 0).val)) := by
  have h0 : (i 0).val < 2048 := (i 0).isLt
  have h1 : (i 1).val < 2048 := (i 1).isLt
  rw [val_main_v20_apply, val_main_v18_apply, val_main_v15_apply, val_main_v14_apply, val_main_v19_apply, val_main_v17_apply, val_main_v16_apply]
  exact slt_words (a := (i 1).val) (b := (i 0).val) (by omega) (by omega)

/-! ## The logarithms of the sigmoid -/

include hx in
theorem neg_z (i : S16x2048x2048.Idx) : val_main_call0_v0 (F := Ideal) x0 i = ((-zz x0 (i 0).val (i 1).val (i 2).val : ℝ) : EReal) := by
  rw [val_main_call0_v0_apply, z_at hx, EReal.coe_neg]; rfl

include hx in
theorem neg_neg_z (i : S16x2048x2048.Idx) : val_main_call1_v0 (F := Ideal) x0 i = ((zz x0 (i 0).val (i 1).val (i 2).val : ℝ) : EReal) := by
  rw [val_main_call1_v0_apply, val_main_v22_apply, z_at hx]
  exact neg_neg _

include hx in
theorem sp0_at (i : S16x2048x2048.Idx) : val_main_call0_v1_0 (F := Ideal) x0 i = ((sp (-zz x0 (i 0).val (i 1).val (i 2).val) : ℝ) : EReal) := by
  rw [val_main_call0_v1_0_apply, val_main_call0_call0_v4_apply, val_main_call0_call0_v6_apply, val_main_call0_call0_v11_apply, val_main_call0_call0_v1_apply,
    val_main_call0_call0_v10_apply, val_main_call0_call0_v9_apply, val_main_call0_call0_v8_apply, val_main_call0_call0_v7_apply, val_main_call0_call0_v3_apply,
    val_main_call0_call0_v0_apply, val_main_call0_call0_v2_apply, val_main_call0_call0_v5_apply, val_main_call0_call0_cst_apply, zero_word, neg_z hx]
  exact sp_coe _

include hx in
theorem sp1_at (i : S16x2048x2048.Idx) : val_main_call1_v1_0 (F := Ideal) x0 i = ((sp (zz x0 (i 0).val (i 1).val (i 2).val) : ℝ) : EReal) := by
  rw [val_main_call1_v1_0_apply, val_main_call1_call0_v4_apply, val_main_call1_call0_v6_apply, val_main_call1_call0_v11_apply, val_main_call1_call0_v1_apply,
    val_main_call1_call0_v10_apply, val_main_call1_call0_v9_apply, val_main_call1_call0_v8_apply, val_main_call1_call0_v7_apply, val_main_call1_call0_v3_apply,
    val_main_call1_call0_v0_apply, val_main_call1_call0_v2_apply, val_main_call1_call0_v5_apply, val_main_call1_call0_cst_apply, zero_word, neg_neg_z hx]
  exact sp_coe _

include hx in
theorem ls_at (i : S16x2048x2048.Idx) : val_main_v21_0 (F := Ideal) x0 i = ((Model.lsig (zz x0 (i 0).val (i 1).val (i 2).val) : ℝ) : EReal) := by
  rw [val_main_v21_0_apply, sp0_at hx, lsig_sp, EReal.coe_neg]; rfl

include hx in
theorem ls_neg_at (i : S16x2048x2048.Idx) : val_main_v23_0 (F := Ideal) x0 i = ((Model.lsig (zz x0 (i 0).val (i 1).val (i 2).val) - zz x0 (i 0).val (i 1).val (i 2).val : ℝ) : EReal) := by
  rw [val_main_v23_0_apply, sp1_at hx, ← Model.lsig_neg, lsig_sp, neg_neg, EReal.coe_neg]; rfl

include hx in
/-- The derivative of the logarithm of the sigmoid. -/
theorem co_sig_at (i : S16x2048x2048.Idx) : val_main_v21_1 (F := Ideal) x0 i = ((1 - Real.exp (Model.lsig (zz x0 (i 0).val (i 1).val (i 2).val)) : ℝ) : EReal) := by
  rw [val_main_v21_1_apply, val_main_call0_call0_v21_apply, val_main_call0_call0_v16_apply, val_main_call0_call0_v20_apply, val_main_call0_call0_v14_apply,
    val_main_call0_call0_v18_apply, val_main_call0_call0_v13_apply, val_main_call0_call0_v17_apply, val_main_call0_call0_v15_apply, val_main_call0_call0_v19_apply,
    val_main_call0_call0_cst_0_apply, val_main_call0_call0_cst_2_apply, val_main_call0_call0_cst_1_apply, val_main_call0_call0_cst_3_apply, zero_word, top_word,
    neg_z hx, sp0_at hx]
  refine (factor_coe _).trans ?_
  rw [← Model.exp_lsig_neg, Model.lsig_neg, lsig_sp (zz x0 _ _ _)]
  congr 2
  ring

include hx in
/-- The derivative of the logarithm of the sigmoid, at the negated score. -/
theorem sig_at (i : S16x2048x2048.Idx) : val_main_v23_1 (F := Ideal) x0 i = ((Real.exp (Model.lsig (zz x0 (i 0).val (i 1).val (i 2).val)) : ℝ) : EReal) := by
  rw [val_main_v23_1_apply, val_main_call1_call0_v21_apply, val_main_call1_call0_v16_apply, val_main_call1_call0_v20_apply, val_main_call1_call0_v14_apply,
    val_main_call1_call0_v18_apply, val_main_call1_call0_v13_apply, val_main_call1_call0_v17_apply, val_main_call1_call0_v15_apply, val_main_call1_call0_v19_apply,
    val_main_call1_call0_cst_0_apply, val_main_call1_call0_cst_2_apply, val_main_call1_call0_cst_1_apply, val_main_call1_call0_cst_3_apply, zero_word, top_word,
    neg_neg_z hx, sp1_at hx]
  refine (factor_coe _).trans ?_
  have h := Model.lsig_neg (zz x0 (i 0).val (i 1).val (i 2).val)
  rw [lsig_sp, neg_neg] at h
  congr 2
  linarith

/-! ## The weights -/

include hx in
theorem m1_at (i : S16x2048x2048.Idx) : val_main_v24_0 (F := Ideal) x0 i = ((Model.m1 sc (qs x0 (i 0).val) (ks x0 (i 0).val) (i 1).val (i 2).val : ℝ) : EReal) := by
  rw [val_main_v24_0_apply, val_main_v24_1_apply, mask_at, ls_neg_at hx, val_main_call2_v2_apply, val_main_call2_v0_apply, val_main_cst_0_apply, zero_word, select_true, Model.m1]
  show (if (i 2).val < (i 1).val then _ else _) = _
  split
  · rfl
  · exact EReal.coe_zero.symm

include hx in
theorem left_at (i : S16x2048x2048.Idx) : val_main_v26 (F := Ideal) x0 i = ((Model.left sc (qs x0 (i 0).val) (ks x0 (i 0).val) (i 1).val (i 2).val : ℝ) : EReal) := by
  have h2 : (i 2).val < 2048 := (i 2).isLt
  rw [val_main_v26_apply, m1_at hx, val_main_v25, window_at 0 2047 _ _ _ _ (fun h t s => Model.m1 sc (qs x0 h) (ks x0 h) t s) (m1_at hx)
    (fun i => by rw [val_main_call3_v0_apply, val_main_call3_cst_apply, zero_word]) i, sum_from _ h2, Finset.sum_eq_sum_Ico_succ_bot h2]
  refine (EReal.coe_sub _ _).symm.trans ?_
  rw [add_sub_cancel_left]; rfl

/-- The weight of a key that the query sees. -/
def ee (x0 : Vec Ideal S2048x4096 .bf16) (h t s : ℕ) : ℝ := Real.exp (Model.lsig (zz x0 h t s) + Model.left sc (qs x0 h) (ks x0 h) t s)

include hx in
theorem ee_at (i : S16x2048x2048.Idx) : val_main_v28 (F := Ideal) x0 i = ((ee x0 (i 0).val (i 1).val (i 2).val : ℝ) : EReal) := by
  rw [val_main_v28_apply, val_main_v27_apply, ls_at hx, left_at hx]
  show Ideal.exp (((_ : ℝ) : EReal) + ((_ : ℝ) : EReal)) = _
  rw [← EReal.coe_add, Ideal.exp_coe]; rfl

include hx in
theorem wt_at (i : S16x2048x2048.Idx) : val_main_v29_0 (F := Ideal) x0 i = ((Model.wt sc (qs x0 (i 0).val) (ks x0 (i 0).val) (i 1).val (i 2).val : ℝ) : EReal) := by
  rw [val_main_v29_0_apply, val_main_v29_1_apply, mask_at, ee_at hx, val_main_call4_v2_apply, val_main_call4_v0_apply, val_main_cst_1_apply, zero_word, select_true, Model.wt]
  show (if (i 2).val < (i 1).val then _ else _) = _
  split
  · rfl
  · exact EReal.coe_zero.symm

include hx hy hz in
theorem pr_at (i : S16x2048x2048.Idx) : val_main_v39 (F := Ideal) x0 x1 x2 i
    = ((Model.pr sc (qs x0 (i 0).val) (ks x0 (i 0).val) (hs x1 (i 0).val) (hs x2 (i 0).val) (i 1).val (i 2).val : ℝ) : EReal) := by
  rw [val_main_v39_apply, val_main_v38_apply, val_main_v29_1_apply, mask_at, ee_at hx, val_main_v37_apply, val_main_call5_v0_apply, val_main_call5_cst_apply, zero_word, select_true,
    sum_coe (fun d => hs x2 (i 0).val (i 1).val d * hs x1 (i 0).val (i 2).val d) (fun k => by rw [o_at hz, v_at hy, ← EReal.coe_mul]), Model.pr, Model.wt]
  show (if (i 2).val < (i 1).val then ((_ : ℝ) : EReal) else 0) * ((_ : ℝ) : EReal) = _
  split
  · rw [← EReal.coe_mul, mul_comm]; rfl
  · rw [zero_mul, zero_mul, EReal.coe_zero]

include hx hy hz in
theorem cum_at (i : S16x2048x2048.Idx) : val_main_v42 (F := Ideal) x0 x1 x2 i
    = ((Model.cum sc (qs x0 (i 0).val) (ks x0 (i 0).val) (hs x1 (i 0).val) (hs x2 (i 0).val) (i 1).val (i 2).val : ℝ) : EReal) := by
  have h2 : (i 2).val < 2048 := (i 2).isLt
  rw [val_main_v42_apply, val_main_v40_apply, pr_at hx hy hz, val_main_v41, window_at 2047 0 _ _ _ _
    (fun h t s => Model.pr sc (qs x0 h) (ks x0 h) (hs x1 h) (hs x2 h) t s) (pr_at hx hy hz)
    (fun i => by rw [val_main_call6_v0_apply, val_main_call6_cst_apply, zero_word]) i, sum_upto _ h2, Finset.sum_range_succ]
  show -((_ : ℝ) : EReal) + ((_ : ℝ) : EReal) = _
  rw [← EReal.coe_neg, ← EReal.coe_add, Model.cum]
  congr 1
  ring

include hx hy hz in
theorem dz_at (i : S16x2048x2048.Idx) : val_main_v49 (F := Ideal) x0 x1 x2 i
    = ((Model.dz sc (qs x0 (i 0).val) (ks x0 (i 0).val) (hs x1 (i 0).val) (hs x2 (i 0).val) (i 1).val (i 2).val : ℝ) : EReal) := by
  rw [val_main_v49_apply, val_main_v47_apply, val_main_v45_apply, val_main_v44_apply, val_main_call8_v1_apply, val_main_call8_v0_apply, val_main_v43_apply, val_main_v24_1_apply,
    mask_at, cum_at hx hy hz, sig_at hx, val_main_v46_apply, val_main_call9_v1_apply, val_main_call9_v0_apply, pr_at hx hy hz, co_sig_at hx, val_main_call7_v0_apply,
    val_main_call7_cst_apply, zero_word, select_true, val_main_v48_apply, val_main_cst_2_apply, Model.dz]
  show (-(-(-(if (i 2).val < (i 1).val then ((_ : ℝ) : EReal) else 0) * ((_ : ℝ) : EReal))) + -(-((_ : ℝ) : EReal) * ((_ : ℝ) : EReal))) * (Ideal.ofBits .f32 0x3DB504F3#32 : EReal) = _
  rw [sc_eq]
  split
  · simp only [← EReal.coe_neg, ← EReal.coe_mul, ← EReal.coe_add]
    congr 1
    unfold zz
    ring
  · next h =>
    rw [Model.pr, Model.wt_of_le sc _ _ (by omega), zero_mul]
    simp

/-! ## The three gradients -/

include hx hy hz in
theorem ref_q : val_main_v57 (F := Ideal) x0 x1 x2 = gQ x0 x1 x2 := by
  funext i
  have h0 : (i 0).val < 2048 := (i 0).isLt
  have h1 : (i 1).val < 2048 := (i 1).isLt
  rw [val_main_v57_apply, val_main_v56_apply, val_main_v51_apply]
  refine (sum_coe (fun s => Model.dz sc (qs x0 ((i 1).val / 128)) (ks x0 ((i 1).val / 128)) (hs x1 ((i 1).val / 128)) (hs x2 ((i 1).val / 128)) (i 0).val s * ks x0 ((i 1).val / 128) s ((i 1).val % 128)) fun k => ?_).trans rfl
  rw [dz_at hx hy hz, k_at hx, ← EReal.coe_mul]
  dsimp only
  rw [show ((i 0).val * 2048 + (i 1).val) / 128 % 16 = (i 1).val / 128 by omega, show ((i 0).val * 2048 + (i 1).val) / 2048 = (i 0).val by omega, show ((i 0).val * 2048 + (i 1).val) % 128 = (i 1).val % 128 by omega]

include hx hy hz in
theorem ref_k : val_main_v55 (F := Ideal) x0 x1 x2 = gK x0 x1 x2 := by
  funext i
  have h0 : (i 0).val < 2048 := (i 0).isLt
  have h1 : (i 1).val < 2048 := (i 1).isLt
  rw [val_main_v55_apply, val_main_v54_apply, val_main_v50_apply]
  refine (sum_coe (fun t => Model.dz sc (qs x0 ((i 1).val / 128)) (ks x0 ((i 1).val / 128)) (hs x1 ((i 1).val / 128)) (hs x2 ((i 1).val / 128)) t (i 0).val * qs x0 ((i 1).val / 128) t ((i 1).val % 128)) fun k => ?_).trans rfl
  rw [dz_at hx hy hz, q_at hx, ← EReal.coe_mul]
  dsimp only
  rw [show ((i 0).val * 2048 + (i 1).val) / 128 % 16 = (i 1).val / 128 by omega, show ((i 0).val * 2048 + (i 1).val) / 2048 = (i 0).val by omega, show ((i 0).val * 2048 + (i 1).val) % 128 = (i 1).val % 128 by omega]

include hx hz in
theorem ref_v : val_main_v53 (F := Ideal) x0 x2 = gV x0 x2 := by
  funext i
  have h0 : (i 0).val < 2048 := (i 0).isLt
  have h1 : (i 1).val < 2048 := (i 1).isLt
  rw [val_main_v53_apply, val_main_v52_apply, val_main_v36_apply, val_main_v35_apply]
  refine (sum_coe (fun t => Model.wt sc (qs x0 ((i 1).val / 128)) (ks x0 ((i 1).val / 128)) t (i 0).val * hs x2 ((i 1).val / 128) t ((i 1).val % 128)) fun k => ?_).trans rfl
  rw [wt_at hx, o_at hz, ← EReal.coe_mul, mul_comm]
  dsimp only
  rw [show ((i 0).val * 2048 + (i 1).val) / 128 % 16 = (i 1).val / 128 by omega, show ((i 0).val * 2048 + (i 1).val) / 2048 = (i 0).val by omega, show ((i 0).val * 2048 + (i 1).val) % 128 = (i 1).val % 128 by omega]

end Cert.ReferenceIdeal.Att

end
-- ==== Proof.MixModel.lean ====
module

public import Idealize.ShloMosaic.Lib.Pointwise
public import Idealize.ShloMosaic.Lib.ValueIdx
public import Idealize.ShloMosaic.Lib.IdealHost

/-! # The gated block's step in extended reals

Functions of natural indices: a row-normalised input, a projection to value and gate columns, a causal convolution of
three taps over the rows, the gate, the projection back with the residual sum, and the gradients of all of it. -/

@[expose] public section

noncomputable section

namespace Cert.Mix

open Idealize.ShloMosaic

/-- A matrix of extended reals, by row and column. -/
abbrev Mat := ℕ → ℕ → EReal

/-- The array holds the matrix. -/
def Is2 {n k : ℕ} (x : (⟨2, ![n, k]⟩ : Shape).Idx → EReal) (f : Mat) : Prop :=
  ∀ (r : Fin n) (c : Fin k), x (ix2 r c) = f r.val c.val
/-- The array holds the stack of matrices. -/
def Is3 {n k l : ℕ} (x : (⟨3, ![n, k, l]⟩ : Shape).Idx → EReal) (f : ℕ → Mat) : Prop :=
  ∀ (p : Fin n) (r : Fin k) (c : Fin l), x (ix3 p r c) = f p.val r.val c.val

/-- The number of columns, as the sum's divisor. -/
def wn : EReal := Ideal.ofBits FTy.f32 1157627904#32
/-- The number added to the mean of squares. -/
def we : EReal := Ideal.ofBits FTy.f32 897988541#32

/-- The normalised rows, scaled column by column. -/
def hb (x g : Mat) : Mat := fun t c =>
  x t c * Ideal.rsqrt (Ideal.div (∑ k : Fin 2048, x t k.val * x t k.val) wn + we) * g 0 c
/-- One piece of the projection. -/
def upP (h w : Mat) : Mat := fun t n => ∑ k : Fin 2048, h t k.val * w k.val n
/-- The projection to value and gate columns, its weights in pieces of 1408 columns. -/
def up (h : Mat) (w : ℕ → Mat) : Mat := fun t n => upP h (w (n / 1408)) t (n % 1408)
/-- The rows moved down by `k`. -/
def dn (k : ℕ) (u : Mat) : Mat := fun t n => if k ≤ t then u (t - k) n else 0
/-- The rows moved up by `k`. -/
def us (k : ℕ) (d : Mat) : Mat := fun t n => if t < 2048 - k then d (t + k) n else 0
/-- The convolution over the rows. -/
def cv (w b u : Mat) : Mat := fun t n => b 0 n + w 0 n * dn 2 u t n + w 1 n * dn 1 u t n + w 2 n * u t n
/-- The logistic function. -/
def sg (z : EReal) : EReal := Ideal.div 1 (1 + Ideal.exp (0 - z))
/-- The gated values. -/
def gv (v g : Mat) : Mat := fun t j => g t j * sg (g t j) * v t j
/-- The projection back, with the residual. -/
def xo (a w x : Mat) : Mat := fun t c => ∑ j : Fin 5632, a t j.val * w j.val c + x t c
/-- The gradient at the gated values. -/
def da (dx w : Mat) : Mat := fun t j => ∑ c : Fin 2048, dx t c.val * w j c.val
/-- The gradient of the weights of the projection back. -/
def dwd (a dx : Mat) : Mat := fun j c => ∑ t : Fin 2048, a t.val j * dx t.val c
/-- The gradient at the convolution's value columns. -/
def dv (d g : Mat) : Mat := fun t j => d t j * (g t j * sg (g t j))
/-- The gradient at the convolution's gate columns. -/
def dg (d v g : Mat) : Mat := fun t j => d t j * v t j * (sg (g t j) * (1 + g t j * (1 - sg (g t j))))
/-- The gradient at the projection, from the one at the convolution. -/
def du (w d : Mat) : Mat := fun t n => w 0 n * us 2 d t n + w 1 n * us 1 d t n + w 2 n * d t n
/-- The gradient of the convolution's weights. -/
def dcw (u d : Mat) : Mat := fun r n => ∑ t : Fin 2048, u t.val n * (if r < 1 then us 2 d t.val n else if r < 2 then us 1 d t.val n else d t.val n)
/-- The gradient of the convolution's bias. -/
def dcb (d : Mat) : Mat := fun _ n => ∑ t : Fin 2048, d t.val n
/-- One piece of the gradient of the projection's weights. -/
def dwuP (h d : Mat) : Mat := fun k n => ∑ t : Fin 2048, h t.val k * d t.val n

/-- Columns from `o` on. -/
def sh (o : ℕ) (f : Mat) : Mat := fun r c => f r (o + c)
/-- The gradient of the projection's weights: four pieces of value columns, then four of gate columns. -/
def dwu (h v g : Mat) : ℕ → Mat := fun p => if 4 ≤ p then dwuP h (sh (1408 * (p - 4)) g) else dwuP h (sh (1408 * p) v)
/-- Two matrices side by side, the left one of 5632 columns. -/
def cat (f g : Mat) : Mat := fun r c => if c < 5632 then f r c else g r (c - 5632)

end Cert.Mix

end
-- ==== Proof.MixTile.lean ====
module

public import proofs.«01_k».proof.Proof.Gen.Kernel2Ideal.Frame
public import proofs.«01_k».proof.Proof.MixModel
public import Idealize.ShloMosaic.Lib.Pipeline.ValueKit

/-! # What one grid point of each call leaves

Where the blocks read hold given matrices, the block written holds the matrix that `MixModel` names. -/

@[expose] public section

set_option maxRecDepth 16384

noncomputable section

namespace Cert.Kernel2Ideal.Mix

open Kernel2Ideal Kernel2Ideal.Gen Cert.Mix
open Idealize.ShloMosaic

/-! ## Comparisons of words -/

theorem toInt_word {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

theorem select_sge {a b : ℕ} (ha : a < 2 ^ 31) (hb : b < 2 ^ 31) (x y : EReal) :
    Scalar.select (IntOp.cmpi CmpIPredicate.sge (BitVec.ofNat 32 a) (BitVec.ofNat 32 b)) x y = if b ≤ a then x else y := by
  have e : IntOp.cmpi CmpIPredicate.sge (BitVec.ofNat 32 a) (BitVec.ofNat 32 b) = BitVec.ofBool (decide (b ≤ a)) := by
    show BitVec.ofBool ((BitVec.ofNat 32 b).sle (BitVec.ofNat 32 a)) = _
    rw [BitVec.sle_eq_decide, toInt_word ha, toInt_word hb]
    simp only [Nat.cast_le]
  rw [e]
  by_cases h : b ≤ a <;> simp [Scalar.select, h]

theorem select_slt {a b : ℕ} (ha : a < 2 ^ 31) (hb : b < 2 ^ 31) (x y : EReal) :
    Scalar.select (IntOp.cmpi CmpIPredicate.slt (BitVec.ofNat 32 a) (BitVec.ofNat 32 b)) x y = if a < b then x else y := by
  have e : IntOp.cmpi CmpIPredicate.slt (BitVec.ofNat 32 a) (BitVec.ofNat 32 b) = BitVec.ofBool (decide (a < b)) := by
    show BitVec.ofBool ((BitVec.ofNat 32 a).slt (BitVec.ofNat 32 b)) = _
    rw [BitVec.slt_eq_decide, toInt_word ha, toInt_word hb]
    simp only [Nat.cast_lt]
  rw [e]
  by_cases h : a < b <;> simp [Scalar.select, h]

/-! ## The products and the norm -/

theorem hb_tile {x : Vec Ideal S256x2048 .f32} {g : Vec Ideal S1x2048 .f32} {X G : Mat} (hx : Is2 x X) (hg : Is2 g G) :
    Is2 (out0_2 x g) (hb X G) := fun r c => by
  unfold out0_2
  rw [View.canon_cons_unit_lit _ _ _ (by decide)]; iterate 2 rw [View.ld_unit_lit _ _ (by decide)]
  pointwise [k0_pay1]
  simp only [hx _ _, hg _ _]
  rfl

theorem up_tile {h : Vec Ideal S512x2048 .bf16} {w : Vec Ideal S1x2048x1408 .bf16} {H : Mat} {W : ℕ → Mat} (hh : Is2 h H) (hw : Is3 w W) :
    Is2 (out1_2 h w) (upP H (W 0)) := fun r c => by
  unfold out1_2
  rw [View.canon_cons_unit_lit _ _ _ (by decide)]; iterate 2 rw [View.ld_unit_lit _ _ (by decide)]
  pointwise [k1_pay1]
  simp only [hh _ _, hw _ _ _]
  rfl

theorem xo_tile {a : Vec Ideal S1024x5632 .bf16} {w : Vec Ideal S5632x512 .bf16} {x : Vec Ideal S1024x512 .f32} {A W X : Mat}
    (ha : Is2 a A) (hw : Is2 w W) (hx : Is2 x X) : Is2 (out3_3 a w x) (xo A W X) := fun r c => by
  unfold out3_3
  rw [View.canon_cons_unit_lit _ _ _ (by decide)]; iterate 3 rw [View.ld_unit_lit _ _ (by decide)]
  pointwise [k3_pay1]
  simp only [ha _ _, hw _ _, hx _ _]
  rfl

theorem da_tile {x : Vec Ideal S512x2048 .bf16} {w : Vec Ideal S1408x2048 .bf16} {X W : Mat} (hx : Is2 x X) (hw : Is2 w W) :
    Is2 (out4_2 x w) (da X W) := fun r c => by
  unfold out4_2
  rw [View.canon_cons_unit_lit _ _ _ (by decide)]; iterate 2 rw [View.ld_unit_lit _ _ (by decide)]
  pointwise [k4_pay1]
  simp only [hx _ _, hw _ _]
  rfl

theorem dwd_tile {a : Vec Ideal S2048x512 .bf16} {x : Vec Ideal S2048x1024 .bf16} {A X : Mat} (ha : Is2 a A) (hx : Is2 x X) :
    Is2 (out5_2 a x) (dwd A X) := fun r c => by
  unfold out5_2
  rw [View.canon_cons_unit_lit _ _ _ (by decide)]; iterate 2 rw [View.ld_unit_lit _ _ (by decide)]
  pointwise [k5_pay1]
  simp only [ha _ _, hx _ _]
  rfl

theorem dwu_tile (i : grid7.Coords) {h : Vec Ideal S2048x512 .bf16} {v g : Vec Ideal S2048x1408 .bf16} {H Dv Dg : Mat} (hh : Is2 h H) (hv : Is2 v Dv)
    (hg : Is2 g Dg) : Is3 (out7_3 i h v g) (fun _ => dwuP H (if 4 ≤ (i 0).val then Dg else Dv)) := fun p r c => by
  have h0 : (i 0).val < 8 := (i 0).isLt
  have hp : p = 0 := Subsingleton.elim _ _
  subst hp
  unfold out7_3
  rw [View.canon_cons_unit_lit _ _ _ (by decide)]; iterate 3 rw [View.ld_unit_lit _ _ (by decide)]
  pointwise [k7_pay1]
  simp only [hh _ _, hv _ _, hg _ _]
  show ∑ k : Fin 2048, H k.val r.val * Scalar.select (IntOp.cmpi CmpIPredicate.sge (BitVec.ofNat 32 (i 0).val) (BitVec.ofNat 32 4)) (Dg k.val c.val) (Dv k.val c.val) = _
  simp only [select_sge (show (i 0).val < 2 ^ 31 by omega) (show 4 < 2 ^ 31 by omega)]
  show _ = dwuP H _ r.val c.val
  unfold dwuP
  split <;> rfl

/-! ## The convolution and the gate -/

theorem mul_dn {r k : ℕ} (hr : r < 2048) (hk : k < 2048) (a : EReal) (u : Mat) (c : ℕ) :
    Scalar.select (IntOp.cmpi CmpIPredicate.sge (BitVec.ofNat 32 r) (BitVec.ofNat 32 k)) (a * u ((r + 2048 - k) % 2048) c) 0 = a * dn k u r c := by
  rw [select_sge (by omega) (by omega), dn]
  split
  · rw [show (r + 2048 - k) % 2048 = r - k by omega]
  · rw [mul_zero]

theorem mul_us {r k l : ℕ} (hr : r < 2048) (hk : k + l = 2048) (hl : 0 < k) (a : EReal) (u : Mat) (c : ℕ) :
    Scalar.select (IntOp.cmpi CmpIPredicate.slt (BitVec.ofNat 32 r) (BitVec.ofNat 32 l)) (a * u ((r + 2048 - l) % 2048) c) 0 = a * us k u r c := by
  rw [select_slt (by omega) (by omega), us, show 2048 - k = l by omega]
  split
  · rw [show (r + 2048 - l) % 2048 = r + k by omega]
  · rw [mul_zero]

theorem cv_tile {u : Vec Ideal S2048x256 .f32} {w : Vec Ideal S3x256 .f32} {b : Vec Ideal S1x256 .f32} {U W B : Mat} (hu : Is2 u U) (hw : Is2 w W)
    (hb : Is2 b B) : Is2 (k6_pay8 u w b) (cv W B U) := fun r c => by
  have hr := r.isLt
  pointwise [k6_pay8, k6_pay6]
  simp only [hu _ _, hw _ _, hb _ _]
  rw [mul_dn hr (by omega), mul_dn hr (by omega)]
  rfl

theorem cvg_tile {u : Vec Ideal S2048x256 .f32} {w : Vec Ideal S3x256 .f32} {b : Vec Ideal S1x256 .f32} {U W B : Mat} (hu : Is2 u U) (hw : Is2 w W)
    (hb : Is2 b B) : Is2 (k6_pay12 (k6_pay7 u) w b (k6_pay9 w) k6_pay10 (k6_pay11 u) (0 : EReal)) (cv W B U) := fun r c => by
  have hr := r.isLt
  pointwise [k6_pay12, k6_pay11, k6_pay10, k6_pay9, k6_pay7]
  simp only [hu _ _, hw _ _, hb _ _]
  rw [mul_dn hr (by omega), mul_dn hr (by omega)]
  rfl

theorem sg_tile {z : Vec Ideal S2048x256 .f32} {Z : Mat} {v3 v37 : FVec Ideal S2048x256 .f32} {v31 : Vec Ideal S3x256 .f32} {v32 : Vec Ideal S1x256 .f32}
    {v33 : FVec Ideal S1x256 .f32} {v36 : IVec S2048x256 1} {c16 : Ideal .f32} (e : k6_pay12 v3 v31 v32 v33 v36 v37 c16 = z) (hz : Is2 z Z) :
    Is2 (k6_pay13 v3 v31 v32 v33 v36 v37 c16) (fun t j => sg (Z t j)) := fun r c => by
  unfold k6_pay13
  rw [e]
  pointwise []
  rw [hz]
  rfl

theorem gv_tile {uv ug : Vec Ideal S2048x256 .f32} {wv wg : Vec Ideal S3x256 .f32} {bv bg : Vec Ideal S1x256 .f32} {Uv Ug Wv Wg Bv Bg : Mat}
    (huv : Is2 uv Uv) (hug : Is2 ug Ug) (hwv : Is2 wv Wv) (hwg : Is2 wg Wg) (hbv : Is2 bv Bv) (hbg : Is2 bg Bg) :
    Is2 (out2_6 uv ug wv wg bv bg) (gv (cv Wv Bv Uv) (cv Wg Bg Ug)) := fun r c => by
  have hr := r.isLt
  unfold out2_6
  rw [View.canon_cons_unit_lit _ _ _ (by decide), View.ld_unit_lit _ _ (by decide), View.ld_unit_lit _ _ (by decide), View.ld_unit_lit _ _ (by decide),
    View.ld_unit_lit _ _ (by decide)]; iterate 2 rw [View.ld_unit_lit _ _ (by decide)]
  pointwise [k2_pay1, k2_pay2, k2_pay3, k2_pay4, k2_pay5, k2_pay6]
  simp only [huv _ _, hug _ _, hwv _ _, hwg _ _, hbv _ _, hbg _ _]
  rw [mul_dn hr (by omega), mul_dn hr (by omega), mul_dn hr (by omega), mul_dn hr (by omega)]
  rfl

theorem dv_tile {uv ug d : Vec Ideal S2048x256 .f32} {wv wg : Vec Ideal S3x256 .f32} {bv bg : Vec Ideal S1x256 .f32} {Ug D Wg Bg : Mat}
    (hug : Is2 ug Ug) (hd : Is2 d D) (hwg : Is2 wg Wg) (hbg : Is2 bg Bg) :
    Is2 (k6_pay31 uv ug d wv wg bv bg) (dv D (cv Wg Bg Ug)) := fun r c => by
  unfold k6_pay31 k6_pay30 k6_pay29 k6_pay28 k6_pay27
  iterate 4 rw [View.ld_unit_lit _ _ (by decide)]
  unfold k6_pay15 k6_pay14
  pointwise []
  rw [cvg_tile hug hwg hbg, sg_tile rfl (cvg_tile hug hwg hbg), hd]
  rfl

theorem dg_tile {uv ug d : Vec Ideal S2048x256 .f32} {wv wg : Vec Ideal S3x256 .f32} {bv bg : Vec Ideal S1x256 .f32} {Uv Ug D Wv Wg Bv Bg : Mat}
    (huv : Is2 uv Uv) (hug : Is2 ug Ug) (hd : Is2 d D) (hwv : Is2 wv Wv) (hwg : Is2 wg Wg) (hbv : Is2 bv Bv) (hbg : Is2 bg Bg) :
    Is2 (k6_pay32 uv ug d wv wg bv bg) (dg D (cv Wv Bv Uv) (cv Wg Bg Ug)) := fun r c => by
  unfold k6_pay32 k6_pay30 k6_pay29 k6_pay28 k6_pay27
  rw [View.ld_unit_lit _ _ (by decide), View.ld_unit_lit _ _ (by decide), View.ld_unit_lit _ _ (by decide), View.ld_unit_lit _ _ (by decide),
    View.ld_unit_lit _ _ (by decide)]; iterate 2 rw [View.ld_unit_lit _ _ (by decide)]
  unfold k6_pay16 k6_pay14
  pointwise []
  rw [cv_tile huv hwv hbv, cvg_tile hug hwg hbg, sg_tile rfl (cvg_tile hug hwg hbg), hd]
  rfl

theorem us_one {d : Vec Ideal S2048x256 .f32} {D : Mat} (hd : Is2 d D) : Is2 (k6_pay21 (F := Ideal) d) (us 1 D) := fun r c => by
  have hr := r.isLt
  have := mul_us (k := 1) (l := 2047) hr rfl (by omega) 1 D c.val
  simp only [one_mul] at this
  pointwise [k6_pay21]
  rw [hd]
  exact this

theorem us_one' {d : Vec Ideal S2048x256 .f32} {D : Mat} (hd : Is2 d D) : Is2 (k6_pay2 (F := Ideal) d) (us 1 D) := fun r c => by
  have hr := r.isLt
  have := mul_us (k := 1) (l := 2047) hr rfl (by omega) 1 D c.val
  simp only [one_mul] at this
  pointwise [k6_pay2]
  rw [hd]
  exact this

theorem us_two {uv ug d : Vec Ideal S2048x256 .f32} {wv wg : Vec Ideal S3x256 .f32} {bv bg : Vec Ideal S1x256 .f32} {D : Mat}
    (hd : Is2 (k6_pay31 uv ug d wv wg bv bg) D) :
    Is2 (k6_pay20 (F := Ideal) (k6_pay33 uv ug d wv wg bv bg) (k6_pay34 uv ug d wv wg bv bg) (k6_pay35 uv ug d wv wg bv bg)) (us 2 D) := fun r c => by
  have hr := r.isLt
  have := mul_us (k := 2) (l := 2046) hr rfl (by omega) 1 D c.val
  simp only [one_mul] at this
  have e : k6_pay34 uv ug d wv wg bv bg = dynamicRotate 0 2046#32 none (k6_pay31 uv ug d wv wg bv bg) rotates_S2048x256_d0 := by
    unfold k6_pay34 k6_pay31 k6_pay18
    rfl
  rw [e]
  unfold k6_pay33 k6_pay35 k6_pay20 k6_pay17 k6_pay19
  pointwise []
  rw [hd]
  exact this

theorem us_two' {uv ug d : Vec Ideal S2048x256 .f32} {wv wg : Vec Ideal S3x256 .f32} {bv bg : Vec Ideal S1x256 .f32} {D : Mat}
    (hd : Is2 (k6_pay32 uv ug d wv wg bv bg) D) :
    Is2 (k6_pay1 (F := Ideal) (k6_pay36 uv ug d wv wg bv bg) (k6_pay37 uv ug d wv wg bv bg) (0 : EReal)) (us 2 D) := fun r c => by
  have hr := r.isLt
  have := mul_us (k := 2) (l := 2046) hr rfl (by omega) 1 D c.val
  simp only [one_mul] at this
  unfold k6_pay36 k6_pay37 k6_pay1 k6_pay25 k6_pay26
  pointwise []
  rw [hd]
  exact this

section
variable {uv ug d : Vec Ideal S2048x256 .f32} {wv wg : Vec Ideal S3x256 .f32} {bv bg : Vec Ideal S1x256 .f32} {Uv Ug D Wv Wg Bv Bg : Mat}
  (huv : Is2 uv Uv) (hug : Is2 ug Ug) (hd : Is2 d D) (hwv : Is2 wv Wv) (hwg : Is2 wg Wg) (hbv : Is2 bv Bv) (hbg : Is2 bg Bg)

include hug hd hwv hwg hbg in
theorem duv_tile : Is2 (out6_7 uv ug d wv wg bv bg) (du Wv (dv D (cv Wg Bg Ug))) := fun r c => by
  have h := dv_tile (uv := uv) (wv := wv) (bv := bv) hug hd hwg hbg
  unfold out6_7
  rw [View.canon_cons_unit_lit _ _ _ (by decide), View.ld_unit_lit _ _ (by decide)]
  unfold k6_pay24
  pointwise []
  rw [us_two h, us_one h, h]
  simp only [hwv _ _]
  rfl

include huv hug hd hwv hwg hbv hbg in
theorem dug_tile : Is2 (out6_8 uv ug d wv wg bv bg) (du Wg (dg D (cv Wv Bv Uv) (cv Wg Bg Ug))) := fun r c => by
  have h := dg_tile huv hug hd hwv hwg hbv hbg
  unfold out6_8
  rw [View.canon_cons_unit_lit _ _ _ (by decide), View.ld_unit_lit _ _ (by decide)]
  unfold k6_pay5
  pointwise []
  rw [us_two' h, us_one' h, h]
  simp only [hwg _ _]
  rfl

include huv hug hd hwg hbg in
theorem dwv_tile : Is2 (out6_9 uv ug d wv wg bv bg) (dcw Uv (dv D (cv Wg Bg Ug))) := fun r c => by
  have h := dv_tile (uv := uv) (wv := wv) (bv := bv) hug hd hwg hbg
  unfold out6_9
  rw [View.canon_cons_unit_lit _ _ _ (by decide), View.ld_unit_lit _ _ (by decide)]
  unfold k6_pay22 k6_pay6
  pointwise []
  simp only [us_two h _ _, us_one h _ _, h _ _, huv _ _]
  unfold dcw
  split_ifs <;> first | rfl | omega

include huv hug hd hwv hwg hbv hbg in
theorem dwg_tile : Is2 (out6_10 uv ug d wv wg bv bg) (dcw Ug (dg D (cv Wv Bv Uv) (cv Wg Bg Ug))) := fun r c => by
  have h := dg_tile huv hug hd hwv hwg hbv hbg
  unfold out6_10
  rw [View.canon_cons_unit_lit _ _ _ (by decide)]
  unfold k6_pay3 k6_pay27 k6_pay7
  rw [View.ld_unit_lit _ _ (by decide)]
  pointwise []
  simp only [us_two' h _ _, us_one' h _ _, h _ _, hug _ _]
  unfold dcw
  split_ifs <;> first | rfl | omega

include hug hd hwg hbg in
theorem dbv_tile : Is2 (out6_11 uv ug d wv wg bv bg) (dcb (dv D (cv Wg Bg Ug))) := fun r c => by
  have h := dv_tile (uv := uv) (wv := wv) (bv := bv) hug hd hwg hbg
  unfold out6_11
  rw [View.canon_cons_unit_lit _ _ _ (by decide)]
  unfold k6_pay23
  pointwise []
  simp only [h _ _]
  rfl

include huv hug hd hwv hwg hbv hbg in
theorem dbg_tile : Is2 (out6_12 uv ug d wv wg bv bg) (dcb (dg D (cv Wv Bv Uv) (cv Wg Bg Ug))) := fun r c => by
  have h := dg_tile huv hug hd hwv hwg hbv hbg
  unfold out6_12
  rw [View.canon_cons_unit_lit _ _ _ (by decide)]
  unfold k6_pay4
  pointwise []
  simp only [h _ _]
  rfl
end

end Cert.Kernel2Ideal.Mix
end
-- ==== Proof.MixRegions.lean ====
module

public import proofs.«01_k».proof.Proof.MixTile

/-! # The array that each call leaves

Each call is read from the contents of the buffers when it starts: where its inputs hold given matrices, its outputs hold
the matrices that `MixModel` names. -/

@[expose] public section

set_option maxRecDepth 16384

noncomputable section

namespace Cert.Kernel2Ideal.Mix

open Kernel2Ideal Kernel2Ideal.Gen Cert.Mix
open Idealize.ShloMosaic TcCoe

/-! ## Blocks of a matrix -/

theorem ix2_eta {n k : ℕ} (i : (⟨2, ![n, k]⟩ : Shape).Idx) : i = ix2 (⟨(i 0).val, (i 0).isLt⟩ : Fin n) (⟨(i 1).val, (i 1).isLt⟩ : Fin k) := by
  funext x
  match x with
  | ⟨0, _⟩ => rfl
  | ⟨1, _⟩ => rfl
theorem ix3_eta {n k l : ℕ} (i : (⟨3, ![n, k, l]⟩ : Shape).Idx) :
    i = ix3 (⟨(i 0).val, (i 0).isLt⟩ : Fin n) (⟨(i 1).val, (i 1).isLt⟩ : Fin k) (⟨(i 2).val, (i 2).isLt⟩ : Fin l) := by
  funext x
  match x with
  | ⟨0, _⟩ => rfl
  | ⟨1, _⟩ => rfl
  | ⟨2, _⟩ => rfl

/-- The array of a matrix. -/
def arr2 (N K : ℕ) (f : Mat) : (⟨2, ![N, K]⟩ : Shape).Idx → EReal := fun i => f (i 0).val (i 1).val
/-- The array of a stack of matrices. -/
def arr3 (N K L : ℕ) (f : ℕ → Mat) : (⟨3, ![N, K, L]⟩ : Shape).Idx → EReal := fun i => f (i 0).val (i 1).val (i 2).val

theorem is2_block {N K n k : ℕ} {A : (⟨2, ![N, K]⟩ : Shape).Idx → EReal} {f g : Mat} (hA : Is2 A f)
    (e : (⟨2, ![n, k]⟩ : Shape).Idx → (⟨2, ![N, K]⟩ : Shape).Idx)
    (h : ∀ (r : Fin n) (c : Fin k), f (e (ix2 r c) 0).val (e (ix2 r c) 1).val = g r.val c.val) : Is2 (fun j => A (e j)) g := fun r c => by
  show A (e (ix2 r c)) = _
  rw [ix2_eta (e (ix2 r c)), hA]
  exact h r c
theorem is3_block {N K L n k l : ℕ} {A : (⟨3, ![N, K, L]⟩ : Shape).Idx → EReal} {f g : ℕ → Mat} (hA : Is3 A f)
    (e : (⟨3, ![n, k, l]⟩ : Shape).Idx → (⟨3, ![N, K, L]⟩ : Shape).Idx)
    (h : ∀ (p : Fin n) (r : Fin k) (c : Fin l), f (e (ix3 p r c) 0).val (e (ix3 p r c) 1).val (e (ix3 p r c) 2).val = g p.val r.val c.val) :
    Is3 (fun j => A (e j)) g := fun p r c => by
  show A (e (ix3 p r c)) = _
  rw [ix3_eta (e (ix3 p r c)), hA]
  exact h p r c
theorem eq_block {N K n k : ℕ} {B : (⟨2, ![n, k]⟩ : Shape).Idx → EReal} {f g : Mat} (hB : Is2 B g)
    (e : (⟨2, ![n, k]⟩ : Shape).Idx → (⟨2, ![N, K]⟩ : Shape).Idx)
    (h : ∀ (r : Fin n) (c : Fin k), f (e (ix2 r c) 0).val (e (ix2 r c) 1).val = g r.val c.val) : B = fun j => arr2 N K f (e j) := by
  funext j
  rw [ix2_eta j, hB, ← h]
  rfl
theorem eq_block3 {N K L n k l : ℕ} {B : (⟨3, ![n, k, l]⟩ : Shape).Idx → EReal} {f g : ℕ → Mat} (hB : Is3 B g)
    (e : (⟨3, ![n, k, l]⟩ : Shape).Idx → (⟨3, ![N, K, L]⟩ : Shape).Idx)
    (h : ∀ (p : Fin n) (r : Fin k) (c : Fin l), f (e (ix3 p r c) 0).val (e (ix3 p r c) 1).val (e (ix3 p r c) 2).val = g p.val r.val c.val) :
    B = fun j => arr3 N K L f (e j) := by
  funext j
  rw [ix3_eta j, hB, ← h]
  rfl
theorem is2_arr2 (N K : ℕ) (f : Mat) : Is2 (arr2 N K f) f := fun _ _ => rfl
theorem is3_arr3 (N K L : ℕ) (f : ℕ → Mat) : Is3 (arr3 N K L f) f := fun _ _ _ => rfl

variable (V : (c : Dev nD) → (b : Ref sig .tc) → Buf (Elt Ideal) ((c : Thread nD τ).loc b)) (c : Dev nD)

/-! ## The norm -/

theorem in0_0 {X : Mat} (h : Is2 (n := 2048) (k := 2048) (V c main_arg0) X) (t : Fin cfg0.N) :
    Is2 (n := 256) (k := 2048) (iblk0 V c 0 t) (fun r j => X (256 * t.val + r) j) := by
  have hi : ∀ t : Fin grid0.N, win0_0.index t 0 = t.val ∧ win0_0.index t 1 = 0 := by decide +kernel
  refine is2_block h (win0_0.blk t).view.emb fun r j => congrArg₂ X ?_ ?_
  all_goals blk_simp; simp only [hi t] <;> omega

theorem in0_1 {X : Mat} (h : Is2 (n := 1) (k := 2048) (V c main_arg1) X) (t : Fin cfg0.N) : Is2 (n := 1) (k := 2048) (iblk0 V c 1 t) X := by
  have hi : ∀ t : Fin grid0.N, win0_1.index t 0 = 0 ∧ win0_1.index t 1 = 0 := by decide +kernel
  refine is2_block h (win0_1.blk t).view.emb fun r j => congrArg₂ X ?_ ?_
  all_goals blk_simp; simp only [hi t] <;> omega

theorem hb_arr {X G : Mat} (hx : Is2 (n := 2048) (k := 2048) (V c main_arg0) X) (hg : Is2 (n := 1) (k := 2048) (V c main_arg1) G) :
    (dat0 V c).arrAt 2 cfg0.N = arr2 2048 2048 (hb X G) := by
  have hi : ∀ t : Fin grid0.N, win0_2.index t 0 = t.val ∧ win0_2.index t 1 = 0 := by decide +kernel
  refine (dat0 V c).arrAt_eq_of_cover 2 (arr2 2048 2048 (hb X G)) (fun t _ => ?_) fun i => ?_
  · refine Eq.trans (show (dat0 V c).flushed 2 t = out0_2 (iblk0 V c 0 t) (iblk0 V c 1 t) from after0_2 V c t)
      (eq_block (hb_tile (in0_0 V c hx t) (in0_1 V c hg t)) (win0_2.blk t).view.emb fun r j => congrArg₂ (hb X G) ?_ ?_)
    all_goals blk_simp; simp only [hi t] <;> omega
  · have h0 : (i 0).val < 2048 := (i 0).isLt
    have h1 : (i 1).val < 2048 := (i 1).isLt
    have hN : cfg0.N = 8 := N_0
    have hp : (i 0).val / 256 < cfg0.N := by omega
    refine ⟨⟨(i 0).val / 256, hp⟩, flush0_2 _, ?_⟩
    have h := hi ⟨(i 0).val / 256, hp⟩
    dsimp only at h
    mem_blk
    rw [h.1, h.2]
    omega

/-! ## The projection -/

theorem in1_0 {F : Mat} (h : Is2 (n := 2048) (k := 2048) (V c main_v0) F) (t : Fin cfg1.N) :
    Is2 (n := 512) (k := 2048) (iblk1 V c 0 t) (fun r j => F (512 * (t.val / 8) + r) j) := by
  have hi : ∀ t : Fin grid1.N, win1_0.index t 0 = t.val / 8 ∧ win1_0.index t 1 = 0 := by decide +kernel
  refine is2_block h (win1_0.blk t).view.emb fun r j => congrArg₂ F ?_ ?_
  all_goals blk_simp; simp only [hi t] <;> omega

theorem in1_1 {F : ℕ → Mat} (h : Is3 (n := 8) (k := 2048) (l := 1408) (V c main_arg2) F) (t : Fin cfg1.N) :
    Is3 (n := 1) (k := 2048) (l := 1408) (iblk1 V c 1 t) (fun p => F (t.val % 8 + p)) := by
  have hi : ∀ t : Fin grid1.N, win1_1.index t 0 = t.val % 8 ∧ win1_1.index t 1 = 0 ∧ win1_1.index t 2 = 0 := by decide +kernel
  refine is3_block h (win1_1.blk t).view.emb fun p r j => congr (congrArg₂ F ?_ ?_) ?_
  all_goals blk_simp; simp only [hi t] <;> omega

theorem up_arr {H : Mat} {W : ℕ → Mat} (hh : Is2 (n := 2048) (k := 2048) (V c main_v0) H) (hw : Is3 (n := 8) (k := 2048) (l := 1408) (V c main_arg2) W) :
    (dat1 V c).arrAt 2 cfg1.N = arr2 2048 11264 (up H W) := by
  have hi : ∀ t : Fin grid1.N, win1_2.index t 0 = t.val / 8 ∧ win1_2.index t 1 = t.val % 8 := by decide +kernel
  refine (dat1 V c).arrAt_eq_of_cover 2 (arr2 2048 11264 (up H W)) (fun t _ => ?_) fun i => ?_
  · refine Eq.trans (show (dat1 V c).flushed 2 t = out1_2 (iblk1 V c 0 t) (iblk1 V c 1 t) from after1_2 V c t)
      (eq_block (f := up H W) (up_tile (in1_0 V c hh t) (in1_1 V c hw t)) (win1_2.blk t).view.emb fun r j => ?_)
    have h0 : ((win1_2.blk t).view.emb (ix2 r j) 0).val = 512 * (t.val / 8) + r.val := by blk_simp; rw [(hi t).1] <;> omega
    have h1 : ((win1_2.blk t).view.emb (ix2 r j) 1).val = 1408 * (t.val % 8) + j.val := by blk_simp; rw [(hi t).2] <;> omega
    rw [h0, h1]
    show upP H (W ((1408 * (t.val % 8) + j.val) / 1408)) _ ((1408 * (t.val % 8) + j.val) % 1408) = upP H (W (t.val % 8 + 0)) _ j.val
    rw [show (1408 * (t.val % 8) + j.val) / 1408 = t.val % 8 + 0 by omega, show (1408 * (t.val % 8) + j.val) % 1408 = j.val by omega]
  · have h0 : (i 0).val < 2048 := (i 0).isLt
    have h1 : (i 1).val < 11264 := (i 1).isLt
    have hN : cfg1.N = 32 := N_1
    have hp : 8 * ((i 0).val / 512) + (i 1).val / 1408 < cfg1.N := by omega
    refine ⟨⟨8 * ((i 0).val / 512) + (i 1).val / 1408, hp⟩, flush1_2 _, ?_⟩
    have h := hi ⟨8 * ((i 0).val / 512) + (i 1).val / 1408, hp⟩
    dsimp only at h
    mem_blk
    rw [h.1, h.2]
    omega

/-! ## The convolution and the gate -/

theorem in2_0 {F : Mat} (h : Is2 (n := 2048) (k := 11264) (V c main_v1) F) (t : Fin cfg2.N) :
    Is2 (n := 2048) (k := 256) (iblk2 V c 0 t) (fun r j => F r (256 * t.val + j)) := by
  have hi : ∀ t : Fin grid2.N, win2_0.index t 0 = 0 ∧ win2_0.index t 1 = t.val := by decide +kernel
  refine is2_block h (win2_0.blk t).view.emb fun r j => congrArg₂ F ?_ ?_
  all_goals blk_simp; simp only [hi t] <;> omega

theorem in2_1 {F : Mat} (h : Is2 (n := 2048) (k := 11264) (V c main_v1) F) (t : Fin cfg2.N) :
    Is2 (n := 2048) (k := 256) (iblk2 V c 1 t) (fun r j => sh 5632 F r (256 * t.val + j)) := by
  have hi : ∀ t : Fin grid2.N, win2_1.index t 0 = 0 ∧ win2_1.index t 1 = t.val + 22 := by decide +kernel
  refine is2_block h (win2_1.blk t).view.emb fun r j => congrArg₂ F ?_ ?_
  all_goals blk_simp; simp only [hi t] <;> omega

theorem in2_2 {F : Mat} (h : Is2 (n := 3) (k := 11264) (V c main_arg4) F) (t : Fin cfg2.N) :
    Is2 (n := 3) (k := 256) (iblk2 V c 2 t) (fun r j => F r (256 * t.val + j)) := by
  have hi : ∀ t : Fin grid2.N, win2_2.index t 0 = 0 ∧ win2_2.index t 1 = t.val := by decide +kernel
  refine is2_block h (win2_2.blk t).view.emb fun r j => congrArg₂ F ?_ ?_
  all_goals blk_simp; simp only [hi t] <;> omega

theorem in2_3 {F : Mat} (h : Is2 (n := 3) (k := 11264) (V c main_arg4) F) (t : Fin cfg2.N) :
    Is2 (n := 3) (k := 256) (iblk2 V c 3 t) (fun r j => sh 5632 F r (256 * t.val + j)) := by
  have hi : ∀ t : Fin grid2.N, win2_3.index t 0 = 0 ∧ win2_3.index t 1 = t.val + 22 := by decide +kernel
  refine is2_block h (win2_3.blk t).view.emb fun r j => congrArg₂ F ?_ ?_
  all_goals blk_simp; simp only [hi t] <;> omega

theorem in2_4 {F : Mat} (h : Is2 (n := 1) (k := 11264) (V c main_arg5) F) (t : Fin cfg2.N) :
    Is2 (n := 1) (k := 256) (iblk2 V c 4 t) (fun r j => F r (256 * t.val + j)) := by
  have hi : ∀ t : Fin grid2.N, win2_4.index t 0 = 0 ∧ win2_4.index t 1 = t.val := by decide +kernel
  refine is2_block h (win2_4.blk t).view.emb fun r j => congrArg₂ F ?_ ?_
  all_goals blk_simp; simp only [hi t] <;> omega

theorem in2_5 {F : Mat} (h : Is2 (n := 1) (k := 11264) (V c main_arg5) F) (t : Fin cfg2.N) :
    Is2 (n := 1) (k := 256) (iblk2 V c 5 t) (fun r j => sh 5632 F r (256 * t.val + j)) := by
  have hi : ∀ t : Fin grid2.N, win2_5.index t 0 = 0 ∧ win2_5.index t 1 = t.val + 22 := by decide +kernel
  refine is2_block h (win2_5.blk t).view.emb fun r j => congrArg₂ F ?_ ?_
  all_goals blk_simp; simp only [hi t] <;> omega

theorem gv_arr {U W B : Mat} (hu : Is2 (n := 2048) (k := 11264) (V c main_v1) U) (hw : Is2 (n := 3) (k := 11264) (V c main_arg4) W)
    (hb : Is2 (n := 1) (k := 11264) (V c main_arg5) B) :
    (dat2 V c).arrAt 6 cfg2.N = arr2 2048 5632 (gv (cv W B U) (cv (sh 5632 W) (sh 5632 B) (sh 5632 U))) := by
  have hi : ∀ t : Fin grid2.N, win2_6.index t 0 = 0 ∧ win2_6.index t 1 = t.val := by decide +kernel
  refine (dat2 V c).arrAt_eq_of_cover 6 (arr2 2048 5632 (gv (cv W B U) (cv (sh 5632 W) (sh 5632 B) (sh 5632 U)))) (fun t _ => ?_) fun i => ?_
  · refine Eq.trans (show (dat2 V c).flushed 6 t = out2_6 (iblk2 V c 0 t) (iblk2 V c 1 t) (iblk2 V c 2 t) (iblk2 V c 3 t) (iblk2 V c 4 t) (iblk2 V c 5 t) from after2_6 V c t)
      (eq_block (gv_tile (in2_0 V c hu t) (in2_1 V c hu t) (in2_2 V c hw t) (in2_3 V c hw t) (in2_4 V c hb t) (in2_5 V c hb t)) (win2_6.blk t).view.emb fun r j => congrArg₂ (gv (cv W B U) (cv (sh 5632 W) (sh 5632 B) (sh 5632 U))) ?_ ?_)
    all_goals blk_simp; simp only [hi t] <;> omega
  · have h0 : (i 0).val < 2048 := (i 0).isLt
    have h1 : (i 1).val < 5632 := (i 1).isLt
    have hN : cfg2.N = 22 := N_2
    have hp : (i 1).val / 256 < cfg2.N := by omega
    refine ⟨⟨(i 1).val / 256, hp⟩, flush2_6 _, ?_⟩
    have h := hi ⟨(i 1).val / 256, hp⟩
    dsimp only at h
    mem_blk
    rw [h.1, h.2]
    omega

/-! ## The products around the gated values -/

theorem in3_0 {F : Mat} (h : Is2 (n := 2048) (k := 5632) (V c main_v2) F) (t : Fin cfg3.N) :
    Is2 (n := 1024) (k := 5632) (iblk3 V c 0 t) (fun r j => F (1024 * (t.val / 4) + r) j) := by
  have hi : ∀ t : Fin grid3.N, win3_0.index t 0 = t.val / 4 ∧ win3_0.index t 1 = 0 := by decide +kernel
  refine is2_block h (win3_0.blk t).view.emb fun r j => congrArg₂ F ?_ ?_
  all_goals blk_simp; simp only [hi t] <;> omega

theorem in3_1 {F : Mat} (h : Is2 (n := 5632) (k := 2048) (V c main_arg3) F) (t : Fin cfg3.N) :
    Is2 (n := 5632) (k := 512) (iblk3 V c 1 t) (fun r j => F r (512 * (t.val % 4) + j)) := by
  have hi : ∀ t : Fin grid3.N, win3_1.index t 0 = 0 ∧ win3_1.index t 1 = t.val % 4 := by decide +kernel
  refine is2_block h (win3_1.blk t).view.emb fun r j => congrArg₂ F ?_ ?_
  all_goals blk_simp; simp only [hi t] <;> omega

theorem in3_2 {F : Mat} (h : Is2 (n := 2048) (k := 2048) (V c main_arg0) F) (t : Fin cfg3.N) :
    Is2 (n := 1024) (k := 512) (iblk3 V c 2 t) (fun r j => F (1024 * (t.val / 4) + r) (512 * (t.val % 4) + j)) := by
  have hi : ∀ t : Fin grid3.N, win3_2.index t 0 = t.val / 4 ∧ win3_2.index t 1 = t.val % 4 := by decide +kernel
  refine is2_block h (win3_2.blk t).view.emb fun r j => congrArg₂ F ?_ ?_
  all_goals blk_simp; simp only [hi t] <;> omega

theorem xo_arr {A W X : Mat} (ha : Is2 (n := 2048) (k := 5632) (V c main_v2) A) (hw : Is2 (n := 5632) (k := 2048) (V c main_arg3) W)
    (hx : Is2 (n := 2048) (k := 2048) (V c main_arg0) X) :
    (dat3 V c).arrAt 3 cfg3.N = arr2 2048 2048 (xo A W X) := by
  have hi : ∀ t : Fin grid3.N, win3_3.index t 0 = t.val / 4 ∧ win3_3.index t 1 = t.val % 4 := by decide +kernel
  refine (dat3 V c).arrAt_eq_of_cover 3 (arr2 2048 2048 (xo A W X)) (fun t _ => ?_) fun i => ?_
  · refine Eq.trans (show (dat3 V c).flushed 3 t = out3_3 (iblk3 V c 0 t) (iblk3 V c 1 t) (iblk3 V c 2 t) from after3_3 V c t)
      (eq_block (xo_tile (in3_0 V c ha t) (in3_1 V c hw t) (in3_2 V c hx t)) (win3_3.blk t).view.emb fun r j => congrArg₂ (xo A W X) ?_ ?_)
    all_goals blk_simp; simp only [hi t] <;> omega
  · have h0 : (i 0).val < 2048 := (i 0).isLt
    have h1 : (i 1).val < 2048 := (i 1).isLt
    have hN : cfg3.N = 8 := N_3
    have hp : 4 * ((i 0).val / 1024) + (i 1).val / 512 < cfg3.N := by omega
    refine ⟨⟨4 * ((i 0).val / 1024) + (i 1).val / 512, hp⟩, flush3_3 _, ?_⟩
    have h := hi ⟨4 * ((i 0).val / 1024) + (i 1).val / 512, hp⟩
    dsimp only at h
    mem_blk
    rw [h.1, h.2]
    omega

theorem in4_0 {F : Mat} (h : Is2 (n := 2048) (k := 2048) (V c main_v4) F) (t : Fin cfg4.N) :
    Is2 (n := 512) (k := 2048) (iblk4 V c 0 t) (fun r j => F (512 * (t.val / 4) + r) j) := by
  have hi : ∀ t : Fin grid4.N, win4_0.index t 0 = t.val / 4 ∧ win4_0.index t 1 = 0 := by decide +kernel
  refine is2_block h (win4_0.blk t).view.emb fun r j => congrArg₂ F ?_ ?_
  all_goals blk_simp; simp only [hi t] <;> omega

theorem in4_1 {F : Mat} (h : Is2 (n := 5632) (k := 2048) (V c main_arg3) F) (t : Fin cfg4.N) :
    Is2 (n := 1408) (k := 2048) (iblk4 V c 1 t) (fun r j => F (1408 * (t.val % 4) + r) j) := by
  have hi : ∀ t : Fin grid4.N, win4_1.index t 0 = t.val % 4 ∧ win4_1.index t 1 = 0 := by decide +kernel
  refine is2_block h (win4_1.blk t).view.emb fun r j => congrArg₂ F ?_ ?_
  all_goals blk_simp; simp only [hi t] <;> omega

theorem da_arr {X W : Mat} (hx : Is2 (n := 2048) (k := 2048) (V c main_v4) X) (hw : Is2 (n := 5632) (k := 2048) (V c main_arg3) W) :
    (dat4 V c).arrAt 2 cfg4.N = arr2 2048 5632 (da X W) := by
  have hi : ∀ t : Fin grid4.N, win4_2.index t 0 = t.val / 4 ∧ win4_2.index t 1 = t.val % 4 := by decide +kernel
  refine (dat4 V c).arrAt_eq_of_cover 2 (arr2 2048 5632 (da X W)) (fun t _ => ?_) fun i => ?_
  · refine Eq.trans (show (dat4 V c).flushed 2 t = out4_2 (iblk4 V c 0 t) (iblk4 V c 1 t) from after4_2 V c t)
      (eq_block (da_tile (in4_0 V c hx t) (in4_1 V c hw t)) (win4_2.blk t).view.emb fun r j => congrArg₂ (da X W) ?_ ?_)
    all_goals blk_simp; simp only [hi t] <;> omega
  · have h0 : (i 0).val < 2048 := (i 0).isLt
    have h1 : (i 1).val < 5632 := (i 1).isLt
    have hN : cfg4.N = 16 := N_4
    have hp : 4 * ((i 0).val / 512) + (i 1).val / 1408 < cfg4.N := by omega
    refine ⟨⟨4 * ((i 0).val / 512) + (i 1).val / 1408, hp⟩, flush4_2 _, ?_⟩
    have h := hi ⟨4 * ((i 0).val / 512) + (i 1).val / 1408, hp⟩
    dsimp only at h
    mem_blk
    rw [h.1, h.2]
    omega

theorem in5_0 {F : Mat} (h : Is2 (n := 2048) (k := 5632) (V c main_v2) F) (t : Fin cfg5.N) :
    Is2 (n := 2048) (k := 512) (iblk5 V c 0 t) (fun r j => F r (512 * (t.val / 2) + j)) := by
  have hi : ∀ t : Fin grid5.N, win5_0.index t 0 = 0 ∧ win5_0.index t 1 = t.val / 2 := by decide +kernel
  refine is2_block h (win5_0.blk t).view.emb fun r j => congrArg₂ F ?_ ?_
  all_goals blk_simp; simp only [hi t] <;> omega

theorem in5_1 {F : Mat} (h : Is2 (n := 2048) (k := 2048) (V c main_v4) F) (t : Fin cfg5.N) :
    Is2 (n := 2048) (k := 1024) (iblk5 V c 1 t) (fun r j => F r (1024 * (t.val % 2) + j)) := by
  have hi : ∀ t : Fin grid5.N, win5_1.index t 0 = 0 ∧ win5_1.index t 1 = t.val % 2 := by decide +kernel
  refine is2_block h (win5_1.blk t).view.emb fun r j => congrArg₂ F ?_ ?_
  all_goals blk_simp; simp only [hi t] <;> omega

theorem dwd_arr {A X : Mat} (ha : Is2 (n := 2048) (k := 5632) (V c main_v2) A) (hx : Is2 (n := 2048) (k := 2048) (V c main_v4) X) :
    (dat5 V c).arrAt 2 cfg5.N = arr2 5632 2048 (dwd A X) := by
  have hi : ∀ t : Fin grid5.N, win5_2.index t 0 = t.val / 2 ∧ win5_2.index t 1 = t.val % 2 := by decide +kernel
  refine (dat5 V c).arrAt_eq_of_cover 2 (arr2 5632 2048 (dwd A X)) (fun t _ => ?_) fun i => ?_
  · refine Eq.trans (show (dat5 V c).flushed 2 t = out5_2 (iblk5 V c 0 t) (iblk5 V c 1 t) from after5_2 V c t)
      (eq_block (dwd_tile (in5_0 V c ha t) (in5_1 V c hx t)) (win5_2.blk t).view.emb fun r j => congrArg₂ (dwd A X) ?_ ?_)
    all_goals blk_simp; simp only [hi t] <;> omega
  · have h0 : (i 0).val < 5632 := (i 0).isLt
    have h1 : (i 1).val < 2048 := (i 1).isLt
    have hN : cfg5.N = 22 := N_5
    have hp : 2 * ((i 0).val / 512) + (i 1).val / 1024 < cfg5.N := by omega
    refine ⟨⟨2 * ((i 0).val / 512) + (i 1).val / 1024, hp⟩, flush5_2 _, ?_⟩
    have h := hi ⟨2 * ((i 0).val / 512) + (i 1).val / 1024, hp⟩
    dsimp only at h
    mem_blk
    rw [h.1, h.2]
    omega

/-! ## Back through the gate and the convolution -/

theorem in6_0 {F : Mat} (h : Is2 (n := 2048) (k := 11264) (V c main_v1) F) (t : Fin cfg6.N) :
    Is2 (n := 2048) (k := 256) (iblk6 V c 0 t) (fun r j => F r (256 * t.val + j)) := by
  have hi : ∀ t : Fin grid6.N, win6_0.index t 0 = 0 ∧ win6_0.index t 1 = t.val := by decide +kernel
  refine is2_block h (win6_0.blk t).view.emb fun r j => congrArg₂ F ?_ ?_
  all_goals blk_simp; simp only [hi t] <;> omega

theorem in6_1 {F : Mat} (h : Is2 (n := 2048) (k := 11264) (V c main_v1) F) (t : Fin cfg6.N) :
    Is2 (n := 2048) (k := 256) (iblk6 V c 1 t) (fun r j => sh 5632 F r (256 * t.val + j)) := by
  have hi : ∀ t : Fin grid6.N, win6_1.index t 0 = 0 ∧ win6_1.index t 1 = t.val + 22 := by decide +kernel
  refine is2_block h (win6_1.blk t).view.emb fun r j => congrArg₂ F ?_ ?_
  all_goals blk_simp; simp only [hi t] <;> omega

theorem in6_2 {F : Mat} (h : Is2 (n := 2048) (k := 5632) (V c main_v5) F) (t : Fin cfg6.N) :
    Is2 (n := 2048) (k := 256) (iblk6 V c 2 t) (fun r j => F r (256 * t.val + j)) := by
  have hi : ∀ t : Fin grid6.N, win6_2.index t 0 = 0 ∧ win6_2.index t 1 = t.val := by decide +kernel
  refine is2_block h (win6_2.blk t).view.emb fun r j => congrArg₂ F ?_ ?_
  all_goals blk_simp; simp only [hi t] <;> omega

theorem in6_3 {F : Mat} (h : Is2 (n := 3) (k := 11264) (V c main_arg4) F) (t : Fin cfg6.N) :
    Is2 (n := 3) (k := 256) (iblk6 V c 3 t) (fun r j => F r (256 * t.val + j)) := by
  have hi : ∀ t : Fin grid6.N, win6_3.index t 0 = 0 ∧ win6_3.index t 1 = t.val := by decide +kernel
  refine is2_block h (win6_3.blk t).view.emb fun r j => congrArg₂ F ?_ ?_
  all_goals blk_simp; simp only [hi t] <;> omega

theorem in6_4 {F : Mat} (h : Is2 (n := 3) (k := 11264) (V c main_arg4) F) (t : Fin cfg6.N) :
    Is2 (n := 3) (k := 256) (iblk6 V c 4 t) (fun r j => sh 5632 F r (256 * t.val + j)) := by
  have hi : ∀ t : Fin grid6.N, win6_4.index t 0 = 0 ∧ win6_4.index t 1 = t.val + 22 := by decide +kernel
  refine is2_block h (win6_4.blk t).view.emb fun r j => congrArg₂ F ?_ ?_
  all_goals blk_simp; simp only [hi t] <;> omega

theorem in6_5 {F : Mat} (h : Is2 (n := 1) (k := 11264) (V c main_arg5) F) (t : Fin cfg6.N) :
    Is2 (n := 1) (k := 256) (iblk6 V c 5 t) (fun r j => F r (256 * t.val + j)) := by
  have hi : ∀ t : Fin grid6.N, win6_5.index t 0 = 0 ∧ win6_5.index t 1 = t.val := by decide +kernel
  refine is2_block h (win6_5.blk t).view.emb fun r j => congrArg₂ F ?_ ?_
  all_goals blk_simp; simp only [hi t] <;> omega

theorem in6_6 {F : Mat} (h : Is2 (n := 1) (k := 11264) (V c main_arg5) F) (t : Fin cfg6.N) :
    Is2 (n := 1) (k := 256) (iblk6 V c 6 t) (fun r j => sh 5632 F r (256 * t.val + j)) := by
  have hi : ∀ t : Fin grid6.N, win6_6.index t 0 = 0 ∧ win6_6.index t 1 = t.val + 22 := by decide +kernel
  refine is2_block h (win6_6.blk t).view.emb fun r j => congrArg₂ F ?_ ?_
  all_goals blk_simp; simp only [hi t] <;> omega

section
variable {U D W B : Mat} (hu : Is2 (n := 2048) (k := 11264) (V c main_v1) U) (hd : Is2 (n := 2048) (k := 5632) (V c main_v5) D)
  (hw : Is2 (n := 3) (k := 11264) (V c main_arg4) W) (hb : Is2 (n := 1) (k := 11264) (V c main_arg5) B)

include hu hd hw hb in
theorem duv_arr  :
    (dat6 V c).arrAt 7 cfg6.N = arr2 2048 5632 (du W (dv D (cv (sh 5632 W) (sh 5632 B) (sh 5632 U)))) := by
  have hi : ∀ t : Fin grid6.N, win6_7.index t 0 = 0 ∧ win6_7.index t 1 = t.val := by decide +kernel
  refine (dat6 V c).arrAt_eq_of_cover 7 (arr2 2048 5632 (du W (dv D (cv (sh 5632 W) (sh 5632 B) (sh 5632 U))))) (fun t _ => ?_) fun i => ?_
  · refine Eq.trans (show (dat6 V c).flushed 7 t = out6_7 (iblk6 V c 0 t) (iblk6 V c 1 t) (iblk6 V c 2 t) (iblk6 V c 3 t) (iblk6 V c 4 t) (iblk6 V c 5 t) (iblk6 V c 6 t) from after6_7 V c t)
      (eq_block (duv_tile (in6_1 V c hu t) (in6_2 V c hd t) (in6_3 V c hw t) (in6_4 V c hw t) (in6_6 V c hb t)) (win6_7.blk t).view.emb fun r j => congrArg₂ (du W (dv D (cv (sh 5632 W) (sh 5632 B) (sh 5632 U)))) ?_ ?_)
    all_goals blk_simp; simp only [hi t] <;> omega
  · have h0 : (i 0).val < 2048 := (i 0).isLt
    have h1 : (i 1).val < 5632 := (i 1).isLt
    have hN : cfg6.N = 22 := N_6
    have hp : (i 1).val / 256 < cfg6.N := by omega
    refine ⟨⟨(i 1).val / 256, hp⟩, flush6_7 _, ?_⟩
    have h := hi ⟨(i 1).val / 256, hp⟩
    dsimp only at h
    mem_blk
    rw [h.1, h.2]
    omega

include hu hd hw hb in
theorem dug_arr  :
    (dat6 V c).arrAt 8 cfg6.N = arr2 2048 5632 (du (sh 5632 W) (dg D (cv W B U) (cv (sh 5632 W) (sh 5632 B) (sh 5632 U)))) := by
  have hi : ∀ t : Fin grid6.N, win6_8.index t 0 = 0 ∧ win6_8.index t 1 = t.val := by decide +kernel
  refine (dat6 V c).arrAt_eq_of_cover 8 (arr2 2048 5632 (du (sh 5632 W) (dg D (cv W B U) (cv (sh 5632 W) (sh 5632 B) (sh 5632 U))))) (fun t _ => ?_) fun i => ?_
  · refine Eq.trans (show (dat6 V c).flushed 8 t = out6_8 (iblk6 V c 0 t) (iblk6 V c 1 t) (iblk6 V c 2 t) (iblk6 V c 3 t) (iblk6 V c 4 t) (iblk6 V c 5 t) (iblk6 V c 6 t) from after6_8 V c t)
      (eq_block (dug_tile (in6_0 V c hu t) (in6_1 V c hu t) (in6_2 V c hd t) (in6_3 V c hw t) (in6_4 V c hw t) (in6_5 V c hb t) (in6_6 V c hb t)) (win6_8.blk t).view.emb fun r j => congrArg₂ (du (sh 5632 W) (dg D (cv W B U) (cv (sh 5632 W) (sh 5632 B) (sh 5632 U)))) ?_ ?_)
    all_goals blk_simp; simp only [hi t] <;> omega
  · have h0 : (i 0).val < 2048 := (i 0).isLt
    have h1 : (i 1).val < 5632 := (i 1).isLt
    have hN : cfg6.N = 22 := N_6
    have hp : (i 1).val / 256 < cfg6.N := by omega
    refine ⟨⟨(i 1).val / 256, hp⟩, flush6_8 _, ?_⟩
    have h := hi ⟨(i 1).val / 256, hp⟩
    dsimp only at h
    mem_blk
    rw [h.1, h.2]
    omega

include hu hd hw hb in
theorem dwv_arr  :
    (dat6 V c).arrAt 9 cfg6.N = arr2 3 5632 (dcw U (dv D (cv (sh 5632 W) (sh 5632 B) (sh 5632 U)))) := by
  have hi : ∀ t : Fin grid6.N, win6_9.index t 0 = 0 ∧ win6_9.index t 1 = t.val := by decide +kernel
  refine (dat6 V c).arrAt_eq_of_cover 9 (arr2 3 5632 (dcw U (dv D (cv (sh 5632 W) (sh 5632 B) (sh 5632 U))))) (fun t _ => ?_) fun i => ?_
  · refine Eq.trans (show (dat6 V c).flushed 9 t = out6_9 (iblk6 V c 0 t) (iblk6 V c 1 t) (iblk6 V c 2 t) (iblk6 V c 3 t) (iblk6 V c 4 t) (iblk6 V c 5 t) (iblk6 V c 6 t) from after6_9 V c t)
      (eq_block (dwv_tile (in6_0 V c hu t) (in6_1 V c hu t) (in6_2 V c hd t) (in6_4 V c hw t) (in6_6 V c hb t)) (win6_9.blk t).view.emb fun r j => congrArg₂ (dcw U (dv D (cv (sh 5632 W) (sh 5632 B) (sh 5632 U)))) ?_ ?_)
    all_goals blk_simp; simp only [hi t] <;> omega
  · have h0 : (i 0).val < 3 := (i 0).isLt
    have h1 : (i 1).val < 5632 := (i 1).isLt
    have hN : cfg6.N = 22 := N_6
    have hp : (i 1).val / 256 < cfg6.N := by omega
    refine ⟨⟨(i 1).val / 256, hp⟩, flush6_9 _, ?_⟩
    have h := hi ⟨(i 1).val / 256, hp⟩
    dsimp only at h
    mem_blk
    rw [h.1, h.2]
    omega

include hu hd hw hb in
theorem dwg_arr  :
    (dat6 V c).arrAt 10 cfg6.N = arr2 3 5632 (dcw (sh 5632 U) (dg D (cv W B U) (cv (sh 5632 W) (sh 5632 B) (sh 5632 U)))) := by
  have hi : ∀ t : Fin grid6.N, win6_10.index t 0 = 0 ∧ win6_10.index t 1 = t.val := by decide +kernel
  refine (dat6 V c).arrAt_eq_of_cover 10 (arr2 3 5632 (dcw (sh 5632 U) (dg D (cv W B U) (cv (sh 5632 W) (sh 5632 B) (sh 5632 U))))) (fun t _ => ?_) fun i => ?_
  · refine Eq.trans (show (dat6 V c).flushed 10 t = out6_10 (iblk6 V c 0 t) (iblk6 V c 1 t) (iblk6 V c 2 t) (iblk6 V c 3 t) (iblk6 V c 4 t) (iblk6 V c 5 t) (iblk6 V c 6 t) from after6_10 V c t)
      (eq_block (dwg_tile (in6_0 V c hu t) (in6_1 V c hu t) (in6_2 V c hd t) (in6_3 V c hw t) (in6_4 V c hw t) (in6_5 V c hb t) (in6_6 V c hb t)) (win6_10.blk t).view.emb fun r j => congrArg₂ (dcw (sh 5632 U) (dg D (cv W B U) (cv (sh 5632 W) (sh 5632 B) (sh 5632 U)))) ?_ ?_)
    all_goals blk_simp; simp only [hi t] <;> omega
  · have h0 : (i 0).val < 3 := (i 0).isLt
    have h1 : (i 1).val < 5632 := (i 1).isLt
    have hN : cfg6.N = 22 := N_6
    have hp : (i 1).val / 256 < cfg6.N := by omega
    refine ⟨⟨(i 1).val / 256, hp⟩, flush6_10 _, ?_⟩
    have h := hi ⟨(i 1).val / 256, hp⟩
    dsimp only at h
    mem_blk
    rw [h.1, h.2]
    omega

include hu hd hw hb in
theorem dbv_arr  :
    (dat6 V c).arrAt 11 cfg6.N = arr2 1 5632 (dcb (dv D (cv (sh 5632 W) (sh 5632 B) (sh 5632 U)))) := by
  have hi : ∀ t : Fin grid6.N, win6_11.index t 0 = 0 ∧ win6_11.index t 1 = t.val := by decide +kernel
  refine (dat6 V c).arrAt_eq_of_cover 11 (arr2 1 5632 (dcb (dv D (cv (sh 5632 W) (sh 5632 B) (sh 5632 U))))) (fun t _ => ?_) fun i => ?_
  · refine Eq.trans (show (dat6 V c).flushed 11 t = out6_11 (iblk6 V c 0 t) (iblk6 V c 1 t) (iblk6 V c 2 t) (iblk6 V c 3 t) (iblk6 V c 4 t) (iblk6 V c 5 t) (iblk6 V c 6 t) from after6_11 V c t)
      (eq_block (dbv_tile (in6_1 V c hu t) (in6_2 V c hd t) (in6_4 V c hw t) (in6_6 V c hb t)) (win6_11.blk t).view.emb fun r j => congrArg₂ (x' := r.val) (dcb (dv D (cv (sh 5632 W) (sh 5632 B) (sh 5632 U)))) ?_ ?_)
    all_goals blk_simp; simp only [hi t] <;> omega
  · have h0 : (i 0).val < 1 := (i 0).isLt
    have h1 : (i 1).val < 5632 := (i 1).isLt
    have hN : cfg6.N = 22 := N_6
    have hp : (i 1).val / 256 < cfg6.N := by omega
    refine ⟨⟨(i 1).val / 256, hp⟩, flush6_11 _, ?_⟩
    have h := hi ⟨(i 1).val / 256, hp⟩
    dsimp only at h
    mem_blk
    rw [h.1, h.2]
    omega

include hu hd hw hb in
theorem dbg_arr  :
    (dat6 V c).arrAt 12 cfg6.N = arr2 1 5632 (dcb (dg D (cv W B U) (cv (sh 5632 W) (sh 5632 B) (sh 5632 U)))) := by
  have hi : ∀ t : Fin grid6.N, win6_12.index t 0 = 0 ∧ win6_12.index t 1 = t.val := by decide +kernel
  refine (dat6 V c).arrAt_eq_of_cover 12 (arr2 1 5632 (dcb (dg D (cv W B U) (cv (sh 5632 W) (sh 5632 B) (sh 5632 U))))) (fun t _ => ?_) fun i => ?_
  · refine Eq.trans (show (dat6 V c).flushed 12 t = out6_12 (iblk6 V c 0 t) (iblk6 V c 1 t) (iblk6 V c 2 t) (iblk6 V c 3 t) (iblk6 V c 4 t) (iblk6 V c 5 t) (iblk6 V c 6 t) from after6_12 V c t)
      (eq_block (dbg_tile (in6_0 V c hu t) (in6_1 V c hu t) (in6_2 V c hd t) (in6_3 V c hw t) (in6_4 V c hw t) (in6_5 V c hb t) (in6_6 V c hb t)) (win6_12.blk t).view.emb fun r j => congrArg₂ (x' := r.val) (dcb (dg D (cv W B U) (cv (sh 5632 W) (sh 5632 B) (sh 5632 U)))) ?_ ?_)
    all_goals blk_simp; simp only [hi t] <;> omega
  · have h0 : (i 0).val < 1 := (i 0).isLt
    have h1 : (i 1).val < 5632 := (i 1).isLt
    have hN : cfg6.N = 22 := N_6
    have hp : (i 1).val / 256 < cfg6.N := by omega
    refine ⟨⟨(i 1).val / 256, hp⟩, flush6_12 _, ?_⟩
    have h := hi ⟨(i 1).val / 256, hp⟩
    dsimp only at h
    mem_blk
    rw [h.1, h.2]
    omega

end

/-! ## The gradient of the projection's weights -/

theorem in7_0 {F : Mat} (h : Is2 (n := 2048) (k := 2048) (V c main_v0) F) (t : Fin cfg7.N) :
    Is2 (n := 2048) (k := 512) (iblk7 V c 0 t) (fun r j => F r (512 * (t.val % 4) + j)) := by
  have hi : ∀ t : Fin grid7.N, win7_0.index t 0 = 0 ∧ win7_0.index t 1 = t.val % 4 := by decide +kernel
  refine is2_block h (win7_0.blk t).view.emb fun r j => congrArg₂ F ?_ ?_
  all_goals blk_simp; simp only [hi t] <;> omega

theorem in7_1 {F : Mat} (h : Is2 (n := 2048) (k := 5632) (V c main_v7_0) F) (t : Fin cfg7.N) :
    Is2 (n := 2048) (k := 1408) (iblk7 V c 1 t) (fun r j => F r (1408 * min (t.val / 4) 3 + j)) := by
  have hi : ∀ t : Fin grid7.N, win7_1.index t 0 = 0 ∧ win7_1.index t 1 = min (t.val / 4) 3 := by decide +kernel
  refine is2_block h (win7_1.blk t).view.emb fun r j => congrArg₂ F ?_ ?_
  all_goals blk_simp; simp only [hi t] <;> omega

theorem in7_2 {F : Mat} (h : Is2 (n := 2048) (k := 5632) (V c main_v7_1) F) (t : Fin cfg7.N) :
    Is2 (n := 2048) (k := 1408) (iblk7 V c 2 t) (fun r j => F r (1408 * (t.val / 4 - 4) + j)) := by
  have hi : ∀ t : Fin grid7.N, win7_2.index t 0 = 0 ∧ win7_2.index t 1 = t.val / 4 - 4 := by decide +kernel
  refine is2_block h (win7_2.blk t).view.emb fun r j => congrArg₂ F ?_ ?_
  all_goals blk_simp; simp only [hi t] <;> omega

theorem dwu_arr {H Dv Dg : Mat} (hh : Is2 (n := 2048) (k := 2048) (V c main_v0) H) (hv : Is2 (n := 2048) (k := 5632) (V c main_v7_0) Dv)
    (hg : Is2 (n := 2048) (k := 5632) (V c main_v7_1) Dg) : (dat7 V c).arrAt 3 cfg7.N = arr3 8 2048 1408 (dwu H Dv Dg) := by
  have hi : ∀ t : Fin grid7.N, win7_3.index t 0 = t.val / 4 ∧ win7_3.index t 1 = t.val % 4 ∧ win7_3.index t 2 = 0 := by decide +kernel
  have hc : ∀ t : Fin grid7.N, (grid7.coords t 0).val = t.val / 4 := by decide +kernel
  refine (dat7 V c).arrAt_eq_of_cover 3 (arr3 8 2048 1408 (dwu H Dv Dg)) (fun t _ => ?_) fun i => ?_
  · refine Eq.trans (show (dat7 V c).flushed 3 t = out7_3 (grid7.coords t) (iblk7 V c 0 t) (iblk7 V c 1 t) (iblk7 V c 2 t) from after7_3 V c t)
      (eq_block3 (f := dwu H Dv Dg) (dwu_tile (grid7.coords t) (in7_0 V c hh t) (in7_1 V c hv t) (in7_2 V c hg t)) (win7_3.blk t).view.emb fun p r j => ?_)
    have hN : t.val < 32 := lt_of_lt_of_eq t.isLt N_7
    have h0 : ((win7_3.blk t).view.emb (ix3 p r j) 0).val = t.val / 4 := by blk_simp; rw [(hi t).1] <;> omega
    have h1 : ((win7_3.blk t).view.emb (ix3 p r j) 1).val = 512 * (t.val % 4) + r.val := by blk_simp; rw [(hi t).2.1] <;> omega
    have h2 : ((win7_3.blk t).view.emb (ix3 p r j) 2).val = j.val := by blk_simp; rw [(hi t).2.2] <;> omega
    rw [h0, h1, h2, hc t, dwu]
    by_cases h4 : 4 ≤ t.val / 4
    · rw [if_pos h4, if_pos h4]
      rfl
    · rw [if_neg h4, if_neg h4, show min (t.val / 4) 3 = t.val / 4 by omega]
      rfl
  · have h0 : (i 0).val < 8 := (i 0).isLt
    have h1 : (i 1).val < 2048 := (i 1).isLt
    have h2 : (i 2).val < 1408 := (i 2).isLt
    have hN : cfg7.N = 32 := N_7
    have hp : 4 * (i 0).val + (i 1).val / 512 < cfg7.N := by omega
    refine ⟨⟨4 * (i 0).val + (i 1).val / 512, hp⟩, flush7_3 _, ?_⟩
    have h := hi ⟨4 * (i 0).val + (i 1).val / 512, hp⟩
    dsimp only at h
    mem_blk
    rw [h.1, h.2.1, h.2.2]
    omega

end Cert.Kernel2Ideal.Mix

end
-- ==== Proof.MixRun.lean ====
module

public import proofs.«01_k».proof.Proof.MixRegions

/-! # The run of the eight calls

The whole program, run: every unscoped buffer ends at the contents the calls and the host operations between them leave.
From the arguments' matrices, each call's output is read as a matrix of `MixModel`, in the order of the calls. -/

@[expose] public section

set_option maxRecDepth 16384

noncomputable section

namespace Cert.Kernel2Ideal.Mix

open Kernel2Ideal Kernel2Ideal.Gen Cert.Mix
open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch's implicit arguments are found by unifying its conclusion with this one
set_option backward.isDefEq.respectTransparency.types false in
/-- Every run ends, nothing faulting, with every unscoped buffer at the last boundary's contents. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

/-! ## The contents at the boundaries -/

theorem is2_of {n k : ℕ} {x y : (⟨2, ![n, k]⟩ : Shape).Idx → EReal} {f : Mat} (e : x = y) (h : Is2 y f) : Is2 x f := e ▸ h
theorem is3_of {n k l : ℕ} {x y : (⟨3, ![n, k, l]⟩ : Shape).Idx → EReal} {f : ℕ → Mat} (e : x = y) (h : Is3 y f) : Is3 x f := e ▸ h

/-- Two arrays laid side by side. -/
theorem cat3 (f g : Mat) : Is2 (n := 3) (k := 11264)
    (concatenate S3x11264 1 [⟨S3x5632, arr2 3 5632 f⟩, ⟨S3x5632, arr2 3 5632 g⟩] concatenates_S3x5632_S3x5632_S3x11264_d1) (cat f g) := by
  intro r k
  pointwise []
  unfold cat
  split <;> rfl
theorem cat1 (f g : Mat) : Is2 (n := 1) (k := 11264)
    (concatenate S1x11264 1 [⟨S1x5632, arr2 1 5632 f⟩, ⟨S1x5632, arr2 1 5632 g⟩] concatenates_S1x5632_S1x5632_S1x11264_d1) (cat f g) := by
  intro r k
  pointwise []
  unfold cat
  split <;> rfl

section Chain

variable (c : Dev nD) {X G WD CW CB DX : Mat} {WU : ℕ → Mat}

variable (hx : Is2 (n := 2048) (k := 2048) (m ((c : Thread nD τ).loc main_arg0)) X)
variable (hg : Is2 (n := 1) (k := 2048) (m ((c : Thread nD τ).loc main_arg1)) G)
variable (hu : Is3 (n := 8) (k := 2048) (l := 1408) (m ((c : Thread nD τ).loc main_arg2)) WU)
variable (hd : Is2 (n := 5632) (k := 2048) (m ((c : Thread nD τ).loc main_arg3)) WD)
variable (hw : Is2 (n := 3) (k := 11264) (m ((c : Thread nD τ).loc main_arg4)) CW)
variable (hb : Is2 (n := 1) (k := 11264) (m ((c : Thread nD τ).loc main_arg5)) CB)
variable (hy : Is2 (n := 2048) (k := 2048) (m ((c : Thread nD τ).loc main_arg6)) DX)

/-- The normalised rows. -/
abbrev mH (X G : Mat) : Mat := Cert.Mix.hb X G
/-- The projection. -/
abbrev mU (X G : Mat) (WU : ℕ → Mat) : Mat := up (mH X G) WU
/-- The value columns after the convolution. -/
abbrev mV (X G : Mat) (WU : ℕ → Mat) (CW CB : Mat) : Mat := cv CW CB (mU X G WU)
/-- The gate columns after the convolution. -/
abbrev mG (X G : Mat) (WU : ℕ → Mat) (CW CB : Mat) : Mat := cv (sh 5632 CW) (sh 5632 CB) (sh 5632 (mU X G WU))
/-- The gated values. -/
abbrev mA (X G : Mat) (WU : ℕ → Mat) (CW CB : Mat) : Mat := gv (mV X G WU CW CB) (mG X G WU CW CB)
/-- The gradient at the convolution's value columns. -/
abbrev mDv (X G : Mat) (WU : ℕ → Mat) (WD CW CB DX : Mat) : Mat := dv (da DX WD) (mG X G WU CW CB)
/-- The gradient at the convolution's gate columns. -/
abbrev mDg (X G : Mat) (WU : ℕ → Mat) (WD CW CB DX : Mat) : Mat := dg (da DX WD) (mV X G WU CW CB) (mG X G WU CW CB)

include hx hg in
theorem b1 : W1 m ρ c (Proc.devRef .tc main_v0) = arr2 2048 2048 (mH X G) :=
  (W1_arr m ρ c 2).trans (hb_arr (V0 m ρ) c hx hg)

include hx hg hu in
theorem b2 : W2 m ρ c (Proc.devRef .tc main_v1) = arr2 2048 11264 (mU X G WU) :=
  (W2_arr m ρ c 2).trans (up_arr (V1 m ρ) c (is2_of (b1 m ρ c hx hg) (is2_arr2 _ _ _))
    (is3_of (W1_args m ρ c main_arg2 (by decide)) hu))

include hx hg hu hw hb in
theorem b3 : W3 m ρ c (Proc.devRef .tc main_v2) = arr2 2048 5632 (mA X G WU CW CB) :=
  (W3_arr m ρ c 6).trans (gv_arr (V2 m ρ) c (is2_of (b2 m ρ c hx hg hu) (is2_arr2 _ _ _))
    (is2_of (W2_args m ρ c main_arg4 (by decide)) hw) (is2_of (W2_args m ρ c main_arg5 (by decide)) hb))

include hx hg hu hw hb hd in
theorem b4 : W4 m ρ c (Proc.devRef .tc main_v3) = arr2 2048 2048 (xo (mA X G WU CW CB) WD X) :=
  (W4_arr m ρ c 3).trans (xo_arr (V3 m ρ) c (is2_of (b3 m ρ c hx hg hu hw hb) (is2_arr2 _ _ _))
    (is2_of (W3_args m ρ c main_arg3 (by decide)) hd) (is2_of (W3_args m ρ c main_arg0 (by decide)) hx))

include hy in
theorem b5 : Is2 (n := 2048) (k := 2048) (W5 m ρ c (Proc.devRef .tc main_v4)) DX := by
  intro r k
  have e : W5 m ρ c (Proc.devRef .tc main_v4) = (truncf (F := Ideal) .bf16 (W4 m ρ c (Proc.devRef .tc main_arg6)) bitsLt_bf16_f32 : FVec Ideal S2048x2048 .bf16) := by
    show StableHlo.after hostOps4 (W4 m ρ c) (Proc.devRef .tc main_v4) = _
    simp only [hostOps4]
    after_results
  rw [e, W4_args m ρ c main_arg6 (by decide)]
  exact hy r k

include hd hy in
theorem b6 : W6 m ρ c (Proc.devRef .tc main_v5) = arr2 2048 5632 (da DX WD) :=
  (W6_arr m ρ c 2).trans (da_arr (V5 m ρ) c (b5 m ρ c hy) (is2_of (W5_args m ρ c main_arg3 (by decide)) hd))

include hx hg hu hw hb hy in
theorem b7 : W7 m ρ c (Proc.devRef .tc main_v6) = arr2 5632 2048 (dwd (mA X G WU CW CB) DX) :=
  (W7_arr m ρ c 2).trans (dwd_arr (V6 m ρ) c
    (is2_of ((W6_of m ρ c main_v2 (by decide)).trans ((W5_of m ρ c main_v2 (by decide)).trans
      ((W4_of m ρ c main_v2 (by decide)).trans (b3 m ρ c hx hg hu hw hb)))) (is2_arr2 _ _ _))
    (is2_of (W6_of m ρ c main_v4 (by decide)) (b5 m ρ c hy)))

include hx hg hu in
theorem b7u : Is2 (n := 2048) (k := 11264) (V7 m ρ c main_v1) (mU X G WU) :=
  is2_of ((W7_of m ρ c main_v1 (by decide)).trans ((W6_of m ρ c main_v1 (by decide)).trans ((W5_of m ρ c main_v1 (by decide)).trans
      ((W4_of m ρ c main_v1 (by decide)).trans ((W3_of m ρ c main_v1 (by decide)).trans (b2 m ρ c hx hg hu)))))) (is2_arr2 _ _ _)
include hd hy in
theorem b7d : Is2 (n := 2048) (k := 5632) (V7 m ρ c main_v5) (da DX WD) :=
  is2_of ((W7_of m ρ c main_v5 (by decide)).trans (b6 m ρ c hd hy)) (is2_arr2 _ _ _)
include hw in
theorem b7w : Is2 (n := 3) (k := 11264) (V7 m ρ c main_arg4) CW := is2_of (W7_args m ρ c main_arg4 (by decide)) hw
include hb in
theorem b7b : Is2 (n := 1) (k := 11264) (V7 m ρ c main_arg5) CB := is2_of (W7_args m ρ c main_arg5 (by decide)) hb

include hx hg hu hw hb hd hy

theorem b8_0 : W8 m ρ c (Proc.devRef .tc main_v7_0) = arr2 2048 5632 (du CW (mDv X G WU WD CW CB DX)) :=
  (W8_arr m ρ c 7).trans (duv_arr (V7 m ρ) c (b7u m ρ c hx hg hu) (b7d m ρ c hd hy) (b7w m ρ c hw) (b7b m ρ c hb))
theorem b8_1 : W8 m ρ c (Proc.devRef .tc main_v7_1) = arr2 2048 5632 (du (sh 5632 CW) (mDg X G WU WD CW CB DX)) :=
  (W8_arr m ρ c 8).trans (dug_arr (V7 m ρ) c (b7u m ρ c hx hg hu) (b7d m ρ c hd hy) (b7w m ρ c hw) (b7b m ρ c hb))
theorem b8_2 : W8 m ρ c (Proc.devRef .tc main_v7_2) = arr2 3 5632 (dcw (mU X G WU) (mDv X G WU WD CW CB DX)) :=
  (W8_arr m ρ c 9).trans (dwv_arr (V7 m ρ) c (b7u m ρ c hx hg hu) (b7d m ρ c hd hy) (b7w m ρ c hw) (b7b m ρ c hb))
theorem b8_3 : W8 m ρ c (Proc.devRef .tc main_v7_3) = arr2 3 5632 (dcw (sh 5632 (mU X G WU)) (mDg X G WU WD CW CB DX)) :=
  (W8_arr m ρ c 10).trans (dwg_arr (V7 m ρ) c (b7u m ρ c hx hg hu) (b7d m ρ c hd hy) (b7w m ρ c hw) (b7b m ρ c hb))
theorem b8_4 : W8 m ρ c (Proc.devRef .tc main_v7_4) = arr2 1 5632 (dcb (mDv X G WU WD CW CB DX)) :=
  (W8_arr m ρ c 11).trans (dbv_arr (V7 m ρ) c (b7u m ρ c hx hg hu) (b7d m ρ c hd hy) (b7w m ρ c hw) (b7b m ρ c hb))
theorem b8_5 : W8 m ρ c (Proc.devRef .tc main_v7_5) = arr2 1 5632 (dcb (mDg X G WU WD CW CB DX)) :=
  (W8_arr m ρ c 12).trans (dbg_arr (V7 m ρ) c (b7u m ρ c hx hg hu) (b7d m ρ c hd hy) (b7w m ρ c hw) (b7b m ρ c hb))

theorem b9_8 : Is2 (n := 3) (k := 11264) (W9 m ρ c (Proc.devRef .tc main_v8))
    (cat (dcw (mU X G WU) (mDv X G WU WD CW CB DX)) (dcw (sh 5632 (mU X G WU)) (mDg X G WU WD CW CB DX))) := by
  have e : W9 m ρ c (Proc.devRef .tc main_v8) = concatenate S3x11264 1 [⟨S3x5632, W8 m ρ c (Proc.devRef .tc main_v7_2)⟩, ⟨S3x5632, W8 m ρ c (Proc.devRef .tc main_v7_3)⟩] concatenates_S3x5632_S3x5632_S3x11264_d1 := by
    show StableHlo.after hostOps7 (W8 m ρ c) (Proc.devRef .tc main_v8) = _
    simp only [hostOps7]
    after_results
  rw [e, b8_2 m ρ c hx hg hu hd hw hb hy, b8_3 m ρ c hx hg hu hd hw hb hy]
  exact cat3 _ _
theorem b9_9 : Is2 (n := 1) (k := 11264) (W9 m ρ c (Proc.devRef .tc main_v9))
    (cat (dcb (mDv X G WU WD CW CB DX)) (dcb (mDg X G WU WD CW CB DX))) := by
  have e : W9 m ρ c (Proc.devRef .tc main_v9) = concatenate S1x11264 1 [⟨S1x5632, W8 m ρ c (Proc.devRef .tc main_v7_4)⟩, ⟨S1x5632, W8 m ρ c (Proc.devRef .tc main_v7_5)⟩] concatenates_S1x5632_S1x5632_S1x11264_d1 := by
    show StableHlo.after hostOps7 (W8 m ρ c) (Proc.devRef .tc main_v9) = _
    simp only [hostOps7]
    after_results
  rw [e, b8_4 m ρ c hx hg hu hd hw hb hy, b8_5 m ρ c hx hg hu hd hw hb hy]
  exact cat1 _ _

theorem b10_10 : W10 m ρ c (Proc.devRef .tc main_v10) = arr3 8 2048 1408
    (dwu (mH X G) (du CW (mDv X G WU WD CW CB DX)) (du (sh 5632 CW) (mDg X G WU WD CW CB DX))) :=
  (W10_arr m ρ c 3).trans (dwu_arr (V9 m ρ) c
    (is2_of ((W9_of m ρ c main_v0 (by decide)).trans ((W8_of m ρ c main_v0 (by decide)).trans ((W7_of m ρ c main_v0 (by decide)).trans
      ((W6_of m ρ c main_v0 (by decide)).trans ((W5_of m ρ c main_v0 (by decide)).trans ((W4_of m ρ c main_v0 (by decide)).trans
      ((W3_of m ρ c main_v0 (by decide)).trans ((W2_of m ρ c main_v0 (by decide)).trans (b1 m ρ c hx hg))))))))) (is2_arr2 _ _ _))
    (is2_of ((W9_of m ρ c main_v7_0 (by decide)).trans (b8_0 m ρ c hx hg hu hd hw hb hy)) (is2_arr2 _ _ _))
    (is2_of ((W9_of m ρ c main_v7_1 (by decide)).trans (b8_1 m ρ c hx hg hu hd hw hb hy)) (is2_arr2 _ _ _)))

/-! ## The five results -/

theorem r_out : Is2 (n := 2048) (k := 2048) (W10 m ρ c (Proc.devRef .tc main_v3)) (xo (mA X G WU CW CB) WD X) :=
  is2_of ((W10_of m ρ c main_v3 (by decide)).trans ((W9_of m ρ c main_v3 (by decide)).trans ((W8_of m ρ c main_v3 (by decide)).trans
    ((W7_of m ρ c main_v3 (by decide)).trans ((W6_of m ρ c main_v3 (by decide)).trans ((W5_of m ρ c main_v3 (by decide)).trans
    (b4 m ρ c hx hg hu hd hw hb))))))) (is2_arr2 _ _ _)
theorem r_dcw : Is2 (n := 3) (k := 11264) (W10 m ρ c (Proc.devRef .tc main_v8))
    (cat (dcw (mU X G WU) (mDv X G WU WD CW CB DX)) (dcw (sh 5632 (mU X G WU)) (mDg X G WU WD CW CB DX))) :=
  is2_of (W10_of m ρ c main_v8 (by decide)) (b9_8 m ρ c hx hg hu hd hw hb hy)
theorem r_dcb : Is2 (n := 1) (k := 11264) (W10 m ρ c (Proc.devRef .tc main_v9))
    (cat (dcb (mDv X G WU WD CW CB DX)) (dcb (mDg X G WU WD CW CB DX))) :=
  is2_of (W10_of m ρ c main_v9 (by decide)) (b9_9 m ρ c hx hg hu hd hw hb hy)
theorem r_dwu : Is3 (n := 8) (k := 2048) (l := 1408) (W10 m ρ c (Proc.devRef .tc main_v10))
    (dwu (mH X G) (du CW (mDv X G WU WD CW CB DX)) (du (sh 5632 CW) (mDg X G WU WD CW CB DX))) :=
  is3_of (b10_10 m ρ c hx hg hu hd hw hb hy) (is3_arr3 _ _ _ _)
theorem r_dwd : Is2 (n := 5632) (k := 2048) (W10 m ρ c (Proc.devRef .tc main_v6)) (dwd (mA X G WU CW CB) DX) :=
  is2_of ((W10_of m ρ c main_v6 (by decide)).trans ((W9_of m ρ c main_v6 (by decide)).trans ((W8_of m ρ c main_v6 (by decide)).trans
    (b7 m ρ c hx hg hu hw hb hy)))) (is2_arr2 _ _ _)

end Chain

end Cert.Kernel2Ideal.Mix

end
-- ==== Proof.MixRef.lean ====
module

public import proofs.«01_k».proof.Proof.MixModel
public import proofs.«01_k».proof.Proof.Gen.Reference2Ideal.Read

/-! # The reference's values

The reference's intermediate arrays, read as matrices of `MixModel`. -/

@[expose] public section

set_option maxRecDepth 16384

noncomputable section

namespace Cert.Reference2Ideal.Mix

open Reference2Ideal Reference2Ideal.Gen Reference2Ideal.Read Cert.Mix
open Idealize.ShloMosaic TcCoe

variable {x0 : (⟨S2048x2048, .f32⟩ : BufTy).Contents (Elt Ideal)} {x1 : (⟨S1x2048, .f32⟩ : BufTy).Contents (Elt Ideal)}
variable {x2 : (⟨S8x2048x1408, .bf16⟩ : BufTy).Contents (Elt Ideal)} {x3 : (⟨S5632x2048, .bf16⟩ : BufTy).Contents (Elt Ideal)}
variable {x4 : (⟨S3x11264, .f32⟩ : BufTy).Contents (Elt Ideal)} {x5 : (⟨S1x11264, .f32⟩ : BufTy).Contents (Elt Ideal)}
variable {x6 : (⟨S2048x2048, .f32⟩ : BufTy).Contents (Elt Ideal)}
variable {X G WD CW CB DX : Mat} {WU : ℕ → Mat}

variable (hx : Is2 (n := 2048) (k := 2048) x0 X) (hg : Is2 (n := 1) (k := 2048) x1 G)
variable (hu : Is3 (n := 8) (k := 2048) (l := 1408) x2 WU) (hd : Is2 (n := 5632) (k := 2048) x3 WD)
variable (hw : Is2 (n := 3) (k := 11264) x4 CW) (hb : Is2 (n := 1) (k := 11264) x5 CB)
variable (hy : Is2 (n := 2048) (k := 2048) x6 DX)

include hx hg in
theorem r20 : Is2 (n := 2048) (k := 2048) (val_main_v20 (F := Ideal) x0 x1) (Cert.Mix.hb X G) := by
  intro r c
  simp only [val_main_v20, val_main_v17, val_main_v16, val_main_v12, val_main_v11, val_main_v10, val_main_v9, val_main_v8, val_main_v7, val_main_v6, val_main_v5, val_main_v19, val_main_v18, val_main_v4, val_main_cst, val_main_cst_0, val_main_cst_1]
  pointwise []
  simp only [hx _ _, hg _ _]
  rfl

include hu in
theorem r3 : Is2 (n := 2048) (k := 11264) (val_main_v3 (F := Ideal) x2) (fun r c => WU (c / 1408) r (c % 1408)) := by
  intro r c
  simp only [val_main_v3, val_main_v2, val_main_v0]
  pointwise []
  exact hu _ _ _

include hx hg hu in
theorem r22 : Is2 (n := 2048) (k := 11264) (val_main_v22 (F := Ideal) x0 x1 x2) (up (Cert.Mix.hb X G) WU) := by
  intro r c
  simp only [val_main_v22]
  pointwise []
  simp only [r20 hx hg _ _, r3 hu _ _]
  rfl

section Steps

variable {U C D A E H : Mat}

/-- The projection with two rows of zeros above it. -/
theorem r24 (h : Is2 (n := 2048) (k := 11264) (val_main_v22 (F := Ideal) x0 x1 x2) U) :
    Is2 (n := 2050) (k := 11264) (val_main_v24 (F := Ideal) x0 x1 x2) (dn 2 U) := by
  intro r c
  simp only [val_main_v24, val_main_v23, val_main_cst_3]
  pointwise []
  unfold dn
  by_cases hr : r.val < 2
  · rw [dif_pos hr, if_neg (by omega)]
  · rw [dif_neg hr]
    exact (h _ _).trans (if_pos (by omega)).symm

theorem r28 (h : Is2 (n := 2048) (k := 11264) (val_main_v22 (F := Ideal) x0 x1 x2) U) :
    Is2 (n := 2048) (k := 11264) (val_main_v28 (F := Ideal) x0 x1 x2) (dn 2 U) := by
  intro r c
  simp only [val_main_v28]
  pointwise []
  exact r24 h _ _
theorem r36 (h : Is2 (n := 2048) (k := 11264) (val_main_v22 (F := Ideal) x0 x1 x2) U) :
    Is2 (n := 2048) (k := 11264) (val_main_v36 (F := Ideal) x0 x1 x2) (dn 1 U) := by
  intro r c
  simp only [val_main_v36]
  pointwise []
  refine (r24 h _ _).trans ?_
  unfold dn
  by_cases hr : 1 ≤ r.val
  · rw [if_pos hr, if_pos (by show 2 ≤ 1 + r.val; omega)]
    exact congrArg (U · c.val) (by show 1 + r.val - 2 = r.val - 1; omega)
  · rw [if_neg hr, if_neg (by show ¬ 2 ≤ 1 + r.val; omega)]
theorem r43 (h : Is2 (n := 2048) (k := 11264) (val_main_v22 (F := Ideal) x0 x1 x2) U) :
    Is2 (n := 2048) (k := 11264) (val_main_v43 (F := Ideal) x0 x1 x2) U := by
  intro r c
  simp only [val_main_v43]
  pointwise []
  refine (r24 h _ _).trans ?_
  unfold dn
  rw [if_pos (by show 2 ≤ 2 + r.val; omega)]
  exact congrArg (U · c.val) (by show 2 + r.val - 2 = r.val; omega)

include hw hb in
/-- The convolution. -/
theorem r50 (h : Is2 (n := 2048) (k := 11264) (val_main_v22 (F := Ideal) x0 x1 x2) U) :
    Is2 (n := 2048) (k := 11264) (val_main_v50 (F := Ideal) x0 x1 x2 x4 x5) (cv CW CB U) := by
  intro r c
  simp only [val_main_v50, val_main_v49, val_main_v48, val_main_v21, val_main_v47, val_main_v46, val_main_v45, val_main_v44, val_main_v42, val_main_v41, val_main_v40, val_main_v39, val_main_v38, val_main_v37, val_main_v35, val_main_v34, val_main_v33, val_main_v32, val_main_v31, val_main_v30, val_main_v29, val_main_v27, val_main_v26, val_main_cst_5]
  pointwise []
  rw [hb _ _, hw _ _, hw _ _, hw _ _, r28 h _ _, r36 h _ _, r43 h _ _, ← add_assoc, ← add_assoc]
  rfl

theorem r51 (h : Is2 (n := 2048) (k := 11264) (val_main_v50 (F := Ideal) x0 x1 x2 x4 x5) C) :
    Is2 (n := 2048) (k := 5632) (val_main_v51 (F := Ideal) x0 x1 x2 x4 x5) C := by
  intro r c
  simp only [val_main_v51]
  pointwise []
  exact h _ _
theorem r52 (h : Is2 (n := 2048) (k := 11264) (val_main_v50 (F := Ideal) x0 x1 x2 x4 x5) C) :
    Is2 (n := 2048) (k := 5632) (val_main_v52 (F := Ideal) x0 x1 x2 x4 x5) (sh 5632 C) := by
  intro r c
  simp only [val_main_v52]
  pointwise []
  exact h _ _
theorem r53_2 (h : Is2 (n := 2048) (k := 11264) (val_main_v50 (F := Ideal) x0 x1 x2 x4 x5) C) :
    Is2 (n := 2048) (k := 5632) (val_main_v53_2 (F := Ideal) x0 x1 x2 x4 x5) (fun t j => sg (sh 5632 C t j)) := by
  intro r c
  simp only [val_main_v53_2, val_main_call0_v4, val_main_call0_cst_0, val_main_call0_v3, val_main_call0_v2, val_main_call0_cst, val_main_call0_v1, val_main_call0_v0]
  pointwise []
  rw [r52 h _ _]
  unfold sg
  rw [zero_sub]
theorem r53_0 (h : Is2 (n := 2048) (k := 11264) (val_main_v50 (F := Ideal) x0 x1 x2 x4 x5) C) :
    Is2 (n := 2048) (k := 5632) (val_main_v53_0 (F := Ideal) x0 x1 x2 x4 x5) (fun t j => sh 5632 C t j * sg (sh 5632 C t j)) := by
  intro r c
  simp only [val_main_v53_0]
  pointwise []
  rw [r52 h _ _, r53_2 h _ _]
theorem r54 (h : Is2 (n := 2048) (k := 11264) (val_main_v50 (F := Ideal) x0 x1 x2 x4 x5) C) :
    Is2 (n := 2048) (k := 5632) (val_main_v54 (F := Ideal) x0 x1 x2 x4 x5) (gv C (sh 5632 C)) := by
  intro r c
  simp only [val_main_v54]
  pointwise []
  rw [r53_0 h _ _, r51 h _ _]
  rfl

include hx hd in
/-- The block's output. -/
theorem r56 (h : Is2 (n := 2048) (k := 5632) (val_main_v54 (F := Ideal) x0 x1 x2 x4 x5) A) :
    Is2 (n := 2048) (k := 2048) (val_main_v56 (F := Ideal) x0 x1 x2 x3 x4 x5) (xo A WD X) := by
  intro r c
  simp only [val_main_v56, val_main_v55, val_main_v1]
  pointwise []
  rw [hx _ _, add_comm]
  simp only [h _ _, hd _ _]
  rfl

include hy in
/-- The gradient of the weights of the projection back. -/
theorem r130 (h : Is2 (n := 2048) (k := 5632) (val_main_v54 (F := Ideal) x0 x1 x2 x4 x5) A) :
    Is2 (n := 5632) (k := 2048) (val_main_v130 (F := Ideal) x0 x1 x2 x4 x5 x6) (dwd A DX) := by
  intro r c
  simp only [val_main_v130, val_main_v59, val_main_v58, val_main_v57]
  pointwise []
  refine Finset.sum_congr rfl fun t _ => ?_
  rw [h _ _, hy _ _, mul_comm]

include hd hy in
theorem r60 : Is2 (n := 2048) (k := 5632) (val_main_v60 (F := Ideal) x3 x6) (da DX WD) := by
  intro r c
  simp only [val_main_v60, val_main_v57, val_main_v1]
  pointwise []
  simp only [hy _ _, hd _ _]
  rfl

theorem r61 (h : Is2 (n := 2048) (k := 11264) (val_main_v50 (F := Ideal) x0 x1 x2 x4 x5) C)
    (ha : Is2 (n := 2048) (k := 5632) (val_main_v60 (F := Ideal) x3 x6) D) :
    Is2 (n := 2048) (k := 5632) (val_main_v61 (F := Ideal) x0 x1 x2 x3 x4 x5 x6) (dv D (sh 5632 C)) := by
  intro r c
  simp only [val_main_v61]
  pointwise []
  rw [r53_0 h _ _, ha _ _, mul_comm]
  rfl
/-- The gradient at the gate columns as the reference adds it. -/
def dgr (d v g : Mat) : Mat := fun t j => d t j * v t j * sg (g t j) + g t j * (d t j * v t j) * (sg (g t j) * (1 - sg (g t j)))
theorem r63 (h : Is2 (n := 2048) (k := 11264) (val_main_v50 (F := Ideal) x0 x1 x2 x4 x5) C)
    (ha : Is2 (n := 2048) (k := 5632) (val_main_v60 (F := Ideal) x3 x6) D) :
    Is2 (n := 2048) (k := 5632) (val_main_v63 (F := Ideal) x0 x1 x2 x3 x4 x5 x6) (dgr D C (sh 5632 C)) := by
  intro r c
  simp only [val_main_v63, val_main_call1_v0, val_main_call1_v1, val_main_call1_v2, val_main_v53_1, val_main_call0_v7, val_main_call0_v6, val_main_call0_cst_1, val_main_v62]
  pointwise []
  rw [ha _ _, r51 h _ _, r53_2 h _ _, r52 h _ _]
  rfl
/-- The gradient at the convolution. -/
theorem r64 (h : Is2 (n := 2048) (k := 11264) (val_main_v50 (F := Ideal) x0 x1 x2 x4 x5) C)
    (ha : Is2 (n := 2048) (k := 5632) (val_main_v60 (F := Ideal) x3 x6) D)
    (he : ∀ t j, t < 2048 → j < 5632 → dgr D C (sh 5632 C) t j = dg D C (sh 5632 C) t j) :
    Is2 (n := 2048) (k := 11264) (val_main_v64 (F := Ideal) x0 x1 x2 x3 x4 x5 x6) (cat (dv D (sh 5632 C)) (dg D C (sh 5632 C))) := by
  intro r c
  simp only [val_main_v64]
  pointwise []
  unfold cat
  by_cases hc : c.val < 5632
  · rw [dif_pos hc, if_pos hc]
    exact r61 h ha _ _
  · rw [dif_neg hc, if_neg hc]
    exact (r63 h ha _ _).trans (he _ _ r.isLt (by show c.val - 5632 < 5632; have := c.isLt; omega))

/-- A sum of products with the rows moved down is the sum with the other factor's rows moved up. -/
theorem sum_dn (k : ℕ) (hk : k ≤ 2048) (d u : Mat) (n : ℕ) :
    ∑ t : Fin 2048, d t.val n * dn k u t.val n = ∑ t : Fin 2048, u t.val n * us k d t.val n := by
  rw [Finset.sum_fin_eq_sum_range, Finset.sum_fin_eq_sum_range]
  have e1 : ∑ i ∈ Finset.range 2048, (if h : i < 2048 then d i n * dn k u i n else 0) = ∑ i ∈ Finset.range (2048 - k), d (k + i) n * u i n := by
    rw [show (2048 : ℕ) = k + (2048 - k) from by omega, Finset.sum_range_add, Finset.sum_eq_zero, zero_add,
      show k + (2048 - k) - k = 2048 - k from by omega]
    · refine Finset.sum_congr rfl fun i hi => ?_
      have := Finset.mem_range.mp hi
      rw [dif_pos (by omega)]
      unfold dn
      rw [if_pos (by omega), show k + i - k = i from by omega]
    · intro i hi
      have := Finset.mem_range.mp hi
      rw [dif_pos (by omega)]
      unfold dn
      rw [if_neg (by omega), mul_zero]
  have e2 : ∑ i ∈ Finset.range 2048, (if h : i < 2048 then u i n * us k d i n else 0) = ∑ i ∈ Finset.range (2048 - k), d (k + i) n * u i n := by
    rw [show Finset.range 2048 = Finset.range ((2048 - k) + k) from by rw [show (2048 - k) + k = 2048 from by omega], Finset.sum_range_add]
    rw [Finset.sum_eq_zero (s := Finset.range k), add_zero]
    · refine Finset.sum_congr rfl fun i hi => ?_
      have := Finset.mem_range.mp hi
      rw [dif_pos (by omega)]
      unfold us
      rw [if_pos (by omega), mul_comm, show i + k = k + i from by omega]
    · intro i hi
      have := Finset.mem_range.mp hi
      rw [dif_pos (by omega)]
      unfold us
      rw [if_neg (by omega), mul_zero]
  exact e1.trans e2.symm

/-- The gradient of the convolution's weights. -/
theorem r98 (h : Is2 (n := 2048) (k := 11264) (val_main_v22 (F := Ideal) x0 x1 x2) U)
    (he : Is2 (n := 2048) (k := 11264) (val_main_v64 (F := Ideal) x0 x1 x2 x3 x4 x5 x6) E) :
    Is2 (n := 3) (k := 11264) (val_main_v98 (F := Ideal) x0 x1 x2 x3 x4 x5 x6) (dcw U E) := by
  intro r c
  simp only [val_main_v98, val_main_v97, val_main_v96, val_main_v93, val_main_v92, val_main_v91, val_main_v87, val_main_v86, val_main_v85, val_main_v82, val_main_v81, val_main_v80, val_main_v76, val_main_v75, val_main_v73, val_main_v72, val_main_v71, val_main_cst_8, val_main_cst_9, val_main_cst_11, val_main_cst_12, val_main_cst_13, val_main_cst_15, val_main_cst_16, val_main_cst_17, val_main_cst_19, val_main_v90, val_main_v79, val_main_v70]
  pointwise []
  simp only [he _ _, r28 h _ _, r36 h _ _, r43 h _ _, Finset.univ_unique, Finset.sum_singleton]
  unfold dcw
  match r with
  | ⟨0, _⟩ =>
    rw [dif_neg (by simp), dif_neg (by simp), dif_pos (by simp), zero_add, zero_add, sum_dn 2 (by omega)]
    rfl
  | ⟨1, _⟩ =>
    rw [dif_neg (by simp), dif_pos (by simp), dif_neg (by simp), zero_add, add_zero, sum_dn 1 (by omega)]
    rfl
  | ⟨2, _⟩ =>
    rw [dif_pos (by simp), dif_neg (by simp), dif_neg (by simp), add_zero, add_zero]
    exact Finset.sum_congr rfl fun t _ => mul_comm _ _

/-- The gradient of the convolution's bias. -/
theorem r104 (he : Is2 (n := 2048) (k := 11264) (val_main_v64 (F := Ideal) x0 x1 x2 x3 x4 x5 x6) E) :
    Is2 (n := 1) (k := 11264) (val_main_v104 (F := Ideal) x0 x1 x2 x3 x4 x5 x6) (dcb E) := by
  intro r c
  simp only [val_main_v104, val_main_v67, val_main_v66, val_main_v65, val_main_cst_6, val_main_cst_7]
  pointwise []
  simp only [he _ _, Finset.univ_unique, Finset.sum_singleton]
  rfl

include hw in
/-- The gradient at the projection. -/
theorem r100 (he : Is2 (n := 2048) (k := 11264) (val_main_v64 (F := Ideal) x0 x1 x2 x3 x4 x5 x6) E) :
    Is2 (n := 2048) (k := 11264) (val_main_v100 (F := Ideal) x0 x1 x2 x3 x4 x5 x6) (du CW E) := by
  intro r c
  simp only [val_main_v100, val_main_v95, val_main_v94, val_main_v89, val_main_v88, val_main_v29, val_main_v27, val_main_v26, val_main_v84, val_main_v83, val_main_v78, val_main_v77, val_main_v37, val_main_v35, val_main_v34, val_main_v74, val_main_v69, val_main_v68, val_main_v44, val_main_v42, val_main_v41, val_main_cst_10, val_main_cst_14, val_main_cst_18]
  pointwise []
  have hr := r.isLt
  have e1 : (if h : 1 ≤ 2 + r.val ∧ 2 + r.val - 1 < 2048 then x4 (ix2 1 c) * val_main_v64 (F := Ideal) x0 x1 x2 x3 x4 x5 x6 (ix2 ⟨2 + r.val - 1, h.2⟩ c) else 0)
      = CW 1 c.val * us 1 E r.val c.val := by
    unfold us
    by_cases h1 : r.val < 2048 - 1
    · rw [dif_pos (by omega), if_pos h1, hw _ _, he _ _]
      exact congrArg (fun t => CW 1 c.val * E t c.val) (by show 2 + r.val - 1 = r.val + 1; omega)
    · rw [dif_neg (by omega), if_neg h1, mul_zero]
  have e2 : (if h : 2 + r.val < 2048 then x4 (ix2 0 c) * val_main_v64 (F := Ideal) x0 x1 x2 x3 x4 x5 x6 (ix2 ⟨2 + r.val, h⟩ c) else 0)
      = CW 0 c.val * us 2 E r.val c.val := by
    unfold us
    by_cases h1 : r.val < 2048 - 2
    · rw [dif_pos (by omega), if_pos h1, hw _ _, he _ _]
      exact congrArg (fun t => CW 0 c.val * E t c.val) (by show 2 + r.val = r.val + 2; omega)
    · rw [dif_neg (by omega), if_neg h1, mul_zero]
  rw [e1, e2, hw _ _, he _ _]
  unfold du
  rw [add_comm, add_comm (CW _ _ * _) (CW 1 _ * _), ← add_assoc]
  rfl

/-- The gradient of the projection's weights, in pieces. -/
theorem r129 (hh : Is2 (n := 2048) (k := 2048) (val_main_v20 (F := Ideal) x0 x1) H)
    (he : Is2 (n := 2048) (k := 11264) (val_main_v100 (F := Ideal) x0 x1 x2 x3 x4 x5 x6) E) :
    Is3 (n := 8) (k := 2048) (l := 1408) (val_main_v129 (F := Ideal) x0 x1 x2 x3 x4 x5 x6) (fun p => dwuP H (sh (1408 * p) E)) := by
  intro p r c
  simp only [val_main_v129, val_main_v128, val_main_v127, val_main_v102, val_main_v101]
  pointwise []
  refine Finset.sum_congr rfl fun t _ => ?_
  rw [hh _ _, he _ _, mul_comm]
  exact congrArg (fun n => H t.val r.val * E t.val n) (by show p.val * 1408 + c.val = 1408 * p.val + c.val; omega)

end Steps

/-! ## Two halves side by side -/

theorem dcw_cat (U a b : Mat) {r n : ℕ} : dcw U (cat a b) r n = cat (dcw U a) (dcw (sh 5632 U) b) r n := by
  unfold cat dcw us sh
  by_cases hn : n < 5632
  · simp only [if_pos hn]
  · simp only [if_neg hn]
    rw [show 5632 + (n - 5632) = n from by omega]
theorem dcb_cat (a b : Mat) {r n : ℕ} : dcb (cat a b) r n = cat (dcb a) (dcb b) r n := by
  unfold cat dcb
  by_cases hn : n < 5632
  · simp only [if_pos hn]
  · simp only [if_neg hn]
theorem du_cat (w a b : Mat) {r n : ℕ} : du w (cat a b) r n = cat (du w a) (du (sh 5632 w) b) r n := by
  unfold cat du us sh
  by_cases hn : n < 5632
  · simp only [if_pos hn]
  · simp only [if_neg hn]
    rw [show 5632 + (n - 5632) = n from by omega]
theorem dwu_cat (h w a b : Mat) {p r n : ℕ} (hn : n < 1408) :
    dwuP h (sh (1408 * p) (du w (cat a b))) r n = dwu h (du w a) (du (sh 5632 w) b) p r n := by
  unfold dwu
  by_cases hp : 4 ≤ p
  · rw [if_pos hp]
    refine Finset.sum_congr rfl fun t _ => congrArg (h t.val r * ·) ?_
    show du w (cat a b) t.val (1408 * p + n) = du (sh 5632 w) b t.val (1408 * (p - 4) + n)
    rw [du_cat]
    unfold cat
    rw [if_neg (by omega), show 1408 * p + n - 5632 = 1408 * (p - 4) + n from by omega]
  · rw [if_neg hp]
    refine Finset.sum_congr rfl fun t _ => congrArg (h t.val r * ·) ?_
    show du w (cat a b) t.val (1408 * p + n) = du w a t.val (1408 * p + n)
    rw [du_cat]
    unfold cat
    rw [if_pos (by omega)]

end Cert.Reference2Ideal.Mix

end
-- ==== Proof.MixReal.lean ====
module

public import proofs.«01_k».proof.Proof.MixRef

/-! # Real arguments

Where the arguments hold real numbers, every matrix up to the gate holds real numbers, and the two ways of adding up the
gradient at the gate columns agree. -/

@[expose] public section

noncomputable section

namespace Cert.Mix

open Idealize.ShloMosaic
open Reference2Ideal.Mix (dgr)

/-- The extended real is a real number. -/
def IsR (x : EReal) : Prop := ∃ a : ℝ, x = (a : EReal)

theorem isR_coe (a : ℝ) : IsR (a : EReal) := ⟨a, rfl⟩
theorem isR_zero : IsR 0 := ⟨0, rfl⟩
theorem IsR.add {x y : EReal} (hx : IsR x) (hy : IsR y) : IsR (x + y) := by
  obtain ⟨a, rfl⟩ := hx
  obtain ⟨b, rfl⟩ := hy
  exact ⟨a + b, (EReal.coe_add a b).symm⟩
theorem IsR.sub {x y : EReal} (hx : IsR x) (hy : IsR y) : IsR (x - y) := by
  obtain ⟨a, rfl⟩ := hx
  obtain ⟨b, rfl⟩ := hy
  exact ⟨a - b, (EReal.coe_sub a b).symm⟩
theorem IsR.mul {x y : EReal} (hx : IsR x) (hy : IsR y) : IsR (x * y) := by
  obtain ⟨a, rfl⟩ := hx
  obtain ⟨b, rfl⟩ := hy
  exact ⟨a * b, (EReal.coe_mul a b).symm⟩
theorem IsR.sum {ι : Type} (s : Finset ι) {f : ι → EReal} (h : ∀ i ∈ s, IsR (f i)) : IsR (∑ i ∈ s, f i) := by
  classical
  induction s using Finset.induction_on with
  | empty => exact isR_zero
  | insert a s ha ih =>
    rw [Finset.sum_insert ha]
    exact (h a (Finset.mem_insert_self a s)).add (ih fun i hi => h i (Finset.mem_insert_of_mem hi))

/-- A mean of squares of real numbers with a positive number added, and its inverse square root. -/
theorem wn_pos : ∃ a : ℝ, 0 < a ∧ wn = (a : EReal) := by
  refine ⟨8388608 * ((2 : ℝ) ^ 12)⁻¹, by positivity, ?_⟩
  unfold wn
  rw [EReal.coe_mul]
  simp [Ideal.ofBits, Ideal.ieee]
theorem we_pos : ∃ a : ℝ, 0 < a ∧ we = (a : EReal) := by
  refine ⟨8796093 * ((2 : ℝ) ^ 43)⁻¹, by positivity, ?_⟩
  unfold we
  rw [EReal.coe_mul]
  simp [Ideal.ofBits, Ideal.ieee]

theorem isR_scale {ι : Type} (s : Finset ι) {f : ι → EReal} (h : ∀ i ∈ s, IsR (f i)) :
    IsR (Ideal.rsqrt (Ideal.div (∑ i ∈ s, f i * f i) wn + we)) := by
  obtain ⟨n, hn, en⟩ := wn_pos
  obtain ⟨e, he, ee⟩ := we_pos
  have hs : ∃ q : ℝ, 0 ≤ q ∧ ∑ i ∈ s, f i * f i = (q : EReal) := by
    obtain ⟨q, hq⟩ := IsR.sum s fun i hi => (h i hi).mul (h i hi)
    refine ⟨q, ?_, hq⟩
    have : (0 : EReal) ≤ ∑ i ∈ s, f i * f i := Finset.sum_nonneg fun i hi => by
      obtain ⟨a, ha⟩ := h i hi
      rw [ha, ← EReal.coe_mul]
      exact_mod_cast mul_self_nonneg a
    rw [hq] at this
    exact_mod_cast this
  obtain ⟨q, hq, eq⟩ := hs
  rw [eq, en, ee, Ideal.div_coe hn.ne', ← EReal.coe_mul, ← EReal.coe_add, Ideal.rsqrt_coe, if_neg, if_neg]
  · exact isR_coe _
  · positivity
  · rw [not_lt]; positivity

/-- The logistic function of a real number is a real number. -/
theorem isR_sg {x : EReal} (h : IsR x) : IsR (sg x) := by
  obtain ⟨a, rfl⟩ := h
  unfold sg
  rw [zero_sub, ← EReal.coe_neg, Ideal.exp_coe, ← EReal.coe_one, ← EReal.coe_add, Ideal.div_coe (by positivity), ← EReal.coe_mul]
  exact isR_coe _

/-- The two forms of the gradient at the gate columns. -/
theorem dgr_eq {d v g : Mat} {t j : ℕ} (hd : IsR (d t j)) (hv : IsR (v t j)) (hg : IsR (g t j)) : dgr d v g t j = dg d v g t j := by
  unfold dgr dg
  obtain ⟨s, hs⟩ := isR_sg hg
  obtain ⟨a, ha⟩ := hd.mul hv
  obtain ⟨b, hb⟩ := hg
  rw [hs, ha, hb]
  rw [← EReal.coe_one, ← EReal.coe_sub, ← EReal.coe_mul, ← EReal.coe_mul, ← EReal.coe_mul, ← EReal.coe_mul, ← EReal.coe_mul, ← EReal.coe_add, ← EReal.coe_add,
    ← EReal.coe_mul, ← EReal.coe_mul]
  congr 1
  ring

/-- The matrix holds real numbers in its first rows and columns. -/
def RealM (n k : ℕ) (f : Mat) : Prop := ∀ t j, t < n → j < k → IsR (f t j)

theorem real_hb {x g : Mat} (hx : RealM 2048 2048 x) (hg : RealM 1 2048 g) : RealM 2048 2048 (hb x g) := fun t j ht hj =>
  ((hx t j ht hj).mul (isR_scale _ fun k _ => hx t k.val ht k.isLt)).mul (hg 0 j (by omega) hj)
theorem real_up {h : Mat} {w : ℕ → Mat} (hh : RealM 2048 2048 h) (hw : ∀ p, p < 8 → RealM 2048 1408 (w p)) : RealM 2048 11264 (up h w) :=
  fun t j ht hj => IsR.sum Finset.univ (f := fun k : Fin 2048 => h t k.val * w (j / 1408) k.val (j % 1408)) fun k _ => (hh t k.val ht k.isLt).mul (hw (j / 1408) (by omega) k.val (j % 1408) k.isLt (by omega))
theorem real_dn {k n : ℕ} {u : Mat} (hu : RealM 2048 n u) : RealM 2048 n (dn k u) := fun t j ht hj => by
  unfold dn
  split
  · exact hu _ _ (by omega) hj
  · exact isR_zero
theorem real_cv {n : ℕ} {w b u : Mat} (hw : RealM 3 n w) (hb : RealM 1 n b) (hu : RealM 2048 n u) : RealM 2048 n (cv w b u) := fun t j ht hj =>
  (((hb 0 j (by omega) hj).add ((hw 0 j (by omega) hj).mul (real_dn hu t j ht hj))).add
    ((hw 1 j (by omega) hj).mul (real_dn hu t j ht hj))).add ((hw 2 j (by omega) hj).mul (hu t j ht hj))
theorem real_da {dx w : Mat} (hx : RealM 2048 2048 dx) (hw : RealM 5632 2048 w) : RealM 2048 5632 (da dx w) := fun t j ht hj =>
  IsR.sum Finset.univ (f := fun c : Fin 2048 => dx t c.val * w j c.val) fun c _ => (hx t c.val ht c.isLt).mul (hw j c.val hj c.isLt)

/-- With real arguments the two forms agree everywhere. -/
theorem gate_eq {X G WD CW CB DX : Mat} {WU : ℕ → Mat} (hx : RealM 2048 2048 X) (hg : RealM 1 2048 G) (hu : ∀ p, p < 8 → RealM 2048 1408 (WU p))
    (hd : RealM 5632 2048 WD) (hw : RealM 3 11264 CW) (hb' : RealM 1 11264 CB) (hy : RealM 2048 2048 DX) (t j : ℕ) (ht : t < 2048) (hj : j < 5632) :
    dgr (da DX WD) (cv CW CB (up (hb X G) WU)) (sh 5632 (cv CW CB (up (hb X G) WU))) t j
      = dg (da DX WD) (cv CW CB (up (hb X G) WU)) (sh 5632 (cv CW CB (up (hb X G) WU))) t j :=
  have hc := real_cv hw hb' (real_up (real_hb hx hg) hu)
  dgr_eq (real_da hy hd t j ht hj) (hc t j ht (by omega)) (hc t (5632 + j) ht (by omega))

end Cert.Mix

end
-- ==== Proof.MixEquation.lean ====
module

public import proofs.«01_k».proof.Defs
public import proofs.«01_k».proof.Proof.MixRun
public import proofs.«01_k».proof.Proof.MixReal

/-! # The gated block's step: kernel and reference

Over finite arguments the eight calls and the reference leave the same five results. -/

@[expose] public section

set_option maxRecDepth 16384

noncomputable section

namespace Cert.Mix

open Idealize.ShloMosaic TcCoe Idealize.SL.Sem

/-! ## An array's matrix -/

/-- The matrix of an array, zero outside. -/
def mat2 {n k : ℕ} (x : (⟨2, ![n, k]⟩ : Shape).Idx → EReal) : Mat := fun r c => if h : r < n ∧ c < k then x (ix2 ⟨r, h.1⟩ ⟨c, h.2⟩) else 0
/-- The stack of matrices of an array, zero outside. -/
def mat3 {n k l : ℕ} (x : (⟨3, ![n, k, l]⟩ : Shape).Idx → EReal) : ℕ → Mat := fun p r c =>
  if h : p < n ∧ r < k ∧ c < l then x (ix3 ⟨p, h.1⟩ ⟨r, h.2.1⟩ ⟨c, h.2.2⟩) else 0

theorem is2_mat2 {n k : ℕ} (x : (⟨2, ![n, k]⟩ : Shape).Idx → EReal) : Is2 x (mat2 x) := fun r c => by
  rw [mat2, dif_pos ⟨r.isLt, c.isLt⟩]
theorem is3_mat3 {n k l : ℕ} (x : (⟨3, ![n, k, l]⟩ : Shape).Idx → EReal) : Is3 x (mat3 x) := fun p r c => by
  rw [mat3, dif_pos ⟨p.isLt, r.isLt, c.isLt⟩]
theorem real_mat2 {n k : ℕ} {x : (⟨2, ![n, k]⟩ : Shape).Idx → EReal} (h : ∀ i, IsR (x i)) : RealM n k (mat2 x) := fun t j ht hj => by
  rw [mat2, dif_pos ⟨ht, hj⟩]
  exact h _
theorem real_mat3 {n k l : ℕ} {x : (⟨3, ![n, k, l]⟩ : Shape).Idx → EReal} (h : ∀ i, IsR (x i)) (p : ℕ) (hp : p < n) : RealM k l (mat3 x p) := fun t j ht hj => by
  rw [mat3, dif_pos ⟨hp, ht, hj⟩]
  exact h _

/-- Two arrays of one matrix, up to the matrix's value inside, are one. -/
theorem ext2 {n k : ℕ} {x y : (⟨2, ![n, k]⟩ : Shape).Idx → EReal} {f g : Mat} (hx : Is2 x f) (hy : Is2 y g)
    (h : ∀ r c, r < n → c < k → f r c = g r c) : x = y := by
  funext i
  rw [Kernel2Ideal.Mix.ix2_eta i, hx, hy]
  exact h _ _ (i 0).isLt (i 1).isLt
theorem ext3 {n k l : ℕ} {x y : (⟨3, ![n, k, l]⟩ : Shape).Idx → EReal} {f g : ℕ → Mat} (hx : Is3 x f) (hy : Is3 y g)
    (h : ∀ p r c, p < n → r < k → c < l → f p r c = g p r c) : x = y := by
  funext i
  rw [Kernel2Ideal.Mix.ix3_eta i, hx, hy]
  exact h _ _ _ (i 0).isLt (i 1).isLt (i 2).isLt

/-! ## What the precondition says -/

theorem facts2 : Pre_finite_inputs2.Facts := ⟨by decide, by decide, by decide, by decide, by decide, by decide⟩

theorem isR_of_below {x : EReal} (h : Ideal.cmp .olt (max x (-x)) ⊤ = 1#1) : IsR x := by
  rw [Ideal.cmp] at h
  have hlt : max x (-x) < ⊤ := by
    by_contra hc
    simp only [hc, decide_false] at h
    exact absurd h (by decide)
  refine ⟨x.toReal, (EReal.coe_toReal ?_ ?_).symm⟩
  · rintro rfl; simp at hlt
  · rintro rfl; simp at hlt
theorem isR_f32 {x : EReal} (h : Ideal.cmp .olt (max x (-x)) (Ideal.ofBits .f32 0x7F800000#32) = 1#1) : IsR x :=
  isR_of_below (by rwa [show (Ideal.ofBits .f32 0x7F800000#32 : EReal) = ⊤ from by simp [Ideal.ofBits, Ideal.ieee]] at h)
theorem isR_bf16 {x : EReal} (h : Ideal.cmp .olt (max x (-x)) (Ideal.ofBits .bf16 0x7F80#16) = 1#1) : IsR x :=
  isR_of_below (by rwa [show (Ideal.ofBits .bf16 0x7F80#16 : EReal) = ⊤ from by simp [Ideal.ofBits, Ideal.ieee]] at h)

section Equation

open Kernel2Ideal Kernel2Ideal.Gen Kernel2Ideal.Mix

variable (m : (ℓ : Loc Kernel2Ideal.nD Kernel2Ideal.τ Kernel2Ideal.sig) → Buf (Elt Ideal) ℓ) (ρ : Dev Kernel2Ideal.nD → PrngReg)

/-- The run of the eight calls, its results and arguments by name. -/
theorem run_values : θ_run Kernel2Ideal.defs (onTc (τ := Kernel2Ideal.τ) (Kernel2Ideal.main (F := Ideal))) ⟨m, fun _ => 0, ρ⟩ (fun r => ∀ c : Dev Kernel2Ideal.nD,
      r.2.mem ((c.tc : Thread nD τ).loc main_v3) = W10 m ρ c (Proc.devRef .tc main_v3)
      ∧ r.2.mem ((c.tc : Thread nD τ).loc main_v8) = W10 m ρ c (Proc.devRef .tc main_v8)
      ∧ r.2.mem ((c.tc : Thread nD τ).loc main_v9) = W10 m ρ c (Proc.devRef .tc main_v9)
      ∧ r.2.mem ((c.tc : Thread nD τ).loc main_v10) = W10 m ρ c (Proc.devRef .tc main_v10)
      ∧ r.2.mem ((c.tc : Thread nD τ).loc main_v6) = W10 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c =>
    ⟨h c _ (mem_uc main_v3 (by decide)), h c _ (mem_uc main_v8 (by decide)), h c _ (mem_uc main_v9 (by decide)),
     h c _ (mem_uc main_v10 (by decide)), h c _ (mem_uc main_v6 (by decide)),
     (h c _ (mem_uc main_arg0 (by decide))).trans (W10_args m ρ c main_arg0 (by decide)),
     (h c _ (mem_uc main_arg1 (by decide))).trans (W10_args m ρ c main_arg1 (by decide)),
     (h c _ (mem_uc main_arg2 (by decide))).trans (W10_args m ρ c main_arg2 (by decide)),
     (h c _ (mem_uc main_arg3 (by decide))).trans (W10_args m ρ c main_arg3 (by decide)),
     (h c _ (mem_uc main_arg4 (by decide))).trans (W10_args m ρ c main_arg4 (by decide)),
     (h c _ (mem_uc main_arg5 (by decide))).trans (W10_args m ρ c main_arg5 (by decide)),
     (h c _ (mem_uc main_arg6 (by decide))).trans (W10_args m ρ c main_arg6 (by decide))⟩) (run_all m ρ)

end Equation

open Kernel2Ideal (nD τ main_arg0 main_arg1 main_arg2 main_arg3 main_arg4 main_arg5 main_arg6) in
theorem equation2 : algebraic_Kernel2Ideal_Reference2Ideal_pre_finite_inputs2 (hKernel2Ideal := Kernel2Ideal.Gen.facts)
    (hReference2Ideal := Reference2Ideal.Gen.facts) (hPre_finite_inputs2 := facts2) := by
  intro m g m' g' hp he
  refine ⟨fun c => Kernel2Ideal.Gen.W10 m g c (Proc.devRef .tc Kernel2Ideal.main_v3), fun c => Kernel2Ideal.Gen.W10 m g c (Proc.devRef .tc Kernel2Ideal.main_v8),
    fun c => Kernel2Ideal.Gen.W10 m g c (Proc.devRef .tc Kernel2Ideal.main_v9), fun c => Kernel2Ideal.Gen.W10 m g c (Proc.devRef .tc Kernel2Ideal.main_v10),
    fun c => Kernel2Ideal.Gen.W10 m g c (Proc.devRef .tc Kernel2Ideal.main_v6), run_values m g, ?_⟩
  refine (θ_run _ _ _).mono (fun r h c => ?_) (Reference2Ideal.Value.run m' g')
  obtain ⟨e0, e1, e2, e3, e4, e5, e6⟩ := he c
  change StableHlo.launchContents m' c (Proc.devRef .tc Reference2Ideal.main_arg0) = _ at e0
  change StableHlo.launchContents m' c (Proc.devRef .tc Reference2Ideal.main_arg1) = _ at e1
  change StableHlo.launchContents m' c (Proc.devRef .tc Reference2Ideal.main_arg2) = _ at e2
  change StableHlo.launchContents m' c (Proc.devRef .tc Reference2Ideal.main_arg3) = _ at e3
  change StableHlo.launchContents m' c (Proc.devRef .tc Reference2Ideal.main_arg4) = _ at e4
  change StableHlo.launchContents m' c (Proc.devRef .tc Reference2Ideal.main_arg5) = _ at e5
  change StableHlo.launchContents m' c (Proc.devRef .tc Reference2Ideal.main_arg6) = _ at e6
  obtain ⟨p0, p1, p2, p3, p4, p5, p6⟩ := hp c
  obtain ⟨h0, h1, h2, h3, h4, h5⟩ := h c
  have hx := is2_mat2 (n := 2048) (k := 2048) (m ((c.tc : Thread nD τ).loc main_arg0))
  have hg := is2_mat2 (n := 1) (k := 2048) (m ((c.tc : Thread nD τ).loc main_arg1))
  have hu := is3_mat3 (n := 8) (k := 2048) (l := 1408) (m ((c.tc : Thread nD τ).loc main_arg2))
  have hd := is2_mat2 (n := 5632) (k := 2048) (m ((c.tc : Thread nD τ).loc main_arg3))
  have hw := is2_mat2 (n := 3) (k := 11264) (m ((c.tc : Thread nD τ).loc main_arg4))
  have hb := is2_mat2 (n := 1) (k := 11264) (m ((c.tc : Thread nD τ).loc main_arg5))
  have hy := is2_mat2 (n := 2048) (k := 2048) (m ((c.tc : Thread nD τ).loc main_arg6))
  have q0 := real_mat2 (n := 2048) (k := 2048) (x := m ((c.tc : Thread nD τ).loc main_arg0)) fun i => isR_f32 (congrFun p0 i)
  have q1 := real_mat2 (n := 1) (k := 2048) (x := m ((c.tc : Thread nD τ).loc main_arg1)) fun i => isR_f32 (congrFun p1 i)
  have q2 := real_mat3 (n := 8) (k := 2048) (l := 1408) (x := m ((c.tc : Thread nD τ).loc main_arg2)) fun i => isR_bf16 (congrFun p2 i)
  have q3 := real_mat2 (n := 5632) (k := 2048) (x := m ((c.tc : Thread nD τ).loc main_arg3)) fun i => isR_bf16 (congrFun p3 i)
  have q4 := real_mat2 (n := 3) (k := 11264) (x := m ((c.tc : Thread nD τ).loc main_arg4)) fun i => isR_f32 (congrFun p4 i)
  have q5 := real_mat2 (n := 1) (k := 11264) (x := m ((c.tc : Thread nD τ).loc main_arg5)) fun i => isR_f32 (congrFun p5 i)
  have q6 := real_mat2 (n := 2048) (k := 2048) (x := m ((c.tc : Thread nD τ).loc main_arg6)) fun i => isR_f32 (congrFun p6 i)
  have hU := Reference2Ideal.Mix.r22 hx hg hu
  have hC := Reference2Ideal.Mix.r50 hw hb hU
  have hA := Reference2Ideal.Mix.r54 hC
  have hE := Reference2Ideal.Mix.r64 hC (Reference2Ideal.Mix.r60 hd hy) (gate_eq q0 q1 q2 q3 q4 q5 q6)
  refine ⟨h0.trans ?_, h1.trans ?_, h2.trans ?_, h3.trans ?_, h4.trans ?_, h5⟩
  all_goals clear h h0 h1 h2 h3 h4 h5
  · rw [Reference2Ideal.Read.val_main_v56_eq, e0, e1, e2, e3, e4, e5]
    exact ext2 (Reference2Ideal.Mix.r56 hx hd hA) (Kernel2Ideal.Mix.r_out m g c hx hg hu hd hw hb hy) fun _ _ _ _ => rfl
  · rw [Reference2Ideal.Read.val_main_v98_eq, e0, e1, e2, e3, e4, e5, e6]
    exact ext2 (Reference2Ideal.Mix.r98 hU hE) (Kernel2Ideal.Mix.r_dcw m g c hx hg hu hd hw hb hy) fun _ _ _ _ => Reference2Ideal.Mix.dcw_cat _ _ _
  · rw [Reference2Ideal.Read.val_main_v104_eq, e0, e1, e2, e3, e4, e5, e6]
    exact ext2 (Reference2Ideal.Mix.r104 hE) (Kernel2Ideal.Mix.r_dcb m g c hx hg hu hd hw hb hy) fun _ _ _ _ => Reference2Ideal.Mix.dcb_cat _ _
  · rw [Reference2Ideal.Read.val_main_v129_eq, e0, e1, e2, e3, e4, e5, e6]
    exact ext3 (Reference2Ideal.Mix.r129 (Reference2Ideal.Mix.r20 hx hg) (Reference2Ideal.Mix.r100 hw hE))
      (Kernel2Ideal.Mix.r_dwu m g c hx hg hu hd hw hb hy) fun _ _ _ _ _ hn => Reference2Ideal.Mix.dwu_cat _ _ _ _ hn
  · rw [Reference2Ideal.Read.val_main_v130_eq, e0, e1, e2, e4, e5, e6]
    exact ext2 (Reference2Ideal.Mix.r130 hy hA) (Kernel2Ideal.Mix.r_dwd m g c hx hg hu hd hw hb hy) fun _ _ _ _ => rfl

end Cert.Mix

end
-- ==== Proof.MixDh.lean ====
module

public import proofs.«01_k».proof.Proof.Gen.Kernel3Ideal.Value
public import proofs.«01_k».proof.Proof.Gen.Reference3Ideal.Read
public import proofs.«01_k».proof.Proof.MixEquation
public import proofs.«01_k».proof.Proof.Gen.Kernel3
public import Idealize.ShloMosaic.Lib.Pipeline.ReadBack

/-! # The gradient that goes back through the first product

The columns of the first product come in eight pieces, four of values and four of gates; the call adds the pieces'
products one after another. -/

@[expose] public section

set_option maxRecDepth 16384

noncomputable section

namespace Cert.Mix

/-- The product of one piece, `b` columns wide. -/
def ntP (b : ℕ) (d : Mat) (w : ℕ → Mat) (p : ℕ) : Mat := fun t k => ∑ n : Fin b, d t (b * p + n.val) * w p k n.val
/-- The products of the first pieces, added. -/
def ntS (b : ℕ) (d : Mat) (w : ℕ → Mat) (q : ℕ) : Mat := fun t k => ∑ p ∈ Finset.range q, ntP b d w p t k

/-- The sum over all columns, piece by piece. -/
theorem nt_sum (b : ℕ) (d : Mat) (w : ℕ → Mat) (t k : ℕ) :
    ntS b d w 8 t k = ∑ n : Fin (8 * b), d t n.val * w (n.val / b) k (n.val % b) := by
  show ∑ p ∈ Finset.range 8, ∑ n : Fin b, d t (b * p + n.val) * w p k n.val = _
  rw [Finset.sum_range]
  refine (Fin.sum_divmod_congr (S := b) (f := fun p n => d t (b * p.val + n.val) * w p.val k n.val) fun n ha hs => ?_).symm
  show _ = d t (b * (n.val / b) + n.val % b) * _
  rw [Nat.div_add_mod]

end Cert.Mix

namespace Cert.Kernel3Ideal.Mix

open Kernel3Ideal Kernel3Ideal.Gen Cert.Mix
open Kernel2Ideal.Mix (select_sge arr2 is2_block is3_block eq_block)
open Idealize.ShloMosaic TcCoe Idealize.SL.Sem

/-! ## One grid point -/

theorem select_half {k : ℕ} (hk : k < 8) (g v : Vec Ideal S1024x1408 .bf16) :
    Scalar.select (Scalar.cmpi .sge (BitVec.ofNat 32 k) 4#32) g v = if 4 ≤ k then g else v := by
  interval_cases k <;> rfl

theorem dh_tile {i : grid0.Coords} {v g : Vec Ideal S1024x1408 .bf16} {w : Vec Ideal S1x1024x1408 .bf16} {V G : Mat} {W : ℕ → Mat}
    (hv : Is2 v V) (hw : Is3 w W) (hg : Is2 g G) :
    Is2 (k0_pay1 i v w g) (fun r c => ∑ x : Fin 1408, (if 4 ≤ (i 2).val then G else V) r x.val * W 0 c x.val) := fun r c => by
  simp only [k0_pay1, select_half (i 2).isLt]
  by_cases h : 4 ≤ (i 2).val
  · simp only [if_pos h]
    pointwise []
    simp only [hw _ _ _, hg _ _]
    rfl
  · simp only [if_neg h]
    pointwise []
    simp only [hw _ _ _, hv _ _]
    rfl

variable (m : (ℓ : Loc nD τ sig) → Buf (Elt Ideal) ℓ) (c : Dev nD)

theorem in_v {X : Mat} (h : Is2 (n := 2048) (k := 5632) (m ((c.tc : Thread nD τ).loc main_arg0)) X) (t : Fin cfg0.N) :
    Is2 (n := 1024) (k := 1408) (iblk m c 0 t) (fun r j => X (1024 * (t.val / 16) + r) (1408 * min (t.val % 8) 3 + j)) := by
  have hi : ∀ t : Fin grid0.N, win0_0.index t 0 = t.val / 16 ∧ win0_0.index t 1 = min (t.val % 8) 3 := by decide +kernel
  refine is2_block h (win0_0.blk t).view.emb fun r j => congrArg₂ X ?_ ?_
  all_goals blk_simp; simp only [hi t] <;> omega

theorem in_g {X : Mat} (h : Is2 (n := 2048) (k := 5632) (m ((c.tc : Thread nD τ).loc main_arg1)) X) (t : Fin cfg0.N) :
    Is2 (n := 1024) (k := 1408) (iblk m c 2 t) (fun r j => X (1024 * (t.val / 16) + r) (1408 * (t.val % 8 - 4) + j)) := by
  have hi : ∀ t : Fin grid0.N, win0_2.index t 0 = t.val / 16 ∧ win0_2.index t 1 = t.val % 8 - 4 := by decide +kernel
  refine is2_block h (win0_2.blk t).view.emb fun r j => congrArg₂ X ?_ ?_
  all_goals blk_simp; simp only [hi t] <;> omega

theorem in_w {X : ℕ → Mat} (h : Is3 (n := 8) (k := 2048) (l := 1408) (m ((c.tc : Thread nD τ).loc main_arg2)) X) (t : Fin cfg0.N) :
    Is3 (n := 1) (k := 1024) (l := 1408) (iblk m c 1 t) (fun p r j => X (t.val % 8 + p) (1024 * (t.val / 8 % 2) + r) j) := by
  have hi : ∀ t : Fin grid0.N, win0_1.index t 0 = t.val % 8 ∧ win0_1.index t 1 = t.val / 8 % 2 ∧ win0_1.index t 2 = 0 := by decide +kernel
  refine is3_block h (win0_1.blk t).view.emb fun p r j => congr (congrArg₂ X ?_ ?_) ?_
  all_goals blk_simp; simp only [hi t] <;> omega

/-- The part of the columns that a point takes. -/
def dhB (d : Mat) (w : ℕ → Mat) (n : ℕ) : Mat := fun r k => ntS 1408 d w (n % 8 + 1) (1024 * (n / 16) + r) (1024 * (n / 8 % 2) + k)

theorem coord_2 : ∀ t : Fin grid0.N, (grid0.coords t 2).val = t.val % 8 := by decide +kernel

section
variable {V G : Mat} {W : ℕ → Mat}
  (hv : Is2 (n := 2048) (k := 5632) (m ((c.tc : Thread nD τ).loc main_arg0)) V)
  (hg : Is2 (n := 2048) (k := 5632) (m ((c.tc : Thread nD τ).loc main_arg1)) G)
  (hw : Is3 (n := 8) (k := 2048) (l := 1408) (m ((c.tc : Thread nD τ).loc main_arg2)) W)
include hv hg hw

/-- What a point adds. -/
theorem addend (t : Fin cfg0.N) : Is2 (k0_pay1 (F := Ideal) (grid0.coords t) (iblk m c 0 t) (iblk m c 1 t) (iblk m c 2 t))
    (fun r k => ntP 1408 (cat V G) W (t.val % 8) (1024 * (t.val / 16) + r) (1024 * (t.val / 8 % 2) + k)) := fun r k => by
  refine (dh_tile (in_v m c hv t) (in_w m c hw t) (in_g m c hg t) r k).trans ?_
  refine Finset.sum_congr rfl fun x _ => ?_
  have hx := x.isLt
  rw [coord_2 t]
  by_cases h : 4 ≤ t.val % 8
  · rw [if_pos h, cat, if_neg (by omega)]
    show G _ (1408 * (t.val % 8 - 4) + x.val) * _ = _
    rw [show 1408 * (t.val % 8 - 4) + x.val = 1408 * (t.val % 8) + x.val - 5632 by omega]
    rfl
  · rw [if_neg h, cat, if_pos (by omega)]
    show V _ (1408 * min (t.val % 8) 3 + x.val) * _ = _
    rw [show min (t.val % 8) 3 = t.val % 8 by omega]
    rfl

theorem pay2_tile (t : Fin cfg0.N) (h0 : t.val % 8 = 0) :
    Is2 (k0_pay2 (F := Ideal) (grid0.coords t) (iblk m c 0 t) (iblk m c 1 t) (iblk m c 2 t)) (dhB (cat V G) W t.val) := fun r k => by
  pointwise [k0_pay2]
  refine (addend m c hv hg hw t r k).trans ?_
  show _ = ∑ p ∈ Finset.range (t.val % 8 + 1), _
  rw [h0, Finset.sum_range_one]

theorem pay3_tile (t : Fin cfg0.N) (h0 : ¬t.val % 8 = 0) {a : Vec Ideal S1024x1024 .f32} (ha : Is2 a (dhB (cat V G) W (t.val - 1))) :
    Is2 (k0_pay3 (F := Ideal) (grid0.coords t) (iblk m c 0 t) (iblk m c 1 t) (iblk m c 2 t) a) (dhB (cat V G) W t.val) := fun r k => by
  have hN : cfg0.N = 32 := N_0
  have ht := t.isLt
  pointwise [k0_pay3]
  rw [ha _ _, addend m c hv hg hw t _ _]
  show (∑ p ∈ Finset.range ((t.val - 1) % 8 + 1), ntP 1408 (cat V G) W p (1024 * ((t.val - 1) / 16) + r) (1024 * ((t.val - 1) / 8 % 2) + k)) + _ = ∑ p ∈ Finset.range (t.val % 8 + 1), _
  rw [Finset.sum_range_succ _ (t.val % 8), show (t.val - 1) % 8 + 1 = t.val % 8 by omega, show (t.val - 1) / 16 = t.val / 16 by omega,
    show (t.val - 1) / 8 = t.val / 8 by omega]

/-- What the scratch holds after a point. -/
theorem carried : ∀ (n : ℕ) (h : n < cfg0.N), Is2 (outsAt0 (F := Ideal) m c n h).2 (dhB (cat V G) W n) := by
  intro n
  induction n with
  | zero =>
    intro h
    rw [outsAt0_A m c ⟨0, h⟩ rfl (by dsimp only; omega) (by dsimp only; omega)]
    frame_out
    exact pay2_tile m c hv hg hw ⟨0, h⟩ rfl
  | succ n ih =>
    intro h
    have hN : cfg0.N = 32 := N_0
    by_cases h0 : (n + 1) % 8 = 0
    · rw [outsAt0_A m c ⟨n + 1, h⟩ h0 (by dsimp only; omega) (by dsimp only; omega)]
      frame_out
      exact pay2_tile m c hv hg hw ⟨n + 1, h⟩ h0
    · by_cases h2 : (n + 1) % 8 = 7
      · rw [outsAt0_C m c ⟨n + 1, h⟩ h0 (by dsimp only; omega) h2]
        frame_out
        rw [read_unread_whole]
        exact pay3_tile m c hv hg hw ⟨n + 1, h⟩ h0 (ih _)
      · rw [outsAt0_B m c ⟨n + 1, h⟩ h0 (by dsimp only; omega) h2]
        frame_out
        rw [read_unread_whole]
        exact pay3_tile m c hv hg hw ⟨n + 1, h⟩ h0 (ih _)

/-- The array after the run. -/
theorem dh_arr : (dats (F := Ideal) m 0 c).arrAt 4 cfg0.N = arr2 2048 2048 (ntS 1408 (cat V G) W 8) := by
  have hi : ∀ t : Fin grid0.N, win0_4.index t 0 = t.val / 16 ∧ win0_4.index t 1 = t.val / 8 % 2 := by decide +kernel
  refine (dats m 0 c).arrAt_eq_of_cover 4 (arr2 2048 2048 (ntS 1408 (cat V G) W 8)) (fun t hf => ?_) fun i => ?_
  · have h7 : t.val % 8 = 7 := (flush0_4 t).mp hf
    have hb : Is2 (outsAt0 (F := Ideal) m c t.val t.isLt).1 (dhB (cat V G) W t.val) := by
      rw [outsAt0_C m c t (by omega) (by omega) h7]
      frame_out
      rw [read_unread_whole]
      exact pay3_tile m c hv hg hw t (by omega) (carried m c hv hg hw _ _)
    refine Eq.trans (show (dats m 0 c).flushed 4 t = (outsAt0 (F := Ideal) m c t.val t.isLt).1 from after0_4 m c t)
      (eq_block (f := ntS 1408 (cat V G) W 8) hb (win0_4.blk t).view.emb fun r j => ?_)
    have h0 : ((win0_4.blk t).view.emb (ix2 r j) 0).val = 1024 * (t.val / 16) + r.val := by blk_simp; rw [(hi t).1] <;> omega
    have h1 : ((win0_4.blk t).view.emb (ix2 r j) 1).val = 1024 * (t.val / 8 % 2) + j.val := by blk_simp; rw [(hi t).2] <;> omega
    rw [h0, h1, dhB, h7]
  · have h0 : (i 0).val < 2048 := (i 0).isLt
    have h1 : (i 1).val < 2048 := (i 1).isLt
    have hN : cfg0.N = 32 := N_0
    have hp : 16 * ((i 0).val / 1024) + 8 * ((i 1).val / 1024) + 7 < cfg0.N := by omega
    refine ⟨⟨16 * ((i 0).val / 1024) + 8 * ((i 1).val / 1024) + 7, hp⟩, (flush0_4 _).mpr (by dsimp only; omega), ?_⟩
    have h := hi ⟨16 * ((i 0).val / 1024) + 8 * ((i 1).val / 1024) + 7, hp⟩
    dsimp only at h
    mem_blk
    rw [h.1, h.2]
    omega

end

end Cert.Kernel3Ideal.Mix

namespace Cert.Reference3Ideal.Mix

open Reference3Ideal Reference3Ideal.Gen Reference3Ideal.Read Cert.Mix
open Idealize.ShloMosaic

theorem r8 {v g : FVec Ideal S2048x5632 .bf16} {w : FVec Ideal S8x2048x1408 .bf16} {V G : Mat} {W : ℕ → Mat}
    (hv : Is2 v V) (hg : Is2 g G) (hw : Is3 w W) : Is2 (val_main_v8 (F := Ideal) v g w) (ntS 1408 (cat V G) W 8) := fun r c => by
  refine Eq.trans ?_ (nt_sum 1408 _ _ _ _).symm
  simp only [val_main_v8, val_main_v5, val_main_v4, val_main_v3, val_main_v2, val_main_v1, val_main_v0]
  pointwise []
  simp only [hv _ _, hg _ _, hw _ _ _]
  refine Eq.trans ?_ (Fin.sum_univ_add (a := 5632) (b := 5632) fun n => cat V G r.val n.val * W (n.val / 1408) c.val (n.val % 1408)).symm
  refine congrArg₂ (fun a b : EReal => a + b) (Finset.sum_congr rfl fun x _ => ?_) (Finset.sum_congr rfl fun x _ => ?_)
  · show _ = cat V G r.val x.val * W (x.val / 1408) c.val (x.val % 1408)
    rw [cat, if_pos x.isLt]
  · show _ = cat V G r.val (5632 + x.val) * W ((5632 + x.val) / 1408) c.val ((5632 + x.val) % 1408)
    rw [cat, if_neg (by omega), Nat.add_sub_cancel_left]

end Cert.Reference3Ideal.Mix

namespace Cert.Mix

open Idealize.ShloMosaic TcCoe Idealize.SL.Sem

theorem equation3 : algebraic_Kernel3Ideal_Reference3Ideal (hKernel3Ideal := Kernel3Ideal.Gen.facts)
    (hReference3Ideal := Reference3Ideal.Gen.facts) := by
  intro m g m' g' _ he
  refine ⟨fun c => (Kernel3Ideal.Gen.dats (F := Ideal) m 0 c).arrAt 4 Kernel3Ideal.cfg0.N, Kernel3Ideal.Value.run_blocks m g, ?_⟩
  refine (θ_run _ _ _).mono (fun r h c => ?_) (Reference3Ideal.Value.run m' g')
  obtain ⟨e0, e1, e2, e3⟩ := he c
  obtain ⟨h0, h1⟩ := h c
  have hv := is2_mat2 (n := 2048) (k := 5632) (m ((c.tc : Thread Kernel3Ideal.nD Kernel3Ideal.τ).loc Kernel3Ideal.main_arg0))
  have hg := is2_mat2 (n := 2048) (k := 5632) (m ((c.tc : Thread Kernel3Ideal.nD Kernel3Ideal.τ).loc Kernel3Ideal.main_arg1))
  have hw := is3_mat3 (n := 8) (k := 2048) (l := 1408) (m ((c.tc : Thread Kernel3Ideal.nD Kernel3Ideal.τ).loc Kernel3Ideal.main_arg2))
  refine ⟨h0.trans ?_, h1⟩
  clear h h0 h1
  rw [Reference3Ideal.Read.val_main_v8_eq, e0, e1, e2]
  refine ext2 (Reference3Ideal.Mix.r8 hv hg hw) ?_ fun _ _ _ _ => rfl
  dsimp only
  rw [Kernel3Ideal.Mix.dh_arr m c hv hg hw]
  exact Kernel2Ideal.Mix.is2_arr2 _ _ _

end Cert.Mix

end
-- ==== Proof.MixDnRow.lean ====
module

public import proofs.«01_k».proof.Proof.MixReal

/-! # The norm's gradient on one row

The call subtracts from the gradient its mean product with the normalised row; the reference differentiates the square
root.  The two agree whatever the row, the gradient and the residual's gradient are: a row with an infinite entry is
normalised to zero, and on the others the scale is a positive number, which distributes over every sum. -/

@[expose] public section

noncomputable section

namespace Cert.Mix

open Idealize.ShloMosaic

/-- Minus one half. -/
def mh : EReal := Ideal.ofBits FTy.f32 3204448256#32

theorem mh_eq : mh = ((-(1 / 2) : ℝ) : EReal) := by
  rw [show (-(1 / 2) : ℝ) = -(8388608 * ((2 : ℝ) ^ 24)⁻¹) by norm_num]
  unfold mh
  rw [EReal.coe_neg, EReal.coe_mul]
  simp [Ideal.ofBits, Ideal.ieee]

/-- A number that is not negative, times a sum. -/
theorem sum_scale {ι : Type} (s : Finset ι) (f : ι → EReal) {q : ℝ} (hq : 0 ≤ q) : ∑ i ∈ s, f i * (q : EReal) = (∑ i ∈ s, f i) * (q : EReal) := by
  classical
  induction s using Finset.induction_on with
  | empty => simp
  | insert i s hi ih =>
    rw [Finset.sum_insert hi, Finset.sum_insert hi, ih, EReal.right_distrib_of_nonneg_of_ne_top (by exact_mod_cast hq) (EReal.coe_ne_top q)]

theorem double (p : ℝ) (s : EReal) : (p : EReal) * s + (p : EReal) * s = ((p + p : ℝ) : EReal) * s := by
  have h : ((p + p : ℝ) : EReal) = (2 : ℝ) * (p : EReal) := by rw [← EReal.coe_mul]; congr 1; ring
  rw [h, mul_assoc]
  have : ∀ y : EReal, y + y = ((2 : ℝ) : EReal) * y := fun y => by
    induction y with
    | bot => rw [EReal.coe_mul_bot_of_pos two_pos]; rfl
    | top => rw [EReal.coe_mul_top_of_pos two_pos]; rfl
    | coe y => rw [← EReal.coe_add, ← EReal.coe_mul]; congr 1; ring
  exact this _

/-- The sum of squares is a number that is not negative, or the row has an infinite entry and the sum is infinite. -/
theorem squares {n : ℕ} (x : Fin n → EReal) :
    ((∀ k, IsR (x k)) ∧ ∃ q : ℝ, 0 ≤ q ∧ ∑ k, x k * x k = (q : EReal)) ∨ ∑ k, x k * x k = ⊤ := by
  have hp : ∀ k, 0 ≤ x k * x k := fun k => by
    rcases le_total 0 (x k) with h | h
    · exact mul_nonneg h h
    · exact EReal.mul_nonneg_iff.mpr (.inr ⟨h, h⟩)
  by_cases h : ∀ k, IsR (x k)
  · refine .inl ⟨h, ?_⟩
    obtain ⟨q, hq⟩ := IsR.sum Finset.univ fun i (_ : i ∈ Finset.univ) => (h i).mul (h i)
    refine ⟨q, ?_, hq⟩
    have : (0 : EReal) ≤ ∑ k, x k * x k := Finset.sum_nonneg fun i _ => hp i
    rw [hq] at this
    exact_mod_cast this
  · refine .inr ?_
    obtain ⟨k, hk⟩ := not_forall.mp h
    have hk' : x k * x k = ⊤ := by
      induction hx : x k with
      | bot => rfl
      | top => rfl
      | coe y => exact absurd ⟨y, hx⟩ hk
    exact top_le_iff.mp (hk' ▸ Finset.single_le_sum (f := fun k => x k * x k) (fun i _ => hp i) (Finset.mem_univ k))

/-- The two forms of the gradient on a row. -/
theorem dnorm_row {l : ℕ} {w : EReal} (hw : ∃ n : ℝ, 0 < n ∧ w = (n : EReal)) (x a : Fin l → EReal) (d : EReal) (k : Fin l) (q : EReal)
    (hq : q = Ideal.div (∑ j, x j * x j) w + we) :
    d + Ideal.rsqrt q * (a k - x k * Ideal.rsqrt q * Ideal.div (∑ j, a j * (x j * Ideal.rsqrt q)) w)
      = d + a k * Ideal.rsqrt q + x k * Ideal.div ((∑ j, x j * a j) * (mh * Ideal.div (Ideal.rsqrt q) q)) w
        + Ideal.div ((∑ j, x j * a j) * (mh * Ideal.div (Ideal.rsqrt q) q)) w * x k := by
  obtain ⟨n, hn, en⟩ := hw
  obtain ⟨e, he, ee⟩ := we_pos
  have hn' := hn.ne'
  rw [en, Ideal.div_coe hn', Ideal.div_coe hn']
  rw [en, ee, Ideal.div_coe hn'] at hq
  rcases squares x with ⟨hx, s, hs, es⟩ | es
  · rw [es, ← EReal.coe_mul, ← EReal.coe_add] at hq
    have hz : 0 < s * (1 / n) + e := by positivity
    obtain ⟨z, hz0, rfl⟩ : ∃ z : ℝ, 0 < z ∧ q = (z : EReal) := ⟨_, hz, hq⟩
    clear hq hz
    obtain ⟨r, hr0, hr, hrr⟩ : ∃ r : ℝ, 0 ≤ r ∧ Ideal.rsqrt (z : EReal) = (r : EReal) ∧ r * r = 1 / z := by
      refine ⟨(Real.sqrt z)⁻¹, by positivity, ?_, ?_⟩
      · rw [Ideal.rsqrt_coe, if_neg (by linarith), if_neg hz0.ne']
      · rw [← mul_inv, Real.mul_self_sqrt hz0.le, one_div]
    obtain ⟨y, hy⟩ := hx k
    have hsum : ∑ j, a j * (x j * Ideal.rsqrt (z : EReal)) = (∑ j, x j * a j) * (r : EReal) := by
      rw [← sum_scale _ _ hr0, hr]
      exact Finset.sum_congr rfl fun j _ => by rw [← mul_assoc, mul_comm (a j)]
    rw [hsum, hr, hy, mh_eq, Ideal.div_coe hz0.ne']
    generalize ∑ j, x j * a j = S
    generalize a k = b
    have e1 : (y : EReal) * (r : EReal) * (S * (r : EReal) * ((1 / n : ℝ) : EReal)) = ((y * r * r * (1 / n) : ℝ) : EReal) * S := by
      push_cast
      ac_rfl
    have e2 : S * (((-(1 / 2) : ℝ) : EReal) * ((r : EReal) * ((1 / z : ℝ) : EReal))) * ((1 / n : ℝ) : EReal)
        = ((-(1 / 2) * (r * (1 / z)) * (1 / n) : ℝ) : EReal) * S := by
      simp only [EReal.coe_mul]
      ac_rfl
    have e3 : ∀ w : ℝ, (y : EReal) * ((w : EReal) * S) = ((w * y : ℝ) : EReal) * S := fun w => by
      rw [EReal.coe_mul]
      ac_rfl
    rw [e1, e2, mul_comm _ (y : EReal), e3, add_assoc, double, sub_eq_add_neg, ← EReal.neg_mul, ← EReal.coe_neg,
      EReal.left_distrib_of_nonneg_of_ne_top (by exact_mod_cast hr0) (EReal.coe_ne_top r), ← mul_assoc, ← EReal.coe_mul, ← add_assoc,
      mul_comm (r : EReal) b]
    congr 3
    rw [← hrr]
    ring
  · have hq' : q = ⊤ := by
      rw [hq, es, EReal.top_mul_coe_of_pos (by positivity)]
      rfl
    subst hq'
    have h0 : Ideal.div (0 : EReal) ⊤ = 0 := by simp [Ideal.div]
    simp [Ideal.rsqrt_top, h0]

end Cert.Mix

end
-- ==== Proof.MixDn.lean ====
module

public import proofs.«01_k».proof.Proof.Gen.Kernel4Ideal.Value
public import proofs.«01_k».proof.Proof.Gen.Reference4Ideal.Read
public import proofs.«01_k».proof.Proof.MixEquation
public import proofs.«01_k».proof.Proof.MixDnRow
public import Idealize.ShloMosaic.Lib.Pipeline.ReadBack

/-! # The norm's gradient

The call takes the rows 256 at a time. The gradient at the rows is read off one row at a time; the gradient of the
norm's weights is carried from point to point in the result's own block. -/

@[expose] public section

set_option maxRecDepth 16384

noncomputable section

namespace Cert.Mix

open Idealize.ShloMosaic

/-- A row's mean of squares, with the small number added. -/
def ms (x : Mat) (t : ℕ) : EReal := Ideal.div (∑ k : Fin 2048, x t k.val * x t k.val) wn + we
/-- The gradient at the rows. -/
def dnX (x g h d : Mat) : Mat := fun t k =>
  d t k + Ideal.rsqrt (ms x t) * (h t k * g 0 k - x t k * Ideal.rsqrt (ms x t)
    * Ideal.div (∑ j : Fin 2048, h t j.val * g 0 j.val * (x t j.val * Ideal.rsqrt (ms x t))) wn)
/-- The gradient of the norm's weights from one block of rows. -/
def dnP (x h : Mat) (p k : ℕ) : EReal := ∑ r : Fin 256, h (256 * p + r.val) k * (x (256 * p + r.val) k * Ideal.rsqrt (ms x (256 * p + r.val)))
/-- The gradient of the norm's weights from the first blocks. -/
def dnG (x h : Mat) (q : ℕ) : Mat := fun _ k => ∑ p ∈ Finset.range q, dnP x h p k

end Cert.Mix

namespace Cert.Kernel4Ideal.Mix

open Kernel4Ideal Kernel4Ideal.Gen Cert.Mix
open Kernel2Ideal.Mix (arr2 is2_block eq_block)
open Idealize.ShloMosaic TcCoe Idealize.SL.Sem

/-! ## One grid point -/

section
variable {x h d : Vec Ideal S256x2048 .f32} {g : Vec Ideal S1x2048 .f32} {X H D G : Mat} {o : ℕ}

theorem scale_tile (hx : Is2 x (fun r k => X (o + r) k)) : Is2 (k0_pay2 (F := Ideal) x) (fun r _ => Ideal.rsqrt (ms X (o + r))) := fun r k => by
  pointwise [k0_pay2]
  simp only [hx _ _]
  rfl

theorem norm_tile (hx : Is2 x (fun r k => X (o + r) k)) : Is2 (k0_pay3 (F := Ideal) x) (fun r k => X (o + r) k * Ideal.rsqrt (ms X (o + r))) := fun r k => by
  pointwise [k0_pay3]
  rw [hx _ _, scale_tile hx _ _]

theorem dx_tile (hx : Is2 x (fun r k => X (o + r) k)) (hh : Is2 h (fun r k => H (o + r) k)) (hg : Is2 g G)
    (hd : Is2 d (fun r k => D (o + r) k)) : Is2 (k0_pay4 (F := Ideal) x h g d) (fun r k => dnX X G H D (o + r) k) := fun r k => by
  pointwise [k0_pay4]
  simp only [hx _ _, hh _ _, hg _ _, hd _ _, norm_tile hx _ _, scale_tile hx _ _]
  rfl

theorem dg_tile (hx : Is2 x (fun r k => X (o + r) k)) (hh : Is2 h (fun r k => H (o + r) k)) : Is2 (k0_pay5 (F := Ideal) x h)
    (fun _ k => ∑ r : Fin 256, H (o + r.val) k * (X (o + r.val) k * Ideal.rsqrt (ms X (o + r.val)))) := fun r k => by
  pointwise [k0_pay5]
  simp only [hh _ _, norm_tile hx _ _]

end

/-! ## The arrays after the run -/

variable (m : (l : Loc nD τ sig) → Buf (Elt Ideal) l) (c : Dev nD)

theorem in_x {X : Mat} (h : Is2 (n := 2048) (k := 2048) (m ((c.tc : Thread nD τ).loc main_arg0)) X) (t : Fin cfg0.N) :
    Is2 (n := 256) (k := 2048) (iblk m c 0 t) (fun r k => X (256 * t.val + r) k) := by
  have hi : ∀ t : Fin grid0.N, win0_0.index t 0 = t.val ∧ win0_0.index t 1 = 0 := by decide +kernel
  refine is2_block h (win0_0.blk t).view.emb fun r j => congrArg₂ X ?_ ?_
  all_goals blk_simp; simp only [hi t] <;> omega

theorem in_g {X : Mat} (h : Is2 (n := 1) (k := 2048) (m ((c.tc : Thread nD τ).loc main_arg1)) X) (t : Fin cfg0.N) :
    Is2 (n := 1) (k := 2048) (iblk m c 1 t) X := by
  have hi : ∀ t : Fin grid0.N, win0_1.index t 0 = 0 ∧ win0_1.index t 1 = 0 := by decide +kernel
  refine is2_block h (win0_1.blk t).view.emb fun r j => congrArg₂ X ?_ ?_
  all_goals blk_simp; simp only [hi t] <;> omega

theorem in_h {X : Mat} (h : Is2 (n := 2048) (k := 2048) (m ((c.tc : Thread nD τ).loc main_arg2)) X) (t : Fin cfg0.N) :
    Is2 (n := 256) (k := 2048) (iblk m c 2 t) (fun r k => X (256 * t.val + r) k) := by
  have hi : ∀ t : Fin grid0.N, win0_2.index t 0 = t.val ∧ win0_2.index t 1 = 0 := by decide +kernel
  refine is2_block h (win0_2.blk t).view.emb fun r j => congrArg₂ X ?_ ?_
  all_goals blk_simp; simp only [hi t] <;> omega

theorem in_d {X : Mat} (h : Is2 (n := 2048) (k := 2048) (m ((c.tc : Thread nD τ).loc main_arg3)) X) (t : Fin cfg0.N) :
    Is2 (n := 256) (k := 2048) (iblk m c 3 t) (fun r k => X (256 * t.val + r) k) := by
  have hi : ∀ t : Fin grid0.N, win0_3.index t 0 = t.val ∧ win0_3.index t 1 = 0 := by decide +kernel
  refine is2_block h (win0_3.blk t).view.emb fun r j => congrArg₂ X ?_ ?_
  all_goals blk_simp; simp only [hi t] <;> omega

section
variable {X G H D : Mat}
  (hx : Is2 (n := 2048) (k := 2048) (m ((c.tc : Thread nD τ).loc main_arg0)) X)
  (hg : Is2 (n := 1) (k := 2048) (m ((c.tc : Thread nD τ).loc main_arg1)) G)
  (hh : Is2 (n := 2048) (k := 2048) (m ((c.tc : Thread nD τ).loc main_arg2)) H)
  (hd : Is2 (n := 2048) (k := 2048) (m ((c.tc : Thread nD τ).loc main_arg3)) D)
include hx hh

/-- The gradient of the norm's weights after a point. -/
theorem carried : ∀ (n : ℕ) (h : n < cfg0.N), Is2 (outsAt0 (F := Ideal) m c n h).2 (dnG X H (n + 1)) := by
  intro n
  induction n with
  | zero =>
    intro h
    rw [outsAt0_A m c ⟨0, h⟩ rfl (by dsimp only; omega)]
    frame_out
    intro r k
    refine (dg_tile (in_x m c hx ⟨0, h⟩) (in_h m c hh ⟨0, h⟩) r k).trans ?_
    show _ = ∑ p ∈ Finset.range 1, _
    rw [Finset.sum_range_one]
    rfl
  | succ n ih =>
    intro h
    have hN : cfg0.N = 8 := N_0
    rw [outsAt0_B m c ⟨n + 1, h⟩ (by dsimp only; omega) (by dsimp only; omega)]
    frame_out
    intro r k
    pointwise [k0_pay1]
    refine (congrArg₂ (fun a b : EReal => a + b) (ih (by omega) r k) (dg_tile (in_x m c hx ⟨n + 1, h⟩) (in_h m c hh ⟨n + 1, h⟩) r k)).trans ?_
    exact (Finset.sum_range_succ (fun p => dnP X H p k.val) (n + 1)).symm

/-- The gradient of the norm's weights after the run. -/
theorem dg_arr : (dats (F := Ideal) m 0 c).arrAt 6 cfg0.N = arr2 1 2048 (dnG X H 8) := by
  have hi : ∀ t : Fin grid0.N, win0_6.index t 0 = 0 ∧ win0_6.index t 1 = 0 := by decide +kernel
  have hN : cfg0.N = 8 := N_0
  refine (dats m 0 c).arrAt_eq_of_cover 6 (arr2 1 2048 (dnG X H 8)) (fun t hf => ?_) fun i => ?_
  · have h7 : t.val % 8 = 7 := (flush0_6 t).mp hf
    have ht : t.val < 8 := lt_of_lt_of_eq t.isLt N_0
    refine Eq.trans (show (dats m 0 c).flushed 6 t = (outsAt0 (F := Ideal) m c t.val t.isLt).2 from after0_6 m c t)
      (eq_block (f := dnG X H 8) (carried m c hx hh t.val t.isLt) (win0_6.blk t).view.emb fun r j => ?_)
    have h1 : ((win0_6.blk t).view.emb (ix2 r j) 1).val = j.val := by blk_simp; rw [(hi t).2] <;> omega
    rw [h1, show t.val + 1 = 8 by omega]
    rfl
  · have h0 : (i 0).val < 1 := (i 0).isLt
    have h1 : (i 1).val < 2048 := (i 1).isLt
    obtain ⟨t, ht⟩ : ∃ t : Fin cfg0.N, t.val = 7 := ⟨⟨7, by omega⟩, rfl⟩
    refine ⟨t, (flush0_6 t).mpr (by omega), ?_⟩
    have h := hi t
    mem_blk
    rw [h.1, h.2]
    omega

include hg hd

/-- The gradient at the rows after the run. -/
theorem dx_arr : (dats (F := Ideal) m 0 c).arrAt 5 cfg0.N = arr2 2048 2048 (dnX X G H D) := by
  have hi : ∀ t : Fin grid0.N, win0_5.index t 0 = t.val ∧ win0_5.index t 1 = 0 := by decide +kernel
  have hN : cfg0.N = 8 := N_0
  refine (dats m 0 c).arrAt_eq_of_cover 5 (arr2 2048 2048 (dnX X G H D)) (fun t hf => ?_) fun i => ?_
  · have hb : Is2 (outsAt0 (F := Ideal) m c t.val t.isLt).1 (fun r k => dnX X G H D (256 * t.val + r) k) := by
      have ht : t.val < 8 := lt_of_lt_of_eq t.isLt N_0
      by_cases h0 : t.val % 8 = 0
      · rw [outsAt0_A m c t h0 (by omega)]
        frame_out
        exact dx_tile (in_x m c hx t) (in_h m c hh t) (in_g m c hg t) (in_d m c hd t)
      · rw [outsAt0_B m c t h0 (by omega)]
        frame_out
        exact dx_tile (in_x m c hx t) (in_h m c hh t) (in_g m c hg t) (in_d m c hd t)
    refine Eq.trans (show (dats m 0 c).flushed 5 t = (outsAt0 (F := Ideal) m c t.val t.isLt).1 from after0_5 m c t)
      (eq_block (f := dnX X G H D) hb (win0_5.blk t).view.emb fun r j => ?_)
    have h0 : ((win0_5.blk t).view.emb (ix2 r j) 0).val = 256 * t.val + r.val := by blk_simp; rw [(hi t).1] <;> omega
    have h1 : ((win0_5.blk t).view.emb (ix2 r j) 1).val = j.val := by blk_simp; rw [(hi t).2] <;> omega
    rw [h0, h1]
  · have h0 : (i 0).val < 2048 := (i 0).isLt
    have h1 : (i 1).val < 2048 := (i 1).isLt
    have hp : (i 0).val / 256 < cfg0.N := by omega
    refine ⟨⟨(i 0).val / 256, hp⟩, flush0_5 _, ?_⟩
    have h := hi ⟨(i 0).val / 256, hp⟩
    dsimp only at h
    mem_blk
    rw [h.1, h.2]
    omega

end

end Cert.Kernel4Ideal.Mix

namespace Cert.Reference4Ideal.Mix

open Reference4Ideal Reference4Ideal.Gen Reference4Ideal.Read Cert.Mix
open Idealize.ShloMosaic

section
variable {x h d : FVec Ideal S2048x2048 .f32} {g : FVec Ideal S1x2048 .f32} {X G H D : Mat}

theorem r7 (hx : Is2 x X) : Is2 (val_main_v7 (F := Ideal) x) (fun t _ => ms X t) := fun r k => by
  simp only [val_main_v7, val_main_v6, val_main_v5, val_main_v4, val_main_v3, val_main_v2, val_main_v1, val_main_cst, val_main_cst_0, val_main_cst_1]
  pointwise []
  simp only [hx _ _]
  rfl

theorem r8 (hx : Is2 x X) : Is2 (val_main_v8 (F := Ideal) x) (fun t _ => Ideal.rsqrt (ms X t)) := fun r k => by
  simp only [val_main_v8]
  pointwise []
  rw [r7 hx _ _]

theorem r11 (hx : Is2 x X) : Is2 (val_main_v11 (F := Ideal) x) (fun t _ => mh * Ideal.div (Ideal.rsqrt (ms X t)) (ms X t)) := fun r k => by
  simp only [val_main_v11, val_main_v10, val_main_v9, val_main_cst_2]
  pointwise []
  rw [r7 hx _ _, r8 hx _ _]
  rfl

theorem r13 (hx : Is2 x X) : Is2 (val_main_v13 (F := Ideal) x) (fun t k => X t k * Ideal.rsqrt (ms X t)) := fun r k => by
  simp only [val_main_v13, val_main_v12]
  pointwise []
  rw [hx _ _, r8 hx _ _]

theorem r21 (hg : Is2 g G) (hh : Is2 h H) : Is2 (val_main_v21 (F := Ideal) g h) (fun t k => H t k * G 0 k) := fun r k => by
  simp only [val_main_v21, val_main_v20, val_main_v14, val_main_v0]
  pointwise []
  simp only [hg _ _, hh _ _]
  rfl

theorem r33 (hx : Is2 x X) (hg : Is2 g G) (hh : Is2 h H) : Is2 (val_main_v33 (F := Ideal) x g h)
    (fun t _ => Ideal.div ((∑ j : Fin 2048, X t j.val * (H t j.val * G 0 j.val)) * (mh * Ideal.div (Ideal.rsqrt (ms X t)) (ms X t))) wn) := fun r k => by
  simp only [val_main_v33, val_main_v32, val_main_v31, val_main_v30, val_main_v29, val_main_v25, val_main_v24, val_main_v23, val_main_cst_4,
    val_main_cst_5, val_main_cst_6, val_main_cst_7]
  pointwise []
  simp only [hx _ _, r21 hg hh _ _, r11 hx _ _]
  exact Fin.sum_univ_one _

theorem r37 (hx : Is2 x X) (hg : Is2 g G) (hh : Is2 h H) (hd : Is2 d D) : Is2 (val_main_v37 (F := Ideal) x g h d) (dnX X G H D) := fun r k => by
  simp only [val_main_v37, val_main_v36, val_main_v35, val_main_v34, val_main_v28, val_main_v27, val_main_v26]
  pointwise []
  simp only [hx _ _, hd _ _, r21 hg hh _ _, r8 hx _ _, r33 hx hg hh _ _]
  exact (dnorm_row wn_pos (fun j => X r.val j.val) (fun j => H r.val j.val * G 0 j.val) (D r.val k.val) k (ms X r.val) rfl).symm

theorem r38 (hx : Is2 x X) (hh : Is2 h H) : Is2 (val_main_v38 (F := Ideal) x h) (dnG X H 8) := fun r k => by
  simp only [val_main_v38, val_main_v22, val_main_v19, val_main_v18, val_main_v17, val_main_cst_3, val_main_cst_4]
  pointwise []
  simp only [hh _ _, r13 hx _ _]
  show _ = ∑ p ∈ Finset.range 8, ∑ r : Fin 256, H (256 * p + r.val) k.val * (X (256 * p + r.val) k.val * Ideal.rsqrt (ms X (256 * p + r.val)))
  rw [Finset.sum_range, Fin.sum_univ_one]
  refine Fin.sum_divmod_congr (S := 256) (f := fun p r => H (256 * p.val + r) k.val * (X (256 * p.val + r) k.val * Ideal.rsqrt (ms X (256 * p.val + r)))) fun n ha hs => ?_
  show _ = H (256 * (n.val / 256) + n.val % 256) k.val * (X (256 * (n.val / 256) + n.val % 256) k.val * Ideal.rsqrt (ms X (256 * (n.val / 256) + n.val % 256)))
  rw [Nat.div_add_mod, mul_comm]

end

end Cert.Reference4Ideal.Mix

namespace Cert.Mix

open Idealize.ShloMosaic TcCoe Idealize.SL.Sem

open Kernel4Ideal (nD τ main_arg0 main_arg1 main_arg2 main_arg3) in
theorem equation4 : algebraic_Kernel4Ideal_Reference4Ideal (hKernel4Ideal := Kernel4Ideal.Gen.facts)
    (hReference4Ideal := Reference4Ideal.Gen.facts) := by
  intro m g m' g' _ he
  refine ⟨fun c => (Kernel4Ideal.Gen.dats (F := Ideal) m 0 c).arrAt 5 Kernel4Ideal.cfg0.N,
    fun c => (Kernel4Ideal.Gen.dats (F := Ideal) m 0 c).arrAt 6 Kernel4Ideal.cfg0.N, Kernel4Ideal.Value.run_blocks m g, ?_⟩
  refine (θ_run _ _ _).mono (fun r h c => ?_) (Reference4Ideal.Value.run m' g')
  obtain ⟨e0, e1, e2, e3, e4⟩ := he c
  obtain ⟨h0, h1, h2⟩ := h c
  have hx := is2_mat2 (n := 2048) (k := 2048) (m ((c.tc : Thread nD τ).loc main_arg0))
  have hg := is2_mat2 (n := 1) (k := 2048) (m ((c.tc : Thread nD τ).loc main_arg1))
  have hh := is2_mat2 (n := 2048) (k := 2048) (m ((c.tc : Thread nD τ).loc main_arg2))
  have hd := is2_mat2 (n := 2048) (k := 2048) (m ((c.tc : Thread nD τ).loc main_arg3))
  refine ⟨h0.trans ?_, h1.trans ?_, h2⟩
  · clear h h0 h1 h2
    rw [Reference4Ideal.Read.val_main_v37_eq, e0, e1, e2, e3]
    refine ext2 (Reference4Ideal.Mix.r37 hx hg hh hd) ?_ fun _ _ _ _ => rfl
    dsimp only
    rw [Kernel4Ideal.Mix.dx_arr m c hx hg hh hd]
    exact Kernel2Ideal.Mix.is2_arr2 _ _ _
  · clear h h0 h1 h2
    rw [Reference4Ideal.Read.val_main_v38_eq, e0, e2]
    refine ext2 (Reference4Ideal.Mix.r38 hx hh) ?_ fun _ _ _ _ => rfl
    dsimp only
    rw [Kernel4Ideal.Mix.dg_arr m c hx hh]
    exact Kernel2Ideal.Mix.is2_arr2 _ _ _

end Cert.Mix

end
-- ==== Proof.MixGlu.lean ====
module

public import proofs.«01_k».proof.Proof.Gen.Kernel5Ideal.Value
public import proofs.«01_k».proof.Proof.Gen.Reference5Ideal.Read
public import proofs.«01_k».proof.Proof.MixEquation
public import Idealize.ShloMosaic.Lib.Pipeline.ReadBack

/-! # The gated output's gradient

The call takes the rows 256 at a time: the gradients at the value columns and at the gate columns are laid side by side,
and the gradient of the bias, the sum over the rows, is carried from point to point in the result's own block. -/

@[expose] public section

set_option maxRecDepth 16384

noncomputable section

namespace Cert.Mix

open Idealize.ShloMosaic

/-- The gradient at the product, value columns and then gate columns. -/
def glD (d v g : Mat) : Mat := fun t k =>
  if k < 2048 then d t k * sg (g t k) else d t (k - 2048) * v t (k - 2048) * (sg (g t (k - 2048)) * (1 - sg (g t (k - 2048))))
/-- The sums over the first blocks of rows. -/
def glB (e : Mat) (q : ℕ) : Mat := fun _ k => ∑ p ∈ Finset.range q, ∑ r : Fin 256, e (256 * p + r.val) k

/-- The sum over all rows, block by block. -/
theorem gl_sum (e : Mat) (r k : ℕ) : glB e 8 r k = ∑ t : Fin 2048, e t.val k := by
  show ∑ p ∈ Finset.range 8, ∑ r : Fin 256, e (256 * p + r.val) k = _
  rw [Finset.sum_range]
  refine (Fin.sum_divmod_congr (S := 256) (f := fun p r => e (256 * p.val + r) k) fun n ha hs => ?_).symm
  show _ = e (256 * (n.val / 256) + n.val % 256) k
  rw [Nat.div_add_mod]

end Cert.Mix

namespace Cert.Kernel5Ideal.Mix

open Kernel5Ideal Kernel5Ideal.Gen Cert.Mix
open Kernel2Ideal.Mix (arr2 is2_block eq_block)
open Idealize.ShloMosaic TcCoe Idealize.SL.Sem

/-! ## One grid point -/

section
variable {g d v : Vec Ideal S256x2048 .f32} {G D V : Mat} {o : ℕ}
  (hg : Is2 g (fun r k => G (o + r) k)) (hd : Is2 d (fun r k => D (o + r) k)) (hv : Is2 v (fun r k => V (o + r) k))
include hg hd hv

theorem grad_tile : Is2 (k0_pay1 (F := Ideal) g d v) (fun r k => glD D V G (o + r) k) := fun r k => by
  pointwise [k0_pay1]
  simp only [hg _ _, hd _ _, hv _ _]
  unfold glD sg
  by_cases h : k.val < 2048
  · rw [dif_pos h, if_pos h]
  · rw [dif_neg h, if_neg h]

theorem out_tile : Is2 (k0_pay2 (F := Ideal) g d v) (fun r k => glD D V G (o + r) k) := fun r k => by
  pointwise [k0_pay2]
  exact grad_tile hg hd hv r k

theorem sum_tile : Is2 (k0_pay3 (F := Ideal) g d v) (fun _ k => ∑ r : Fin 256, glD D V G (o + r.val) k) := fun r k => by
  pointwise [k0_pay3]
  simp only [grad_tile hg hd hv _ _]

end

/-! ## The arrays after the run -/

variable (m : (l : Loc nD τ sig) → Buf (Elt Ideal) l) (c : Dev nD)

theorem in_d {X : Mat} (h : Is2 (n := 2048) (k := 2048) (m ((c.tc : Thread nD τ).loc main_arg0)) X) (t : Fin cfg0.N) :
    Is2 (n := 256) (k := 2048) (iblk m c 0 t) (fun r k => X (256 * t.val + r) k) := by
  have hi : ∀ t : Fin grid0.N, win0_0.index t 0 = t.val ∧ win0_0.index t 1 = 0 := by decide +kernel
  refine is2_block h (win0_0.blk t).view.emb fun r j => congrArg₂ X ?_ ?_
  all_goals blk_simp; simp only [hi t] <;> omega

theorem in_v {X : Mat} (h : Is2 (n := 2048) (k := 2048) (m ((c.tc : Thread nD τ).loc main_arg1)) X) (t : Fin cfg0.N) :
    Is2 (n := 256) (k := 2048) (iblk m c 1 t) (fun r k => X (256 * t.val + r) k) := by
  have hi : ∀ t : Fin grid0.N, win0_1.index t 0 = t.val ∧ win0_1.index t 1 = 0 := by decide +kernel
  refine is2_block h (win0_1.blk t).view.emb fun r j => congrArg₂ X ?_ ?_
  all_goals blk_simp; simp only [hi t] <;> omega

theorem in_g {X : Mat} (h : Is2 (n := 2048) (k := 2048) (m ((c.tc : Thread nD τ).loc main_arg2)) X) (t : Fin cfg0.N) :
    Is2 (n := 256) (k := 2048) (iblk m c 2 t) (fun r k => X (256 * t.val + r) k) := by
  have hi : ∀ t : Fin grid0.N, win0_2.index t 0 = t.val ∧ win0_2.index t 1 = 0 := by decide +kernel
  refine is2_block h (win0_2.blk t).view.emb fun r j => congrArg₂ X ?_ ?_
  all_goals blk_simp; simp only [hi t] <;> omega

section
variable {G D V : Mat}
  (hd : Is2 (n := 2048) (k := 2048) (m ((c.tc : Thread nD τ).loc main_arg0)) D)
  (hv : Is2 (n := 2048) (k := 2048) (m ((c.tc : Thread nD τ).loc main_arg1)) V)
  (hg : Is2 (n := 2048) (k := 2048) (m ((c.tc : Thread nD τ).loc main_arg2)) G)
include hd hv hg

/-- The gradient of the bias after a point. -/
theorem carried : ∀ (n : ℕ) (h : n < cfg0.N), Is2 (outsAt0 (F := Ideal) m c n h).2 (glB (glD D V G) (n + 1)) := by
  intro n
  induction n with
  | zero =>
    intro h
    rw [outsAt0_A m c ⟨0, h⟩ rfl (by dsimp only; omega)]
    frame_out
    intro r k
    refine (sum_tile (in_g m c hg ⟨0, h⟩) (in_d m c hd ⟨0, h⟩) (in_v m c hv ⟨0, h⟩) r k).trans ?_
    show _ = ∑ p ∈ Finset.range 1, _
    rw [Finset.sum_range_one]
  | succ n ih =>
    intro h
    have hN : cfg0.N = 8 := N_0
    rw [outsAt0_B m c ⟨n + 1, h⟩ (by dsimp only; omega) (by dsimp only; omega)]
    frame_out
    intro r k
    pointwise [k0_pay4]
    refine (congrArg₂ (fun a b : EReal => a + b) (ih (by omega) r k)
      (sum_tile (in_g m c hg ⟨n + 1, h⟩) (in_d m c hd ⟨n + 1, h⟩) (in_v m c hv ⟨n + 1, h⟩) r k)).trans ?_
    exact (Finset.sum_range_succ (fun p => ∑ r : Fin 256, glD D V G (256 * p + r.val) k.val) (n + 1)).symm

/-- The gradient of the bias after the run. -/
theorem db_arr : (dats (F := Ideal) m 0 c).arrAt 4 cfg0.N = arr2 1 4096 (glB (glD D V G) 8) := by
  have hi : ∀ t : Fin grid0.N, win0_4.index t 0 = 0 ∧ win0_4.index t 1 = 0 := by decide +kernel
  have hN : cfg0.N = 8 := N_0
  refine (dats m 0 c).arrAt_eq_of_cover 4 (arr2 1 4096 (glB (glD D V G) 8)) (fun t hf => ?_) fun i => ?_
  · have h7 : t.val % 8 = 7 := (flush0_4 t).mp hf
    have ht : t.val < 8 := lt_of_lt_of_eq t.isLt N_0
    refine Eq.trans (show (dats m 0 c).flushed 4 t = (outsAt0 (F := Ideal) m c t.val t.isLt).2 from after0_4 m c t)
      (eq_block (f := glB (glD D V G) 8) (carried m c hd hv hg t.val t.isLt) (win0_4.blk t).view.emb fun r j => ?_)
    have h1 : ((win0_4.blk t).view.emb (ix2 r j) 1).val = j.val := by blk_simp; rw [(hi t).2] <;> omega
    rw [h1, show t.val + 1 = 8 by omega]
    rfl
  · have h0 : (i 0).val < 1 := (i 0).isLt
    have h1 : (i 1).val < 4096 := (i 1).isLt
    obtain ⟨t, ht⟩ : ∃ t : Fin cfg0.N, t.val = 7 := ⟨⟨7, by omega⟩, rfl⟩
    refine ⟨t, (flush0_4 t).mpr (by omega), ?_⟩
    have h := hi t
    mem_blk
    rw [h.1, h.2]
    omega

/-- The gradient at the product after the run. -/
theorem dgv_arr : (dats (F := Ideal) m 0 c).arrAt 3 cfg0.N = arr2 2048 4096 (glD D V G) := by
  have hi : ∀ t : Fin grid0.N, win0_3.index t 0 = t.val ∧ win0_3.index t 1 = 0 := by decide +kernel
  have hN : cfg0.N = 8 := N_0
  refine (dats m 0 c).arrAt_eq_of_cover 3 (arr2 2048 4096 (glD D V G)) (fun t hf => ?_) fun i => ?_
  · have hb : Is2 (outsAt0 (F := Ideal) m c t.val t.isLt).1 (fun r k => glD D V G (256 * t.val + r) k) := by
      have ht : t.val < 8 := lt_of_lt_of_eq t.isLt N_0
      by_cases h0 : t.val % 8 = 0
      · rw [outsAt0_A m c t h0 (by omega)]
        frame_out
        exact out_tile (in_g m c hg t) (in_d m c hd t) (in_v m c hv t)
      · rw [outsAt0_B m c t h0 (by omega)]
        frame_out
        exact out_tile (in_g m c hg t) (in_d m c hd t) (in_v m c hv t)
    refine Eq.trans (show (dats m 0 c).flushed 3 t = (outsAt0 (F := Ideal) m c t.val t.isLt).1 from after0_3 m c t)
      (eq_block (f := glD D V G) hb (win0_3.blk t).view.emb fun r j => ?_)
    have h0 : ((win0_3.blk t).view.emb (ix2 r j) 0).val = 256 * t.val + r.val := by blk_simp; rw [(hi t).1] <;> omega
    have h1 : ((win0_3.blk t).view.emb (ix2 r j) 1).val = j.val := by blk_simp; rw [(hi t).2] <;> omega
    rw [h0, h1]
  · have h0 : (i 0).val < 2048 := (i 0).isLt
    have h1 : (i 1).val < 4096 := (i 1).isLt
    have hp : (i 0).val / 256 < cfg0.N := by omega
    refine ⟨⟨(i 0).val / 256, hp⟩, flush0_3 _, ?_⟩
    have h := hi ⟨(i 0).val / 256, hp⟩
    dsimp only at h
    mem_blk
    rw [h.1, h.2]
    omega

end

end Cert.Kernel5Ideal.Mix

namespace Cert.Reference5Ideal.Mix

open Reference5Ideal Reference5Ideal.Gen Reference5Ideal.Read Cert.Mix
open Idealize.ShloMosaic

section
variable {d v g : FVec Ideal S2048x2048 .f32} {G D V : Mat}

theorem r5 (hv : Is2 v V) : Is2 (val_main_v5 (F := Ideal) v g) V := fun r k => by
  simp only [val_main_v5, val_main_v4, val_main_v3, val_main_v2, val_main_v1, val_main_v0, val_main_cst]
  pointwise []
  exact hv _ _

theorem r6 (hg : Is2 g G) : Is2 (val_main_v6 (F := Ideal) v g) G := fun r k => by
  simp only [val_main_v6, val_main_v4, val_main_v3, val_main_v2, val_main_v1, val_main_v0, val_main_cst]
  pointwise []
  exact hg _ _

theorem r12 (hg : Is2 g G) : Is2 (val_main_v12 (F := Ideal) v g) (fun t k => sg (G t k)) := fun r k => by
  simp only [val_main_v12, val_main_v11, val_main_v10, val_main_v9, val_main_v8, val_main_v7, val_main_cst_0, val_main_cst_1]
  pointwise []
  rw [r6 hg _ _]
  unfold sg
  rw [zero_sub]

theorem r20 (hd : Is2 d D) (hv : Is2 v V) (hg : Is2 g G) : Is2 (val_main_v20 (F := Ideal) d v g) (glD D V G) := fun r k => by
  simp only [val_main_v20, val_main_v19, val_main_v18, val_main_v17, val_main_v15, val_main_v14, val_main_v13, val_main_cst_2]
  pointwise []
  simp only [r12 hg _ _, r5 hv _ _, hd _ _]
  unfold glD
  by_cases h : k.val < 2048
  · rw [dif_pos h, if_pos h]
  · rw [dif_neg h, if_neg h, mul_comm (V _ _)]

theorem r24 (hd : Is2 d D) (hv : Is2 v V) (hg : Is2 g G) : Is2 (val_main_v24 (F := Ideal) d v g) (glD D V G) := fun r k => by
  simp only [val_main_v24]
  pointwise []
  exact r20 hd hv hg r k

theorem r25 (hd : Is2 d D) (hv : Is2 v V) (hg : Is2 g G) : Is2 (val_main_v25 (F := Ideal) d v g) (glB (glD D V G) 8) := fun r k => by
  rw [gl_sum]
  simp only [val_main_v25, val_main_v23, val_main_v22, val_main_v21, val_main_cst_3, val_main_cst_4]
  pointwise []
  simp only [r20 hd hv hg _ _]
  exact Fin.sum_univ_one _

end

end Cert.Reference5Ideal.Mix

namespace Cert.Mix

open Idealize.ShloMosaic TcCoe Idealize.SL.Sem

theorem equation5 : algebraic_Kernel5Ideal_Reference5Ideal (hKernel5Ideal := Kernel5Ideal.Gen.facts)
    (hReference5Ideal := Reference5Ideal.Gen.facts) := by
  intro m g m' g' _ he
  refine ⟨fun c => (Kernel5Ideal.Gen.dats (F := Ideal) m 0 c).arrAt 3 Kernel5Ideal.cfg0.N,
    fun c => (Kernel5Ideal.Gen.dats (F := Ideal) m 0 c).arrAt 4 Kernel5Ideal.cfg0.N, Kernel5Ideal.Value.run_blocks m g, ?_⟩
  refine (θ_run _ _ _).mono (fun r h c => ?_) (Reference5Ideal.Value.run m' g')
  obtain ⟨e0, e1, e2⟩ := he c
  obtain ⟨h0, h1, h2⟩ := h c
  have hd := is2_mat2 (n := 2048) (k := 2048) (m ((c.tc : Thread Kernel5Ideal.nD Kernel5Ideal.τ).loc Kernel5Ideal.main_arg0))
  have hv := is2_mat2 (n := 2048) (k := 2048) (m ((c.tc : Thread Kernel5Ideal.nD Kernel5Ideal.τ).loc Kernel5Ideal.main_arg1))
  have hg := is2_mat2 (n := 2048) (k := 2048) (m ((c.tc : Thread Kernel5Ideal.nD Kernel5Ideal.τ).loc Kernel5Ideal.main_arg2))
  refine ⟨h0.trans ?_, h1.trans ?_, h2⟩
  · clear h h0 h1 h2
    rw [Reference5Ideal.Read.val_main_v24_eq, e0, e1, e2]
    refine ext2 (Reference5Ideal.Mix.r24 hd hv hg) ?_ fun _ _ _ _ => rfl
    dsimp only
    rw [Kernel5Ideal.Mix.dgv_arr m c hd hv hg]
    exact Kernel2Ideal.Mix.is2_arr2 _ _ _
  · clear h h0 h1 h2
    rw [Reference5Ideal.Read.val_main_v25_eq, e0, e1, e2]
    refine ext2 (Reference5Ideal.Mix.r25 hd hv hg) ?_ fun _ _ _ _ => rfl
    dsimp only
    rw [Kernel5Ideal.Mix.db_arr m c hd hv hg]
    exact Kernel2Ideal.Mix.is2_arr2 _ _ _

end Cert.Mix

end
-- ==== Proof.MixNt.lean ====
module

public import proofs.«01_k».proof.Proof.Gen.Kernel7Ideal.Value
public import proofs.«01_k».proof.Proof.Gen.Reference7Ideal.Read
public import proofs.«01_k».proof.Proof.Gen.Kernel9Ideal.Value
public import proofs.«01_k».proof.Proof.Gen.Reference9Ideal.Read
public import proofs.«01_k».proof.Proof.MixDh

/-! # The gradients that go back through the gated product and through the attention's first product

Both calls add the products of eight pieces of columns, one after another; the pieces are 512 columns wide in the
first and 768 in the second. -/

@[expose] public section

set_option maxRecDepth 16384

noncomputable section

namespace Cert.Mix

/-- The part of the columns that a point has added when it ends. -/
def ntB (b : ℕ) (d : Mat) (w : ℕ → Mat) (n : ℕ) : Mat := fun r k => ntS b d w (n % 8 + 1) (512 * (n / 16) + r) (1024 * (n / 8 % 2) + k)

theorem ntB_first (b : ℕ) (d : Mat) (w : ℕ → Mat) {n : ℕ} (h : n % 8 = 0) (r k : ℕ) :
    ntP b d w (n % 8) (512 * (n / 16) + r) (1024 * (n / 8 % 2) + k) = ntB b d w n r k := by
  show _ = ∑ p ∈ Finset.range (n % 8 + 1), _
  rw [h, Finset.sum_range_one]

theorem ntB_next (b : ℕ) (d : Mat) (w : ℕ → Mat) {n : ℕ} (h : ¬n % 8 = 0) (r k : ℕ) :
    ntB b d w (n - 1) r k + ntP b d w (n % 8) (512 * (n / 16) + r) (1024 * (n / 8 % 2) + k) = ntB b d w n r k := by
  show (∑ p ∈ Finset.range ((n - 1) % 8 + 1), ntP b d w p (512 * ((n - 1) / 16) + r) (1024 * ((n - 1) / 8 % 2) + k)) + _
    = ∑ p ∈ Finset.range (n % 8 + 1), _
  rw [Finset.sum_range_succ _ (n % 8), show (n - 1) % 8 + 1 = n % 8 by omega, show (n - 1) / 16 = n / 16 by omega,
    show (n - 1) / 8 = n / 8 by omega]

end Cert.Mix

namespace Cert.Kernel7Ideal.Mix

open Kernel7Ideal Kernel7Ideal.Gen Cert.Mix
open Kernel2Ideal.Mix (arr2 is2_block is3_block eq_block)
open Idealize.ShloMosaic TcCoe Idealize.SL.Sem

variable (m : (ℓ : Loc nD τ sig) → Buf (Elt Ideal) ℓ) (c : Dev nD)

theorem in_d {X : Mat} (h : Is2 (n := 2048) (k := 4096) (m ((c.tc : Thread nD τ).loc main_arg0)) X) (t : Fin cfg0.N) :
    Is2 (n := 512) (k := 512) (iblk m c 0 t) (fun r j => X (512 * (t.val / 16) + r) (512 * (t.val % 8) + j)) := by
  have hi : ∀ t : Fin grid0.N, win0_0.index t 0 = t.val / 16 ∧ win0_0.index t 1 = t.val % 8 := by decide +kernel
  refine is2_block h (win0_0.blk t).view.emb fun r j => congrArg₂ X ?_ ?_
  all_goals blk_simp; simp only [hi t] <;> omega

theorem in_w {X : ℕ → Mat} (h : Is3 (n := 8) (k := 2048) (l := 512) (m ((c.tc : Thread nD τ).loc main_arg1)) X) (t : Fin cfg0.N) :
    Is3 (n := 1) (k := 1024) (l := 512) (iblk m c 1 t) (fun p r j => X (t.val % 8 + p) (1024 * (t.val / 8 % 2) + r) j) := by
  have hi : ∀ t : Fin grid0.N, win0_1.index t 0 = t.val % 8 ∧ win0_1.index t 1 = t.val / 8 % 2 ∧ win0_1.index t 2 = 0 := by decide +kernel
  refine is3_block h (win0_1.blk t).view.emb fun p r j => congr (congrArg₂ X ?_ ?_) ?_
  all_goals blk_simp; simp only [hi t] <;> omega

section
variable {D : Mat} {W : ℕ → Mat}
  (hd : Is2 (n := 2048) (k := 4096) (m ((c.tc : Thread nD τ).loc main_arg0)) D)
  (hw : Is3 (n := 8) (k := 2048) (l := 512) (m ((c.tc : Thread nD τ).loc main_arg1)) W)
include hd hw

/-- What a point adds. -/
theorem addend (t : Fin cfg0.N) : Is2 (k0_pay1 (F := Ideal) (iblk m c 0 t) (iblk m c 1 t))
    (fun r k => ntP 512 D W (t.val % 8) (512 * (t.val / 16) + r) (1024 * (t.val / 8 % 2) + k)) := fun r k => by
  pointwise [k0_pay1]
  simp only [in_d m c hd t _ _, in_w m c hw t _ _ _]
  rfl

theorem pay2_tile (t : Fin cfg0.N) (h0 : t.val % 8 = 0) : Is2 (k0_pay2 (F := Ideal) (iblk m c 0 t) (iblk m c 1 t)) (ntB 512 D W t.val) := fun r k => by
  pointwise [k0_pay2]
  exact (addend m c hd hw t r k).trans (ntB_first 512 D W h0 _ _)

theorem pay3_tile (t : Fin cfg0.N) (h0 : ¬t.val % 8 = 0) {a : Vec Ideal S512x1024 .f32} (ha : Is2 a (ntB 512 D W (t.val - 1))) :
    Is2 (k0_pay3 (F := Ideal) (iblk m c 0 t) (iblk m c 1 t) a) (ntB 512 D W t.val) := fun r k => by
  pointwise [k0_pay3]
  rw [ha _ _, addend m c hd hw t _ _]
  exact ntB_next 512 D W h0 _ _

/-- What the scratch holds after a point. -/
theorem carried : ∀ (n : ℕ) (h : n < cfg0.N), Is2 (outsAt0 (F := Ideal) m c n h).2 (ntB 512 D W n) := by
  intro n
  induction n with
  | zero =>
    intro h
    rw [outsAt0_A m c ⟨0, h⟩ rfl (by dsimp only; omega) (by dsimp only; omega)]
    frame_out
    exact pay2_tile m c hd hw ⟨0, h⟩ rfl
  | succ n ih =>
    intro h
    by_cases h0 : (n + 1) % 8 = 0
    · rw [outsAt0_A m c ⟨n + 1, h⟩ h0 (by dsimp only; omega) (by dsimp only; omega)]
      frame_out
      exact pay2_tile m c hd hw ⟨n + 1, h⟩ h0
    · by_cases h2 : (n + 1) % 8 = 7
      · rw [outsAt0_C m c ⟨n + 1, h⟩ h0 (by dsimp only; omega) h2]
        frame_out
        rw [read_unread_whole]
        exact pay3_tile m c hd hw ⟨n + 1, h⟩ h0 (ih _)
      · rw [outsAt0_B m c ⟨n + 1, h⟩ h0 (by dsimp only; omega) h2]
        frame_out
        rw [read_unread_whole]
        exact pay3_tile m c hd hw ⟨n + 1, h⟩ h0 (ih _)

/-- The array after the run. -/
theorem nt_arr : (dats (F := Ideal) m 0 c).arrAt 3 cfg0.N = arr2 2048 2048 (ntS 512 D W 8) := by
  have hi : ∀ t : Fin grid0.N, win0_3.index t 0 = t.val / 16 ∧ win0_3.index t 1 = t.val / 8 % 2 := by decide +kernel
  refine (dats m 0 c).arrAt_eq_of_cover 3 (arr2 2048 2048 (ntS 512 D W 8)) (fun t hf => ?_) fun i => ?_
  · have h7 : t.val % 8 = 7 := (flush0_3 t).mp hf
    have hb : Is2 (outsAt0 (F := Ideal) m c t.val t.isLt).1 (ntB 512 D W t.val) := by
      rw [outsAt0_C m c t (by omega) (by omega) h7]
      frame_out
      rw [read_unread_whole]
      exact pay3_tile m c hd hw t (by omega) (carried m c hd hw _ _)
    refine Eq.trans (show (dats m 0 c).flushed 3 t = (outsAt0 (F := Ideal) m c t.val t.isLt).1 from after0_3 m c t)
      (eq_block (f := ntS 512 D W 8) hb (win0_3.blk t).view.emb fun r j => ?_)
    have h0 : ((win0_3.blk t).view.emb (ix2 r j) 0).val = 512 * (t.val / 16) + r.val := by blk_simp; rw [(hi t).1] <;> omega
    have h1 : ((win0_3.blk t).view.emb (ix2 r j) 1).val = 1024 * (t.val / 8 % 2) + j.val := by blk_simp; rw [(hi t).2] <;> omega
    rw [h0, h1, ntB, h7]
  · have h0 : (i 0).val < 2048 := (i 0).isLt
    have h1 : (i 1).val < 2048 := (i 1).isLt
    have hN : cfg0.N = 64 := N_0
    have hp : 16 * ((i 0).val / 512) + 8 * ((i 1).val / 1024) + 7 < cfg0.N := by omega
    refine ⟨⟨16 * ((i 0).val / 512) + 8 * ((i 1).val / 1024) + 7, hp⟩, (flush0_3 _).mpr (by dsimp only; omega), ?_⟩
    have h := hi ⟨16 * ((i 0).val / 512) + 8 * ((i 1).val / 1024) + 7, hp⟩
    dsimp only at h
    mem_blk
    rw [h.1, h.2]
    omega

end

end Cert.Kernel7Ideal.Mix

namespace Cert.Reference7Ideal.Mix

open Reference7Ideal Reference7Ideal.Gen Reference7Ideal.Read Cert.Mix
open Idealize.ShloMosaic

theorem r6 {d : FVec Ideal S2048x4096 .bf16} {w : FVec Ideal S8x2048x512 .bf16} {D : Mat} {W : ℕ → Mat}
    (hd : Is2 d D) (hw : Is3 w W) : Is2 (val_main_v6 (F := Ideal) d w) (ntS 512 D W 8) := fun r c => by
  refine Eq.trans ?_ (nt_sum 512 _ _ _ _).symm
  simp only [val_main_v6, val_main_v5, val_main_v3, val_main_v2, val_main_v1]
  pointwise []
  simp only [hd _ _, hw _ _ _]

end Cert.Reference7Ideal.Mix

namespace Cert.Mix

open Idealize.ShloMosaic TcCoe Idealize.SL.Sem

theorem equation7 : algebraic_Kernel7Ideal_Reference7Ideal (hKernel7Ideal := Kernel7Ideal.Gen.facts)
    (hReference7Ideal := Reference7Ideal.Gen.facts) := by
  intro m g m' g' _ he
  refine ⟨fun c => (Kernel7Ideal.Gen.dats (F := Ideal) m 0 c).arrAt 3 Kernel7Ideal.cfg0.N, Kernel7Ideal.Value.run_blocks m g, ?_⟩
  refine (θ_run _ _ _).mono (fun r h c => ?_) (Reference7Ideal.Value.run m' g')
  obtain ⟨e0, e1, e2⟩ := he c
  obtain ⟨h0, h1⟩ := h c
  have hd := is2_mat2 (n := 2048) (k := 4096) (m ((c.tc : Thread Kernel7Ideal.nD Kernel7Ideal.τ).loc Kernel7Ideal.main_arg0))
  have hw := is3_mat3 (n := 8) (k := 2048) (l := 512) (m ((c.tc : Thread Kernel7Ideal.nD Kernel7Ideal.τ).loc Kernel7Ideal.main_arg1))
  refine ⟨h0.trans ?_, h1⟩
  clear h h0 h1
  rw [Reference7Ideal.Read.val_main_v6_eq, e0, e1]
  refine ext2 (Reference7Ideal.Mix.r6 hd hw) ?_ fun _ _ _ _ => rfl
  dsimp only
  rw [Kernel7Ideal.Mix.nt_arr m c hd hw]
  exact Kernel2Ideal.Mix.is2_arr2 _ _ _

end Cert.Mix

namespace Cert.Kernel9Ideal.Mix

open Kernel9Ideal Kernel9Ideal.Gen Cert.Mix
open Kernel2Ideal.Mix (arr2 is2_block is3_block eq_block)
open Idealize.ShloMosaic TcCoe Idealize.SL.Sem

variable (m : (ℓ : Loc nD τ sig) → Buf (Elt Ideal) ℓ) (c : Dev nD)

theorem in_d {X : Mat} (h : Is2 (n := 2048) (k := 6144) (m ((c.tc : Thread nD τ).loc main_arg0)) X) (t : Fin cfg0.N) :
    Is2 (n := 512) (k := 768) (iblk m c 0 t) (fun r j => X (512 * (t.val / 16) + r) (768 * (t.val % 8) + j)) := by
  have hi : ∀ t : Fin grid0.N, win0_0.index t 0 = t.val / 16 ∧ win0_0.index t 1 = t.val % 8 := by decide +kernel
  refine is2_block h (win0_0.blk t).view.emb fun r j => congrArg₂ X ?_ ?_
  all_goals blk_simp; simp only [hi t] <;> omega

theorem in_w {X : ℕ → Mat} (h : Is3 (n := 8) (k := 2048) (l := 768) (m ((c.tc : Thread nD τ).loc main_arg1)) X) (t : Fin cfg0.N) :
    Is3 (n := 1) (k := 1024) (l := 768) (iblk m c 1 t) (fun p r j => X (t.val % 8 + p) (1024 * (t.val / 8 % 2) + r) j) := by
  have hi : ∀ t : Fin grid0.N, win0_1.index t 0 = t.val % 8 ∧ win0_1.index t 1 = t.val / 8 % 2 ∧ win0_1.index t 2 = 0 := by decide +kernel
  refine is3_block h (win0_1.blk t).view.emb fun p r j => congr (congrArg₂ X ?_ ?_) ?_
  all_goals blk_simp; simp only [hi t] <;> omega

section
variable {D : Mat} {W : ℕ → Mat}
  (hd : Is2 (n := 2048) (k := 6144) (m ((c.tc : Thread nD τ).loc main_arg0)) D)
  (hw : Is3 (n := 8) (k := 2048) (l := 768) (m ((c.tc : Thread nD τ).loc main_arg1)) W)
include hd hw

/-- What a point adds. -/
theorem addend (t : Fin cfg0.N) : Is2 (k0_pay1 (F := Ideal) (iblk m c 0 t) (iblk m c 1 t))
    (fun r k => ntP 768 D W (t.val % 8) (512 * (t.val / 16) + r) (1024 * (t.val / 8 % 2) + k)) := fun r k => by
  pointwise [k0_pay1]
  simp only [in_d m c hd t _ _, in_w m c hw t _ _ _]
  rfl

theorem pay2_tile (t : Fin cfg0.N) (h0 : t.val % 8 = 0) : Is2 (k0_pay2 (F := Ideal) (iblk m c 0 t) (iblk m c 1 t)) (ntB 768 D W t.val) := fun r k => by
  pointwise [k0_pay2]
  exact (addend m c hd hw t r k).trans (ntB_first 768 D W h0 _ _)

theorem pay3_tile (t : Fin cfg0.N) (h0 : ¬t.val % 8 = 0) {a : Vec Ideal S512x1024 .f32} (ha : Is2 a (ntB 768 D W (t.val - 1))) :
    Is2 (k0_pay3 (F := Ideal) (iblk m c 0 t) (iblk m c 1 t) a) (ntB 768 D W t.val) := fun r k => by
  pointwise [k0_pay3]
  rw [ha _ _, addend m c hd hw t _ _]
  exact ntB_next 768 D W h0 _ _

/-- What the scratch holds after a point. -/
theorem carried : ∀ (n : ℕ) (h : n < cfg0.N), Is2 (outsAt0 (F := Ideal) m c n h).2 (ntB 768 D W n) := by
  intro n
  induction n with
  | zero =>
    intro h
    rw [outsAt0_A m c ⟨0, h⟩ rfl (by dsimp only; omega) (by dsimp only; omega)]
    frame_out
    exact pay2_tile m c hd hw ⟨0, h⟩ rfl
  | succ n ih =>
    intro h
    by_cases h0 : (n + 1) % 8 = 0
    · rw [outsAt0_A m c ⟨n + 1, h⟩ h0 (by dsimp only; omega) (by dsimp only; omega)]
      frame_out
      exact pay2_tile m c hd hw ⟨n + 1, h⟩ h0
    · by_cases h2 : (n + 1) % 8 = 7
      · rw [outsAt0_C m c ⟨n + 1, h⟩ h0 (by dsimp only; omega) h2]
        frame_out
        rw [read_unread_whole]
        exact pay3_tile m c hd hw ⟨n + 1, h⟩ h0 (ih _)
      · rw [outsAt0_B m c ⟨n + 1, h⟩ h0 (by dsimp only; omega) h2]
        frame_out
        rw [read_unread_whole]
        exact pay3_tile m c hd hw ⟨n + 1, h⟩ h0 (ih _)

/-- The array after the run. -/
theorem nt_arr : (dats (F := Ideal) m 0 c).arrAt 3 cfg0.N = arr2 2048 2048 (ntS 768 D W 8) := by
  have hi : ∀ t : Fin grid0.N, win0_3.index t 0 = t.val / 16 ∧ win0_3.index t 1 = t.val / 8 % 2 := by decide +kernel
  refine (dats m 0 c).arrAt_eq_of_cover 3 (arr2 2048 2048 (ntS 768 D W 8)) (fun t hf => ?_) fun i => ?_
  · have h7 : t.val % 8 = 7 := (flush0_3 t).mp hf
    have hb : Is2 (outsAt0 (F := Ideal) m c t.val t.isLt).1 (ntB 768 D W t.val) := by
      rw [outsAt0_C m c t (by omega) (by omega) h7]
      frame_out
      rw [read_unread_whole]
      exact pay3_tile m c hd hw t (by omega) (carried m c hd hw _ _)
    refine Eq.trans (show (dats m 0 c).flushed 3 t = (outsAt0 (F := Ideal) m c t.val t.isLt).1 from after0_3 m c t)
      (eq_block (f := ntS 768 D W 8) hb (win0_3.blk t).view.emb fun r j => ?_)
    have h0 : ((win0_3.blk t).view.emb (ix2 r j) 0).val = 512 * (t.val / 16) + r.val := by blk_simp; rw [(hi t).1] <;> omega
    have h1 : ((win0_3.blk t).view.emb (ix2 r j) 1).val = 1024 * (t.val / 8 % 2) + j.val := by blk_simp; rw [(hi t).2] <;> omega
    rw [h0, h1, ntB, h7]
  · have h0 : (i 0).val < 2048 := (i 0).isLt
    have h1 : (i 1).val < 2048 := (i 1).isLt
    have hN : cfg0.N = 64 := N_0
    have hp : 16 * ((i 0).val / 512) + 8 * ((i 1).val / 1024) + 7 < cfg0.N := by omega
    refine ⟨⟨16 * ((i 0).val / 512) + 8 * ((i 1).val / 1024) + 7, hp⟩, (flush0_3 _).mpr (by dsimp only; omega), ?_⟩
    have h := hi ⟨16 * ((i 0).val / 512) + 8 * ((i 1).val / 1024) + 7, hp⟩
    dsimp only at h
    mem_blk
    rw [h.1, h.2]
    omega

end

end Cert.Kernel9Ideal.Mix

namespace Cert.Reference9Ideal.Mix

open Reference9Ideal Reference9Ideal.Gen Reference9Ideal.Read Cert.Mix
open Idealize.ShloMosaic

theorem r6 {d : FVec Ideal S2048x6144 .bf16} {w : FVec Ideal S8x2048x768 .bf16} {D : Mat} {W : ℕ → Mat}
    (hd : Is2 d D) (hw : Is3 w W) : Is2 (val_main_v6 (F := Ideal) d w) (ntS 768 D W 8) := fun r c => by
  refine Eq.trans ?_ (nt_sum 768 _ _ _ _).symm
  simp only [val_main_v6, val_main_v5, val_main_v3, val_main_v2, val_main_v1]
  pointwise []
  simp only [hd _ _, hw _ _ _]

end Cert.Reference9Ideal.Mix

namespace Cert.Mix

open Idealize.ShloMosaic TcCoe Idealize.SL.Sem

theorem equation9 : algebraic_Kernel9Ideal_Reference9Ideal (hKernel9Ideal := Kernel9Ideal.Gen.facts)
    (hReference9Ideal := Reference9Ideal.Gen.facts) := by
  intro m g m' g' _ he
  refine ⟨fun c => (Kernel9Ideal.Gen.dats (F := Ideal) m 0 c).arrAt 3 Kernel9Ideal.cfg0.N, Kernel9Ideal.Value.run_blocks m g, ?_⟩
  refine (θ_run _ _ _).mono (fun r h c => ?_) (Reference9Ideal.Value.run m' g')
  obtain ⟨e0, e1, e2⟩ := he c
  obtain ⟨h0, h1⟩ := h c
  have hd := is2_mat2 (n := 2048) (k := 6144) (m ((c.tc : Thread Kernel9Ideal.nD Kernel9Ideal.τ).loc Kernel9Ideal.main_arg0))
  have hw := is3_mat3 (n := 8) (k := 2048) (l := 768) (m ((c.tc : Thread Kernel9Ideal.nD Kernel9Ideal.τ).loc Kernel9Ideal.main_arg1))
  refine ⟨h0.trans ?_, h1⟩
  clear h h0 h1
  rw [Reference9Ideal.Read.val_main_v6_eq, e0, e1]
  refine ext2 (Reference9Ideal.Mix.r6 hd hw) ?_ fun _ _ _ _ => rfl
  dsimp only
  rw [Kernel9Ideal.Mix.nt_arr m c hd hw]
  exact Kernel2Ideal.Mix.is2_arr2 _ _ _

end Cert.Mix

end
-- ==== Proof.MixGate.lean ====
module

public import proofs.«01_k».proof.Proof.Gen.Kernel6Ideal.Frame
public import proofs.«01_k».proof.Proof.Gen.Reference6Ideal.Read
public import proofs.«01_k».proof.Proof.MixEquation

/-! # The output gate: its projection, and the gradient of its weights

Two calls. The first projects to value and gate columns, in pieces of 512, adds the bias and the residual, and keeps both
halves; the second forms the gradient of the projection's weights, piece by piece. -/

@[expose] public section

set_option maxRecDepth 16384

noncomputable section

namespace Cert.Mix

/-- A projection whose weights come in pieces of `b` columns. -/
def upW (b : ℕ) (h : Mat) (w : ℕ → Mat) : Mat := fun t n => upP h (w (n / b)) t (n % b)
/-- The gradient of such a projection's weights. -/
def dwW (b : ℕ) (h d : Mat) : ℕ → Mat := fun p => dwuP h (sh (b * p) d)
/-- The projection of 4096 columns with its bias. -/
def gl (h : Mat) (w : ℕ → Mat) (b : Mat) : Mat := fun t n => upW 512 h w t n + b 0 n
/-- The residual and the gated values. -/
def xg (x u : Mat) : Mat := fun t n => x t n + u t n * sg (u t (2048 + n))

theorem upW_piece {b q n : ℕ} (hn : n < b) (h : Mat) (w : ℕ → Mat) (t : ℕ) : upW b h w t (b * q + n) = upP h (w q) t n := by
  unfold upW
  rw [Nat.mul_add_mod, Nat.mod_eq_of_lt hn, Nat.mul_add_div (by omega), Nat.div_eq_of_lt hn, Nat.add_zero]

end Cert.Mix

namespace Cert.Kernel6Ideal.Mix

open Kernel6Ideal Kernel6Ideal.Gen Cert.Mix
open Kernel2Ideal.Mix (arr2 arr3 is2_block is3_block eq_block eq_block3 is2_arr2 is3_arr3 is2_of is3_of)
open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## One grid point -/

section

variable {y : Vec Ideal S512x2048 .bf16} {v g : Vec Ideal S1x2048x512 .bf16} {b d : Vec Ideal S1x512 .f32} {x : Vec Ideal S512x512 .f32}
variable {Y B D X : Mat} {W G : ℕ → Mat}
variable (hy : Is2 y Y) (hv : Is3 v W) (hb : Is2 b B) (hg : Is3 g G) (hd : Is2 d D) (hx : Is2 x X)

include hy hv hb in
theorem half_tile : Is2 (k0_pay1 (F := Ideal) y v b) (fun t n => upP Y (W 0) t n + B 0 n) := fun r c => by
  pointwise [k0_pay1]
  simp only [hy _ _, hv _ _ _, hb _ _]
  rfl

include hy hv hb in
theorem val_tile : Is2 (out0_7 y v g b d x) (fun t n => upP Y (W 0) t n + B 0 n) := by
  unfold out0_7
  rw [View.canon_cons_unit_lit _ _ _ (by decide)]; iterate 3 rw [View.ld_unit_lit _ _ (by decide)]
  exact half_tile hy hv hb

include hy hg hd in
theorem gate_tile : Is2 (out0_8 y v g b d x) (fun t n => upP Y (G 0) t n + D 0 n) := by
  unfold out0_8
  rw [View.canon_cons_unit_lit _ _ _ (by decide)]; iterate 3 rw [View.ld_unit_lit _ _ (by decide)]
  exact half_tile hy hg hd

include hy hv hb hg hd hx in
theorem mid_tile : Is2 (out0_6 y v g b d x) (fun t n => X t n + (upP Y (W 0) t n + B 0 n) * sg (upP Y (G 0) t n + D 0 n)) := fun r c => by
  unfold out0_6
  rw [View.canon_cons_unit_lit _ _ _ (by decide), View.ld_unit_lit _ _ (by decide), View.ld_unit_lit _ _ (by decide), View.ld_unit_lit _ _ (by decide),
    View.ld_unit_lit _ _ (by decide)]; iterate 2 rw [View.ld_unit_lit _ _ (by decide)]
  pointwise [k0_pay3]
  rw [hx _ _, half_tile hy hv hb _ _, show k0_pay2 (F := Ideal) y g d (ix2 r c) = _ from half_tile hy hg hd r c]
  rfl

end

theorem dw_tile {y d : Vec Ideal S2048x512 .bf16} {Y D : Mat} (hy : Is2 y Y) (hd : Is2 d D) : Is3 (out1_2 y d) (fun _ => dwuP Y D) := fun p r c => by
  have hp : p = 0 := Subsingleton.elim _ _
  subst hp
  unfold out1_2
  rw [View.canon_cons_unit_lit _ _ _ (by decide)]; iterate 2 rw [View.ld_unit_lit _ _ (by decide)]
  pointwise [k1_pay1]
  simp only [hy _ _, hd _ _]
  rfl

/-! ## The arrays after each call -/

section

variable (V : (c : Dev nD) → (b : Ref sig .tc) → Buf (Elt Ideal) ((c : Thread nD τ).loc b)) (c : Dev nD)

theorem in0_0 {F : Mat} (h : Is2 (n := 2048) (k := 2048) (V c main_arg0) F) (t : Fin cfg0.N) :
    Is2 (n := 512) (k := 2048) (iblk0 V c 0 t) (fun r j => F (512 * (t.val / 4) + r) j) := by
  have hi : ∀ t : Fin grid0.N, win0_0.index t 0 = t.val / 4 ∧ win0_0.index t 1 = 0 := by decide +kernel
  refine is2_block h (win0_0.blk t).view.emb fun r j => congrArg₂ F ?_ ?_
  all_goals blk_simp; simp only [hi t] <;> omega

theorem in0_1 {F : ℕ → Mat} (h : Is3 (n := 8) (k := 2048) (l := 512) (V c main_arg1) F) (t : Fin cfg0.N) :
    Is3 (n := 1) (k := 2048) (l := 512) (iblk0 V c 1 t) (fun p => F (t.val % 4 + p)) := by
  have hi : ∀ t : Fin grid0.N, win0_1.index t 0 = t.val % 4 ∧ win0_1.index t 1 = 0 ∧ win0_1.index t 2 = 0 := by decide +kernel
  refine is3_block h (win0_1.blk t).view.emb fun p r j => congr (congrArg₂ F ?_ ?_) ?_
  all_goals blk_simp; simp only [hi t] <;> omega

theorem in0_2 {F : ℕ → Mat} (h : Is3 (n := 8) (k := 2048) (l := 512) (V c main_arg1) F) (t : Fin cfg0.N) :
    Is3 (n := 1) (k := 2048) (l := 512) (iblk0 V c 2 t) (fun p => F (t.val % 4 + 4 + p)) := by
  have hi : ∀ t : Fin grid0.N, win0_2.index t 0 = t.val % 4 + 4 ∧ win0_2.index t 1 = 0 ∧ win0_2.index t 2 = 0 := by decide +kernel
  refine is3_block h (win0_2.blk t).view.emb fun p r j => congr (congrArg₂ F ?_ ?_) ?_
  all_goals blk_simp; simp only [hi t] <;> omega

theorem in0_3 {F : Mat} (h : Is2 (n := 1) (k := 4096) (V c main_arg2) F) (t : Fin cfg0.N) :
    Is2 (n := 1) (k := 512) (iblk0 V c 3 t) (fun r j => F r (512 * (t.val % 4) + j)) := by
  have hi : ∀ t : Fin grid0.N, win0_3.index t 0 = 0 ∧ win0_3.index t 1 = t.val % 4 := by decide +kernel
  refine is2_block h (win0_3.blk t).view.emb fun r j => congrArg₂ F ?_ ?_
  all_goals blk_simp; simp only [hi t] <;> omega

theorem in0_4 {F : Mat} (h : Is2 (n := 1) (k := 4096) (V c main_arg2) F) (t : Fin cfg0.N) :
    Is2 (n := 1) (k := 512) (iblk0 V c 4 t) (fun r j => F r (512 * (t.val % 4 + 4) + j)) := by
  have hi : ∀ t : Fin grid0.N, win0_4.index t 0 = 0 ∧ win0_4.index t 1 = t.val % 4 + 4 := by decide +kernel
  refine is2_block h (win0_4.blk t).view.emb fun r j => congrArg₂ F ?_ ?_
  all_goals blk_simp; simp only [hi t] <;> omega

theorem in0_5 {F : Mat} (h : Is2 (n := 2048) (k := 2048) (V c main_arg3) F) (t : Fin cfg0.N) :
    Is2 (n := 512) (k := 512) (iblk0 V c 5 t) (fun r j => F (512 * (t.val / 4) + r) (512 * (t.val % 4) + j)) := by
  have hi : ∀ t : Fin grid0.N, win0_5.index t 0 = t.val / 4 ∧ win0_5.index t 1 = t.val % 4 := by decide +kernel
  refine is2_block h (win0_5.blk t).view.emb fun r j => congrArg₂ F ?_ ?_
  all_goals blk_simp; simp only [hi t] <;> omega

theorem val_arr {Y B : Mat} {W : ℕ → Mat} (hy : Is2 (n := 2048) (k := 2048) (V c main_arg0) Y) (hw : Is3 (n := 8) (k := 2048) (l := 512) (V c main_arg1) W)
    (hb : Is2 (n := 1) (k := 4096) (V c main_arg2) B) :
    (dat0 V c).arrAt 7 cfg0.N = arr2 2048 2048 (gl Y W B) := by
  have hi : ∀ t : Fin grid0.N, win0_7.index t 0 = t.val / 4 ∧ win0_7.index t 1 = t.val % 4 := by decide +kernel
  refine (dat0 V c).arrAt_eq_of_cover 7 (arr2 2048 2048 (gl Y W B)) (fun t _ => ?_) fun i => ?_
  · refine Eq.trans (show (dat0 V c).flushed 7 t = out0_7 (iblk0 V c 0 t) (iblk0 V c 1 t) (iblk0 V c 2 t) (iblk0 V c 3 t) (iblk0 V c 4 t) (iblk0 V c 5 t) from after0_7 V c t)
      (eq_block (f := gl Y W B) (val_tile (in0_0 V c hy t) (in0_1 V c hw t) (in0_3 V c hb t)) (win0_7.blk t).view.emb fun r j => ?_)
    have hN : t.val < 16 := lt_of_lt_of_eq t.isLt N_0
    have h0 : ((win0_7.blk t).view.emb (ix2 r j) 0).val = 512 * (t.val / 4) + r.val := by blk_simp; rw [(hi t).1] <;> omega
    have h1 : ((win0_7.blk t).view.emb (ix2 r j) 1).val = 512 * (t.val % 4) + j.val := by blk_simp; rw [(hi t).2] <;> omega
    rw [h0, h1]
    rw [gl, upW_piece j.isLt]
    rfl
  · have h0 : (i 0).val < 2048 := (i 0).isLt
    have h1 : (i 1).val < 2048 := (i 1).isLt
    have hN : cfg0.N = 16 := N_0
    have hp : 4 * ((i 0).val / 512) + (i 1).val / 512 < cfg0.N := by omega
    refine ⟨⟨4 * ((i 0).val / 512) + (i 1).val / 512, hp⟩, flush0_7 _, ?_⟩
    have h := hi ⟨4 * ((i 0).val / 512) + (i 1).val / 512, hp⟩
    dsimp only at h
    mem_blk
    rw [h.1, h.2]
    omega

theorem gate_arr {Y B : Mat} {W : ℕ → Mat} (hy : Is2 (n := 2048) (k := 2048) (V c main_arg0) Y) (hw : Is3 (n := 8) (k := 2048) (l := 512) (V c main_arg1) W)
    (hb : Is2 (n := 1) (k := 4096) (V c main_arg2) B) :
    (dat0 V c).arrAt 8 cfg0.N = arr2 2048 2048 (sh 2048 (gl Y W B)) := by
  have hi : ∀ t : Fin grid0.N, win0_8.index t 0 = t.val / 4 ∧ win0_8.index t 1 = t.val % 4 := by decide +kernel
  refine (dat0 V c).arrAt_eq_of_cover 8 (arr2 2048 2048 (sh 2048 (gl Y W B))) (fun t _ => ?_) fun i => ?_
  · refine Eq.trans (show (dat0 V c).flushed 8 t = out0_8 (iblk0 V c 0 t) (iblk0 V c 1 t) (iblk0 V c 2 t) (iblk0 V c 3 t) (iblk0 V c 4 t) (iblk0 V c 5 t) from after0_8 V c t)
      (eq_block (f := sh 2048 (gl Y W B)) (gate_tile (in0_0 V c hy t) (in0_2 V c hw t) (in0_4 V c hb t)) (win0_8.blk t).view.emb fun r j => ?_)
    have hN : t.val < 16 := lt_of_lt_of_eq t.isLt N_0
    have h0 : ((win0_8.blk t).view.emb (ix2 r j) 0).val = 512 * (t.val / 4) + r.val := by blk_simp; rw [(hi t).1] <;> omega
    have h1 : ((win0_8.blk t).view.emb (ix2 r j) 1).val = 512 * (t.val % 4) + j.val := by blk_simp; rw [(hi t).2] <;> omega
    rw [h0, h1]
    rw [sh, show 2048 + (512 * (t.val % 4) + j.val) = 512 * (t.val % 4 + 4) + j.val by omega, gl, upW_piece j.isLt]
    rfl
  · have h0 : (i 0).val < 2048 := (i 0).isLt
    have h1 : (i 1).val < 2048 := (i 1).isLt
    have hN : cfg0.N = 16 := N_0
    have hp : 4 * ((i 0).val / 512) + (i 1).val / 512 < cfg0.N := by omega
    refine ⟨⟨4 * ((i 0).val / 512) + (i 1).val / 512, hp⟩, flush0_8 _, ?_⟩
    have h := hi ⟨4 * ((i 0).val / 512) + (i 1).val / 512, hp⟩
    dsimp only at h
    mem_blk
    rw [h.1, h.2]
    omega

theorem mid_arr {Y B X : Mat} {W : ℕ → Mat} (hy : Is2 (n := 2048) (k := 2048) (V c main_arg0) Y) (hw : Is3 (n := 8) (k := 2048) (l := 512) (V c main_arg1) W)
    (hb : Is2 (n := 1) (k := 4096) (V c main_arg2) B) (hx : Is2 (n := 2048) (k := 2048) (V c main_arg3) X) :
    (dat0 V c).arrAt 6 cfg0.N = arr2 2048 2048 (xg X (gl Y W B)) := by
  have hi : ∀ t : Fin grid0.N, win0_6.index t 0 = t.val / 4 ∧ win0_6.index t 1 = t.val % 4 := by decide +kernel
  refine (dat0 V c).arrAt_eq_of_cover 6 (arr2 2048 2048 (xg X (gl Y W B))) (fun t _ => ?_) fun i => ?_
  · refine Eq.trans (show (dat0 V c).flushed 6 t = out0_6 (iblk0 V c 0 t) (iblk0 V c 1 t) (iblk0 V c 2 t) (iblk0 V c 3 t) (iblk0 V c 4 t) (iblk0 V c 5 t) from after0_6 V c t)
      (eq_block (f := xg X (gl Y W B)) (mid_tile (in0_0 V c hy t) (in0_1 V c hw t) (in0_3 V c hb t) (in0_2 V c hw t) (in0_4 V c hb t) (in0_5 V c hx t)) (win0_6.blk t).view.emb fun r j => ?_)
    have hN : t.val < 16 := lt_of_lt_of_eq t.isLt N_0
    have h0 : ((win0_6.blk t).view.emb (ix2 r j) 0).val = 512 * (t.val / 4) + r.val := by blk_simp; rw [(hi t).1] <;> omega
    have h1 : ((win0_6.blk t).view.emb (ix2 r j) 1).val = 512 * (t.val % 4) + j.val := by blk_simp; rw [(hi t).2] <;> omega
    rw [h0, h1]
    rw [xg, show 2048 + (512 * (t.val % 4) + j.val) = 512 * (t.val % 4 + 4) + j.val by omega, gl, gl, upW_piece j.isLt, upW_piece j.isLt]
    rfl
  · have h0 : (i 0).val < 2048 := (i 0).isLt
    have h1 : (i 1).val < 2048 := (i 1).isLt
    have hN : cfg0.N = 16 := N_0
    have hp : 4 * ((i 0).val / 512) + (i 1).val / 512 < cfg0.N := by omega
    refine ⟨⟨4 * ((i 0).val / 512) + (i 1).val / 512, hp⟩, flush0_6 _, ?_⟩
    have h := hi ⟨4 * ((i 0).val / 512) + (i 1).val / 512, hp⟩
    dsimp only at h
    mem_blk
    rw [h.1, h.2]
    omega

theorem in1_0 {F : Mat} (h : Is2 (n := 2048) (k := 2048) (V c main_arg0) F) (t : Fin cfg1.N) :
    Is2 (n := 2048) (k := 512) (iblk1 V c 0 t) (fun r j => F r (512 * (t.val % 4) + j)) := by
  have hi : ∀ t : Fin grid1.N, win1_0.index t 0 = 0 ∧ win1_0.index t 1 = t.val % 4 := by decide +kernel
  refine is2_block h (win1_0.blk t).view.emb fun r j => congrArg₂ F ?_ ?_
  all_goals blk_simp; simp only [hi t] <;> omega

theorem in1_1 {F : Mat} (h : Is2 (n := 2048) (k := 4096) (V c main_arg4) F) (t : Fin cfg1.N) :
    Is2 (n := 2048) (k := 512) (iblk1 V c 1 t) (sh (512 * (t.val / 4)) F) := by
  have hi : ∀ t : Fin grid1.N, win1_1.index t 0 = 0 ∧ win1_1.index t 1 = t.val / 4 := by decide +kernel
  refine is2_block h (win1_1.blk t).view.emb fun r j => congrArg₂ F ?_ ?_
  all_goals blk_simp; simp only [hi t] <;> omega

theorem dw_arr {Y D : Mat} (hy : Is2 (n := 2048) (k := 2048) (V c main_arg0) Y)
    (hd : Is2 (n := 2048) (k := 4096) (V c main_arg4) D) :
    (dat1 V c).arrAt 2 cfg1.N = arr3 8 2048 512 (dwW 512 Y D) := by
  have hi : ∀ t : Fin grid1.N, win1_2.index t 0 = t.val / 4 ∧ win1_2.index t 1 = t.val % 4 ∧ win1_2.index t 2 = 0 := by decide +kernel
  refine (dat1 V c).arrAt_eq_of_cover 2 (arr3 8 2048 512 (dwW 512 Y D)) (fun t _ => ?_) fun i => ?_
  · refine Eq.trans (show (dat1 V c).flushed 2 t = out1_2 (iblk1 V c 0 t) (iblk1 V c 1 t) from after1_2 V c t)
      (eq_block3 (f := dwW 512 Y D) (dw_tile (in1_0 V c hy t) (in1_1 V c hd t)) (win1_2.blk t).view.emb fun p r j => ?_)
    have hN : t.val < 32 := lt_of_lt_of_eq t.isLt N_1
    have h0 : ((win1_2.blk t).view.emb (ix3 p r j) 0).val = t.val / 4 := by blk_simp; rw [(hi t).1] <;> omega
    have h1 : ((win1_2.blk t).view.emb (ix3 p r j) 1).val = 512 * (t.val % 4) + r.val := by blk_simp; rw [(hi t).2.1] <;> omega
    have h2 : ((win1_2.blk t).view.emb (ix3 p r j) 2).val = j.val := by blk_simp; rw [(hi t).2.2] <;> omega
    rw [h0, h1, h2]
    rfl
  · have h0 : (i 0).val < 8 := (i 0).isLt
    have h1 : (i 1).val < 2048 := (i 1).isLt
    have h2 : (i 2).val < 512 := (i 2).isLt
    have hN : cfg1.N = 32 := N_1
    have hp : 4 * (i 0).val + (i 1).val / 512 < cfg1.N := by omega
    refine ⟨⟨4 * (i 0).val + (i 1).val / 512, hp⟩, flush1_2 _, ?_⟩
    have h := hi ⟨4 * (i 0).val + (i 1).val / 512, hp⟩
    dsimp only at h
    mem_blk
    rw [h.1, h.2.1, h.2.2]
    omega

end

/-! ## The run of the two calls -/

local notation "𝕄" => MT nD τ sig Unit (Elt Ideal) ℕ (UR sig nD τ) ℕ

variable (m : (ℓ : Loc nD τ sig) → Buf (Elt Ideal) ℓ) (ρ : Dev nD → PrngReg)

-- the launch's implicit arguments are found by unifying its conclusion with this one
set_option backward.isDefEq.respectTransparency.types false in
/-- Every run ends, nothing faulting, with every unscoped buffer at the last boundary's contents. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- The run of the two calls, its results and arguments by name. -/
theorem run_values : θ_run Kernel6Ideal.defs (onTc (τ := Kernel6Ideal.τ) (Kernel6Ideal.main (F := Ideal))) ⟨m, fun _ => 0, ρ⟩ (fun r => ∀ c : Dev Kernel6Ideal.nD,
      r.2.mem ((c.tc : Thread nD τ).loc main_v0_0) = W2 m ρ c (Proc.devRef .tc main_v0_0)
      ∧ r.2.mem ((c.tc : Thread nD τ).loc main_v0_1) = W2 m ρ c (Proc.devRef .tc main_v0_1)
      ∧ r.2.mem ((c.tc : Thread nD τ).loc main_v0_2) = W2 m ρ c (Proc.devRef .tc main_v0_2)
      ∧ r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c =>
    ⟨h c _ (mem_uc main_v0_0 (by decide)), h c _ (mem_uc main_v0_1 (by decide)), h c _ (mem_uc main_v0_2 (by decide)), h c _ (mem_uc main_v1 (by decide)),
     (h c _ (mem_uc main_arg0 (by decide))).trans (W2_args m ρ c main_arg0 (by decide)),
     (h c _ (mem_uc main_arg1 (by decide))).trans (W2_args m ρ c main_arg1 (by decide)),
     (h c _ (mem_uc main_arg2 (by decide))).trans (W2_args m ρ c main_arg2 (by decide)),
     (h c _ (mem_uc main_arg3 (by decide))).trans (W2_args m ρ c main_arg3 (by decide)),
     (h c _ (mem_uc main_arg4 (by decide))).trans (W2_args m ρ c main_arg4 (by decide))⟩) (run_all m ρ)

section Results

variable (c : Dev nD) {Y B X D : Mat} {W : ℕ → Mat}

variable (hy : Is2 (n := 2048) (k := 2048) (m ((c : Thread nD τ).loc main_arg0)) Y)
variable (hw : Is3 (n := 8) (k := 2048) (l := 512) (m ((c : Thread nD τ).loc main_arg1)) W)
variable (hb : Is2 (n := 1) (k := 4096) (m ((c : Thread nD τ).loc main_arg2)) B)
variable (hx : Is2 (n := 2048) (k := 2048) (m ((c : Thread nD τ).loc main_arg3)) X)
variable (hd : Is2 (n := 2048) (k := 4096) (m ((c : Thread nD τ).loc main_arg4)) D)

include hy hw hb hx in
theorem r_mid : Is2 (n := 2048) (k := 2048) (W2 m ρ c (Proc.devRef .tc main_v0_0)) (xg X (gl Y W B)) :=
  is2_of ((W2_of m ρ c main_v0_0 (by decide)).trans ((W1_arr m ρ c 6).trans (mid_arr (V0 m ρ) c hy hw hb hx))) (is2_arr2 _ _ _)
include hy hw hb in
theorem r_val : Is2 (n := 2048) (k := 2048) (W2 m ρ c (Proc.devRef .tc main_v0_1)) (gl Y W B) :=
  is2_of ((W2_of m ρ c main_v0_1 (by decide)).trans ((W1_arr m ρ c 7).trans (val_arr (V0 m ρ) c hy hw hb))) (is2_arr2 _ _ _)
include hy hw hb in
theorem r_gate : Is2 (n := 2048) (k := 2048) (W2 m ρ c (Proc.devRef .tc main_v0_2)) (sh 2048 (gl Y W B)) :=
  is2_of ((W2_of m ρ c main_v0_2 (by decide)).trans ((W1_arr m ρ c 8).trans (gate_arr (V0 m ρ) c hy hw hb))) (is2_arr2 _ _ _)
include hy hd in
theorem r_dw : Is3 (n := 8) (k := 2048) (l := 512) (W2 m ρ c (Proc.devRef .tc main_v1)) (dwW 512 Y D) :=
  is3_of ((W2_arr m ρ c 2).trans (dw_arr (V1 m ρ) c (is2_of (W1_args m ρ c main_arg0 (by decide)) hy)
    (is2_of (W1_args m ρ c main_arg4 (by decide)) hd))) (is3_arr3 _ _ _ _)

end Results

end Cert.Kernel6Ideal.Mix

/-! ## The reference's values -/

namespace Cert.Reference6Ideal.Mix

open Reference6Ideal Reference6Ideal.Gen Reference6Ideal.Read Cert.Mix
open Idealize.ShloMosaic TcCoe

variable {y : (⟨S2048x2048, .bf16⟩ : BufTy).Contents (Elt Ideal)} {w : (⟨S8x2048x512, .bf16⟩ : BufTy).Contents (Elt Ideal)}
variable {b : (⟨S1x4096, .f32⟩ : BufTy).Contents (Elt Ideal)} {x : (⟨S2048x2048, .f32⟩ : BufTy).Contents (Elt Ideal)}
variable {d : (⟨S2048x4096, .bf16⟩ : BufTy).Contents (Elt Ideal)}
variable {Y B X D : Mat} {W : ℕ → Mat}

variable (hy : Is2 (n := 2048) (k := 2048) y Y) (hw : Is3 (n := 8) (k := 2048) (l := 512) w W) (hb : Is2 (n := 1) (k := 4096) b B)
variable (hx : Is2 (n := 2048) (k := 2048) x X) (hd : Is2 (n := 2048) (k := 4096) d D)

include hy hw hb in
theorem r8 : Is2 (n := 2048) (k := 4096) (val_main_v8 (F := Ideal) y w b) (gl Y W B) := fun r k => by
  simp only [val_main_v8, val_main_v7, val_main_v6, val_main_v5, val_main_v4, val_main_v3, val_main_v2, val_main_v1, val_main_v0]
  pointwise []
  simp only [hy _ _, hw _ _ _, hb _ _]
  rfl

include hy hw hb in
theorem r9 : Is2 (n := 2048) (k := 2048) (val_main_v9 (F := Ideal) y w b) (gl Y W B) := fun r k => by
  simp only [val_main_v9]
  pointwise []
  exact r8 hy hw hb _ _

include hy hw hb in
theorem r10 : Is2 (n := 2048) (k := 2048) (val_main_v10 (F := Ideal) y w b) (sh 2048 (gl Y W B)) := fun r k => by
  simp only [val_main_v10]
  pointwise []
  exact r8 hy hw hb _ _

include hy hw hb hx in
theorem r20 : Is2 (n := 2048) (k := 2048) (val_main_v20 (F := Ideal) y w b x) (xg X (gl Y W B)) := fun r k => by
  simp only [val_main_v20, val_main_v19, val_main_v18, val_main_v17, val_main_v16, val_main_v15, val_main_v14, val_main_v13, val_main_v12, val_main_v11, val_main_cst, val_main_cst_0]
  pointwise []
  simp only [r8 hy hw hb _ _, hx _ _]
  unfold xg sg
  rw [zero_sub]

include hy hd in
theorem r26 : Is3 (n := 8) (k := 2048) (l := 512) (val_main_v26 (F := Ideal) y d) (dwW 512 Y D) := fun p r k => by
  simp only [val_main_v26, val_main_v25, val_main_v24, val_main_v23, val_main_v22, val_main_v21, val_main_v0]
  pointwise []
  show _ = ∑ t : Fin 2048, Y t.val r.val * D t.val (512 * p.val + k.val)
  refine Finset.sum_congr rfl fun t _ => ?_
  rw [hy _ _, hd _ _, mul_comm, Nat.mul_comm 512]

end Cert.Reference6Ideal.Mix

namespace Cert.Mix

open Idealize.ShloMosaic TcCoe Idealize.SL.Sem

open Kernel6Ideal (nD τ main_arg0 main_arg1 main_arg2 main_arg3 main_arg4) in
theorem equation6 : algebraic_Kernel6Ideal_Reference6Ideal (hKernel6Ideal := Kernel6Ideal.Gen.facts)
    (hReference6Ideal := Reference6Ideal.Gen.facts) := by
  intro m g m' g' _ he
  refine ⟨fun c => Kernel6Ideal.Gen.W2 m g c (Proc.devRef .tc Kernel6Ideal.main_v0_0), fun c => Kernel6Ideal.Gen.W2 m g c (Proc.devRef .tc Kernel6Ideal.main_v0_1),
    fun c => Kernel6Ideal.Gen.W2 m g c (Proc.devRef .tc Kernel6Ideal.main_v0_2), fun c => Kernel6Ideal.Gen.W2 m g c (Proc.devRef .tc Kernel6Ideal.main_v1),
    Kernel6Ideal.Mix.run_values m g, ?_⟩
  refine (θ_run _ _ _).mono (fun r h c => ?_) (Reference6Ideal.Value.run m' g')
  obtain ⟨e0, e1, e2, e3, e4⟩ := he c
  obtain ⟨h0, h1, h2, h3, h4⟩ := h c
  have a0 := is2_mat2 (n := 2048) (k := 2048) (m ((c.tc : Thread nD τ).loc main_arg0))
  have a1 := is3_mat3 (n := 8) (k := 2048) (l := 512) (m ((c.tc : Thread nD τ).loc main_arg1))
  have a2 := is2_mat2 (n := 1) (k := 4096) (m ((c.tc : Thread nD τ).loc main_arg2))
  have a3 := is2_mat2 (n := 2048) (k := 2048) (m ((c.tc : Thread nD τ).loc main_arg3))
  have a4 := is2_mat2 (n := 2048) (k := 4096) (m ((c.tc : Thread nD τ).loc main_arg4))
  refine ⟨h0.trans ?_, h1.trans ?_, h2.trans ?_, h3.trans ?_, h4⟩
  all_goals clear h h0 h1 h2 h3 h4
  · rw [Reference6Ideal.Read.val_main_v20_eq, e0, e1, e2, e3]
    exact ext2 (Reference6Ideal.Mix.r20 a0 a1 a2 a3) (Kernel6Ideal.Mix.r_mid m g c a0 a1 a2 a3) fun _ _ _ _ => rfl
  · rw [Reference6Ideal.Read.val_main_v9_eq, e0, e1, e2]
    exact ext2 (Reference6Ideal.Mix.r9 a0 a1 a2) (Kernel6Ideal.Mix.r_val m g c a0 a1 a2) fun _ _ _ _ => rfl
  · rw [Reference6Ideal.Read.val_main_v10_eq, e0, e1, e2]
    exact ext2 (Reference6Ideal.Mix.r10 a0 a1 a2) (Kernel6Ideal.Mix.r_gate m g c a0 a1 a2) fun _ _ _ _ => rfl
  · rw [Reference6Ideal.Read.val_main_v26_eq, e0, e4]
    exact ext3 (Reference6Ideal.Mix.r26 a0 a4) (Kernel6Ideal.Mix.r_dw m g c a0 a4) fun _ _ _ _ _ _ => rfl

end Cert.Mix

end
-- ==== Proof.MixQk.lean ====
module

public import proofs.«01_k».proof.Proof.Gen.Kernel10Ideal.Value
public import proofs.«01_k».proof.Proof.Gen.Reference10Ideal.Read
public import proofs.«01_k».proof.Proof.Gen.Kernel11Ideal.Value
public import proofs.«01_k».proof.Proof.Gen.Reference11Ideal.Read
public import proofs.«01_k».proof.Proof.MixEquation
public import proofs.«01_k».proof.Proof.MixDnRow
public import Idealize.ShloMosaic.Lib.Pipeline.ReadBack

/-! # The gradients of the norms of q and of k

Each of the two calls takes one head of 128 columns at a time, all rows of it. The gradient at the rows is read off one
row and head at a time; the gradient of the gains is carried from head to head in the result's own block. -/

@[expose] public section

set_option maxRecDepth 16384

noncomputable section

namespace Cert.Mix

open Idealize.ShloMosaic

/-- The number of columns of a head, as the sum's divisor. -/
def wd : EReal := Ideal.ofBits FTy.f32 1124073472#32

theorem wd_pos : ∃ a : ℝ, 0 < a ∧ wd = (a : EReal) := by
  refine ⟨8388608 * ((2 : ℝ) ^ 16)⁻¹, by positivity, ?_⟩
  unfold wd
  rw [EReal.coe_mul]
  simp [Ideal.ofBits, Ideal.ieee]

/-- The host's sum over the first two of three axes. -/
theorem sum_01 {a b n : ℕ} (h : (⟨3, ![a, b, n]⟩ : Shape).ReducesTo [0, 1] ⟨1, ![n]⟩) (v : (⟨3, ![a, b, n]⟩ : Shape).Idx → EReal) (z : EReal) (k : Fin n) :
    Ideal.hostReduceAdd h v z (ix1 k) = z + ∑ t : Fin a, ∑ p : Fin b, v (ix3 t p k) := by
  unfold Ideal.hostReduceAdd
  refine congrArg (z + ·) ?_
  rw [← Fintype.sum_prod_type']
  have hd : ∀ i : (⟨3, ![a, b, n]⟩ : Shape).Idx, (h.drop i ⟨0, Nat.one_pos⟩).val = (i 2).val := fun i => rfl
  refine Finset.sum_nbij' (fun i => ((i 0, i 1) : Fin a × Fin b)) (fun q => ix3 q.1 q.2 k) (fun _ _ => Finset.mem_univ _) (fun q _ => ?_)
    (fun i hi => ?_) (fun _ _ => rfl) fun i hi => ?_
  · rw [Finset.mem_filter]
    refine ⟨Finset.mem_univ _, funext fun x => ?_⟩
    have hx : x = ⟨0, Nat.one_pos⟩ := Subsingleton.elim (α := Fin 1) _ _
    subst hx
    exact Fin.ext (hd _)
  all_goals
    have e : (i 2).val = k.val := by rw [← hd i, (Finset.mem_filter.mp hi).2]; rfl
    have e' : ix3 (i 0 : Fin a) (i 1 : Fin b) k = i := by
      funext x
      match x with
      | ⟨0, _⟩ => rfl
      | ⟨1, _⟩ => rfl
      | ⟨2, _⟩ => exact Fin.ext e.symm
  · exact e'
  · exact congrArg v e'.symm

/-- One head's mean of squares in a row, with the small number added. -/
def msH (x : Mat) (t p : ℕ) : EReal := Ideal.div (∑ k : Fin 128, x t (128 * p + k.val) * x t (128 * p + k.val)) wd + we
/-- The gradient at one head's rows. -/
def qkP (x g h : Mat) (p : ℕ) : Mat := fun t k =>
  Ideal.rsqrt (msH x t p) * (h t (128 * p + k) * g 0 k - x t (128 * p + k) * Ideal.rsqrt (msH x t p)
    * Ideal.div (∑ j : Fin 128, h t (128 * p + j.val) * g 0 j.val * (x t (128 * p + j.val) * Ideal.rsqrt (msH x t p))) wd)
/-- The gradient at the rows. -/
def qkX (x g h : Mat) : Mat := fun t k => qkP x g h (k / 128) t (k % 128)
/-- The gradient of the gains from the first heads. -/
def qkG (x h : Mat) (q : ℕ) : Mat := fun _ k =>
  ∑ p ∈ Finset.range q, ∑ t : Fin 2048, h t.val (128 * p + k) * (x t.val (128 * p + k) * Ideal.rsqrt (msH x t.val p))

end Cert.Mix

namespace Cert.Kernel10Ideal.Mix

open Kernel10Ideal Kernel10Ideal.Gen Cert.Mix
open Kernel2Ideal.Mix (arr2 is2_block is3_block eq_block)
open Idealize.ShloMosaic TcCoe Idealize.SL.Sem

/-! ## One grid point -/

section
variable {x h : Vec Ideal S2048x128 .f32} {g : Vec Ideal S1x1x128 .f32} {X H : Mat} {G : ℕ → Mat} {p : ℕ}

theorem scale_tile (hx : Is2 x (fun r k => X r (128 * p + k))) : Is2 (k0_pay1 (F := Ideal) x) (fun r _ => Ideal.rsqrt (msH X r p)) := fun r k => by
  pointwise [k0_pay1]
  simp only [hx _ _]
  rfl

theorem norm_tile (hx : Is2 x (fun r k => X r (128 * p + k))) :
    Is2 (k0_pay2 (F := Ideal) x) (fun r k => X r (128 * p + k) * Ideal.rsqrt (msH X r p)) := fun r k => by
  pointwise [k0_pay2]
  rw [hx _ _, scale_tile hx _ _]

theorem dx_tile (hx : Is2 x (fun r k => X r (128 * p + k))) (hh : Is2 h (fun r k => H r (128 * p + k))) (hg : Is3 g G) :
    Is2 (k0_pay3 (F := Ideal) x h g) (qkP X (G 0) H p) := fun r k => by
  pointwise [k0_pay3]
  simp only [hh _ _, hg _ _ _, norm_tile hx _ _, scale_tile hx _ _]
  rfl

theorem dg_tile (hx : Is2 x (fun r k => X r (128 * p + k))) (hh : Is2 h (fun r k => H r (128 * p + k))) : Is2 (k0_pay4 (F := Ideal) x h)
    (fun _ k => ∑ t : Fin 2048, H t.val (128 * p + k) * (X t.val (128 * p + k) * Ideal.rsqrt (msH X t.val p))) := fun r k => by
  pointwise [k0_pay4]
  simp only [hh _ _, norm_tile hx _ _]

end

/-! ## The arrays after the run -/

variable (m : (l : Loc nD τ sig) → Buf (Elt Ideal) l) (c : Dev nD)

theorem in_x {X : Mat} (h : Is2 (n := 2048) (k := 6144) (m ((c.tc : Thread nD τ).loc main_arg0)) X) (t : Fin cfg0.N) :
    Is2 (n := 2048) (k := 128) (iblk m c 0 t) (fun r k => sh 0 X r (128 * t.val + k)) := by
  have hi : ∀ t : Fin grid0.N, win0_0.index t 0 = 0 ∧ win0_0.index t 1 = t.val + 0 := by decide +kernel
  refine is2_block h (win0_0.blk t).view.emb fun r j => congrArg₂ X ?_ ?_
  all_goals blk_simp; simp only [hi t] <;> omega

theorem in_g {X : ℕ → Mat} (h : Is3 (n := 2) (k := 1) (l := 128) (m ((c.tc : Thread nD τ).loc main_arg1)) X) (t : Fin cfg0.N) :
    Is3 (n := 1) (k := 1) (l := 128) (iblk m c 1 t) (fun p => X (0 + p)) := by
  have hi : ∀ t : Fin grid0.N, win0_1.index t 0 = 0 ∧ win0_1.index t 1 = 0 ∧ win0_1.index t 2 = 0 := by decide +kernel
  refine is3_block h (win0_1.blk t).view.emb fun p r j => congr (congrArg₂ X ?_ ?_) ?_
  all_goals blk_simp; simp only [hi t] <;> omega

theorem in_h {X : Mat} (h : Is2 (n := 2048) (k := 2048) (m ((c.tc : Thread nD τ).loc main_arg2)) X) (t : Fin cfg0.N) :
    Is2 (n := 2048) (k := 128) (iblk m c 2 t) (fun r k => X r (128 * t.val + k)) := by
  have hi : ∀ t : Fin grid0.N, win0_2.index t 0 = 0 ∧ win0_2.index t 1 = t.val := by decide +kernel
  refine is2_block h (win0_2.blk t).view.emb fun r j => congrArg₂ X ?_ ?_
  all_goals blk_simp; simp only [hi t] <;> omega

section
variable {X H : Mat} {G : ℕ → Mat}
  (hx : Is2 (n := 2048) (k := 6144) (m ((c.tc : Thread nD τ).loc main_arg0)) X)
  (hg : Is3 (n := 2) (k := 1) (l := 128) (m ((c.tc : Thread nD τ).loc main_arg1)) G)
  (hh : Is2 (n := 2048) (k := 2048) (m ((c.tc : Thread nD τ).loc main_arg2)) H)
include hx hh

/-- The gradient of the gains after a head. -/
theorem carried : ∀ (n : ℕ) (h : n < cfg0.N), Is2 (outsAt0 (F := Ideal) m c n h).2 (qkG (sh 0 X) H (n + 1)) := by
  intro n
  induction n with
  | zero =>
    intro h
    rw [outsAt0_A m c ⟨0, h⟩ rfl (by dsimp only; omega)]
    frame_out
    intro r k
    refine (dg_tile (in_x m c hx ⟨0, h⟩) (in_h m c hh ⟨0, h⟩) r k).trans ?_
    show _ = ∑ p ∈ Finset.range 1, _
    rw [Finset.sum_range_one]
  | succ n ih =>
    intro h
    have hN : cfg0.N = 16 := N_0
    rw [outsAt0_B m c ⟨n + 1, h⟩ (by dsimp only; omega) (by dsimp only; omega)]
    frame_out
    intro r k
    pointwise [k0_pay5]
    refine (congrArg₂ (fun a b : EReal => a + b) (ih (by omega) r k) (dg_tile (in_x m c hx ⟨n + 1, h⟩) (in_h m c hh ⟨n + 1, h⟩) r k)).trans ?_
    exact (Finset.sum_range_succ (fun p => ∑ t : Fin 2048, H t.val (128 * p + k.val) * (sh 0 X t.val (128 * p + k.val)
      * Ideal.rsqrt (msH (sh 0 X) t.val p))) (n + 1)).symm

/-- The gradient of the gains after the run. -/
theorem dg_arr : (dats (F := Ideal) m 0 c).arrAt 4 cfg0.N = arr2 1 128 (qkG (sh 0 X) H 16) := by
  have hi : ∀ t : Fin grid0.N, win0_4.index t 0 = 0 ∧ win0_4.index t 1 = 0 := by decide +kernel
  have hN : cfg0.N = 16 := N_0
  refine (dats m 0 c).arrAt_eq_of_cover 4 (arr2 1 128 (qkG (sh 0 X) H 16)) (fun t hf => ?_) fun i => ?_
  · have h7 : t.val % 16 = 15 := (flush0_4 t).mp hf
    have ht : t.val < 16 := lt_of_lt_of_eq t.isLt N_0
    refine Eq.trans (show (dats m 0 c).flushed 4 t = (outsAt0 (F := Ideal) m c t.val t.isLt).2 from after0_4 m c t)
      (eq_block (f := qkG (sh 0 X) H 16) (carried m c hx hh t.val t.isLt) (win0_4.blk t).view.emb fun r j => ?_)
    have h1 : ((win0_4.blk t).view.emb (ix2 r j) 1).val = j.val := by blk_simp; rw [(hi t).2] <;> omega
    rw [h1, show t.val + 1 = 16 by omega]
    rfl
  · have h0 : (i 0).val < 1 := (i 0).isLt
    have h1 : (i 1).val < 128 := (i 1).isLt
    obtain ⟨t, ht⟩ : ∃ t : Fin cfg0.N, t.val = 15 := ⟨⟨15, by omega⟩, rfl⟩
    refine ⟨t, (flush0_4 t).mpr (by omega), ?_⟩
    have h := hi t
    mem_blk
    rw [h.1, h.2]
    omega

include hg

/-- The gradient at the rows after the run. -/
theorem dx_arr : (dats (F := Ideal) m 0 c).arrAt 3 cfg0.N = arr2 2048 2048 (qkX (sh 0 X) (G 0) H) := by
  have hi : ∀ t : Fin grid0.N, win0_3.index t 0 = 0 ∧ win0_3.index t 1 = t.val := by decide +kernel
  have hN : cfg0.N = 16 := N_0
  refine (dats m 0 c).arrAt_eq_of_cover 3 (arr2 2048 2048 (qkX (sh 0 X) (G 0) H)) (fun t hf => ?_) fun i => ?_
  · have hb : Is2 (outsAt0 (F := Ideal) m c t.val t.isLt).1 (qkP (sh 0 X) (G 0) H t.val) := by
      have ht : t.val < 16 := lt_of_lt_of_eq t.isLt N_0
      by_cases h0 : t.val % 16 = 0
      · rw [outsAt0_A m c t h0 (by omega)]
        frame_out
        exact dx_tile (G := fun p => G (0 + p)) (in_x m c hx t) (in_h m c hh t) (in_g m c hg t)
      · rw [outsAt0_B m c t h0 (by omega)]
        frame_out
        exact dx_tile (G := fun p => G (0 + p)) (in_x m c hx t) (in_h m c hh t) (in_g m c hg t)
    refine Eq.trans (show (dats m 0 c).flushed 3 t = (outsAt0 (F := Ideal) m c t.val t.isLt).1 from after0_3 m c t)
      (eq_block (f := qkX (sh 0 X) (G 0) H) hb (win0_3.blk t).view.emb fun r j => ?_)
    have h0 : ((win0_3.blk t).view.emb (ix2 r j) 0).val = r.val := by blk_simp; rw [(hi t).1] <;> omega
    have h1 : ((win0_3.blk t).view.emb (ix2 r j) 1).val = 128 * t.val + j.val := by blk_simp; rw [(hi t).2] <;> omega
    have hj := j.isLt
    rw [h0, h1, qkX, show (128 * t.val + j.val) / 128 = t.val by omega, show (128 * t.val + j.val) % 128 = j.val by omega]
  · have h0 : (i 0).val < 2048 := (i 0).isLt
    have h1 : (i 1).val < 2048 := (i 1).isLt
    have hp : (i 1).val / 128 < cfg0.N := by omega
    refine ⟨⟨(i 1).val / 128, hp⟩, flush0_3 _, ?_⟩
    have h := hi ⟨(i 1).val / 128, hp⟩
    dsimp only at h
    mem_blk
    rw [h.1, h.2]
    omega

end

end Cert.Kernel10Ideal.Mix

namespace Cert.Reference10Ideal.Mix

open Reference10Ideal Reference10Ideal.Gen Reference10Ideal.Read Cert.Mix
open Idealize.ShloMosaic

section
variable {x : FVec Ideal S2048x6144 .f32} {h : FVec Ideal S2048x2048 .f32} {g : FVec Ideal S2x1x128 .f32} {X H : Mat} {G : ℕ → Mat}

theorem r2 (hx : Is2 x X) : Is3 (val_main_v2 (F := Ideal) x) (fun t p k => sh 0 X t (128 * p + k)) := fun t p k => by
  simp only [val_main_v2, val_main_v1, val_main_v0]
  pointwise []
  rw [hx _ _]
  show X t.val (p.val * 128 + k.val) = X t.val (0 + (128 * p.val + k.val))
  rw [Nat.mul_comm, Nat.zero_add]

theorem r11 (hx : Is2 x X) : Is3 (val_main_v11 (F := Ideal) x) (fun t p _ => msH (sh 0 X) t p) := fun t p k => by
  simp only [val_main_v11, val_main_v10, val_main_v9, val_main_v8, val_main_v7, val_main_v6, val_main_v5, val_main_cst, val_main_cst_0, val_main_cst_1]
  pointwise []
  simp only [r2 hx _ _ _]
  rfl

theorem r12 (hx : Is2 x X) : Is3 (val_main_v12 (F := Ideal) x) (fun t p _ => Ideal.rsqrt (msH (sh 0 X) t p)) := fun t p k => by
  simp only [val_main_v12]
  pointwise []
  rw [r11 hx _ _ _]

theorem r15 (hx : Is2 x X) : Is3 (val_main_v15 (F := Ideal) x)
    (fun t p _ => mh * Ideal.div (Ideal.rsqrt (msH (sh 0 X) t p)) (msH (sh 0 X) t p)) := fun t p k => by
  simp only [val_main_v15, val_main_v14, val_main_v13, val_main_cst_2]
  pointwise []
  rw [r11 hx _ _ _, r12 hx _ _ _]
  rfl

theorem r17 (hx : Is2 x X) : Is3 (val_main_v17 (F := Ideal) x)
    (fun t p k => sh 0 X t (128 * p + k) * Ideal.rsqrt (msH (sh 0 X) t p)) := fun t p k => by
  simp only [val_main_v17, val_main_v16]
  pointwise []
  rw [r2 hx _ _ _, r12 hx _ _ _]

theorem r21 (hh : Is2 h H) : Is3 (val_main_v21 (F := Ideal) h) (fun t p k => H t (128 * p + k)) := fun t p k => by
  simp only [val_main_v21]
  pointwise []
  rw [hh _ _]
  show H t.val (p.val * 128 + k.val) = H t.val (128 * p.val + k.val)
  rw [Nat.mul_comm]

theorem r26 (hg : Is3 g G) (hh : Is2 h H) : Is3 (val_main_v26 (F := Ideal) g h) (fun t p k => H t (128 * p + k) * G 0 0 k) := fun t p k => by
  simp only [val_main_v26, val_main_v25, val_main_v18, val_main_v4, val_main_v3]
  pointwise []
  rw [r21 hh _ _ _, hg _ _ _]
  rfl

theorem r37 (hx : Is2 x X) (hg : Is3 g G) (hh : Is2 h H) : Is3 (val_main_v37 (F := Ideal) x g h)
    (fun t p _ => Ideal.div ((∑ j : Fin 128, sh 0 X t (128 * p + j.val) * (H t (128 * p + j.val) * G 0 0 j.val))
      * (mh * Ideal.div (Ideal.rsqrt (msH (sh 0 X) t p)) (msH (sh 0 X) t p))) wd) := fun t p k => by
  simp only [val_main_v37, val_main_v36, val_main_v35, val_main_v34, val_main_v33, val_main_v30, val_main_v29, val_main_v28, val_main_cst_5,
    val_main_cst_6, val_main_cst_7]
  pointwise []
  simp only [r2 hx _ _ _, r26 hg hh _ _ _, r15 hx _ _ _]
  exact Fin.sum_univ_one _

theorem r41 (hx : Is2 x X) (hg : Is3 g G) (hh : Is2 h H) : Is3 (val_main_v41 (F := Ideal) x g h)
    (fun t p k => qkP (sh 0 X) (G 0) H p t k) := fun t p k => by
  simp only [val_main_v41, val_main_v40, val_main_v39, val_main_v38, val_main_v32, val_main_v31]
  pointwise []
  simp only [r2 hx _ _ _, r26 hg hh _ _ _, r12 hx _ _ _, r37 hx hg hh _ _ _]
  have e := dnorm_row wd_pos (fun j : Fin 128 => sh 0 X t.val (128 * p.val + j.val)) (fun j => H t.val (128 * p.val + j.val) * G 0 0 j.val) 0 k
    (msH (sh 0 X) t.val p.val) rfl
  rw [zero_add, zero_add] at e
  exact e.symm

theorem r43 (hx : Is2 x X) (hg : Is3 g G) (hh : Is2 h H) : Is2 (val_main_v43 (F := Ideal) x g h) (qkX (sh 0 X) (G 0) H) := fun t k => by
  simp only [val_main_v43, val_main_v42]
  pointwise []
  exact r41 hx hg hh _ _ _

theorem r44 (hx : Is2 x X) (hh : Is2 h H) : Is2 (val_main_v44 (F := Ideal) x h) (qkG (sh 0 X) H 16) := fun r k => by
  simp only [val_main_v44, val_main_v27, val_main_v24, val_main_v23, val_main_v22, val_main_cst_3, val_main_cst_4]
  pointwise []
  rw [sum_01]
  pointwise []
  rw [sum_01]
  simp only [Fin.sum_univ_one]
  rw [zero_add, Finset.sum_comm]
  refine Eq.trans ?_ (Finset.sum_range _).symm
  refine Finset.sum_congr rfl fun p _ => Finset.sum_congr rfl fun t _ => ?_
  pointwise []
  rw [r21 hh _ _ _, r17 hx _ _ _, mul_comm]

end

end Cert.Reference10Ideal.Mix

namespace Cert.Mix

open Idealize.ShloMosaic TcCoe Idealize.SL.Sem

theorem equation10 : algebraic_Kernel10Ideal_Reference10Ideal (hKernel10Ideal := Kernel10Ideal.Gen.facts)
    (hReference10Ideal := Reference10Ideal.Gen.facts) := by
  intro m g m' g' _ he
  refine ⟨fun c => (Kernel10Ideal.Gen.dats (F := Ideal) m 0 c).arrAt 3 Kernel10Ideal.cfg0.N,
    fun c => (Kernel10Ideal.Gen.dats (F := Ideal) m 0 c).arrAt 4 Kernel10Ideal.cfg0.N, Kernel10Ideal.Value.run_blocks m g, ?_⟩
  refine (θ_run _ _ _).mono (fun r h c => ?_) (Reference10Ideal.Value.run m' g')
  obtain ⟨e0, e1, e2⟩ := he c
  obtain ⟨h0, h1, h2⟩ := h c
  have hx := is2_mat2 (n := 2048) (k := 6144) (m ((c.tc : Thread Kernel10Ideal.nD Kernel10Ideal.τ).loc Kernel10Ideal.main_arg0))
  have hg := is3_mat3 (n := 2) (k := 1) (l := 128) (m ((c.tc : Thread Kernel10Ideal.nD Kernel10Ideal.τ).loc Kernel10Ideal.main_arg1))
  have hh := is2_mat2 (n := 2048) (k := 2048) (m ((c.tc : Thread Kernel10Ideal.nD Kernel10Ideal.τ).loc Kernel10Ideal.main_arg2))
  refine ⟨h0.trans ?_, h1.trans ?_, h2⟩
  · clear h h0 h1 h2
    rw [Reference10Ideal.Read.val_main_v43_eq, e0, e1, e2]
    refine ext2 (Reference10Ideal.Mix.r43 hx hg hh) ?_ fun _ _ _ _ => rfl
    dsimp only
    rw [Kernel10Ideal.Mix.dx_arr m c hx hg hh]
    exact Kernel2Ideal.Mix.is2_arr2 _ _ _
  · clear h h0 h1 h2
    rw [Reference10Ideal.Read.val_main_v44_eq, e0, e2]
    refine ext2 (Reference10Ideal.Mix.r44 hx hh) ?_ fun _ _ _ _ => rfl
    dsimp only
    rw [Kernel10Ideal.Mix.dg_arr m c hx hh]
    exact Kernel2Ideal.Mix.is2_arr2 _ _ _

end Cert.Mix

namespace Cert.Kernel11Ideal.Mix

open Kernel11Ideal Kernel11Ideal.Gen Cert.Mix
open Kernel2Ideal.Mix (arr2 is2_block is3_block eq_block)
open Idealize.ShloMosaic TcCoe Idealize.SL.Sem

/-! ## One grid point -/

section
variable {x h : Vec Ideal S2048x128 .f32} {g : Vec Ideal S1x1x128 .f32} {X H : Mat} {G : ℕ → Mat} {p : ℕ}

theorem scale_tile (hx : Is2 x (fun r k => X r (128 * p + k))) : Is2 (k0_pay1 (F := Ideal) x) (fun r _ => Ideal.rsqrt (msH X r p)) := fun r k => by
  pointwise [k0_pay1]
  simp only [hx _ _]
  rfl

theorem norm_tile (hx : Is2 x (fun r k => X r (128 * p + k))) :
    Is2 (k0_pay2 (F := Ideal) x) (fun r k => X r (128 * p + k) * Ideal.rsqrt (msH X r p)) := fun r k => by
  pointwise [k0_pay2]
  rw [hx _ _, scale_tile hx _ _]

theorem dx_tile (hx : Is2 x (fun r k => X r (128 * p + k))) (hh : Is2 h (fun r k => H r (128 * p + k))) (hg : Is3 g G) :
    Is2 (k0_pay3 (F := Ideal) x h g) (qkP X (G 0) H p) := fun r k => by
  pointwise [k0_pay3]
  simp only [hh _ _, hg _ _ _, norm_tile hx _ _, scale_tile hx _ _]
  rfl

theorem dg_tile (hx : Is2 x (fun r k => X r (128 * p + k))) (hh : Is2 h (fun r k => H r (128 * p + k))) : Is2 (k0_pay4 (F := Ideal) x h)
    (fun _ k => ∑ t : Fin 2048, H t.val (128 * p + k) * (X t.val (128 * p + k) * Ideal.rsqrt (msH X t.val p))) := fun r k => by
  pointwise [k0_pay4]
  simp only [hh _ _, norm_tile hx _ _]

end

/-! ## The arrays after the run -/

variable (m : (l : Loc nD τ sig) → Buf (Elt Ideal) l) (c : Dev nD)

theorem in_x {X : Mat} (h : Is2 (n := 2048) (k := 6144) (m ((c.tc : Thread nD τ).loc main_arg0)) X) (t : Fin cfg0.N) :
    Is2 (n := 2048) (k := 128) (iblk m c 0 t) (fun r k => sh 2048 X r (128 * t.val + k)) := by
  have hi : ∀ t : Fin grid0.N, win0_0.index t 0 = 0 ∧ win0_0.index t 1 = t.val + 16 := by decide +kernel
  refine is2_block h (win0_0.blk t).view.emb fun r j => congrArg₂ X ?_ ?_
  all_goals blk_simp; simp only [hi t] <;> omega

theorem in_g {X : ℕ → Mat} (h : Is3 (n := 2) (k := 1) (l := 128) (m ((c.tc : Thread nD τ).loc main_arg1)) X) (t : Fin cfg0.N) :
    Is3 (n := 1) (k := 1) (l := 128) (iblk m c 1 t) (fun p => X (1 + p)) := by
  have hi : ∀ t : Fin grid0.N, win0_1.index t 0 = 1 ∧ win0_1.index t 1 = 0 ∧ win0_1.index t 2 = 0 := by decide +kernel
  refine is3_block h (win0_1.blk t).view.emb fun p r j => congr (congrArg₂ X ?_ ?_) ?_
  all_goals blk_simp; simp only [hi t] <;> omega

theorem in_h {X : Mat} (h : Is2 (n := 2048) (k := 2048) (m ((c.tc : Thread nD τ).loc main_arg2)) X) (t : Fin cfg0.N) :
    Is2 (n := 2048) (k := 128) (iblk m c 2 t) (fun r k => X r (128 * t.val + k)) := by
  have hi : ∀ t : Fin grid0.N, win0_2.index t 0 = 0 ∧ win0_2.index t 1 = t.val := by decide +kernel
  refine is2_block h (win0_2.blk t).view.emb fun r j => congrArg₂ X ?_ ?_
  all_goals blk_simp; simp only [hi t] <;> omega

section
variable {X H : Mat} {G : ℕ → Mat}
  (hx : Is2 (n := 2048) (k := 6144) (m ((c.tc : Thread nD τ).loc main_arg0)) X)
  (hg : Is3 (n := 2) (k := 1) (l := 128) (m ((c.tc : Thread nD τ).loc main_arg1)) G)
  (hh : Is2 (n := 2048) (k := 2048) (m ((c.tc : Thread nD τ).loc main_arg2)) H)
include hx hh

/-- The gradient of the gains after a head. -/
theorem carried : ∀ (n : ℕ) (h : n < cfg0.N), Is2 (outsAt0 (F := Ideal) m c n h).2 (qkG (sh 2048 X) H (n + 1)) := by
  intro n
  induction n with
  | zero =>
    intro h
    rw [outsAt0_A m c ⟨0, h⟩ rfl (by dsimp only; omega)]
    frame_out
    intro r k
    refine (dg_tile (in_x m c hx ⟨0, h⟩) (in_h m c hh ⟨0, h⟩) r k).trans ?_
    show _ = ∑ p ∈ Finset.range 1, _
    rw [Finset.sum_range_one]
  | succ n ih =>
    intro h
    have hN : cfg0.N = 16 := N_0
    rw [outsAt0_B m c ⟨n + 1, h⟩ (by dsimp only; omega) (by dsimp only; omega)]
    frame_out
    intro r k
    pointwise [k0_pay5]
    refine (congrArg₂ (fun a b : EReal => a + b) (ih (by omega) r k) (dg_tile (in_x m c hx ⟨n + 1, h⟩) (in_h m c hh ⟨n + 1, h⟩) r k)).trans ?_
    exact (Finset.sum_range_succ (fun p => ∑ t : Fin 2048, H t.val (128 * p + k.val) * (sh 2048 X t.val (128 * p + k.val)
      * Ideal.rsqrt (msH (sh 2048 X) t.val p))) (n + 1)).symm

/-- The gradient of the gains after the run. -/
theorem dg_arr : (dats (F := Ideal) m 0 c).arrAt 4 cfg0.N = arr2 1 128 (qkG (sh 2048 X) H 16) := by
  have hi : ∀ t : Fin grid0.N, win0_4.index t 0 = 0 ∧ win0_4.index t 1 = 0 := by decide +kernel
  have hN : cfg0.N = 16 := N_0
  refine (dats m 0 c).arrAt_eq_of_cover 4 (arr2 1 128 (qkG (sh 2048 X) H 16)) (fun t hf => ?_) fun i => ?_
  · have h7 : t.val % 16 = 15 := (flush0_4 t).mp hf
    have ht : t.val < 16 := lt_of_lt_of_eq t.isLt N_0
    refine Eq.trans (show (dats m 0 c).flushed 4 t = (outsAt0 (F := Ideal) m c t.val t.isLt).2 from after0_4 m c t)
      (eq_block (f := qkG (sh 2048 X) H 16) (carried m c hx hh t.val t.isLt) (win0_4.blk t).view.emb fun r j => ?_)
    have h1 : ((win0_4.blk t).view.emb (ix2 r j) 1).val = j.val := by blk_simp; rw [(hi t).2] <;> omega
    rw [h1, show t.val + 1 = 16 by omega]
    rfl
  · have h0 : (i 0).val < 1 := (i 0).isLt
    have h1 : (i 1).val < 128 := (i 1).isLt
    obtain ⟨t, ht⟩ : ∃ t : Fin cfg0.N, t.val = 15 := ⟨⟨15, by omega⟩, rfl⟩
    refine ⟨t, (flush0_4 t).mpr (by omega), ?_⟩
    have h := hi t
    mem_blk
    rw [h.1, h.2]
    omega

include hg

/-- The gradient at the rows after the run. -/
theorem dx_arr : (dats (F := Ideal) m 0 c).arrAt 3 cfg0.N = arr2 2048 2048 (qkX (sh 2048 X) (G 1) H) := by
  have hi : ∀ t : Fin grid0.N, win0_3.index t 0 = 0 ∧ win0_3.index t 1 = t.val := by decide +kernel
  have hN : cfg0.N = 16 := N_0
  refine (dats m 0 c).arrAt_eq_of_cover 3 (arr2 2048 2048 (qkX (sh 2048 X) (G 1) H)) (fun t hf => ?_) fun i => ?_
  · have hb : Is2 (outsAt0 (F := Ideal) m c t.val t.isLt).1 (qkP (sh 2048 X) (G 1) H t.val) := by
      have ht : t.val < 16 := lt_of_lt_of_eq t.isLt N_0
      by_cases h0 : t.val % 16 = 0
      · rw [outsAt0_A m c t h0 (by omega)]
        frame_out
        exact dx_tile (G := fun p => G (1 + p)) (in_x m c hx t) (in_h m c hh t) (in_g m c hg t)
      · rw [outsAt0_B m c t h0 (by omega)]
        frame_out
        exact dx_tile (G := fun p => G (1 + p)) (in_x m c hx t) (in_h m c hh t) (in_g m c hg t)
    refine Eq.trans (show (dats m 0 c).flushed 3 t = (outsAt0 (F := Ideal) m c t.val t.isLt).1 from after0_3 m c t)
      (eq_block (f := qkX (sh 2048 X) (G 1) H) hb (win0_3.blk t).view.emb fun r j => ?_)
    have h0 : ((win0_3.blk t).view.emb (ix2 r j) 0).val = r.val := by blk_simp; rw [(hi t).1] <;> omega
    have h1 : ((win0_3.blk t).view.emb (ix2 r j) 1).val = 128 * t.val + j.val := by blk_simp; rw [(hi t).2] <;> omega
    have hj := j.isLt
    rw [h0, h1, qkX, show (128 * t.val + j.val) / 128 = t.val by omega, show (128 * t.val + j.val) % 128 = j.val by omega]
  · have h0 : (i 0).val < 2048 := (i 0).isLt
    have h1 : (i 1).val < 2048 := (i 1).isLt
    have hp : (i 1).val / 128 < cfg0.N := by omega
    refine ⟨⟨(i 1).val / 128, hp⟩, flush0_3 _, ?_⟩
    have h := hi ⟨(i 1).val / 128, hp⟩
    dsimp only at h
    mem_blk
    rw [h.1, h.2]
    omega

end

end Cert.Kernel11Ideal.Mix

namespace Cert.Reference11Ideal.Mix

open Reference11Ideal Reference11Ideal.Gen Reference11Ideal.Read Cert.Mix
open Idealize.ShloMosaic

section
variable {x : FVec Ideal S2048x6144 .f32} {h : FVec Ideal S2048x2048 .f32} {g : FVec Ideal S2x1x128 .f32} {X H : Mat} {G : ℕ → Mat}

theorem r2 (hx : Is2 x X) : Is3 (val_main_v2 (F := Ideal) x) (fun t p k => sh 2048 X t (128 * p + k)) := fun t p k => by
  simp only [val_main_v2, val_main_v1, val_main_v0]
  pointwise []
  rw [hx _ _]
  show X t.val (2048 + p.val * 128 + k.val) = X t.val (2048 + (128 * p.val + k.val))
  rw [Nat.mul_comm, Nat.add_assoc]

theorem r11 (hx : Is2 x X) : Is3 (val_main_v11 (F := Ideal) x) (fun t p _ => msH (sh 2048 X) t p) := fun t p k => by
  simp only [val_main_v11, val_main_v10, val_main_v9, val_main_v8, val_main_v7, val_main_v6, val_main_v5, val_main_cst, val_main_cst_0, val_main_cst_1]
  pointwise []
  simp only [r2 hx _ _ _]
  rfl

theorem r12 (hx : Is2 x X) : Is3 (val_main_v12 (F := Ideal) x) (fun t p _ => Ideal.rsqrt (msH (sh 2048 X) t p)) := fun t p k => by
  simp only [val_main_v12]
  pointwise []
  rw [r11 hx _ _ _]

theorem r15 (hx : Is2 x X) : Is3 (val_main_v15 (F := Ideal) x)
    (fun t p _ => mh * Ideal.div (Ideal.rsqrt (msH (sh 2048 X) t p)) (msH (sh 2048 X) t p)) := fun t p k => by
  simp only [val_main_v15, val_main_v14, val_main_v13, val_main_cst_2]
  pointwise []
  rw [r11 hx _ _ _, r12 hx _ _ _]
  rfl

theorem r17 (hx : Is2 x X) : Is3 (val_main_v17 (F := Ideal) x)
    (fun t p k => sh 2048 X t (128 * p + k) * Ideal.rsqrt (msH (sh 2048 X) t p)) := fun t p k => by
  simp only [val_main_v17, val_main_v16]
  pointwise []
  rw [r2 hx _ _ _, r12 hx _ _ _]

theorem r21 (hh : Is2 h H) : Is3 (val_main_v21 (F := Ideal) h) (fun t p k => H t (128 * p + k)) := fun t p k => by
  simp only [val_main_v21]
  pointwise []
  rw [hh _ _]
  show H t.val (p.val * 128 + k.val) = H t.val (128 * p.val + k.val)
  rw [Nat.mul_comm]

theorem r26 (hg : Is3 g G) (hh : Is2 h H) : Is3 (val_main_v26 (F := Ideal) g h) (fun t p k => H t (128 * p + k) * G 1 0 k) := fun t p k => by
  simp only [val_main_v26, val_main_v25, val_main_v18, val_main_v4, val_main_v3]
  pointwise []
  rw [r21 hh _ _ _, hg _ _ _]
  rfl

theorem r37 (hx : Is2 x X) (hg : Is3 g G) (hh : Is2 h H) : Is3 (val_main_v37 (F := Ideal) x g h)
    (fun t p _ => Ideal.div ((∑ j : Fin 128, sh 2048 X t (128 * p + j.val) * (H t (128 * p + j.val) * G 1 0 j.val))
      * (mh * Ideal.div (Ideal.rsqrt (msH (sh 2048 X) t p)) (msH (sh 2048 X) t p))) wd) := fun t p k => by
  simp only [val_main_v37, val_main_v36, val_main_v35, val_main_v34, val_main_v33, val_main_v30, val_main_v29, val_main_v28, val_main_cst_5,
    val_main_cst_6, val_main_cst_7]
  pointwise []
  simp only [r2 hx _ _ _, r26 hg hh _ _ _, r15 hx _ _ _]
  exact Fin.sum_univ_one _

theorem r41 (hx : Is2 x X) (hg : Is3 g G) (hh : Is2 h H) : Is3 (val_main_v41 (F := Ideal) x g h)
    (fun t p k => qkP (sh 2048 X) (G 1) H p t k) := fun t p k => by
  simp only [val_main_v41, val_main_v40, val_main_v39, val_main_v38, val_main_v32, val_main_v31]
  pointwise []
  simp only [r2 hx _ _ _, r26 hg hh _ _ _, r12 hx _ _ _, r37 hx hg hh _ _ _]
  have e := dnorm_row wd_pos (fun j : Fin 128 => sh 2048 X t.val (128 * p.val + j.val)) (fun j => H t.val (128 * p.val + j.val) * G 1 0 j.val) 0 k
    (msH (sh 2048 X) t.val p.val) rfl
  rw [zero_add, zero_add] at e
  exact e.symm

theorem r43 (hx : Is2 x X) (hg : Is3 g G) (hh : Is2 h H) : Is2 (val_main_v43 (F := Ideal) x g h) (qkX (sh 2048 X) (G 1) H) := fun t k => by
  simp only [val_main_v43, val_main_v42]
  pointwise []
  exact r41 hx hg hh _ _ _

theorem r44 (hx : Is2 x X) (hh : Is2 h H) : Is2 (val_main_v44 (F := Ideal) x h) (qkG (sh 2048 X) H 16) := fun r k => by
  simp only [val_main_v44, val_main_v27, val_main_v24, val_main_v23, val_main_v22, val_main_cst_3, val_main_cst_4]
  pointwise []
  rw [sum_01]
  pointwise []
  rw [sum_01]
  simp only [Fin.sum_univ_one]
  rw [zero_add, Finset.sum_comm]
  refine Eq.trans ?_ (Finset.sum_range _).symm
  refine Finset.sum_congr rfl fun p _ => Finset.sum_congr rfl fun t _ => ?_
  pointwise []
  rw [r21 hh _ _ _, r17 hx _ _ _, mul_comm]

end

end Cert.Reference11Ideal.Mix

namespace Cert.Mix

open Idealize.ShloMosaic TcCoe Idealize.SL.Sem

theorem equation11 : algebraic_Kernel11Ideal_Reference11Ideal (hKernel11Ideal := Kernel11Ideal.Gen.facts)
    (hReference11Ideal := Reference11Ideal.Gen.facts) := by
  intro m g m' g' _ he
  refine ⟨fun c => (Kernel11Ideal.Gen.dats (F := Ideal) m 0 c).arrAt 3 Kernel11Ideal.cfg0.N,
    fun c => (Kernel11Ideal.Gen.dats (F := Ideal) m 0 c).arrAt 4 Kernel11Ideal.cfg0.N, Kernel11Ideal.Value.run_blocks m g, ?_⟩
  refine (θ_run _ _ _).mono (fun r h c => ?_) (Reference11Ideal.Value.run m' g')
  obtain ⟨e0, e1, e2⟩ := he c
  obtain ⟨h0, h1, h2⟩ := h c
  have hx := is2_mat2 (n := 2048) (k := 6144) (m ((c.tc : Thread Kernel11Ideal.nD Kernel11Ideal.τ).loc Kernel11Ideal.main_arg0))
  have hg := is3_mat3 (n := 2) (k := 1) (l := 128) (m ((c.tc : Thread Kernel11Ideal.nD Kernel11Ideal.τ).loc Kernel11Ideal.main_arg1))
  have hh := is2_mat2 (n := 2048) (k := 2048) (m ((c.tc : Thread Kernel11Ideal.nD Kernel11Ideal.τ).loc Kernel11Ideal.main_arg2))
  refine ⟨h0.trans ?_, h1.trans ?_, h2⟩
  · clear h h0 h1 h2
    rw [Reference11Ideal.Read.val_main_v43_eq, e0, e1, e2]
    refine ext2 (Reference11Ideal.Mix.r43 hx hg hh) ?_ fun _ _ _ _ => rfl
    dsimp only
    rw [Kernel11Ideal.Mix.dx_arr m c hx hg hh]
    exact Kernel2Ideal.Mix.is2_arr2 _ _ _
  · clear h h0 h1 h2
    rw [Reference11Ideal.Read.val_main_v44_eq, e0, e2]
    refine ext2 (Reference11Ideal.Mix.r44 hx hh) ?_ fun _ _ _ _ => rfl
    dsimp only
    rw [Kernel11Ideal.Mix.dg_arr m c hx hh]
    exact Kernel2Ideal.Mix.is2_arr2 _ _ _

end Cert.Mix

end
-- ==== Proof.MixAtt.lean ====
module

public import proofs.«01_k».proof.Proof.Gen.Kernel8Ideal.Frame
public import proofs.«01_k».proof.Proof.Gen.Reference8Ideal.Read
public import proofs.«01_k».proof.Proof.MixGate
public import proofs.«01_k».proof.Proof.MixQk

/-! # The projections of the attention layer

Seven calls: the norm, the projection to q, k and v, the norms of the heads of q and k, the projection back with the
residual, the gradient at the heads' outputs, and the gradients of both projections' weights. -/

@[expose] public section

set_option maxRecDepth 16384

noncomputable section

namespace Cert.Mix

open Idealize.ShloMosaic

/-- One head's normalised columns, scaled. -/
def qnP (x g : Mat) (p : ℕ) : Mat := fun t k => x t (128 * p + k) * Ideal.rsqrt (msH x t p) * g 0 k
/-- The heads of q and of k, normalised; q has its own gains and k its own. -/
def qn (x : Mat) (g : ℕ → Mat) : Mat := fun t c => qnP x (g (c / 2048)) (c / 128) t (c % 128)
/-- The projection back, with the residual. -/
def xr (a w x : Mat) : Mat := fun t c => upP a w t c + x t c

end Cert.Mix

namespace Cert.Kernel8Ideal.Mix

open Kernel8Ideal Kernel8Ideal.Gen Cert.Mix
open Kernel2Ideal.Mix (arr2 arr3 is2_block is3_block eq_block eq_block3 is2_arr2 is3_arr3 is2_of is3_of)
open Idealize.ShloMosaic TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## One grid point -/

theorem hb_tile {x : Vec Ideal S256x2048 .f32} {g : Vec Ideal S1x2048 .f32} {X G : Mat} (hx : Is2 x X) (hg : Is2 g G) :
    Is2 (out0_2 x g) (hb X G) := fun r c => by
  unfold out0_2
  rw [View.canon_cons_unit_lit _ _ _ (by decide)]; iterate 2 rw [View.ld_unit_lit _ _ (by decide)]
  pointwise [k0_pay1]
  simp only [hx _ _, hg _ _]
  rfl

theorem qkv_tile {h : Vec Ideal S512x2048 .bf16} {w : Vec Ideal S1x2048x768 .bf16} {H : Mat} {W : ℕ → Mat} (hh : Is2 h H) (hw : Is3 w W) :
    Is2 (out1_2 h w) (upP H (W 0)) := fun r c => by
  unfold out1_2
  rw [View.canon_cons_unit_lit _ _ _ (by decide)]; iterate 2 rw [View.ld_unit_lit _ _ (by decide)]
  pointwise [k1_pay1]
  simp only [hh _ _, hw _ _ _]
  rfl

theorem qn_tile {x : Vec Ideal S2048x128 .f32} {g : Vec Ideal S1x1x128 .f32} {X : Mat} {G : ℕ → Mat} {p : ℕ}
    (hx : Is2 x (fun r k => X r (128 * p + k))) (hg : Is3 g G) : Is2 (out2_2 x g) (qnP X (G 0) p) := fun r k => by
  unfold out2_2
  rw [View.canon_cons_unit_lit _ _ _ (by decide)]; iterate 2 rw [View.ld_unit_lit _ _ (by decide)]
  pointwise [k2_pay1]
  simp only [hx _ _, hg _ _ _]
  rfl

theorem xr_tile {a : Vec Ideal S512x2048 .bf16} {w : Vec Ideal S2048x512 .bf16} {x : Vec Ideal S512x512 .f32} {A W X : Mat}
    (ha : Is2 a A) (hw : Is2 w W) (hx : Is2 x X) : Is2 (out3_3 a w x) (xr A W X) := fun r c => by
  unfold out3_3
  rw [View.canon_cons_unit_lit _ _ _ (by decide)]; iterate 3 rw [View.ld_unit_lit _ _ (by decide)]
  pointwise [k3_pay1]
  simp only [ha _ _, hw _ _, hx _ _]
  rfl

theorem do_tile {x w : Vec Ideal S512x2048 .bf16} {X W : Mat} (hx : Is2 x X) (hw : Is2 w W) : Is2 (out4_2 x w) (da X W) := fun r c => by
  unfold out4_2
  rw [View.canon_cons_unit_lit _ _ _ (by decide)]; iterate 2 rw [View.ld_unit_lit _ _ (by decide)]
  pointwise [k4_pay1]
  simp only [hx _ _, hw _ _]
  rfl

theorem dwo_tile {a : Vec Ideal S2048x512 .bf16} {x : Vec Ideal S2048x1024 .bf16} {A X : Mat} (ha : Is2 a A) (hx : Is2 x X) :
    Is2 (out5_2 a x) (dwd A X) := fun r c => by
  unfold out5_2
  rw [View.canon_cons_unit_lit _ _ _ (by decide)]; iterate 2 rw [View.ld_unit_lit _ _ (by decide)]
  pointwise [k5_pay1]
  simp only [ha _ _, hx _ _]
  rfl

theorem dwqkv_tile {h : Vec Ideal S2048x512 .bf16} {d : Vec Ideal S2048x768 .bf16} {H D : Mat} (hh : Is2 h H) (hd : Is2 d D) :
    Is3 (out6_2 h d) (fun _ => dwuP H D) := fun p r c => by
  have hp : p = 0 := Subsingleton.elim _ _
  subst hp
  unfold out6_2
  rw [View.canon_cons_unit_lit _ _ _ (by decide)]; iterate 2 rw [View.ld_unit_lit _ _ (by decide)]
  pointwise [k6_pay1]
  simp only [hh _ _, hd _ _]
  rfl

/-! ## The arrays after each call -/

section

variable (V : (c : Dev nD) → (b : Ref sig .tc) → Buf (Elt Ideal) ((c : Thread nD τ).loc b)) (c : Dev nD)

theorem in0_0 {F : Mat} (h : Is2 (n := 2048) (k := 2048) (V c main_arg0) F) (t : Fin cfg0.N) :
    Is2 (n := 256) (k := 2048) (iblk0 V c 0 t) (fun r j => F (256 * t.val + r) j) := by
  have hi : ∀ t : Fin grid0.N, win0_0.index t 0 = t.val ∧ win0_0.index t 1 = 0 := by decide +kernel
  refine is2_block h (win0_0.blk t).view.emb fun r j => congrArg₂ F ?_ ?_
  all_goals blk_simp; simp only [hi t] <;> omega

theorem in0_1 {F : Mat} (h : Is2 (n := 1) (k := 2048) (V c main_arg1) F) (t : Fin cfg0.N) :
    Is2 (n := 1) (k := 2048) (iblk0 V c 1 t) (F) := by
  have hi : ∀ t : Fin grid0.N, win0_1.index t 0 = 0 ∧ win0_1.index t 1 = 0 := by decide +kernel
  refine is2_block h (win0_1.blk t).view.emb fun r j => congrArg₂ F ?_ ?_
  all_goals blk_simp; simp only [hi t] <;> omega

theorem hb_arr {X G : Mat} (hx : Is2 (n := 2048) (k := 2048) (V c main_arg0) X) (hg : Is2 (n := 1) (k := 2048) (V c main_arg1) G) :
    (dat0 V c).arrAt 2 cfg0.N = arr2 2048 2048 (hb X G) := by
  have hi : ∀ t : Fin grid0.N, win0_2.index t 0 = t.val ∧ win0_2.index t 1 = 0 := by decide +kernel
  refine (dat0 V c).arrAt_eq_of_cover 2 (arr2 2048 2048 (hb X G)) (fun t _ => ?_) fun i => ?_
  · refine Eq.trans (show (dat0 V c).flushed 2 t = out0_2 (iblk0 V c 0 t) (iblk0 V c 1 t) from after0_2 V c t)
      (eq_block (f := hb X G) (hb_tile (in0_0 V c hx t) (in0_1 V c hg t)) (win0_2.blk t).view.emb fun r j => ?_)
    have hN : t.val < 8 := lt_of_lt_of_eq t.isLt N_0
    have h0 : ((win0_2.blk t).view.emb (ix2 r j) 0).val = 256 * (t.val) + r.val := by blk_simp; rw [(hi t).1] <;> omega
    have h1 : ((win0_2.blk t).view.emb (ix2 r j) 1).val = j.val := by blk_simp; rw [(hi t).2] <;> omega
    rw [h0, h1]
    rfl
  · have h0 : (i 0).val < 2048 := (i 0).isLt
    have h1 : (i 1).val < 2048 := (i 1).isLt
    have hN : cfg0.N = 8 := N_0
    have hp : (i 0).val / 256 < cfg0.N := by omega
    refine ⟨⟨(i 0).val / 256, hp⟩, flush0_2 _, ?_⟩
    have h := hi ⟨(i 0).val / 256, hp⟩
    dsimp only at h
    mem_blk
    rw [h.1, h.2]
    omega

theorem in1_0 {F : Mat} (h : Is2 (n := 2048) (k := 2048) (V c main_v0) F) (t : Fin cfg1.N) :
    Is2 (n := 512) (k := 2048) (iblk1 V c 0 t) (fun r j => F (512 * (t.val / 8) + r) j) := by
  have hi : ∀ t : Fin grid1.N, win1_0.index t 0 = t.val / 8 ∧ win1_0.index t 1 = 0 := by decide +kernel
  refine is2_block h (win1_0.blk t).view.emb fun r j => congrArg₂ F ?_ ?_
  all_goals blk_simp; simp only [hi t] <;> omega

theorem in1_1 {F : ℕ → Mat} (h : Is3 (n := 8) (k := 2048) (l := 768) (V c main_arg2) F) (t : Fin cfg1.N) :
    Is3 (n := 1) (k := 2048) (l := 768) (iblk1 V c 1 t) (fun p => F (t.val % 8 + p)) := by
  have hi : ∀ t : Fin grid1.N, win1_1.index t 0 = t.val % 8 ∧ win1_1.index t 1 = 0 ∧ win1_1.index t 2 = 0 := by decide +kernel
  refine is3_block h (win1_1.blk t).view.emb fun p r j => congr (congrArg₂ F ?_ ?_) ?_
  all_goals blk_simp; simp only [hi t] <;> omega

theorem qkv_arr {H : Mat} {W : ℕ → Mat} (hh : Is2 (n := 2048) (k := 2048) (V c main_v0) H)
    (hw : Is3 (n := 8) (k := 2048) (l := 768) (V c main_arg2) W) :
    (dat1 V c).arrAt 2 cfg1.N = arr2 2048 6144 (upW 768 H W) := by
  have hi : ∀ t : Fin grid1.N, win1_2.index t 0 = t.val / 8 ∧ win1_2.index t 1 = t.val % 8 := by decide +kernel
  refine (dat1 V c).arrAt_eq_of_cover 2 (arr2 2048 6144 (upW 768 H W)) (fun t _ => ?_) fun i => ?_
  · refine Eq.trans (show (dat1 V c).flushed 2 t = out1_2 (iblk1 V c 0 t) (iblk1 V c 1 t) from after1_2 V c t)
      (eq_block (f := upW 768 H W) (qkv_tile (in1_0 V c hh t) (in1_1 V c hw t)) (win1_2.blk t).view.emb fun r j => ?_)
    have hN : t.val < 32 := lt_of_lt_of_eq t.isLt N_1
    have h0 : ((win1_2.blk t).view.emb (ix2 r j) 0).val = 512 * (t.val / 8) + r.val := by blk_simp; rw [(hi t).1] <;> omega
    have h1 : ((win1_2.blk t).view.emb (ix2 r j) 1).val = 768 * (t.val % 8) + j.val := by blk_simp; rw [(hi t).2] <;> omega
    rw [h0, h1]
    rw [upW_piece j.isLt]
    rfl
  · have h0 : (i 0).val < 2048 := (i 0).isLt
    have h1 : (i 1).val < 6144 := (i 1).isLt
    have hN : cfg1.N = 32 := N_1
    have hp : 8 * ((i 0).val / 512) + (i 1).val / 768 < cfg1.N := by omega
    refine ⟨⟨8 * ((i 0).val / 512) + (i 1).val / 768, hp⟩, flush1_2 _, ?_⟩
    have h := hi ⟨8 * ((i 0).val / 512) + (i 1).val / 768, hp⟩
    dsimp only at h
    mem_blk
    rw [h.1, h.2]
    omega

theorem in2_0 {F : Mat} (h : Is2 (n := 2048) (k := 6144) (V c main_v1) F) (t : Fin cfg2.N) :
    Is2 (n := 2048) (k := 128) (iblk2 V c 0 t) (fun r j => F r (128 * t.val + j)) := by
  have hi : ∀ t : Fin grid2.N, win2_0.index t 0 = 0 ∧ win2_0.index t 1 = t.val := by decide +kernel
  refine is2_block h (win2_0.blk t).view.emb fun r j => congrArg₂ F ?_ ?_
  all_goals blk_simp; simp only [hi t] <;> omega

theorem in2_1 {F : ℕ → Mat} (h : Is3 (n := 2) (k := 1) (l := 128) (V c main_arg3) F) (t : Fin cfg2.N) :
    Is3 (n := 1) (k := 1) (l := 128) (iblk2 V c 1 t) (fun p => F (t.val / 16 + p)) := by
  have hi : ∀ t : Fin grid2.N, win2_1.index t 0 = t.val / 16 ∧ win2_1.index t 1 = 0 ∧ win2_1.index t 2 = 0 := by decide +kernel
  refine is3_block h (win2_1.blk t).view.emb fun p r j => congr (congrArg₂ F ?_ ?_) ?_
  all_goals blk_simp; simp only [hi t] <;> omega

theorem qn_arr {X : Mat} {G : ℕ → Mat} (hx : Is2 (n := 2048) (k := 6144) (V c main_v1) X)
    (hg : Is3 (n := 2) (k := 1) (l := 128) (V c main_arg3) G) :
    (dat2 V c).arrAt 2 cfg2.N = arr2 2048 4096 (qn X G) := by
  have hi : ∀ t : Fin grid2.N, win2_2.index t 0 = 0 ∧ win2_2.index t 1 = t.val := by decide +kernel
  refine (dat2 V c).arrAt_eq_of_cover 2 (arr2 2048 4096 (qn X G)) (fun t _ => ?_) fun i => ?_
  · refine Eq.trans (show (dat2 V c).flushed 2 t = out2_2 (iblk2 V c 0 t) (iblk2 V c 1 t) from after2_2 V c t)
      (eq_block (f := qn X G) (qn_tile (in2_0 V c hx t) (in2_1 V c hg t)) (win2_2.blk t).view.emb fun r j => ?_)
    have hN : t.val < 32 := lt_of_lt_of_eq t.isLt N_2
    have h0 : ((win2_2.blk t).view.emb (ix2 r j) 0).val = r.val := by blk_simp; rw [(hi t).1] <;> omega
    have h1 : ((win2_2.blk t).view.emb (ix2 r j) 1).val = 128 * (t.val) + j.val := by blk_simp; rw [(hi t).2] <;> omega
    rw [h0, h1]
    rw [qn, show (128 * (t.val) + j.val) / 2048 = t.val / 16 by omega, show (128 * (t.val) + j.val) / 128 = t.val by omega, show (128 * (t.val) + j.val) % 128 = j.val by omega]
    rfl
  · have h0 : (i 0).val < 2048 := (i 0).isLt
    have h1 : (i 1).val < 4096 := (i 1).isLt
    have hN : cfg2.N = 32 := N_2
    have hp : (i 1).val / 128 < cfg2.N := by omega
    refine ⟨⟨(i 1).val / 128, hp⟩, flush2_2 _, ?_⟩
    have h := hi ⟨(i 1).val / 128, hp⟩
    dsimp only at h
    mem_blk
    rw [h.1, h.2]
    omega

theorem in3_0 {F : Mat} (h : Is2 (n := 2048) (k := 2048) (V c main_arg4) F) (t : Fin cfg3.N) :
    Is2 (n := 512) (k := 2048) (iblk3 V c 0 t) (fun r j => F (512 * (t.val / 4) + r) j) := by
  have hi : ∀ t : Fin grid3.N, win3_0.index t 0 = t.val / 4 ∧ win3_0.index t 1 = 0 := by decide +kernel
  refine is2_block h (win3_0.blk t).view.emb fun r j => congrArg₂ F ?_ ?_
  all_goals blk_simp; simp only [hi t] <;> omega

theorem in3_1 {F : Mat} (h : Is2 (n := 2048) (k := 2048) (V c main_arg5) F) (t : Fin cfg3.N) :
    Is2 (n := 2048) (k := 512) (iblk3 V c 1 t) (fun r j => F r (512 * (t.val % 4) + j)) := by
  have hi : ∀ t : Fin grid3.N, win3_1.index t 0 = 0 ∧ win3_1.index t 1 = t.val % 4 := by decide +kernel
  refine is2_block h (win3_1.blk t).view.emb fun r j => congrArg₂ F ?_ ?_
  all_goals blk_simp; simp only [hi t] <;> omega

theorem in3_2 {F : Mat} (h : Is2 (n := 2048) (k := 2048) (V c main_arg0) F) (t : Fin cfg3.N) :
    Is2 (n := 512) (k := 512) (iblk3 V c 2 t) (fun r j => F (512 * (t.val / 4) + r) (512 * (t.val % 4) + j)) := by
  have hi : ∀ t : Fin grid3.N, win3_2.index t 0 = t.val / 4 ∧ win3_2.index t 1 = t.val % 4 := by decide +kernel
  refine is2_block h (win3_2.blk t).view.emb fun r j => congrArg₂ F ?_ ?_
  all_goals blk_simp; simp only [hi t] <;> omega

theorem xr_arr {A W X : Mat} (ha : Is2 (n := 2048) (k := 2048) (V c main_arg4) A) (hw : Is2 (n := 2048) (k := 2048) (V c main_arg5) W)
    (hx : Is2 (n := 2048) (k := 2048) (V c main_arg0) X) :
    (dat3 V c).arrAt 3 cfg3.N = arr2 2048 2048 (xr A W X) := by
  have hi : ∀ t : Fin grid3.N, win3_3.index t 0 = t.val / 4 ∧ win3_3.index t 1 = t.val % 4 := by decide +kernel
  refine (dat3 V c).arrAt_eq_of_cover 3 (arr2 2048 2048 (xr A W X)) (fun t _ => ?_) fun i => ?_
  · refine Eq.trans (show (dat3 V c).flushed 3 t = out3_3 (iblk3 V c 0 t) (iblk3 V c 1 t) (iblk3 V c 2 t) from after3_3 V c t)
      (eq_block (f := xr A W X) (xr_tile (in3_0 V c ha t) (in3_1 V c hw t) (in3_2 V c hx t)) (win3_3.blk t).view.emb fun r j => ?_)
    have hN : t.val < 16 := lt_of_lt_of_eq t.isLt N_3
    have h0 : ((win3_3.blk t).view.emb (ix2 r j) 0).val = 512 * (t.val / 4) + r.val := by blk_simp; rw [(hi t).1] <;> omega
    have h1 : ((win3_3.blk t).view.emb (ix2 r j) 1).val = 512 * (t.val % 4) + j.val := by blk_simp; rw [(hi t).2] <;> omega
    rw [h0, h1]
    rfl
  · have h0 : (i 0).val < 2048 := (i 0).isLt
    have h1 : (i 1).val < 2048 := (i 1).isLt
    have hN : cfg3.N = 16 := N_3
    have hp : 4 * ((i 0).val / 512) + (i 1).val / 512 < cfg3.N := by omega
    refine ⟨⟨4 * ((i 0).val / 512) + (i 1).val / 512, hp⟩, flush3_3 _, ?_⟩
    have h := hi ⟨4 * ((i 0).val / 512) + (i 1).val / 512, hp⟩
    dsimp only at h
    mem_blk
    rw [h.1, h.2]
    omega

theorem in4_0 {F : Mat} (h : Is2 (n := 2048) (k := 2048) (V c main_v4) F) (t : Fin cfg4.N) :
    Is2 (n := 512) (k := 2048) (iblk4 V c 0 t) (fun r j => F (512 * (t.val / 4) + r) j) := by
  have hi : ∀ t : Fin grid4.N, win4_0.index t 0 = t.val / 4 ∧ win4_0.index t 1 = 0 := by decide +kernel
  refine is2_block h (win4_0.blk t).view.emb fun r j => congrArg₂ F ?_ ?_
  all_goals blk_simp; simp only [hi t] <;> omega

theorem in4_1 {F : Mat} (h : Is2 (n := 2048) (k := 2048) (V c main_arg5) F) (t : Fin cfg4.N) :
    Is2 (n := 512) (k := 2048) (iblk4 V c 1 t) (fun r j => F (512 * (t.val % 4) + r) j) := by
  have hi : ∀ t : Fin grid4.N, win4_1.index t 0 = t.val % 4 ∧ win4_1.index t 1 = 0 := by decide +kernel
  refine is2_block h (win4_1.blk t).view.emb fun r j => congrArg₂ F ?_ ?_
  all_goals blk_simp; simp only [hi t] <;> omega

theorem do_arr {X W : Mat} (hx : Is2 (n := 2048) (k := 2048) (V c main_v4) X) (hw : Is2 (n := 2048) (k := 2048) (V c main_arg5) W) :
    (dat4 V c).arrAt 2 cfg4.N = arr2 2048 2048 (da X W) := by
  have hi : ∀ t : Fin grid4.N, win4_2.index t 0 = t.val / 4 ∧ win4_2.index t 1 = t.val % 4 := by decide +kernel
  refine (dat4 V c).arrAt_eq_of_cover 2 (arr2 2048 2048 (da X W)) (fun t _ => ?_) fun i => ?_
  · refine Eq.trans (show (dat4 V c).flushed 2 t = out4_2 (iblk4 V c 0 t) (iblk4 V c 1 t) from after4_2 V c t)
      (eq_block (f := da X W) (do_tile (in4_0 V c hx t) (in4_1 V c hw t)) (win4_2.blk t).view.emb fun r j => ?_)
    have hN : t.val < 16 := lt_of_lt_of_eq t.isLt N_4
    have h0 : ((win4_2.blk t).view.emb (ix2 r j) 0).val = 512 * (t.val / 4) + r.val := by blk_simp; rw [(hi t).1] <;> omega
    have h1 : ((win4_2.blk t).view.emb (ix2 r j) 1).val = 512 * (t.val % 4) + j.val := by blk_simp; rw [(hi t).2] <;> omega
    rw [h0, h1]
    rfl
  · have h0 : (i 0).val < 2048 := (i 0).isLt
    have h1 : (i 1).val < 2048 := (i 1).isLt
    have hN : cfg4.N = 16 := N_4
    have hp : 4 * ((i 0).val / 512) + (i 1).val / 512 < cfg4.N := by omega
    refine ⟨⟨4 * ((i 0).val / 512) + (i 1).val / 512, hp⟩, flush4_2 _, ?_⟩
    have h := hi ⟨4 * ((i 0).val / 512) + (i 1).val / 512, hp⟩
    dsimp only at h
    mem_blk
    rw [h.1, h.2]
    omega

theorem in5_0 {F : Mat} (h : Is2 (n := 2048) (k := 2048) (V c main_arg4) F) (t : Fin cfg5.N) :
    Is2 (n := 2048) (k := 512) (iblk5 V c 0 t) (fun r j => F r (512 * (t.val / 2) + j)) := by
  have hi : ∀ t : Fin grid5.N, win5_0.index t 0 = 0 ∧ win5_0.index t 1 = t.val / 2 := by decide +kernel
  refine is2_block h (win5_0.blk t).view.emb fun r j => congrArg₂ F ?_ ?_
  all_goals blk_simp; simp only [hi t] <;> omega

theorem in5_1 {F : Mat} (h : Is2 (n := 2048) (k := 2048) (V c main_v4) F) (t : Fin cfg5.N) :
    Is2 (n := 2048) (k := 1024) (iblk5 V c 1 t) (fun r j => F r (1024 * (t.val % 2) + j)) := by
  have hi : ∀ t : Fin grid5.N, win5_1.index t 0 = 0 ∧ win5_1.index t 1 = t.val % 2 := by decide +kernel
  refine is2_block h (win5_1.blk t).view.emb fun r j => congrArg₂ F ?_ ?_
  all_goals blk_simp; simp only [hi t] <;> omega

theorem dwo_arr {A X : Mat} (ha : Is2 (n := 2048) (k := 2048) (V c main_arg4) A) (hx : Is2 (n := 2048) (k := 2048) (V c main_v4) X) :
    (dat5 V c).arrAt 2 cfg5.N = arr2 2048 2048 (dwd A X) := by
  have hi : ∀ t : Fin grid5.N, win5_2.index t 0 = t.val / 2 ∧ win5_2.index t 1 = t.val % 2 := by decide +kernel
  refine (dat5 V c).arrAt_eq_of_cover 2 (arr2 2048 2048 (dwd A X)) (fun t _ => ?_) fun i => ?_
  · refine Eq.trans (show (dat5 V c).flushed 2 t = out5_2 (iblk5 V c 0 t) (iblk5 V c 1 t) from after5_2 V c t)
      (eq_block (f := dwd A X) (dwo_tile (in5_0 V c ha t) (in5_1 V c hx t)) (win5_2.blk t).view.emb fun r j => ?_)
    have hN : t.val < 8 := lt_of_lt_of_eq t.isLt N_5
    have h0 : ((win5_2.blk t).view.emb (ix2 r j) 0).val = 512 * (t.val / 2) + r.val := by blk_simp; rw [(hi t).1] <;> omega
    have h1 : ((win5_2.blk t).view.emb (ix2 r j) 1).val = 1024 * (t.val % 2) + j.val := by blk_simp; rw [(hi t).2] <;> omega
    rw [h0, h1]
    rfl
  · have h0 : (i 0).val < 2048 := (i 0).isLt
    have h1 : (i 1).val < 2048 := (i 1).isLt
    have hN : cfg5.N = 8 := N_5
    have hp : 2 * ((i 0).val / 512) + (i 1).val / 1024 < cfg5.N := by omega
    refine ⟨⟨2 * ((i 0).val / 512) + (i 1).val / 1024, hp⟩, flush5_2 _, ?_⟩
    have h := hi ⟨2 * ((i 0).val / 512) + (i 1).val / 1024, hp⟩
    dsimp only at h
    mem_blk
    rw [h.1, h.2]
    omega

theorem in6_0 {F : Mat} (h : Is2 (n := 2048) (k := 2048) (V c main_v0) F) (t : Fin cfg6.N) :
    Is2 (n := 2048) (k := 512) (iblk6 V c 0 t) (fun r j => F r (512 * (t.val % 4) + j)) := by
  have hi : ∀ t : Fin grid6.N, win6_0.index t 0 = 0 ∧ win6_0.index t 1 = t.val % 4 := by decide +kernel
  refine is2_block h (win6_0.blk t).view.emb fun r j => congrArg₂ F ?_ ?_
  all_goals blk_simp; simp only [hi t] <;> omega

theorem in6_1 {F : Mat} (h : Is2 (n := 2048) (k := 6144) (V c main_arg7) F) (t : Fin cfg6.N) :
    Is2 (n := 2048) (k := 768) (iblk6 V c 1 t) (sh (768 * (t.val / 4)) F) := by
  have hi : ∀ t : Fin grid6.N, win6_1.index t 0 = 0 ∧ win6_1.index t 1 = t.val / 4 := by decide +kernel
  refine is2_block h (win6_1.blk t).view.emb fun r j => congrArg₂ F ?_ ?_
  all_goals blk_simp; simp only [hi t] <;> omega

theorem dwqkv_arr {H D : Mat} (hh : Is2 (n := 2048) (k := 2048) (V c main_v0) H) (hd : Is2 (n := 2048) (k := 6144) (V c main_arg7) D) :
    (dat6 V c).arrAt 2 cfg6.N = arr3 8 2048 768 (dwW 768 H D) := by
  have hi : ∀ t : Fin grid6.N, win6_2.index t 0 = t.val / 4 ∧ win6_2.index t 1 = t.val % 4 ∧ win6_2.index t 2 = 0 := by decide +kernel
  refine (dat6 V c).arrAt_eq_of_cover 2 (arr3 8 2048 768 (dwW 768 H D)) (fun t _ => ?_) fun i => ?_
  · refine Eq.trans (show (dat6 V c).flushed 2 t = out6_2 (iblk6 V c 0 t) (iblk6 V c 1 t) from after6_2 V c t)
      (eq_block3 (f := dwW 768 H D) (dwqkv_tile (in6_0 V c hh t) (in6_1 V c hd t)) (win6_2.blk t).view.emb fun p r j => ?_)
    have hN : t.val < 32 := lt_of_lt_of_eq t.isLt N_6
    have h0 : ((win6_2.blk t).view.emb (ix3 p r j) 0).val = t.val / 4 := by blk_simp; rw [(hi t).1] <;> omega
    have h1 : ((win6_2.blk t).view.emb (ix3 p r j) 1).val = 512 * (t.val % 4) + r.val := by blk_simp; rw [(hi t).2.1] <;> omega
    have h2 : ((win6_2.blk t).view.emb (ix3 p r j) 2).val = j.val := by blk_simp; rw [(hi t).2.2] <;> omega
    rw [h0, h1, h2]
    rfl
  · have h0 : (i 0).val < 8 := (i 0).isLt
    have h1 : (i 1).val < 2048 := (i 1).isLt
    have h2 : (i 2).val < 768 := (i 2).isLt
    have hN : cfg6.N = 32 := N_6
    have hp : 4 * (i 0).val + (i 1).val / 512 < cfg6.N := by omega
    refine ⟨⟨4 * (i 0).val + (i 1).val / 512, hp⟩, flush6_2 _, ?_⟩
    have h := hi ⟨4 * (i 0).val + (i 1).val / 512, hp⟩
    dsimp only at h
    mem_blk
    rw [h.1, h.2.1, h.2.2]
    omega

end

/-! ## The run of the seven calls -/

local notation "𝕄" => MT nD τ sig Unit (Elt Ideal) ℕ (UR sig nD τ) ℕ

variable (m : (ℓ : Loc nD τ sig) → Buf (Elt Ideal) ℓ) (ρ : Dev nD → PrngReg)

-- the launch's implicit arguments are found by unifying its conclusion with this one
set_option backward.isDefEq.respectTransparency.types false in
/-- Every run ends, nothing faulting, with every unscoped buffer at the last boundary's contents. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The run of the seven calls, its results and arguments by name. -/
theorem run_values : θ_run Kernel8Ideal.defs (onTc (τ := Kernel8Ideal.τ) (Kernel8Ideal.main (F := Ideal))) ⟨m, fun _ => 0, ρ⟩ (fun r => ∀ c : Dev Kernel8Ideal.nD,
      r.2.mem ((c.tc : Thread nD τ).loc main_v1) = W8 m ρ c (Proc.devRef .tc main_v1)
      ∧ r.2.mem ((c.tc : Thread nD τ).loc main_v2) = W8 m ρ c (Proc.devRef .tc main_v2)
      ∧ r.2.mem ((c.tc : Thread nD τ).loc main_v3) = W8 m ρ c (Proc.devRef .tc main_v3)
      ∧ r.2.mem ((c.tc : Thread nD τ).loc main_v5) = W8 m ρ c (Proc.devRef .tc main_v5)
      ∧ r.2.mem ((c.tc : Thread nD τ).loc main_v6) = W8 m ρ c (Proc.devRef .tc main_v6)
      ∧ r.2.mem ((c.tc : Thread nD τ).loc main_v7) = W8 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r h c =>
    ⟨h c _ (mem_uc main_v1 (by decide)), h c _ (mem_uc main_v2 (by decide)), h c _ (mem_uc main_v3 (by decide)), h c _ (mem_uc main_v5 (by decide)), h c _ (mem_uc main_v6 (by decide)), h c _ (mem_uc main_v7 (by decide)),
     (h c _ (mem_uc main_arg0 (by decide))).trans (W8_args m ρ c main_arg0 (by decide)),
     (h c _ (mem_uc main_arg1 (by decide))).trans (W8_args m ρ c main_arg1 (by decide)),
     (h c _ (mem_uc main_arg2 (by decide))).trans (W8_args m ρ c main_arg2 (by decide)),
     (h c _ (mem_uc main_arg3 (by decide))).trans (W8_args m ρ c main_arg3 (by decide)),
     (h c _ (mem_uc main_arg4 (by decide))).trans (W8_args m ρ c main_arg4 (by decide)),
     (h c _ (mem_uc main_arg5 (by decide))).trans (W8_args m ρ c main_arg5 (by decide)),
     (h c _ (mem_uc main_arg6 (by decide))).trans (W8_args m ρ c main_arg6 (by decide)),
     (h c _ (mem_uc main_arg7 (by decide))).trans (W8_args m ρ c main_arg7 (by decide))⟩) (run_all m ρ)

section Results

variable (c : Dev nD) {X G O P DX D : Mat} {W Q : ℕ → Mat}

variable (hx : Is2 (n := 2048) (k := 2048) (m ((c : Thread nD τ).loc main_arg0)) X)
variable (hg : Is2 (n := 1) (k := 2048) (m ((c : Thread nD τ).loc main_arg1)) G)
variable (hw : Is3 (n := 8) (k := 2048) (l := 768) (m ((c : Thread nD τ).loc main_arg2)) W)
variable (hq : Is3 (n := 2) (k := 1) (l := 128) (m ((c : Thread nD τ).loc main_arg3)) Q)
variable (ho : Is2 (n := 2048) (k := 2048) (m ((c : Thread nD τ).loc main_arg4)) O)
variable (hp : Is2 (n := 2048) (k := 2048) (m ((c : Thread nD τ).loc main_arg5)) P)
variable (hy : Is2 (n := 2048) (k := 2048) (m ((c : Thread nD τ).loc main_arg6)) DX)
variable (hd : Is2 (n := 2048) (k := 6144) (m ((c : Thread nD τ).loc main_arg7)) D)

include hx hg in
theorem b1 : W1 m ρ c (Proc.devRef .tc main_v0) = arr2 2048 2048 (hb X G) :=
  (W1_arr m ρ c 2).trans (hb_arr (V0 m ρ) c hx hg)
include hx hg hw in
theorem b2 : W2 m ρ c (Proc.devRef .tc main_v1) = arr2 2048 6144 (upW 768 (hb X G) W) :=
  (W2_arr m ρ c 2).trans (qkv_arr (V1 m ρ) c (is2_of (b1 m ρ c hx hg) (is2_arr2 _ _ _)) (is3_of (W1_args m ρ c main_arg2 (by decide)) hw))
include hy in
theorem b5 : Is2 (n := 2048) (k := 2048) (W5 m ρ c (Proc.devRef .tc main_v4)) DX := by
  intro r k
  have e : W5 m ρ c (Proc.devRef .tc main_v4) = (truncf (F := Ideal) .bf16 (W4 m ρ c (Proc.devRef .tc main_arg6)) bitsLt_bf16_f32 : FVec Ideal S2048x2048 .bf16) := by
    show StableHlo.after hostOps4 (W4 m ρ c) (Proc.devRef .tc main_v4) = _
    simp only [hostOps4]
    after_results
  rw [e, W4_args m ρ c main_arg6 (by decide)]
  exact hy r k

/-! ## The six results -/

include hx hg hw in
theorem r_qkv : Is2 (n := 2048) (k := 6144) (W8 m ρ c (Proc.devRef .tc main_v1)) (upW 768 (hb X G) W) :=
  is2_of ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (b2 m ρ c hx hg hw))))))) (is2_arr2 _ _ _)
include hx hg hw hq in
theorem r_qn : Is2 (n := 2048) (k := 4096) (W8 m ρ c (Proc.devRef .tc main_v2)) (qn (upW 768 (hb X G) W) Q) :=
  is2_of ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_arr m ρ c 2).trans (qn_arr (V2 m ρ) c
    (is2_of (b2 m ρ c hx hg hw) (is2_arr2 _ _ _)) (is3_of (W2_args m ρ c main_arg3 (by decide)) hq)))))))) (is2_arr2 _ _ _)
include hx ho hp in
theorem r_mid : Is2 (n := 2048) (k := 2048) (W8 m ρ c (Proc.devRef .tc main_v3)) (xr O P X) :=
  is2_of ((W8_of m ρ c main_v3 (by decide)).trans ((W7_of m ρ c main_v3 (by decide)).trans ((W6_of m ρ c main_v3 (by decide)).trans ((W5_of m ρ c main_v3 (by decide)).trans ((W4_arr m ρ c 3).trans (xr_arr (V3 m ρ) c
    (is2_of (W3_args m ρ c main_arg4 (by decide)) ho) (is2_of (W3_args m ρ c main_arg5 (by decide)) hp) (is2_of (W3_args m ρ c main_arg0 (by decide)) hx))))))) (is2_arr2 _ _ _)
include hp hy in
theorem r_do : Is2 (n := 2048) (k := 2048) (W8 m ρ c (Proc.devRef .tc main_v5)) (da DX P) :=
  is2_of ((W8_of m ρ c main_v5 (by decide)).trans ((W7_of m ρ c main_v5 (by decide)).trans ((W6_arr m ρ c 2).trans (do_arr (V5 m ρ) c (b5 m ρ c hy)
    (is2_of (W5_args m ρ c main_arg5 (by decide)) hp))))) (is2_arr2 _ _ _)
include ho hy in
theorem r_dwo : Is2 (n := 2048) (k := 2048) (W8 m ρ c (Proc.devRef .tc main_v6)) (dwd O DX) :=
  is2_of ((W8_of m ρ c main_v6 (by decide)).trans ((W7_arr m ρ c 2).trans (dwo_arr (V6 m ρ) c (is2_of (W6_args m ρ c main_arg4 (by decide)) ho)
    (is2_of (W6_of m ρ c main_v4 (by decide)) (b5 m ρ c hy))))) (is2_arr2 _ _ _)
include hx hg hd in
theorem r_dwqkv : Is3 (n := 8) (k := 2048) (l := 768) (W8 m ρ c (Proc.devRef .tc main_v7)) (dwW 768 (hb X G) D) :=
  is3_of ((W8_arr m ρ c 2).trans (dwqkv_arr (V7 m ρ) c
    (is2_of ((W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)).trans (b1 m ρ c hx hg))))))) (is2_arr2 _ _ _))
    (is2_of (W7_args m ρ c main_arg7 (by decide)) hd))) (is3_arr3 _ _ _ _)

end Results

end Cert.Kernel8Ideal.Mix

/-! ## The reference's values -/

namespace Cert.Reference8Ideal.Mix

open Reference8Ideal Reference8Ideal.Gen Reference8Ideal.Read Cert.Mix
open Idealize.ShloMosaic TcCoe

variable {x dx : (⟨S2048x2048, .f32⟩ : BufTy).Contents (Elt Ideal)} {g : (⟨S1x2048, .f32⟩ : BufTy).Contents (Elt Ideal)}
variable {w : (⟨S8x2048x768, .bf16⟩ : BufTy).Contents (Elt Ideal)} {q : (⟨S2x1x128, .f32⟩ : BufTy).Contents (Elt Ideal)}
variable {o p : (⟨S2048x2048, .bf16⟩ : BufTy).Contents (Elt Ideal)} {d : (⟨S2048x6144, .bf16⟩ : BufTy).Contents (Elt Ideal)}
variable {X G O P DX D : Mat} {W Q : ℕ → Mat}

variable (hx : Is2 (n := 2048) (k := 2048) x X) (hg : Is2 (n := 1) (k := 2048) g G) (hw : Is3 (n := 8) (k := 2048) (l := 768) w W)
variable (hq : Is3 (n := 2) (k := 1) (l := 128) q Q) (ho : Is2 (n := 2048) (k := 2048) o O) (hp : Is2 (n := 2048) (k := 2048) p P)
variable (hy : Is2 (n := 2048) (k := 2048) dx DX) (hd : Is2 (n := 2048) (k := 6144) d D)

include hx hg in
theorem r13 : Is2 (n := 2048) (k := 2048) (val_main_v13 (F := Ideal) x g) (Cert.Mix.hb X G) := fun r k => by
  simp only [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  pointwise []
  simp only [hx _ _, hg _ _]
  rfl

include hx hg hw in
theorem r17 : Is2 (n := 2048) (k := 6144) (val_main_v17 (F := Ideal) x g w) (upW 768 (Cert.Mix.hb X G) W) := fun r k => by
  simp only [val_main_v17, val_main_v16, val_main_v15, val_main_v14]
  pointwise []
  simp only [r13 hx hg _ _, hw _ _ _]
  rfl

section Heads

variable {U : Mat} (hu : Is2 (n := 2048) (k := 6144) (val_main_v17 (F := Ideal) x g w) U)
include hu

theorem r27 : Is3 (n := 2048) (k := 16) (l := 128) (val_main_v27 (F := Ideal) x g w) (fun t h k => U t (128 * h + k)) := fun t h k => by
  simp only [val_main_v27, val_main_v26, val_main_v25]
  pointwise []
  rw [hu _ _]
  refine congrArg (U _) ?_
  dsimp only
  omega

theorem r45 : Is3 (n := 2048) (k := 16) (l := 128) (val_main_v45 (F := Ideal) x g w) (fun t h k => U t (128 * (16 + h) + k)) := fun t h k => by
  simp only [val_main_v45, val_main_v44, val_main_v25]
  pointwise []
  rw [hu _ _]
  refine congrArg (U _) ?_
  dsimp only
  omega

include hq

theorem r42 : Is3 (n := 2048) (k := 16) (l := 128) (val_main_v42 (F := Ideal) x g w q) (fun t h k => qnP U (Q 0) h t k) := fun t h k => by
  simp only [val_main_v42, val_main_v41, val_main_v40, val_main_v39, val_main_v38, val_main_v37, val_main_v36, val_main_v35, val_main_v34, val_main_v33, val_main_v32, val_main_v31, val_main_v30, val_main_v29, val_main_v28, val_main_cst_2, val_main_cst_3, val_main_cst_4]
  pointwise []
  simp only [r27 hu _ _ _, hq _ _ _]
  rfl

theorem r60 : Is3 (n := 2048) (k := 16) (l := 128) (val_main_v60 (F := Ideal) x g w q) (fun t h k => qnP U (Q 1) (16 + h) t k) := fun t h k => by
  simp only [val_main_v60, val_main_v59, val_main_v58, val_main_v57, val_main_v56, val_main_v55, val_main_v54, val_main_v53, val_main_v52, val_main_v51, val_main_v50, val_main_v49, val_main_v48, val_main_v47, val_main_v46, val_main_cst_5, val_main_cst_6, val_main_cst_7]
  pointwise []
  simp only [r45 hu _ _ _, hq _ _ _]
  rfl

theorem r63 : Is2 (n := 2048) (k := 4096) (val_main_v63 (F := Ideal) x g w q) (qn U Q) := fun r k => by
  simp only [val_main_v63, val_main_v62, val_main_v61, val_main_v43]
  pointwise []
  unfold qn
  split
  · rw [r42 hq hu _ _ _, show k.val / 2048 = 0 by omega]
  · rw [r60 hq hu _ _ _, show k.val / 2048 = 1 by omega, show k.val / 128 = 16 + (k.val - 2048) / 128 by omega, show k.val % 128 = (k.val - 2048) % 128 by omega]

end Heads

include hx ho hp in
theorem r21 : Is2 (n := 2048) (k := 2048) (val_main_v21 (F := Ideal) x o p) (xr O P X) := fun r k => by
  simp only [val_main_v21, val_main_v20, val_main_v19, val_main_v18]
  pointwise []
  simp only [ho _ _, hp _ _]
  rw [hx _ _, add_comm]
  rfl

include hp hy in
theorem r64 : Is2 (n := 2048) (k := 2048) (val_main_v64 (F := Ideal) p dx) (da DX P) := fun r k => by
  simp only [val_main_v64, val_main_v24, val_main_v19]
  pointwise []
  simp only [hp _ _, hy _ _]
  rfl

include ho hy in
theorem r65 : Is2 (n := 2048) (k := 2048) (val_main_v65 (F := Ideal) o dx) (dwd O DX) := fun r k => by
  simp only [val_main_v65, val_main_v23, val_main_v22, val_main_v18]
  pointwise []
  refine Finset.sum_congr rfl fun t _ => ?_
  rw [ho _ _, hy _ _, mul_comm]

include hx hg hd in
theorem r71 : Is3 (n := 8) (k := 2048) (l := 768) (val_main_v71 (F := Ideal) x g d) (dwW 768 (Cert.Mix.hb X G) D) := fun p r k => by
  simp only [val_main_v71, val_main_v70, val_main_v69, val_main_v68, val_main_v67, val_main_v66]
  pointwise []
  show _ = ∑ t : Fin 2048, Cert.Mix.hb X G t.val r.val * D t.val (768 * p.val + k.val)
  refine Finset.sum_congr rfl fun t _ => ?_
  rw [r13 hx hg _ _, hd _ _, mul_comm, Nat.mul_comm 768]

end Cert.Reference8Ideal.Mix

namespace Cert.Mix

open Idealize.ShloMosaic TcCoe Idealize.SL.Sem

open Kernel8Ideal (nD τ main_arg0 main_arg1 main_arg2 main_arg3 main_arg4 main_arg5 main_arg6 main_arg7) in
theorem equation8 : algebraic_Kernel8Ideal_Reference8Ideal (hKernel8Ideal := Kernel8Ideal.Gen.facts)
    (hReference8Ideal := Reference8Ideal.Gen.facts) := by
  intro m g m' g' _ he
  refine ⟨fun c => Kernel8Ideal.Gen.W8 m g c (Proc.devRef .tc Kernel8Ideal.main_v1),
    fun c => Kernel8Ideal.Gen.W8 m g c (Proc.devRef .tc Kernel8Ideal.main_v2),
    fun c => Kernel8Ideal.Gen.W8 m g c (Proc.devRef .tc Kernel8Ideal.main_v3),
    fun c => Kernel8Ideal.Gen.W8 m g c (Proc.devRef .tc Kernel8Ideal.main_v5),
    fun c => Kernel8Ideal.Gen.W8 m g c (Proc.devRef .tc Kernel8Ideal.main_v6),
    fun c => Kernel8Ideal.Gen.W8 m g c (Proc.devRef .tc Kernel8Ideal.main_v7), Kernel8Ideal.Mix.run_values m g, ?_⟩
  refine (θ_run _ _ _).mono (fun r h c => ?_) (Reference8Ideal.Value.run m' g')
  obtain ⟨e0, e1, e2, e3, e4, e5, e6, e7⟩ := he c
  obtain ⟨h0, h1, h2, h3, h4, h5, h6⟩ := h c
  have a0 := is2_mat2 (n := 2048) (k := 2048) (m ((c.tc : Thread nD τ).loc main_arg0))
  have a1 := is2_mat2 (n := 1) (k := 2048) (m ((c.tc : Thread nD τ).loc main_arg1))
  have a2 := is3_mat3 (n := 8) (k := 2048) (l := 768) (m ((c.tc : Thread nD τ).loc main_arg2))
  have a3 := is3_mat3 (n := 2) (k := 1) (l := 128) (m ((c.tc : Thread nD τ).loc main_arg3))
  have a4 := is2_mat2 (n := 2048) (k := 2048) (m ((c.tc : Thread nD τ).loc main_arg4))
  have a5 := is2_mat2 (n := 2048) (k := 2048) (m ((c.tc : Thread nD τ).loc main_arg5))
  have a6 := is2_mat2 (n := 2048) (k := 2048) (m ((c.tc : Thread nD τ).loc main_arg6))
  have a7 := is2_mat2 (n := 2048) (k := 6144) (m ((c.tc : Thread nD τ).loc main_arg7))
  have hu := Reference8Ideal.Mix.r17 a0 a1 a2
  refine ⟨h0.trans ?_, h1.trans ?_, h2.trans ?_, h3.trans ?_, h4.trans ?_, h5.trans ?_, h6⟩
  all_goals clear h h0 h1 h2 h3 h4 h5 h6
  · rw [Reference8Ideal.Read.val_main_v17_eq, e0, e1, e2]
    exact ext2 (Reference8Ideal.Mix.r17 a0 a1 a2) (Kernel8Ideal.Mix.r_qkv m g c a0 a1 a2) fun _ _ _ _ => rfl
  · rw [Reference8Ideal.Read.val_main_v63_eq, e0, e1, e2, e3]
    exact ext2 (Reference8Ideal.Mix.r63 a3 hu) (Kernel8Ideal.Mix.r_qn m g c a0 a1 a2 a3) fun _ _ _ _ => rfl
  · rw [Reference8Ideal.Read.val_main_v21_eq, e0, e4, e5]
    exact ext2 (Reference8Ideal.Mix.r21 a0 a4 a5) (Kernel8Ideal.Mix.r_mid m g c a0 a4 a5) fun _ _ _ _ => rfl
  · rw [Reference8Ideal.Read.val_main_v64_eq, e5, e6]
    exact ext2 (Reference8Ideal.Mix.r64 a5 a6) (Kernel8Ideal.Mix.r_do m g c a5 a6) fun _ _ _ _ => rfl
  · rw [Reference8Ideal.Read.val_main_v65_eq, e4, e6]
    exact ext2 (Reference8Ideal.Mix.r65 a4 a6) (Kernel8Ideal.Mix.r_dwo m g c a4 a6) fun _ _ _ _ => rfl
  · rw [Reference8Ideal.Read.val_main_v71_eq, e0, e1, e7]
    exact ext3 (Reference8Ideal.Mix.r71 a0 a1 a7) (Kernel8Ideal.Mix.r_dwqkv m g c a0 a1 a7) fun _ _ _ _ _ _ => rfl

end Cert.Mix

end
-- ==== Proof.MixEnd.lean ====
module

public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.Gen.Kernel14Ideal.Value
public import proofs.«01_k».proof.Proof.Gen.Reference14Ideal.Read
public import proofs.«01_k».proof.Proof.MixEquation
public import proofs.«01_k».proof.Proof.MixDnRow
public import Idealize.ShloMosaic.Lib.Pipeline.ReadBack

/-! # The loss, the sum of the parts and the step of the small weights

The loss takes the rows 256 at a time: the gradient is read off at each entry, and the loss is carried from point to
point in the result's own block. The other two calls are read off at each entry. -/

@[expose] public section

set_option maxRecDepth 16384

noncomputable section

namespace Cert.Mix

open Idealize.ShloMosaic

/-- One over the number of columns. -/
def lc : EReal := Ideal.ofBits FTy.f32 973078528#32
/-- Half of one over the number of columns. -/
def lh : EReal := Ideal.ofBits FTy.f32 964689920#32
/-- The loss's gradient. -/
def lsD (y t : Mat) : Mat := fun r k => (y r k - t r k) * lc
/-- The sum of squares over the first blocks of rows, scaled block by block. -/
def lsQ (y t : Mat) (q : ℕ) : Mat := fun _ _ =>
  ∑ p ∈ Finset.range q, (∑ r : Fin 256, ∑ k : Fin 2048, (y (256 * p + r.val) k.val - t (256 * p + r.val) k.val) * (y (256 * p + r.val) k.val - t (256 * p + r.val) k.val)) * lh

theorem lc_eq : lc = ((1 / 2048 : ℝ) : EReal) := by
  rw [show (1 / 2048 : ℝ) = 8388608 * ((2 : ℝ) ^ 34)⁻¹ by norm_num]
  unfold lc
  rw [EReal.coe_mul]
  simp [Ideal.ofBits, Ideal.ieee]
theorem lh_eq : lh = ((1 / 4096 : ℝ) : EReal) := by
  rw [show (1 / 4096 : ℝ) = 8388608 * ((2 : ℝ) ^ 35)⁻¹ by norm_num]
  unfold lh
  rw [EReal.coe_mul]
  simp [Ideal.ofBits, Ideal.ieee]
theorem wn_eq : wn = ((2048 : ℝ) : EReal) := by
  rw [show (2048 : ℝ) = 8388608 * ((2 : ℝ) ^ 12)⁻¹ by norm_num]
  unfold wn
  rw [EReal.coe_mul]
  simp [Ideal.ofBits, Ideal.ieee]
theorem half_eq : Ideal.ofBits FTy.f32 1056964608#32 = ((1 / 2 : ℝ) : EReal) := by
  rw [show (1 / 2 : ℝ) = 8388608 * ((2 : ℝ) ^ 24)⁻¹ by norm_num, EReal.coe_mul]
  simp [Ideal.ofBits, Ideal.ieee]
theorem two_eq : Ideal.ofBits FTy.f32 1073741824#32 = ((2 : ℝ) : EReal) := by
  rw [show (2 : ℝ) = 8388608 * ((2 : ℝ) ^ 22)⁻¹ by norm_num, EReal.coe_mul]
  simp [Ideal.ofBits, Ideal.ieee]

/-- The gradient of the mean of squares, halved: a product of the numbers is one number. -/
theorem ls_grad (e : EReal) :
    Ideal.div (Ideal.ofBits FTy.f32 1056964608#32) wn * (Ideal.ofBits FTy.f32 1073741824#32 * e) = e * lc := by
  rw [half_eq, two_eq, wn_eq, lc_eq, Ideal.div_coe (by norm_num), ← mul_assoc, ← EReal.coe_mul, ← EReal.coe_mul, mul_comm e]
  norm_num

/-- The sum over the blocks of rows is half of the sum over the rows of the means. -/
theorem ls_sum (y t : Mat) (r k : ℕ) : lsQ y t 8 r k = Ideal.ofBits FTy.f32 1056964608#32
    * ∑ p : Fin 2048, Ideal.div (∑ j : Fin 2048, (y p.val j.val - t p.val j.val) * (y p.val j.val - t p.val j.val)) wn := by
  unfold lsQ
  rw [wn_eq, half_eq, lh_eq, sum_scale _ _ (by norm_num)]
  simp only [Ideal.div_coe (show (2048 : ℝ) ≠ 0 by norm_num)]
  rw [sum_scale _ _ (by norm_num), mul_comm ((1 / 2 : ℝ) : EReal), mul_assoc, ← EReal.coe_mul]
  refine congr (congrArg _ ?_) (congrArg _ (by norm_num))
  rw [Finset.sum_range]
  refine (Fin.sum_divmod_congr (S := 256) (f := fun (p : Fin 8) r => ∑ k : Fin 2048, (y (256 * p.val + r) k.val - t (256 * p.val + r) k.val)
    * (y (256 * p.val + r) k.val - t (256 * p.val + r) k.val)) fun n ha hs => ?_).symm
  dsimp only
  rw [Nat.div_add_mod]

end Cert.Mix

namespace Cert.Kernel12Ideal.Mix

open Kernel12Ideal Kernel12Ideal.Gen Cert.Mix
open Kernel2Ideal.Mix (arr2 is2_block eq_block)
open Idealize.ShloMosaic TcCoe Idealize.SL.Sem

/-! ## The loss at one grid point -/

section
variable {y t : Vec Ideal S256x2048 .f32} {Y T : Mat} {o : ℕ}
  (hy : Is2 y (fun r k => Y (o + r) k)) (ht : Is2 t (fun r k => T (o + r) k))
include hy ht

theorem grad_tile : Is2 (k0_pay2 (F := Ideal) y t) (fun r k => lsD Y T (o + r) k) := fun r k => by
  pointwise [k0_pay2, k0_pay1]
  rw [hy _ _, ht _ _]
  rfl

theorem loss_tile : Is2 (k0_pay3 (F := Ideal) y t) (fun _ _ =>
    (∑ r : Fin 256, ∑ k : Fin 2048, (Y (o + r.val) k.val - T (o + r.val) k.val) * (Y (o + r.val) k.val - T (o + r.val) k.val)) * lh) := fun r k => by
  pointwise [k0_pay3, k0_pay1]
  simp only [hy _ _, ht _ _]
  rfl

end

/-! ## The arrays after the run -/

variable (m : (l : Loc nD τ sig) → Buf (Elt Ideal) l) (c : Dev nD)

theorem in_y {X : Mat} (h : Is2 (n := 2048) (k := 2048) (m ((c.tc : Thread nD τ).loc main_arg0)) X) (t : Fin cfg0.N) :
    Is2 (n := 256) (k := 2048) (iblk m c 0 t) (fun r k => X (256 * t.val + r) k) := by
  have hi : ∀ t : Fin grid0.N, win0_0.index t 0 = t.val ∧ win0_0.index t 1 = 0 := by decide +kernel
  refine is2_block h (win0_0.blk t).view.emb fun r j => congrArg₂ X ?_ ?_
  all_goals blk_simp; simp only [hi t] <;> omega

theorem in_t {X : Mat} (h : Is2 (n := 2048) (k := 2048) (m ((c.tc : Thread nD τ).loc main_arg1)) X) (t : Fin cfg0.N) :
    Is2 (n := 256) (k := 2048) (iblk m c 1 t) (fun r k => X (256 * t.val + r) k) := by
  have hi : ∀ t : Fin grid0.N, win0_1.index t 0 = t.val ∧ win0_1.index t 1 = 0 := by decide +kernel
  refine is2_block h (win0_1.blk t).view.emb fun r j => congrArg₂ X ?_ ?_
  all_goals blk_simp; simp only [hi t] <;> omega

section
variable {Y T : Mat}
  (hy : Is2 (n := 2048) (k := 2048) (m ((c.tc : Thread nD τ).loc main_arg0)) Y)
  (ht : Is2 (n := 2048) (k := 2048) (m ((c.tc : Thread nD τ).loc main_arg1)) T)
include hy ht

/-- The loss after a point. -/
theorem carried : ∀ (n : ℕ) (h : n < cfg0.N), Is2 (outsAt0 (F := Ideal) m c n h).2 (lsQ Y T (n + 1)) := by
  intro n
  induction n with
  | zero =>
    intro h
    rw [outsAt0_A m c ⟨0, h⟩ rfl (by dsimp only; omega)]
    frame_out
    intro r k
    refine (loss_tile (in_y m c hy ⟨0, h⟩) (in_t m c ht ⟨0, h⟩) r k).trans ?_
    show _ = ∑ p ∈ Finset.range 1, _
    rw [Finset.sum_range_one]
  | succ n ih =>
    intro h
    have hN : cfg0.N = 8 := N_0
    rw [outsAt0_B m c ⟨n + 1, h⟩ (by dsimp only; omega) (by dsimp only; omega)]
    frame_out
    intro r k
    pointwise [k0_pay4]
    refine (congrArg₂ (fun a b : EReal => a + b) (ih (by omega) r k)
      (loss_tile (in_y m c hy ⟨n + 1, h⟩) (in_t m c ht ⟨n + 1, h⟩) r k)).trans ?_
    exact (Finset.sum_range_succ (fun p => (∑ r : Fin 256, ∑ k : Fin 2048, (Y (256 * p + r.val) k.val - T (256 * p + r.val) k.val)
      * (Y (256 * p + r.val) k.val - T (256 * p + r.val) k.val)) * lh) (n + 1)).symm

/-- The loss after the run. -/
theorem loss_arr : (dats (F := Ideal) m 0 c).arrAt 3 cfg0.N = arr2 8 128 (lsQ Y T 8) := by
  have hi : ∀ t : Fin grid0.N, win0_3.index t 0 = 0 ∧ win0_3.index t 1 = 0 := by decide +kernel
  have hN : cfg0.N = 8 := N_0
  refine (dats m 0 c).arrAt_eq_of_cover 3 (arr2 8 128 (lsQ Y T 8)) (fun t hf => ?_) fun i => ?_
  · have h7 : t.val % 8 = 7 := (flush0_3 t).mp hf
    have h8 : t.val < 8 := lt_of_lt_of_eq t.isLt N_0
    refine Eq.trans (show (dats m 0 c).flushed 3 t = (outsAt0 (F := Ideal) m c t.val t.isLt).2 from after0_3 m c t)
      (eq_block (f := lsQ Y T 8) (carried m c hy ht t.val t.isLt) (win0_3.blk t).view.emb fun r j => ?_)
    rw [show t.val + 1 = 8 by omega]
    rfl
  · have h0 : (i 0).val < 8 := (i 0).isLt
    have h1 : (i 1).val < 128 := (i 1).isLt
    obtain ⟨t, h7⟩ : ∃ t : Fin cfg0.N, t.val = 7 := ⟨⟨7, by omega⟩, rfl⟩
    refine ⟨t, (flush0_3 t).mpr (by omega), ?_⟩
    have h := hi t
    mem_blk
    rw [h.1, h.2]
    omega

/-- The gradient after the run. -/
theorem grad_arr : (dats (F := Ideal) m 0 c).arrAt 2 cfg0.N = arr2 2048 2048 (lsD Y T) := by
  have hi : ∀ t : Fin grid0.N, win0_2.index t 0 = t.val ∧ win0_2.index t 1 = 0 := by decide +kernel
  have hN : cfg0.N = 8 := N_0
  refine (dats m 0 c).arrAt_eq_of_cover 2 (arr2 2048 2048 (lsD Y T)) (fun t hf => ?_) fun i => ?_
  · have hb : Is2 (outsAt0 (F := Ideal) m c t.val t.isLt).1 (fun r k => lsD Y T (256 * t.val + r) k) := by
      have h8 : t.val < 8 := lt_of_lt_of_eq t.isLt N_0
      by_cases h0 : t.val % 8 = 0
      · rw [outsAt0_A m c t h0 (by omega)]
        frame_out
        exact grad_tile (in_y m c hy t) (in_t m c ht t)
      · rw [outsAt0_B m c t h0 (by omega)]
        frame_out
        exact grad_tile (in_y m c hy t) (in_t m c ht t)
    refine Eq.trans (show (dats m 0 c).flushed 2 t = (outsAt0 (F := Ideal) m c t.val t.isLt).1 from after0_2 m c t)
      (eq_block (f := lsD Y T) hb (win0_2.blk t).view.emb fun r j => ?_)
    have h0 : ((win0_2.blk t).view.emb (ix2 r j) 0).val = 256 * t.val + r.val := by blk_simp; rw [(hi t).1] <;> omega
    have h1 : ((win0_2.blk t).view.emb (ix2 r j) 1).val = j.val := by blk_simp; rw [(hi t).2] <;> omega
    rw [h0, h1]
  · have h0 : (i 0).val < 2048 := (i 0).isLt
    have h1 : (i 1).val < 2048 := (i 1).isLt
    have hp : (i 0).val / 256 < cfg0.N := by omega
    refine ⟨⟨(i 0).val / 256, hp⟩, flush0_2 _, ?_⟩
    have h := hi ⟨(i 0).val / 256, hp⟩
    dsimp only at h
    mem_blk
    rw [h.1, h.2]
    omega

end

end Cert.Kernel12Ideal.Mix

namespace Cert.Reference12Ideal.Mix

open Reference12Ideal Reference12Ideal.Gen Reference12Ideal.Read Cert.Mix
open Idealize.ShloMosaic

section
variable {y t : FVec Ideal S2048x2048 .f32} {Y T : Mat} (hy : Is2 y Y) (ht : Is2 t T)
include hy ht

theorem r14 : Is2 (val_main_v14 (F := Ideal) y t) (lsD Y T) := fun r k => by
  simp only [val_main_v14, val_main_v13, val_main_v12, val_main_v11, val_main_v10, val_main_v9, val_main_v3, val_main_v2, val_main_v0,
    val_main_cst, val_main_cst_4, val_main_cst_5, val_main_cst_6]
  pointwise []
  rw [hy _ _, ht _ _]
  exact ls_grad _

theorem r15 : Is2 (val_main_v15 (F := Ideal) y t) (lsQ Y T 8) := fun r k => by
  rw [ls_sum]
  simp only [val_main_v15, val_main_v8, val_main_v7, val_main_v6, val_main_v5, val_main_v4, val_main_v1, val_main_v0,
    val_main_cst_0, val_main_cst_1, val_main_cst_2, val_main_cst_3]
  pointwise []
  simp only [hy _ _, ht _ _]
  rfl

end

end Cert.Reference12Ideal.Mix

/-! ## The sum of the parts -/

namespace Cert.Mix

/-- The sum of the eight parts. -/
def spS (x : ℕ → Mat) : Mat := fun r k => x 0 r k + x 1 r k + x 2 r k + x 3 r k + x 4 r k + x 5 r k + x 6 r k + x 7 r k

end Cert.Mix

namespace Cert.Kernel14Ideal.Mix

open Kernel14Ideal Kernel14Ideal.Gen Cert.Mix
open Kernel2Ideal.Mix (arr2 is3_block eq_block)
open Idealize.ShloMosaic TcCoe Idealize.SL.Sem

theorem sum_tile {x : Vec Ideal S8x64x512 .f32} {X : ℕ → Mat} (hx : Is3 x X) : Is2 (out0_1 (F := Ideal) x) (spS X) := by
  unfold out0_1
  rw [View.canon_cons_unit_lit _ _ _ (by decide)]
  simp only [View.ld_unit]
  intro r k
  pointwise [k0_pay1]
  simp only [hx _ _ _]
  rfl

variable (m : (l : Loc nD τ sig) → Buf (Elt Ideal) l) (c : Dev nD)

theorem in_x {X : ℕ → Mat} (h : Is3 (n := 8) (k := 1472) (l := 512) (m ((c.tc : Thread nD τ).loc main_arg0)) X) (t : Fin cfg0.N) :
    Is3 (n := 8) (k := 64) (l := 512) (iblk m c 0 t) (fun p r k => X p (64 * t.val + r) k) := by
  have hi : ∀ t : Fin grid0.N, win0_0.index t 0 = 0 ∧ win0_0.index t 1 = t.val ∧ win0_0.index t 2 = 0 := by decide +kernel
  refine is3_block h (win0_0.blk t).view.emb fun p r j => congr (congrArg₂ X ?_ ?_) ?_
  all_goals blk_simp; simp only [hi t] <;> omega

/-- The sum after the run. -/
theorem sum_arr {X : ℕ → Mat} (h : Is3 (n := 8) (k := 1472) (l := 512) (m ((c.tc : Thread nD τ).loc main_arg0)) X) :
    (dats (F := Ideal) m 0 c).arrAt 1 cfg0.N = arr2 1472 512 (spS X) := by
  have hi : ∀ t : Fin grid0.N, win0_1.index t 0 = t.val ∧ win0_1.index t 1 = 0 := by decide +kernel
  have hN : cfg0.N = 23 := N_0
  refine (dats m 0 c).arrAt_eq_of_cover 1 (arr2 1472 512 (spS X)) (fun t hf => ?_) fun i => ?_
  · refine Eq.trans (show (dats m 0 c).flushed 1 t = out0_1 (F := Ideal) (iblk m c 0 t) from after0_1 m c t)
      (eq_block (f := spS X) (sum_tile (in_x m c h t)) (win0_1.blk t).view.emb fun r j => ?_)
    have h0 : ((win0_1.blk t).view.emb (ix2 r j) 0).val = 64 * t.val + r.val := by blk_simp; rw [(hi t).1] <;> omega
    have h1 : ((win0_1.blk t).view.emb (ix2 r j) 1).val = j.val := by blk_simp; rw [(hi t).2] <;> omega
    rw [h0, h1]
    rfl
  · have h0 : (i 0).val < 1472 := (i 0).isLt
    have h1 : (i 1).val < 512 := (i 1).isLt
    have hp : (i 0).val / 64 < cfg0.N := by omega
    refine ⟨⟨(i 0).val / 64, hp⟩, flush0_1 _, ?_⟩
    have h := hi ⟨(i 0).val / 64, hp⟩
    dsimp only at h
    mem_blk
    rw [h.1, h.2]
    omega

end Cert.Kernel14Ideal.Mix

namespace Cert.Reference14Ideal.Mix

open Reference14Ideal Reference14Ideal.Gen Reference14Ideal.Read Cert.Mix
open Idealize.ShloMosaic

theorem r0 {x : FVec Ideal S8x1472x512 .f32} {X : ℕ → Mat} (hx : Is3 x X) : Is2 (val_main_v0 (F := Ideal) x) (spS X) := fun r k => by
  simp only [val_main_v0, val_main_cst]
  pointwise []
  simp only [hx _ _ _]
  exact Fin.sum_univ_eight _

end Cert.Reference14Ideal.Mix

namespace Cert.Mix

open Idealize.ShloMosaic TcCoe Idealize.SL.Sem

theorem equation12 : algebraic_Kernel12Ideal_Reference12Ideal (hKernel12Ideal := Kernel12Ideal.Gen.facts)
    (hReference12Ideal := Reference12Ideal.Gen.facts) := by
  intro m g m' g' _ he
  refine ⟨fun c => (Kernel12Ideal.Gen.dats (F := Ideal) m 0 c).arrAt 2 Kernel12Ideal.cfg0.N,
    fun c => (Kernel12Ideal.Gen.dats (F := Ideal) m 0 c).arrAt 3 Kernel12Ideal.cfg0.N, Kernel12Ideal.Value.run_blocks m g, ?_⟩
  refine (θ_run _ _ _).mono (fun r h c => ?_) (Reference12Ideal.Value.run m' g')
  obtain ⟨e0, e1⟩ := he c
  obtain ⟨h0, h1, h2⟩ := h c
  have hy := is2_mat2 (n := 2048) (k := 2048) (m ((c.tc : Thread Kernel12Ideal.nD Kernel12Ideal.τ).loc Kernel12Ideal.main_arg0))
  have ht := is2_mat2 (n := 2048) (k := 2048) (m ((c.tc : Thread Kernel12Ideal.nD Kernel12Ideal.τ).loc Kernel12Ideal.main_arg1))
  refine ⟨h0.trans ?_, h1.trans ?_, h2⟩
  · clear h h0 h1 h2
    rw [Reference12Ideal.Read.val_main_v14_eq, e0, e1]
    refine ext2 (Reference12Ideal.Mix.r14 hy ht) ?_ fun _ _ _ _ => rfl
    dsimp only
    rw [Kernel12Ideal.Mix.grad_arr m c hy ht]
    exact Kernel2Ideal.Mix.is2_arr2 _ _ _
  · clear h h0 h1 h2
    rw [Reference12Ideal.Read.val_main_v15_eq, e0, e1]
    refine ext2 (Reference12Ideal.Mix.r15 hy ht) ?_ fun _ _ _ _ => rfl
    dsimp only
    rw [Kernel12Ideal.Mix.loss_arr m c hy ht]
    exact Kernel2Ideal.Mix.is2_arr2 _ _ _

/-- The step of the packed small weights: the two texts do the same operations in the same order at each entry. -/
theorem equation13 : algebraic_Kernel13Ideal_Reference13Ideal (hKernel13Ideal := Kernel13Ideal.Gen.facts)
    (hReference13Ideal := Reference13Ideal.Gen.facts) := by
  intro m g m' g' _ he
  refine ⟨_, _, _, Kernel13Ideal.Value.run m g, ?_⟩
  refine (θ_run _ _ _).mono (fun r h c => ?_) (Reference13Ideal.Value.run m' g')
  obtain ⟨e0, e1, e2, e3⟩ := he c
  obtain ⟨h0, h1, h2, h3⟩ := h c
  refine ⟨h0.trans ?_, h1.trans ?_, h2.trans ?_, h3⟩
  · rw [Reference13Ideal.Read.val_main_v23_eq, e0, e1, e2, e3]
    funext i
    rfl
  · rw [Reference13Ideal.Read.val_main_v4_eq, e1, e2]
    funext i
    rfl
  · rw [Reference13Ideal.Read.val_main_v10_eq, e1, e3]
    funext i
    rfl

theorem equation14 : algebraic_Kernel14Ideal_Reference14Ideal (hKernel14Ideal := Kernel14Ideal.Gen.facts)
    (hReference14Ideal := Reference14Ideal.Gen.facts) := by
  intro m g m' g' _ he
  refine ⟨fun c => (Kernel14Ideal.Gen.dats (F := Ideal) m 0 c).arrAt 1 Kernel14Ideal.cfg0.N, Kernel14Ideal.Value.run_blocks m g, ?_⟩
  refine (θ_run _ _ _).mono (fun r h c => ?_) (Reference14Ideal.Value.run m' g')
  have e0 := he c
  obtain ⟨h0, h1⟩ := h c
  have hx := is3_mat3 (n := 8) (k := 1472) (l := 512) (m ((c.tc : Thread Kernel14Ideal.nD Kernel14Ideal.τ).loc Kernel14Ideal.main_arg0))
  refine ⟨h0.trans ?_, h1⟩
  clear h h0 h1
  rw [Reference14Ideal.Read.val_main_v0_eq, e0]
  refine ext2 (Reference14Ideal.Mix.r0 hx) ?_ fun _ _ _ _ => rfl
  dsimp only
  rw [Kernel14Ideal.Mix.sum_arr m c hx]
  exact Kernel2Ideal.Mix.is2_arr2 _ _ _

end Cert.Mix

end
-- ==== Proof.MixPoolModel.lean ====
module

public import proofs.«01_k».proof.Proof.MixTile
public import proofs.«01_k».proof.Proof.MixReal
public import proofs.«01_k».proof.Proof.RefValue
public import Idealize.ShloMosaic.Lib.PlanTiles.Rows
public import Idealize.ShloMosaic.Lib.KernelVsHost

/-! # Sums over windows of rows

The pooling mixer takes, for each of four groups of columns, means over the last two, four, eight or sixteen rows. The
kernel doubles a window step by step; the reference takes differences of running sums. Both are read here as one sum. -/

@[expose] public section

set_option maxRecDepth 16384

noncomputable section

namespace Cert.Mix

open Idealize.ShloMosaic
open Kernel2Ideal.Mix (select_sge select_slt toInt_word)
open Finset (range Ico)

/-- The sum over the last `n` rows. -/
def wdn (n : ℕ) (v : Mat) : Mat := fun r c => ∑ j ∈ range n, dn j v r c
/-- The sum over the next `n` rows. -/
def wu (n : ℕ) (v : Mat) : Mat := fun r c => ∑ j ∈ range n, us j v r c
/-- The number of rows of the window of a group that there are. -/
def cn (g r : ℕ) : EReal := (((min (r + 1) (2 ^ (g + 1)) : ℕ) : ℝ) : EReal)
/-- The mean over a group's window with the row itself taken off. -/
def pl (g : ℕ) (h : Mat) : Mat := fun r c => Ideal.div (wdn (2 ^ (g + 1)) h r c) (cn g r) - h r c

/-! ## Doubling a window -/

theorem wd_one (v : Mat) : wdn 1 v = v := by
  funext r c
  rw [wdn, Finset.sum_range_one, dn, if_pos (Nat.zero_le r), Nat.sub_zero]
theorem wd_twice (n : ℕ) (v : Mat) (r c : ℕ) : wdn n v r c + dn n (wdn n v) r c = wdn (n + n) v r c := by
  unfold wdn
  rw [Finset.sum_range_add]
  congr 1
  unfold dn
  split
  · refine Finset.sum_congr rfl fun j _ => ?_
    by_cases h : j ≤ r - n
    · rw [if_pos h, if_pos (by omega), Nat.sub_sub]
    · rw [if_neg h, if_neg (by omega)]
  · exact (Finset.sum_eq_zero fun j _ => if_neg (by omega)).symm

theorem wu_one (v : Mat) {r : ℕ} (hr : r < 2048) (c : ℕ) : wu 1 v r c = v r c := by
  rw [wu, Finset.sum_range_one, us, if_pos (by omega), Nat.add_zero]
theorem wu_twice (n : ℕ) (v : Mat) (r c : ℕ) : wu n v r c + us n (wu n v) r c = wu (n + n) v r c := by
  unfold wu
  rw [Finset.sum_range_add]
  congr 1
  unfold us
  split
  · refine Finset.sum_congr rfl fun j _ => ?_
    by_cases h : r + n < 2048 - j
    · rw [if_pos h, if_pos (by omega), Nat.add_assoc]
    · rw [if_neg h, if_neg (by omega)]
  · exact (Finset.sum_eq_zero fun j _ => if_neg (by omega)).symm

/-- One step of the kernel: from the group `q` on, the moved rows are added. -/
def gd (g q n : ℕ) (v : Mat) : Mat := fun r c => if q ≤ g then v r c + dn n v r c else v r c
/-- One step of the kernel upwards. -/
def gu (g q n : ℕ) (v : Mat) : Mat := fun r c => if q ≤ g then v r c + us n v r c else v r c

theorem gd_yes {g q : ℕ} (h : q ≤ g) (n : ℕ) (v : Mat) : gd g q n (wdn n v) = wdn (n + n) v := by
  funext r c
  rw [gd, if_pos h, wd_twice]
theorem gd_no {g q : ℕ} (h : ¬ q ≤ g) (n : ℕ) (v : Mat) : gd g q n v = v := by
  funext r c
  rw [gd, if_neg h]
theorem gu_yes {g q : ℕ} (h : q ≤ g) (n : ℕ) (v : Mat) : gu g q n (wu n v) = wu (n + n) v := by
  funext r c
  rw [gu, if_pos h, wu_twice]
theorem gu_no {g q : ℕ} (h : ¬ q ≤ g) (n : ℕ) (v : Mat) : gu g q n v = v := by
  funext r c
  rw [gu, if_neg h]

theorem gd_all {g : ℕ} (hg : g < 4) (v : Mat) : gd g 3 8 (gd g 2 4 (gd g 1 2 (gd g 0 1 v))) = wdn (2 ^ (g + 1)) v := by
  have e : gd g 0 1 v = wdn 2 v := by rw [← gd_yes (Nat.zero_le g) 1 v, wd_one]
  rw [e]
  interval_cases g
  · rw [gd_no (by omega), gd_no (by omega), gd_no (by omega)]; rfl
  · rw [gd_yes (by omega), gd_no (by omega), gd_no (by omega)]; rfl
  · rw [gd_yes (by omega), gd_yes (by omega), gd_no (by omega)]; rfl
  · rw [gd_yes (by omega), gd_yes (by omega), gd_yes (by omega)]; rfl
theorem gu_all {g : ℕ} (hg : g < 4) (v : Mat) : gu g 3 8 (gu g 2 4 (gu g 1 2 (gu g 0 1 (wu 1 v)))) = wu (2 ^ (g + 1)) v := by
  rw [gu_yes (Nat.zero_le g)]
  interval_cases g
  · rw [gu_no (by omega), gu_no (by omega), gu_no (by omega)]; rfl
  · rw [gu_yes (by omega), gu_no (by omega), gu_no (by omega)]; rfl
  · rw [gu_yes (by omega), gu_yes (by omega), gu_no (by omega)]; rfl
  · rw [gu_yes (by omega), gu_yes (by omega), gu_yes (by omega)]; rfl

/-! ## A window as a difference of running sums -/

/-- A running sum is the sum over the window and the running sum before the window. -/
theorem run_wd (v : Mat) (w s c : ℕ) : ∑ u ∈ range (s + 1), v u c = wdn w v s c + if w ≤ s then ∑ u ∈ range (s - w + 1), v u c else 0 := by
  unfold wdn dn
  rw [← Finset.sum_flip (fun u => v u c)]
  by_cases h : w ≤ s
  · rw [if_pos h, show s + 1 = w + (s - w + 1) by omega, Finset.sum_range_add]
    refine congrArg₂ (· + ·) (Finset.sum_congr rfl fun j hj => ?_) ?_
    · rw [Finset.mem_range] at hj
      rw [if_pos (by omega)]
    · rw [← Finset.sum_flip (fun u => v u c)]
      refine Finset.sum_congr rfl fun j _ => ?_
      rw [Nat.sub_sub]
  · rw [if_neg h, add_zero, ← Finset.sum_filter]
    refine Finset.sum_congr (Finset.ext fun k => ?_) fun _ _ => rfl
    simp only [Finset.mem_filter, Finset.mem_range]; omega

/-- A sum to the end is the sum over the window and the sum of the moved rows. -/
theorem run_wu (v : Mat) {w s : ℕ} (hs : s < 2048) (c : ℕ) : ∑ u ∈ Ico s 2048, v u c = wu w v s c + ∑ u ∈ Ico s 2048, us w v u c := by
  unfold wu us
  rw [Finset.sum_Ico_eq_sum_range, Finset.sum_Ico_eq_sum_range]
  by_cases h : w ≤ 2048 - s
  · conv_lhs => rw [show 2048 - s = w + (2048 - s - w) by omega, Finset.sum_range_add]
    refine congrArg₂ (· + ·) (Finset.sum_congr rfl fun j hj => ?_) ?_
    · rw [Finset.mem_range] at hj
      rw [if_pos (by omega)]
    · rw [← Finset.sum_filter, show (range (2048 - s)).filter (fun u => s + u < 2048 - w) = range (2048 - s - w) from Finset.ext fun k => by
        simp only [Finset.mem_filter, Finset.mem_range]; omega]
      refine Finset.sum_congr rfl fun j _ => ?_
      rw [show s + (w + j) = s + j + w by omega]
  · rw [Finset.sum_eq_zero (s := range (2048 - s)) (f := fun k => if s + k < 2048 - w then v (s + k + w) c else 0) fun k _ => if_neg (by omega), add_zero,
      ← Finset.sum_filter]
    refine Finset.sum_congr (Finset.ext fun k => ?_) fun _ _ => rfl
    simp only [Finset.mem_filter, Finset.mem_range]; omega

theorem sub_add_real {a b : EReal} (h : IsR b) : a + b - b = a := by
  obtain ⟨r, rfl⟩ := h
  exact EReal.add_sub_cancel_right

theorem sum_neg_real {ι : Type} (s : Finset ι) {f : ι → EReal} (h : ∀ i ∈ s, IsR (f i)) : ∑ i ∈ s, -f i = -∑ i ∈ s, f i := by
  classical
  induction s using Finset.induction_on with
  | empty => simp
  | insert a s ha ih =>
    have h2 := IsR.sum s fun i hi => h i (Finset.mem_insert_of_mem hi)
    rw [Finset.sum_insert ha, Finset.sum_insert ha, ih fun i hi => h i (Finset.mem_insert_of_mem hi)]
    obtain ⟨p, hp⟩ := h a (Finset.mem_insert_self a s)
    obtain ⟨q, hq⟩ := h2
    rw [hp, hq]
    norm_cast
    ring

section
variable {v : Mat} {s c : ℕ} (hv : ∀ u, u < 2048 → IsR (v u c)) (hs : s < 2048)
include hv hs

theorem diff_wd (w : ℕ) : (∑ u ∈ range (s + 1), v u c) - (if w ≤ s then ∑ u ∈ range (s - w + 1), v u c else 0) = wdn w v s c := by
  rw [run_wd v w s c]
  refine sub_add_real ?_
  split
  · exact IsR.sum _ fun u hu => hv u (by rw [Finset.mem_range] at hu; omega)
  · exact isR_zero

theorem diff_wu (w : ℕ) : ∑ u ∈ Ico s 2048, (v u c + -us w v u c) = wu w v s c := by
  have hr : ∀ u ∈ Ico s 2048, IsR (us w v u c) := fun u hu => by
    unfold us
    split
    · exact hv _ (by omega)
    · exact isR_zero
  rw [Finset.sum_add_distrib, sum_neg_real _ hr, run_wu v (w := w) hs c, ← sub_eq_add_neg]
  exact sub_add_real (IsR.sum _ hr)

end

theorem cn_div {g r : ℕ} {a : EReal} (h : IsR a) : IsR (Ideal.div a (cn g r)) := by
  have : ((min (r + 1) (2 ^ (g + 1)) : ℕ) : ℝ) ≠ 0 := by
    have : 0 < 2 ^ (g + 1) := by positivity
    exact_mod_cast (show min (r + 1) (2 ^ (g + 1)) ≠ 0 by omega)
  unfold cn
  rw [Ideal.div_coe this]
  exact h.mul (isR_coe _)

/-! ## The number of rows of a window -/

theorem cn_word {r n : ℕ} (hr : r < 2048) (hn : n < 2048) :
    FloatOps.sitofp (F := Ideal) .f32 (IntOp.minsi (BitVec.ofNat 32 (r + 1)) (BitVec.ofNat 32 n)) = (((min (r + 1) n : ℕ) : ℝ) : EReal) := by
  rw [PlanTiles.minsi_word (by omega) (by omega)]
  show (((BitVec.ofNat 32 (min n (r + 1))).toInt : ℝ) : EReal) = _
  rw [Kernel2Ideal.Mix.toInt_word (by omega), Nat.min_comm]
  norm_cast

/-! ## A running sum along the rows -/

/-- The places of a window that is `n` long on the first axis and one wide on the two others. -/
def rows (n : ℕ) : (⟨3, ![n, 1, 1]⟩ : Shape).Idx ≃ Fin n where
  toFun w := w 0
  invFun k := fun a => match a with
    | ⟨0, _⟩ => k
    | ⟨1, _⟩ => (0 : Fin 1)
    | ⟨2, _⟩ => (0 : Fin 1)
  left_inv w := by
    funext a
    match a with
    | ⟨0, _⟩ => rfl
    | ⟨1, _⟩ => exact (Fin.eq_zero (w 1 : Fin 1)).symm
    | ⟨2, _⟩ => exact (Fin.eq_zero (w 2 : Fin 1)).symm
  right_inv _ := rfl

/-- The windowed sum along the rows, the window all rows and `lo` places before the first. -/
theorem window_rows (lo hi : ℕ) (x : FVec Ideal ⟨3, ![2048, 4, 512]⟩ .f32) (init : (⟨0, ![]⟩ : Shape).Idx → Ideal .f32)
    (h : (⟨3, ![2048, 4, 512]⟩ : Shape).ReduceWindows ![2048, 1, 1] ![1, 1, 1] ![lo, 0, 0] ![hi, 0, 0] ⟨3, ![2048, 4, 512]⟩) (hu : 0 < (⟨0, ![]⟩ : Shape).numel)
    {f : ℕ → Mat} (hx : Is3 x f) (h0 : ∀ i, init i = (0 : EReal)) (s : Fin 2048) (g : Fin 4) (c : Fin 512) :
    Host.reduceWindowAdd (F := Ideal) ![2048, 1, 1] ![1, 1, 1] ![lo, 0, 0] ![hi, 0, 0] x init h hu (ix3 s g c)
      = ∑ n ∈ range 2048, if lo ≤ s.val + n ∧ s.val + n - lo < 2048 then f (s.val + n - lo) g.val c.val else 0 := by
  unfold Host.reduceWindowAdd
  show Ideal.hostReduceWindowAdd ![2048, 1, 1] ![1, 1, 1] ![lo, 0, 0] ![hi, 0, 0] h x (init (Shape.Idx.first hu)) (ix3 s g c) = _
  rw [h0]
  unfold Ideal.hostReduceWindowAdd Host.reduceWindow
  dsimp only
  refine (ReferenceIdeal.Att.foldl_sum _ _ _).trans ?_
  rw [zero_add, ← List.ofFn_eq_map, List.sum_ofFn]
  refine (Finset.sum_congr rfl fun n _ => dite_congr rfl (fun _ => rfl) fun _ => rfl).trans (Equiv.sum_comp (Shape.rowMajor (⟨3, ![2048, 1, 1]⟩ : Shape)).symm (fun w : (⟨3, ![2048, 1, 1]⟩ : Shape).Idx =>
    if hin : ∀ a : Fin 3, (![lo, 0, 0] : Fin 3 → ℕ) a ≤ ((ix3 s g c : (⟨3, ![2048, 4, 512]⟩ : Shape).Idx) a).val * (![1, 1, 1] : Fin 3 → ℕ) a + (w a).val
        ∧ ((ix3 s g c : (⟨3, ![2048, 4, 512]⟩ : Shape).Idx) a).val * (![1, 1, 1] : Fin 3 → ℕ) a + (w a).val - (![lo, 0, 0] : Fin 3 → ℕ) a < (⟨3, ![2048, 4, 512]⟩ : Shape).size a
      then x (fun a => ⟨((ix3 s g c : (⟨3, ![2048, 4, 512]⟩ : Shape).Idx) a).val * (![1, 1, 1] : Fin 3 → ℕ) a + (w a).val - (![lo, 0, 0] : Fin 3 → ℕ) a, (hin a).2⟩) else 0)) |>.trans ?_
  rw [← Equiv.sum_comp (rows 2048).symm, Finset.sum_range]
  refine Finset.sum_congr rfl fun k _ => ?_
  have hg := g.isLt
  have hc := c.isLt
  by_cases hk : lo ≤ s.val + k.val ∧ s.val + k.val - lo < 2048
  · rw [if_pos hk, dif_pos ?_]
    · refine Eq.trans (congrArg x (funext fun a => ?_)) (hx ⟨s.val + k.val - lo, hk.2⟩ g c)
      match a with
      | ⟨0, _⟩ => exact Fin.ext (show s.val * 1 + k.val - lo = s.val + k.val - lo by rw [Nat.mul_one])
      | ⟨1, _⟩ => exact Fin.ext (show g.val * 1 + 0 - 0 = g.val by omega)
      | ⟨2, _⟩ => exact Fin.ext (show c.val * 1 + 0 - 0 = c.val by omega)
    · intro a
      match a with
      | ⟨0, _⟩ => show lo ≤ s.val * 1 + k.val ∧ s.val * 1 + k.val - lo < 2048; omega
      | ⟨1, _⟩ => show 0 ≤ g.val * 1 + 0 ∧ g.val * 1 + 0 - 0 < 4; omega
      | ⟨2, _⟩ => show 0 ≤ c.val * 1 + 0 ∧ c.val * 1 + 0 - 0 < 512; omega
  · rw [if_neg hk, dif_neg ?_]
    intro hin
    have h2 : lo ≤ s.val * 1 + k.val ∧ s.val * 1 + k.val - lo < 2048 := hin 0
    omega

/-- From the first row to a row. -/
theorem rows_upto (f : ℕ → EReal) {s : ℕ} (hs : s < 2048) : (∑ n ∈ range 2048, if 2047 ≤ s + n ∧ s + n - 2047 < 2048 then f (s + n - 2047) else 0) = ∑ u ∈ range (s + 1), f u := by
  rw [← Finset.sum_filter, show (range 2048).filter (fun n => 2047 ≤ s + n ∧ s + n - 2047 < 2048) = Ico (2047 - s) 2048 from Finset.ext fun k => by
    simp only [Finset.mem_filter, Finset.mem_range, Finset.mem_Ico]; omega, Finset.sum_Ico_eq_sum_range, show 2048 - (2047 - s) = s + 1 by omega]
  exact Finset.sum_congr rfl fun k _ => by congr 1; omega

/-- From a row to the last. -/
theorem rows_from (f : ℕ → EReal) {s : ℕ} (hs : s < 2048) : (∑ n ∈ range 2048, if 0 ≤ s + n ∧ s + n - 0 < 2048 then f (s + n - 0) else 0) = ∑ u ∈ Ico s 2048, f u := by
  rw [← Finset.sum_filter, Finset.sum_Ico_eq_sum_range]
  refine Finset.sum_congr (Finset.ext fun k => ?_) fun _ _ => rfl
  simp only [Finset.mem_filter, Finset.mem_range]; omega

/-! ## The kernel's steps -/

section
variable {v : FVec Ideal ⟨2, ![2048, 512]⟩ .f32} {V : Mat} (hv : Is2 v V)
include hv

theorem gd_arr (g q k : ℕ) (hg : g < 4) (hq : q < 4) (hk : k < 2048) (hr : (⟨2, ![2048, 512]⟩ : Shape).Rotates 0 none) (hi : (⟨2, ![2048, 512]⟩ : Shape).Iotas .tc 32 [0]) :
    Is2 (Scalar.select (Scalar.cmpi .sge (BitVec.ofNat 32 g) (BitVec.ofNat 32 q)) (addf v
      (select (cmpi .sge (iota .tc ⟨2, ![2048, 512]⟩ 32 [0] hi) (broadcast ⟨2, ![2048, 512]⟩ (BitVec.ofNat 32 k)))
      (dynamicRotate 0 (BitVec.ofNat 32 k) none v hr) (broadcast ⟨2, ![2048, 512]⟩ (Scalar.ofBits (F := Ideal) .f32 0x00000000#32)))) v) (gd g q k V) := fun r c => by
  have h := r.isLt
  pointwise []
  refine (select_sge (show g < 2 ^ 31 by omega) (show q < 2 ^ 31 by omega) _ _).trans ?_
  rw [select_sge (by omega) (by omega), hv r c, hv _ c, gd, dn]
  dsimp only
  rw [BitVec.toNat_ofNat, Nat.mod_eq_of_lt (show k < 2 ^ 32 by omega), Nat.mod_eq_of_lt hk]
  by_cases hkr : k ≤ r.val
  · rw [if_pos hkr, if_pos hkr, show (r.val + 2048 - k) % 2048 = r.val - k by omega]
  · rw [if_neg hkr, if_neg hkr]

theorem gu_arr (g q k l : ℕ) (hg : g < 4) (hq : q < 4) (hk : k + l = 2048) (hp : 0 < k) (hr : (⟨2, ![2048, 512]⟩ : Shape).Rotates 0 none) (hi : (⟨2, ![2048, 512]⟩ : Shape).Iotas .tc 32 [0]) :
    Is2 (Scalar.select (Scalar.cmpi .sge (BitVec.ofNat 32 g) (BitVec.ofNat 32 q)) (addf v
      (select (cmpi .slt (iota .tc ⟨2, ![2048, 512]⟩ 32 [0] hi) (broadcast ⟨2, ![2048, 512]⟩ (BitVec.ofNat 32 l)))
      (dynamicRotate 0 (BitVec.ofNat 32 l) none v hr) (broadcast ⟨2, ![2048, 512]⟩ (Scalar.ofBits (F := Ideal) .f32 0x00000000#32)))) v) (gu g q k V) := fun r c => by
  have h := r.isLt
  pointwise []
  refine (select_sge (show g < 2 ^ 31 by omega) (show q < 2 ^ 31 by omega) _ _).trans ?_
  rw [select_slt (by omega) (by omega), hv r c, hv _ c, gu, us]
  dsimp only
  rw [BitVec.toNat_ofNat, Nat.mod_eq_of_lt (show l < 2 ^ 32 by omega), Nat.mod_eq_of_lt (show l < 2048 by omega),
    show 2048 - k = l by omega]
  by_cases hkr : r.val < l
  · rw [if_pos hkr, if_pos hkr, show (r.val + 2048 - l) % 2048 = r.val + k by omega]
  · rw [if_neg hkr, if_neg hkr]

end

end Cert.Mix

end
-- ==== Proof.MixPool.lean ====
module

public import proofs.«01_k».proof.Proof.Gen.Kernel15Ideal.Value
public import proofs.«01_k».proof.Proof.Gen.Reference15Ideal.Read
public import proofs.«01_k».proof.Proof.Gen.Kernel16Ideal.Value
public import proofs.«01_k».proof.Proof.Gen.Reference16Ideal.Read
public import proofs.«01_k».proof.Proof.MixPoolModel
public import proofs.«01_k».proof.Proof.MixEquation

/-! # The pooling mixer

Each grid point holds one group's columns: the window's sum is read off the four steps, the products at each entry. -/

@[expose] public section

set_option maxRecDepth 16384

noncomputable section

namespace Cert.Mix

open Idealize.ShloMosaic

/-- One group's product with its weights, the bias added. -/
def py (g : ℕ) (h w b : Mat) : Mat := fun r k => (∑ j : Fin 512, pl g h r j.val * w j.val k) + b 0 k
/-- One group of the mixer's output on the stream. -/
def po (g : ℕ) (h x w b s : Mat) : Mat := fun r k => x r k + py g h w b r k * s 0 k
/-- The columns of a group. -/
def gc (g : ℕ) (h : Mat) : Mat := fun r c => h r (512 * g + c)
/-- The mixer's output on the stream. -/
def poA (h x : Mat) (w : ℕ → Mat) (b s : Mat) : Mat := fun r k =>
  po (k / 512) (gc (k / 512) h) (gc (k / 512) x) (w (k / 512)) (gc (k / 512) b) (gc (k / 512) s) r (k % 512)

/-- The incoming gradient scaled. -/
def pdy (d s : Mat) : Mat := fun r k => d r k * s 0 k
/-- The gradient at one group's means. -/
def pdp (d w s : Mat) : Mat := fun r k => ∑ j : Fin 512, pdy d s r j.val * w k j.val
/-- That gradient over the number of rows of the window. -/
def pdq (g : ℕ) (d w s : Mat) : Mat := fun r k => Ideal.div (pdp d w s r k) (cn g r)
/-- The gradient at one group's columns of the rows. -/
def pdh (g : ℕ) (d w s : Mat) : Mat := fun r k => wu (2 ^ (g + 1)) (pdq g d w s) r k - pdp d w s r k
/-- The gradient of one group's weights. -/
def pdw (g : ℕ) (h d s : Mat) : Mat := fun a k => ∑ t : Fin 2048, pl g h t.val a * pdy d s t.val k
/-- The gradient of the bias. -/
def pdb (d s : Mat) : Mat := fun _ k => ∑ t : Fin 2048, pdy d s t.val k
/-- The gradient of one group's scale. -/
def pds (g : ℕ) (h d w b : Mat) : Mat := fun _ k => ∑ t : Fin 2048, d t.val k * py g h w b t.val k
/-- The columns of a matrix that is one group's at each column. -/
def gA (f : ℕ → Mat) : Mat := fun r k => f (k / 512) r (k % 512)

theorem shl_two {g : ℕ} (hg : g < 4) : Scalar.shli 2#32 (BitVec.ofNat 32 g) = BitVec.ofNat 32 (2 ^ (g + 1)) := by
  interval_cases g <;> rfl
theorem pow_lt {g : ℕ} (hg : g < 4) : 2 ^ (g + 1) < 2048 := by
  interval_cases g <;> decide

end Cert.Mix

namespace Cert.Kernel15Ideal.Mix

open Kernel15Ideal Kernel15Ideal.Gen Cert.Mix
open Kernel2Ideal.Mix (arr2 is2_block is3_block eq_block)
open Idealize.ShloMosaic TcCoe Idealize.SL.Sem

theorem cnt_tile (i : grid0.Coords) : Is2 (k0_pay2 (F := Ideal) i) (fun r _ => cn (i 0).val r) := fun r c => by
  have hg : (i 0).val < 4 := (i 0).isLt
  have hr := r.isLt
  unfold k0_pay2
  rw [shl_two hg]
  pointwise []
  have e : IntOp.addi (BitVec.ofNat 32 r.val) 1#32 = BitVec.ofNat 32 (r.val + 1) := (BitVec.ofNat_add r.val 1).symm
  rw [e]
  exact cn_word hr (pow_lt hg)

section
variable {x : Vec Ideal S2048x512 .f32} {X : Mat} (hx : Is2 x X) (i : grid0.Coords)
include hx

theorem sum_part : Is2 (k0_pay3 (F := Ideal) i x) (gd (i 0).val 2 4 (gd (i 0).val 1 2 (gd (i 0).val 0 1 X))) := by
  have hg : (i 0).val < 4 := (i 0).isLt
  exact gd_arr (gd_arr (gd_arr hx _ 0 1 hg (by omega) (by omega) _ _) _ 1 2 hg (by omega) (by omega) _ _) _ 2 4 hg (by omega) (by omega) _ _

/-- The last step, as it stands in the payloads. -/
theorem sum_last (r : Fin 2048) (c : Fin 512) :
    Scalar.select (Scalar.cmpi .sge (BitVec.ofNat 32 (i 0).val) 3#32) (k0_pay3 (F := Ideal) i x (ix2 r c) + Scalar.select (k0_pay4 (ix2 r c)) (k0_pay5 (F := Ideal) i x (ix2 r c)) 0)
      (k0_pay3 (F := Ideal) i x (ix2 r c)) = wdn (2 ^ ((i 0).val + 1)) X r.val c.val := by
  have hg : (i 0).val < 4 := (i 0).isLt
  rw [← gd_all hg]
  have h := gd_arr (sum_part hx i) (i 0).val 3 8 hg (by omega) (by omega) rotates_S2048x512_d0 iota_S2048x512_d0_w32 r c
  rw [← h]
  pointwise [k0_pay4, k0_pay5]

theorem out_tile {y : Vec Ideal S2048x512 .f32} {w : Vec Ideal S1x512x512 .bf16} {b s : Vec Ideal S1x512 .f32} {Y B S : Mat} {W : ℕ → Mat}
    (hy : Is2 y Y) (hw : Is3 w W) (hb : Is2 b B) (hs : Is2 s S) :
    Is2 (out0_5 (F := Ideal) i x y w b s) (po (i 0).val X Y (W 0) B S) := fun r c => by
  unfold out0_5
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide)]
  pointwise [k0_pay1]
  simp only [sum_last hx i, cnt_tile i _ _, hx _ _, hy _ _, hw _ _ _, hb _ _, hs _ _]
  rfl

end

/-! ## The array after the run -/

variable (m : (l : Loc nD τ sig) → Buf (Elt Ideal) l) (c : Dev nD)

theorem in_h {X : Mat} (h : Is2 (n := 2048) (k := 2048) (m ((c.tc : Thread nD τ).loc main_arg0)) X) (t : Fin cfg0.N) :
    Is2 (n := 2048) (k := 512) (iblk m c 0 t) (gc t.val X) := by
  have hi : ∀ t : Fin grid0.N, win0_0.index t 0 = 0 ∧ win0_0.index t 1 = t.val := by decide +kernel
  refine is2_block h (win0_0.blk t).view.emb fun r j => congrArg₂ X ?_ ?_
  all_goals blk_simp; simp only [hi t] <;> omega

theorem in_x {X : Mat} (h : Is2 (n := 2048) (k := 2048) (m ((c.tc : Thread nD τ).loc main_arg1)) X) (t : Fin cfg0.N) :
    Is2 (n := 2048) (k := 512) (iblk m c 1 t) (gc t.val X) := by
  have hi : ∀ t : Fin grid0.N, win0_1.index t 0 = 0 ∧ win0_1.index t 1 = t.val := by decide +kernel
  refine is2_block h (win0_1.blk t).view.emb fun r j => congrArg₂ X ?_ ?_
  all_goals blk_simp; simp only [hi t] <;> omega

theorem in_w {X : ℕ → Mat} (h : Is3 (n := 4) (k := 512) (l := 512) (m ((c.tc : Thread nD τ).loc main_arg2)) X) (t : Fin cfg0.N) :
    Is3 (n := 1) (k := 512) (l := 512) (iblk m c 2 t) (fun p r k => X (t.val + p) r k) := by
  have hi : ∀ t : Fin grid0.N, win0_2.index t 0 = t.val ∧ win0_2.index t 1 = 0 ∧ win0_2.index t 2 = 0 := by decide +kernel
  refine is3_block h (win0_2.blk t).view.emb fun p r j => congr (congrArg₂ X ?_ ?_) ?_
  all_goals blk_simp; simp only [hi t] <;> omega

theorem in_b {X : Mat} (h : Is2 (n := 1) (k := 2048) (m ((c.tc : Thread nD τ).loc main_arg3)) X) (t : Fin cfg0.N) :
    Is2 (n := 1) (k := 512) (iblk m c 3 t) (gc t.val X) := by
  have hi : ∀ t : Fin grid0.N, win0_3.index t 0 = 0 ∧ win0_3.index t 1 = t.val := by decide +kernel
  refine is2_block h (win0_3.blk t).view.emb fun r j => congrArg₂ X ?_ ?_
  all_goals blk_simp; simp only [hi t] <;> omega

theorem in_s {X : Mat} (h : Is2 (n := 1) (k := 2048) (m ((c.tc : Thread nD τ).loc main_arg4)) X) (t : Fin cfg0.N) :
    Is2 (n := 1) (k := 512) (iblk m c 4 t) (gc t.val X) := by
  have hi : ∀ t : Fin grid0.N, win0_4.index t 0 = 0 ∧ win0_4.index t 1 = t.val := by decide +kernel
  refine is2_block h (win0_4.blk t).view.emb fun r j => congrArg₂ X ?_ ?_
  all_goals blk_simp; simp only [hi t] <;> omega

section
variable {H X B S : Mat} {W : ℕ → Mat}
  (hh : Is2 (n := 2048) (k := 2048) (m ((c.tc : Thread nD τ).loc main_arg0)) H)
  (hx : Is2 (n := 2048) (k := 2048) (m ((c.tc : Thread nD τ).loc main_arg1)) X)
  (hw : Is3 (n := 4) (k := 512) (l := 512) (m ((c.tc : Thread nD τ).loc main_arg2)) W)
  (hb : Is2 (n := 1) (k := 2048) (m ((c.tc : Thread nD τ).loc main_arg3)) B)
  (hs : Is2 (n := 1) (k := 2048) (m ((c.tc : Thread nD τ).loc main_arg4)) S)
include hh hx hw hb hs

/-- The output after the run. -/
theorem out_arr : (dats (F := Ideal) m 0 c).arrAt 5 cfg0.N = arr2 2048 2048 (poA H X W B S) := by
  have hi : ∀ t : Fin grid0.N, win0_5.index t 0 = 0 ∧ win0_5.index t 1 = t.val := by decide +kernel
  have hc : ∀ t : Fin grid0.N, (grid0.coords t 0).val = t.val := by decide +kernel
  have hN : cfg0.N = 4 := N_0
  refine (dats m 0 c).arrAt_eq_of_cover 5 (arr2 2048 2048 (poA H X W B S)) (fun t hf => ?_) fun i => ?_
  · have ht := out_tile (in_h m c hh t) (grid0.coords t) (in_x m c hx t) (in_w m c hw t) (in_b m c hb t) (in_s m c hs t)
    rw [hc t] at ht
    refine Eq.trans (after0_5 m c t) (eq_block (f := poA H X W B S) ht (win0_5.blk t).view.emb fun r j => ?_)
    have h0 : ((win0_5.blk t).view.emb (ix2 r j) 0).val = r.val := by blk_simp; rw [(hi t).1] <;> omega
    have h1 : ((win0_5.blk t).view.emb (ix2 r j) 1).val = 512 * t.val + j.val := by blk_simp; rw [(hi t).2] <;> omega
    have hj := j.isLt
    rw [h0, h1, poA, show (512 * t.val + j.val) / 512 = t.val by omega, show (512 * t.val + j.val) % 512 = j.val by omega]
    rfl
  · have h0 : (i 0).val < 2048 := (i 0).isLt
    have h1 : (i 1).val < 2048 := (i 1).isLt
    have hp : (i 1).val / 512 < cfg0.N := by omega
    refine ⟨⟨(i 1).val / 512, hp⟩, flush0_5 _, ?_⟩
    have h := hi ⟨(i 1).val / 512, hp⟩
    dsimp only at h
    mem_blk
    rw [h.1, h.2]
    omega

end

end Cert.Kernel15Ideal.Mix

namespace Cert.Kernel16Ideal.Mix

open Kernel16Ideal Kernel16Ideal.Gen Cert.Mix
open Kernel2Ideal.Mix (arr2 arr3 is2_block is3_block eq_block eq_block3)
open Idealize.ShloMosaic TcCoe Idealize.SL.Sem

theorem cnt_tile (i : grid0.Coords) : Is2 (k0_pay2 (F := Ideal) i) (fun r _ => cn (i 0).val r) := Kernel15Ideal.Mix.cnt_tile i

theorem up_part {p q : FVec Ideal S2048x512 .f32} {P Q : Mat} (hp : Is2 p P) (hq : Is2 q Q) (i : grid0.Coords) :
    Is2 (k0_pay1 (F := Ideal) (BitVec.ofNat 32 (i 0).val) p q (Scalar.cmpi .sge (BitVec.ofNat 32 (i 0).val) 0#32) (iota .tc S2048x512 32 [0] iota_S2048x512_d0_w32))
      (fun r c => wu (2 ^ ((i 0).val + 1)) Q r c - P r c) := fun r c => by
  have hg : (i 0).val < 4 := (i 0).isLt
  have hq' : Is2 q (wu 1 Q) := fun r c => by rw [wu_one Q r.isLt c.val, hq]
  have h := gu_arr (gu_arr (gu_arr (gu_arr hq' (i 0).val 0 1 2047 hg (by omega) (by omega) (by omega) rotates_S2048x512_d0 iota_S2048x512_d0_w32)
    (i 0).val 1 2 2046 hg (by omega) (by omega) (by omega) rotates_S2048x512_d0 iota_S2048x512_d0_w32)
    (i 0).val 2 4 2044 hg (by omega) (by omega) (by omega) rotates_S2048x512_d0 iota_S2048x512_d0_w32)
    (i 0).val 3 8 2040 hg (by omega) (by omega) (by omega) rotates_S2048x512_d0 iota_S2048x512_d0_w32 r c
  rw [gu_all hg] at h
  unfold k0_pay1
  exact congrArg₂ (fun a b : EReal => a - b) h (hp r c)

section
variable {x d : Vec Ideal S2048x512 .f32} {w : Vec Ideal S1x512x512 .bf16} {b s : Vec Ideal S1x512 .f32} {X D B S : Mat} {W : ℕ → Mat}

theorem pl_part (hx : Is2 x X) (i : grid0.Coords) :
    Is2 (k0_pay6 (F := Ideal) x (k0_pay2 (F := Ideal) i) (k0_pay3 (F := Ideal) i x) (Scalar.cmpi .sge (BitVec.ofNat 32 (i 0).val) 3#32) k0_pay4 (k0_pay5 (F := Ideal) i x))
      (pl (i 0).val X) := fun r c => by
  pointwise [k0_pay6]
  have h := Kernel15Ideal.Mix.sum_last hx i r c
  rw [cnt_tile i _ _, hx _ _]
  refine Eq.trans ?_ (show Ideal.div (wdn (2 ^ ((i 0).val + 1)) X r.val c.val) (cn (i 0).val r.val) - X r.val c.val = pl (i 0).val X r.val c.val from rfl)
  rw [← h]
  rfl

theorem dy_part (hd : Is2 d D) (hs : Is2 s S) : Is2 (k0_pay9 (F := Ideal) d s) (pdy D S) := fun r c => by
  pointwise [k0_pay9]
  rw [hd _ _, hs _ _]
  rfl

theorem dp_part (hd : Is2 d D) (hs : Is2 s S) (hw : Is3 w W) : Is2 (k0_pay13 (F := Ideal) w d s) (pdp D (W 0) S) := fun r c => by
  pointwise [k0_pay13, k0_pay11, k0_pay7]
  simp only [dy_part hd hs _ _, hw _ _ _]
  rfl

theorem dh_tile (hd : Is2 d D) (hs : Is2 s S) (hw : Is3 w W) (i : grid0.Coords) : Is2 (out0_5 (F := Ideal) i x d w b s) (pdh (i 0).val D (W 0) S) := by
  unfold out0_5 k0_pay15
  rw [View.canon_cons_unit_lit _ _ _ (by decide)]; iterate 3 rw [View.ld_unit_lit _ _ (by decide)]
  refine up_part (dp_part hd hs hw) (fun r c => ?_) i
  pointwise [k0_pay14]
  rw [dp_part hd hs hw _ _, cnt_tile i _ _]
  rfl

theorem dw_tile (hx : Is2 x X) (hd : Is2 d D) (hs : Is2 s S) (i : grid0.Coords) :
    Is3 (out0_6 (F := Ideal) i x d w b s) (fun _ => pdw (i 0).val X D S) := fun p r c => by
  unfold out0_6 k0_pay15 k0_pay16 k0_pay17 k0_pay18
  rw [View.canon_cons_unit_lit _ _ _ (by decide)]; iterate 3 rw [View.ld_unit_lit _ _ (by decide)]
  pointwise [k0_pay12, k0_pay11]
  simp only [pl_part hx i _ _, dy_part hd hs _ _]
  rfl

theorem db_tile (hd : Is2 d D) (hs : Is2 s S) (i : grid0.Coords) : Is2 (out0_7 (F := Ideal) i x d w b s) (pdb D S) := fun r c => by
  unfold out0_7
  rw [View.canon_cons_unit_lit _ _ _ (by decide)]; iterate 2 rw [View.ld_unit_lit _ _ (by decide)]
  pointwise [k0_pay10]
  simp only [dy_part hd hs _ _]
  rfl

theorem ds_tile (hx : Is2 x X) (hd : Is2 d D) (hw : Is3 w W) (hb : Is2 b B) (i : grid0.Coords) :
    Is2 (out0_8 (F := Ideal) i x d w b s) (pds (i 0).val X D (W 0) B) := fun r c => by
  unfold out0_8 k0_pay15 k0_pay16 k0_pay17 k0_pay18
  rw [View.canon_cons_unit_lit _ _ _ (by decide), View.ld_unit_lit _ _ (by decide), View.ld_unit_lit _ _ (by decide), View.ld_unit_lit _ _ (by decide),
    View.ld_unit_lit _ _ (by decide)]
  pointwise [k0_pay8, k0_pay7]
  simp only [pl_part hx i _ _, hd _ _, hw _ _ _, hb _ _]
  rfl

end

/-! ## The arrays after the run -/

variable (m : (l : Loc nD τ sig) → Buf (Elt Ideal) l) (c : Dev nD)

theorem in_h {X : Mat} (h : Is2 (n := 2048) (k := 2048) (m ((c.tc : Thread nD τ).loc main_arg0)) X) (t : Fin cfg0.N) :
    Is2 (n := 2048) (k := 512) (iblk m c 0 t) (gc t.val X) := by
  have hi : ∀ t : Fin grid0.N, win0_0.index t 0 = 0 ∧ win0_0.index t 1 = t.val := by decide +kernel
  refine is2_block h (win0_0.blk t).view.emb fun r j => congrArg₂ X ?_ ?_
  all_goals blk_simp; simp only [hi t] <;> omega

theorem in_d {X : Mat} (h : Is2 (n := 2048) (k := 2048) (m ((c.tc : Thread nD τ).loc main_arg1)) X) (t : Fin cfg0.N) :
    Is2 (n := 2048) (k := 512) (iblk m c 1 t) (gc t.val X) := by
  have hi : ∀ t : Fin grid0.N, win0_1.index t 0 = 0 ∧ win0_1.index t 1 = t.val := by decide +kernel
  refine is2_block h (win0_1.blk t).view.emb fun r j => congrArg₂ X ?_ ?_
  all_goals blk_simp; simp only [hi t] <;> omega

theorem in_w {X : ℕ → Mat} (h : Is3 (n := 4) (k := 512) (l := 512) (m ((c.tc : Thread nD τ).loc main_arg2)) X) (t : Fin cfg0.N) :
    Is3 (n := 1) (k := 512) (l := 512) (iblk m c 2 t) (fun p r k => X (t.val + p) r k) := by
  have hi : ∀ t : Fin grid0.N, win0_2.index t 0 = t.val ∧ win0_2.index t 1 = 0 ∧ win0_2.index t 2 = 0 := by decide +kernel
  refine is3_block h (win0_2.blk t).view.emb fun p r j => congr (congrArg₂ X ?_ ?_) ?_
  all_goals blk_simp; simp only [hi t] <;> omega

theorem in_b {X : Mat} (h : Is2 (n := 1) (k := 2048) (m ((c.tc : Thread nD τ).loc main_arg3)) X) (t : Fin cfg0.N) :
    Is2 (n := 1) (k := 512) (iblk m c 3 t) (gc t.val X) := by
  have hi : ∀ t : Fin grid0.N, win0_3.index t 0 = 0 ∧ win0_3.index t 1 = t.val := by decide +kernel
  refine is2_block h (win0_3.blk t).view.emb fun r j => congrArg₂ X ?_ ?_
  all_goals blk_simp; simp only [hi t] <;> omega

theorem in_s {X : Mat} (h : Is2 (n := 1) (k := 2048) (m ((c.tc : Thread nD τ).loc main_arg4)) X) (t : Fin cfg0.N) :
    Is2 (n := 1) (k := 512) (iblk m c 4 t) (gc t.val X) := by
  have hi : ∀ t : Fin grid0.N, win0_4.index t 0 = 0 ∧ win0_4.index t 1 = t.val := by decide +kernel
  refine is2_block h (win0_4.blk t).view.emb fun r j => congrArg₂ X ?_ ?_
  all_goals blk_simp; simp only [hi t] <;> omega

section
variable {H D B S : Mat} {W : ℕ → Mat}
  (hh : Is2 (n := 2048) (k := 2048) (m ((c.tc : Thread nD τ).loc main_arg0)) H)
  (hd : Is2 (n := 2048) (k := 2048) (m ((c.tc : Thread nD τ).loc main_arg1)) D)
  (hw : Is3 (n := 4) (k := 512) (l := 512) (m ((c.tc : Thread nD τ).loc main_arg2)) W)
  (hb : Is2 (n := 1) (k := 2048) (m ((c.tc : Thread nD τ).loc main_arg3)) B)
  (hs : Is2 (n := 1) (k := 2048) (m ((c.tc : Thread nD τ).loc main_arg4)) S)

include hd hw hs in
/-- The gradient at the rows after the run. -/
theorem dh_arr : (dats (F := Ideal) m 0 c).arrAt 5 cfg0.N = arr2 2048 2048 (gA fun g => pdh g (gc g D) (W g) (gc g S)) := by
  have hi : ∀ t : Fin grid0.N, win0_5.index t 0 = 0 ∧ win0_5.index t 1 = t.val := by decide +kernel
  have hc : ∀ t : Fin grid0.N, (grid0.coords t 0).val = t.val := by decide +kernel
  have hN : cfg0.N = 4 := N_0
  refine (dats m 0 c).arrAt_eq_of_cover 5 (arr2 2048 2048 (gA fun g => pdh g (gc g D) (W g) (gc g S))) (fun t hf => ?_) fun i => ?_
  · have ht := dh_tile (x := iblk m c 0 t) (b := iblk m c 3 t) (in_d m c hd t) (in_s m c hs t) (in_w m c hw t) (grid0.coords t)
    rw [hc t] at ht
    refine Eq.trans (after0_5 m c t) (eq_block (f := gA fun g => pdh g (gc g D) (W g) (gc g S)) ht (win0_5.blk t).view.emb fun r j => ?_)
    have h0 : ((win0_5.blk t).view.emb (ix2 r j) 0).val = r.val := by blk_simp; rw [(hi t).1] <;> omega
    have h1 : ((win0_5.blk t).view.emb (ix2 r j) 1).val = 512 * t.val + j.val := by blk_simp; rw [(hi t).2] <;> omega
    have hj := j.isLt
    rw [h0, h1, gA, show (512 * t.val + j.val) / 512 = t.val by omega, show (512 * t.val + j.val) % 512 = j.val by omega]
    rfl
  · have h0 : (i 0).val < 2048 := (i 0).isLt
    have h1 : (i 1).val < 2048 := (i 1).isLt
    have hp : (i 1).val / 512 < cfg0.N := by omega
    refine ⟨⟨(i 1).val / 512, hp⟩, flush0_5 _, ?_⟩
    have h := hi ⟨(i 1).val / 512, hp⟩
    dsimp only at h
    mem_blk
    rw [h.1, h.2]
    omega

include hd hs in
/-- The gradient of the bias after the run. -/
theorem db_arr : (dats (F := Ideal) m 0 c).arrAt 7 cfg0.N = arr2 1 2048 (gA fun g => pdb (gc g D) (gc g S)) := by
  have hi : ∀ t : Fin grid0.N, win0_7.index t 0 = 0 ∧ win0_7.index t 1 = t.val := by decide +kernel
  have hN : cfg0.N = 4 := N_0
  refine (dats m 0 c).arrAt_eq_of_cover 7 (arr2 1 2048 (gA fun g => pdb (gc g D) (gc g S))) (fun t hf => ?_) fun i => ?_
  · have ht := db_tile (x := iblk m c 0 t) (w := iblk m c 2 t) (b := iblk m c 3 t) (in_d m c hd t) (in_s m c hs t) (grid0.coords t)
    refine Eq.trans (after0_7 m c t) (eq_block (f := gA fun g => pdb (gc g D) (gc g S)) ht (win0_7.blk t).view.emb fun r j => ?_)
    have h0 : ((win0_7.blk t).view.emb (ix2 r j) 0).val = r.val := by blk_simp; rw [(hi t).1] <;> omega
    have h1 : ((win0_7.blk t).view.emb (ix2 r j) 1).val = 512 * t.val + j.val := by blk_simp; rw [(hi t).2] <;> omega
    have hj := j.isLt
    rw [h0, h1, gA, show (512 * t.val + j.val) / 512 = t.val by omega, show (512 * t.val + j.val) % 512 = j.val by omega]
  · have h0 : (i 0).val < 1 := (i 0).isLt
    have h1 : (i 1).val < 2048 := (i 1).isLt
    have hp : (i 1).val / 512 < cfg0.N := by omega
    refine ⟨⟨(i 1).val / 512, hp⟩, flush0_7 _, ?_⟩
    have h := hi ⟨(i 1).val / 512, hp⟩
    dsimp only at h
    mem_blk
    rw [h.1, h.2]
    omega

include hh hd hw hb in
/-- The gradient of the scale after the run. -/
theorem ds_arr : (dats (F := Ideal) m 0 c).arrAt 8 cfg0.N = arr2 1 2048 (gA fun g => pds g (gc g H) (gc g D) (W g) (gc g B)) := by
  have hi : ∀ t : Fin grid0.N, win0_8.index t 0 = 0 ∧ win0_8.index t 1 = t.val := by decide +kernel
  have hc : ∀ t : Fin grid0.N, (grid0.coords t 0).val = t.val := by decide +kernel
  have hN : cfg0.N = 4 := N_0
  refine (dats m 0 c).arrAt_eq_of_cover 8 (arr2 1 2048 (gA fun g => pds g (gc g H) (gc g D) (W g) (gc g B))) (fun t hf => ?_) fun i => ?_
  · have ht := ds_tile (s := iblk m c 4 t) (in_h m c hh t) (in_d m c hd t) (in_w m c hw t) (in_b m c hb t) (grid0.coords t)
    rw [hc t] at ht
    refine Eq.trans (after0_8 m c t) (eq_block (f := gA fun g => pds g (gc g H) (gc g D) (W g) (gc g B)) ht (win0_8.blk t).view.emb fun r j => ?_)
    have h0 : ((win0_8.blk t).view.emb (ix2 r j) 0).val = r.val := by blk_simp; rw [(hi t).1] <;> omega
    have h1 : ((win0_8.blk t).view.emb (ix2 r j) 1).val = 512 * t.val + j.val := by blk_simp; rw [(hi t).2] <;> omega
    have hj := j.isLt
    rw [h0, h1, gA, show (512 * t.val + j.val) / 512 = t.val by omega, show (512 * t.val + j.val) % 512 = j.val by omega]
    rfl
  · have h0 : (i 0).val < 1 := (i 0).isLt
    have h1 : (i 1).val < 2048 := (i 1).isLt
    have hp : (i 1).val / 512 < cfg0.N := by omega
    refine ⟨⟨(i 1).val / 512, hp⟩, flush0_8 _, ?_⟩
    have h := hi ⟨(i 1).val / 512, hp⟩
    dsimp only at h
    mem_blk
    rw [h.1, h.2]
    omega

include hh hd hs in
/-- The gradient of the weights after the run. -/
theorem dw_arr : (dats (F := Ideal) m 0 c).arrAt 6 cfg0.N = arr3 4 512 512 (fun g => pdw g (gc g H) (gc g D) (gc g S)) := by
  have hi : ∀ t : Fin grid0.N, win0_6.index t 0 = t.val ∧ win0_6.index t 1 = 0 ∧ win0_6.index t 2 = 0 := by decide +kernel
  have hc : ∀ t : Fin grid0.N, (grid0.coords t 0).val = t.val := by decide +kernel
  have hN : cfg0.N = 4 := N_0
  refine (dats m 0 c).arrAt_eq_of_cover 6 (arr3 4 512 512 (fun g => pdw g (gc g H) (gc g D) (gc g S))) (fun t hf => ?_) fun i => ?_
  · have ht := dw_tile (w := iblk m c 2 t) (b := iblk m c 3 t) (in_h m c hh t) (in_d m c hd t) (in_s m c hs t) (grid0.coords t)
    rw [hc t] at ht
    refine Eq.trans (after0_6 m c t) (eq_block3 (f := fun g => pdw g (gc g H) (gc g D) (gc g S)) ht (win0_6.blk t).view.emb fun p r j => ?_)
    have hp := p.isLt
    have h0 : ((win0_6.blk t).view.emb (ix3 p r j) 0).val = t.val := by blk_simp; rw [(hi t).1] <;> omega
    have h1 : ((win0_6.blk t).view.emb (ix3 p r j) 1).val = r.val := by blk_simp; rw [(hi t).2.1] <;> omega
    have h2 : ((win0_6.blk t).view.emb (ix3 p r j) 2).val = j.val := by blk_simp; rw [(hi t).2.2] <;> omega
    rw [h0, h1, h2]
  · have h0 : (i 0).val < 4 := (i 0).isLt
    have h1 : (i 1).val < 512 := (i 1).isLt
    have h2 : (i 2).val < 512 := (i 2).isLt
    have hp : (i 0).val < cfg0.N := by omega
    refine ⟨⟨(i 0).val, hp⟩, flush0_6 _, ?_⟩
    have h := hi ⟨(i 0).val, hp⟩
    dsimp only at h
    mem_blk
    rw [h.1, h.2.1, h.2.2]
    omega

end

end Cert.Kernel16Ideal.Mix

namespace Cert.Reference16Ideal.Mix

open Reference16Ideal Reference16Ideal.Gen Reference16Ideal.Read Cert.Mix
open Idealize.ShloMosaic

section
variable {x d : FVec Ideal S2048x2048 .f32} {w : FVec Ideal S4x512x512 .bf16} {b s : FVec Ideal S1x2048 .f32} {H D B S : Mat} {W : ℕ → Mat}

theorem r3 (hx : Is2 x H) : Is3 (val_main_v3 (F := Ideal) x) (fun r g c => H r (512 * g + c)) := fun r g c => by
  simp only [val_main_v3]
  pointwise []
  rw [hx _ _, Nat.mul_comm 512]

theorem r4 (hx : Is2 x H) : Is3 (val_main_v4 (F := Ideal) x) (fun r g c => ∑ u ∈ Finset.range (r + 1), H u (512 * g + c)) := fun r g c => by
  unfold val_main_v4
  refine (window_rows 2047 0 _ _ _ _ (r3 hx) (fun i => ?_) r g c).trans (rows_upto (fun u => H u (512 * g.val + c.val)) r.isLt)
  simp only [val_main_call0_call0_v0, val_main_call0_call0_cst]
  pointwise []

theorem one_more (r : ℕ) : IntOp.addi (BitVec.ofNat 32 r) 1#32 = BitVec.ofNat 32 (r + 1) := (BitVec.ofNat_add r 1).symm

theorem r55 : Is2 (val_main_v55 (F := Ideal)) (fun r g => cn g r) := fun r g => by
  simp only [val_main_v55, val_main_v54, val_main_v53, val_main_v52, val_main_v51]
  pointwise []
  fin_vals g with hg
  all_goals simp only [hg, Nat.reduceSub, Nat.reduceLT, ↓reduceDIte]
  · simp only [val_main_v35, val_main_v34, val_main_v33, val_main_v32, val_main_v31, val_main_v30, val_main_c, val_main_c_7]
    pointwise []
    rw [one_more]
    exact cn_word r.isLt (by omega)
  · simp only [val_main_v40, val_main_v39, val_main_v38, val_main_v37, val_main_v36, val_main_v30, val_main_c_8, val_main_c_9]
    pointwise []
    rw [one_more]
    exact cn_word r.isLt (by omega)
  · simp only [val_main_v45, val_main_v44, val_main_v43, val_main_v42, val_main_v41, val_main_v30, val_main_c_10, val_main_c_11]
    pointwise []
    rw [one_more]
    exact cn_word r.isLt (by omega)
  · simp only [val_main_v50, val_main_v49, val_main_v48, val_main_v47, val_main_v46, val_main_v30, val_main_c_12, val_main_c_13]
    pointwise []
    rw [one_more]
    exact cn_word r.isLt (by omega)

theorem r29 (hx : Is2 x H) : Is3 (val_main_v29 (F := Ideal) x) (fun r g c => if 2 ^ (g + 1) ≤ r then ∑ u ∈ Finset.range (r - 2 ^ (g + 1) + 1), H u (512 * g + c) else 0) := fun r g c => by
  have hr := r.isLt
  simp only [val_main_v29, val_main_v28, val_main_v27, val_main_v26, val_main_v25, val_main_v23, val_main_v22, val_main_v21, val_main_v20,
    val_main_v18, val_main_v17, val_main_v16, val_main_v15, val_main_v13, val_main_v12, val_main_v11, val_main_v10, val_main_v8, val_main_v7, val_main_v6, val_main_v5,
    val_main_cst, val_main_cst_1, val_main_cst_3, val_main_cst_5]
  pointwise []
  fin_vals g with hg
  all_goals
    simp only [hg, Nat.reduceSub, Nat.reduceLT, ↓reduceDIte, Nat.reduceAdd, Nat.reducePow]
    split
    · exact (if_neg (by omega)).symm
    · exact (r4 hx _ _ _).trans (if_pos (by omega)).symm

theorem r60 (hx : Is2 x H) (hr : RealM 2048 2048 H) : Is3 (val_main_v60 (F := Ideal) x) (fun r g c => pl g (gc g H) r c) := fun r g c => by
  have hg := g.isLt
  have hc := c.isLt
  simp only [val_main_v60, val_main_v59, val_main_v58, val_main_v57, val_main_v56]
  pointwise []
  rw [r4 hx r g c, r29 hx r g c, r55 r g, r3 hx r g c]
  have e := diff_wd (v := gc g.val H) (c := c.val) (fun u hu => hr u (512 * g.val + c.val) hu (by omega)) r.isLt (2 ^ (g.val + 1))
  unfold gc at e
  rw [e]
  rfl

theorem gc_self (F : Mat) (r k : ℕ) : gc (k / 512) F r (k % 512) = F r k := by rw [gc, Nat.div_add_mod]

theorem r66 (hx : Is2 x H) (hr : RealM 2048 2048 H) (hw : Is3 w W) (hb : Is2 b B) :
    Is2 (val_main_v66 (F := Ideal) x w b) (gA fun g => py g (gc g H) (W g) (gc g B)) := fun r k => by
  simp only [val_main_v66, val_main_v65, val_main_v64, val_main_v63, val_main_v62, val_main_v61, val_main_v1, val_main_v0]
  pointwise []
  simp only [r60 hx hr _ _ _, hw _ _ _, hb _ _]
  rw [gA, py, gc_self]
  refine congrArg₂ (fun a b : EReal => a + b) (Finset.sum_congr rfl fun j _ => ?_) rfl
  exact mul_comm _ _

theorem r74 (hd : Is2 d D) (hs : Is2 s S) : Is2 (val_main_v74 (F := Ideal) d s) (pdy D S) := fun r k => by
  simp only [val_main_v74, val_main_v73, val_main_v67, val_main_v2]
  pointwise []
  rw [hd _ _, hs _ _]
  rfl

theorem r122 (hx : Is2 x H) (hr : RealM 2048 2048 H) (hd : Is2 d D) (hw : Is3 w W) (hb : Is2 b B) :
    Is2 (val_main_v122 (F := Ideal) x d w b) (gA fun g => pds g (gc g H) (gc g D) (W g) (gc g B)) := fun r k => by
  simp only [val_main_v122, val_main_v75, val_main_v72, val_main_v71, val_main_v70, val_main_cst_14, val_main_cst_15]
  pointwise []
  simp only [r66 hx hr hw hb _ _, hd _ _]
  rw [Fin.sum_univ_one, gA, pds]
  simp only [gc_self]
  exact Finset.sum_congr rfl fun j _ => mul_comm _ _

theorem r121 (hd : Is2 d D) (hs : Is2 s S) : Is2 (val_main_v121 (F := Ideal) d s) (gA fun g => pdb (gc g D) (gc g S)) := fun r k => by
  simp only [val_main_v121, val_main_v78, val_main_v77, val_main_v76, val_main_cst_16, val_main_cst_17]
  pointwise []
  simp only [r74 hd hs _ _]
  rw [Fin.sum_univ_one, gA, pdb]
  simp only [pdy, gc_self]

theorem r80 (hd : Is2 d D) (hs : Is2 s S) : Is3 (val_main_v80 (F := Ideal) d s) (fun g c r => pdy (gc g D) (gc g S) r c) := fun g c r => by
  simp only [val_main_v80, val_main_v79]
  pointwise []
  refine (r74 hd hs _ _).trans ?_
  show pdy D S r.val (g.val * 512 + c.val) = pdy D S r.val (512 * g.val + c.val)
  rw [Nat.mul_comm]

theorem r120 (hx : Is2 x H) (hr : RealM 2048 2048 H) (hd : Is2 d D) (hs : Is2 s S) :
    Is3 (val_main_v120 (F := Ideal) x d s) (fun g => pdw g (gc g H) (gc g D) (gc g S)) := fun g a k => by
  simp only [val_main_v120, val_main_v84, val_main_v83]
  pointwise []
  simp only [r60 hx hr _ _ _, r80 hd hs _ _ _]
  exact Finset.sum_congr rfl fun j _ => mul_comm _ _

theorem r82 (hd : Is2 d D) (hw : Is3 w W) (hs : Is2 s S) : Is3 (val_main_v82 (F := Ideal) d w s) (fun r g c => pdp (gc g D) (W g) (gc g S) r c) := fun r g c => by
  simp only [val_main_v82, val_main_v81, val_main_v0]
  pointwise []
  simp only [r80 hd hs _ _ _, hw _ _ _]
  rfl

theorem r87 (hd : Is2 d D) (hw : Is3 w W) (hs : Is2 s S) : Is3 (val_main_v87 (F := Ideal) d w s) (fun r g c => pdq g (gc g D) (W g) (gc g S) r c) := fun r g c => by
  simp only [val_main_v87, val_main_v86, val_main_v57]
  pointwise []
  rw [r82 hd hw hs r g c, r55 r g]
  rfl

theorem r116 (hd : Is2 d D) (hw : Is3 w W) (hs : Is2 s S) : Is3 (val_main_v116 (F := Ideal) d w s)
    (fun r g c => pdq g (gc g D) (W g) (gc g S) r c + -us (2 ^ (g + 1)) (pdq g (gc g D) (W g) (gc g S)) r c) := fun r g c => by
  have hr := r.isLt
  simp only [val_main_v116, val_main_v115, val_main_v114, val_main_v113, val_main_v111, val_main_v110, val_main_v109, val_main_v108, val_main_v106, val_main_v105, val_main_v104,
    val_main_v103, val_main_v101, val_main_v100, val_main_v99, val_main_v98, val_main_v96, val_main_v95, val_main_v94, val_main_v93, val_main_v92, val_main_v91, val_main_v90,
    val_main_v89, val_main_v88, val_main_cst_18, val_main_cst_19, val_main_cst_20, val_main_cst_21]
  pointwise []
  simp only [r87 hd hw hs _ _ _, dite_eq_ite]
  unfold us
  fin_vals g with hg
  all_goals
    simp [hg, Nat.add_comm]
    split <;> simp

theorem real_pdq (hd : RealM 2048 2048 D) (hs : RealM 1 2048 S) (hw : ∀ p, p < 4 → RealM 512 512 (W p)) {g c u : ℕ} (hg : g < 4) (hc : c < 512) (hu : u < 2048) :
    IsR (pdq g (gc g D) (W g) (gc g S) u c) :=
  cn_div (IsR.sum Finset.univ (f := fun j : Fin 512 => pdy (gc g D) (gc g S) u j.val * W g c j.val) fun j _ =>
    ((hd u (512 * g + j.val) hu (by omega)).mul (hs 0 (512 * g + j.val) (by omega) (by omega))).mul (hw g hg c j.val hc j.isLt))

theorem r119 (hd : Is2 d D) (hw : Is3 w W) (hs : Is2 s S) (rd : RealM 2048 2048 D) (rs : RealM 1 2048 S) (rw : ∀ p, p < 4 → RealM 512 512 (W p)) :
    Is2 (val_main_v119 (F := Ideal) d w s) (gA fun g => pdh g (gc g D) (W g) (gc g S)) := fun r k => by
  have h17 : Is3 (val_main_v117 (F := Ideal) d w s) (fun r g c => wu (2 ^ (g + 1)) (pdq g (gc g D) (W g) (gc g S)) r c) := fun r g c => by
    unfold val_main_v117
    refine (window_rows 0 2047 _ _ _ _ (r116 hd hw hs) (fun i => ?_) r g c).trans ((rows_from (fun u => pdq g.val (gc g.val D) (W g.val) (gc g.val S) u c.val
      + -us (2 ^ (g.val + 1)) (pdq g.val (gc g.val D) (W g.val) (gc g.val S)) u c.val) r.isLt).trans
      (diff_wu (fun u hu => real_pdq rd rs rw g.isLt c.isLt hu) r.isLt (2 ^ (g.val + 1))))
    simp only [val_main_call1_call0_v0, val_main_call1_call0_cst]
    pointwise []
  simp only [val_main_v119, val_main_v118, val_main_v85]
  pointwise []
  rw [r82 hd hw hs _ _ _, h17 _ _ _, add_comm, ← sub_eq_add_neg]
  rfl

end
end Cert.Reference16Ideal.Mix

namespace Cert.Reference15Ideal.Mix

open Reference15Ideal Reference15Ideal.Gen Reference15Ideal.Read Cert.Mix
open Idealize.ShloMosaic

theorem r66 {h x : FVec Ideal S2048x2048 .f32} {w : FVec Ideal S4x512x512 .bf16} {b s : FVec Ideal S1x2048 .f32} {H X B S : Mat} {W : ℕ → Mat}
    (hh : Is2 h H) (hr : RealM 2048 2048 H) (hx : Is2 x X) (hw : Is3 w W) (hb : Is2 b B) (hs : Is2 s S) :
    Is2 (val_main_v66 (F := Ideal) h x w b s) (poA H X W B S) := fun r k => by
  have e : val_main_v62 (F := Ideal) h w b = Reference16Ideal.Read.val_main_v66 (F := Ideal) h w b := rfl
  simp only [val_main_v66, val_main_v65, val_main_v64, val_main_v63, val_main_v2, e]
  pointwise []
  rw [Reference16Ideal.Mix.r66 hh hr hw hb _ _, hx _ _, hs _ _, poA, po, Reference16Ideal.Mix.gc_self, Reference16Ideal.Mix.gc_self]
  rfl

end Cert.Reference15Ideal.Mix

namespace Cert.Mix

open Idealize.ShloMosaic TcCoe Idealize.SL.Sem

theorem facts15 : Pre_finite_inputs15.Facts := ⟨by decide⟩
theorem facts16 : Pre_finite_inputs16.Facts := ⟨by decide, by decide, by decide⟩

open Kernel15Ideal (nD τ main_arg0 main_arg1 main_arg2 main_arg3 main_arg4) in
theorem equation15 : algebraic_Kernel15Ideal_Reference15Ideal_pre_finite_inputs15 (hKernel15Ideal := Kernel15Ideal.Gen.facts)
    (hReference15Ideal := Reference15Ideal.Gen.facts) (hPre_finite_inputs15 := facts15) := by
  intro m g m' g' hp he
  refine ⟨fun c => (Kernel15Ideal.Gen.dats (F := Ideal) m 0 c).arrAt 5 Kernel15Ideal.cfg0.N, Kernel15Ideal.Value.run_blocks m g, ?_⟩
  refine (θ_run _ _ _).mono (fun r h c => ?_) (Reference15Ideal.Value.run m' g')
  obtain ⟨e0, e1, e2, e3, e4⟩ := he c
  have p0 := hp c
  obtain ⟨h0, h1⟩ := h c
  have a0 := is2_mat2 (n := 2048) (k := 2048) (m ((c.tc : Thread nD τ).loc main_arg0))
  have a1 := is2_mat2 (n := 2048) (k := 2048) (m ((c.tc : Thread nD τ).loc main_arg1))
  have a2 := is3_mat3 (n := 4) (k := 512) (l := 512) (m ((c.tc : Thread nD τ).loc main_arg2))
  have a3 := is2_mat2 (n := 1) (k := 2048) (m ((c.tc : Thread nD τ).loc main_arg3))
  have a4 := is2_mat2 (n := 1) (k := 2048) (m ((c.tc : Thread nD τ).loc main_arg4))
  have q0 := real_mat2 (n := 2048) (k := 2048) (x := m ((c.tc : Thread nD τ).loc main_arg0)) fun i => isR_f32 (congrFun p0 i)
  refine ⟨h0.trans ?_, h1⟩
  clear h h0 h1
  rw [Reference15Ideal.Read.val_main_v66_eq, e0, e1, e2, e3, e4]
  refine ext2 (Reference15Ideal.Mix.r66 a0 q0 a1 a2 a3 a4) ?_ fun _ _ _ _ => rfl
  dsimp only
  rw [Kernel15Ideal.Mix.out_arr m c a0 a1 a2 a3 a4]
  exact Kernel2Ideal.Mix.is2_arr2 _ _ _

open Kernel16Ideal (nD τ main_arg0 main_arg1 main_arg2 main_arg3 main_arg4) in
theorem equation16 : algebraic_Kernel16Ideal_Reference16Ideal_pre_finite_inputs16 (hKernel16Ideal := Kernel16Ideal.Gen.facts)
    (hReference16Ideal := Reference16Ideal.Gen.facts) (hPre_finite_inputs16 := facts16) := by
  intro m g m' g' hp he
  refine ⟨fun c => (Kernel16Ideal.Gen.dats (F := Ideal) m 0 c).arrAt 5 Kernel16Ideal.cfg0.N, fun c => (Kernel16Ideal.Gen.dats (F := Ideal) m 0 c).arrAt 6 Kernel16Ideal.cfg0.N,
    fun c => (Kernel16Ideal.Gen.dats (F := Ideal) m 0 c).arrAt 7 Kernel16Ideal.cfg0.N, fun c => (Kernel16Ideal.Gen.dats (F := Ideal) m 0 c).arrAt 8 Kernel16Ideal.cfg0.N,
    Kernel16Ideal.Value.run_blocks m g, ?_⟩
  refine (θ_run _ _ _).mono (fun r h c => ?_) (Reference16Ideal.Value.run m' g')
  obtain ⟨e0, e1, e2, e3, e4⟩ := he c
  obtain ⟨p0, p1, p2, p4⟩ := hp c
  obtain ⟨h0, h1, h2, h3, h4⟩ := h c
  have a0 := is2_mat2 (n := 2048) (k := 2048) (m ((c.tc : Thread nD τ).loc main_arg0))
  have a1 := is2_mat2 (n := 2048) (k := 2048) (m ((c.tc : Thread nD τ).loc main_arg1))
  have a2 := is3_mat3 (n := 4) (k := 512) (l := 512) (m ((c.tc : Thread nD τ).loc main_arg2))
  have a3 := is2_mat2 (n := 1) (k := 2048) (m ((c.tc : Thread nD τ).loc main_arg3))
  have a4 := is2_mat2 (n := 1) (k := 2048) (m ((c.tc : Thread nD τ).loc main_arg4))
  have q0 := real_mat2 (n := 2048) (k := 2048) (x := m ((c.tc : Thread nD τ).loc main_arg0)) fun i => isR_f32 (congrFun p0 i)
  have q1 := real_mat2 (n := 2048) (k := 2048) (x := m ((c.tc : Thread nD τ).loc main_arg1)) fun i => isR_f32 (congrFun p1 i)
  have q2 := real_mat3 (n := 4) (k := 512) (l := 512) (x := m ((c.tc : Thread nD τ).loc main_arg2)) fun i => isR_bf16 (congrFun p2 i)
  have q4 := real_mat2 (n := 1) (k := 2048) (x := m ((c.tc : Thread nD τ).loc main_arg4)) fun i => isR_f32 (congrFun p4 i)
  refine ⟨h0.trans ?_, h1.trans ?_, h2.trans ?_, h3.trans ?_, h4⟩
  all_goals clear h h0 h1 h2 h3 h4
  · rw [Reference16Ideal.Read.val_main_v119_eq, e1, e2, e4]
    refine ext2 (Reference16Ideal.Mix.r119 a1 a2 a4 q1 q4 q2) ?_ fun _ _ _ _ => rfl
    dsimp only
    rw [Kernel16Ideal.Mix.dh_arr m c a1 a2 a4]
    exact Kernel2Ideal.Mix.is2_arr2 _ _ _
  · rw [Reference16Ideal.Read.val_main_v120_eq, e0, e1, e4]
    refine ext3 (Reference16Ideal.Mix.r120 a0 q0 a1 a4) ?_ fun _ _ _ _ _ _ => rfl
    dsimp only
    rw [Kernel16Ideal.Mix.dw_arr m c a0 a1 a4]
    exact Kernel2Ideal.Mix.is3_arr3 _ _ _ _
  · rw [Reference16Ideal.Read.val_main_v121_eq, e1, e4]
    refine ext2 (Reference16Ideal.Mix.r121 a1 a4) ?_ fun _ _ _ _ => rfl
    dsimp only
    rw [Kernel16Ideal.Mix.db_arr m c a1 a4]
    exact Kernel2Ideal.Mix.is2_arr2 _ _ _
  · rw [Reference16Ideal.Read.val_main_v122_eq, e0, e1, e2, e3]
    refine ext2 (Reference16Ideal.Mix.r122 a0 q0 a1 a2 a3) ?_ fun _ _ _ _ => rfl
    dsimp only
    rw [Kernel16Ideal.Mix.ds_arr m c a0 a1 a2 a3]
    exact Kernel2Ideal.Mix.is2_arr2 _ _ _

end Cert.Mix

end
-- ==== Proof.AttFwd.lean ====
module

public import proofs.«01_k».proof.Proof.Gen.Kernel17Ideal.Value
public import proofs.«01_k».proof.Proof.Gen.Reference17Ideal.Read
public import proofs.«01_k».proof.Proof.MixPool
public import Idealize.ShloMosaic.Lib.WritesUnit

/-! # The attention's forward call, run with its values named

One trip of the counted loop takes one tile of 256 keys, for the two heads of the grid point; the last one leaves the sums over
all keys, which are the reference's. -/

@[expose] public section

set_option maxRecDepth 16384

noncomputable section

namespace Cert.Kernel17Ideal.Fwd

open Kernel17Ideal Kernel17Ideal.Gen
open Idealize.ShloMosaic TcCoe
open KernelIdeal.Att (sc sc_eq sum_coe coe_lsig select_true mask_words sgt_words iv_one)
open Finset (range Ico)

abbrev Carry := FVec Ideal S256x128 .f32 × FVec Ideal S256x1 .f32 × FVec Ideal S256x128 .f32 × FVec Ideal S256x1 .f32

/-- The left or the right 128 columns of the queries' block. -/
def qL (x : Vec Ideal S256x256 .bf16) : Vec Ideal S256x128 .bf16 := View.ld (Val := Elt Ideal) x (Rect.unit (s := S256x256) ![0, 0] S256x128.size inb_S256x256_S256x128_0_0)
def qR (x : Vec Ideal S256x256 .bf16) : Vec Ideal S256x128 .bf16 := View.ld (Val := Elt Ideal) x (Rect.unit (s := S256x256) ![0, 128] S256x128.size inb_S256x256_S256x128_0_128)
/-- The 256 rows of trip `k` of the keys' or values' block, left or right 128 columns. -/
def kL (i : grid0.Coords) (k : Fin (k0_t1_loop i).trips) (x : Vec Ideal S2048x256 .bf16) : Vec Ideal S256x128 .bf16 := View.ld (Val := Elt Ideal) x (Rect.unit (s := S2048x256) (k0_off1 i k) S256x128.size (k0_off1_inb i k))
def kR (i : grid0.Coords) (k : Fin (k0_t1_loop i).trips) (x : Vec Ideal S2048x256 .bf16) : Vec Ideal S256x128 .bf16 := View.ld (Val := Elt Ideal) x (Rect.unit (s := S2048x256) (k0_off2 i k) S256x128.size (k0_off2_inb i k))

/-- One head's part of a trip. -/
def half (i : grid0.Coords) (k : Fin (k0_t1_loop i).trips) (q kb vb : Vec Ideal S256x128 .bf16) (a : FVec Ideal S256x128 .f32) (u : FVec Ideal S256x1 .f32) :
    FVec Ideal S256x128 .f32 × FVec Ideal S256x1 .f32 :=
  (k0_pay17 a (k0_pay16 i (BitVec.ofNat 32 (i 1).val) (k0_pay1 (F := Ideal)) 0#32 1#32 k u q kb) vb, k0_pay18 u (k0_pay15 i (BitVec.ofNat 32 (i 1).val) 0#32 1#32 k q kb))

theorem readAt_unread {s : Shape} {M : Memref sig .tc .vmem s .bf16} (h : M.IsWhole) (x : Vec Ideal s .bf16) (R : Rect s) :
    View.readAt (Elt Ideal) M.view R.toLoadRect (h.unread x) = View.ld (Val := Elt Ideal) x R := by
  show View.ld (Val := Elt Ideal) (M.view.read (Elt Ideal) (h.unread x)) R = _
  rw [h.read_unread]

theorem right_u (i : grid0.Coords) (w : BitVec 32) (k : Fin (k0_t1_loop i).trips) (u : FVec Ideal S256x1 .f32) (q kb : Vec Ideal S256x128 .bf16) :
    k0_pay7 u (k0_pay22 w (Scalar.subi w (Scf.iv 0#32 1#32 k)) q kb) = k0_pay18 u (k0_pay15 i w 0#32 1#32 k q kb) := rfl
theorem right_a (i : grid0.Coords) (w : BitVec 32) (p : FVec Ideal S256x256 .bf16) (k : Fin (k0_t1_loop i).trips) (a : FVec Ideal S256x128 .f32) (u : FVec Ideal S256x1 .f32) (q kb vb : Vec Ideal S256x128 .bf16) :
    k0_pay6 a (k0_pay23 w p u (Scalar.subi w (Scf.iv 0#32 1#32 k)) q kb) vb = k0_pay17 a (k0_pay16 i w p 0#32 1#32 k u q kb) vb := rfl

theorem trip_eq (c : Dev nD) (i : grid0.Coords) (a2 : Memref sig .tc .vmem S256x256 .bf16) (b2 : a2.IsWhole) (a3 : Memref sig .tc .vmem S2048x256 .bf16) (b3 : a3.IsWhole) (a4 : Memref sig .tc .vmem S2048x256 .bf16) (b4 : a4.IsWhole) (a5 : Memref sig .tc .vmem S256x256 .bf16) (b5 : a5.IsWhole)
    (x0 : Vec Ideal S256x256 .bf16) (x1 x2 : Vec Ideal S2048x256 .bf16) (k : Fin (k0_t1_loop i).trips) (s : Carry) :
    tripR_k0_t1 (F := Ideal) Variants.none c none i a2 b2 a3 b3 a4 b4 a5 b5 (BitVec.ofNat 32 (i 1).val) (b2.unread x0) (b3.unread x1) (b4.unread x2) k s
      = ((half i k (qL x0) (kL i k x1) (kL i k x2) s.1 s.2.1).1, (half i k (qL x0) (kL i k x1) (kL i k x2) s.1 s.2.1).2,
         (half i k (qR x0) (kR i k x1) (kR i k x2) s.2.2.1 s.2.2.2).1, (half i k (qR x0) (kR i k x1) (kR i k x2) s.2.2.1 s.2.2.2).2) := by
  unfold tripR_k0_t1 trip_k0_t1
  dsimp only
  unfold trip_k0_t1.sl.r_2 trip_k0_t1.sl.r_3 trip_k0_t1.sl.r_4 trip_k0_t1.sl.r_5 trip_k0_t1.sl.r_1 trip_k0_t1.sl.r trip_k0_t1.sl.v23
  simp only [readAt_unread]
  unfold half qL qR kL kR
  refine Prod.ext rfl (Prod.ext rfl (Prod.ext ?_ ?_))
  · exact right_a i _ _ k _ _ _ _ _
  · exact right_u i _ k _ _ _

/-- The carried values before trip `n`. -/
abbrev stA (c : Dev nD) (i : grid0.Coords) (a2 : Memref sig .tc .vmem S256x256 .bf16) (b2 : a2.IsWhole) (a3 : Memref sig .tc .vmem S2048x256 .bf16) (b3 : a3.IsWhole) (a4 : Memref sig .tc .vmem S2048x256 .bf16) (b4 : a4.IsWhole) (a5 : Memref sig .tc .vmem S256x256 .bf16) (b5 : a5.IsWhole)
    (x0 : Vec Ideal S256x256 .bf16) (x1 x2 : Vec Ideal S2048x256 .bf16) (n : ℕ) : Carry :=
  st_k0_t1 (F := Ideal) Variants.none c none i a2 b2 a3 b3 a4 b4 a5 b5 (BitVec.ofNat 32 (i 1).val) (b2.unread x0) (b3.unread x1) (b4.unread x2) (k0_pay2, k0_pay3, k0_pay4, k0_pay5) n

theorem trips1 : ∀ i : grid0.Coords, (k0_t1_loop i).trips = (i 1).val + 1 := by decide +kernel
theorem trips2 : ∀ i : grid0.Coords, (k0_t2_loop i).trips = 0 := by decide +kernel

theorem pieces_eq (c : Dev nD) (i : grid0.Coords) (a2 : Memref sig .tc .vmem S256x256 .bf16) (b2 : a2.IsWhole) (a3 : Memref sig .tc .vmem S2048x256 .bf16) (b3 : a3.IsWhole) (a4 : Memref sig .tc .vmem S2048x256 .bf16) (b4 : a4.IsWhole) (a5 : Memref sig .tc .vmem S256x256 .bf16) (b5 : a5.IsWhole)
    (x0 : Vec Ideal S256x256 .bf16) (x1 x2 : Vec Ideal S2048x256 .bf16) :
    (kernelRun0_A (F := Ideal) c i a2 b2 a3 b3 a4 b4 a5 b5 x0 x1 x2).1
      = [⟨Rect.unit (s := S256x256) ![0, 128] S256x128.size inb_S256x256_S256x128_0_128, (stA c i a2 b2 a3 b3 a4 b4 a5 b5 x0 x1 x2 ((i 1).val + 1)).2.2.1⟩,
         ⟨Rect.unit (s := S256x256) ![0, 0] S256x128.size inb_S256x256_S256x128_0_0, (stA c i a2 b2 a3 b3 a4 b4 a5 b5 x0 x1 x2 ((i 1).val + 1)).1⟩] := by
  unfold kernelRun0_A
  dsimp only
  rw [show Scf.trips 0#32 (Scalar.addi 0#32 (Scalar.muli (Scalar.divsi (Scalar.subi (Scalar.addi (BitVec.ofNat 32 (i 1).val) 1#32) 0#32) 1#32) 1#32)) 1#32 = (i 1).val + 1 from trips1 i,
    show Scf.trips (Scalar.addi 0#32 (Scalar.muli (Scalar.divsi (Scalar.subi (Scalar.addi (BitVec.ofNat 32 (i 1).val) 1#32) 0#32) 1#32) 1#32)) (Scalar.addi 0#32 (Scalar.subi (Scalar.addi (BitVec.ofNat 32 (i 1).val) 1#32) 0#32)) 1#32 = 0 from trips2 i]
  rfl

/-! ## The tiles over the extended reals -/

section Tiles

variable (i : grid0.Coords) {Q K : ℕ → ℕ → ℝ} {V : ℕ → ℕ → EReal}

/-- Block `b` of 256 rows of `X`. -/
def IsBlk (b : ℕ) (x : Vec Ideal S256x128 .bf16) (X : ℕ → ℕ → EReal) : Prop :=
  ∀ (r : Fin 256) (d : Fin 128), x (ix2 r d) = X (256 * b + r.val) d.val
/-- A matrix of real numbers among the extended ones. -/
def up (X : ℕ → ℕ → ℝ) : ℕ → ℕ → EReal := fun t d => ((X t d : ℝ) : EReal)

theorem blk_lt : (i 1).val < 8 := (i 1).isLt

theorem pay13_at (k : Fin (k0_t1_loop i).trips) {j : ℕ} (hj : j + k.val = (i 1).val) (r c : Fin 256) :
    k0_pay13 i (BitVec.ofNat 32 (i 1).val) 0#32 1#32 k (ix2 r c) = BitVec.ofBool (decide (256 * j + c.val < 256 * (i 1).val + r.val)) := by
  have hb := blk_lt i
  pointwise [k0_pay13]
  have e : Scalar.subi (BitVec.ofNat 32 (i 1).val) (Scf.iv 0#32 1#32 k.val) = BitVec.ofNat 32 j := by
    rw [iv_one]
    show BitVec.ofNat 32 (i 1).val - BitVec.ofNat 32 k.val = _
    apply BitVec.eq_of_toNat_eq
    rw [BitVec.toNat_sub, BitVec.toNat_ofNat, BitVec.toNat_ofNat, BitVec.toNat_ofNat]
    omega
  rw [e, mask_words hb (by omega)]

theorem pay12_at {b j : ℕ} {q k : Vec Ideal S256x128 .bf16} (hq : IsBlk b q (up Q)) (hk : IsBlk j k (up K)) (r c : Fin 256) :
    k0_pay12 q k (ix2 r c) = ((KernelIdeal.Att.Model.z sc Q K (256 * b + r.val) (256 * j + c.val) : ℝ) : EReal) := by
  pointwise [k0_pay12]
  rw [sc_eq, sum_coe (fun d => Q (256 * b + r.val) d * K (256 * j + c.val) d) fun d => by rw [hq, hk, up, up, EReal.coe_mul], ← EReal.coe_mul]
  rfl

theorem pay14_at {b j : ℕ} {q k : Vec Ideal S256x128 .bf16} (hq : IsBlk b q (up Q)) (hk : IsBlk j k (up K)) (r c : Fin 256) :
    k0_pay14 q k (ix2 r c) = ((KernelIdeal.Att.Model.lsig (KernelIdeal.Att.Model.z sc Q K (256 * b + r.val) (256 * j + c.val)) : ℝ) : EReal) := by
  pointwise [k0_pay14]
  rw [pay12_at hq hk, coe_lsig]

variable {q kb vb : Vec Ideal S256x128 .bf16} {k : Fin (k0_t1_loop i).trips} {j : ℕ}

theorem pay15_at (hj : j + k.val = (i 1).val) (hq : IsBlk (i 1).val q (up Q)) (hk : IsBlk j kb (up K)) (r c : Fin 256) :
    k0_pay15 i (BitVec.ofNat 32 (i 1).val) 0#32 1#32 k q kb (ix2 r c)
      = ((KernelIdeal.Att.Model.m1 sc Q K (256 * (i 1).val + r.val) (256 * j + c.val) : ℝ) : EReal) := by
  pointwise [k0_pay15]
  rw [pay13_at i k hj, select_true, pay12_at hq hk, pay14_at hq hk, ← EReal.coe_sub, KernelIdeal.Att.Model.m1]
  split <;> rfl

/-- The logarithms summed over the tiles of keys that were taken before. -/
def IsRun (j : ℕ) (Q K : ℕ → ℕ → ℝ) (u : FVec Ideal S256x1 .f32) : Prop := ∀ r : Fin 256,
  u (ix2 r 0) = ((∑ s ∈ Ico (256 * j) (256 * ((i 1).val + 1)), KernelIdeal.Att.Model.m1 sc Q K (256 * (i 1).val + r.val) s : ℝ) : EReal)
/-- The weighted values summed over them. -/
def IsAcc (j : ℕ) (Q K : ℕ → ℕ → ℝ) (V : ℕ → ℕ → EReal) (a : FVec Ideal S256x128 .f32) : Prop := ∀ (r : Fin 256) (d : Fin 128),
  a (ix2 r d) = ∑ s ∈ Ico (256 * j) (256 * ((i 1).val + 1)), ((KernelIdeal.Att.Model.wt sc Q K (256 * (i 1).val + r.val) s : ℝ) : EReal) * V s d.val

theorem pay16_at {u : FVec Ideal S256x1 .f32} (hu : IsRun i (j + 1) Q K u) (hj : j + k.val = (i 1).val) (hq : IsBlk (i 1).val q (up Q)) (hk : IsBlk j kb (up K)) (r c : Fin 256) :
    k0_pay16 i (BitVec.ofNat 32 (i 1).val) (k0_pay1 (F := Ideal)) 0#32 1#32 k u q kb (ix2 r c)
      = ((KernelIdeal.Att.Model.wt sc Q K (256 * (i 1).val + r.val) (256 * j + c.val) : ℝ) : EReal) := by
  have hb := blk_lt i
  pointwise [k0_pay16, k0_pay1]
  rw [pay13_at i k hj, select_true, pay14_at hq hk, hu r,
    sum_coe (fun x => if c.val < x then KernelIdeal.Att.Model.m1 sc Q K (256 * (i 1).val + r.val) (256 * j + x) else 0) fun x => by
      rw [sgt_words (by omega) (by omega), select_true, pay15_at i hj hq hk]; split <;> rfl,
    sum_coe (fun _ => 0) fun x => by
      rw [sgt_words (by omega) (by omega), select_true, pay15_at i hj hq hk, ← EReal.coe_sub, sub_self]; split <;> rfl]
  rw [Finset.sum_const_zero, ← EReal.coe_add, ← EReal.coe_add, ← EReal.coe_add, Ideal.exp_coe, add_zero,
    ← KernelIdeal.Att.Model.left_split sc Q K hb (by omega) r.isLt c.isLt, KernelIdeal.Att.Model.wt]
  split <;> rfl

theorem sum_down {M : Type} [AddCommMonoid M] (f : ℕ → M) {j b : ℕ} (h : j ≤ b) :
    ∑ s ∈ Ico (256 * (j + 1)) (256 * (b + 1)), f s + ∑ x : Fin 256, f (256 * j + x.val) = ∑ s ∈ Ico (256 * j) (256 * (b + 1)), f s := by
  rw [Fin.sum_univ_eq_sum_range (fun x => f (256 * j + x)) 256,
    ← Finset.sum_Ico_consecutive f (show 256 * j ≤ 256 * (j + 1) by omega) (show 256 * (j + 1) ≤ 256 * (b + 1) by omega), add_comm,
    Finset.sum_Ico_eq_sum_range f (256 * j) (256 * (j + 1)), show 256 * (j + 1) - 256 * j = 256 by omega]

theorem run_at {u : FVec Ideal S256x1 .f32} (hu : IsRun i (j + 1) Q K u) (hj : j + k.val = (i 1).val) (hq : IsBlk (i 1).val q (up Q)) (hk : IsBlk j kb (up K)) :
    IsRun i j Q K (k0_pay18 u (k0_pay15 i (BitVec.ofNat 32 (i 1).val) 0#32 1#32 k q kb)) := fun r => by
  pointwise [k0_pay18]
  rw [hu r, sum_coe (fun c => KernelIdeal.Att.Model.m1 sc Q K (256 * (i 1).val + r.val) (256 * j + c)) fun c => pay15_at i hj hq hk r c,
    ← EReal.coe_add, ← sum_down _ (show j ≤ (i 1).val by omega), Fin.sum_univ_eq_sum_range (fun c => KernelIdeal.Att.Model.m1 sc Q K (256 * (i 1).val + r.val) (256 * j + c))]

theorem acc_at {u : FVec Ideal S256x1 .f32} {a : FVec Ideal S256x128 .f32} (hu : IsRun i (j + 1) Q K u) (ha : IsAcc i (j + 1) Q K V a) (hj : j + k.val = (i 1).val)
    (hq : IsBlk (i 1).val q (up Q)) (hk : IsBlk j kb (up K)) (hv : IsBlk j vb V) :
    IsAcc i j Q K V (k0_pay17 a (k0_pay16 i (BitVec.ofNat 32 (i 1).val) (k0_pay1 (F := Ideal)) 0#32 1#32 k u q kb) vb) := fun r d => by
  pointwise [k0_pay17]
  rw [ha r d, ← sum_down _ (show j ≤ (i 1).val by omega)]
  congr 1
  refine Finset.sum_congr rfl fun x _ => ?_
  rw [pay16_at i hu hj hq hk, hv]

end Tiles

/-! ## The loop -/

theorem off1 : ∀ (i : grid0.Coords) (k : Fin (k0_t1_loop i).trips), k0_off1 i k = ![256 * ((i 1).val - k.val), 0] := by decide +kernel
theorem off2 : ∀ (i : grid0.Coords) (k : Fin (k0_t1_loop i).trips), k0_off2 i k = ![256 * ((i 1).val - k.val), 128] := by decide +kernel

theorem kL_at (i : grid0.Coords) (k : Fin (k0_t1_loop i).trips) {j : ℕ} (hj : j + k.val = (i 1).val) (x : Vec Ideal S2048x256 .bf16) (r : Fin 256) (d : Fin 128) :
    kL i k x (ix2 r d) = x (ix2 (⟨256 * j + r.val, by have := blk_lt i; omega⟩ : Fin 2048) (⟨d.val, by omega⟩ : Fin 256)) := by
  show x ((Rect.unit (s := S2048x256) (k0_off1 i k) S256x128.size (k0_off1_inb i k)).emb (ix2 r d)) = _
  congr 1
  refine KernelIdeal.Att.ix2_of _ _ _ ?_ ?_
  · show k0_off1 i k 0 + 1 * r.val = _
    rw [off1]
    show 256 * ((i 1).val - k.val) + 1 * r.val = _
    omega
  · show k0_off1 i k 1 + 1 * d.val = _
    rw [off1]
    show 0 + 1 * d.val = _
    omega

theorem kR_at (i : grid0.Coords) (k : Fin (k0_t1_loop i).trips) {j : ℕ} (hj : j + k.val = (i 1).val) (x : Vec Ideal S2048x256 .bf16) (r : Fin 256) (d : Fin 128) :
    kR i k x (ix2 r d) = x (ix2 (⟨256 * j + r.val, by have := blk_lt i; omega⟩ : Fin 2048) (⟨128 + d.val, by omega⟩ : Fin 256)) := by
  show x ((Rect.unit (s := S2048x256) (k0_off2 i k) S256x128.size (k0_off2_inb i k)).emb (ix2 r d)) = _
  congr 1
  refine KernelIdeal.Att.ix2_of _ _ _ ?_ ?_
  · show k0_off2 i k 0 + 1 * r.val = _
    rw [off2]
    show 256 * ((i 1).val - k.val) + 1 * r.val = _
    omega
  · show k0_off2 i k 1 + 1 * d.val = _
    rw [off2]
    show 128 + 1 * d.val = _
    omega

theorem qL_at (x : Vec Ideal S256x256 .bf16) (r : Fin 256) (d : Fin 128) : qL x (ix2 r d) = x (ix2 r (⟨d.val, by omega⟩ : Fin 256)) := by
  show x ((Rect.unit (s := S256x256) ![0, 0] S256x128.size inb_S256x256_S256x128_0_0).emb (ix2 r d)) = _
  congr 1
  refine KernelIdeal.Att.ix2_of _ _ _ ?_ ?_
  · show 0 + 1 * r.val = r.val
    omega
  · show 0 + 1 * d.val = d.val
    omega
theorem qR_at (x : Vec Ideal S256x256 .bf16) (r : Fin 256) (d : Fin 128) : qR x (ix2 r d) = x (ix2 r (⟨128 + d.val, by omega⟩ : Fin 256)) := by
  show x ((Rect.unit (s := S256x256) ![0, 128] S256x128.size inb_S256x256_S256x128_0_128).emb (ix2 r d)) = _
  congr 1
  refine KernelIdeal.Att.ix2_of _ _ _ ?_ ?_
  · show 0 + 1 * r.val = r.val
    omega
  · show 128 + 1 * d.val = 128 + d.val
    omega

section Loop

variable (c : Dev nD) (i : grid0.Coords) (a2 : Memref sig .tc .vmem S256x256 .bf16) (b2 : a2.IsWhole) (a3 : Memref sig .tc .vmem S2048x256 .bf16) (b3 : a3.IsWhole)
  (a4 : Memref sig .tc .vmem S2048x256 .bf16) (b4 : a4.IsWhole) (a5 : Memref sig .tc .vmem S256x256 .bf16) (b5 : a5.IsWhole)
  {x0 : Vec Ideal S256x256 .bf16} {x1 x2 : Vec Ideal S2048x256 .bf16} {A B : ℕ → ℕ → ℝ} {V : ℕ → ℕ → EReal}
  (h0 : ∀ r d : Fin 256, x0 (ix2 r d) = ((A (256 * (i 1).val + r.val) d.val : ℝ) : EReal))
  (h1 : ∀ (r : Fin 2048) (d : Fin 256), x1 (ix2 r d) = ((B r.val d.val : ℝ) : EReal))
  (h2 : ∀ (r : Fin 2048) (d : Fin 256), x2 (ix2 r d) = V r.val d.val)

/-- The columns of the left (0) or the right (1) head. -/
def cols {M : Type} (e : ℕ) (X : ℕ → ℕ → M) : ℕ → ℕ → M := fun t d => X t (128 * e + d)

include h0 h1 h2 in
theorem st_inv (n : ℕ) : ∀ j, j + n = (i 1).val + 1 →
    IsAcc i j (cols 0 A) (cols 0 B) (cols 0 V) (stA c i a2 b2 a3 b3 a4 b4 a5 b5 x0 x1 x2 n).1
    ∧ IsRun i j (cols 0 A) (cols 0 B) (stA c i a2 b2 a3 b3 a4 b4 a5 b5 x0 x1 x2 n).2.1
    ∧ IsAcc i j (cols 1 A) (cols 1 B) (cols 1 V) (stA c i a2 b2 a3 b3 a4 b4 a5 b5 x0 x1 x2 n).2.2.1
    ∧ IsRun i j (cols 1 A) (cols 1 B) (stA c i a2 b2 a3 b3 a4 b4 a5 b5 x0 x1 x2 n).2.2.2 := by
  induction n with
  | zero =>
    intro j hj
    obtain rfl : j = (i 1).val + 1 := by omega
    refine ⟨fun r d => ?_, fun r => ?_, fun r d => ?_, fun r => ?_⟩ <;> rw [Finset.Ico_self, Finset.sum_empty]
    · show k0_pay2 (F := Ideal) (ix2 r d) = 0
      pointwise [k0_pay2]
    · show k0_pay3 (F := Ideal) (ix2 r 0) = ((0 : ℝ) : EReal)
      pointwise [k0_pay3]
      exact EReal.coe_zero.symm
    · show k0_pay4 (F := Ideal) (ix2 r d) = 0
      pointwise [k0_pay4]
    · show k0_pay5 (F := Ideal) (ix2 r 0) = ((0 : ℝ) : EReal)
      pointwise [k0_pay5]
      exact EReal.coe_zero.symm
  | succ n ih =>
    intro j hj
    obtain ⟨a, u, a', u'⟩ := ih (j + 1) (by omega)
    have hn : n < (k0_t1_loop i).trips := by rw [trips1]; omega
    have e := st_k0_t1_succ (F := Ideal) Variants.none c none i a2 b2 a3 b3 a4 b4 a5 b5 (BitVec.ofNat 32 (i 1).val) (b2.unread x0) (b3.unread x1) (b4.unread x2) (k0_pay2, k0_pay3, k0_pay4, k0_pay5) ⟨n, hn⟩
    rw [trip_eq] at e
    have hk : j + (⟨n, hn⟩ : Fin (k0_t1_loop i).trips).val = (i 1).val := by dsimp only; omega
    have qa : IsBlk (i 1).val (qL x0) (up (cols 0 A)) := fun r d => by rw [qL_at, h0]; dsimp only [up, cols]; rw [Nat.mul_zero, Nat.zero_add]
    have ka : IsBlk j (kL i ⟨n, hn⟩ x1) (up (cols 0 B)) := fun r d => by rw [kL_at i _ hk, h1]; dsimp only [up, cols]; rw [Nat.mul_zero, Nat.zero_add]
    have va : IsBlk j (kL i ⟨n, hn⟩ x2) (cols 0 V) := fun r d => by rw [kL_at i _ hk, h2]; dsimp only [cols]; rw [Nat.mul_zero, Nat.zero_add]
    have qb : IsBlk (i 1).val (qR x0) (up (cols 1 A)) := fun r d => by rw [qR_at, h0]; rfl
    have kb : IsBlk j (kR i ⟨n, hn⟩ x1) (up (cols 1 B)) := fun r d => by rw [kR_at i _ hk, h1]; rfl
    have vb : IsBlk j (kR i ⟨n, hn⟩ x2) (cols 1 V) := fun r d => by rw [kR_at i _ hk, h2]; rfl
    dsimp only at e
    rw [show stA c i a2 b2 a3 b3 a4 b4 a5 b5 x0 x1 x2 (n + 1) = _ from e]
    exact ⟨acc_at i u a hk qa ka va, run_at i u hk qa ka, acc_at i u' a' hk qb kb vb, run_at i u' hk qb kb⟩

include h0 h1 h2 in
theorem out_at (r d : Fin 256) : out0_A_3 (F := Ideal) c i a2 b2 a3 b3 a4 b4 a5 b5 x0 x1 x2 (ix2 r d)
    = ∑ s ∈ range 2048, ((KernelIdeal.Att.Model.wt sc (cols (d.val / 128) A) (cols (d.val / 128) B) (256 * (i 1).val + r.val) s : ℝ) : EReal) * V s d.val := by
  have hb := blk_lt i
  have hS := st_inv c i a2 b2 a3 b3 a4 b4 a5 b5 h0 h1 h2 ((i 1).val + 1) 0 (by omega)
  have key : ∀ (e : ℕ) (x : Fin 128), ∑ s ∈ range 2048, ((KernelIdeal.Att.Model.wt sc (cols e A) (cols e B) (256 * (i 1).val + r.val) s : ℝ) : EReal) * V s (128 * e + x.val)
      = ∑ s ∈ Ico (256 * 0) (256 * ((i 1).val + 1)), ((KernelIdeal.Att.Model.wt sc (cols e A) (cols e B) (256 * (i 1).val + r.val) s : ℝ) : EReal) * cols e V s x.val := fun e x => by
    rw [Nat.mul_zero, ← Finset.range_eq_Ico]
    refine (Finset.sum_subset (Finset.range_mono (by omega)) fun s hs hn => ?_).symm
    rw [Finset.mem_range] at hs hn
    rw [KernelIdeal.Att.Model.wt_of_le _ _ _ (by omega), EReal.coe_zero, zero_mul]
  unfold out0_A_3
  rw [pieces_eq]
  by_cases hd : d.val < 128
  · refine (View.read_writes_cons_unit_of_not_mem VO0_3 VO0_3.junk inb_S256x256_S256x128_0_128 _ _ (ix2 r d) (off' := ![0, 128]) rfl (1 : Fin 2) (Or.inl hd)).trans ?_
    refine (View.read_writes_cons_unit_of_mem VO0_3 VO0_3.junk inb_S256x256_S256x128_0_0 _ _ (ix2 r d) (ix2 (n0 := 256) (n1 := 128) r ⟨d.val, hd⟩) (off' := ![0, 0]) rfl (Fin.forall_fin_two.mpr ⟨?_, ?_⟩)).trans ?_
    · show r.val = 0 + r.val
      omega
    · show d.val = 0 + d.val
      omega
    rw [hS.1 r ⟨d.val, hd⟩, show d.val / 128 = 0 by omega, ← key 0 ⟨d.val, hd⟩]
    simp only [Nat.mul_zero, Nat.zero_add]
  · refine (View.read_writes_cons_unit_of_mem VO0_3 VO0_3.junk inb_S256x256_S256x128_0_128 _ _ (ix2 r d) (ix2 (n0 := 256) (n1 := 128) r ⟨d.val - 128, by omega⟩) (off' := ![0, 128]) rfl (Fin.forall_fin_two.mpr ⟨?_, ?_⟩)).trans ?_
    · show r.val = 0 + r.val
      omega
    · show d.val = 128 + (d.val - 128)
      omega
    rw [hS.2.2.1 r ⟨d.val - 128, by omega⟩, show d.val / 128 = 1 by omega, ← key 1 ⟨d.val - 128, by omega⟩]
    dsimp only
    rw [show 128 * 1 + (d.val - 128) = d.val by omega]

end Loop

/-! ## The array that the run leaves -/

/-- The heads' results: each query's values, weighted. -/
def gO (x : Vec Ideal S2048x4096 .bf16) (v : Vec Ideal S2048x2048 .bf16) : Vec Ideal S2048x2048 .bf16 := fun i =>
  ∑ s ∈ range 2048, ((KernelIdeal.Att.Model.wt sc (KernelIdeal.Att.qs x ((i 1).val / 128)) (KernelIdeal.Att.ks x ((i 1).val / 128)) (i 0).val s : ℝ) : EReal) * Cert.Mix.mat2 (n := 2048) (k := 2048) v s (i 1).val

section Arr

variable (m : (ℓ : Loc nD τ sig) → Buf (Elt Ideal) ℓ) (c : Dev nD)

theorem index0 : ∀ t : Fin grid0.N, win0_0.index t 0 = t.val % 8 ∧ win0_0.index t 1 = t.val / 8 := by decide +kernel
theorem index1 : ∀ t : Fin grid0.N, win0_1.index t 0 = 0 ∧ win0_1.index t 1 = t.val / 8 + 8 := by decide +kernel
theorem index2 : ∀ t : Fin grid0.N, win0_2.index t 0 = 0 ∧ win0_2.index t 1 = t.val / 8 := by decide +kernel
theorem index3 : ∀ t : Fin grid0.N, win0_3.index t 0 = t.val % 8 ∧ win0_3.index t 1 = t.val / 8 := by decide +kernel
theorem coord1 : ∀ t : Fin grid0.N, (grid0.coords t 1).val = t.val % 8 := by decide +kernel

theorem lt_points (t : Fin cfg0.N) : t.val < 64 := lt_of_lt_of_eq t.isLt (show cfg0.N = 64 from N_0)

theorem read0 (t : Fin cfg0.N) (r d : Fin 256) :
    iblk m c 0 t (ix2 r d) = V m c main_arg0 (ix2 (⟨256 * (t.val % 8) + r.val, by omega⟩ : Fin 2048) (⟨256 * (t.val / 8) + d.val, by have := lt_points t; omega⟩ : Fin 4096)) := by
  have h := index0 t
  show V m c main_arg0 ((win0_0.blk t).view.emb (ix2 r d)) = _
  congr 1
  refine KernelIdeal.Att.ix2_of _ _ _ ?_ ?_
  · blk_simp; rw [h.1]; omega
  · blk_simp; rw [h.2]; omega
theorem read1 (t : Fin cfg0.N) (r : Fin 2048) (d : Fin 256) :
    iblk m c 1 t (ix2 r d) = V m c main_arg0 (ix2 (⟨r.val, r.isLt⟩ : Fin 2048) (⟨2048 + 256 * (t.val / 8) + d.val, by have := lt_points t; omega⟩ : Fin 4096)) := by
  have h := index1 t
  show V m c main_arg0 ((win0_1.blk t).view.emb (ix2 r d)) = _
  congr 1
  refine KernelIdeal.Att.ix2_of _ _ _ ?_ ?_
  · blk_simp; rw [h.1]; omega
  · blk_simp; rw [h.2]; omega
theorem read2 (t : Fin cfg0.N) (r : Fin 2048) (d : Fin 256) :
    iblk m c 2 t (ix2 r d) = V m c main_arg1 (ix2 (⟨r.val, r.isLt⟩ : Fin 2048) (⟨256 * (t.val / 8) + d.val, by have := lt_points t; omega⟩ : Fin 2048)) := by
  have h := index2 t
  show V m c main_arg1 ((win0_2.blk t).view.emb (ix2 r d)) = _
  congr 1
  refine KernelIdeal.Att.ix2_of _ _ _ ?_ ?_
  · blk_simp; rw [h.1]; omega
  · blk_simp; rw [h.2]; omega

/-- The queries and keys on core `c`. -/
abbrev QK : Vec Ideal S2048x4096 .bf16 := m ((c.tc : Thread nD τ).loc main_arg0)
/-- The values on core `c`. -/
abbrev VV : Vec Ideal S2048x2048 .bf16 := m ((c.tc : Thread nD τ).loc main_arg1)

variable (hx : KernelIdeal.Att.Real4 (QK m c))

include hx in
theorem wrote (t : Fin cfg0.N) : (dats m 0 c).flushed 3 t = ((cfg0.win 3).blk t).view.read (Elt Ideal) (gO (QK m c) (VV m c)) := by
  have e : (dats m 0 c).flushed 3 t = outsAt0 m c t := rfl
  rw [e]
  funext j
  show outsAt0 m c t j = gO (QK m c) (VV m c) ((win0_3.blk t).view.emb j)
  have h := index3 t
  have h0 : ((win0_3.blk t).view.emb j 0).val = 256 * (t.val % 8) + (j 0).val := by blk_simp; rw [h.1]; omega
  have h1 : ((win0_3.blk t).view.emb j 1).val = 256 * (t.val / 8) + (j 1).val := by blk_simp; rw [h.2]; omega
  have hj0 : (j 0).val < 256 := (j 0).isLt
  have hj1 : (j 1).val < 256 := (j 1).isLt
  have ht := lt_points t
  rw [gO, h0, h1, KernelIdeal.Att.ix2_of j hj0 hj1 rfl rfl]
  unfold outsAt0
  rw [out_at c (grid0.coords t) _ _ _ _ _ _ _ _
    (A := fun a d => KernelIdeal.Att.reals4 (QK m c) a (256 * (t.val / 8) + d))
    (B := fun a d => KernelIdeal.Att.reals4 (QK m c) a (2048 + 256 * (t.val / 8) + d))
    (V := fun a d => Cert.Mix.mat2 (n := 2048) (k := 2048) (VV m c) a (256 * (t.val / 8) + d))
    (fun r d => by rw [read0, coord1]; exact hx _ _) (fun r d => by rw [read1]; exact hx _ _)
    (fun r d => by
      rw [read2]
      unfold Cert.Mix.mat2
      rw [dif_pos ⟨r.isLt, by omega⟩]) ⟨(j 0).val, hj0⟩ ⟨(j 1).val, hj1⟩, coord1]
  have ea : cols ((j 1).val / 128) (fun a d => KernelIdeal.Att.reals4 (QK m c) a (256 * (t.val / 8) + d)) = KernelIdeal.Att.qs (QK m c) ((256 * (t.val / 8) + (j 1).val) / 128) := by
    funext a d
    show KernelIdeal.Att.reals4 _ a _ = KernelIdeal.Att.reals4 _ a _
    congr 1
    omega
  have eb : cols ((j 1).val / 128) (fun a d => KernelIdeal.Att.reals4 (QK m c) a (2048 + 256 * (t.val / 8) + d)) = KernelIdeal.Att.ks (QK m c) ((256 * (t.val / 8) + (j 1).val) / 128) := by
    funext a d
    show KernelIdeal.Att.reals4 _ a _ = KernelIdeal.Att.reals4 _ a _
    congr 1
    omega
  dsimp only
  rw [ea, eb]
  rfl

theorem cover (i : S2048x2048.Idx) : ∃ t : Fin cfg0.N, (cfg0.win 3).flush t = true ∧ i ∈ ((cfg0.win 3).blk t).view.set := by
  have hi0 : (i 0).val < 2048 := (i 0).isLt
  have hi1 : (i 1).val < 2048 := (i 1).isLt
  have hN : cfg0.N = 64 := N_0
  have hp : 8 * ((i 1).val / 256) + (i 0).val / 256 < cfg0.N := by omega
  refine ⟨⟨8 * ((i 1).val / 256) + (i 0).val / 256, hp⟩, flush0_3 _, ?_⟩
  have h := index3 ⟨8 * ((i 1).val / 256) + (i 0).val / 256, hp⟩
  dsimp only at h
  mem_blk
  rw [h.1, h.2]
  omega

include hx in
theorem arr : (dats (F := Ideal) m 0 c).arrAt 3 cfg0.N = gO (QK m c) (VV m c) :=
  (dats m 0 c).arrAt_eq_of_cover 3 (gO (QK m c) (VV m c)) (fun t _ => wrote m c hx t) cover

end Arr

end Cert.Kernel17Ideal.Fwd

/-! ## The reference -/

namespace Cert.Reference17Ideal.Fwd

open Reference17Ideal Reference17Ideal.Read
open Idealize.ShloMosaic TcCoe

theorem weights_eq (x : Vec Ideal S2048x4096 .bf16) : val_main_v28 (F := Ideal) x = ReferenceIdeal.Read.val_main_v29_0 (F := Ideal) x := rfl

theorem ref {x : Vec Ideal S2048x4096 .bf16} (hx : KernelIdeal.Att.Real4 x) (v : Vec Ideal S2048x2048 .bf16) :
    val_main_v32 (F := Ideal) x v = Kernel17Ideal.Fwd.gO x v := by
  funext i
  have h0 : (i 0).val < 2048 := (i 0).isLt
  have h1 : (i 1).val < 2048 := (i 1).isLt
  rw [val_main_v32_apply]
  show val_main_v31 (F := Ideal) x v i = _
  rw [val_main_v31_apply, val_main_v30_apply, val_main_v29_apply, weights_eq, Kernel17Ideal.Fwd.gO, ← Fin.sum_univ_eq_sum_range (fun s => ((KernelIdeal.Att.Model.wt KernelIdeal.Att.sc (KernelIdeal.Att.qs x ((i 1).val / 128)) (KernelIdeal.Att.ks x ((i 1).val / 128)) (i 0).val s : ℝ) : EReal) * Cert.Mix.mat2 (n := 2048) (k := 2048) v s (i 1).val) 2048]
  refine Finset.sum_congr rfl fun s _ => ?_
  rw [ReferenceIdeal.Att.wt_at hx]
  congr 1
  · show ((KernelIdeal.Att.Model.wt KernelIdeal.Att.sc (KernelIdeal.Att.qs x (((i 0).val * 2048 + (i 1).val) / 128 % 16)) (KernelIdeal.Att.ks x (((i 0).val * 2048 + (i 1).val) / 128 % 16)) (((i 0).val * 2048 + (i 1).val) / 2048) s.val : ℝ) : EReal) = _
    rw [show ((i 0).val * 2048 + (i 1).val) / 128 % 16 = (i 1).val / 128 by omega, show ((i 0).val * 2048 + (i 1).val) / 2048 = (i 0).val by omega]
  · rw [val_main_v9_apply, val_main_v8_apply]
    unfold Cert.Mix.mat2
    rw [dif_pos ⟨s.isLt, h1⟩]
    show v _ = v _
    congr 1
    refine KernelIdeal.Att.ix2_of _ _ _ ?_ ?_
    · show ((s.val * 16 + ((i 0).val * 2048 + (i 1).val) / 128 % 16) * 128 + ((i 0).val * 2048 + (i 1).val) % 128) / 2048 = s.val
      omega
    · show ((s.val * 16 + ((i 0).val * 2048 + (i 1).val) / 128 % 16) * 128 + ((i 0).val * 2048 + (i 1).val) % 128) % 2048 = (i 1).val
      omega

end Cert.Reference17Ideal.Fwd

/-! ## The equation -/

namespace Cert.Mix

open Idealize.ShloMosaic TcCoe Idealize.SL.Sem

theorem facts17 : Pre_finite_inputs17.Facts := ⟨by decide⟩

theorem equation17 : algebraic_Kernel17Ideal_Reference17Ideal_pre_finite_inputs17 (hKernel17Ideal := Kernel17Ideal.Gen.facts)
    (hReference17Ideal := Reference17Ideal.Gen.facts) (hPre_finite_inputs17 := facts17) := by
  intro m g m' g' hp he
  refine ⟨fun c => (Kernel17Ideal.Gen.dats (F := Ideal) m 0 c).arrAt 3 Kernel17Ideal.cfg0.N, Kernel17Ideal.Value.run_blocks m g, ?_⟩
  refine (θ_run _ _ _).mono (fun r h c => ?_) (Reference17Ideal.Value.run m' g')
  obtain ⟨e0, e1⟩ := he c
  have p0 := hp c
  obtain ⟨h0, h1⟩ := h c
  have hx : KernelIdeal.Att.Real4 (Kernel17Ideal.Fwd.QK m c) := fun t d => by
    rw [KernelIdeal.Att.reals4, dif_pos ⟨t.isLt, d.isLt⟩]
    obtain ⟨x, e⟩ := isR_bf16 (congrFun p0 (ix2 t d))
    show Kernel17Ideal.Fwd.QK m c (ix2 t d) = _
    rw [show Kernel17Ideal.Fwd.QK m c (ix2 t d) = ((x : ℝ) : EReal) from e, EReal.toReal_coe]
  refine ⟨h0.trans ?_, h1⟩
  rw [Reference17Ideal.Read.val_main_v32_eq, e0, e1]
  dsimp only
  rw [Kernel17Ideal.Fwd.arr m c hx]
  exact Reference17Ideal.Fwd.ref hx _

end Cert.Mix

end
-- ==== Proof.SsmPrep.lean ====
module

public import proofs.«01_k».proof.Proof.Gen.Kernel18Ideal.Value
public import proofs.«01_k».proof.Proof.Gen.Reference18Ideal.Read
public import proofs.«01_k».proof.Proof.Gen.Kernel19Ideal.Frame
public import proofs.«01_k».proof.Proof.Gen.Reference19Ideal.Read
public import proofs.«01_k».proof.Proof.MixEquation
public import Idealize.ShloMosaic.Lib.Pipeline.ReadBack

/-! # The preparation of the state-space layer

The kernel keeps its arrays with a middle axis of one entry, or with the channels before the states; the mathematics has
no such axis, or has the channels last. `Lam`, `Chan` and `Stp` say that two arrays agree up to this, and each
operation keeps the agreement. -/

@[expose] public section

set_option maxRecDepth 16384

noncomputable section

namespace Cert.Mix

open Idealize.ShloMosaic

abbrev D1 : Shape := ⟨1, ![128]⟩
abbrev D11 : Shape := ⟨2, ![128, 1]⟩
abbrev D111 : Shape := ⟨3, ![128, 1, 1]⟩
abbrev D2 : Shape := ⟨2, ![128, 64]⟩
abbrev D21 : Shape := ⟨3, ![128, 64, 1]⟩
abbrev D3 : Shape := ⟨3, ![128, 1, 64]⟩
abbrev Dk : Shape := ⟨3, ![128, 16, 64]⟩
abbrev Dr : Shape := ⟨3, ![128, 64, 16]⟩

/-- Agreement of arrays over groups and states. -/
def Lam (x : FVec Ideal D3 .f32) (y : FVec Ideal D2 .f32) : Prop := ∀ (g : Fin 128) (p : Fin 64), x (ix3 g 0 p) = y (ix2 g p)
/-- Agreement of arrays over groups, states and channels. -/
def Chan (x : FVec Ideal Dk .f32) (y : FVec Ideal Dr .f32) : Prop :=
  ∀ (g : Fin 128) (h : Fin 16) (p : Fin 64), x (ix3 g h p) = y (ix3 g p h)
/-- Agreement of arrays over groups. -/
def Stp (x : FVec Ideal D111 .f32) (y : FVec Ideal D11 .f32) : Prop := ∀ g : Fin 128, x (ix3 g 0 0) = y (ix2 g 0)

section
variable {x x' : FVec Ideal D3 .f32} {y y' : FVec Ideal D2 .f32} (h : Lam x y) (h' : Lam x' y')

include h h' in
theorem Lam.mul : Lam (mulf x x') (mulf y y') := fun g p => by
  show x _ * x' _ = y _ * y' _
  rw [h, h']
include h h' in
theorem Lam.add : Lam (addf x x') (addf y y') := fun g p => by
  show x _ + x' _ = y _ + y' _
  rw [h, h']
include h h' in
theorem Lam.sub : Lam (subf x x') (subf y y') := fun g p => by
  show x _ - x' _ = y _ - y' _
  rw [h, h']
include h h' in
theorem Lam.div : Lam (divf x x') (Host.divf y y') := fun g p => by
  show Ideal.div (x _) (x' _) = Ideal.div (y _) (y' _)
  rw [h, h']
include h in
theorem Lam.exp : Lam (exp x) (Host.exp y) := fun g p => by
  show Ideal.exp (x _) = Ideal.exp (y _)
  rw [h]
include h in
theorem Lam.cos : Lam (cos x) (Host.cos y) := fun g p => by
  pointwise []
  rw [h]
include h in
theorem Lam.sin : Lam (sin x) (Host.sin y) := fun g p => by
  pointwise []
  rw [h]
include h in
theorem Lam.neg : Lam (subf (broadcast D3 (Scalar.ofBits .f32 0x00000000#32)) x) (Host.negf y) := fun g p => by
  pointwise []
  rw [h, sub_eq_add_neg, zero_add]

end

theorem Lam.one (hb : Shape.BroadcastsInDim ⟨0, ![]⟩ D2 ![]) :
    Lam (broadcast D3 (Scalar.ofBits .f32 0x3F800000#32)) (broadcastInDim D2 ![] hb (constant (F := Ideal) ⟨0, ![]⟩ .f32 0x3F800000#32)) := fun _ _ => by
  pointwise []

/-- The step, spread over the states. -/
theorem Stp.lam {t : FVec Ideal D111 .f32} {s : FVec Ideal D11 .f32} (h : Stp t s) (b : D111.Broadcasts D3)
    (b' : D11.BroadcastsInDim D2 ![0, 1]) : Lam (broadcastTo D3 t b) (broadcastInDim D2 ![0, 1] b' s) := fun g p => by
  pointwise []
  exact h g

section
variable {x x' : FVec Ideal Dk .f32} {y y' : FVec Ideal Dr .f32} (h : Chan x y) (h' : Chan x' y')

include h h' in
theorem Chan.mul : Chan (mulf x x') (mulf y y') := fun g j p => by
  show x _ * x' _ = y _ * y' _
  rw [h, h']
include h h' in
theorem Chan.add : Chan (addf x x') (addf y y') := fun g j p => by
  show x _ + x' _ = y _ + y' _
  rw [h, h']
include h h' in
theorem Chan.sub : Chan (subf x x') (subf y y') := fun g j p => by
  show x _ - x' _ = y _ - y' _
  rw [h, h']
include h in
theorem Chan.neg : Chan (subf (broadcast Dk (Scalar.ofBits .f32 0x00000000#32)) x) (Host.negf y) := fun g j p => by
  pointwise []
  rw [h, sub_eq_add_neg, zero_add]
include h in
theorem Chan.same (b : Dk.ShapeCasts Dk) : Chan (shapeCast Dk x b) y := fun g j p => by
  pointwise []
  exact h g j p
include h in
/-- The sum over the channels. -/
theorem Chan.sum (b : Dk.Reduces [1] D2) (b1 : D2.ShapeCasts D3) (b2 : Dr.ReducesTo [2] D2) (b3 : D2.ShapeCasts D21) (b4 : D21.ReducesTo [2] D2)
    (u u' : 0 < (⟨0, ![]⟩ : Shape).numel) :
    Lam (shapeCast D3 (multiReduction .add [1] D2 x 0x00000000#32 b (.inl rfl) rfl) b1)
      (Host.reduceAdd (shapeCast D21 (Host.reduceAdd y (constant (F := Ideal) ⟨0, ![]⟩ .f32 0x00000000#32) b2 u) b3) (constant (F := Ideal) ⟨0, ![]⟩ .f32 0x00000000#32) b4 u') := fun g p => by
  pointwise []
  refine (Finset.sum_congr rfl fun _ _ => h _ _ _).trans ?_
  exact ((Finset.sum_const _).trans (one_nsmul _)).symm

end

/-- An array without channels, spread over them. -/
theorem Lam.chan {x : FVec Ideal D3 .f32} {y : FVec Ideal D2 .f32} (h : Lam x y) (b : D3.Broadcasts Dk)
    (b1 : D2.BroadcastsInDim D21 ![0, 1]) (b2 : D21.BroadcastsInDim Dr ![0, 1, 2]) :
    Chan (broadcastTo Dk x b) (broadcastInDim Dr ![0, 1, 2] b2 (broadcastInDim D21 ![0, 1] b1 y)) := fun g j p => by
  pointwise []
  exact h g p

/-- The sum over the states. -/
theorem Lam.sum {x : FVec Ideal D3 .f32} {y : FVec Ideal D2 .f32} (h : Lam x y) (b : D3.Reduces [2] D11) (b1 : D11.ShapeCasts D111)
    (b2 : D2.ReducesTo [1] D1) (b3 : D1.ShapeCasts D11) (u : 0 < (⟨0, ![]⟩ : Shape).numel) :
    Stp (shapeCast D111 (multiReduction .add [2] D11 x 0x00000000#32 b (.inl rfl) rfl) b1)
      (shapeCast D11 (Host.reduceAdd y (constant (F := Ideal) ⟨0, ![]⟩ .f32 0x00000000#32) b2 u) b3) := fun g => by
  pointwise []
  exact Finset.sum_congr rfl fun _ _ => h _ _

theorem Stp.add {t t' : FVec Ideal D111 .f32} {s s' : FVec Ideal D11 .f32} (h : Stp t s) (h' : Stp t' s') : Stp (addf t t') (addf s s') := fun g => by
  show t _ + t' _ = s _ + s' _
  rw [h, h']

/-- The arguments, without the middle axis or with the channels last. -/
theorem Lam.arg (x : FVec Ideal D3 .f32) (b : D3.ShapeCasts D2) : Lam x (shapeCast D2 x b) := fun g p => by
  pointwise []
theorem Chan.arg (x : FVec Ideal Dk .f32) (b : Dk.Transposes [0, 2, 1] Dr) : Chan x (transpose Dr [0, 2, 1] x b) := fun g j p => by
  pointwise []
/-- The step. -/
theorem Stp.exp (x : FVec Ideal D111 .f32) (b : D111.ShapeCasts D1) (b1 : D1.BroadcastsInDim D11 ![0]) :
    Stp (exp x) (broadcastInDim D11 ![0] b1 (Host.exp (shapeCast D1 x b))) := fun g => by
  pointwise []

/-- The results, with the middle axis again or with the channels first again. -/
theorem Lam.res {x : FVec Ideal D3 .f32} {y : FVec Ideal D2 .f32} (h : Lam x y) (b : D2.BroadcastsInDim D3 ![0, 2]) :
    x = broadcastInDim D3 ![0, 2] b y := by
  funext i
  obtain ⟨g, j, p, rfl⟩ : ∃ (g : Fin 128) (j : Fin 1) (p : Fin 64), i = ix3 g j p := ⟨_, _, _, Kernel2Ideal.Mix.ix3_eta i⟩
  obtain rfl : j = 0 := Subsingleton.elim _ _
  pointwise []
  exact h _ _
theorem Chan.res {x : FVec Ideal Dk .f32} {y : FVec Ideal Dr .f32} (h : Chan x y) (b : Dr.Transposes [0, 2, 1] Dk) :
    x = transpose Dk [0, 2, 1] y b := by
  funext i
  obtain ⟨g, j, p, rfl⟩ : ∃ (g : Fin 128) (j : Fin 16) (p : Fin 64), i = ix3 g j p := ⟨_, _, _, Kernel2Ideal.Mix.ix3_eta i⟩
  pointwise []
  exact h _ _ _
/-- The gradient of the logarithm of the step, whose sum in the mathematics runs over one entry. -/
theorem Stp.res {t : FVec Ideal D111 .f32} {s : FVec Ideal D11 .f32} (h : Stp t s) (x : FVec Ideal D111 .f32) (b : D111.ShapeCasts D1)
    (b1 : D11.ReducesTo [1] D1) (u : 0 < (⟨0, ![]⟩ : Shape).numel) (b2 : D1.BroadcastsInDim D111 ![0]) :
    mulf t (Idealize.ShloMosaic.exp x) = broadcastInDim D111 ![0] b2
      (mulf (Host.reduceAdd s (constant (F := Ideal) ⟨0, ![]⟩ .f32 0x00000000#32) b1 u) (Host.exp (shapeCast D1 x b))) := by
  funext i
  obtain ⟨g, j, p, rfl⟩ : ∃ (g : Fin 128) (j : Fin 1) (p : Fin 1), i = ix3 g j p := ⟨_, _, _, Kernel2Ideal.Mix.ix3_eta i⟩
  obtain rfl : j = 0 := Subsingleton.elim _ _
  obtain rfl : p = 0 := Subsingleton.elim _ _
  pointwise []
  refine congrArg₂ (· * ·) ((h g).trans ?_) rfl
  exact (Fin.sum_univ_one fun _ : Fin 1 => s (ix2 g 0)).symm

end Cert.Mix

/-! ## The forward call -/

namespace Cert.Kernel18Ideal.Mix

open Kernel18Ideal Kernel18Ideal.Gen Cert.Mix Reference18Ideal.Read
open Idealize.ShloMosaic

variable (x0 x1 : FVec Ideal D3 .f32) (x2 : FVec Ideal D111 .f32) (x3 x4 : FVec Ideal Dk .f32)

theorem a0 : Lam x0 (val_main_v0 (F := Ideal) x0) := Lam.arg _ _
theorem a1 : Lam x1 (val_main_v1 (F := Ideal) x1) := Lam.arg _ _
theorem a3 : Chan x3 (val_main_v3 (F := Ideal) x3) := Chan.arg _ _
theorem a4 : Chan x4 (val_main_v4 (F := Ideal) x4) := Chan.arg _ _
theorem p1 : Stp (k0_pay1 (F := Ideal) x2) (val_main_v6 (F := Ideal) x2) := Stp.exp _ _ _
theorem p2 : Lam (k0_pay2 (F := Ideal) x0 x2) (val_main_v9 (F := Ideal) x0 x2) := ((a0 x0).mul ((p1 x2).lam _ _)).exp
theorem p3 : Lam (k0_pay3 (F := Ideal) x0 x1 x2) (val_main_v13 (F := Ideal) x0 x1 x2) :=
  (p2 x0 x2).mul ((a1 x1).mul ((p1 x2).lam _ _)).cos
theorem p4 : Lam (k0_pay4 (F := Ideal) x0 x1 x2) (val_main_v17 (F := Ideal) x0 x1 x2) :=
  (p2 x0 x2).mul ((a1 x1).mul ((p1 x2).lam _ _)).sin
theorem p5 : Lam (k0_pay5 (F := Ideal) x0 x1) (val_main_v20 (F := Ideal) x0 x1) := ((a0 x0).mul (a0 x0)).add ((a1 x1).mul (a1 x1))
theorem p6 : Lam (k0_pay6 (F := Ideal) x0 x1 x2) (val_main_v26 (F := Ideal) x0 x1 x2) :=
  ((((p3 x0 x1 x2).sub (Lam.one _)).mul (a0 x0)).add ((p4 x0 x1 x2).mul (a1 x1))).div (p5 x0 x1)
theorem p7 : Lam (k0_pay7 (F := Ideal) x0 x1 x2) (val_main_v32 (F := Ideal) x0 x1 x2) :=
  (((p4 x0 x1 x2).mul (a0 x0)).sub (((p3 x0 x1 x2).sub (Lam.one _)).mul (a1 x1))).div (p5 x0 x1)
theorem p8 : Chan (k0_pay8 (F := Ideal) x0 x1 x2 x3 x4) (val_main_v39 (F := Ideal) x0 x1 x2 x3 x4) :=
  (((p6 x0 x1 x2).chan _ _ _).mul (a3 x3)).sub (((p7 x0 x1 x2).chan _ _ _).mul (a4 x4))
theorem p9 : Chan (k0_pay9 (F := Ideal) x0 x1 x2 x3 x4) (val_main_v46 (F := Ideal) x0 x1 x2 x3 x4) :=
  (((p6 x0 x1 x2).chan _ _ _).mul (a4 x4)).add (((p7 x0 x1 x2).chan _ _ _).mul (a3 x3))

end Cert.Kernel18Ideal.Mix

namespace Cert.Mix

open Idealize.ShloMosaic

theorem equation18 : algebraic_Kernel18Ideal_Reference18Ideal (hKernel18Ideal := Kernel18Ideal.Gen.facts)
    (hReference18Ideal := Reference18Ideal.Gen.facts) := by
  intro m g m' g' _ he
  refine ⟨fun c => (Kernel18Ideal.Gen.dats (F := Ideal) m 0 c).arrAt 5 Kernel18Ideal.cfg0.N, fun c => (Kernel18Ideal.Gen.dats (F := Ideal) m 0 c).arrAt 6 Kernel18Ideal.cfg0.N,
    fun c => (Kernel18Ideal.Gen.dats (F := Ideal) m 0 c).arrAt 7 Kernel18Ideal.cfg0.N, fun c => (Kernel18Ideal.Gen.dats (F := Ideal) m 0 c).arrAt 8 Kernel18Ideal.cfg0.N,
    Kernel18Ideal.Value.run_blocks m g, ?_⟩
  refine (θ_run _ _ _).mono (fun r h c => ?_) (Reference18Ideal.Value.run m' g')
  obtain ⟨e0, e1, e2, e3, e4⟩ := he c
  obtain ⟨h0, h1, h2, h3, h4⟩ := h c
  refine ⟨h0.trans ?_, h1.trans ?_, h2.trans ?_, h3.trans ?_, h4⟩
  all_goals clear h h0 h1 h2 h3 h4
  · rw [Reference18Ideal.Read.val_main_v47_eq, e0, e1, e2]
    exact ((Kernel18Ideal.Value.final5 m c).trans ((Kernel18Ideal.Mix.p3 _ _ _).res _)).symm
  · rw [Reference18Ideal.Read.val_main_v48_eq, e0, e1, e2]
    exact ((Kernel18Ideal.Value.final6 m c).trans ((Kernel18Ideal.Mix.p4 _ _ _).res _)).symm
  · rw [Reference18Ideal.Read.val_main_v49_eq, e0, e1, e2, e3, e4]
    exact ((Kernel18Ideal.Value.final7 m c).trans ((Kernel18Ideal.Mix.p8 _ _ _ _ _).res _)).symm
  · rw [Reference18Ideal.Read.val_main_v50_eq, e0, e1, e2, e3, e4]
    exact ((Kernel18Ideal.Value.final8 m c).trans ((Kernel18Ideal.Mix.p9 _ _ _ _ _).res _)).symm

end Cert.Mix

/-! ## The backward call -/

namespace Cert.Kernel19Ideal.Mix

open Kernel19Ideal Kernel19Ideal.Gen Cert.Mix Reference19Ideal.Read
open Idealize.ShloMosaic

section
variable (x0 x1 : FVec Ideal D3 .f32) (x2 : FVec Ideal D111 .f32) (x3 x4 x7 x8 : FVec Ideal Dk .f32)

theorem a0 : Lam x0 (val_main_v0 (F := Ideal) x0) := Lam.arg _ _
theorem a1 : Lam x1 (val_main_v1 (F := Ideal) x1) := Lam.arg _ _
theorem a3 : Chan x3 (val_main_v3 (F := Ideal) x3) := Chan.arg _ _
theorem a4 : Chan x4 (val_main_v4 (F := Ideal) x4) := Chan.arg _ _
theorem p3 : Stp (k0_pay3 (F := Ideal) x2) (val_main_v6 (F := Ideal) x2) := Stp.exp _ _ _
theorem p4 : Lam (k0_pay4 (F := Ideal) x0 x2) (val_main_v9 (F := Ideal) x0 x2) := ((a0 x0).mul ((p3 x2).lam _ _)).exp
theorem p5 : Lam (k0_pay5 (F := Ideal) x1 x2) (val_main_v11 (F := Ideal) x1 x2) := (a1 x1).mul ((p3 x2).lam _ _)
theorem p6 : Lam (k0_pay6 (F := Ideal) x1 x2) (val_main_v12 (F := Ideal) x1 x2) := (p5 x1 x2).cos
theorem p7 : Lam (k0_pay7 (F := Ideal) x1 x2) (val_main_v13 (F := Ideal) x1 x2) := (p5 x1 x2).sin
theorem p8 : Lam (k0_pay8 (F := Ideal) x0 x1 x2) (val_main_v14 (F := Ideal) x0 x1 x2) := (p4 x0 x2).mul (p6 x1 x2)
theorem p9 : Lam (k0_pay9 (F := Ideal) x1 x2) (val_main_v16 (F := Ideal) x1 x2) := (a1 x1).mul ((p3 x2).lam _ _)
theorem p10 : Lam (k0_pay10 (F := Ideal) x1 x2) (val_main_v17 (F := Ideal) x1 x2) := (p9 x1 x2).sin
theorem p11 : Lam (k0_pay11 (F := Ideal) x1 x2) (val_main_v18 (F := Ideal) x1 x2) := (p9 x1 x2).cos
theorem p12 : Lam (k0_pay12 (F := Ideal) x0 x1 x2) (val_main_v19 (F := Ideal) x0 x1 x2) := (p4 x0 x2).mul (p10 x1 x2)
theorem p13 : Lam (k0_pay13 (F := Ideal) x0 x1) (val_main_v22 (F := Ideal) x0 x1) := ((a0 x0).mul (a0 x0)).add ((a1 x1).mul (a1 x1))
theorem p14 : Lam (k0_pay14 (F := Ideal) x0 x1 x2) (val_main_v24 (F := Ideal) x0 x1 x2) := (p8 x0 x1 x2).sub (Lam.one _)
theorem p15 : Lam (k0_pay15 (F := Ideal) x0 x1 x2) (val_main_v27 (F := Ideal) x0 x1 x2) :=
  ((p14 x0 x1 x2).mul (a0 x0)).add ((p12 x0 x1 x2).mul (a1 x1))
theorem p16 : Lam (k0_pay16 (F := Ideal) x0 x1 x2) (val_main_v28 (F := Ideal) x0 x1 x2) := (p15 x0 x1 x2).div (p13 x0 x1)
theorem p17 : Lam (k0_pay17 (F := Ideal) x0 x1) (val_main_v31 (F := Ideal) x0 x1) := (Lam.one _).div ((p13 x0 x1).mul (p13 x0 x1))
theorem p18 : Lam (k0_pay18 (F := Ideal) x0 x1 x2) (val_main_v34 (F := Ideal) x0 x1 x2) := (p8 x0 x1 x2).sub (Lam.one _)
theorem p19 : Lam (k0_pay19 (F := Ideal) x0 x1 x2) (val_main_v36 (F := Ideal) x0 x1 x2) :=
  ((p12 x0 x1 x2).mul (a0 x0)).sub ((p18 x0 x1 x2).mul (a1 x1))
theorem p20 : Lam (k0_pay20 (F := Ideal) x0 x1 x2) (val_main_v37 (F := Ideal) x0 x1 x2) := (p19 x0 x1 x2).div (p13 x0 x1)
theorem p21 : Lam (k0_pay21 (F := Ideal) x0 x1) (val_main_v40 (F := Ideal) x0 x1) := (Lam.one _).div ((p13 x0 x1).mul (p13 x0 x1))

theorem p22 : Chan (k0_pay22 (F := Ideal) x8) (val_main_v58 (F := Ideal) x8) := (Chan.arg _ _).same _
theorem p24 : Chan (k0_pay24 (F := Ideal) x7) (val_main_v57 (F := Ideal) x7) := (Chan.arg _ _).same _
theorem p25 : Chan (k0_pay25 (F := Ideal) x7) (val_main_v71 (F := Ideal) x7) := (Chan.arg x7 _).neg
theorem p26 : Chan (k0_pay26 (F := Ideal) (k0_pay16 x0 x1 x2) (k0_pay20 x0 x1 x2) x7 x8) (val_main_v74 (F := Ideal) x0 x1 x2 x7 x8) :=
  (((p16 x0 x1 x2).chan _ _ _).mul (p22 x8)).add (((p20 x0 x1 x2).chan _ _ _).mul (p25 x7))
theorem p27 : Lam (k0_pay27 (F := Ideal) x3 x4 x7 x8) (val_main_v79 (F := Ideal) x3 x4 x7 x8) :=
  (((p22 x8).mul (a3 x3)).sum _ _ _ _ _ _ _).add (((p25 x7).mul (a4 x4)).sum _ _ _ _ _ _ _)
theorem p28 : Chan (k0_pay28 (F := Ideal) (k0_pay16 x0 x1 x2) (k0_pay20 x0 x1 x2) x7 x8) (val_main_v82 (F := Ideal) x0 x1 x2 x7 x8) :=
  (((p20 x0 x1 x2).chan _ _ _).mul (p22 x8)).add (((p16 x0 x1 x2).chan _ _ _).mul (p24 x7))
theorem p29 : Lam (k0_pay29 (F := Ideal) x3 x4 x7 x8) (val_main_v87 (F := Ideal) x3 x4 x7 x8) :=
  (((p22 x8).mul (a4 x4)).sum _ _ _ _ _ _ _).add (((p24 x7).mul (a3 x3)).sum _ _ _ _ _ _ _)
theorem p30 : Lam (k0_pay30 (F := Ideal) x3 x4 (k0_pay19 x0 x1 x2) (k0_pay21 x0 x1) x7 x8) (val_main_v90 (F := Ideal) x0 x1 x2 x3 x4 x7 x8) :=
  (((p27 x3 x4 x7 x8).mul (p21 x0 x1)).mul (p19 x0 x1 x2)).neg
theorem p31 : Lam (k0_pay31 (F := Ideal) x3 x4 (k0_pay13 x0 x1) x7 x8) (val_main_v91 (F := Ideal) x0 x1 x3 x4 x7 x8) :=
  (p27 x3 x4 x7 x8).div (p13 x0 x1)
theorem p32 : Lam (k0_pay32 (F := Ideal) x3 x4 (k0_pay13 x0 x1) x7 x8) (val_main_v92 (F := Ideal) x0 x1 x3 x4 x7 x8) := (p31 x0 x1 x3 x4 x7 x8).neg
theorem p33 : Lam (k0_pay33 (F := Ideal) x3 x4 (k0_pay13 x0 x1) (k0_pay18 x0 x1 x2) x7 x8) (val_main_v93 (F := Ideal) x0 x1 x2 x3 x4 x7 x8) :=
  (p18 x0 x1 x2).mul (p32 x0 x1 x3 x4 x7 x8)
theorem p34 : Lam (k0_pay34 (F := Ideal) x1 x3 x4 (k0_pay13 x0 x1) x7 x8) (val_main_v94 (F := Ideal) x0 x1 x3 x4 x7 x8) :=
  (p32 x0 x1 x3 x4 x7 x8).mul (a1 x1)

end

section
variable (x0 x1 x5 x6 : FVec Ideal D3 .f32) (x2 : FVec Ideal D111 .f32) (x3 x4 x7 x8 : FVec Ideal Dk .f32)

/-- The gradients of the eigenvalues and of the step, from the values that the call holds by then: `v5` the step, `v8` the modulus,
    `v11`, `v12`, `v16`, `v17` the cosines and sines, `v21` the square of the eigenvalue's modulus, and so on. -/
theorem late {v5 : FVec Ideal D111 .f32} {v8 v11 v12 v16 v17 v18 v21 v23 v26 v30 v72 v76 v77 v80 v81 : FVec Ideal D3 .f32}
    (h5 : Stp v5 (val_main_v6 (F := Ideal) x2)) (h8 : Lam v8 (val_main_v9 (F := Ideal) x0 x2)) (h11 : Lam v11 (val_main_v12 (F := Ideal) x1 x2))
    (h12 : Lam v12 (val_main_v13 (F := Ideal) x1 x2)) (h16 : Lam v16 (val_main_v17 (F := Ideal) x1 x2)) (h17 : Lam v17 (val_main_v18 (F := Ideal) x1 x2))
    (h18 : Lam v18 (val_main_v19 (F := Ideal) x0 x1 x2)) (h21 : Lam v21 (val_main_v22 (F := Ideal) x0 x1)) (h23 : Lam v23 (val_main_v24 (F := Ideal) x0 x1 x2))
    (h26 : Lam v26 (val_main_v27 (F := Ideal) x0 x1 x2)) (h30 : Lam v30 (val_main_v31 (F := Ideal) x0 x1)) (h72 : Lam v72 (val_main_v87 (F := Ideal) x3 x4 x7 x8))
    (h76 : Lam v76 (val_main_v90 (F := Ideal) x0 x1 x2 x3 x4 x7 x8)) (h77 : Lam v77 (val_main_v91 (F := Ideal) x0 x1 x3 x4 x7 x8))
    (h80 : Lam v80 (val_main_v93 (F := Ideal) x0 x1 x2 x3 x4 x7 x8)) (h81 : Lam v81 (val_main_v94 (F := Ideal) x0 x1 x3 x4 x7 x8)) :
    Lam (k0_pay1 (F := Ideal) (k0_pay39 x0 v18 v21 v23 v26 v30 v72 v76 v77) (k0_pay45 x0 x1 v5 v8 v11 v16 v21 x5 x6 v72 v77 v81))
        (val_main_v148 (F := Ideal) x0 x1 x2 x3 x4 x5 x6 x7 x8)
      ∧ Lam (k0_pay42 (F := Ideal) x0 x1 v5 v8 v12 v17 v18 v21 v26 v30 x5 x6 v72 v76 v77 v80 v81) (val_main_v140 (F := Ideal) x0 x1 x2 x3 x4 x5 x6 x7 x8)
      ∧ Stp (k0_pay44 (F := Ideal) x0 x1 v8 v11 v12 v16 v17 v21 x5 x6 v72 v77 v81) (val_main_v145 (F := Ideal) x0 x1 x2 x3 x4 x5 x6 x7 x8) := by
  have b0 := a0 x0
  have b1 := a1 x1
  have b5 : Lam x5 (val_main_v55 (F := Ideal) x5) := Lam.arg _ _
  have b6 : Lam x6 (val_main_v56 (F := Ideal) x6) := Lam.arg _ _
  have q35 : Lam (k0_pay35 (F := Ideal) v26 v30 v72 v76) (val_main_v102 (F := Ideal) x0 x1 x2 x3 x4 x7 x8) := h76.add ((h72.mul h30).mul h26).neg
  have q36 : Lam (k0_pay36 (F := Ideal) v21 v72) (val_main_v103 (F := Ideal) x0 x1 x3 x4 x7 x8) := h72.div h21
  have q37 : Lam (k0_pay37 (F := Ideal) x0 x1 v21 x6 v72 v77) (val_main_v107 (F := Ideal) x0 x1 x3 x4 x6 x7 x8) := (b6.add (h77.mul b0)).add (q36.mul b1)
  have q38 : Lam (k0_pay38 (F := Ideal) x0 v21 x5 v72 v81) (val_main_v111 (F := Ideal) x0 x1 x3 x4 x5 x7 x8) := (b5.add h81).add (q36.mul b0)
  have q39 : Lam (k0_pay39 (F := Ideal) x0 v18 v21 v23 v26 v30 v72 v76 v77) (val_main_v119 (F := Ideal) x0 x1 x2 x3 x4 x7 x8) :=
    (((h18.mul h77).add (h23.mul q36)).add (b0.mul q35)).add (q35.mul b0)
  have q40 : Lam (k0_pay40 (F := Ideal) x0 x1 v8 v17 v21 x6 v72 v77) (val_main_v122 (F := Ideal) x0 x1 x2 x3 x4 x6 x7 x8) := (h8.mul q37).mul h17
  have q41 : Lam (k0_pay41 (F := Ideal) x0 v8 v12 v21 x5 v72 v81) (val_main_v133 (F := Ideal) x0 x1 x2 x3 x4 x5 x7 x8) := (h8.mul q38).neg.mul h12
  have q43 : Lam (k0_pay43 (F := Ideal) x0 x1 v8 v11 v16 v21 x5 x6 v72 v77 v81) (val_main_v141 (F := Ideal) x0 x1 x2 x3 x4 x5 x6 x7 x8) :=
    ((q37.mul h16).add (q38.mul h11)).mul h8
  have q45 : Lam (k0_pay45 (F := Ideal) x0 x1 v5 v8 v11 v16 v21 x5 x6 v72 v77 v81) (val_main_v147 (F := Ideal) x0 x1 x2 x3 x4 x5 x6 x7 x8) :=
    q43.mul (h5.lam _ _)
  refine ⟨q39.add q45, ?_, ?_⟩
  · exact ((((h80.add (h18.mul q36)).add (b1.mul q35)).add (q35.mul b1)).add (q40.mul (h5.lam _ _))).add (q41.mul (h5.lam _ _))
  · exact (((b1.mul q40).sum _ _ _ _ _).add ((b1.mul q41).sum _ _ _ _ _)).add ((b0.mul q43).sum _ _ _ _ _)

end

/-- What the call leaves in its five result blocks. -/
theorem left (x0 x1 : FVec Ideal D3 .f32) (x2 : FVec Ideal D111 .f32) (x3 x4 : FVec Ideal Dk .f32) (x5 x6 : FVec Ideal D3 .f32) (x7 x8 : FVec Ideal Dk .f32) :
    Lam (out0_9 (F := Ideal) x0 x1 x2 x3 x4 x5 x6 x7 x8) (val_main_v148 (F := Ideal) x0 x1 x2 x3 x4 x5 x6 x7 x8)
      ∧ Lam (out0_10 (F := Ideal) x0 x1 x2 x3 x4 x5 x6 x7 x8) (val_main_v140 (F := Ideal) x0 x1 x2 x3 x4 x5 x6 x7 x8)
      ∧ out0_11 (F := Ideal) x0 x1 x2 x3 x4 x5 x6 x7 x8 = val_main_v153 (F := Ideal) x0 x1 x2 x3 x4 x5 x6 x7 x8
      ∧ Chan (out0_12 (F := Ideal) x0 x1 x2 x3 x4 x5 x6 x7 x8) (val_main_v82 (F := Ideal) x0 x1 x2 x7 x8)
      ∧ Chan (out0_13 (F := Ideal) x0 x1 x2 x3 x4 x5 x6 x7 x8) (val_main_v74 (F := Ideal) x0 x1 x2 x7 x8) := by
  have hz : (![0, 0, 0] : Fin 3 → Nat) = fun _ => 0 := funext fun a => by fin_cases a <;> rfl
  have l0 (x : FVec Ideal D3 .f32) : View.ld (Val := Elt Ideal) (e' := .f32) x r0_0 = x := View.ld_unit_zero (Val := Elt Ideal) (e := .f32) (S := D3) hz _ x
  have l1 (x : FVec Ideal D111 .f32) : View.ld (Val := Elt Ideal) (e' := .f32) x r0_1 = x := View.ld_unit_zero (Val := Elt Ideal) (e := .f32) (S := D111) hz _ x
  have l2 (x : FVec Ideal Dk .f32) : View.ld (Val := Elt Ideal) (e' := .f32) x r0_2 = x := View.ld_unit_zero (Val := Elt Ideal) (e := .f32) (S := Dk) hz _ x
  obtain ⟨h9, h10, h11⟩ := late x0 x1 x5 x6 x2 x3 x4 x7 x8 (p3 x2) (p4 x0 x2) (p6 x1 x2) (p7 x1 x2) (p10 x1 x2) (p11 x1 x2) (p12 x0 x1 x2)
    (p13 x0 x1) (p14 x0 x1 x2) (p15 x0 x1 x2) (p17 x0 x1) (p29 x3 x4 x7 x8) (p30 x0 x1 x2 x3 x4 x7 x8) (p31 x0 x1 x3 x4 x7 x8)
    (p33 x0 x1 x2 x3 x4 x7 x8) (p34 x0 x1 x3 x4 x7 x8)
  refine ⟨?_, ?_, ?_, ?_, ?_⟩
  · unfold_out out0_9
    rw [View.canon_unit_zero hz]
    simp only [l0, l1, l2]
    exact h9
  · unfold_out out0_10
    rw [View.canon_unit_zero hz]
    simp only [l0, l1, l2]
    exact h10
  · unfold_out out0_11
    rw [View.canon_unit_zero hz]
    simp only [l0, l1, l2]
    exact h11.res _ _ _ _ _
  · unfold_out out0_12
    rw [View.canon_unit_zero hz]
    simp only [l0, l1, l2]
    exact p28 x0 x1 x2 x7 x8
  · unfold_out out0_13
    rw [View.canon_unit_zero hz]
    simp only [l0, l1, l2]
    exact p26 x0 x1 x2 x7 x8

section
variable (m : (ℓ : Loc nD τ sig) → Buf (Elt Ideal) ℓ) (c : Dev nD)

/-- The grid has one point, and every block is its whole array. -/
theorem index_zero : ∀ (w : Fin 14) (t : Fin grid0.N) (a : Fin (cfg0.win w).shape.rank), (cfg0.win w).index t a = 0 := by decide +kernel

theorem same (w : Fin cfg0.W) (t : Fin cfg0.N) (j : ((cfg0.win w).xblock (cfg0.grid.coords t)).Idx) (a : Fin (cfg0.win w).shape.rank) :
    (((cfg0.win w).rect t).emb j a : Nat) = j a :=
  Pipeline.Window.rect_emb_val_of_index_zero _ t a (index_zero w t a) j

theorem in0 (t : Fin cfg0.N) : iblk m c 0 t = m ((c.tc : Thread nD τ).loc main_arg0) :=
  funext fun j => congrArg (m ((c.tc : Thread nD τ).loc main_arg0)) (funext fun a => Fin.ext (same 0 t j a))
theorem in1 (t : Fin cfg0.N) : iblk m c 1 t = m ((c.tc : Thread nD τ).loc main_arg1) :=
  funext fun j => congrArg (m ((c.tc : Thread nD τ).loc main_arg1)) (funext fun a => Fin.ext (same 1 t j a))
theorem in2 (t : Fin cfg0.N) : iblk m c 2 t = m ((c.tc : Thread nD τ).loc main_arg2) :=
  funext fun j => congrArg (m ((c.tc : Thread nD τ).loc main_arg2)) (funext fun a => Fin.ext (same 2 t j a))
theorem in3 (t : Fin cfg0.N) : iblk m c 3 t = m ((c.tc : Thread nD τ).loc main_arg3) :=
  funext fun j => congrArg (m ((c.tc : Thread nD τ).loc main_arg3)) (funext fun a => Fin.ext (same 3 t j a))
theorem in4 (t : Fin cfg0.N) : iblk m c 4 t = m ((c.tc : Thread nD τ).loc main_arg4) :=
  funext fun j => congrArg (m ((c.tc : Thread nD τ).loc main_arg4)) (funext fun a => Fin.ext (same 4 t j a))
theorem in5 (t : Fin cfg0.N) : iblk m c 5 t = m ((c.tc : Thread nD τ).loc main_arg5) :=
  funext fun j => congrArg (m ((c.tc : Thread nD τ).loc main_arg5)) (funext fun a => Fin.ext (same 5 t j a))
theorem in6 (t : Fin cfg0.N) : iblk m c 6 t = m ((c.tc : Thread nD τ).loc main_arg6) :=
  funext fun j => congrArg (m ((c.tc : Thread nD τ).loc main_arg6)) (funext fun a => Fin.ext (same 6 t j a))
theorem in7 (t : Fin cfg0.N) : iblk m c 7 t = m ((c.tc : Thread nD τ).loc main_arg7) :=
  funext fun j => congrArg (m ((c.tc : Thread nD τ).loc main_arg7)) (funext fun a => Fin.ext (same 7 t j a))
theorem in8 (t : Fin cfg0.N) : iblk m c 8 t = m ((c.tc : Thread nD τ).loc main_arg8) :=
  funext fun j => congrArg (m ((c.tc : Thread nD τ).loc main_arg8)) (funext fun a => Fin.ext (same 8 t j a))

theorem whole9 (X : FVec Ideal D3 .f32) (h : ∀ t : Fin cfg0.N, (dats m 0 c).flushed 9 t = X) : (dats m 0 c).arrAt 9 cfg0.N = X := by
  have e (t : Fin cfg0.N) (j : (D3).Idx) : ((cfg0.win 9).blk t).view.emb j = j := funext fun a => Fin.ext (same 9 t j a)
  refine (dats m 0 c).arrAt_eq_of_cover 9 X (fun t _ => (h t).trans (funext fun j => congrArg X (e t j).symm)) fun (i : (D3).Idx) =>
    ⟨(⟨0, by decide⟩ : Fin cfg0.N), flush0_9 _, ?_⟩
  have h := ((cfg0.win 9).blk (⟨0, by decide⟩ : Fin cfg0.N)).view.emb_mem_set i
  rwa [e] at h
theorem arr9 : (dats m 0 c).arrAt 9 cfg0.N = out0_9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  whole9 m c _ fun t => (after0_9 m c t).trans (by rw [in0, in1, in2, in3, in4, in5, in6, in7, in8])

theorem whole10 (X : FVec Ideal D3 .f32) (h : ∀ t : Fin cfg0.N, (dats m 0 c).flushed 10 t = X) : (dats m 0 c).arrAt 10 cfg0.N = X := by
  have e (t : Fin cfg0.N) (j : (D3).Idx) : ((cfg0.win 10).blk t).view.emb j = j := funext fun a => Fin.ext (same 10 t j a)
  refine (dats m 0 c).arrAt_eq_of_cover 10 X (fun t _ => (h t).trans (funext fun j => congrArg X (e t j).symm)) fun (i : (D3).Idx) =>
    ⟨(⟨0, by decide⟩ : Fin cfg0.N), flush0_10 _, ?_⟩
  have h := ((cfg0.win 10).blk (⟨0, by decide⟩ : Fin cfg0.N)).view.emb_mem_set i
  rwa [e] at h
theorem arr10 : (dats m 0 c).arrAt 10 cfg0.N = out0_10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  whole10 m c _ fun t => (after0_10 m c t).trans (by rw [in0, in1, in2, in3, in4, in5, in6, in7, in8])

theorem whole11 (X : FVec Ideal D111 .f32) (h : ∀ t : Fin cfg0.N, (dats m 0 c).flushed 11 t = X) : (dats m 0 c).arrAt 11 cfg0.N = X := by
  have e (t : Fin cfg0.N) (j : (D111).Idx) : ((cfg0.win 11).blk t).view.emb j = j := funext fun a => Fin.ext (same 11 t j a)
  refine (dats m 0 c).arrAt_eq_of_cover 11 X (fun t _ => (h t).trans (funext fun j => congrArg X (e t j).symm)) fun (i : (D111).Idx) =>
    ⟨(⟨0, by decide⟩ : Fin cfg0.N), flush0_11 _, ?_⟩
  have h := ((cfg0.win 11).blk (⟨0, by decide⟩ : Fin cfg0.N)).view.emb_mem_set i
  rwa [e] at h
theorem arr11 : (dats m 0 c).arrAt 11 cfg0.N = out0_11 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  whole11 m c _ fun t => (after0_11 m c t).trans (by rw [in0, in1, in2, in3, in4, in5, in6, in7, in8])

theorem whole12 (X : FVec Ideal Dk .f32) (h : ∀ t : Fin cfg0.N, (dats m 0 c).flushed 12 t = X) : (dats m 0 c).arrAt 12 cfg0.N = X := by
  have e (t : Fin cfg0.N) (j : (Dk).Idx) : ((cfg0.win 12).blk t).view.emb j = j := funext fun a => Fin.ext (same 12 t j a)
  refine (dats m 0 c).arrAt_eq_of_cover 12 X (fun t _ => (h t).trans (funext fun j => congrArg X (e t j).symm)) fun (i : (Dk).Idx) =>
    ⟨(⟨0, by decide⟩ : Fin cfg0.N), flush0_12 _, ?_⟩
  have h := ((cfg0.win 12).blk (⟨0, by decide⟩ : Fin cfg0.N)).view.emb_mem_set i
  rwa [e] at h
theorem arr12 : (dats m 0 c).arrAt 12 cfg0.N = out0_12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  whole12 m c _ fun t => (after0_12 m c t).trans (by rw [in0, in1, in2, in3, in4, in5, in6, in7, in8])

theorem whole13 (X : FVec Ideal Dk .f32) (h : ∀ t : Fin cfg0.N, (dats m 0 c).flushed 13 t = X) : (dats m 0 c).arrAt 13 cfg0.N = X := by
  have e (t : Fin cfg0.N) (j : (Dk).Idx) : ((cfg0.win 13).blk t).view.emb j = j := funext fun a => Fin.ext (same 13 t j a)
  refine (dats m 0 c).arrAt_eq_of_cover 13 X (fun t _ => (h t).trans (funext fun j => congrArg X (e t j).symm)) fun (i : (Dk).Idx) =>
    ⟨(⟨0, by decide⟩ : Fin cfg0.N), flush0_13 _, ?_⟩
  have h := ((cfg0.win 13).blk (⟨0, by decide⟩ : Fin cfg0.N)).view.emb_mem_set i
  rwa [e] at h
theorem arr13 : (dats m 0 c).arrAt 13 cfg0.N = out0_13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  whole13 m c _ fun t => (after0_13 m c t).trans (by rw [in0, in1, in2, in3, in4, in5, in6, in7, in8])

end

end Cert.Kernel19Ideal.Mix

namespace Cert.Mix

open Idealize.ShloMosaic

theorem equation19 : algebraic_Kernel19Ideal_Reference19Ideal (hKernel19Ideal := Kernel19Ideal.Gen.facts)
    (hReference19Ideal := Reference19Ideal.Gen.facts) := by
  intro m g m' g' _ he
  refine ⟨fun c => (Kernel19Ideal.Gen.dats (F := Ideal) m 0 c).arrAt 9 Kernel19Ideal.cfg0.N, fun c => (Kernel19Ideal.Gen.dats (F := Ideal) m 0 c).arrAt 10 Kernel19Ideal.cfg0.N,
    fun c => (Kernel19Ideal.Gen.dats (F := Ideal) m 0 c).arrAt 11 Kernel19Ideal.cfg0.N, fun c => (Kernel19Ideal.Gen.dats (F := Ideal) m 0 c).arrAt 12 Kernel19Ideal.cfg0.N,
    fun c => (Kernel19Ideal.Gen.dats (F := Ideal) m 0 c).arrAt 13 Kernel19Ideal.cfg0.N, ?_, ?_⟩
  · exact (θ_run _ _ _).mono (fun r h c => ⟨(h.1 c).1 9, (h.1 c).1 10, (h.1 c).1 11, (h.1 c).1 12, (h.1 c).1 13, h.2 c⟩)
      (θ_run_and (Kernel19Ideal.Gen.run_main m g) (Kernel19Ideal.Gen.unchanged m g))
  refine (θ_run _ _ _).mono (fun r h c => ?_) (Reference19Ideal.Value.run m' g')
  obtain ⟨e0, e1, e2, e3, e4, e5, e6, e7, e8⟩ := he c
  obtain ⟨h9, h10, h11, h12, h13, hk⟩ := h c
  refine ⟨h9.trans ?_, h10.trans ?_, h11.trans ?_, h12.trans ?_, h13.trans ?_, hk⟩
  all_goals clear h h9 h10 h11 h12 h13 hk
  · rw [Reference19Ideal.Read.val_main_v151_eq, e0, e1, e2, e3, e4, e5, e6, e7, e8]
    exact ((Kernel19Ideal.Mix.arr9 m c).trans ((Kernel19Ideal.Mix.left _ _ _ _ _ _ _ _ _).1.res _)).symm
  · rw [Reference19Ideal.Read.val_main_v152_eq, e0, e1, e2, e3, e4, e5, e6, e7, e8]
    exact ((Kernel19Ideal.Mix.arr10 m c).trans ((Kernel19Ideal.Mix.left _ _ _ _ _ _ _ _ _).2.1.res _)).symm
  · rw [Reference19Ideal.Read.val_main_v153_eq, e0, e1, e2, e3, e4, e5, e6, e7, e8]
    exact ((Kernel19Ideal.Mix.arr11 m c).trans (Kernel19Ideal.Mix.left _ _ _ _ _ _ _ _ _).2.2.1).symm
  · rw [Reference19Ideal.Read.val_main_v154_eq, e0, e1, e2, e7, e8]
    exact ((Kernel19Ideal.Mix.arr12 m c).trans ((Kernel19Ideal.Mix.left _ _ _ _ _ _ _ _ _).2.2.2.1.res _)).symm
  · rw [Reference19Ideal.Read.val_main_v155_eq, e0, e1, e2, e7, e8]
    exact ((Kernel19Ideal.Mix.arr13 m c).trans ((Kernel19Ideal.Mix.left _ _ _ _ _ _ _ _ _).2.2.2.2.res _)).symm

end Cert.Mix
-- ==== Proof.AdamStep.lean ====
module

public import proofs.«01_k».proof.Proof.MixRegions
public import Idealize.ShloMosaic.Lib.StableHlo.Predicate

/-! # The step of a large weight, at an entry

The parts of a gradient are added and the weight's step is read off at each entry. The chip's own part is the one of
four that the number in the table points at. -/

@[expose] public section

set_option maxRecDepth 16384

noncomputable section

namespace Cert.Adam

open Idealize.ShloMosaic Cert.Mix
open Kernel2Ideal.Mix (arr2 is2_block is3_block eq_block)

/-- One of the four numbers of a chip. -/
abbrev Four (w : BitVec 32) : Prop := w = 0#32 ∨ w = 1#32 ∨ w = 2#32 ∨ w = 3#32
/-- The own part and the three others. -/
def gS (k : ℕ) (h o : ℕ → Mat) : Mat := fun r j => h k r j + o 0 r j + o 1 r j + o 2 r j
/-- The new first moment. -/
def mS (g m : Mat) : Mat := fun r j =>
  FloatOps.addf (F := Ideal) (φ := .f32) (FloatOps.mulf (F := Ideal) (φ := .f32) (FloatOps.ofBits .f32 0x3F666666#32) (m r j)) (FloatOps.mulf (F := Ideal) (φ := .f32) (FloatOps.ofBits .f32 0x3DCCCCCD#32) (g r j))
/-- The new second moment. -/
def vS (g v : Mat) : Mat := fun r j =>
  FloatOps.addf (F := Ideal) (φ := .f32) (FloatOps.mulf (F := Ideal) (φ := .f32) (FloatOps.ofBits .f32 0x3F7FBE77#32) (v r j))
    (FloatOps.mulf (F := Ideal) (φ := .f32) (FloatOps.ofBits .f32 0x3A83126F#32) (FloatOps.mulf (F := Ideal) (φ := .f32) (g r j) (g r j)))
/-- The change of the weight. -/
def dS (w g m v : Mat) : Mat := fun r j =>
  FloatOps.mulf (F := Ideal) (φ := .f32) (FloatOps.ofBits .f32 0xBA83126F#32)
    (FloatOps.addf (F := Ideal) (φ := .f32)
      (FloatOps.divf (F := Ideal) (φ := .f32) (FloatOps.divf (F := Ideal) (φ := .f32) (mS g m r j) (FloatOps.ofBits .f32 0x3F26BD02#32))
        (FloatOps.addf (F := Ideal) (φ := .f32) (FloatOps.sqrt (F := Ideal) (φ := .f32) (FloatOps.divf (F := Ideal) (φ := .f32) (vS g v r j) (FloatOps.ofBits .f32 0x3C231ACC#32)))
          (FloatOps.ofBits .f32 0x322BCC77#32)))
      (FloatOps.mulf (F := Ideal) (φ := .f32) (FloatOps.ofBits .f32 0x3C23D70A#32) (w r j)))

theorem gS_rows (k b : ℕ) (h o : ℕ → Mat) : gS 0 (fun p r j => h (k + p) (b + r) j) (fun p r j => o p (b + r) j) = fun r j => gS k h o (b + r) j := rfl
theorem mS_rows (b : ℕ) (g m : Mat) : mS (fun r j => g (b + r) j) (fun r j => m (b + r) j) = fun r j => mS g m (b + r) j := rfl
theorem vS_rows (b : ℕ) (g v : Mat) : vS (fun r j => g (b + r) j) (fun r j => v (b + r) j) = fun r j => vS g v (b + r) j := rfl
theorem dS_rows (b : ℕ) (w g m v : Mat) : dS (fun r j => w (b + r) j) (fun r j => g (b + r) j) (fun r j => m (b + r) j) (fun r j => v (b + r) j) = fun r j => dS w g m v (b + r) j := rfl

/-- A word that is read between 0 and 3 is one of four. -/
theorem four_words {w : BitVec 32} (h0 : 0 ≤ w.toInt) (h4 : w.toInt < 4) : Four w := by
  have e : w = BitVec.ofInt 32 w.toInt := BitVec.ofInt_toInt.symm
  rcases (by omega : w.toInt = 0 ∨ w.toInt = 1 ∨ w.toInt = 2 ∨ w.toInt = 3) with h | h | h | h <;> rw [h] at e
  · exact .inl e
  · exact .inr (.inl e)
  · exact .inr (.inr (.inl e))
  · exact .inr (.inr (.inr e))

/-- An array of one word has one index. -/
theorem one_index (x : (⟨1, ![1]⟩ : Shape).Idx) : x = ix1 (n0 := 1) 0 := by
  funext a
  match a with
  | ⟨0, _⟩ => exact Subsingleton.elim (α := Fin 1) _ _

/-- The printed comparisons, as one of four words. -/
theorem four_of_bits {w : BitVec 32} (h : IntOp.andi (IntOp.cmpi .sge w 0#32) (IntOp.cmpi .slt w 4#32) = 1#1) : Four w := by
  have h0 : IntOp.cmpi .sge w 0#32 = 1#1 := by
    rcases BitVec.eq_zero_or_eq_one (IntOp.cmpi .sge w 0#32) with e | e
    · rw [e] at h
      exact absurd h (by rcases BitVec.eq_zero_or_eq_one (IntOp.cmpi .slt w 4#32) with e' | e' <;> rw [e'] <;> decide)
    · exact e
  have h4 : IntOp.cmpi .slt w 4#32 = 1#1 := by
    rw [h0] at h
    rcases BitVec.eq_zero_or_eq_one (IntOp.cmpi .slt w 4#32) with e | e
    · rw [e] at h
      exact absurd h (by decide)
    · exact e
  simp only [IntOp.cmpi, BitVec.sle, BitVec.slt, StableHlo.Predicate.ofBool_eq_one_iff, decide_eq_true_eq] at h0 h4
  exact four_words h0 h4

/-- Of four numbers masked but one, the sum is that one. -/
theorem pick {w : BitVec 32} (h : Four w) (f : ℕ → EReal) :
    ∑ x : Fin 4, Scalar.select (IntOp.cmpi .eq (BitVec.ofNat 32 x.val) w) (f x.val) (0 : EReal) = f w.toNat := by
  rw [Fin.sum_univ_four]
  rcases h with rfl | rfl | rfl | rfl
  · show f 0 + 0 + 0 + 0 = f 0
    rw [add_zero, add_zero, add_zero]
  · show 0 + f 1 + 0 + 0 = f 1
    rw [zero_add, add_zero, add_zero]
  · show 0 + 0 + f 2 + 0 = f 2
    rw [add_zero, zero_add, zero_add]
  · show 0 + 0 + 0 + f 3 = f 3
    rw [add_zero, add_zero, zero_add]

/-! ## Blocks of 64 rows -/

/-- The block of 64 rows and all columns is placed at its own rows. -/
def Rows (R K t : ℕ) (e : (⟨2, ![64, K]⟩ : Shape).Idx → (⟨2, ![R, K]⟩ : Shape).Idx) : Prop :=
  ∀ (r : Fin 64) (k : Fin K), (e (ix2 r k) 0).val = 64 * t + r.val ∧ (e (ix2 r k) 1).val = k.val
/-- The same in a stack, from one of its arrays on. -/
def Rows3 (P n R K p t : ℕ) (e : (⟨3, ![n, 64, K]⟩ : Shape).Idx → (⟨3, ![P, R, K]⟩ : Shape).Idx) : Prop :=
  ∀ (q : Fin n) (r : Fin 64) (k : Fin K), (e (ix3 q r k) 0).val = p + q.val ∧ (e (ix3 q r k) 1).val = 64 * t + r.val ∧ (e (ix3 q r k) 2).val = k.val

theorem Rows.of {R K t : ℕ} {e : (⟨2, ![64, K]⟩ : Shape).Idx → (⟨2, ![R, K]⟩ : Shape).Idx} {i0 i1 : ℕ} (hi : i0 = t ∧ i1 = 0)
    (h0 : ∀ x, (e x 0).val = i0 * 64 + (x 0).val) (h1 : ∀ x, (e x 1).val = i1 * K + (x 1).val) : Rows R K t e := fun r k => by
  obtain ⟨rfl, rfl⟩ := hi
  rw [h0, h1, Nat.mul_comm 64, Nat.zero_mul, Nat.zero_add]
  exact ⟨rfl, rfl⟩
theorem Rows3.of {P n R K p t : ℕ} {e : (⟨3, ![n, 64, K]⟩ : Shape).Idx → (⟨3, ![P, R, K]⟩ : Shape).Idx} {j i0 i1 : ℕ} (hi : i0 = t ∧ i1 = 0) (hj : j * n = p)
    (h0 : ∀ x, (e x 0).val = j * n + (x 0).val) (h1 : ∀ x, (e x 1).val = i0 * 64 + (x 1).val) (h2 : ∀ x, (e x 2).val = i1 * K + (x 2).val) :
    Rows3 P n R K p t e := fun q r k => by
  obtain ⟨rfl, rfl⟩ := hi
  rw [h0, h1, h2, hj, Nat.mul_comm 64, Nat.zero_mul, Nat.zero_add]
  exact ⟨rfl, rfl, rfl⟩

theorem Rows.read {R K t : ℕ} {e : (⟨2, ![64, K]⟩ : Shape).Idx → (⟨2, ![R, K]⟩ : Shape).Idx} (he : Rows R K t e) {A : (⟨2, ![R, K]⟩ : Shape).Idx → EReal} {f : Mat} (hA : Is2 A f) :
    Is2 (fun j => A (e j)) (fun r k => f (64 * t + r) k) :=
  is2_block hA e fun r k => by rw [(he r k).1, (he r k).2]
theorem Rows3.read {P n R K p t : ℕ} {e : (⟨3, ![n, 64, K]⟩ : Shape).Idx → (⟨3, ![P, R, K]⟩ : Shape).Idx} (he : Rows3 P n R K p t e)
    {A : (⟨3, ![P, R, K]⟩ : Shape).Idx → EReal} {f : ℕ → Mat} (hA : Is3 A f) : Is3 (fun j => A (e j)) (fun q r k => f (p + q) (64 * t + r) k) :=
  is3_block hA e fun q r k => by rw [(he q r k).1, (he q r k).2.1, (he q r k).2.2]

/-- An array of which each block of 64 rows is written from one point's tile. -/
theorem rows_written {R K N : ℕ} (hN : 64 * N = R) {e : Fin N → (⟨2, ![64, K]⟩ : Shape).Idx → (⟨2, ![R, K]⟩ : Shape).Idx} (he : ∀ t, Rows R K t.val (e t))
    {B : Fin N → (⟨2, ![64, K]⟩ : Shape).Idx → EReal} {f : Mat} (hB : ∀ t, Is2 (B t) (fun r k => f (64 * t.val + r) k)) {A : (⟨2, ![R, K]⟩ : Shape).Idx → EReal}
    (hA : ∀ G : (⟨2, ![R, K]⟩ : Shape).Idx → EReal, (∀ t, B t = fun j => G (e t j)) → (∀ i, ∃ t y, e t y = i) → A = G) : Is2 A f := by
  rw [hA (arr2 R K f) (fun t => eq_block (hB t) (e t) fun r k => by rw [(he t r k).1, (he t r k).2]) fun i => ?_]
  · exact fun _ _ => rfl
  · have h0 : (i 0).val < R := (i 0).isLt
    have hp : (i 0).val / 64 < N := by omega
    refine ⟨⟨(i 0).val / 64, hp⟩, ix2 ⟨(i 0).val % 64, Nat.mod_lt _ (by decide)⟩ (i 1), funext fun a => ?_⟩
    match a with
    | ⟨0, _⟩ => exact Fin.ext (((he _ _ _).1).trans (Nat.div_add_mod (i 0).val 64))
    | ⟨1, _⟩ => exact Fin.ext ((he _ _ _).2)

end Cert.Adam

end
-- ==== Proof.AdamQkv.lean ====
module

public import proofs.«01_k».proof.Proof.Gen.Kernel20.Frame
public import proofs.«01_k».proof.Proof.Gen.Kernel20Ideal.Frame
public import proofs.«01_k».proof.Proof.Gen.Reference20Ideal.Read
public import proofs.«01_k».proof.Proof.Gen.Pre_one_of_four20
public import proofs.«01_k».proof.Proof.MixEquation
public import proofs.«01_k».proof.Proof.AdamStep
public import Idealize.ShloMosaic.Lib.Pipeline.ReadBack

/-! # The step of the joint weight of attention's queries, keys and values

The weight is taken 64 rows at a time; each entry of the four results is the step's there. -/

@[expose] public section

set_option maxRecDepth 16384

noncomputable section

namespace Cert.Kernel20.Adam

open Kernel20 Kernel20.Gen
open Idealize.ShloMosaic TcCoe

set_option backward.proofsInPublic true in
/-- The table that holds one word. -/
def word (w : BitVec 32) : pre0.Contents (Elt Bits) := fun | ⟨0, _⟩ => fun _ => w | ⟨_ + 1, h⟩ => absurd h (by simp)

theorem ok_word {w : BitVec 32} (h : Cert.Adam.Four w) : ok0 (F := Bits) (word w) := by
  rcases h with rfl | rfl | rfl | rfl <;> decide

theorem tbl_word (m : (l : Loc nD τ sig) → Buf (Elt Bits) l) : tbl m = word (m (((0 : Dev nD).tc : Thread nD τ).loc main_arg5) (ix1 (n0 := 1) 0)) := by
  funext j x
  match j with
  | ⟨0, _⟩ =>
    show m (((0 : Dev nD).tc : Thread nD τ).loc main_arg5) x = m _ _
    rw [Cert.Adam.one_index x]

theorem ok_of_pre (m : (l : Loc nD τ sig) → Buf (Elt Bits) l) (h : Pre_Kernel20 m) : Ok (F := Bits) m := by
  unfold Ok
  rw [tbl_word m]
  exact ok_word (Cert.Adam.four_of_bits (congrFun (h 0) (ix1 (n0 := 1) 0)))

end Cert.Kernel20.Adam

namespace Cert.Kernel20Ideal.Adam

open Kernel20Ideal Kernel20Ideal.Gen Cert.Mix Cert.Adam
open Idealize.ShloMosaic TcCoe Idealize.SL.Sem

set_option backward.proofsInPublic true in
/-- The table that holds one word. -/
def word (w : BitVec 32) : pre0.Contents (Elt Ideal) := fun | ⟨0, _⟩ => fun _ => w | ⟨_ + 1, h⟩ => absurd h (by simp)

theorem ok_word {w : BitVec 32} (h : Cert.Adam.Four w) : ok0 (F := Ideal) (word w) := by
  rcases h with rfl | rfl | rfl | rfl <;> decide

variable (m : (l : Loc nD τ sig) → Buf (Elt Ideal) l)

/-- The number in the table. -/
def chip : BitVec 32 := m (((0 : Dev nD).tc : Thread nD τ).loc main_arg5) (ix1 (n0 := 1) 0)

theorem tbl_word : tbl m = word (chip m) := by
  funext j x
  match j with
  | ⟨0, _⟩ =>
    show m (((0 : Dev nD).tc : Thread nD τ).loc main_arg5) x = m _ _
    rw [one_index x]

theorem chip_of_pre (h : Pre_Kernel20Ideal m) : Four (chip m) :=
  four_of_bits (congrFun (h 0) (ix1 (n0 := 1) 0))

theorem ok_of_pre (h : Pre_Kernel20Ideal m) : Ok (F := Ideal) m := by
  unfold Ok
  rw [tbl_word m]
  exact ok_word (chip_of_pre m h)

section Tile

variable (c : Dev nD) (i : grid0.Coords) (a2 : Memref sig .tc .vmem S64x768 .f32) (b2 : a2.IsWhole) (a3 : Memref sig .tc .vmem S1x64x768 .bf16) (b3 : a3.IsWhole) (a4 : Memref sig .tc .vmem S3x64x768 .bf16) (b4 : a4.IsWhole) (a5 : Memref sig .tc .vmem S64x768 .f32) (b5 : a5.IsWhole) (a6 : Memref sig .tc .vmem S64x768 .f32) (b6 : a6.IsWhole)
  (a7 : Memref sig .tc .vmem S64x768 .f32) (b7 : a7.IsWhole) (a8 : Memref sig .tc .vmem S64x768 .f32) (b8 : a8.IsWhole) (a9 : Memref sig .tc .vmem S64x768 .f32) (b9 : a9.IsWhole) (a10 : Memref sig .tc .vmem S64x768 .f32) (b10 : a10.IsWhole)
  {w : Vec Ideal S64x768 .f32} {h : Vec Ideal S1x64x768 .bf16} {o : Vec Ideal S3x64x768 .bf16} {x y : Vec Ideal S64x768 .f32} (xt : TbBuf0 (F := Ideal) c tbM0_0)
  {W X Y : Mat} {H O : ℕ → Mat} (hw : Is2 w W) (hh : Is3 h H) (ho : Is3 o O) (hx : Is2 x X) (hy : Is2 y Y)

include hw hh ho hx hy in
theorem tile : Is2 (out0_A_5 c i a2 b2 a3 b3 a4 b4 a5 b5 a6 b6 a7 b7 a8 b8 a9 b9 a10 b10 w h o x y xt) (gS 0 H O)
    ∧ Is2 (out0_A_6 c i a2 b2 a3 b3 a4 b4 a5 b5 a6 b6 a7 b7 a8 b8 a9 b9 a10 b10 w h o x y xt) (dS W (gS 0 H O) X Y)
    ∧ Is2 (out0_A_7 c i a2 b2 a3 b3 a4 b4 a5 b5 a6 b6 a7 b7 a8 b8 a9 b9 a10 b10 w h o x y xt) (mS (gS 0 H O) X)
    ∧ Is2 (out0_A_8 c i a2 b2 a3 b3 a4 b4 a5 b5 a6 b6 a7 b7 a8 b8 a9 b9 a10 b10 w h o x y xt) (vS (gS 0 H O) Y) := by
  refine ⟨?_, ?_, ?_, ?_⟩ <;> frame_out
  all_goals intro r k
  · pointwise [k0_pay2]
    rw [hh, ho, ho, ho]
    rfl
  · pointwise [k0_pay1, k0_pay2, k0_pay3, k0_pay4, k0_pay5]
    rw [hh, ho, ho, ho, hw, hx, hy]
    rfl
  · pointwise [k0_pay3, k0_pay2]
    rw [hh, ho, ho, ho, hx]
    rfl
  · pointwise [k0_pay4, k0_pay2]
    rw [hh, ho, ho, ho, hy]
    rfl

end Tile

section Arr

variable (hO : Ok m) (c : Dev nD) {W X Y : Mat} {H O : ℕ → Mat}

theorem rows : ∀ t : Fin grid0.N, cc0_transform_0 (grid0.coords t) 0 = t.val ∧ cc0_transform_0 (grid0.coords t) 1 = 0 := by decide +kernel

/-- Where each window's block lies. -/
theorem place (t : Fin (cfgM m hO).N) :
    (Rows 2048 768 t.val (((cfgM m hO).win 0).blk t).view.emb ∧ Rows3 4 1 2048 768 (chip m).toNat t.val (((cfgM m hO).win 1).blk t).view.emb
      ∧ Rows3 3 3 2048 768 0 t.val (((cfgM m hO).win 2).blk t).view.emb ∧ Rows 2048 768 t.val (((cfgM m hO).win 3).blk t).view.emb ∧ Rows 2048 768 t.val (((cfgM m hO).win 4).blk t).view.emb)
    ∧ Rows 2048 768 t.val (((cfgM m hO).win 5).blk t).view.emb ∧ Rows 2048 768 t.val (((cfgM m hO).win 6).blk t).view.emb
      ∧ Rows 2048 768 t.val (((cfgM m hO).win 7).blk t).view.emb ∧ Rows 2048 768 t.val (((cfgM m hO).win 8).blk t).view.emb := by
  have e1 : ((cfgM m hO).win 1).index t (0 : Fin 3) * 1 = (chip m).toNat := by
    show cc0_transform_1 _ _ (tbl m) (grid0.coords t) 0 * 1 = _
    rw [tbl_word, Nat.mul_one]
    rfl
  refine ⟨⟨Rows.of (rows t) (fun x => ?_) fun x => ?_, Rows3.of (rows t) e1 (fun x => ?_) (fun x => ?_) fun x => ?_,
    Rows3.of (rows t) (j := cc0_transform_0 (grid0.coords t) 1) (by rw [(rows t).2]) (fun x => ?_) (fun x => ?_) fun x => ?_,
    Rows.of (rows t) (fun x => ?_) fun x => ?_, Rows.of (rows t) (fun x => ?_) fun x => ?_⟩, Rows.of (rows t) (fun x => ?_) fun x => ?_,
    Rows.of (rows t) (fun x => ?_) fun x => ?_, Rows.of (rows t) (fun x => ?_) fun x => ?_, Rows.of (rows t) (fun x => ?_) fun x => ?_⟩
  all_goals
    blk_simp <;> rfl

variable (hw : Is2 (n := 2048) (k := 768) (m ((c.tc : Thread nD τ).loc main_arg0)) W) (hh : Is3 (n := 4) (k := 2048) (l := 768) (m ((c.tc : Thread nD τ).loc main_arg1)) H)
  (ho : Is3 (n := 3) (k := 2048) (l := 768) (m ((c.tc : Thread nD τ).loc main_arg2)) O) (hx : Is2 (n := 2048) (k := 768) (m ((c.tc : Thread nD τ).loc main_arg3)) X)
  (hy : Is2 (n := 2048) (k := 768) (m ((c.tc : Thread nD τ).loc main_arg4)) Y)
include hw hh ho hx hy

theorem tiles (t : Fin (cfgM m hO).N) :
    Is2 (n := 64) (k := 768) (outsAt0 m hO c t).1 (fun r k => gS (chip m).toNat H O (64 * t.val + r) k)
    ∧ Is2 (n := 64) (k := 768) (outsAt0 m hO c t).2.1 (fun r k => dS W (gS (chip m).toNat H O) X Y (64 * t.val + r) k)
    ∧ Is2 (n := 64) (k := 768) (outsAt0 m hO c t).2.2.1 (fun r k => mS (gS (chip m).toNat H O) X (64 * t.val + r) k)
    ∧ Is2 (n := 64) (k := 768) (outsAt0 m hO c t).2.2.2 (fun r k => vS (gS (chip m).toNat H O) Y (64 * t.val + r) k) := by
  obtain ⟨⟨p0, p1, p2, p3, p4⟩, -⟩ := place m hO t
  have h := tile c (grid0.coords t) _ (hs0_0 m hO t) _ (hs0_1 m hO t) _ (hs0_2 m hO t) _ (hs0_3 m hO t) _ (hs0_4 m hO t)
    _ (hs0_5 m hO t) _ (hs0_6 m hO t) _ (hs0_7 m hO t) _ (hs0_8 m hO t) (tbl m 0)
    (p0.read hw) (p1.read hh) (by simpa only [Nat.zero_add] using p2.read ho) (p3.read hx) (p4.read hy)
  rw [gS_rows, dS_rows, mS_rows, vS_rows] at h
  unfold outsAt0
  dsimp only
  exact h

/-- The four results after the run. -/
theorem arrays : Is2 (n := 2048) (k := 768) ((dats m hO 0 c).arrAt 5 (cfgM m hO).N) (gS (chip m).toNat H O)
    ∧ Is2 (n := 2048) (k := 768) ((dats m hO 0 c).arrAt 6 (cfgM m hO).N) (dS W (gS (chip m).toNat H O) X Y)
    ∧ Is2 (n := 2048) (k := 768) ((dats m hO 0 c).arrAt 7 (cfgM m hO).N) (mS (gS (chip m).toNat H O) X)
    ∧ Is2 (n := 2048) (k := 768) ((dats m hO 0 c).arrAt 8 (cfgM m hO).N) (vS (gS (chip m).toNat H O) Y) := by
  have ht := tiles m hO c hw hh ho hx hy
  have hN : 64 * (cfgM m hO).N = 2048 := by rw [show (cfgM m hO).N = 32 from N_0]
  refine ⟨rows_written hN (fun t => (place m hO t).2.1) (fun t => (ht t).1) fun G hG hc => (dats m hO 0 c).arrAt_eq_of_cover 5 G (fun t _ => (after0_5 m hO c t).trans (hG t)) fun i => ?_,
    rows_written hN (fun t => (place m hO t).2.2.1) (fun t => (ht t).2.1) fun G hG hc => (dats m hO 0 c).arrAt_eq_of_cover 6 G (fun t _ => (after0_6 m hO c t).trans (hG t)) fun i => ?_,
    rows_written hN (fun t => (place m hO t).2.2.2.1) (fun t => (ht t).2.2.1) fun G hG hc => (dats m hO 0 c).arrAt_eq_of_cover 7 G (fun t _ => (after0_7 m hO c t).trans (hG t)) fun i => ?_,
    rows_written hN (fun t => (place m hO t).2.2.2.2) (fun t => (ht t).2.2.2) fun G hG hc => (dats m hO 0 c).arrAt_eq_of_cover 8 G (fun t _ => (after0_8 m hO c t).trans (hG t)) fun i => ?_⟩
  all_goals obtain ⟨t, y, rfl⟩ := hc i
  · exact ⟨t, flush0_5 _ _, View.emb_mem_set _ y⟩
  · exact ⟨t, flush0_6 _ _, View.emb_mem_set _ y⟩
  · exact ⟨t, flush0_7 _ _, View.emb_mem_set _ y⟩
  · exact ⟨t, flush0_8 _ _, View.emb_mem_set _ y⟩

end Arr

end Cert.Kernel20Ideal.Adam

namespace Cert.Reference20Ideal.Adam

open Reference20Ideal Reference20Ideal.Gen Reference20Ideal.Read Cert.Mix Cert.Adam
open Idealize.ShloMosaic

section

variable {w x y : FVec Ideal S2048x768 .f32} {h : FVec Ideal S4x2048x768 .bf16} {o : FVec Ideal S3x2048x768 .bf16} {n : IVec S1 32}
  {W X Y : Mat} {H O : ℕ → Mat} (hw : Is2 w W) (hh : Is3 h H) (ho : Is3 o O) (hx : Is2 x X) (hy : Is2 y Y)
  (hn : Four (n (ix1 (n0 := 1) 0)))

include hh ho hn in
theorem r9 : Is2 (val_main_v9 (F := Ideal) h o n) (gS (n (ix1 (n0 := 1) 0)).toNat H O) := fun r k => by
  simp only [val_main_v9, val_main_v8, val_main_v7, val_main_v6, val_main_v5, val_main_v4, val_main_v3, val_main_v2, val_main_v1, val_main_v0, val_main_cst, val_main_cst_0,
    val_main_cst_1, val_main_call0_v1, val_main_call0_v2, val_main_call0_v0]
  pointwise []
  simp only [hh _ _ _, ho _ _ _]
  rw [show (id (constant (F := Ideal) S_ FTy.f32 0#32) ix0 : EReal) = 0 from Ideal.ofBits_zero .f32]
  refine (congrArg (· + _) (pick hn fun p => H p r.val k.val)).trans ?_
  rw [Fin.sum_univ_three, gS, ← add_assoc, ← add_assoc]
  rfl

include hh ho hn hx in
theorem r14 : Is2 (val_main_v14 (F := Ideal) h o x n) (mS (gS (n (ix1 (n0 := 1) 0)).toNat H O) X) := fun r k => by
  simp only [val_main_v14, val_main_v13, val_main_v12, val_main_v11, val_main_v10, val_main_cst_2, val_main_cst_3]
  pointwise []
  rw [r9 hh ho hn, hx]
  rfl

include hh ho hn hy in
theorem r20 : Is2 (val_main_v20 (F := Ideal) h o y n) (vS (gS (n (ix1 (n0 := 1) 0)).toNat H O) Y) := fun r k => by
  simp only [val_main_v20, val_main_v19, val_main_v18, val_main_v17, val_main_v16, val_main_v15, val_main_cst_4, val_main_cst_5]
  pointwise []
  rw [r9 hh ho hn, hy]
  rfl

include hw hh ho hn hx hy in
theorem r33 : Is2 (val_main_v33 (F := Ideal) w h o x y n) (dS W (gS (n (ix1 (n0 := 1) 0)).toNat H O) X Y) := fun r k => by
  simp only [val_main_v33, val_main_v32, val_main_v31, val_main_v30, val_main_v29, val_main_v28, val_main_v27, val_main_v26, val_main_v25, val_main_v24,
    val_main_v23, val_main_v22, val_main_v21, val_main_cst_6, val_main_cst_7, val_main_cst_8, val_main_cst_9, val_main_cst_10]
  pointwise []
  rw [r14 hh ho hx hn, r20 hh ho hy hn, hw]
  rfl

end

end Cert.Reference20Ideal.Adam

namespace Cert.Adam

open Idealize.ShloMosaic TcCoe Idealize.SL.Sem Cert.Mix
open Kernel20Ideal.Gen (dats cfgM)
open Kernel20Ideal (nD τ main_arg0 main_arg1 main_arg2 main_arg3 main_arg4)

theorem equation20 : algebraic_Kernel20Ideal_Reference20Ideal (hKernel20Ideal := Kernel20Ideal.Gen.facts)
    (hReference20Ideal := Reference20Ideal.Gen.facts) (hPre_one_of_four20 := Pre_one_of_four20.Gen.facts) := by
  intro m g m' g' hp he
  have hO := Kernel20Ideal.Adam.ok_of_pre m hp
  have hn := Kernel20Ideal.Adam.chip_of_pre m hp
  refine ⟨fun c => (dats (F := Ideal) m hO 0 c).arrAt 5 (cfgM m hO).N, fun c => (dats (F := Ideal) m hO 0 c).arrAt 6 (cfgM m hO).N,
    fun c => (dats (F := Ideal) m hO 0 c).arrAt 7 (cfgM m hO).N, fun c => (dats (F := Ideal) m hO 0 c).arrAt 8 (cfgM m hO).N, ?_, ?_⟩
  · exact (θ_run _ _ _).mono (fun r h c => ⟨(h.1 c).1 5, (h.1 c).1 6, (h.1 c).1 7, (h.1 c).1 8, h.2 c⟩)
      (θ_run_and (Kernel20Ideal.Gen.run_main m g hO) (Kernel20Ideal.Gen.unchanged m g hO))
  refine (θ_run _ _ _).mono (fun r h c => ?_) (Reference20Ideal.Value.run m' g')
  obtain ⟨e0, e1, e2, e3, e4, e5⟩ := he c
  obtain ⟨h5, h6, h7, h8, hk⟩ := h c
  have hw := is2_mat2 (n := 2048) (k := 768) (m ((c.tc : Thread nD τ).loc main_arg0))
  have hh := is3_mat3 (n := 4) (k := 2048) (l := 768) (m ((c.tc : Thread nD τ).loc main_arg1))
  have ho := is3_mat3 (n := 3) (k := 2048) (l := 768) (m ((c.tc : Thread nD τ).loc main_arg2))
  have hx := is2_mat2 (n := 2048) (k := 768) (m ((c.tc : Thread nD τ).loc main_arg3))
  have hy := is2_mat2 (n := 2048) (k := 768) (m ((c.tc : Thread nD τ).loc main_arg4))
  have hc : c = 0 := Subsingleton.elim (α := Fin 1) c 0
  have e5' : m' ((c.tc : Thread Reference20Ideal.nD Reference20Ideal.τ).loc Reference20Ideal.main_arg5) (ix1 (n0 := 1) 0) = Kernel20Ideal.Adam.chip m := by
    rw [e5, hc]
    rfl
  have hn' := hn
  rw [← e5'] at hn'
  obtain ⟨a5, a6, a7, a8⟩ := Kernel20Ideal.Adam.arrays m hO c hw hh ho hx hy
  have r5 := Reference20Ideal.Adam.r9 hh ho hn'
  have r6 := Reference20Ideal.Adam.r33 hw hh ho hx hy hn'
  have r7 := Reference20Ideal.Adam.r14 hh ho hx hn'
  have r8 := Reference20Ideal.Adam.r20 hh ho hy hn'
  rw [e5'] at r5 r6 r7 r8
  refine ⟨h5.trans ?_, h6.trans ?_, h7.trans ?_, h8.trans ?_, hk⟩
  · rw [Reference20Ideal.Read.val_main_v9_eq, e1, e2]; exact ext2 r5 a5 fun _ _ _ _ => rfl
  · rw [Reference20Ideal.Read.val_main_v33_eq, e0, e1, e2, e3, e4]; exact ext2 r6 a6 fun _ _ _ _ => rfl
  · rw [Reference20Ideal.Read.val_main_v14_eq, e1, e2, e3]; exact ext2 r7 a7 fun _ _ _ _ => rfl
  · rw [Reference20Ideal.Read.val_main_v20_eq, e1, e2, e4]; exact ext2 r8 a8 fun _ _ _ _ => rfl

end Cert.Adam
end
-- ==== Proof.AdamOut.lean ====
module

public import proofs.«01_k».proof.Proof.Gen.Kernel21.Frame
public import proofs.«01_k».proof.Proof.Gen.Kernel21Ideal.Frame
public import proofs.«01_k».proof.Proof.Gen.Reference21Ideal.Read
public import proofs.«01_k».proof.Proof.Gen.Pre_one_of_four21
public import proofs.«01_k».proof.Proof.MixEquation
public import proofs.«01_k».proof.Proof.AdamStep
public import Idealize.ShloMosaic.Lib.Pipeline.ReadBack

/-! # The step of attention's output weight

The weight is taken 64 rows at a time; each entry of the four results is the step's there. -/

@[expose] public section

set_option maxRecDepth 16384

noncomputable section

namespace Cert.Kernel21.Adam

open Kernel21 Kernel21.Gen
open Idealize.ShloMosaic TcCoe

set_option backward.proofsInPublic true in
/-- The table that holds one word. -/
def word (w : BitVec 32) : pre0.Contents (Elt Bits) := fun | ⟨0, _⟩ => fun _ => w | ⟨_ + 1, h⟩ => absurd h (by simp)

theorem ok_word {w : BitVec 32} (h : Cert.Adam.Four w) : ok0 (F := Bits) (word w) := by
  rcases h with rfl | rfl | rfl | rfl <;> decide

theorem tbl_word (m : (l : Loc nD τ sig) → Buf (Elt Bits) l) : tbl m = word (m (((0 : Dev nD).tc : Thread nD τ).loc main_arg5) (ix1 (n0 := 1) 0)) := by
  funext j x
  match j with
  | ⟨0, _⟩ =>
    show m (((0 : Dev nD).tc : Thread nD τ).loc main_arg5) x = m _ _
    rw [Cert.Adam.one_index x]

theorem ok_of_pre (m : (l : Loc nD τ sig) → Buf (Elt Bits) l) (h : Pre_Kernel21 m) : Ok (F := Bits) m := by
  unfold Ok
  rw [tbl_word m]
  exact ok_word (Cert.Adam.four_of_bits (congrFun (h 0) (ix1 (n0 := 1) 0)))

end Cert.Kernel21.Adam

namespace Cert.Kernel21Ideal.Adam

open Kernel21Ideal Kernel21Ideal.Gen Cert.Mix Cert.Adam
open Idealize.ShloMosaic TcCoe Idealize.SL.Sem

set_option backward.proofsInPublic true in
/-- The table that holds one word. -/
def word (w : BitVec 32) : pre0.Contents (Elt Ideal) := fun | ⟨0, _⟩ => fun _ => w | ⟨_ + 1, h⟩ => absurd h (by simp)

theorem ok_word {w : BitVec 32} (h : Cert.Adam.Four w) : ok0 (F := Ideal) (word w) := by
  rcases h with rfl | rfl | rfl | rfl <;> decide

variable (m : (l : Loc nD τ sig) → Buf (Elt Ideal) l)

/-- The number in the table. -/
def chip : BitVec 32 := m (((0 : Dev nD).tc : Thread nD τ).loc main_arg5) (ix1 (n0 := 1) 0)

theorem tbl_word : tbl m = word (chip m) := by
  funext j x
  match j with
  | ⟨0, _⟩ =>
    show m (((0 : Dev nD).tc : Thread nD τ).loc main_arg5) x = m _ _
    rw [one_index x]

theorem chip_of_pre (h : Pre_Kernel21Ideal m) : Four (chip m) :=
  four_of_bits (congrFun (h 0) (ix1 (n0 := 1) 0))

theorem ok_of_pre (h : Pre_Kernel21Ideal m) : Ok (F := Ideal) m := by
  unfold Ok
  rw [tbl_word m]
  exact ok_word (chip_of_pre m h)

section Tile

variable (c : Dev nD) (i : grid0.Coords) (a2 : Memref sig .tc .vmem S64x2048 .f32) (b2 : a2.IsWhole) (a3 : Memref sig .tc .vmem S1x64x2048 .bf16) (b3 : a3.IsWhole) (a4 : Memref sig .tc .vmem S3x64x2048 .bf16) (b4 : a4.IsWhole) (a5 : Memref sig .tc .vmem S64x2048 .f32) (b5 : a5.IsWhole) (a6 : Memref sig .tc .vmem S64x2048 .f32) (b6 : a6.IsWhole)
  (a7 : Memref sig .tc .vmem S64x2048 .f32) (b7 : a7.IsWhole) (a8 : Memref sig .tc .vmem S64x2048 .f32) (b8 : a8.IsWhole) (a9 : Memref sig .tc .vmem S64x2048 .f32) (b9 : a9.IsWhole) (a10 : Memref sig .tc .vmem S64x2048 .f32) (b10 : a10.IsWhole)
  {w : Vec Ideal S64x2048 .f32} {h : Vec Ideal S1x64x2048 .bf16} {o : Vec Ideal S3x64x2048 .bf16} {x y : Vec Ideal S64x2048 .f32} (xt : TbBuf0 (F := Ideal) c tbM0_0)
  {W X Y : Mat} {H O : ℕ → Mat} (hw : Is2 w W) (hh : Is3 h H) (ho : Is3 o O) (hx : Is2 x X) (hy : Is2 y Y)

include hw hh ho hx hy in
theorem tile : Is2 (out0_A_5 c i a2 b2 a3 b3 a4 b4 a5 b5 a6 b6 a7 b7 a8 b8 a9 b9 a10 b10 w h o x y xt) (gS 0 H O)
    ∧ Is2 (out0_A_6 c i a2 b2 a3 b3 a4 b4 a5 b5 a6 b6 a7 b7 a8 b8 a9 b9 a10 b10 w h o x y xt) (dS W (gS 0 H O) X Y)
    ∧ Is2 (out0_A_7 c i a2 b2 a3 b3 a4 b4 a5 b5 a6 b6 a7 b7 a8 b8 a9 b9 a10 b10 w h o x y xt) (mS (gS 0 H O) X)
    ∧ Is2 (out0_A_8 c i a2 b2 a3 b3 a4 b4 a5 b5 a6 b6 a7 b7 a8 b8 a9 b9 a10 b10 w h o x y xt) (vS (gS 0 H O) Y) := by
  refine ⟨?_, ?_, ?_, ?_⟩ <;> frame_out
  all_goals intro r k
  · pointwise [k0_pay2]
    rw [hh, ho, ho, ho]
    rfl
  · pointwise [k0_pay1, k0_pay2, k0_pay3, k0_pay4, k0_pay5]
    rw [hh, ho, ho, ho, hw, hx, hy]
    rfl
  · pointwise [k0_pay3, k0_pay2]
    rw [hh, ho, ho, ho, hx]
    rfl
  · pointwise [k0_pay4, k0_pay2]
    rw [hh, ho, ho, ho, hy]
    rfl

end Tile

section Arr

variable (hO : Ok m) (c : Dev nD) {W X Y : Mat} {H O : ℕ → Mat}

theorem rows : ∀ t : Fin grid0.N, cc0_transform_0 (grid0.coords t) 0 = t.val ∧ cc0_transform_0 (grid0.coords t) 1 = 0 := by decide +kernel

/-- Where each window's block lies. -/
theorem place (t : Fin (cfgM m hO).N) :
    (Rows 256 2048 t.val (((cfgM m hO).win 0).blk t).view.emb ∧ Rows3 4 1 256 2048 (chip m).toNat t.val (((cfgM m hO).win 1).blk t).view.emb
      ∧ Rows3 3 3 256 2048 0 t.val (((cfgM m hO).win 2).blk t).view.emb ∧ Rows 256 2048 t.val (((cfgM m hO).win 3).blk t).view.emb ∧ Rows 256 2048 t.val (((cfgM m hO).win 4).blk t).view.emb)
    ∧ Rows 256 2048 t.val (((cfgM m hO).win 5).blk t).view.emb ∧ Rows 256 2048 t.val (((cfgM m hO).win 6).blk t).view.emb
      ∧ Rows 256 2048 t.val (((cfgM m hO).win 7).blk t).view.emb ∧ Rows 256 2048 t.val (((cfgM m hO).win 8).blk t).view.emb := by
  have e1 : ((cfgM m hO).win 1).index t (0 : Fin 3) * 1 = (chip m).toNat := by
    show cc0_transform_1 _ _ (tbl m) (grid0.coords t) 0 * 1 = _
    rw [tbl_word, Nat.mul_one]
    rfl
  refine ⟨⟨Rows.of (rows t) (fun x => ?_) fun x => ?_, Rows3.of (rows t) e1 (fun x => ?_) (fun x => ?_) fun x => ?_,
    Rows3.of (rows t) (j := cc0_transform_0 (grid0.coords t) 1) (by rw [(rows t).2]) (fun x => ?_) (fun x => ?_) fun x => ?_,
    Rows.of (rows t) (fun x => ?_) fun x => ?_, Rows.of (rows t) (fun x => ?_) fun x => ?_⟩, Rows.of (rows t) (fun x => ?_) fun x => ?_,
    Rows.of (rows t) (fun x => ?_) fun x => ?_, Rows.of (rows t) (fun x => ?_) fun x => ?_, Rows.of (rows t) (fun x => ?_) fun x => ?_⟩
  all_goals
    blk_simp <;> rfl

variable (hw : Is2 (n := 256) (k := 2048) (m ((c.tc : Thread nD τ).loc main_arg0)) W) (hh : Is3 (n := 4) (k := 256) (l := 2048) (m ((c.tc : Thread nD τ).loc main_arg1)) H)
  (ho : Is3 (n := 3) (k := 256) (l := 2048) (m ((c.tc : Thread nD τ).loc main_arg2)) O) (hx : Is2 (n := 256) (k := 2048) (m ((c.tc : Thread nD τ).loc main_arg3)) X)
  (hy : Is2 (n := 256) (k := 2048) (m ((c.tc : Thread nD τ).loc main_arg4)) Y)
include hw hh ho hx hy

theorem tiles (t : Fin (cfgM m hO).N) :
    Is2 (n := 64) (k := 2048) (outsAt0 m hO c t).1 (fun r k => gS (chip m).toNat H O (64 * t.val + r) k)
    ∧ Is2 (n := 64) (k := 2048) (outsAt0 m hO c t).2.1 (fun r k => dS W (gS (chip m).toNat H O) X Y (64 * t.val + r) k)
    ∧ Is2 (n := 64) (k := 2048) (outsAt0 m hO c t).2.2.1 (fun r k => mS (gS (chip m).toNat H O) X (64 * t.val + r) k)
    ∧ Is2 (n := 64) (k := 2048) (outsAt0 m hO c t).2.2.2 (fun r k => vS (gS (chip m).toNat H O) Y (64 * t.val + r) k) := by
  obtain ⟨⟨p0, p1, p2, p3, p4⟩, -⟩ := place m hO t
  have h := tile c (grid0.coords t) _ (hs0_0 m hO t) _ (hs0_1 m hO t) _ (hs0_2 m hO t) _ (hs0_3 m hO t) _ (hs0_4 m hO t)
    _ (hs0_5 m hO t) _ (hs0_6 m hO t) _ (hs0_7 m hO t) _ (hs0_8 m hO t) (tbl m 0)
    (p0.read hw) (p1.read hh) (by simpa only [Nat.zero_add] using p2.read ho) (p3.read hx) (p4.read hy)
  rw [gS_rows, dS_rows, mS_rows, vS_rows] at h
  unfold outsAt0
  dsimp only
  exact h

/-- The four results after the run. -/
theorem arrays : Is2 (n := 256) (k := 2048) ((dats m hO 0 c).arrAt 5 (cfgM m hO).N) (gS (chip m).toNat H O)
    ∧ Is2 (n := 256) (k := 2048) ((dats m hO 0 c).arrAt 6 (cfgM m hO).N) (dS W (gS (chip m).toNat H O) X Y)
    ∧ Is2 (n := 256) (k := 2048) ((dats m hO 0 c).arrAt 7 (cfgM m hO).N) (mS (gS (chip m).toNat H O) X)
    ∧ Is2 (n := 256) (k := 2048) ((dats m hO 0 c).arrAt 8 (cfgM m hO).N) (vS (gS (chip m).toNat H O) Y) := by
  have ht := tiles m hO c hw hh ho hx hy
  have hN : 64 * (cfgM m hO).N = 256 := by rw [show (cfgM m hO).N = 4 from N_0]
  refine ⟨rows_written hN (fun t => (place m hO t).2.1) (fun t => (ht t).1) fun G hG hc => (dats m hO 0 c).arrAt_eq_of_cover 5 G (fun t _ => (after0_5 m hO c t).trans (hG t)) fun i => ?_,
    rows_written hN (fun t => (place m hO t).2.2.1) (fun t => (ht t).2.1) fun G hG hc => (dats m hO 0 c).arrAt_eq_of_cover 6 G (fun t _ => (after0_6 m hO c t).trans (hG t)) fun i => ?_,
    rows_written hN (fun t => (place m hO t).2.2.2.1) (fun t => (ht t).2.2.1) fun G hG hc => (dats m hO 0 c).arrAt_eq_of_cover 7 G (fun t _ => (after0_7 m hO c t).trans (hG t)) fun i => ?_,
    rows_written hN (fun t => (place m hO t).2.2.2.2) (fun t => (ht t).2.2.2) fun G hG hc => (dats m hO 0 c).arrAt_eq_of_cover 8 G (fun t _ => (after0_8 m hO c t).trans (hG t)) fun i => ?_⟩
  all_goals obtain ⟨t, y, rfl⟩ := hc i
  · exact ⟨t, flush0_5 _ _, View.emb_mem_set _ y⟩
  · exact ⟨t, flush0_6 _ _, View.emb_mem_set _ y⟩
  · exact ⟨t, flush0_7 _ _, View.emb_mem_set _ y⟩
  · exact ⟨t, flush0_8 _ _, View.emb_mem_set _ y⟩

end Arr

end Cert.Kernel21Ideal.Adam

namespace Cert.Reference21Ideal.Adam

open Reference21Ideal Reference21Ideal.Gen Reference21Ideal.Read Cert.Mix Cert.Adam
open Idealize.ShloMosaic

section

variable {w x y : FVec Ideal S256x2048 .f32} {h : FVec Ideal S4x256x2048 .bf16} {o : FVec Ideal S3x256x2048 .bf16} {n : IVec S1 32}
  {W X Y : Mat} {H O : ℕ → Mat} (hw : Is2 w W) (hh : Is3 h H) (ho : Is3 o O) (hx : Is2 x X) (hy : Is2 y Y)
  (hn : Four (n (ix1 (n0 := 1) 0)))

include hh ho hn in
theorem r9 : Is2 (val_main_v9 (F := Ideal) h o n) (gS (n (ix1 (n0 := 1) 0)).toNat H O) := fun r k => by
  simp only [val_main_v9, val_main_v8, val_main_v7, val_main_v6, val_main_v5, val_main_v4, val_main_v3, val_main_v2, val_main_v1, val_main_v0, val_main_cst, val_main_cst_0,
    val_main_cst_1, val_main_call0_v1, val_main_call0_v2, val_main_call0_v0]
  pointwise []
  simp only [hh _ _ _, ho _ _ _]
  rw [show (id (constant (F := Ideal) S_ FTy.f32 0#32) ix0 : EReal) = 0 from Ideal.ofBits_zero .f32]
  refine (congrArg (· + _) (pick hn fun p => H p r.val k.val)).trans ?_
  rw [Fin.sum_univ_three, gS, ← add_assoc, ← add_assoc]
  rfl

include hh ho hn hx in
theorem r14 : Is2 (val_main_v14 (F := Ideal) h o x n) (mS (gS (n (ix1 (n0 := 1) 0)).toNat H O) X) := fun r k => by
  simp only [val_main_v14, val_main_v13, val_main_v12, val_main_v11, val_main_v10, val_main_cst_2, val_main_cst_3]
  pointwise []
  rw [r9 hh ho hn, hx]
  rfl

include hh ho hn hy in
theorem r20 : Is2 (val_main_v20 (F := Ideal) h o y n) (vS (gS (n (ix1 (n0 := 1) 0)).toNat H O) Y) := fun r k => by
  simp only [val_main_v20, val_main_v19, val_main_v18, val_main_v17, val_main_v16, val_main_v15, val_main_cst_4, val_main_cst_5]
  pointwise []
  rw [r9 hh ho hn, hy]
  rfl

include hw hh ho hn hx hy in
theorem r33 : Is2 (val_main_v33 (F := Ideal) w h o x y n) (dS W (gS (n (ix1 (n0 := 1) 0)).toNat H O) X Y) := fun r k => by
  simp only [val_main_v33, val_main_v32, val_main_v31, val_main_v30, val_main_v29, val_main_v28, val_main_v27, val_main_v26, val_main_v25, val_main_v24,
    val_main_v23, val_main_v22, val_main_v21, val_main_cst_6, val_main_cst_7, val_main_cst_8, val_main_cst_9, val_main_cst_10]
  pointwise []
  rw [r14 hh ho hx hn, r20 hh ho hy hn, hw]
  rfl

end

end Cert.Reference21Ideal.Adam

namespace Cert.Adam

open Idealize.ShloMosaic TcCoe Idealize.SL.Sem Cert.Mix
open Kernel21Ideal.Gen (dats cfgM)
open Kernel21Ideal (nD τ main_arg0 main_arg1 main_arg2 main_arg3 main_arg4)

theorem equation21 : algebraic_Kernel21Ideal_Reference21Ideal (hKernel21Ideal := Kernel21Ideal.Gen.facts)
    (hReference21Ideal := Reference21Ideal.Gen.facts) (hPre_one_of_four21 := Pre_one_of_four21.Gen.facts) := by
  intro m g m' g' hp he
  have hO := Kernel21Ideal.Adam.ok_of_pre m hp
  have hn := Kernel21Ideal.Adam.chip_of_pre m hp
  refine ⟨fun c => (dats (F := Ideal) m hO 0 c).arrAt 5 (cfgM m hO).N, fun c => (dats (F := Ideal) m hO 0 c).arrAt 6 (cfgM m hO).N,
    fun c => (dats (F := Ideal) m hO 0 c).arrAt 7 (cfgM m hO).N, fun c => (dats (F := Ideal) m hO 0 c).arrAt 8 (cfgM m hO).N, ?_, ?_⟩
  · exact (θ_run _ _ _).mono (fun r h c => ⟨(h.1 c).1 5, (h.1 c).1 6, (h.1 c).1 7, (h.1 c).1 8, h.2 c⟩)
      (θ_run_and (Kernel21Ideal.Gen.run_main m g hO) (Kernel21Ideal.Gen.unchanged m g hO))
  refine (θ_run _ _ _).mono (fun r h c => ?_) (Reference21Ideal.Value.run m' g')
  obtain ⟨e0, e1, e2, e3, e4, e5⟩ := he c
  obtain ⟨h5, h6, h7, h8, hk⟩ := h c
  have hw := is2_mat2 (n := 256) (k := 2048) (m ((c.tc : Thread nD τ).loc main_arg0))
  have hh := is3_mat3 (n := 4) (k := 256) (l := 2048) (m ((c.tc : Thread nD τ).loc main_arg1))
  have ho := is3_mat3 (n := 3) (k := 256) (l := 2048) (m ((c.tc : Thread nD τ).loc main_arg2))
  have hx := is2_mat2 (n := 256) (k := 2048) (m ((c.tc : Thread nD τ).loc main_arg3))
  have hy := is2_mat2 (n := 256) (k := 2048) (m ((c.tc : Thread nD τ).loc main_arg4))
  have hc : c = 0 := Subsingleton.elim (α := Fin 1) c 0
  have e5' : m' ((c.tc : Thread Reference21Ideal.nD Reference21Ideal.τ).loc Reference21Ideal.main_arg5) (ix1 (n0 := 1) 0) = Kernel21Ideal.Adam.chip m := by
    rw [e5, hc]
    rfl
  have hn' := hn
  rw [← e5'] at hn'
  obtain ⟨a5, a6, a7, a8⟩ := Kernel21Ideal.Adam.arrays m hO c hw hh ho hx hy
  have r5 := Reference21Ideal.Adam.r9 hh ho hn'
  have r6 := Reference21Ideal.Adam.r33 hw hh ho hx hy hn'
  have r7 := Reference21Ideal.Adam.r14 hh ho hx hn'
  have r8 := Reference21Ideal.Adam.r20 hh ho hy hn'
  rw [e5'] at r5 r6 r7 r8
  refine ⟨h5.trans ?_, h6.trans ?_, h7.trans ?_, h8.trans ?_, hk⟩
  · rw [Reference21Ideal.Read.val_main_v9_eq, e1, e2]; exact ext2 r5 a5 fun _ _ _ _ => rfl
  · rw [Reference21Ideal.Read.val_main_v33_eq, e0, e1, e2, e3, e4]; exact ext2 r6 a6 fun _ _ _ _ => rfl
  · rw [Reference21Ideal.Read.val_main_v14_eq, e1, e2, e3]; exact ext2 r7 a7 fun _ _ _ _ => rfl
  · rw [Reference21Ideal.Read.val_main_v20_eq, e1, e2, e4]; exact ext2 r8 a8 fun _ _ _ _ => rfl

end Cert.Adam
end
-- ==== Proof.AdamGlu.lean ====
module

public import proofs.«01_k».proof.Proof.Gen.Kernel22.Frame
public import proofs.«01_k».proof.Proof.Gen.Kernel22Ideal.Frame
public import proofs.«01_k».proof.Proof.Gen.Reference22Ideal.Read
public import proofs.«01_k».proof.Proof.Gen.Pre_one_of_four22
public import proofs.«01_k».proof.Proof.MixEquation
public import proofs.«01_k».proof.Proof.AdamStep
public import Idealize.ShloMosaic.Lib.Pipeline.ReadBack

/-! # The step of the gated output's weight

The weight is taken 64 rows at a time; each entry of the four results is the step's there. -/

@[expose] public section

set_option maxRecDepth 16384

noncomputable section

namespace Cert.Kernel22.Adam

open Kernel22 Kernel22.Gen
open Idealize.ShloMosaic TcCoe

set_option backward.proofsInPublic true in
/-- The table that holds one word. -/
def word (w : BitVec 32) : pre0.Contents (Elt Bits) := fun | ⟨0, _⟩ => fun _ => w | ⟨_ + 1, h⟩ => absurd h (by simp)

theorem ok_word {w : BitVec 32} (h : Cert.Adam.Four w) : ok0 (F := Bits) (word w) := by
  rcases h with rfl | rfl | rfl | rfl <;> decide

theorem tbl_word (m : (l : Loc nD τ sig) → Buf (Elt Bits) l) : tbl m = word (m (((0 : Dev nD).tc : Thread nD τ).loc main_arg5) (ix1 (n0 := 1) 0)) := by
  funext j x
  match j with
  | ⟨0, _⟩ =>
    show m (((0 : Dev nD).tc : Thread nD τ).loc main_arg5) x = m _ _
    rw [Cert.Adam.one_index x]

theorem ok_of_pre (m : (l : Loc nD τ sig) → Buf (Elt Bits) l) (h : Pre_Kernel22 m) : Ok (F := Bits) m := by
  unfold Ok
  rw [tbl_word m]
  exact ok_word (Cert.Adam.four_of_bits (congrFun (h 0) (ix1 (n0 := 1) 0)))

end Cert.Kernel22.Adam

namespace Cert.Kernel22Ideal.Adam

open Kernel22Ideal Kernel22Ideal.Gen Cert.Mix Cert.Adam
open Idealize.ShloMosaic TcCoe Idealize.SL.Sem

set_option backward.proofsInPublic true in
/-- The table that holds one word. -/
def word (w : BitVec 32) : pre0.Contents (Elt Ideal) := fun | ⟨0, _⟩ => fun _ => w | ⟨_ + 1, h⟩ => absurd h (by simp)

theorem ok_word {w : BitVec 32} (h : Cert.Adam.Four w) : ok0 (F := Ideal) (word w) := by
  rcases h with rfl | rfl | rfl | rfl <;> decide

variable (m : (l : Loc nD τ sig) → Buf (Elt Ideal) l)

/-- The number in the table. -/
def chip : BitVec 32 := m (((0 : Dev nD).tc : Thread nD τ).loc main_arg5) (ix1 (n0 := 1) 0)

theorem tbl_word : tbl m = word (chip m) := by
  funext j x
  match j with
  | ⟨0, _⟩ =>
    show m (((0 : Dev nD).tc : Thread nD τ).loc main_arg5) x = m _ _
    rw [one_index x]

theorem chip_of_pre (h : Pre_Kernel22Ideal m) : Four (chip m) :=
  four_of_bits (congrFun (h 0) (ix1 (n0 := 1) 0))

theorem ok_of_pre (h : Pre_Kernel22Ideal m) : Ok (F := Ideal) m := by
  unfold Ok
  rw [tbl_word m]
  exact ok_word (chip_of_pre m h)

section Tile

variable (c : Dev nD) (i : grid0.Coords) (a2 : Memref sig .tc .vmem S64x512 .f32) (b2 : a2.IsWhole) (a3 : Memref sig .tc .vmem S1x64x512 .bf16) (b3 : a3.IsWhole) (a4 : Memref sig .tc .vmem S3x64x512 .bf16) (b4 : a4.IsWhole) (a5 : Memref sig .tc .vmem S64x512 .f32) (b5 : a5.IsWhole) (a6 : Memref sig .tc .vmem S64x512 .f32) (b6 : a6.IsWhole)
  (a7 : Memref sig .tc .vmem S64x512 .f32) (b7 : a7.IsWhole) (a8 : Memref sig .tc .vmem S64x512 .f32) (b8 : a8.IsWhole) (a9 : Memref sig .tc .vmem S64x512 .f32) (b9 : a9.IsWhole) (a10 : Memref sig .tc .vmem S64x512 .f32) (b10 : a10.IsWhole)
  {w : Vec Ideal S64x512 .f32} {h : Vec Ideal S1x64x512 .bf16} {o : Vec Ideal S3x64x512 .bf16} {x y : Vec Ideal S64x512 .f32} (xt : TbBuf0 (F := Ideal) c tbM0_0)
  {W X Y : Mat} {H O : ℕ → Mat} (hw : Is2 w W) (hh : Is3 h H) (ho : Is3 o O) (hx : Is2 x X) (hy : Is2 y Y)

include hw hh ho hx hy in
theorem tile : Is2 (out0_A_5 c i a2 b2 a3 b3 a4 b4 a5 b5 a6 b6 a7 b7 a8 b8 a9 b9 a10 b10 w h o x y xt) (gS 0 H O)
    ∧ Is2 (out0_A_6 c i a2 b2 a3 b3 a4 b4 a5 b5 a6 b6 a7 b7 a8 b8 a9 b9 a10 b10 w h o x y xt) (dS W (gS 0 H O) X Y)
    ∧ Is2 (out0_A_7 c i a2 b2 a3 b3 a4 b4 a5 b5 a6 b6 a7 b7 a8 b8 a9 b9 a10 b10 w h o x y xt) (mS (gS 0 H O) X)
    ∧ Is2 (out0_A_8 c i a2 b2 a3 b3 a4 b4 a5 b5 a6 b6 a7 b7 a8 b8 a9 b9 a10 b10 w h o x y xt) (vS (gS 0 H O) Y) := by
  refine ⟨?_, ?_, ?_, ?_⟩ <;> frame_out
  all_goals intro r k
  · pointwise [k0_pay2]
    rw [hh, ho, ho, ho]
    rfl
  · pointwise [k0_pay1, k0_pay2, k0_pay3, k0_pay4, k0_pay5]
    rw [hh, ho, ho, ho, hw, hx, hy]
    rfl
  · pointwise [k0_pay3, k0_pay2]
    rw [hh, ho, ho, ho, hx]
    rfl
  · pointwise [k0_pay4, k0_pay2]
    rw [hh, ho, ho, ho, hy]
    rfl

end Tile

section Arr

variable (hO : Ok m) (c : Dev nD) {W X Y : Mat} {H O : ℕ → Mat}

theorem rows : ∀ t : Fin grid0.N, cc0_transform_0 (grid0.coords t) 0 = t.val ∧ cc0_transform_0 (grid0.coords t) 1 = 0 := by decide +kernel

/-- Where each window's block lies. -/
theorem place (t : Fin (cfgM m hO).N) :
    (Rows 2048 512 t.val (((cfgM m hO).win 0).blk t).view.emb ∧ Rows3 4 1 2048 512 (chip m).toNat t.val (((cfgM m hO).win 1).blk t).view.emb
      ∧ Rows3 3 3 2048 512 0 t.val (((cfgM m hO).win 2).blk t).view.emb ∧ Rows 2048 512 t.val (((cfgM m hO).win 3).blk t).view.emb ∧ Rows 2048 512 t.val (((cfgM m hO).win 4).blk t).view.emb)
    ∧ Rows 2048 512 t.val (((cfgM m hO).win 5).blk t).view.emb ∧ Rows 2048 512 t.val (((cfgM m hO).win 6).blk t).view.emb
      ∧ Rows 2048 512 t.val (((cfgM m hO).win 7).blk t).view.emb ∧ Rows 2048 512 t.val (((cfgM m hO).win 8).blk t).view.emb := by
  have e1 : ((cfgM m hO).win 1).index t (0 : Fin 3) * 1 = (chip m).toNat := by
    show cc0_transform_1 _ _ (tbl m) (grid0.coords t) 0 * 1 = _
    rw [tbl_word, Nat.mul_one]
    rfl
  refine ⟨⟨Rows.of (rows t) (fun x => ?_) fun x => ?_, Rows3.of (rows t) e1 (fun x => ?_) (fun x => ?_) fun x => ?_,
    Rows3.of (rows t) (j := cc0_transform_0 (grid0.coords t) 1) (by rw [(rows t).2]) (fun x => ?_) (fun x => ?_) fun x => ?_,
    Rows.of (rows t) (fun x => ?_) fun x => ?_, Rows.of (rows t) (fun x => ?_) fun x => ?_⟩, Rows.of (rows t) (fun x => ?_) fun x => ?_,
    Rows.of (rows t) (fun x => ?_) fun x => ?_, Rows.of (rows t) (fun x => ?_) fun x => ?_, Rows.of (rows t) (fun x => ?_) fun x => ?_⟩
  all_goals
    blk_simp <;> rfl

variable (hw : Is2 (n := 2048) (k := 512) (m ((c.tc : Thread nD τ).loc main_arg0)) W) (hh : Is3 (n := 4) (k := 2048) (l := 512) (m ((c.tc : Thread nD τ).loc main_arg1)) H)
  (ho : Is3 (n := 3) (k := 2048) (l := 512) (m ((c.tc : Thread nD τ).loc main_arg2)) O) (hx : Is2 (n := 2048) (k := 512) (m ((c.tc : Thread nD τ).loc main_arg3)) X)
  (hy : Is2 (n := 2048) (k := 512) (m ((c.tc : Thread nD τ).loc main_arg4)) Y)
include hw hh ho hx hy

theorem tiles (t : Fin (cfgM m hO).N) :
    Is2 (n := 64) (k := 512) (outsAt0 m hO c t).1 (fun r k => gS (chip m).toNat H O (64 * t.val + r) k)
    ∧ Is2 (n := 64) (k := 512) (outsAt0 m hO c t).2.1 (fun r k => dS W (gS (chip m).toNat H O) X Y (64 * t.val + r) k)
    ∧ Is2 (n := 64) (k := 512) (outsAt0 m hO c t).2.2.1 (fun r k => mS (gS (chip m).toNat H O) X (64 * t.val + r) k)
    ∧ Is2 (n := 64) (k := 512) (outsAt0 m hO c t).2.2.2 (fun r k => vS (gS (chip m).toNat H O) Y (64 * t.val + r) k) := by
  obtain ⟨⟨p0, p1, p2, p3, p4⟩, -⟩ := place m hO t
  have h := tile c (grid0.coords t) _ (hs0_0 m hO t) _ (hs0_1 m hO t) _ (hs0_2 m hO t) _ (hs0_3 m hO t) _ (hs0_4 m hO t)
    _ (hs0_5 m hO t) _ (hs0_6 m hO t) _ (hs0_7 m hO t) _ (hs0_8 m hO t) (tbl m 0)
    (p0.read hw) (p1.read hh) (by simpa only [Nat.zero_add] using p2.read ho) (p3.read hx) (p4.read hy)
  rw [gS_rows, dS_rows, mS_rows, vS_rows] at h
  unfold outsAt0
  dsimp only
  exact h

/-- The four results after the run. -/
theorem arrays : Is2 (n := 2048) (k := 512) ((dats m hO 0 c).arrAt 5 (cfgM m hO).N) (gS (chip m).toNat H O)
    ∧ Is2 (n := 2048) (k := 512) ((dats m hO 0 c).arrAt 6 (cfgM m hO).N) (dS W (gS (chip m).toNat H O) X Y)
    ∧ Is2 (n := 2048) (k := 512) ((dats m hO 0 c).arrAt 7 (cfgM m hO).N) (mS (gS (chip m).toNat H O) X)
    ∧ Is2 (n := 2048) (k := 512) ((dats m hO 0 c).arrAt 8 (cfgM m hO).N) (vS (gS (chip m).toNat H O) Y) := by
  have ht := tiles m hO c hw hh ho hx hy
  have hN : 64 * (cfgM m hO).N = 2048 := by rw [show (cfgM m hO).N = 32 from N_0]
  refine ⟨rows_written hN (fun t => (place m hO t).2.1) (fun t => (ht t).1) fun G hG hc => (dats m hO 0 c).arrAt_eq_of_cover 5 G (fun t _ => (after0_5 m hO c t).trans (hG t)) fun i => ?_,
    rows_written hN (fun t => (place m hO t).2.2.1) (fun t => (ht t).2.1) fun G hG hc => (dats m hO 0 c).arrAt_eq_of_cover 6 G (fun t _ => (after0_6 m hO c t).trans (hG t)) fun i => ?_,
    rows_written hN (fun t => (place m hO t).2.2.2.1) (fun t => (ht t).2.2.1) fun G hG hc => (dats m hO 0 c).arrAt_eq_of_cover 7 G (fun t _ => (after0_7 m hO c t).trans (hG t)) fun i => ?_,
    rows_written hN (fun t => (place m hO t).2.2.2.2) (fun t => (ht t).2.2.2) fun G hG hc => (dats m hO 0 c).arrAt_eq_of_cover 8 G (fun t _ => (after0_8 m hO c t).trans (hG t)) fun i => ?_⟩
  all_goals obtain ⟨t, y, rfl⟩ := hc i
  · exact ⟨t, flush0_5 _ _, View.emb_mem_set _ y⟩
  · exact ⟨t, flush0_6 _ _, View.emb_mem_set _ y⟩
  · exact ⟨t, flush0_7 _ _, View.emb_mem_set _ y⟩
  · exact ⟨t, flush0_8 _ _, View.emb_mem_set _ y⟩

end Arr

end Cert.Kernel22Ideal.Adam

namespace Cert.Reference22Ideal.Adam

open Reference22Ideal Reference22Ideal.Gen Reference22Ideal.Read Cert.Mix Cert.Adam
open Idealize.ShloMosaic

section

variable {w x y : FVec Ideal S2048x512 .f32} {h : FVec Ideal S4x2048x512 .bf16} {o : FVec Ideal S3x2048x512 .bf16} {n : IVec S1 32}
  {W X Y : Mat} {H O : ℕ → Mat} (hw : Is2 w W) (hh : Is3 h H) (ho : Is3 o O) (hx : Is2 x X) (hy : Is2 y Y)
  (hn : Four (n (ix1 (n0 := 1) 0)))

include hh ho hn in
theorem r9 : Is2 (val_main_v9 (F := Ideal) h o n) (gS (n (ix1 (n0 := 1) 0)).toNat H O) := fun r k => by
  simp only [val_main_v9, val_main_v8, val_main_v7, val_main_v6, val_main_v5, val_main_v4, val_main_v3, val_main_v2, val_main_v1, val_main_v0, val_main_cst, val_main_cst_0,
    val_main_cst_1, val_main_call0_v1, val_main_call0_v2, val_main_call0_v0]
  pointwise []
  simp only [hh _ _ _, ho _ _ _]
  rw [show (id (constant (F := Ideal) S_ FTy.f32 0#32) ix0 : EReal) = 0 from Ideal.ofBits_zero .f32]
  refine (congrArg (· + _) (pick hn fun p => H p r.val k.val)).trans ?_
  rw [Fin.sum_univ_three, gS, ← add_assoc, ← add_assoc]
  rfl

include hh ho hn hx in
theorem r14 : Is2 (val_main_v14 (F := Ideal) h o x n) (mS (gS (n (ix1 (n0 := 1) 0)).toNat H O) X) := fun r k => by
  simp only [val_main_v14, val_main_v13, val_main_v12, val_main_v11, val_main_v10, val_main_cst_2, val_main_cst_3]
  pointwise []
  rw [r9 hh ho hn, hx]
  rfl

include hh ho hn hy in
theorem r20 : Is2 (val_main_v20 (F := Ideal) h o y n) (vS (gS (n (ix1 (n0 := 1) 0)).toNat H O) Y) := fun r k => by
  simp only [val_main_v20, val_main_v19, val_main_v18, val_main_v17, val_main_v16, val_main_v15, val_main_cst_4, val_main_cst_5]
  pointwise []
  rw [r9 hh ho hn, hy]
  rfl

include hw hh ho hn hx hy in
theorem r33 : Is2 (val_main_v33 (F := Ideal) w h o x y n) (dS W (gS (n (ix1 (n0 := 1) 0)).toNat H O) X Y) := fun r k => by
  simp only [val_main_v33, val_main_v32, val_main_v31, val_main_v30, val_main_v29, val_main_v28, val_main_v27, val_main_v26, val_main_v25, val_main_v24,
    val_main_v23, val_main_v22, val_main_v21, val_main_cst_6, val_main_cst_7, val_main_cst_8, val_main_cst_9, val_main_cst_10]
  pointwise []
  rw [r14 hh ho hx hn, r20 hh ho hy hn, hw]
  rfl

end

end Cert.Reference22Ideal.Adam

namespace Cert.Adam

open Idealize.ShloMosaic TcCoe Idealize.SL.Sem Cert.Mix
open Kernel22Ideal.Gen (dats cfgM)
open Kernel22Ideal (nD τ main_arg0 main_arg1 main_arg2 main_arg3 main_arg4)

theorem equation22 : algebraic_Kernel22Ideal_Reference22Ideal (hKernel22Ideal := Kernel22Ideal.Gen.facts)
    (hReference22Ideal := Reference22Ideal.Gen.facts) (hPre_one_of_four22 := Pre_one_of_four22.Gen.facts) := by
  intro m g m' g' hp he
  have hO := Kernel22Ideal.Adam.ok_of_pre m hp
  have hn := Kernel22Ideal.Adam.chip_of_pre m hp
  refine ⟨fun c => (dats (F := Ideal) m hO 0 c).arrAt 5 (cfgM m hO).N, fun c => (dats (F := Ideal) m hO 0 c).arrAt 6 (cfgM m hO).N,
    fun c => (dats (F := Ideal) m hO 0 c).arrAt 7 (cfgM m hO).N, fun c => (dats (F := Ideal) m hO 0 c).arrAt 8 (cfgM m hO).N, ?_, ?_⟩
  · exact (θ_run _ _ _).mono (fun r h c => ⟨(h.1 c).1 5, (h.1 c).1 6, (h.1 c).1 7, (h.1 c).1 8, h.2 c⟩)
      (θ_run_and (Kernel22Ideal.Gen.run_main m g hO) (Kernel22Ideal.Gen.unchanged m g hO))
  refine (θ_run _ _ _).mono (fun r h c => ?_) (Reference22Ideal.Value.run m' g')
  obtain ⟨e0, e1, e2, e3, e4, e5⟩ := he c
  obtain ⟨h5, h6, h7, h8, hk⟩ := h c
  have hw := is2_mat2 (n := 2048) (k := 512) (m ((c.tc : Thread nD τ).loc main_arg0))
  have hh := is3_mat3 (n := 4) (k := 2048) (l := 512) (m ((c.tc : Thread nD τ).loc main_arg1))
  have ho := is3_mat3 (n := 3) (k := 2048) (l := 512) (m ((c.tc : Thread nD τ).loc main_arg2))
  have hx := is2_mat2 (n := 2048) (k := 512) (m ((c.tc : Thread nD τ).loc main_arg3))
  have hy := is2_mat2 (n := 2048) (k := 512) (m ((c.tc : Thread nD τ).loc main_arg4))
  have hc : c = 0 := Subsingleton.elim (α := Fin 1) c 0
  have e5' : m' ((c.tc : Thread Reference22Ideal.nD Reference22Ideal.τ).loc Reference22Ideal.main_arg5) (ix1 (n0 := 1) 0) = Kernel22Ideal.Adam.chip m := by
    rw [e5, hc]
    rfl
  have hn' := hn
  rw [← e5'] at hn'
  obtain ⟨a5, a6, a7, a8⟩ := Kernel22Ideal.Adam.arrays m hO c hw hh ho hx hy
  have r5 := Reference22Ideal.Adam.r9 hh ho hn'
  have r6 := Reference22Ideal.Adam.r33 hw hh ho hx hy hn'
  have r7 := Reference22Ideal.Adam.r14 hh ho hx hn'
  have r8 := Reference22Ideal.Adam.r20 hh ho hy hn'
  rw [e5'] at r5 r6 r7 r8
  refine ⟨h5.trans ?_, h6.trans ?_, h7.trans ?_, h8.trans ?_, hk⟩
  · rw [Reference22Ideal.Read.val_main_v9_eq, e1, e2]; exact ext2 r5 a5 fun _ _ _ _ => rfl
  · rw [Reference22Ideal.Read.val_main_v33_eq, e0, e1, e2, e3, e4]; exact ext2 r6 a6 fun _ _ _ _ => rfl
  · rw [Reference22Ideal.Read.val_main_v14_eq, e1, e2, e3]; exact ext2 r7 a7 fun _ _ _ _ => rfl
  · rw [Reference22Ideal.Read.val_main_v20_eq, e1, e2, e4]; exact ext2 r8 a8 fun _ _ _ _ => rfl

end Cert.Adam
end
-- ==== Proof.AdamPool.lean ====
module

public import proofs.«01_k».proof.Proof.Gen.Kernel23.Frame
public import proofs.«01_k».proof.Proof.Gen.Kernel23Ideal.Frame
public import proofs.«01_k».proof.Proof.Gen.Reference23Ideal.Read
public import proofs.«01_k».proof.Proof.Gen.Pre_one_of_four23
public import proofs.«01_k».proof.Proof.MixEquation
public import proofs.«01_k».proof.Proof.AdamStep
public import Idealize.ShloMosaic.Lib.Pipeline.ReadBack

/-! # The step of the pooling mixer's weight

The weight is taken 64 rows at a time; each entry of the four results is the step's there. -/

@[expose] public section

set_option maxRecDepth 16384

noncomputable section

namespace Cert.Kernel23.Adam

open Kernel23 Kernel23.Gen
open Idealize.ShloMosaic TcCoe

set_option backward.proofsInPublic true in
/-- The table that holds one word. -/
def word (w : BitVec 32) : pre0.Contents (Elt Bits) := fun | ⟨0, _⟩ => fun _ => w | ⟨_ + 1, h⟩ => absurd h (by simp)

theorem ok_word {w : BitVec 32} (h : Cert.Adam.Four w) : ok0 (F := Bits) (word w) := by
  rcases h with rfl | rfl | rfl | rfl <;> decide

theorem tbl_word (m : (l : Loc nD τ sig) → Buf (Elt Bits) l) : tbl m = word (m (((0 : Dev nD).tc : Thread nD τ).loc main_arg5) (ix1 (n0 := 1) 0)) := by
  funext j x
  match j with
  | ⟨0, _⟩ =>
    show m (((0 : Dev nD).tc : Thread nD τ).loc main_arg5) x = m _ _
    rw [Cert.Adam.one_index x]

theorem ok_of_pre (m : (l : Loc nD τ sig) → Buf (Elt Bits) l) (h : Pre_Kernel23 m) : Ok (F := Bits) m := by
  unfold Ok
  rw [tbl_word m]
  exact ok_word (Cert.Adam.four_of_bits (congrFun (h 0) (ix1 (n0 := 1) 0)))

end Cert.Kernel23.Adam

namespace Cert.Kernel23Ideal.Adam

open Kernel23Ideal Kernel23Ideal.Gen Cert.Mix Cert.Adam
open Idealize.ShloMosaic TcCoe Idealize.SL.Sem

set_option backward.proofsInPublic true in
/-- The table that holds one word. -/
def word (w : BitVec 32) : pre0.Contents (Elt Ideal) := fun | ⟨0, _⟩ => fun _ => w | ⟨_ + 1, h⟩ => absurd h (by simp)

theorem ok_word {w : BitVec 32} (h : Cert.Adam.Four w) : ok0 (F := Ideal) (word w) := by
  rcases h with rfl | rfl | rfl | rfl <;> decide

variable (m : (l : Loc nD τ sig) → Buf (Elt Ideal) l)

/-- The number in the table. -/
def chip : BitVec 32 := m (((0 : Dev nD).tc : Thread nD τ).loc main_arg5) (ix1 (n0 := 1) 0)

theorem tbl_word : tbl m = word (chip m) := by
  funext j x
  match j with
  | ⟨0, _⟩ =>
    show m (((0 : Dev nD).tc : Thread nD τ).loc main_arg5) x = m _ _
    rw [one_index x]

theorem chip_of_pre (h : Pre_Kernel23Ideal m) : Four (chip m) :=
  four_of_bits (congrFun (h 0) (ix1 (n0 := 1) 0))

theorem ok_of_pre (h : Pre_Kernel23Ideal m) : Ok (F := Ideal) m := by
  unfold Ok
  rw [tbl_word m]
  exact ok_word (chip_of_pre m h)

section Tile

variable (c : Dev nD) (i : grid0.Coords) (a2 : Memref sig .tc .vmem S64x512 .f32) (b2 : a2.IsWhole) (a3 : Memref sig .tc .vmem S1x64x512 .bf16) (b3 : a3.IsWhole) (a4 : Memref sig .tc .vmem S3x64x512 .bf16) (b4 : a4.IsWhole) (a5 : Memref sig .tc .vmem S64x512 .f32) (b5 : a5.IsWhole) (a6 : Memref sig .tc .vmem S64x512 .f32) (b6 : a6.IsWhole)
  (a7 : Memref sig .tc .vmem S64x512 .f32) (b7 : a7.IsWhole) (a8 : Memref sig .tc .vmem S64x512 .f32) (b8 : a8.IsWhole) (a9 : Memref sig .tc .vmem S64x512 .f32) (b9 : a9.IsWhole) (a10 : Memref sig .tc .vmem S64x512 .f32) (b10 : a10.IsWhole)
  {w : Vec Ideal S64x512 .f32} {h : Vec Ideal S1x64x512 .bf16} {o : Vec Ideal S3x64x512 .bf16} {x y : Vec Ideal S64x512 .f32} (xt : TbBuf0 (F := Ideal) c tbM0_0)
  {W X Y : Mat} {H O : ℕ → Mat} (hw : Is2 w W) (hh : Is3 h H) (ho : Is3 o O) (hx : Is2 x X) (hy : Is2 y Y)

include hw hh ho hx hy in
theorem tile : Is2 (out0_A_5 c i a2 b2 a3 b3 a4 b4 a5 b5 a6 b6 a7 b7 a8 b8 a9 b9 a10 b10 w h o x y xt) (gS 0 H O)
    ∧ Is2 (out0_A_6 c i a2 b2 a3 b3 a4 b4 a5 b5 a6 b6 a7 b7 a8 b8 a9 b9 a10 b10 w h o x y xt) (dS W (gS 0 H O) X Y)
    ∧ Is2 (out0_A_7 c i a2 b2 a3 b3 a4 b4 a5 b5 a6 b6 a7 b7 a8 b8 a9 b9 a10 b10 w h o x y xt) (mS (gS 0 H O) X)
    ∧ Is2 (out0_A_8 c i a2 b2 a3 b3 a4 b4 a5 b5 a6 b6 a7 b7 a8 b8 a9 b9 a10 b10 w h o x y xt) (vS (gS 0 H O) Y) := by
  refine ⟨?_, ?_, ?_, ?_⟩ <;> frame_out
  all_goals intro r k
  · pointwise [k0_pay2]
    rw [hh, ho, ho, ho]
    rfl
  · pointwise [k0_pay1, k0_pay2, k0_pay3, k0_pay4, k0_pay5]
    rw [hh, ho, ho, ho, hw, hx, hy]
    rfl
  · pointwise [k0_pay3, k0_pay2]
    rw [hh, ho, ho, ho, hx]
    rfl
  · pointwise [k0_pay4, k0_pay2]
    rw [hh, ho, ho, ho, hy]
    rfl

end Tile

section Arr

variable (hO : Ok m) (c : Dev nD) {W X Y : Mat} {H O : ℕ → Mat}

theorem rows : ∀ t : Fin grid0.N, cc0_transform_0 (grid0.coords t) 0 = t.val ∧ cc0_transform_0 (grid0.coords t) 1 = 0 := by decide +kernel

/-- Where each window's block lies. -/
theorem place (t : Fin (cfgM m hO).N) :
    (Rows 512 512 t.val (((cfgM m hO).win 0).blk t).view.emb ∧ Rows3 4 1 512 512 (chip m).toNat t.val (((cfgM m hO).win 1).blk t).view.emb
      ∧ Rows3 3 3 512 512 0 t.val (((cfgM m hO).win 2).blk t).view.emb ∧ Rows 512 512 t.val (((cfgM m hO).win 3).blk t).view.emb ∧ Rows 512 512 t.val (((cfgM m hO).win 4).blk t).view.emb)
    ∧ Rows 512 512 t.val (((cfgM m hO).win 5).blk t).view.emb ∧ Rows 512 512 t.val (((cfgM m hO).win 6).blk t).view.emb
      ∧ Rows 512 512 t.val (((cfgM m hO).win 7).blk t).view.emb ∧ Rows 512 512 t.val (((cfgM m hO).win 8).blk t).view.emb := by
  have e1 : ((cfgM m hO).win 1).index t (0 : Fin 3) * 1 = (chip m).toNat := by
    show cc0_transform_1 _ _ (tbl m) (grid0.coords t) 0 * 1 = _
    rw [tbl_word, Nat.mul_one]
    rfl
  refine ⟨⟨Rows.of (rows t) (fun x => ?_) fun x => ?_, Rows3.of (rows t) e1 (fun x => ?_) (fun x => ?_) fun x => ?_,
    Rows3.of (rows t) (j := cc0_transform_0 (grid0.coords t) 1) (by rw [(rows t).2]) (fun x => ?_) (fun x => ?_) fun x => ?_,
    Rows.of (rows t) (fun x => ?_) fun x => ?_, Rows.of (rows t) (fun x => ?_) fun x => ?_⟩, Rows.of (rows t) (fun x => ?_) fun x => ?_,
    Rows.of (rows t) (fun x => ?_) fun x => ?_, Rows.of (rows t) (fun x => ?_) fun x => ?_, Rows.of (rows t) (fun x => ?_) fun x => ?_⟩
  all_goals
    blk_simp <;> rfl

variable (hw : Is2 (n := 512) (k := 512) (m ((c.tc : Thread nD τ).loc main_arg0)) W) (hh : Is3 (n := 4) (k := 512) (l := 512) (m ((c.tc : Thread nD τ).loc main_arg1)) H)
  (ho : Is3 (n := 3) (k := 512) (l := 512) (m ((c.tc : Thread nD τ).loc main_arg2)) O) (hx : Is2 (n := 512) (k := 512) (m ((c.tc : Thread nD τ).loc main_arg3)) X)
  (hy : Is2 (n := 512) (k := 512) (m ((c.tc : Thread nD τ).loc main_arg4)) Y)
include hw hh ho hx hy

theorem tiles (t : Fin (cfgM m hO).N) :
    Is2 (n := 64) (k := 512) (outsAt0 m hO c t).1 (fun r k => gS (chip m).toNat H O (64 * t.val + r) k)
    ∧ Is2 (n := 64) (k := 512) (outsAt0 m hO c t).2.1 (fun r k => dS W (gS (chip m).toNat H O) X Y (64 * t.val + r) k)
    ∧ Is2 (n := 64) (k := 512) (outsAt0 m hO c t).2.2.1 (fun r k => mS (gS (chip m).toNat H O) X (64 * t.val + r) k)
    ∧ Is2 (n := 64) (k := 512) (outsAt0 m hO c t).2.2.2 (fun r k => vS (gS (chip m).toNat H O) Y (64 * t.val + r) k) := by
  obtain ⟨⟨p0, p1, p2, p3, p4⟩, -⟩ := place m hO t
  have h := tile c (grid0.coords t) _ (hs0_0 m hO t) _ (hs0_1 m hO t) _ (hs0_2 m hO t) _ (hs0_3 m hO t) _ (hs0_4 m hO t)
    _ (hs0_5 m hO t) _ (hs0_6 m hO t) _ (hs0_7 m hO t) _ (hs0_8 m hO t) (tbl m 0)
    (p0.read hw) (p1.read hh) (by simpa only [Nat.zero_add] using p2.read ho) (p3.read hx) (p4.read hy)
  rw [gS_rows, dS_rows, mS_rows, vS_rows] at h
  unfold outsAt0
  dsimp only
  exact h

/-- The four results after the run. -/
theorem arrays : Is2 (n := 512) (k := 512) ((dats m hO 0 c).arrAt 5 (cfgM m hO).N) (gS (chip m).toNat H O)
    ∧ Is2 (n := 512) (k := 512) ((dats m hO 0 c).arrAt 6 (cfgM m hO).N) (dS W (gS (chip m).toNat H O) X Y)
    ∧ Is2 (n := 512) (k := 512) ((dats m hO 0 c).arrAt 7 (cfgM m hO).N) (mS (gS (chip m).toNat H O) X)
    ∧ Is2 (n := 512) (k := 512) ((dats m hO 0 c).arrAt 8 (cfgM m hO).N) (vS (gS (chip m).toNat H O) Y) := by
  have ht := tiles m hO c hw hh ho hx hy
  have hN : 64 * (cfgM m hO).N = 512 := by rw [show (cfgM m hO).N = 8 from N_0]
  refine ⟨rows_written hN (fun t => (place m hO t).2.1) (fun t => (ht t).1) fun G hG hc => (dats m hO 0 c).arrAt_eq_of_cover 5 G (fun t _ => (after0_5 m hO c t).trans (hG t)) fun i => ?_,
    rows_written hN (fun t => (place m hO t).2.2.1) (fun t => (ht t).2.1) fun G hG hc => (dats m hO 0 c).arrAt_eq_of_cover 6 G (fun t _ => (after0_6 m hO c t).trans (hG t)) fun i => ?_,
    rows_written hN (fun t => (place m hO t).2.2.2.1) (fun t => (ht t).2.2.1) fun G hG hc => (dats m hO 0 c).arrAt_eq_of_cover 7 G (fun t _ => (after0_7 m hO c t).trans (hG t)) fun i => ?_,
    rows_written hN (fun t => (place m hO t).2.2.2.2) (fun t => (ht t).2.2.2) fun G hG hc => (dats m hO 0 c).arrAt_eq_of_cover 8 G (fun t _ => (after0_8 m hO c t).trans (hG t)) fun i => ?_⟩
  all_goals obtain ⟨t, y, rfl⟩ := hc i
  · exact ⟨t, flush0_5 _ _, View.emb_mem_set _ y⟩
  · exact ⟨t, flush0_6 _ _, View.emb_mem_set _ y⟩
  · exact ⟨t, flush0_7 _ _, View.emb_mem_set _ y⟩
  · exact ⟨t, flush0_8 _ _, View.emb_mem_set _ y⟩

end Arr

end Cert.Kernel23Ideal.Adam

namespace Cert.Reference23Ideal.Adam

open Reference23Ideal Reference23Ideal.Gen Reference23Ideal.Read Cert.Mix Cert.Adam
open Idealize.ShloMosaic

section

variable {w x y : FVec Ideal S512x512 .f32} {h : FVec Ideal S4x512x512 .bf16} {o : FVec Ideal S3x512x512 .bf16} {n : IVec S1 32}
  {W X Y : Mat} {H O : ℕ → Mat} (hw : Is2 w W) (hh : Is3 h H) (ho : Is3 o O) (hx : Is2 x X) (hy : Is2 y Y)
  (hn : Four (n (ix1 (n0 := 1) 0)))

include hh ho hn in
theorem r9 : Is2 (val_main_v9 (F := Ideal) h o n) (gS (n (ix1 (n0 := 1) 0)).toNat H O) := fun r k => by
  simp only [val_main_v9, val_main_v8, val_main_v7, val_main_v6, val_main_v5, val_main_v4, val_main_v3, val_main_v2, val_main_v1, val_main_v0, val_main_cst, val_main_cst_0,
    val_main_cst_1, val_main_call0_v1, val_main_call0_v2, val_main_call0_v0]
  pointwise []
  simp only [hh _ _ _, ho _ _ _]
  rw [show (id (constant (F := Ideal) S_ FTy.f32 0#32) ix0 : EReal) = 0 from Ideal.ofBits_zero .f32]
  refine (congrArg (· + _) (pick hn fun p => H p r.val k.val)).trans ?_
  rw [Fin.sum_univ_three, gS, ← add_assoc, ← add_assoc]
  rfl

include hh ho hn hx in
theorem r14 : Is2 (val_main_v14 (F := Ideal) h o x n) (mS (gS (n (ix1 (n0 := 1) 0)).toNat H O) X) := fun r k => by
  simp only [val_main_v14, val_main_v13, val_main_v12, val_main_v11, val_main_v10, val_main_cst_2, val_main_cst_3]
  pointwise []
  rw [r9 hh ho hn, hx]
  rfl

include hh ho hn hy in
theorem r20 : Is2 (val_main_v20 (F := Ideal) h o y n) (vS (gS (n (ix1 (n0 := 1) 0)).toNat H O) Y) := fun r k => by
  simp only [val_main_v20, val_main_v19, val_main_v18, val_main_v17, val_main_v16, val_main_v15, val_main_cst_4, val_main_cst_5]
  pointwise []
  rw [r9 hh ho hn, hy]
  rfl

include hw hh ho hn hx hy in
theorem r33 : Is2 (val_main_v33 (F := Ideal) w h o x y n) (dS W (gS (n (ix1 (n0 := 1) 0)).toNat H O) X Y) := fun r k => by
  simp only [val_main_v33, val_main_v32, val_main_v31, val_main_v30, val_main_v29, val_main_v28, val_main_v27, val_main_v26, val_main_v25, val_main_v24,
    val_main_v23, val_main_v22, val_main_v21, val_main_cst_6, val_main_cst_7, val_main_cst_8, val_main_cst_9, val_main_cst_10]
  pointwise []
  rw [r14 hh ho hx hn, r20 hh ho hy hn, hw]
  rfl

end

end Cert.Reference23Ideal.Adam

namespace Cert.Adam

open Idealize.ShloMosaic TcCoe Idealize.SL.Sem Cert.Mix
open Kernel23Ideal.Gen (dats cfgM)
open Kernel23Ideal (nD τ main_arg0 main_arg1 main_arg2 main_arg3 main_arg4)

theorem equation23 : algebraic_Kernel23Ideal_Reference23Ideal (hKernel23Ideal := Kernel23Ideal.Gen.facts)
    (hReference23Ideal := Reference23Ideal.Gen.facts) (hPre_one_of_four23 := Pre_one_of_four23.Gen.facts) := by
  intro m g m' g' hp he
  have hO := Kernel23Ideal.Adam.ok_of_pre m hp
  have hn := Kernel23Ideal.Adam.chip_of_pre m hp
  refine ⟨fun c => (dats (F := Ideal) m hO 0 c).arrAt 5 (cfgM m hO).N, fun c => (dats (F := Ideal) m hO 0 c).arrAt 6 (cfgM m hO).N,
    fun c => (dats (F := Ideal) m hO 0 c).arrAt 7 (cfgM m hO).N, fun c => (dats (F := Ideal) m hO 0 c).arrAt 8 (cfgM m hO).N, ?_, ?_⟩
  · exact (θ_run _ _ _).mono (fun r h c => ⟨(h.1 c).1 5, (h.1 c).1 6, (h.1 c).1 7, (h.1 c).1 8, h.2 c⟩)
      (θ_run_and (Kernel23Ideal.Gen.run_main m g hO) (Kernel23Ideal.Gen.unchanged m g hO))
  refine (θ_run _ _ _).mono (fun r h c => ?_) (Reference23Ideal.Value.run m' g')
  obtain ⟨e0, e1, e2, e3, e4, e5⟩ := he c
  obtain ⟨h5, h6, h7, h8, hk⟩ := h c
  have hw := is2_mat2 (n := 512) (k := 512) (m ((c.tc : Thread nD τ).loc main_arg0))
  have hh := is3_mat3 (n := 4) (k := 512) (l := 512) (m ((c.tc : Thread nD τ).loc main_arg1))
  have ho := is3_mat3 (n := 3) (k := 512) (l := 512) (m ((c.tc : Thread nD τ).loc main_arg2))
  have hx := is2_mat2 (n := 512) (k := 512) (m ((c.tc : Thread nD τ).loc main_arg3))
  have hy := is2_mat2 (n := 512) (k := 512) (m ((c.tc : Thread nD τ).loc main_arg4))
  have hc : c = 0 := Subsingleton.elim (α := Fin 1) c 0
  have e5' : m' ((c.tc : Thread Reference23Ideal.nD Reference23Ideal.τ).loc Reference23Ideal.main_arg5) (ix1 (n0 := 1) 0) = Kernel23Ideal.Adam.chip m := by
    rw [e5, hc]
    rfl
  have hn' := hn
  rw [← e5'] at hn'
  obtain ⟨a5, a6, a7, a8⟩ := Kernel23Ideal.Adam.arrays m hO c hw hh ho hx hy
  have r5 := Reference23Ideal.Adam.r9 hh ho hn'
  have r6 := Reference23Ideal.Adam.r33 hw hh ho hx hy hn'
  have r7 := Reference23Ideal.Adam.r14 hh ho hx hn'
  have r8 := Reference23Ideal.Adam.r20 hh ho hy hn'
  rw [e5'] at r5 r6 r7 r8
  refine ⟨h5.trans ?_, h6.trans ?_, h7.trans ?_, h8.trans ?_, hk⟩
  · rw [Reference23Ideal.Read.val_main_v9_eq, e1, e2]; exact ext2 r5 a5 fun _ _ _ _ => rfl
  · rw [Reference23Ideal.Read.val_main_v33_eq, e0, e1, e2, e3, e4]; exact ext2 r6 a6 fun _ _ _ _ => rfl
  · rw [Reference23Ideal.Read.val_main_v14_eq, e1, e2, e3]; exact ext2 r7 a7 fun _ _ _ _ => rfl
  · rw [Reference23Ideal.Read.val_main_v20_eq, e1, e2, e4]; exact ext2 r8 a8 fun _ _ _ _ => rfl

end Cert.Adam
end
-- ==== Proof.AdamDown.lean ====
module

public import proofs.«01_k».proof.Proof.Gen.Kernel24.Frame
public import proofs.«01_k».proof.Proof.Gen.Kernel24Ideal.Frame
public import proofs.«01_k».proof.Proof.Gen.Reference24Ideal.Read
public import proofs.«01_k».proof.Proof.Gen.Pre_one_of_four24
public import proofs.«01_k».proof.Proof.MixEquation
public import proofs.«01_k».proof.Proof.AdamStep
public import Idealize.ShloMosaic.Lib.Pipeline.ReadBack

/-! # The first layer's step of a stacked weight

The stack is taken one layer and 64 rows at a time. The layers that are not written keep what they held. -/

@[expose] public section

set_option maxRecDepth 16384

noncomputable section

namespace Cert.Adam

open Idealize.ShloMosaic Cert.Mix
open Kernel2Ideal.Mix (arr3 is3_block eq_block3)

section Stack

variable {P R K N : ℕ} {p s : Fin N → ℕ} {e : Fin N → (⟨3, ![1, 64, K]⟩ : Shape).Idx → (⟨3, ![P, R, K]⟩ : Shape).Idx}
  (he : ∀ t, Rows3 P 1 R K (p t) (s t) (e t)) {A : (⟨3, ![P, R, K]⟩ : Shape).Idx → EReal}
include he

/-- What is written of a stack, block by block, is read back. -/
theorem stack_on {B : Fin N → (⟨3, ![1, 64, K]⟩ : Shape).Idx → EReal} {f : ℕ → Mat} (hB : ∀ t, Is3 (B t) (fun _ r k => f (p t) (64 * s t + r) k))
    (hA : ∀ G : (⟨3, ![P, R, K]⟩ : Shape).Idx → EReal, (∀ t, B t = fun j => G (e t j)) → ∀ t y, A (e t y) = G (e t y))
    (q : Fin P) (r : Fin R) (k : Fin K) (t : Fin N) (hp : p t = q.val) (hs : s t = r.val / 64) : A (ix3 q r k) = f q.val r.val k.val := by
  have hi : e t (ix3 0 ⟨r.val % 64, Nat.mod_lt _ (by decide)⟩ k) = ix3 q r k := funext fun a => by
    obtain ⟨h0, h1, h2⟩ := he t 0 ⟨r.val % 64, Nat.mod_lt _ (by decide)⟩ k
    match a with
    | ⟨0, _⟩ => exact Fin.ext (h0.trans (by rw [hp]; rfl))
    | ⟨1, _⟩ => exact Fin.ext (h1.trans (by rw [hs]; exact Nat.div_add_mod r.val 64))
    | ⟨2, _⟩ => exact Fin.ext h2
  rw [← hi, hA (arr3 P R K f) (fun t => eq_block3 (hB t) (e t) fun q r k => by
    obtain ⟨h0, h1, h2⟩ := he t q r k
    rw [h0, h1, h2, Subsingleton.elim q 0]; rfl) t, hi]
  rfl

/-- A layer without a block keeps what it held. -/
theorem stack_off {A0 : (⟨3, ![P, R, K]⟩ : Shape).Idx → EReal} (hA : ∀ i, (∀ t y, e t y ≠ i) → A i = A0 i) (q : Fin P) (r : Fin R) (k : Fin K) (hq : ∀ t, p t ≠ q.val) :
    A (ix3 q r k) = A0 (ix3 q r k) :=
  hA _ fun t y h => hq t (by
    have h0 := (he t (y 0) (y 1) (y 2)).1
    rw [Idealize.ShloMosaic.ix3_eta y, h] at h0
    exact (h0.trans (congrArg (fun a : Fin 1 => p t + a.val) (Subsingleton.elim (α := Fin 1) (y 0) 0))).symm)

end Stack

/-- The stack with its first layer replaced. -/
def fstL (f : Mat) (P : ℕ → Mat) : ℕ → Mat := fun q r k => if q = 0 then f r k else P q r k

/-- A stack of which only the first layer is written, 64 rows at a point. -/
theorem first_written {P R K N : ℕ} (hN : 64 * N = R) {e : Fin N → (⟨3, ![1, 64, K]⟩ : Shape).Idx → (⟨3, ![P, R, K]⟩ : Shape).Idx} (he : ∀ t, Rows3 P 1 R K 0 t.val (e t))
    {B : Fin N → (⟨3, ![1, 64, K]⟩ : Shape).Idx → EReal} {f : Mat} (hB : ∀ t, Is3 (B t) (fun _ r k => f (64 * t.val + r) k)) {A A0 : (⟨3, ![P, R, K]⟩ : Shape).Idx → EReal}
    {F0 : ℕ → Mat} (h0 : Is3 A0 F0) (hA : ∀ G : (⟨3, ![P, R, K]⟩ : Shape).Idx → EReal, (∀ t, B t = fun j => G (e t j)) → ∀ t y, A (e t y) = G (e t y))
    (hA0 : ∀ i, (∀ t y, e t y ≠ i) → A i = A0 i) : Is3 A (fstL f F0) := fun q r k => by
  unfold fstL
  split
  · rename_i hq
    have hr : r.val < R := r.isLt
    exact stack_on (f := fun _ => f) he hB hA q r k ⟨r.val / 64, by omega⟩ hq.symm rfl
  · rename_i hq
    rw [stack_off he hA0 q r k fun _ h => hq h.symm, h0]

end Cert.Adam

namespace Cert.Kernel24.Adam

open Kernel24 Kernel24.Gen
open Idealize.ShloMosaic TcCoe

set_option backward.proofsInPublic true in
/-- The table that holds one word. -/
def word (w : BitVec 32) : pre0.Contents (Elt Bits) := fun | ⟨0, _⟩ => fun _ => w | ⟨_ + 1, h⟩ => absurd h (by simp)

theorem ok_word {w : BitVec 32} (h : Cert.Adam.Four w) : ok0 (F := Bits) (word w) := by
  rcases h with rfl | rfl | rfl | rfl <;> decide

theorem tbl_word (m : (l : Loc nD τ sig) → Buf (Elt Bits) l) : tbl m = word (m (((0 : Dev nD).tc : Thread nD τ).loc main_arg5) (ix1 (n0 := 1) 0)) := by
  funext j x
  match j with
  | ⟨0, _⟩ =>
    show m (((0 : Dev nD).tc : Thread nD τ).loc main_arg5) x = m _ _
    rw [Cert.Adam.one_index x]

theorem ok_of_pre (m : (l : Loc nD τ sig) → Buf (Elt Bits) l) (h : Pre_Kernel24 m) : Ok (F := Bits) m := by
  unfold Ok
  rw [tbl_word m]
  exact ok_word (Cert.Adam.four_of_bits (congrFun (h 0) (ix1 (n0 := 1) 0)))

end Cert.Kernel24.Adam

namespace Cert.Kernel24Ideal.Adam

open Kernel24Ideal Kernel24Ideal.Gen Cert.Mix Cert.Adam
open Idealize.ShloMosaic TcCoe Idealize.SL.Sem

set_option backward.proofsInPublic true in
/-- The table that holds one word. -/
def word (w : BitVec 32) : pre0.Contents (Elt Ideal) := fun | ⟨0, _⟩ => fun _ => w | ⟨_ + 1, h⟩ => absurd h (by simp)

theorem ok_word {w : BitVec 32} (h : Cert.Adam.Four w) : ok0 (F := Ideal) (word w) := by
  rcases h with rfl | rfl | rfl | rfl <;> decide

variable (m : (l : Loc nD τ sig) → Buf (Elt Ideal) l)

/-- The number in the table. -/
def chip : BitVec 32 := m (((0 : Dev nD).tc : Thread nD τ).loc main_arg5) (ix1 (n0 := 1) 0)

theorem tbl_word : tbl m = word (chip m) := by
  funext j x
  match j with
  | ⟨0, _⟩ =>
    show m (((0 : Dev nD).tc : Thread nD τ).loc main_arg5) x = m _ _
    rw [one_index x]

theorem chip_of_pre (h : Pre_Kernel24Ideal m) : Four (chip m) :=
  four_of_bits (congrFun (h 0) (ix1 (n0 := 1) 0))

theorem ok_of_pre (h : Pre_Kernel24Ideal m) : Ok (F := Ideal) m := by
  unfold Ok
  rw [tbl_word m]
  exact ok_word (chip_of_pre m h)

section Tile

variable (c : Dev nD) (i : grid0.Coords) (a3 : Memref sig .tc .vmem S1x64x2048 .f32) (b3 : a3.IsWhole) (a4 : Memref sig .tc .vmem S1x64x2048 .f32) (b4 : a4.IsWhole) (a5 : Memref sig .tc .vmem S1x64x2048 .f32) (b5 : a5.IsWhole) (a6 : Memref sig .tc .vmem S1x64x2048 .bf16) (b6 : a6.IsWhole)
  (a7 : Memref sig .tc .vmem S3x64x2048 .bf16) (b7 : a7.IsWhole) (a12 : Memref sig .tc .vmem S1x64x2048 .f32) (b12 : a12.IsWhole) (a13 : Memref sig .tc .vmem S1x64x2048 .f32) (b13 : a13.IsWhole) (a14 : Memref sig .tc .vmem S1x64x2048 .f32) (b14 : a14.IsWhole) (a15 : Memref sig .tc .vmem S1x64x2048 .f32) (b15 : a15.IsWhole)
  {w x y : Vec Ideal S1x64x2048 .f32} {h : Vec Ideal S1x64x2048 .bf16} {o : Vec Ideal S3x64x2048 .bf16} (xt : TbBuf0 (F := Ideal) c tbM0_0)
  {W X Y H O : ℕ → Mat} (hw : Is3 w W) (hx : Is3 x X) (hy : Is3 y Y) (hh : Is3 h H) (ho : Is3 o O)

include hw hh ho hx hy in
theorem tile : Is3 (out0_A_5 c i a3 b3 a4 b4 a5 b5 a6 b6 a7 b7 a12 b12 a13 b13 a14 b14 a15 b15 w x y h o xt) (fun _ => gS 0 H O)
    ∧ Is3 (out0_A_6 c i a3 b3 a4 b4 a5 b5 a6 b6 a7 b7 a12 b12 a13 b13 a14 b14 a15 b15 w x y h o xt) (fun _ => dS (W 0) (gS 0 H O) (X 0) (Y 0))
    ∧ Is3 (out0_A_7 c i a3 b3 a4 b4 a5 b5 a6 b6 a7 b7 a12 b12 a13 b13 a14 b14 a15 b15 w x y h o xt) (fun _ => mS (gS 0 H O) (X 0))
    ∧ Is3 (out0_A_8 c i a3 b3 a4 b4 a5 b5 a6 b6 a7 b7 a12 b12 a13 b13 a14 b14 a15 b15 w x y h o xt) (fun _ => vS (gS 0 H O) (Y 0)) := by
  refine ⟨?_, ?_, ?_, ?_⟩ <;> frame_out
  all_goals intro q r k
  · pointwise [k0_pay7, k0_pay6]
    rw [hh, ho, ho, ho]
    rfl
  · pointwise [k0_pay1, k0_pay2, k0_pay3, k0_pay6, k0_pay8, k0_pay9, k0_pay10]
    rw [hh, ho, ho, ho, hw, hx, hy]
    rfl
  · pointwise [k0_pay4, k0_pay1, k0_pay6, k0_pay10]
    rw [hh, ho, ho, ho, hx]
    rfl
  · pointwise [k0_pay5, k0_pay2, k0_pay6, k0_pay9]
    rw [hh, ho, ho, ho, hy]
    rfl

end Tile

section Arr

variable (hO : Ok m) (c : Dev nD) {W X Y H O : ℕ → Mat}

theorem rows : ∀ t : Fin grid0.N, (cc0_transform_0 (grid0.coords t) 0 = 0 ∧ cc0_transform_0 (grid0.coords t) 1 = t.val ∧ cc0_transform_0 (grid0.coords t) 2 = 0)
    ∧ cc0_transform_4 (grid0.coords t) 0 = 0 ∧ cc0_transform_4 (grid0.coords t) 1 = t.val := by decide +kernel

/-- Where each window's block lies. -/
theorem place (t : Fin (cfgM m hO).N) :
    (Rows3 4 1 704 2048 0 t.val (((cfgM m hO).win 0).blk t).view.emb ∧ Rows3 4 1 704 2048 0 t.val (((cfgM m hO).win 1).blk t).view.emb
      ∧ Rows3 4 1 704 2048 0 t.val (((cfgM m hO).win 2).blk t).view.emb ∧ Rows3 4 1 704 2048 (chip m).toNat t.val (((cfgM m hO).win 3).blk t).view.emb
      ∧ Rows3 3 3 704 2048 0 t.val (((cfgM m hO).win 4).blk t).view.emb)
    ∧ Rows3 4 1 704 2048 0 t.val (((cfgM m hO).win 5).blk t).view.emb ∧ Rows3 4 1 704 2048 0 t.val (((cfgM m hO).win 6).blk t).view.emb
      ∧ Rows3 4 1 704 2048 0 t.val (((cfgM m hO).win 7).blk t).view.emb ∧ Rows3 4 1 704 2048 0 t.val (((cfgM m hO).win 8).blk t).view.emb := by
  obtain ⟨⟨l0, l1, l2⟩, l3, l4⟩ := rows t
  have e1 : ((cfgM m hO).win 3).index t (0 : Fin 3) * 1 = (chip m).toNat := by
    show cc0_transform_3 _ _ (tbl m) (grid0.coords t) 0 * 1 = _
    rw [tbl_word, Nat.mul_one]
    rfl
  have e2 : cc0_transform_0 (grid0.coords t) 0 * 1 = 0 := by rw [l0]
  refine ⟨⟨Rows3.of ⟨l1, l2⟩ e2 (fun x => ?_) (fun x => ?_) fun x => ?_, Rows3.of ⟨l1, l2⟩ e2 (fun x => ?_) (fun x => ?_) fun x => ?_,
    Rows3.of ⟨l1, l2⟩ e2 (fun x => ?_) (fun x => ?_) fun x => ?_, Rows3.of ⟨l4, l2⟩ e1 (fun x => ?_) (fun x => ?_) fun x => ?_,
    Rows3.of ⟨l4, l2⟩ (j := cc0_transform_4 (grid0.coords t) 0) (by rw [l3]) (fun x => ?_) (fun x => ?_) fun x => ?_⟩,
    Rows3.of ⟨l1, l2⟩ e2 (fun x => ?_) (fun x => ?_) fun x => ?_, Rows3.of ⟨l1, l2⟩ e2 (fun x => ?_) (fun x => ?_) fun x => ?_,
    Rows3.of ⟨l1, l2⟩ e2 (fun x => ?_) (fun x => ?_) fun x => ?_, Rows3.of ⟨l1, l2⟩ e2 (fun x => ?_) (fun x => ?_) fun x => ?_⟩
  all_goals
    blk_simp <;> rfl

variable (hw : Is3 (n := 4) (k := 704) (l := 2048) (m ((c.tc : Thread nD τ).loc main_arg0)) W) (hh : Is3 (n := 4) (k := 704) (l := 2048) (m ((c.tc : Thread nD τ).loc main_arg1)) H)
  (ho : Is3 (n := 3) (k := 704) (l := 2048) (m ((c.tc : Thread nD τ).loc main_arg2)) O) (hx : Is3 (n := 4) (k := 704) (l := 2048) (m ((c.tc : Thread nD τ).loc main_arg3)) X)
  (hy : Is3 (n := 4) (k := 704) (l := 2048) (m ((c.tc : Thread nD τ).loc main_arg4)) Y)
include hw hh ho hx hy

theorem tiles (t : Fin (cfgM m hO).N) :
    Is3 (n := 1) (k := 64) (l := 2048) (outsAt0 m hO c t).1 (fun _ r k => gS (chip m).toNat H O (64 * t.val + r) k)
    ∧ Is3 (n := 1) (k := 64) (l := 2048) (outsAt0 m hO c t).2.1 (fun _ r k => dS (W 0) (gS (chip m).toNat H O) (X 0) (Y 0) (64 * t.val + r) k)
    ∧ Is3 (n := 1) (k := 64) (l := 2048) (outsAt0 m hO c t).2.2.1 (fun _ r k => mS (gS (chip m).toNat H O) (X 0) (64 * t.val + r) k)
    ∧ Is3 (n := 1) (k := 64) (l := 2048) (outsAt0 m hO c t).2.2.2 (fun _ r k => vS (gS (chip m).toNat H O) (Y 0) (64 * t.val + r) k) := by
  obtain ⟨⟨p0, p1, p2, p3, p4⟩, -⟩ := place m hO t
  have h := tile c (grid0.coords t) _ (hs0_0 m hO t) _ (hs0_1 m hO t) _ (hs0_2 m hO t) _ (hs0_3 m hO t) _ (hs0_4 m hO t)
    _ (hs0_5 m hO t) _ (hs0_6 m hO t) _ (hs0_7 m hO t) _ (hs0_8 m hO t) (tbl m 0)
    (p0.read hw) (p1.read hx) (p2.read hy) (p3.read hh) (by simpa only [Nat.zero_add] using p4.read ho)
  rw [gS_rows, dS_rows, mS_rows, vS_rows] at h
  unfold outsAt0
  dsimp only
  exact h

/-- The four results after the run. -/
theorem arrays {P0 P1 P2 P3 : ℕ → Mat} (q0 : Is3 (n := 4) (k := 704) (l := 2048) (m ((c.tc : Thread nD τ).loc main_arg6)) P0) (q1 : Is3 (n := 4) (k := 704) (l := 2048) (m ((c.tc : Thread nD τ).loc main_arg7)) P1)
    (q2 : Is3 (n := 4) (k := 704) (l := 2048) (m ((c.tc : Thread nD τ).loc main_arg8)) P2) (q3 : Is3 (n := 4) (k := 704) (l := 2048) (m ((c.tc : Thread nD τ).loc main_arg9)) P3) :
    Is3 (n := 4) (k := 704) (l := 2048) ((dats m hO 0 c).arrAt 5 (cfgM m hO).N) (fstL (gS (chip m).toNat H O) P0)
    ∧ Is3 (n := 4) (k := 704) (l := 2048) ((dats m hO 0 c).arrAt 6 (cfgM m hO).N) (fstL (dS (W 0) (gS (chip m).toNat H O) (X 0) (Y 0)) P1)
    ∧ Is3 (n := 4) (k := 704) (l := 2048) ((dats m hO 0 c).arrAt 7 (cfgM m hO).N) (fstL (mS (gS (chip m).toNat H O) (X 0)) P2)
    ∧ Is3 (n := 4) (k := 704) (l := 2048) ((dats m hO 0 c).arrAt 8 (cfgM m hO).N) (fstL (vS (gS (chip m).toNat H O) (Y 0)) P3) := by
  have ht := tiles m hO c hw hh ho hx hy
  have hN : 64 * (cfgM m hO).N = 704 := by rw [show (cfgM m hO).N = 11 from N_0]
  refine ⟨first_written hN (fun t => (place m hO t).2.1) (fun t => (ht t).1) q0 (fun G hG t y => (dats m hO 0 c).arrAt_apply_of_mem 5 G (fun t _ => (after0_5 m hO c t).trans (hG t)) _ t _ t.isLt (flush0_5 _ _) (View.emb_mem_set _ y)) fun i hi => (dats m hO 0 c).arrAt_apply_of_forall_not_mem 5 _ i fun t _ _ h => ?_,
    first_written hN (fun t => (place m hO t).2.2.1) (fun t => (ht t).2.1) q1 (fun G hG t y => (dats m hO 0 c).arrAt_apply_of_mem 6 G (fun t _ => (after0_6 m hO c t).trans (hG t)) _ t _ t.isLt (flush0_6 _ _) (View.emb_mem_set _ y)) fun i hi => (dats m hO 0 c).arrAt_apply_of_forall_not_mem 6 _ i fun t _ _ h => ?_,
    first_written hN (fun t => (place m hO t).2.2.2.1) (fun t => (ht t).2.2.1) q2 (fun G hG t y => (dats m hO 0 c).arrAt_apply_of_mem 7 G (fun t _ => (after0_7 m hO c t).trans (hG t)) _ t _ t.isLt (flush0_7 _ _) (View.emb_mem_set _ y)) fun i hi => (dats m hO 0 c).arrAt_apply_of_forall_not_mem 7 _ i fun t _ _ h => ?_,
    first_written hN (fun t => (place m hO t).2.2.2.2) (fun t => (ht t).2.2.2) q3 (fun G hG t y => (dats m hO 0 c).arrAt_apply_of_mem 8 G (fun t _ => (after0_8 m hO c t).trans (hG t)) _ t _ t.isLt (flush0_8 _ _) (View.emb_mem_set _ y)) fun i hi => (dats m hO 0 c).arrAt_apply_of_forall_not_mem 8 _ i fun t _ _ h => ?_⟩
  all_goals
    obtain ⟨y, hy⟩ := View.exists_emb_of_mem_set _ h
    exact hi t y hy

end Arr

end Cert.Kernel24Ideal.Adam

namespace Cert.Reference24Ideal.Adam

open Reference24Ideal Reference24Ideal.Gen Reference24Ideal.Read Cert.Mix Cert.Adam
open Idealize.ShloMosaic

/-- The new first layer before the others, as the stack with its first layer replaced. -/
theorem first_of {a : FVec Ideal S1x704x2048 .f32} {b : FVec Ideal S4x704x2048 .f32} {f : Mat} {P : ℕ → Mat} (ha : Is3 a fun _ => f) (hb : Is3 b P) :
    Is3 (concatenate S4x704x2048 0 [⟨S1x704x2048, a⟩, ⟨S3x704x2048, extractStridedSlice S3x704x2048 ![1, 0, 0] b slices_S4x704x2048_S3x704x2048_1_0_0⟩]
      concatenates_S1x704x2048_S3x704x2048_S4x704x2048_d0) (fstL f P) := fun q r k => by
  pointwise []
  unfold fstL
  split
  · rw [ha, if_pos (by omega)]
  · exact (hb _ _ _).trans ((congrArg (fun p => P p r.val k.val) (by show 1 + (q.val - 1) = q.val; omega)).trans (if_neg (by omega)).symm)

section

variable {w x y : FVec Ideal S4x704x2048 .f32} {h : FVec Ideal S4x704x2048 .bf16} {o : FVec Ideal S3x704x2048 .bf16} {n : IVec S1 32}
  {W X Y H O : ℕ → Mat} (hw : Is3 w W) (hh : Is3 h H) (ho : Is3 o O) (hx : Is3 x X) (hy : Is3 y Y)
  (hn : Four (n (ix1 (n0 := 1) 0)))

include hh ho hn in
theorem r14 : Is3 (val_main_v14 (F := Ideal) h o n) (fun _ => gS (n (ix1 (n0 := 1) 0)).toNat H O) := fun q r k => by
  simp only [val_main_v14, val_main_v13, val_main_v12, val_main_v11, val_main_v10, val_main_v9, val_main_v8, val_main_v7, val_main_v6, val_main_v5, val_main_v4, val_main_v3, val_main_cst, val_main_cst_0,
    val_main_cst_1, val_main_call0_v1, val_main_call0_v2, val_main_call0_v0]
  pointwise []
  simp only [hh _ _ _, ho _ _ _]
  rw [show (id (constant (F := Ideal) S_ FTy.f32 0#32) ix0 : EReal) = 0 from Ideal.ofBits_zero .f32]
  refine (congrArg (· + _) (pick hn fun p => H p r.val k.val)).trans ?_
  rw [Fin.sum_univ_three, gS, ← add_assoc, ← add_assoc]
  rfl

include hh ho hn hx in
theorem r19 : Is3 (val_main_v19 (F := Ideal) h o x n) (fun _ => mS (gS (n (ix1 (n0 := 1) 0)).toNat H O) (X 0)) := fun q r k => by
  simp only [val_main_v19, val_main_v18, val_main_v17, val_main_v16, val_main_v15, val_main_v1, val_main_cst_2, val_main_cst_3]
  pointwise []
  rw [r14 hh ho hn, hx]
  rw [Subsingleton.elim q 0]
  rfl

include hh ho hn hy in
theorem r25 : Is3 (val_main_v25 (F := Ideal) h o y n) (fun _ => vS (gS (n (ix1 (n0 := 1) 0)).toNat H O) (Y 0)) := fun q r k => by
  simp only [val_main_v25, val_main_v24, val_main_v23, val_main_v22, val_main_v21, val_main_v20, val_main_v2, val_main_cst_4, val_main_cst_5]
  pointwise []
  rw [r14 hh ho hn, hy]
  rw [Subsingleton.elim q 0]
  rfl

include hw hh ho hn hx hy in
theorem r38 : Is3 (val_main_v38 (F := Ideal) w h o x y n) (fun _ => dS (W 0) (gS (n (ix1 (n0 := 1) 0)).toNat H O) (X 0) (Y 0)) := fun q r k => by
  simp only [val_main_v38, val_main_v37, val_main_v36, val_main_v35, val_main_v34, val_main_v33, val_main_v32, val_main_v31, val_main_v30, val_main_v29,
    val_main_v28, val_main_v27, val_main_v26, val_main_v0, val_main_cst_6, val_main_cst_7, val_main_cst_8, val_main_cst_9, val_main_cst_10]
  pointwise []
  rw [r19 hh ho hx hn, r25 hh ho hy hn, hw]
  rw [Subsingleton.elim q 0]
  rfl

end

end Cert.Reference24Ideal.Adam

namespace Cert.Adam

open Idealize.ShloMosaic TcCoe Idealize.SL.Sem Cert.Mix
open Kernel24Ideal.Gen (dats cfgM)
open Kernel24Ideal (nD τ main_arg0 main_arg1 main_arg2 main_arg3 main_arg4 main_arg6 main_arg7 main_arg8 main_arg9)

theorem equation24 : algebraic_Kernel24Ideal_Reference24Ideal (hKernel24Ideal := Kernel24Ideal.Gen.facts)
    (hReference24Ideal := Reference24Ideal.Gen.facts) (hPre_one_of_four24 := Pre_one_of_four24.Gen.facts) := by
  intro m g m' g' hp he
  have hO := Kernel24Ideal.Adam.ok_of_pre m hp
  have hn := Kernel24Ideal.Adam.chip_of_pre m hp
  refine ⟨fun c => (dats (F := Ideal) m hO 0 c).arrAt 5 (cfgM m hO).N, fun c => (dats (F := Ideal) m hO 0 c).arrAt 6 (cfgM m hO).N,
    fun c => (dats (F := Ideal) m hO 0 c).arrAt 7 (cfgM m hO).N, fun c => (dats (F := Ideal) m hO 0 c).arrAt 8 (cfgM m hO).N, ?_, ?_⟩
  · exact (θ_run _ _ _).mono (fun r h c => ⟨(h.1 c).1 5, (h.1 c).1 6, (h.1 c).1 7, (h.1 c).1 8, h.2 c⟩)
      (θ_run_and (Kernel24Ideal.Gen.run_main m g hO) (Kernel24Ideal.Gen.unchanged m g hO))
  refine (θ_run _ _ _).mono (fun r h c => ?_) (Reference24Ideal.Value.run m' g')
  obtain ⟨e0, e1, e2, e3, e4, e5, e6, e7, e8, e9⟩ := he c
  obtain ⟨h5, h6, h7, h8, hk⟩ := h c
  have hw := is3_mat3 (n := 4) (k := 704) (l := 2048) (m ((c.tc : Thread nD τ).loc main_arg0))
  have hh := is3_mat3 (n := 4) (k := 704) (l := 2048) (m ((c.tc : Thread nD τ).loc main_arg1))
  have ho := is3_mat3 (n := 3) (k := 704) (l := 2048) (m ((c.tc : Thread nD τ).loc main_arg2))
  have hx := is3_mat3 (n := 4) (k := 704) (l := 2048) (m ((c.tc : Thread nD τ).loc main_arg3))
  have hy := is3_mat3 (n := 4) (k := 704) (l := 2048) (m ((c.tc : Thread nD τ).loc main_arg4))
  have q0 := is3_mat3 (n := 4) (k := 704) (l := 2048) (m ((c.tc : Thread nD τ).loc main_arg6))
  have q1 := is3_mat3 (n := 4) (k := 704) (l := 2048) (m ((c.tc : Thread nD τ).loc main_arg7))
  have q2 := is3_mat3 (n := 4) (k := 704) (l := 2048) (m ((c.tc : Thread nD τ).loc main_arg8))
  have q3 := is3_mat3 (n := 4) (k := 704) (l := 2048) (m ((c.tc : Thread nD τ).loc main_arg9))
  have hc : c = 0 := Subsingleton.elim (α := Fin 1) c 0
  have e5' : m' ((c.tc : Thread Reference24Ideal.nD Reference24Ideal.τ).loc Reference24Ideal.main_arg5) (ix1 (n0 := 1) 0) = Kernel24Ideal.Adam.chip m := by
    rw [e5, hc]
    rfl
  have hn' := hn
  rw [← e5'] at hn'
  obtain ⟨a5, a6, a7, a8⟩ := Kernel24Ideal.Adam.arrays m hO c hw hh ho hx hy q0 q1 q2 q3
  have r5 := Reference24Ideal.Adam.first_of (Reference24Ideal.Adam.r14 hh ho hn') q0
  have r6 := Reference24Ideal.Adam.first_of (Reference24Ideal.Adam.r38 hw hh ho hx hy hn') q1
  have r7 := Reference24Ideal.Adam.first_of (Reference24Ideal.Adam.r19 hh ho hx hn') q2
  have r8 := Reference24Ideal.Adam.first_of (Reference24Ideal.Adam.r25 hh ho hy hn') q3
  rw [e5'] at r5 r6 r7 r8
  refine ⟨h5.trans ?_, h6.trans ?_, h7.trans ?_, h8.trans ?_, hk⟩
  · rw [Reference24Ideal.Read.val_main_v40_eq, e1, e2, e6]; exact ext3 r5 a5 fun _ _ _ _ _ _ => rfl
  · rw [Reference24Ideal.Read.val_main_v42_eq, e0, e1, e2, e3, e4, e7]; exact ext3 r6 a6 fun _ _ _ _ _ _ => rfl
  · rw [Reference24Ideal.Read.val_main_v44_eq, e1, e2, e3, e8]; exact ext3 r7 a7 fun _ _ _ _ _ _ => rfl
  · rw [Reference24Ideal.Read.val_main_v46_eq, e1, e2, e4, e9]; exact ext3 r8 a8 fun _ _ _ _ _ _ => rfl

end Cert.Adam

end
-- ==== Proof.AdamUpper.lean ====
module

public import proofs.«01_k».proof.Proof.Gen.Kernel25.Frame
public import proofs.«01_k».proof.Proof.Gen.Kernel25Ideal.Frame
public import proofs.«01_k».proof.Proof.Gen.Reference25Ideal.Read
public import proofs.«01_k».proof.Proof.Gen.Pre_one_of_four25
public import proofs.«01_k».proof.Proof.AdamDown

/-! # The upper three layers' step of a stacked weight

Each layer has arrays of its own, of which the grid takes the blocks while it is at that layer. -/

@[expose] public section

set_option maxRecDepth 16384

noncomputable section

namespace Cert.Adam

/-- One of three, by a layer's number. -/
def three {α : Type} (a b c : α) : ℕ → α := fun | 0 => a | 1 => b | _ => c
/-- The rows at which the grid takes the arrays of a layer: its own while it is at the layer. -/
def sel (l t : ℕ) : ℕ := if t / 11 = l then t % 11 else 0

end Cert.Adam

namespace Cert.Kernel25.Adam

open Kernel25 Kernel25.Gen
open Idealize.ShloMosaic TcCoe

set_option backward.proofsInPublic true in
/-- The table that holds one word. -/
def word (w : BitVec 32) : pre0.Contents (Elt Bits) := fun | ⟨0, _⟩ => fun _ => w | ⟨_ + 1, h⟩ => absurd h (by simp)

theorem ok_word {w : BitVec 32} (h : Cert.Adam.Four w) : ok0 (F := Bits) (word w) := by
  rcases h with rfl | rfl | rfl | rfl <;> decide

theorem ok_of_pre (m : (l : Loc nD τ sig) → Buf (Elt Bits) l) (h : Pre_Kernel25 m) : Ok (F := Bits) m := by
  have e : tbl m = word (m (((0 : Dev nD).tc : Thread nD τ).loc main_arg9) (ix1 (n0 := 1) 0)) := by
    funext j x
    match j with
    | ⟨0, _⟩ =>
      show m (((0 : Dev nD).tc : Thread nD τ).loc main_arg9) x = m _ _
      rw [Cert.Adam.one_index x]
  unfold Ok
  rw [e]
  exact ok_word (Cert.Adam.four_of_bits (congrFun (h 0) (ix1 (n0 := 1) 0)))

end Cert.Kernel25.Adam

namespace Cert.Kernel25Ideal.Adam

open Kernel25Ideal Kernel25Ideal.Gen Cert.Mix Cert.Adam
open Idealize.ShloMosaic TcCoe Idealize.SL.Sem

set_option backward.proofsInPublic true in
/-- The table that holds one word. -/
def word (w : BitVec 32) : pre0.Contents (Elt Ideal) := fun | ⟨0, _⟩ => fun _ => w | ⟨_ + 1, h⟩ => absurd h (by simp)

theorem ok_word {w : BitVec 32} (h : Cert.Adam.Four w) : ok0 (F := Ideal) (word w) := by
  rcases h with rfl | rfl | rfl | rfl <;> decide

variable (m : (l : Loc nD τ sig) → Buf (Elt Ideal) l)

/-- The number in the table. -/
def chip : BitVec 32 := m (((0 : Dev nD).tc : Thread nD τ).loc main_arg9) (ix1 (n0 := 1) 0)

theorem tbl_word : tbl m = word (chip m) := by
  funext j x
  match j with
  | ⟨0, _⟩ =>
    show m (((0 : Dev nD).tc : Thread nD τ).loc main_arg9) x = m _ _
    rw [one_index x]

theorem chip_of_pre (h : Pre_Kernel25Ideal m) : Four (chip m) :=
  four_of_bits (congrFun (h 0) (ix1 (n0 := 1) 0))

theorem ok_of_pre (h : Pre_Kernel25Ideal m) : Ok (F := Ideal) m := by
  unfold Ok
  rw [tbl_word m]
  exact ok_word (chip_of_pre m h)

section Tile

variable (c : Dev nD) (i : grid0.Coords) (a3 : Memref sig .tc .vmem S1x64x2048 .f32) (b3 : a3.IsWhole) (a4 : Memref sig .tc .vmem S1x64x2048 .f32) (b4 : a4.IsWhole) (a5 : Memref sig .tc .vmem S1x64x2048 .f32) (b5 : a5.IsWhole) (a6 : Memref sig .tc .vmem S1x64x2048 .bf16) (b6 : a6.IsWhole) (a7 : Memref sig .tc .vmem S1x64x2048 .bf16) (b7 : a7.IsWhole) (a8 : Memref sig .tc .vmem S1x64x2048 .bf16) (b8 : a8.IsWhole) (a9 : Memref sig .tc .vmem S3x64x2048 .bf16) (b9 : a9.IsWhole) (a10 : Memref sig .tc .vmem S3x64x2048 .bf16) (b10 : a10.IsWhole) (a11 : Memref sig .tc .vmem S3x64x2048 .bf16) (b11 : a11.IsWhole) (a12 : Memref sig .tc .vmem S1x64x2048 .f32) (b12 : a12.IsWhole) (a13 : Memref sig .tc .vmem S1x64x2048 .f32) (b13 : a13.IsWhole) (a14 : Memref sig .tc .vmem S1x64x2048 .f32) (b14 : a14.IsWhole) (a15 : Memref sig .tc .vmem S1x64x2048 .f32) (b15 : a15.IsWhole)
  {w x y : Vec Ideal S1x64x2048 .f32} {h0 h1 h2 : Vec Ideal S1x64x2048 .bf16} {o0 o1 o2 : Vec Ideal S3x64x2048 .bf16} (xt : TbBuf0 (F := Ideal) c tbM0_0)
  {W X Y H O : ℕ → Mat} (hw : Is3 w W) (hx : Is3 x X) (hy : Is3 y Y)
  (hl : (i 0).val = 0 ∧ Is3 h0 H ∧ Is3 o0 O ∨ (i 0).val = 1 ∧ Is3 h1 H ∧ Is3 o1 O ∨ (i 0).val = 2 ∧ Is3 h2 H ∧ Is3 o2 O)

include hl hw hx hy in
theorem tile : Is3 (out0_A_9 c i a3 b3 a4 b4 a5 b5 a6 b6 a7 b7 a8 b8 a9 b9 a10 b10 a11 b11 a12 b12 a13 b13 a14 b14 a15 b15 w x y h0 h1 h2 o0 o1 o2 xt) (fun _ => gS 0 H O)
    ∧ Is3 (out0_A_10 c i a3 b3 a4 b4 a5 b5 a6 b6 a7 b7 a8 b8 a9 b9 a10 b10 a11 b11 a12 b12 a13 b13 a14 b14 a15 b15 w x y h0 h1 h2 o0 o1 o2 xt) (fun _ => dS (W 0) (gS 0 H O) (X 0) (Y 0))
    ∧ Is3 (out0_A_11 c i a3 b3 a4 b4 a5 b5 a6 b6 a7 b7 a8 b8 a9 b9 a10 b10 a11 b11 a12 b12 a13 b13 a14 b14 a15 b15 w x y h0 h1 h2 o0 o1 o2 xt) (fun _ => mS (gS 0 H O) (X 0))
    ∧ Is3 (out0_A_12 c i a3 b3 a4 b4 a5 b5 a6 b6 a7 b7 a8 b8 a9 b9 a10 b10 a11 b11 a12 b12 a13 b13 a14 b14 a15 b15 w x y h0 h1 h2 o0 o1 o2 xt) (fun _ => vS (gS 0 H O) (Y 0)) := by
  refine ⟨?_, ?_, ?_, ?_⟩ <;> frame_out
  all_goals
    intro q r k
    rcases hl with ⟨hl, hh, ho⟩ | ⟨hl, hh, ho⟩ | ⟨hl, hh, ho⟩
  all_goals
    pointwise [k0_pay1, k0_pay2, k0_pay3, k0_pay4, k0_pay5, k0_pay6, k0_pay7, k0_pay8, k0_pay9, k0_pay10, k0_pay11, k0_pay12, k0_pay13]
    simp only [hl, hh _ _ _, ho _ _ _, hw _ _ _, hx _ _ _, hy _ _ _]
    rfl

end Tile

section Arr

variable (hO : Ok m) (c : Dev nD) {W X Y : ℕ → Mat} {H O : ℕ → ℕ → Mat}

theorem rows : ∀ t : Fin grid0.N, (cc0_transform_0 (grid0.coords t) 0 = 1 + t.val / 11 ∧ cc0_transform_0 (grid0.coords t) 1 = t.val % 11 ∧ cc0_transform_0 (grid0.coords t) 2 = 0)
    ∧ (cc0_transform_6 (grid0.coords t) 0 = 0 ∧ cc0_transform_6 (grid0.coords t) 1 = sel 0 t.val) ∧ (cc0_transform_7 (grid0.coords t) 0 = 0 ∧ cc0_transform_7 (grid0.coords t) 1 = sel 1 t.val)
    ∧ (cc0_transform_8 (grid0.coords t) 0 = 0 ∧ cc0_transform_8 (grid0.coords t) 1 = sel 2 t.val) ∧ (grid0.coords t 0).val = t.val / 11 := by decide +kernel

/-- Where each window's block lies. -/
theorem place (t : Fin (cfgM m hO).N) :
    (Rows3 4 1 704 2048 (1 + t.val / 11) (t.val % 11) (((cfgM m hO).win 0).blk t).view.emb
      ∧ Rows3 4 1 704 2048 (1 + t.val / 11) (t.val % 11) (((cfgM m hO).win 1).blk t).view.emb
      ∧ Rows3 4 1 704 2048 (1 + t.val / 11) (t.val % 11) (((cfgM m hO).win 2).blk t).view.emb
      ∧ Rows3 4 1 704 2048 (chip m).toNat (sel 0 t.val) (((cfgM m hO).win 3).blk t).view.emb
      ∧ Rows3 4 1 704 2048 (chip m).toNat (sel 1 t.val) (((cfgM m hO).win 4).blk t).view.emb
      ∧ Rows3 4 1 704 2048 (chip m).toNat (sel 2 t.val) (((cfgM m hO).win 5).blk t).view.emb
      ∧ Rows3 3 3 704 2048 0 (sel 0 t.val) (((cfgM m hO).win 6).blk t).view.emb
      ∧ Rows3 3 3 704 2048 0 (sel 1 t.val) (((cfgM m hO).win 7).blk t).view.emb
      ∧ Rows3 3 3 704 2048 0 (sel 2 t.val) (((cfgM m hO).win 8).blk t).view.emb)
    ∧ Rows3 4 1 704 2048 (1 + t.val / 11) (t.val % 11) (((cfgM m hO).win 9).blk t).view.emb
      ∧ Rows3 4 1 704 2048 (1 + t.val / 11) (t.val % 11) (((cfgM m hO).win 10).blk t).view.emb
      ∧ Rows3 4 1 704 2048 (1 + t.val / 11) (t.val % 11) (((cfgM m hO).win 11).blk t).view.emb
      ∧ Rows3 4 1 704 2048 (1 + t.val / 11) (t.val % 11) (((cfgM m hO).win 12).blk t).view.emb := by
  obtain ⟨⟨l0, l1, l2⟩, ⟨z0, s0⟩, ⟨z1, s1⟩, ⟨z2, s2⟩, -⟩ := rows t
  have e : cc0_transform_0 (grid0.coords t) 0 * 1 = 1 + t.val / 11 := by rw [l0, Nat.mul_one]
  have e3 : ((cfgM m hO).win 3).index t (0 : Fin 3) * 1 = (chip m).toNat := by
    show cc0_transform_3 _ _ (tbl m) (grid0.coords t) 0 * 1 = _
    rw [tbl_word, Nat.mul_one]
    rfl
  have e4 : ((cfgM m hO).win 4).index t (0 : Fin 3) * 1 = (chip m).toNat := e3
  have e5 : ((cfgM m hO).win 5).index t (0 : Fin 3) * 1 = (chip m).toNat := e3
  refine ⟨⟨Rows3.of ⟨l1, l2⟩ e (fun x => ?_) (fun x => ?_) fun x => ?_,
      Rows3.of ⟨l1, l2⟩ e (fun x => ?_) (fun x => ?_) fun x => ?_,
      Rows3.of ⟨l1, l2⟩ e (fun x => ?_) (fun x => ?_) fun x => ?_,
      Rows3.of ⟨s0, l2⟩ e3 (fun x => ?_) (fun x => ?_) fun x => ?_,
      Rows3.of ⟨s1, l2⟩ e4 (fun x => ?_) (fun x => ?_) fun x => ?_,
      Rows3.of ⟨s2, l2⟩ e5 (fun x => ?_) (fun x => ?_) fun x => ?_,
      Rows3.of ⟨s0, l2⟩ (j := cc0_transform_6 (grid0.coords t) 0) (by rw [z0]) (fun x => ?_) (fun x => ?_) fun x => ?_,
      Rows3.of ⟨s1, l2⟩ (j := cc0_transform_7 (grid0.coords t) 0) (by rw [z1]) (fun x => ?_) (fun x => ?_) fun x => ?_,
      Rows3.of ⟨s2, l2⟩ (j := cc0_transform_8 (grid0.coords t) 0) (by rw [z2]) (fun x => ?_) (fun x => ?_) fun x => ?_⟩,
    Rows3.of ⟨l1, l2⟩ e (fun x => ?_) (fun x => ?_) fun x => ?_,
      Rows3.of ⟨l1, l2⟩ e (fun x => ?_) (fun x => ?_) fun x => ?_,
      Rows3.of ⟨l1, l2⟩ e (fun x => ?_) (fun x => ?_) fun x => ?_,
      Rows3.of ⟨l1, l2⟩ e (fun x => ?_) (fun x => ?_) fun x => ?_⟩
  all_goals
    blk_simp <;> rfl

variable (hw : Is3 (n := 4) (k := 704) (l := 2048) (m ((c.tc : Thread nD τ).loc main_arg0)) W)
  (hh0 : Is3 (n := 4) (k := 704) (l := 2048) (m ((c.tc : Thread nD τ).loc main_arg1)) (H 0)) (hh1 : Is3 (n := 4) (k := 704) (l := 2048) (m ((c.tc : Thread nD τ).loc main_arg2)) (H 1)) (hh2 : Is3 (n := 4) (k := 704) (l := 2048) (m ((c.tc : Thread nD τ).loc main_arg3)) (H 2))
  (ho0 : Is3 (n := 3) (k := 704) (l := 2048) (m ((c.tc : Thread nD τ).loc main_arg4)) (O 0)) (ho1 : Is3 (n := 3) (k := 704) (l := 2048) (m ((c.tc : Thread nD τ).loc main_arg5)) (O 1)) (ho2 : Is3 (n := 3) (k := 704) (l := 2048) (m ((c.tc : Thread nD τ).loc main_arg6)) (O 2))
  (hx : Is3 (n := 4) (k := 704) (l := 2048) (m ((c.tc : Thread nD τ).loc main_arg7)) X) (hy : Is3 (n := 4) (k := 704) (l := 2048) (m ((c.tc : Thread nD τ).loc main_arg8)) Y)
include hw hh0 hh1 hh2 ho0 ho1 ho2 hx hy

theorem tiles (t : Fin (cfgM m hO).N) :
    Is3 (n := 1) (k := 64) (l := 2048) (outsAt0 m hO c t).1 (fun _ r k => (gS (chip m).toNat (H (t.val / 11)) (O (t.val / 11))) (64 * (t.val % 11) + r) k)
    ∧ Is3 (n := 1) (k := 64) (l := 2048) (outsAt0 m hO c t).2.1 (fun _ r k => (dS (W (1 + t.val / 11)) (gS (chip m).toNat (H (t.val / 11)) (O (t.val / 11))) (X (1 + t.val / 11)) (Y (1 + t.val / 11))) (64 * (t.val % 11) + r) k)
    ∧ Is3 (n := 1) (k := 64) (l := 2048) (outsAt0 m hO c t).2.2.1 (fun _ r k => (mS (gS (chip m).toNat (H (t.val / 11)) (O (t.val / 11))) (X (1 + t.val / 11))) (64 * (t.val % 11) + r) k)
    ∧ Is3 (n := 1) (k := 64) (l := 2048) (outsAt0 m hO c t).2.2.2 (fun _ r k => (vS (gS (chip m).toNat (H (t.val / 11)) (O (t.val / 11))) (Y (1 + t.val / 11))) (64 * (t.val % 11) + r) k) := by
  obtain ⟨⟨p0, p1, p2, p3, p4, p5, p6, p7, p8⟩, -⟩ := place m hO t
  obtain ⟨-, -, -, -, hc⟩ := rows t
  have hl : t.val / 11 = 0 ∨ t.val / 11 = 1 ∨ t.val / 11 = 2 := by
    have := t.isLt
    have : (cfgM m hO).N = 33 := N_0
    omega
  have h := tile c (grid0.coords t) _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) _ (hs0_9 m hO t) _ (hs0_10 m hO t) _ (hs0_11 m hO t) _ (hs0_12 m hO t) (tbl m 0)
    (h0 := iblk m hO c 3 t) (h1 := iblk m hO c 4 t) (h2 := iblk m hO c 5 t) (o0 := iblk m hO c 6 t) (o1 := iblk m hO c 7 t) (o2 := iblk m hO c 8 t)
    (H := fun q r j => H (t.val / 11) ((chip m).toNat + q) (64 * (t.val % 11) + r) j) (O := fun q r j => O (t.val / 11) q (64 * (t.val % 11) + r) j)
    (p0.read hw) (p1.read hx) (p2.read hy) (by
      have a0 := p3.read hh0
      have a1 := p4.read hh1
      have a2 := p5.read hh2
      have b0 := p6.read ho0
      have b1 := p7.read ho1
      have b2 := p8.read ho2
      simp only [Nat.zero_add, sel] at a0 a1 a2 b0 b1 b2
      rw [hc]
      rcases hl with h | h | h
      · rw [if_pos h] at a0 b0
        rw [h]
        exact .inl ⟨rfl, a0, b0⟩
      · rw [if_pos h] at a1 b1
        rw [h]
        exact .inr (.inl ⟨rfl, a1, b1⟩)
      · rw [if_pos h] at a2 b2
        rw [h]
        exact .inr (.inr ⟨rfl, a2, b2⟩))
  rw [gS_rows, dS_rows, mS_rows, vS_rows] at h
  unfold outsAt0
  dsimp only
  exact h

/-- The upper layers of the four results after the run. -/
theorem arrays (q : Fin 3) (r : Fin 704) (k : Fin 2048) :
    (dats m hO 0 c).arrAt 9 (cfgM m hO).N (ix3 (n0 := 4) (n1 := 704) (n2 := 2048) ⟨1 + q.val, by omega⟩ r k) = (gS (chip m).toNat (H q.val) (O q.val)) r.val k.val
    ∧ (dats m hO 0 c).arrAt 10 (cfgM m hO).N (ix3 (n0 := 4) (n1 := 704) (n2 := 2048) ⟨1 + q.val, by omega⟩ r k) = (dS (W (1 + q.val)) (gS (chip m).toNat (H q.val) (O q.val)) (X (1 + q.val)) (Y (1 + q.val))) r.val k.val
    ∧ (dats m hO 0 c).arrAt 11 (cfgM m hO).N (ix3 (n0 := 4) (n1 := 704) (n2 := 2048) ⟨1 + q.val, by omega⟩ r k) = (mS (gS (chip m).toNat (H q.val) (O q.val)) (X (1 + q.val))) r.val k.val
    ∧ (dats m hO 0 c).arrAt 12 (cfgM m hO).N (ix3 (n0 := 4) (n1 := 704) (n2 := 2048) ⟨1 + q.val, by omega⟩ r k) = (vS (gS (chip m).toNat (H q.val) (O q.val)) (Y (1 + q.val))) r.val k.val := by
  have ht := tiles m hO c hw hh0 hh1 hh2 ho0 ho1 ho2 hx hy
  have hN : (cfgM m hO).N = 33 := N_0
  have hp : ∀ t : ℕ, 1 + t / 11 - 1 = t / 11 := fun t => Nat.add_sub_cancel_left ..
  have hq : 1 + q.val - 1 = q.val := Nat.add_sub_cancel_left ..
  have hi : 11 * q.val + r.val / 64 < (cfgM m hO).N := by omega
  have ha : 1 + (11 * q.val + r.val / 64) / 11 = 1 + q.val := by omega
  have hb : (11 * q.val + r.val / 64) % 11 = r.val / 64 := by omega
  refine ⟨(stack_on (f := fun p => gS (chip m).toNat (H (p - 1)) (O (p - 1))) (fun t => (place m hO t).2.1) (fun t => by simp only [hp]; exact (ht t).1) (fun G hG t y => (dats m hO 0 c).arrAt_apply_of_mem 9 G (fun t _ => (after0_9 m hO c t).trans (hG t)) _ t _ t.isLt (flush0_9 _ _) (View.emb_mem_set _ y)) ⟨1 + q.val, by omega⟩ r k ⟨_, hi⟩ ha hb).trans (by simp only [hq]),
      (stack_on (f := fun p => dS (W (1 + (p - 1))) (gS (chip m).toNat (H (p - 1)) (O (p - 1))) (X (1 + (p - 1))) (Y (1 + (p - 1)))) (fun t => (place m hO t).2.2.1) (fun t => by simp only [hp]; exact (ht t).2.1) (fun G hG t y => (dats m hO 0 c).arrAt_apply_of_mem 10 G (fun t _ => (after0_10 m hO c t).trans (hG t)) _ t _ t.isLt (flush0_10 _ _) (View.emb_mem_set _ y)) ⟨1 + q.val, by omega⟩ r k ⟨_, hi⟩ ha hb).trans (by simp only [hq]),
      (stack_on (f := fun p => mS (gS (chip m).toNat (H (p - 1)) (O (p - 1))) (X (1 + (p - 1)))) (fun t => (place m hO t).2.2.2.1) (fun t => by simp only [hp]; exact (ht t).2.2.1) (fun G hG t y => (dats m hO 0 c).arrAt_apply_of_mem 11 G (fun t _ => (after0_11 m hO c t).trans (hG t)) _ t _ t.isLt (flush0_11 _ _) (View.emb_mem_set _ y)) ⟨1 + q.val, by omega⟩ r k ⟨_, hi⟩ ha hb).trans (by simp only [hq]),
      (stack_on (f := fun p => vS (gS (chip m).toNat (H (p - 1)) (O (p - 1))) (Y (1 + (p - 1)))) (fun t => (place m hO t).2.2.2.2) (fun t => by simp only [hp]; exact (ht t).2.2.2) (fun G hG t y => (dats m hO 0 c).arrAt_apply_of_mem 12 G (fun t _ => (after0_12 m hO c t).trans (hG t)) _ t _ t.isLt (flush0_12 _ _) (View.emb_mem_set _ y)) ⟨1 + q.val, by omega⟩ r k ⟨_, hi⟩ ha hb).trans (by simp only [hq])⟩

end Arr

theorem inj : Function.Injective (Pipeline.arrRef spec0) := by decide

/-- A stack without its first layer. -/
def upper (A : FVec Ideal S4x704x2048 .f32) : FVec Ideal S3x704x2048 .f32 := extractStridedSlice S3x704x2048 ![1, 0, 0] A slices_S4x704x2048_S3x704x2048_1_0_0

theorem upper_apply (A : FVec Ideal S4x704x2048 .f32) (q : Fin 3) (r : Fin 704) (k : Fin 2048) : upper A (ix3 q r k) = A (ix3 (n0 := 4) (n1 := 704) (n2 := 2048) ⟨1 + q.val, by omega⟩ r k) := by
  unfold upper
  pointwise []

/-- What the lines after the call return. -/
theorem tails (hO : Ok m) (c : Dev nD) : Pipeline.afterTail pcfgs (fun _ => adm m hO) (dats m hO) 0 (V0 m) [hostOps1] c main_v1 = upper ((dats m hO 0 c).arrAt 9 (cfgM m hO).N)
    ∧ Pipeline.afterTail pcfgs (fun _ => adm m hO) (dats m hO) 0 (V0 m) [hostOps1] c main_v2 = upper ((dats m hO 0 c).arrAt 10 (cfgM m hO).N)
    ∧ Pipeline.afterTail pcfgs (fun _ => adm m hO) (dats m hO) 0 (V0 m) [hostOps1] c main_v3 = upper ((dats m hO 0 c).arrAt 11 (cfgM m hO).N)
    ∧ Pipeline.afterTail pcfgs (fun _ => adm m hO) (dats m hO) 0 (V0 m) [hostOps1] c main_v4 = upper ((dats m hO 0 c).arrAt 12 (cfgM m hO).N) := by
  refine ⟨?_, ?_, ?_, ?_⟩
  all_goals
    unfold Pipeline.afterTail
    simp only [hostOps1, List.flatten_cons, List.flatten_nil, List.append_nil]
    after_results
  · exact congrArg upper (Pipeline.withArrays_arr spec0 inj c _ _ 9)
  · exact congrArg upper (Pipeline.withArrays_arr spec0 inj c _ _ 10)
  · exact congrArg upper (Pipeline.withArrays_arr spec0 inj c _ _ 11)
  · exact congrArg upper (Pipeline.withArrays_arr spec0 inj c _ _ 12)

end Cert.Kernel25Ideal.Adam

namespace Cert.Reference25Ideal.Adam

open Reference25Ideal Reference25Ideal.Gen Reference25Ideal.Read Cert.Mix Cert.Adam
open Idealize.ShloMosaic

variable {w x y : FVec Ideal S4x704x2048 .f32} {h0 h1 h2 : FVec Ideal S4x704x2048 .bf16} {o0 o1 o2 : FVec Ideal S3x704x2048 .bf16} {n : IVec S1 32}
  {W X Y H0 H1 H2 O0 O1 O2 : ℕ → Mat} (hw : Is3 w W) (hh0 : Is3 h0 H0) (hh1 : Is3 h1 H1) (hh2 : Is3 h2 H2) (ho0 : Is3 o0 O0) (ho1 : Is3 o1 O1) (ho2 : Is3 o2 O2) (hx : Is3 x X) (hy : Is3 y Y)
  (hn : Four (n (ix1 (n0 := 1) 0)))

include hh0 hh1 hh2 in
theorem own (q : Fin 3) (p : Fin 4) (r : Fin 704) (k : Fin 2048) : val_main_v6 (F := Ideal) h0 h1 h2 (ix4 q p r k) = three H0 H1 H2 q.val p.val r.val k.val := by
  simp only [val_main_v6, val_main_v5, val_main_v4, val_main_v3]
  match q with
  | ⟨0, _⟩ => pointwise []; exact hh0 p r k
  | ⟨1, _⟩ => pointwise []; exact hh1 p r k
  | ⟨2, _⟩ => pointwise []; exact hh2 p r k

include ho0 ho1 ho2 in
theorem others (q p : Fin 3) (r : Fin 704) (k : Fin 2048) : val_main_v11 (F := Ideal) o0 o1 o2 (ix4 q p r k) = three O0 O1 O2 q.val p.val r.val k.val := by
  simp only [val_main_v11, val_main_v10, val_main_v9, val_main_v8]
  match q with
  | ⟨0, _⟩ => pointwise []; exact ho0 p r k
  | ⟨1, _⟩ => pointwise []; exact ho1 p r k
  | ⟨2, _⟩ => pointwise []; exact ho2 p r k

include hh0 hh1 hh2 ho0 ho1 ho2 hn

theorem r20 : Is3 (val_main_v20 (F := Ideal) h0 h1 h2 o0 o1 o2 n) (fun q => gS (n (ix1 (n0 := 1) 0)).toNat (three H0 H1 H2 q) (three O0 O1 O2 q)) := fun q r k => by
  simp only [val_main_v20, val_main_v19, val_main_v18, val_main_v17, val_main_v16, val_main_v15, val_main_v14, val_main_v13, val_main_v12, val_main_v7, val_main_cst, val_main_cst_0,
    val_main_cst_1, val_main_call0_v1, val_main_call0_v2, val_main_call0_v0]
  pointwise []
  simp only [own hh0 hh1 hh2, others ho0 ho1 ho2]
  rw [show (id (constant (F := Ideal) S_ FTy.f32 0#32) ix0 : EReal) = 0 from Ideal.ofBits_zero .f32]
  refine (congrArg (· + _) (pick hn fun p => three H0 H1 H2 q.val p r.val k.val)).trans ?_
  rw [Fin.sum_univ_three, gS, ← add_assoc, ← add_assoc]
  rfl

include hx in
theorem r25 : Is3 (val_main_v25 (F := Ideal) h0 h1 h2 o0 o1 o2 x n) (fun q => mS (gS (n (ix1 (n0 := 1) 0)).toNat (three H0 H1 H2 q) (three O0 O1 O2 q)) (X (1 + q))) := fun q r k => by
  simp only [val_main_v25, val_main_v24, val_main_v23, val_main_v22, val_main_v21, val_main_v1, val_main_cst_2, val_main_cst_3]
  pointwise []
  rw [r20 hh0 hh1 hh2 ho0 ho1 ho2 hn, hx]
  rfl

include hy in
theorem r31 : Is3 (val_main_v31 (F := Ideal) h0 h1 h2 o0 o1 o2 y n) (fun q => vS (gS (n (ix1 (n0 := 1) 0)).toNat (three H0 H1 H2 q) (three O0 O1 O2 q)) (Y (1 + q))) := fun q r k => by
  simp only [val_main_v31, val_main_v30, val_main_v29, val_main_v28, val_main_v27, val_main_v26, val_main_v2, val_main_cst_4, val_main_cst_5]
  pointwise []
  rw [r20 hh0 hh1 hh2 ho0 ho1 ho2 hn, hy]
  rfl

include hw hx hy in
theorem r44 : Is3 (val_main_v44 (F := Ideal) w h0 h1 h2 o0 o1 o2 x y n) (fun q => dS (W (1 + q)) (gS (n (ix1 (n0 := 1) 0)).toNat (three H0 H1 H2 q) (three O0 O1 O2 q)) (X (1 + q)) (Y (1 + q))) := fun q r k => by
  simp only [val_main_v44, val_main_v43, val_main_v42, val_main_v41, val_main_v40, val_main_v39, val_main_v38, val_main_v37, val_main_v36, val_main_v35,
    val_main_v34, val_main_v33, val_main_v32, val_main_v0, val_main_cst_6, val_main_cst_7, val_main_cst_8, val_main_cst_9, val_main_cst_10]
  pointwise []
  rw [r25 hh0 hh1 hh2 ho0 ho1 ho2 hx hn, r31 hh0 hh1 hh2 ho0 ho1 ho2 hy hn, hw]
  rfl

end Cert.Reference25Ideal.Adam

namespace Cert.Adam

open Idealize.ShloMosaic TcCoe Idealize.SL.Sem Cert.Mix
open Kernel25Ideal.Gen (dats cfgM)
open Kernel25Ideal (nD τ main_arg0 main_arg1 main_arg2 main_arg3 main_arg4 main_arg5 main_arg6 main_arg7 main_arg8)
open Kernel25Ideal.Adam (upper upper_apply)

theorem equation25 : algebraic_Kernel25Ideal_Reference25Ideal (hKernel25Ideal := Kernel25Ideal.Gen.facts)
    (hReference25Ideal := Reference25Ideal.Gen.facts) (hPre_one_of_four25 := Pre_one_of_four25.Gen.facts) := by
  intro m g m' g' hp he
  have hO := Kernel25Ideal.Adam.ok_of_pre m hp
  have hn := Kernel25Ideal.Adam.chip_of_pre m hp
  refine ⟨fun c => upper ((dats (F := Ideal) m hO 0 c).arrAt 9 (cfgM m hO).N),
    fun c => upper ((dats (F := Ideal) m hO 0 c).arrAt 10 (cfgM m hO).N),
    fun c => upper ((dats (F := Ideal) m hO 0 c).arrAt 11 (cfgM m hO).N),
    fun c => upper ((dats (F := Ideal) m hO 0 c).arrAt 12 (cfgM m hO).N), ?_, ?_⟩
  · refine (θ_run _ _ _).mono (fun r h c => ?_) (θ_run_and (Kernel25Ideal.Gen.run_main m g hO) (Kernel25Ideal.Gen.unchanged m g hO))
    obtain ⟨t1, t2, t3, t4⟩ := Kernel25Ideal.Adam.tails m hO c
    exact ⟨((h.1 c).2 Kernel25Ideal.main_v1 (by decide : Kernel25Ideal.main_v1 ∈ Pipeline.restRefs Kernel25Ideal.sig Kernel25Ideal.spec0)).trans t1,
      ((h.1 c).2 Kernel25Ideal.main_v2 (by decide : Kernel25Ideal.main_v2 ∈ Pipeline.restRefs Kernel25Ideal.sig Kernel25Ideal.spec0)).trans t2,
      ((h.1 c).2 Kernel25Ideal.main_v3 (by decide : Kernel25Ideal.main_v3 ∈ Pipeline.restRefs Kernel25Ideal.sig Kernel25Ideal.spec0)).trans t3,
      ((h.1 c).2 Kernel25Ideal.main_v4 (by decide : Kernel25Ideal.main_v4 ∈ Pipeline.restRefs Kernel25Ideal.sig Kernel25Ideal.spec0)).trans t4, h.2 c⟩
  refine (θ_run _ _ _).mono (fun r h c => ?_) (Reference25Ideal.Value.run m' g')
  obtain ⟨e0, e1, e2, e3, e4, e5, e6, e7, e8, e9⟩ := he c
  obtain ⟨h0, h1, h2, h3, hk⟩ := h c
  have hw := is3_mat3 (n := 4) (k := 704) (l := 2048) (m ((c.tc : Thread nD τ).loc main_arg0))
  have hh0 := is3_mat3 (n := 4) (k := 704) (l := 2048) (m ((c.tc : Thread nD τ).loc main_arg1))
  have hh1 := is3_mat3 (n := 4) (k := 704) (l := 2048) (m ((c.tc : Thread nD τ).loc main_arg2))
  have hh2 := is3_mat3 (n := 4) (k := 704) (l := 2048) (m ((c.tc : Thread nD τ).loc main_arg3))
  have ho0 := is3_mat3 (n := 3) (k := 704) (l := 2048) (m ((c.tc : Thread nD τ).loc main_arg4))
  have ho1 := is3_mat3 (n := 3) (k := 704) (l := 2048) (m ((c.tc : Thread nD τ).loc main_arg5))
  have ho2 := is3_mat3 (n := 3) (k := 704) (l := 2048) (m ((c.tc : Thread nD τ).loc main_arg6))
  have hx := is3_mat3 (n := 4) (k := 704) (l := 2048) (m ((c.tc : Thread nD τ).loc main_arg7))
  have hy := is3_mat3 (n := 4) (k := 704) (l := 2048) (m ((c.tc : Thread nD τ).loc main_arg8))
  have hc : c = 0 := Subsingleton.elim (α := Fin 1) c 0
  have e9' : m' ((c.tc : Thread Reference25Ideal.nD Reference25Ideal.τ).loc Reference25Ideal.main_arg9) (ix1 (n0 := 1) 0) = Kernel25Ideal.Adam.chip m := by
    rw [e9, hc]
    rfl
  have hn' := hn
  rw [← e9'] at hn'
  have a := Kernel25Ideal.Adam.arrays m hO c (H := three _ _ _) (O := three _ _ _) hw hh0 hh1 hh2 ho0 ho1 ho2 hx hy
  have r0 := Reference25Ideal.Adam.r20 hh0 hh1 hh2 ho0 ho1 ho2 hn'
  have r1 := Reference25Ideal.Adam.r44 hw hh0 hh1 hh2 ho0 ho1 ho2 hx hy hn'
  have r2 := Reference25Ideal.Adam.r25 hh0 hh1 hh2 ho0 ho1 ho2 hx hn'
  have r3 := Reference25Ideal.Adam.r31 hh0 hh1 hh2 ho0 ho1 ho2 hy hn'
  rw [e9'] at r0 r1 r2 r3
  refine ⟨h0.trans ?_, h1.trans ?_, h2.trans ?_, h3.trans ?_, hk⟩
  · rw [Reference25Ideal.Read.val_main_v20_eq, e1, e2, e3, e4, e5, e6]; exact ext3 r0 (fun q r k => (upper_apply _ q r k).trans (a q r k).1) fun _ _ _ _ _ _ => rfl
  · rw [Reference25Ideal.Read.val_main_v44_eq, e0, e1, e2, e3, e4, e5, e6, e7, e8]; exact ext3 r1 (fun q r k => (upper_apply _ q r k).trans (a q r k).2.1) fun _ _ _ _ _ _ => rfl
  · rw [Reference25Ideal.Read.val_main_v25_eq, e1, e2, e3, e4, e5, e6, e7]; exact ext3 r2 (fun q r k => (upper_apply _ q r k).trans (a q r k).2.2.1) fun _ _ _ _ _ _ => rfl
  · rw [Reference25Ideal.Read.val_main_v31_eq, e1, e2, e3, e4, e5, e6, e8]; exact ext3 r3 (fun q r k => (upper_apply _ q r k).trans (a q r k).2.2.2) fun _ _ _ _ _ _ => rfl

end Cert.Adam

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RefValue
public import proofs.«01_k».proof.Proof.MixEquation
public import proofs.«01_k».proof.Proof.MixDh
public import proofs.«01_k».proof.Proof.MixDn
public import proofs.«01_k».proof.Proof.MixGlu
public import proofs.«01_k».proof.Proof.MixNt
public import proofs.«01_k».proof.Proof.MixGate
public import proofs.«01_k».proof.Proof.MixAtt
public import proofs.«01_k».proof.Proof.MixQk
public import proofs.«01_k».proof.Proof.MixEnd
public import proofs.«01_k».proof.Proof.MixPool
public import proofs.«01_k».proof.Proof.AttFwd
public import proofs.«01_k».proof.Proof.SsmPrep
public import proofs.«01_k».proof.Proof.AdamQkv
public import proofs.«01_k».proof.Proof.AdamOut
public import proofs.«01_k».proof.Proof.AdamGlu
public import proofs.«01_k».proof.Proof.AdamPool
public import proofs.«01_k».proof.Proof.AdamDown
public import proofs.«01_k».proof.Proof.AdamUpper
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Read
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Reference2Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Read
public import Idealize.ShloMosaic.Lib.Quiescent

@[expose] public section

set_option maxRecDepth 16384

noncomputable section

namespace Cert.Proof

open Idealize.ShloMosaic Idealize.ShloMosaic.TcCoe Idealize.SL.Sem
open Cert.KernelIdeal.Att

/-! ## The frames -/

attribute [local instance] Cert.Kernel.Gen.facts Cert.KernelIdeal.Gen.facts

/-- The two printed programs have one kernel body. -/
theorem defs₀_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l a
  match l, a with
  | 0, (t, s) => exact rfl
  | ⟨_ + 1, h⟩, _ => exact absurd h (Nat.not_lt.2 (Nat.le_add_left _ _))

/-- The two printed programs have one body table. -/
theorem defs_eq : Cert.Kernel.defs (F := Bits) = Cert.KernelIdeal.defs (F := Bits) :=
  congrArg (Pipeline.defs Cert.Kernel.pcfgs) defs₀_eq

/-- The kernel at words: the two printed programs are one text, so the run over any float values is its run too. -/
theorem frame_kernel : Cert.quiescent_Kernel (hKernel := Cert.Kernel.Gen.facts) := fun m g _ => by
  rw [defs_eq]
  exact (θ_run Cert.KernelIdeal.defs _ _).mono (fun _ h => h) (Cert.KernelIdeal.Att.frame (F := Bits) m g)

/-- The reference's frame: a line of host operations, and no semaphore in its signature. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2, sem_eq_zero_of_no_sems (by decide) r.2⟩) (Cert.ReferenceIdeal.Value.run m g)

/-! ## What the precondition says -/

theorem facts_pre : Cert.Pre_finite_inputs.Facts := ⟨by decide, by decide⟩

/-- An element whose absolute value is below the word of infinity is a real number. -/
theorem real_of_below (x : EReal) (h : Ideal.cmp .olt (max x (-x)) (Ideal.ofBits .bf16 0x7F80#16) = 1#1) : x = ((x.toReal : ℝ) : EReal) := by
  have ht : (Ideal.ofBits .bf16 0x7F80#16 : EReal) = ⊤ := by simp [Ideal.ofBits, Ideal.ieee]
  rw [ht, Ideal.cmp] at h
  have hlt : max x (-x) < ⊤ := by
    by_contra hc
    simp only [hc, decide_false] at h
    exact absurd h (by decide)
  refine (EReal.coe_toReal ?_ ?_).symm
  · rintro rfl; simp at hlt
  · rintro rfl; simp at hlt

theorem reals_of_pre (m : (ℓ : Loc Cert.KernelIdeal.nD Cert.KernelIdeal.τ Cert.KernelIdeal.sig) → Buf (Elt Ideal) ℓ)
    (h : Cert.Pre_KernelIdeal_finite_inputs (hPre_finite_inputs := facts_pre) m) (c : Dev Cert.KernelIdeal.nD) :
    Real4 (X m c) ∧ Real2 (Y m c) ∧ Real2 (Z m c) := by
  obtain ⟨h0, h1, h2⟩ := h c
  refine ⟨fun t d => ?_, fun t d => ?_, fun t d => ?_⟩
  · rw [reals4, dif_pos ⟨t.isLt, d.isLt⟩]; exact real_of_below _ (congrFun h0 (ix2 t d))
  · rw [reals2, dif_pos ⟨t.isLt, d.isLt⟩]; exact real_of_below _ (congrFun h1 (ix2 t d))
  · rw [reals2, dif_pos ⟨t.isLt, d.isLt⟩]; exact real_of_below _ (congrFun h2 (ix2 t d))

/-! ## The equation -/

theorem equation : Cert.algebraic_KernelIdeal_ReferenceIdeal_pre_finite_inputs (hKernelIdeal := Cert.KernelIdeal.Gen.facts)
    (hReferenceIdeal := Cert.ReferenceIdeal.Gen.facts) (hPre_finite_inputs := facts_pre) := by
  intro m g m' g' hp he
  have hr := reals_of_pre m hp
  refine ⟨fun c => gQ (X m c) (Y m c) (Z m c), fun c => gK (X m c) (Y m c) (Z m c), fun c => gV (X m c) (Z m c), ?_, ?_⟩
  · refine (θ_run _ _ _).mono (fun r h c => ?_) (θ_run_and (run_values m g hr) (Cert.KernelIdeal.Att.frame m g))
    exact ⟨(h.1 c).1, (h.1 c).2.1, (h.1 c).2.2, h.2.1 c⟩
  · refine (θ_run _ _ _).mono (fun r h c => ?_) (Cert.ReferenceIdeal.Value.run m' g')
    obtain ⟨e0, e1, e2⟩ := he c
    obtain ⟨hx, hy, hz⟩ := hr c
    obtain ⟨h0, h1, h2, h3⟩ := h c
    refine ⟨h0.trans ?_, h1.trans ?_, h2.trans ?_, h3⟩
    · rw [Cert.ReferenceIdeal.Read.val_main_v57_eq, e0, e1, e2]; exact Cert.ReferenceIdeal.Att.ref_q hx hy hz
    · rw [Cert.ReferenceIdeal.Read.val_main_v55_eq, e0, e1, e2]; exact Cert.ReferenceIdeal.Att.ref_k hx hy hz
    · rw [Cert.ReferenceIdeal.Read.val_main_v53_eq, e0, e2]; exact Cert.ReferenceIdeal.Att.ref_v hx hz

theorem frame_reference2 : Cert.quiescent_Reference2Ideal (hReference2Ideal := Cert.Reference2Ideal.Gen.facts) := fun m g _ =>
  (θ_run _ _ _).mono (fun r h => ⟨fun c => (h c).2.2.2.2.2, sem_eq_zero_of_no_sems (by decide) r.2⟩) (Cert.Reference2Ideal.Value.run m g)

theorem frame_reference3 : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

theorem frame_reference4 : Cert.quiescent_Reference4Ideal (hReference4Ideal := Cert.Reference4Ideal.Gen.facts) := fun m g _ =>
  (θ_run _ _ _).mono (fun r h => ⟨fun c => (h c).2.2, sem_eq_zero_of_no_sems (by decide) r.2⟩) (Cert.Reference4Ideal.Value.run m g)

theorem frame_reference5 : Cert.quiescent_Reference5Ideal (hReference5Ideal := Cert.Reference5Ideal.Gen.facts) := fun m g _ =>
  (θ_run _ _ _).mono (fun r h => ⟨fun c => (h c).2.2, sem_eq_zero_of_no_sems (by decide) r.2⟩) (Cert.Reference5Ideal.Value.run m g)

theorem frame_reference6 : Cert.quiescent_Reference6Ideal (hReference6Ideal := Cert.Reference6Ideal.Gen.facts) := fun m g _ =>
  (θ_run _ _ _).mono (fun r h => ⟨fun c => (h c).2.2.2.2, sem_eq_zero_of_no_sems (by decide) r.2⟩) (Cert.Reference6Ideal.Value.run m g)

theorem frame_reference7 : Cert.quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Value.run m g)

theorem frame_reference8 : Cert.quiescent_Reference8Ideal (hReference8Ideal := Cert.Reference8Ideal.Gen.facts) := fun m g _ =>
  (θ_run _ _ _).mono (fun r h => ⟨fun c => (h c).2.2.2.2.2.2, sem_eq_zero_of_no_sems (by decide) r.2⟩) (Cert.Reference8Ideal.Value.run m g)

theorem frame_reference9 : Cert.quiescent_Reference9Ideal (hReference9Ideal := Cert.Reference9Ideal.Gen.facts) := fun m g _ =>
  (θ_run _ _ _).mono (fun r h => ⟨fun c => (h c).2, sem_eq_zero_of_no_sems (by decide) r.2⟩) (Cert.Reference9Ideal.Value.run m g)

theorem frame_reference10 : Cert.quiescent_Reference10Ideal (hReference10Ideal := Cert.Reference10Ideal.Gen.facts) := fun m g _ =>
  (θ_run _ _ _).mono (fun r h => ⟨fun c => (h c).2.2, sem_eq_zero_of_no_sems (by decide) r.2⟩) (Cert.Reference10Ideal.Value.run m g)

theorem frame_reference11 : Cert.quiescent_Reference11Ideal (hReference11Ideal := Cert.Reference11Ideal.Gen.facts) := fun m g _ =>
  (θ_run _ _ _).mono (fun r h => ⟨fun c => (h c).2.2, sem_eq_zero_of_no_sems (by decide) r.2⟩) (Cert.Reference11Ideal.Value.run m g)

theorem frame_reference12 : Cert.quiescent_Reference12Ideal (hReference12Ideal := Cert.Reference12Ideal.Gen.facts) := fun m g _ =>
  (θ_run _ _ _).mono (fun r h => ⟨fun c => (h c).2.2, sem_eq_zero_of_no_sems (by decide) r.2⟩) (Cert.Reference12Ideal.Value.run m g)

theorem frame_reference13 : Cert.quiescent_Reference13Ideal (hReference13Ideal := Cert.Reference13Ideal.Gen.facts) := fun m g _ =>
  (θ_run _ _ _).mono (fun r h => ⟨fun c => (h c).2.2.2, sem_eq_zero_of_no_sems (by decide) r.2⟩) (Cert.Reference13Ideal.Value.run m g)

theorem frame_reference14 : Cert.quiescent_Reference14Ideal (hReference14Ideal := Cert.Reference14Ideal.Gen.facts) := fun m g _ =>
  (θ_run _ _ _).mono (fun r h => ⟨fun c => (h c).2, sem_eq_zero_of_no_sems (by decide) r.2⟩) (Cert.Reference14Ideal.Value.run m g)

theorem frame_reference15 : Cert.quiescent_Reference15Ideal (hReference15Ideal := Cert.Reference15Ideal.Gen.facts) := fun m g _ =>
  (θ_run _ _ _).mono (fun r h => ⟨fun c => (h c).2, sem_eq_zero_of_no_sems (by decide) r.2⟩) (Cert.Reference15Ideal.Value.run m g)

theorem frame_reference16 : Cert.quiescent_Reference16Ideal (hReference16Ideal := Cert.Reference16Ideal.Gen.facts) := fun m g _ =>
  (θ_run _ _ _).mono (fun r h => ⟨fun c => (h c).2.2.2.2, sem_eq_zero_of_no_sems (by decide) r.2⟩) (Cert.Reference16Ideal.Value.run m g)

theorem frame_reference17 : Cert.quiescent_Reference17Ideal (hReference17Ideal := Cert.Reference17Ideal.Gen.facts) := fun m g _ =>
  (θ_run _ _ _).mono (fun r h => ⟨fun c => (h c).2, sem_eq_zero_of_no_sems (by decide) r.2⟩) (Cert.Reference17Ideal.Value.run m g)

theorem frame_reference18 : Cert.quiescent_Reference18Ideal (hReference18Ideal := Cert.Reference18Ideal.Gen.facts) := fun m g _ =>
  (θ_run _ _ _).mono (fun r h => ⟨fun c => (h c).2.2.2.2, sem_eq_zero_of_no_sems (by decide) r.2⟩) (Cert.Reference18Ideal.Value.run m g)

theorem frame_reference19 : Cert.quiescent_Reference19Ideal (hReference19Ideal := Cert.Reference19Ideal.Gen.facts) := fun m g _ =>
  (θ_run _ _ _).mono (fun r h => ⟨fun c => (h c).2.2.2.2.2, sem_eq_zero_of_no_sems (by decide) r.2⟩) (Cert.Reference19Ideal.Value.run m g)

theorem frame_reference20 : Cert.quiescent_Reference20Ideal (hReference20Ideal := Cert.Reference20Ideal.Gen.facts) := fun m g _ =>
  (θ_run _ _ _).mono (fun r h => ⟨fun c => (h c).2.2.2.2, sem_eq_zero_of_no_sems (by decide) r.2⟩) (Cert.Reference20Ideal.Value.run m g)

theorem frame_reference21 : Cert.quiescent_Reference21Ideal (hReference21Ideal := Cert.Reference21Ideal.Gen.facts) := fun m g _ =>
  (θ_run _ _ _).mono (fun r h => ⟨fun c => (h c).2.2.2.2, sem_eq_zero_of_no_sems (by decide) r.2⟩) (Cert.Reference21Ideal.Value.run m g)

theorem frame_reference22 : Cert.quiescent_Reference22Ideal (hReference22Ideal := Cert.Reference22Ideal.Gen.facts) := fun m g _ =>
  (θ_run _ _ _).mono (fun r h => ⟨fun c => (h c).2.2.2.2, sem_eq_zero_of_no_sems (by decide) r.2⟩) (Cert.Reference22Ideal.Value.run m g)

theorem frame_reference23 : Cert.quiescent_Reference23Ideal (hReference23Ideal := Cert.Reference23Ideal.Gen.facts) := fun m g _ =>
  (θ_run _ _ _).mono (fun r h => ⟨fun c => (h c).2.2.2.2, sem_eq_zero_of_no_sems (by decide) r.2⟩) (Cert.Reference23Ideal.Value.run m g)

theorem frame_reference24 : Cert.quiescent_Reference24Ideal (hReference24Ideal := Cert.Reference24Ideal.Gen.facts) := fun m g _ =>
  (θ_run _ _ _).mono (fun r h => ⟨fun c => (h c).2.2.2.2, sem_eq_zero_of_no_sems (by decide) r.2⟩) (Cert.Reference24Ideal.Value.run m g)

theorem frame_reference25 : Cert.quiescent_Reference25Ideal (hReference25Ideal := Cert.Reference25Ideal.Gen.facts) := fun m g _ =>
  (θ_run _ _ _).mono (fun r h => ⟨fun c => (h c).2.2.2.2, sem_eq_zero_of_no_sems (by decide) r.2⟩) (Cert.Reference25Ideal.Value.run m g)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    facts_pre, Cert.Mix.facts2, Cert.Mix.facts15, Cert.Mix.facts16, Cert.Mix.facts17,
    Cert.Pre_one_of_four20.Gen.facts, Cert.Pre_one_of_four21.Gen.facts, Cert.Pre_one_of_four22.Gen.facts, Cert.Pre_one_of_four23.Gen.facts,
    Cert.Pre_one_of_four24.Gen.facts, Cert.Pre_one_of_four25.Gen.facts,
    frame_kernel, fun m g _ => Cert.KernelIdeal.Att.frame m g, fun m g _ => Cert.KernelIdeal.Att.frame m g,
    fun m g _ => frame_reference m g, fun m g _ => frame_reference m g,
    fun m g _ => Cert.Kernel2.Gen.frame m g, fun m g _ => Cert.Kernel2Ideal.Gen.frame m g, fun m g _ => Cert.Kernel2Ideal.Gen.frame m g,
    frame_reference2, fun m g _ => frame_reference2 m g trivial,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    fun m g _ => Cert.Kernel9.Gen.frame m g, fun m g _ => Cert.Kernel9Ideal.Gen.frame m g, frame_reference9,
    fun m g _ => Cert.Kernel10.Gen.frame m g, fun m g _ => Cert.Kernel10Ideal.Gen.frame m g, frame_reference10,
    fun m g _ => Cert.Kernel11.Gen.frame m g, fun m g _ => Cert.Kernel11Ideal.Gen.frame m g, frame_reference11,
    fun m g _ => Cert.Kernel12.Gen.frame m g, fun m g _ => Cert.Kernel12Ideal.Gen.frame m g, frame_reference12,
    fun m g _ => Cert.Kernel13.Gen.frame m g, fun m g _ => Cert.Kernel13Ideal.Gen.frame m g, frame_reference13,
    fun m g _ => Cert.Kernel14.Gen.frame m g, fun m g _ => Cert.Kernel14Ideal.Gen.frame m g, frame_reference14,
    fun m g _ => Cert.Kernel15.Gen.frame m g, fun m g _ => Cert.Kernel15Ideal.Gen.frame m g, fun m g _ => Cert.Kernel15Ideal.Gen.frame m g,
    frame_reference15, fun m g _ => frame_reference15 m g trivial,
    fun m g _ => Cert.Kernel16.Gen.frame m g, fun m g _ => Cert.Kernel16Ideal.Gen.frame m g, fun m g _ => Cert.Kernel16Ideal.Gen.frame m g,
    frame_reference16, fun m g _ => frame_reference16 m g trivial,
    fun m g _ => Cert.Kernel17.Gen.frame m g, fun m g _ => Cert.Kernel17Ideal.Gen.frame m g, fun m g _ => Cert.Kernel17Ideal.Gen.frame m g,
    frame_reference17, fun m g _ => frame_reference17 m g trivial,
    fun m g _ => Cert.Kernel18.Gen.frame m g, fun m g _ => Cert.Kernel18Ideal.Gen.frame m g, frame_reference18,
    fun m g _ => Cert.Kernel19.Gen.frame m g, fun m g _ => Cert.Kernel19Ideal.Gen.frame m g, frame_reference19,
    fun m g h => Cert.Kernel20.Gen.frame m g (Cert.Kernel20.Adam.ok_of_pre m h),
    fun m g h => Cert.Kernel20Ideal.Gen.frame m g (Cert.Kernel20Ideal.Adam.ok_of_pre m h),
    frame_reference20, fun m g _ => frame_reference20 m g trivial,
    fun m g h => Cert.Kernel21.Gen.frame m g (Cert.Kernel21.Adam.ok_of_pre m h),
    fun m g h => Cert.Kernel21Ideal.Gen.frame m g (Cert.Kernel21Ideal.Adam.ok_of_pre m h),
    frame_reference21, fun m g _ => frame_reference21 m g trivial,
    fun m g h => Cert.Kernel22.Gen.frame m g (Cert.Kernel22.Adam.ok_of_pre m h),
    fun m g h => Cert.Kernel22Ideal.Gen.frame m g (Cert.Kernel22Ideal.Adam.ok_of_pre m h),
    frame_reference22, fun m g _ => frame_reference22 m g trivial,
    fun m g h => Cert.Kernel23.Gen.frame m g (Cert.Kernel23.Adam.ok_of_pre m h),
    fun m g h => Cert.Kernel23Ideal.Gen.frame m g (Cert.Kernel23Ideal.Adam.ok_of_pre m h),
    frame_reference23, fun m g _ => frame_reference23 m g trivial,
    fun m g h => Cert.Kernel24.Gen.frame m g (Cert.Kernel24.Adam.ok_of_pre m h),
    fun m g h => Cert.Kernel24Ideal.Gen.frame m g (Cert.Kernel24Ideal.Adam.ok_of_pre m h),
    frame_reference24, fun m g _ => frame_reference24 m g trivial,
    fun m g h => Cert.Kernel25.Gen.frame m g (Cert.Kernel25.Adam.ok_of_pre m h),
    fun m g h => Cert.Kernel25Ideal.Gen.frame m g (Cert.Kernel25Ideal.Adam.ok_of_pre m h),
    frame_reference25, fun m g _ => frame_reference25 m g trivial,
    trivial, equation, trivial, Cert.Mix.equation2, trivial, Cert.Mix.equation3, trivial, Cert.Mix.equation4,
    trivial, Cert.Mix.equation5, trivial, Cert.Mix.equation6, trivial, Cert.Mix.equation7, trivial, Cert.Mix.equation8, trivial, Cert.Mix.equation9, trivial, Cert.Mix.equation10, trivial, Cert.Mix.equation11,
    trivial, Cert.Mix.equation12, trivial, Cert.Mix.equation13, trivial, Cert.Mix.equation14, trivial, Cert.Mix.equation15, trivial, Cert.Mix.equation16,
    trivial, Cert.Mix.equation17, trivial, Cert.Mix.equation18, trivial, Cert.Mix.equation19,
    trivial, Cert.Adam.equation20, trivial, Cert.Adam.equation21, trivial, Cert.Adam.equation22, trivial, Cert.Adam.equation23,
    trivial, Cert.Adam.equation24, trivial, Cert.Adam.equation25⟩

end Cert.Proof

end
